-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_Gm (m : (ℓ : Loc Cert.Gm.nD Cert.Gm.τ Cert.Gm.sig) → Buf (Elt Bits) ℓ) : Prop :=
  True

def Pre_GmIdeal (m : (ℓ : Loc Cert.GmIdeal.nD Cert.GmIdeal.τ Cert.GmIdeal.sig) → Buf (Elt Ideal) ℓ) : Prop :=
  True

def Pre_GmIdeal_finite_gm [hPre_finite_gm : Cert.Pre_finite_gm.Facts] (m : (ℓ : Loc Cert.GmIdeal.nD Cert.GmIdeal.τ Cert.GmIdeal.sig) → Buf (Elt Ideal) ℓ) : Prop :=
  ∀ c : Dev Cert.GmIdeal.nD,
    (Cert.Pre_finite_gm.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5))).1 = (fun _ => 1#1)
    ∧ (Cert.Pre_finite_gm.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5))).2.1 = (fun _ => 1#1)
    ∧ (Cert.Pre_finite_gm.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5))).2.2.1 = (fun _ => 1#1)
    ∧ (Cert.Pre_finite_gm.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5))).2.2.2.1 = (fun _ => 1#1)
    ∧ (Cert.Pre_finite_gm.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5))).2.2.2.2.1 = (fun _ => 1#1)
    ∧ (Cert.Pre_finite_gm.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5))).2.2.2.2.2 = (fun _ => 1#1)

def Pre_GmRefIdeal (m : (ℓ : Loc Cert.GmRefIdeal.nD Cert.GmRefIdeal.τ Cert.GmRefIdeal.sig) → Buf (Elt Ideal) ℓ) : Prop :=
  True

def Pre_GmRefIdeal_finite_gm [hPre_finite_gm : Cert.Pre_finite_gm.Facts] (m : (ℓ : Loc Cert.GmRefIdeal.nD Cert.GmRefIdeal.τ Cert.GmRefIdeal.sig) → Buf (Elt Ideal) ℓ) : Prop :=
  ∀ c : Dev Cert.GmRefIdeal.nD,
    (Cert.Pre_finite_gm.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5))).1 = (fun _ => 1#1)
    ∧ (Cert.Pre_finite_gm.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5))).2.1 = (fun _ => 1#1)
    ∧ (Cert.Pre_finite_gm.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5))).2.2.1 = (fun _ => 1#1)
    ∧ (Cert.Pre_finite_gm.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5))).2.2.2.1 = (fun _ => 1#1)
    ∧ (Cert.Pre_finite_gm.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5))).2.2.2.2.1 = (fun _ => 1#1)
    ∧ (Cert.Pre_finite_gm.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5))).2.2.2.2.2 = (fun _ => 1#1)

def Pre_RetMain (m : (ℓ : Loc Cert.RetMain.nD Cert.RetMain.τ Cert.RetMain.sig) → Buf (Elt Bits) ℓ) : Prop :=
  True

def Pre_RetMainIdeal (m : (ℓ : Loc Cert.RetMainIdeal.nD Cert.RetMainIdeal.τ Cert.RetMainIdeal.sig) → Buf (Elt Ideal) ℓ) : Prop :=
  True

def Pre_RetMainIdeal_finite_retmain [hPre_finite_retmain : Cert.Pre_finite_retmain.Facts] (m : (ℓ : Loc Cert.RetMainIdeal.nD Cert.RetMainIdeal.τ Cert.RetMainIdeal.sig) → Buf (Elt Ideal) ℓ) : Prop :=
  ∀ c : Dev Cert.RetMainIdeal.nD,
    (Cert.Pre_finite_retmain.fn (F := Ideal) (m ((c.tc : Thread Cert.RetMainIdeal.nD Cert.RetMainIdeal.τ).loc Cert.RetMainIdeal.main_arg0)) (m ((c.tc : Thread Cert.RetMainIdeal.nD Cert.RetMainIdeal.τ).loc Cert.RetMainIdeal.main_arg1)) (m ((c.tc : Thread Cert.RetMainIdeal.nD Cert.RetMainIdeal.τ).loc Cert.RetMainIdeal.main_arg2)) (m ((c.tc : Thread Cert.RetMainIdeal.nD Cert.RetMainIdeal.τ).loc Cert.RetMainIdeal.main_arg3)) (m ((c.tc : Thread Cert.RetMainIdeal.nD Cert.RetMainIdeal.τ).loc Cert.RetMainIdeal.main_arg4)) (m ((c.tc : Thread Cert.RetMainIdeal.nD Cert.RetMainIdeal.τ).loc Cert.RetMainIdeal.main_arg5))).1 = (fun _ => 1#1)
    ∧ (Cert.Pre_finite_retmain.fn (F := Ideal) (m ((c.tc : Thread Cert.RetMainIdeal.nD Cert.RetMainIdeal.τ).loc Cert.RetMainIdeal.main_arg0)) (m ((c.tc : Thread Cert.RetMainIdeal.nD Cert.RetMainIdeal.τ).loc Cert.RetMainIdeal.main_arg1)) (m ((c.tc : Thread Cert.RetMainIdeal.nD Cert.RetMainIdeal.τ).loc Cert.RetMainIdeal.main_arg2)) (m ((c.tc : Thread Cert.RetMainIdeal.nD Cert.RetMainIdeal.τ).loc Cert.RetMainIdeal.main_arg3)) (m ((c.tc : Thread Cert.RetMainIdeal.nD Cert.RetMainIdeal.τ).loc Cert.RetMainIdeal.main_arg4)) (m ((c.tc : Thread Cert.RetMainIdeal.nD Cert.RetMainIdeal.τ).loc Cert.RetMainIdeal.main_arg5))).2.1 = (fun _ => 1#1)
    ∧ (Cert.Pre_finite_retmain.fn (F := Ideal) (m ((c.tc : Thread Cert.RetMainIdeal.nD Cert.RetMainIdeal.τ).loc Cert.RetMainIdeal.main_arg0)) (m ((c.tc : Thread Cert.RetMainIdeal.nD Cert.RetMainIdeal.τ).loc Cert.RetMainIdeal.main_arg1)) (m ((c.tc : Thread Cert.RetMainIdeal.nD Cert.RetMainIdeal.τ).loc Cert.RetMainIdeal.main_arg2)) (m ((c.tc : Thread Cert.RetMainIdeal.nD Cert.RetMainIdeal.τ).loc Cert.RetMainIdeal.main_arg3)) (m ((c.tc : Thread Cert.RetMainIdeal.nD Cert.RetMainIdeal.τ).loc Cert.RetMainIdeal.main_arg4)) (m ((c.tc : Thread Cert.RetMainIdeal.nD Cert.RetMainIdeal.τ).loc Cert.RetMainIdeal.main_arg5))).2.2.1 = (fun _ => 1#1)
    ∧ (Cert.Pre_finite_retmain.fn (F := Ideal) (m ((c.tc : Thread Cert.RetMainIdeal.nD Cert.RetMainIdeal.τ).loc Cert.RetMainIdeal.main_arg0)) (m ((c.tc : Thread Cert.RetMainIdeal.nD Cert.RetMainIdeal.τ).loc Cert.RetMainIdeal.main_arg1)) (m ((c.tc : Thread Cert.RetMainIdeal.nD Cert.RetMainIdeal.τ).loc Cert.RetMainIdeal.main_arg2)) (m ((c.tc : Thread Cert.RetMainIdeal.nD Cert.RetMainIdeal.τ).loc Cert.RetMainIdeal.main_arg3)) (m ((c.tc : Thread Cert.RetMainIdeal.nD Cert.RetMainIdeal.τ).loc Cert.RetMainIdeal.main_arg4)) (m ((c.tc : Thread Cert.RetMainIdeal.nD Cert.RetMainIdeal.τ).loc Cert.RetMainIdeal.main_arg5))).2.2.2.1 = (fun _ => 1#1)
    ∧ (Cert.Pre_finite_retmain.fn (F := Ideal) (m ((c.tc : Thread Cert.RetMainIdeal.nD Cert.RetMainIdeal.τ).loc Cert.RetMainIdeal.main_arg0)) (m ((c.tc : Thread Cert.RetMainIdeal.nD Cert.RetMainIdeal.τ).loc Cert.RetMainIdeal.main_arg1)) (m ((c.tc : Thread Cert.RetMainIdeal.nD Cert.RetMainIdeal.τ).loc Cert.RetMainIdeal.main_arg2)) (m ((c.tc : Thread Cert.RetMainIdeal.nD Cert.RetMainIdeal.τ).loc Cert.RetMainIdeal.main_arg3)) (m ((c.tc : Thread Cert.RetMainIdeal.nD Cert.RetMainIdeal.τ).loc Cert.RetMainIdeal.main_arg4)) (m ((c.tc : Thread Cert.RetMainIdeal.nD Cert.RetMainIdeal.τ).loc Cert.RetMainIdeal.main_arg5))).2.2.2.2.1 = (fun _ => 1#1)
    ∧ (Cert.Pre_finite_retmain.fn (F := Ideal) (m ((c.tc : Thread Cert.RetMainIdeal.nD Cert.RetMainIdeal.τ).loc Cert.RetMainIdeal.main_arg0)) (m ((c.tc : Thread Cert.RetMainIdeal.nD Cert.RetMainIdeal.τ).loc Cert.RetMainIdeal.main_arg1)) (m ((c.tc : Thread Cert.RetMainIdeal.nD Cert.RetMainIdeal.τ).loc Cert.RetMainIdeal.main_arg2)) (m ((c.tc : Thread Cert.RetMainIdeal.nD Cert.RetMainIdeal.τ).loc Cert.RetMainIdeal.main_arg3)) (m ((c.tc : Thread Cert.RetMainIdeal.nD Cert.RetMainIdeal.τ).loc Cert.RetMainIdeal.main_arg4)) (m ((c.tc : Thread Cert.RetMainIdeal.nD Cert.RetMainIdeal.τ).loc Cert.RetMainIdeal.main_arg5))).2.2.2.2.2 = (fun _ => 1#1)

def Pre_RetMainRefIdeal (m : (ℓ : Loc Cert.RetMainRefIdeal.nD Cert.RetMainRefIdeal.τ Cert.RetMainRefIdeal.sig) → Buf (Elt Ideal) ℓ) : Prop :=
  True

def Pre_RetMainRefIdeal_finite_retmain [hPre_finite_retmain : Cert.Pre_finite_retmain.Facts] (m : (ℓ : Loc Cert.RetMainRefIdeal.nD Cert.RetMainRefIdeal.τ Cert.RetMainRefIdeal.sig) → Buf (Elt Ideal) ℓ) : Prop :=
  ∀ c : Dev Cert.RetMainRefIdeal.nD,
    (Cert.Pre_finite_retmain.fn (F := Ideal) (m ((c.tc : Thread Cert.RetMainRefIdeal.nD Cert.RetMainRefIdeal.τ).loc Cert.RetMainRefIdeal.main_arg0)) (m ((c.tc : Thread Cert.RetMainRefIdeal.nD Cert.RetMainRefIdeal.τ).loc Cert.RetMainRefIdeal.main_arg1)) (m ((c.tc : Thread Cert.RetMainRefIdeal.nD Cert.RetMainRefIdeal.τ).loc Cert.RetMainRefIdeal.main_arg2)) (m ((c.tc : Thread Cert.RetMainRefIdeal.nD Cert.RetMainRefIdeal.τ).loc Cert.RetMainRefIdeal.main_arg3)) (m ((c.tc : Thread Cert.RetMainRefIdeal.nD Cert.RetMainRefIdeal.τ).loc Cert.RetMainRefIdeal.main_arg4)) (m ((c.tc : Thread Cert.RetMainRefIdeal.nD Cert.RetMainRefIdeal.τ).loc Cert.RetMainRefIdeal.main_arg5))).1 = (fun _ => 1#1)
    ∧ (Cert.Pre_finite_retmain.fn (F := Ideal) (m ((c.tc : Thread Cert.RetMainRefIdeal.nD Cert.RetMainRefIdeal.τ).loc Cert.RetMainRefIdeal.main_arg0)) (m ((c.tc : Thread Cert.RetMainRefIdeal.nD Cert.RetMainRefIdeal.τ).loc Cert.RetMainRefIdeal.main_arg1)) (m ((c.tc : Thread Cert.RetMainRefIdeal.nD Cert.RetMainRefIdeal.τ).loc Cert.RetMainRefIdeal.main_arg2)) (m ((c.tc : Thread Cert.RetMainRefIdeal.nD Cert.RetMainRefIdeal.τ).loc Cert.RetMainRefIdeal.main_arg3)) (m ((c.tc : Thread Cert.RetMainRefIdeal.nD Cert.RetMainRefIdeal.τ).loc Cert.RetMainRefIdeal.main_arg4)) (m ((c.tc : Thread Cert.RetMainRefIdeal.nD Cert.RetMainRefIdeal.τ).loc Cert.RetMainRefIdeal.main_arg5))).2.1 = (fun _ => 1#1)
    ∧ (Cert.Pre_finite_retmain.fn (F := Ideal) (m ((c.tc : Thread Cert.RetMainRefIdeal.nD Cert.RetMainRefIdeal.τ).loc Cert.RetMainRefIdeal.main_arg0)) (m ((c.tc : Thread Cert.RetMainRefIdeal.nD Cert.RetMainRefIdeal.τ).loc Cert.RetMainRefIdeal.main_arg1)) (m ((c.tc : Thread Cert.RetMainRefIdeal.nD Cert.RetMainRefIdeal.τ).loc Cert.RetMainRefIdeal.main_arg2)) (m ((c.tc : Thread Cert.RetMainRefIdeal.nD Cert.RetMainRefIdeal.τ).loc Cert.RetMainRefIdeal.main_arg3)) (m ((c.tc : Thread Cert.RetMainRefIdeal.nD Cert.RetMainRefIdeal.τ).loc Cert.RetMainRefIdeal.main_arg4)) (m ((c.tc : Thread Cert.RetMainRefIdeal.nD Cert.RetMainRefIdeal.τ).loc Cert.RetMainRefIdeal.main_arg5))).2.2.1 = (fun _ => 1#1)
    ∧ (Cert.Pre_finite_retmain.fn (F := Ideal) (m ((c.tc : Thread Cert.RetMainRefIdeal.nD Cert.RetMainRefIdeal.τ).loc Cert.RetMainRefIdeal.main_arg0)) (m ((c.tc : Thread Cert.RetMainRefIdeal.nD Cert.RetMainRefIdeal.τ).loc Cert.RetMainRefIdeal.main_arg1)) (m ((c.tc : Thread Cert.RetMainRefIdeal.nD Cert.RetMainRefIdeal.τ).loc Cert.RetMainRefIdeal.main_arg2)) (m ((c.tc : Thread Cert.RetMainRefIdeal.nD Cert.RetMainRefIdeal.τ).loc Cert.RetMainRefIdeal.main_arg3)) (m ((c.tc : Thread Cert.RetMainRefIdeal.nD Cert.RetMainRefIdeal.τ).loc Cert.RetMainRefIdeal.main_arg4)) (m ((c.tc : Thread Cert.RetMainRefIdeal.nD Cert.RetMainRefIdeal.τ).loc Cert.RetMainRefIdeal.main_arg5))).2.2.2.1 = (fun _ => 1#1)
    ∧ (Cert.Pre_finite_retmain.fn (F := Ideal) (m ((c.tc : Thread Cert.RetMainRefIdeal.nD Cert.RetMainRefIdeal.τ).loc Cert.RetMainRefIdeal.main_arg0)) (m ((c.tc : Thread Cert.RetMainRefIdeal.nD Cert.RetMainRefIdeal.τ).loc Cert.RetMainRefIdeal.main_arg1)) (m ((c.tc : Thread Cert.RetMainRefIdeal.nD Cert.RetMainRefIdeal.τ).loc Cert.RetMainRefIdeal.main_arg2)) (m ((c.tc : Thread Cert.RetMainRefIdeal.nD Cert.RetMainRefIdeal.τ).loc Cert.RetMainRefIdeal.main_arg3)) (m ((c.tc : Thread Cert.RetMainRefIdeal.nD Cert.RetMainRefIdeal.τ).loc Cert.RetMainRefIdeal.main_arg4)) (m ((c.tc : Thread Cert.RetMainRefIdeal.nD Cert.RetMainRefIdeal.τ).loc Cert.RetMainRefIdeal.main_arg5))).2.2.2.2.1 = (fun _ => 1#1)
    ∧ (Cert.Pre_finite_retmain.fn (F := Ideal) (m ((c.tc : Thread Cert.RetMainRefIdeal.nD Cert.RetMainRefIdeal.τ).loc Cert.RetMainRefIdeal.main_arg0)) (m ((c.tc : Thread Cert.RetMainRefIdeal.nD Cert.RetMainRefIdeal.τ).loc Cert.RetMainRefIdeal.main_arg1)) (m ((c.tc : Thread Cert.RetMainRefIdeal.nD Cert.RetMainRefIdeal.τ).loc Cert.RetMainRefIdeal.main_arg2)) (m ((c.tc : Thread Cert.RetMainRefIdeal.nD Cert.RetMainRefIdeal.τ).loc Cert.RetMainRefIdeal.main_arg3)) (m ((c.tc : Thread Cert.RetMainRefIdeal.nD Cert.RetMainRefIdeal.τ).loc Cert.RetMainRefIdeal.main_arg4)) (m ((c.tc : Thread Cert.RetMainRefIdeal.nD Cert.RetMainRefIdeal.τ).loc Cert.RetMainRefIdeal.main_arg5))).2.2.2.2.2 = (fun _ => 1#1)

def Pre_RetCarry (m : (ℓ : Loc Cert.RetCarry.nD Cert.RetCarry.τ Cert.RetCarry.sig) → Buf (Elt Bits) ℓ) : Prop :=
  True

def Pre_RetCarryIdeal (m : (ℓ : Loc Cert.RetCarryIdeal.nD Cert.RetCarryIdeal.τ Cert.RetCarryIdeal.sig) → Buf (Elt Ideal) ℓ) : Prop :=
  True

def Pre_RetCarryIdeal_finite_retcarry [hPre_finite_retcarry : Cert.Pre_finite_retcarry.Facts] (m : (ℓ : Loc Cert.RetCarryIdeal.nD Cert.RetCarryIdeal.τ Cert.RetCarryIdeal.sig) → Buf (Elt Ideal) ℓ) : Prop :=
  ∀ c : Dev Cert.RetCarryIdeal.nD,
    (Cert.Pre_finite_retcarry.fn (F := Ideal) (m ((c.tc : Thread Cert.RetCarryIdeal.nD Cert.RetCarryIdeal.τ).loc Cert.RetCarryIdeal.main_arg0)) (m ((c.tc : Thread Cert.RetCarryIdeal.nD Cert.RetCarryIdeal.τ).loc Cert.RetCarryIdeal.main_arg1))).1 = (fun _ => 1#1)
    ∧ (Cert.Pre_finite_retcarry.fn (F := Ideal) (m ((c.tc : Thread Cert.RetCarryIdeal.nD Cert.RetCarryIdeal.τ).loc Cert.RetCarryIdeal.main_arg0)) (m ((c.tc : Thread Cert.RetCarryIdeal.nD Cert.RetCarryIdeal.τ).loc Cert.RetCarryIdeal.main_arg1))).2 = (fun _ => 1#1)

def Pre_RetCarryRefIdeal (m : (ℓ : Loc Cert.RetCarryRefIdeal.nD Cert.RetCarryRefIdeal.τ Cert.RetCarryRefIdeal.sig) → Buf (Elt Ideal) ℓ) : Prop :=
  True

def Pre_RetCarryRefIdeal_finite_retcarry [hPre_finite_retcarry : Cert.Pre_finite_retcarry.Facts] (m : (ℓ : Loc Cert.RetCarryRefIdeal.nD Cert.RetCarryRefIdeal.τ Cert.RetCarryRefIdeal.sig) → Buf (Elt Ideal) ℓ) : Prop :=
  ∀ c : Dev Cert.RetCarryRefIdeal.nD,
    (Cert.Pre_finite_retcarry.fn (F := Ideal) (m ((c.tc : Thread Cert.RetCarryRefIdeal.nD Cert.RetCarryRefIdeal.τ).loc Cert.RetCarryRefIdeal.main_arg0)) (m ((c.tc : Thread Cert.RetCarryRefIdeal.nD Cert.RetCarryRefIdeal.τ).loc Cert.RetCarryRefIdeal.main_arg1))).1 = (fun _ => 1#1)
    ∧ (Cert.Pre_finite_retcarry.fn (F := Ideal) (m ((c.tc : Thread Cert.RetCarryRefIdeal.nD Cert.RetCarryRefIdeal.τ).loc Cert.RetCarryRefIdeal.main_arg0)) (m ((c.tc : Thread Cert.RetCarryRefIdeal.nD Cert.RetCarryRefIdeal.τ).loc Cert.RetCarryRefIdeal.main_arg1))).2 = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite_swiglu [hPre_finite_swiglu : Cert.Pre_finite_swiglu.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2))).1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2))).2.1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2))).2.2 = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite_swiglu [hPre_finite_swiglu : Cert.Pre_finite_swiglu.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2))).1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2))).2.1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2))).2.2 = (fun _ => 1#1)

def Pre_SwigluW (m : (ℓ : Loc Cert.SwigluW.nD Cert.SwigluW.τ Cert.SwigluW.sig) → Buf (Elt Bits) ℓ) : Prop :=
  True

def Pre_SwigluWIdeal (m : (ℓ : Loc Cert.SwigluWIdeal.nD Cert.SwigluWIdeal.τ Cert.SwigluWIdeal.sig) → Buf (Elt Ideal) ℓ) : Prop :=
  True

def Pre_SwigluWIdeal_finite_swigluw [hPre_finite_swigluw : Cert.Pre_finite_swigluw.Facts] (m : (ℓ : Loc Cert.SwigluWIdeal.nD Cert.SwigluWIdeal.τ Cert.SwigluWIdeal.sig) → Buf (Elt Ideal) ℓ) : Prop :=
  ∀ c : Dev Cert.SwigluWIdeal.nD,
    (Cert.Pre_finite_swigluw.fn (F := Ideal) (m ((c.tc : Thread Cert.SwigluWIdeal.nD Cert.SwigluWIdeal.τ).loc Cert.SwigluWIdeal.main_arg0)) (m ((c.tc : Thread Cert.SwigluWIdeal.nD Cert.SwigluWIdeal.τ).loc Cert.SwigluWIdeal.main_arg1)) (m ((c.tc : Thread Cert.SwigluWIdeal.nD Cert.SwigluWIdeal.τ).loc Cert.SwigluWIdeal.main_arg2))).1 = (fun _ => 1#1)
    ∧ (Cert.Pre_finite_swigluw.fn (F := Ideal) (m ((c.tc : Thread Cert.SwigluWIdeal.nD Cert.SwigluWIdeal.τ).loc Cert.SwigluWIdeal.main_arg0)) (m ((c.tc : Thread Cert.SwigluWIdeal.nD Cert.SwigluWIdeal.τ).loc Cert.SwigluWIdeal.main_arg1)) (m ((c.tc : Thread Cert.SwigluWIdeal.nD Cert.SwigluWIdeal.τ).loc Cert.SwigluWIdeal.main_arg2))).2.1 = (fun _ => 1#1)
    ∧ (Cert.Pre_finite_swigluw.fn (F := Ideal) (m ((c.tc : Thread Cert.SwigluWIdeal.nD Cert.SwigluWIdeal.τ).loc Cert.SwigluWIdeal.main_arg0)) (m ((c.tc : Thread Cert.SwigluWIdeal.nD Cert.SwigluWIdeal.τ).loc Cert.SwigluWIdeal.main_arg1)) (m ((c.tc : Thread Cert.SwigluWIdeal.nD Cert.SwigluWIdeal.τ).loc Cert.SwigluWIdeal.main_arg2))).2.2 = (fun _ => 1#1)

def Pre_SwigluWRefIdeal (m : (ℓ : Loc Cert.SwigluWRefIdeal.nD Cert.SwigluWRefIdeal.τ Cert.SwigluWRefIdeal.sig) → Buf (Elt Ideal) ℓ) : Prop :=
  True

def Pre_SwigluWRefIdeal_finite_swigluw [hPre_finite_swigluw : Cert.Pre_finite_swigluw.Facts] (m : (ℓ : Loc Cert.SwigluWRefIdeal.nD Cert.SwigluWRefIdeal.τ Cert.SwigluWRefIdeal.sig) → Buf (Elt Ideal) ℓ) : Prop :=
  ∀ c : Dev Cert.SwigluWRefIdeal.nD,
    (Cert.Pre_finite_swigluw.fn (F := Ideal) (m ((c.tc : Thread Cert.SwigluWRefIdeal.nD Cert.SwigluWRefIdeal.τ).loc Cert.SwigluWRefIdeal.main_arg0)) (m ((c.tc : Thread Cert.SwigluWRefIdeal.nD Cert.SwigluWRefIdeal.τ).loc Cert.SwigluWRefIdeal.main_arg1)) (m ((c.tc : Thread Cert.SwigluWRefIdeal.nD Cert.SwigluWRefIdeal.τ).loc Cert.SwigluWRefIdeal.main_arg2))).1 = (fun _ => 1#1)
    ∧ (Cert.Pre_finite_swigluw.fn (F := Ideal) (m ((c.tc : Thread Cert.SwigluWRefIdeal.nD Cert.SwigluWRefIdeal.τ).loc Cert.SwigluWRefIdeal.main_arg0)) (m ((c.tc : Thread Cert.SwigluWRefIdeal.nD Cert.SwigluWRefIdeal.τ).loc Cert.SwigluWRefIdeal.main_arg1)) (m ((c.tc : Thread Cert.SwigluWRefIdeal.nD Cert.SwigluWRefIdeal.τ).loc Cert.SwigluWRefIdeal.main_arg2))).2.1 = (fun _ => 1#1)
    ∧ (Cert.Pre_finite_swigluw.fn (F := Ideal) (m ((c.tc : Thread Cert.SwigluWRefIdeal.nD Cert.SwigluWRefIdeal.τ).loc Cert.SwigluWRefIdeal.main_arg0)) (m ((c.tc : Thread Cert.SwigluWRefIdeal.nD Cert.SwigluWRefIdeal.τ).loc Cert.SwigluWRefIdeal.main_arg1)) (m ((c.tc : Thread Cert.SwigluWRefIdeal.nD Cert.SwigluWRefIdeal.τ).loc Cert.SwigluWRefIdeal.main_arg2))).2.2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_finite_ffnin [hPre_finite_ffnin : Cert.Pre_finite_ffnin.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).1 = (fun _ => 1#1)
    ∧ (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.1 = (fun _ => 1#1)
    ∧ (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.2.1 = (fun _ => 1#1)
    ∧ (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.2.2.1 = (fun _ => 1#1)
    ∧ (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.2.2.2 = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_finite_ffnin [hPre_finite_ffnin : Cert.Pre_finite_ffnin.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4))).1 = (fun _ => 1#1)
    ∧ (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4))).2.1 = (fun _ => 1#1)
    ∧ (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4))).2.2.1 = (fun _ => 1#1)
    ∧ (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4))).2.2.2.1 = (fun _ => 1#1)
    ∧ (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4))).2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_inproj [hPre_finite_inproj : Cert.Pre_finite_inproj.Facts] (m : (ℓ : Loc Cert.InProjIdeal.nD Cert.InProjIdeal.τ Cert.InProjIdeal.sig) → Buf (Elt Ideal) ℓ) : Prop :=
  ∀ c : Dev Cert.InProjIdeal.nD,
    (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7))).1 = (fun _ => 1#1)
    ∧ (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7))).2.1 = (fun _ => 1#1)
    ∧ (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7))).2.2.1 = (fun _ => 1#1)
    ∧ (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7))).2.2.2.1 = (fun _ => 1#1)
    ∧ (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7))).2.2.2.2.1 = (fun _ => 1#1)
    ∧ (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7))).2.2.2.2.2.1 = (fun _ => 1#1)
    ∧ (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7))).2.2.2.2.2.2.1 = (fun _ => 1#1)
    ∧ (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7))).2.2.2.2.2.2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_inproj [hPre_finite_inproj : Cert.Pre_finite_inproj.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7))).1 = (fun _ => 1#1)
    ∧ (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7))).2.1 = (fun _ => 1#1)
    ∧ (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7))).2.2.1 = (fun _ => 1#1)
    ∧ (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7))).2.2.2.1 = (fun _ => 1#1)
    ∧ (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7))).2.2.2.2.1 = (fun _ => 1#1)
    ∧ (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7))).2.2.2.2.2.1 = (fun _ => 1#1)
    ∧ (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7))).2.2.2.2.2.2.1 = (fun _ => 1#1)
    ∧ (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7))).2.2.2.2.2.2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite_outproj [hPre_finite_outproj : Cert.Pre_finite_outproj.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite_outproj.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5))).1 = (fun _ => 1#1)
    ∧ (Cert.Pre_finite_outproj.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5))).2.1 = (fun _ => 1#1)
    ∧ (Cert.Pre_finite_outproj.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5))).2.2.1 = (fun _ => 1#1)
    ∧ (Cert.Pre_finite_outproj.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5))).2.2.2.1 = (fun _ => 1#1)
    ∧ (Cert.Pre_finite_outproj.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5))).2.2.2.2.1 = (fun _ => 1#1)
    ∧ (Cert.Pre_finite_outproj.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5))).2.2.2.2.2 = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite_outproj [hPre_finite_outproj : Cert.Pre_finite_outproj.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite_outproj.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5))).1 = (fun _ => 1#1)
    ∧ (Cert.Pre_finite_outproj.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5))).2.1 = (fun _ => 1#1)
    ∧ (Cert.Pre_finite_outproj.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5))).2.2.1 = (fun _ => 1#1)
    ∧ (Cert.Pre_finite_outproj.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5))).2.2.2.1 = (fun _ => 1#1)
    ∧ (Cert.Pre_finite_outproj.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5))).2.2.2.2.1 = (fun _ => 1#1)
    ∧ (Cert.Pre_finite_outproj.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5))).2.2.2.2.2 = (fun _ => 1#1)

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutIdeal_finite_retout [hPre_finite_retout : Cert.Pre_finite_retout.Facts] (m : (ℓ : Loc Cert.RetOutIdeal.nD Cert.RetOutIdeal.τ Cert.RetOutIdeal.sig) → Buf (Elt Ideal) ℓ) : Prop :=
  ∀ c : Dev Cert.RetOutIdeal.nD,
    (Cert.Pre_finite_retout.fn (F := Ideal) (m ((c.tc : Thread Cert.RetOutIdeal.nD Cert.RetOutIdeal.τ).loc Cert.RetOutIdeal.main_arg0)) (m ((c.tc : Thread Cert.RetOutIdeal.nD Cert.RetOutIdeal.τ).loc Cert.RetOutIdeal.main_arg1)) (m ((c.tc : Thread Cert.RetOutIdeal.nD Cert.RetOutIdeal.τ).loc Cert.RetOutIdeal.main_arg2)) (m ((c.tc : Thread Cert.RetOutIdeal.nD Cert.RetOutIdeal.τ).loc Cert.RetOutIdeal.main_arg3))).1 = (fun _ => 1#1)
    ∧ (Cert.Pre_finite_retout.fn (F := Ideal) (m ((c.tc : Thread Cert.RetOutIdeal.nD Cert.RetOutIdeal.τ).loc Cert.RetOutIdeal.main_arg0)) (m ((c.tc : Thread Cert.RetOutIdeal.nD Cert.RetOutIdeal.τ).loc Cert.RetOutIdeal.main_arg1)) (m ((c.tc : Thread Cert.RetOutIdeal.nD Cert.RetOutIdeal.τ).loc Cert.RetOutIdeal.main_arg2)) (m ((c.tc : Thread Cert.RetOutIdeal.nD Cert.RetOutIdeal.τ).loc Cert.RetOutIdeal.main_arg3))).2.1 = (fun _ => 1#1)
    ∧ (Cert.Pre_finite_retout.fn (F := Ideal) (m ((c.tc : Thread Cert.RetOutIdeal.nD Cert.RetOutIdeal.τ).loc Cert.RetOutIdeal.main_arg0)) (m ((c.tc : Thread Cert.RetOutIdeal.nD Cert.RetOutIdeal.τ).loc Cert.RetOutIdeal.main_arg1)) (m ((c.tc : Thread Cert.RetOutIdeal.nD Cert.RetOutIdeal.τ).loc Cert.RetOutIdeal.main_arg2)) (m ((c.tc : Thread Cert.RetOutIdeal.nD Cert.RetOutIdeal.τ).loc Cert.RetOutIdeal.main_arg3))).2.2.1 = (fun _ => 1#1)
    ∧ (Cert.Pre_finite_retout.fn (F := Ideal) (m ((c.tc : Thread Cert.RetOutIdeal.nD Cert.RetOutIdeal.τ).loc Cert.RetOutIdeal.main_arg0)) (m ((c.tc : Thread Cert.RetOutIdeal.nD Cert.RetOutIdeal.τ).loc Cert.RetOutIdeal.main_arg1)) (m ((c.tc : Thread Cert.RetOutIdeal.nD Cert.RetOutIdeal.τ).loc Cert.RetOutIdeal.main_arg2)) (m ((c.tc : Thread Cert.RetOutIdeal.nD Cert.RetOutIdeal.τ).loc Cert.RetOutIdeal.main_arg3))).2.2.2 = (fun _ => 1#1)

def Pre_RetOutRefIdeal (m : (ℓ : Loc Cert.RetOutRefIdeal.nD Cert.RetOutRefIdeal.τ Cert.RetOutRefIdeal.sig) → Buf (Elt Ideal) ℓ) : Prop :=
  True

def Pre_RetOutRefIdeal_finite_retout [hPre_finite_retout : Cert.Pre_finite_retout.Facts] (m : (ℓ : Loc Cert.RetOutRefIdeal.nD Cert.RetOutRefIdeal.τ Cert.RetOutRefIdeal.sig) → Buf (Elt Ideal) ℓ) : Prop :=
  ∀ c : Dev Cert.RetOutRefIdeal.nD,
    (Cert.Pre_finite_retout.fn (F := Ideal) (m ((c.tc : Thread Cert.RetOutRefIdeal.nD Cert.RetOutRefIdeal.τ).loc Cert.RetOutRefIdeal.main_arg0)) (m ((c.tc : Thread Cert.RetOutRefIdeal.nD Cert.RetOutRefIdeal.τ).loc Cert.RetOutRefIdeal.main_arg1)) (m ((c.tc : Thread Cert.RetOutRefIdeal.nD Cert.RetOutRefIdeal.τ).loc Cert.RetOutRefIdeal.main_arg2)) (m ((c.tc : Thread Cert.RetOutRefIdeal.nD Cert.RetOutRefIdeal.τ).loc Cert.RetOutRefIdeal.main_arg3))).1 = (fun _ => 1#1)
    ∧ (Cert.Pre_finite_retout.fn (F := Ideal) (m ((c.tc : Thread Cert.RetOutRefIdeal.nD Cert.RetOutRefIdeal.τ).loc Cert.RetOutRefIdeal.main_arg0)) (m ((c.tc : Thread Cert.RetOutRefIdeal.nD Cert.RetOutRefIdeal.τ).loc Cert.RetOutRefIdeal.main_arg1)) (m ((c.tc : Thread Cert.RetOutRefIdeal.nD Cert.RetOutRefIdeal.τ).loc Cert.RetOutRefIdeal.main_arg2)) (m ((c.tc : Thread Cert.RetOutRefIdeal.nD Cert.RetOutRefIdeal.τ).loc Cert.RetOutRefIdeal.main_arg3))).2.1 = (fun _ => 1#1)
    ∧ (Cert.Pre_finite_retout.fn (F := Ideal) (m ((c.tc : Thread Cert.RetOutRefIdeal.nD Cert.RetOutRefIdeal.τ).loc Cert.RetOutRefIdeal.main_arg0)) (m ((c.tc : Thread Cert.RetOutRefIdeal.nD Cert.RetOutRefIdeal.τ).loc Cert.RetOutRefIdeal.main_arg1)) (m ((c.tc : Thread Cert.RetOutRefIdeal.nD Cert.RetOutRefIdeal.τ).loc Cert.RetOutRefIdeal.main_arg2)) (m ((c.tc : Thread Cert.RetOutRefIdeal.nD Cert.RetOutRefIdeal.τ).loc Cert.RetOutRefIdeal.main_arg3))).2.2.1 = (fun _ => 1#1)
    ∧ (Cert.Pre_finite_retout.fn (F := Ideal) (m ((c.tc : Thread Cert.RetOutRefIdeal.nD Cert.RetOutRefIdeal.τ).loc Cert.RetOutRefIdeal.main_arg0)) (m ((c.tc : Thread Cert.RetOutRefIdeal.nD Cert.RetOutRefIdeal.τ).loc Cert.RetOutRefIdeal.main_arg1)) (m ((c.tc : Thread Cert.RetOutRefIdeal.nD Cert.RetOutRefIdeal.τ).loc Cert.RetOutRefIdeal.main_arg2)) (m ((c.tc : Thread Cert.RetOutRefIdeal.nD Cert.RetOutRefIdeal.τ).loc Cert.RetOutRefIdeal.main_arg3))).2.2.2 = (fun _ => 1#1)

def Pre_GmFwd (m : (ℓ : Loc Cert.GmFwd.nD Cert.GmFwd.τ Cert.GmFwd.sig) → Buf (Elt Bits) ℓ) : Prop :=
  True

def Pre_GmFwdIdeal (m : (ℓ : Loc Cert.GmFwdIdeal.nD Cert.GmFwdIdeal.τ Cert.GmFwdIdeal.sig) → Buf (Elt Ideal) ℓ) : Prop :=
  True

def Pre_GmFwdIdeal_finite_gmfwd [hPre_finite_gmfwd : Cert.Pre_finite_gmfwd.Facts] (m : (ℓ : Loc Cert.GmFwdIdeal.nD Cert.GmFwdIdeal.τ Cert.GmFwdIdeal.sig) → Buf (Elt Ideal) ℓ) : Prop :=
  ∀ c : Dev Cert.GmFwdIdeal.nD,
    (Cert.Pre_finite_gmfwd.fn (F := Ideal) (m ((c.tc : Thread Cert.GmFwdIdeal.nD Cert.GmFwdIdeal.τ).loc Cert.GmFwdIdeal.main_arg0)) (m ((c.tc : Thread Cert.GmFwdIdeal.nD Cert.GmFwdIdeal.τ).loc Cert.GmFwdIdeal.main_arg1)) (m ((c.tc : Thread Cert.GmFwdIdeal.nD Cert.GmFwdIdeal.τ).loc Cert.GmFwdIdeal.main_arg2)) (m ((c.tc : Thread Cert.GmFwdIdeal.nD Cert.GmFwdIdeal.τ).loc Cert.GmFwdIdeal.main_arg3)) (m ((c.tc : Thread Cert.GmFwdIdeal.nD Cert.GmFwdIdeal.τ).loc Cert.GmFwdIdeal.main_arg4))).1 = (fun _ => 1#1)
    ∧ (Cert.Pre_finite_gmfwd.fn (F := Ideal) (m ((c.tc : Thread Cert.GmFwdIdeal.nD Cert.GmFwdIdeal.τ).loc Cert.GmFwdIdeal.main_arg0)) (m ((c.tc : Thread Cert.GmFwdIdeal.nD Cert.GmFwdIdeal.τ).loc Cert.GmFwdIdeal.main_arg1)) (m ((c.tc : Thread Cert.GmFwdIdeal.nD Cert.GmFwdIdeal.τ).loc Cert.GmFwdIdeal.main_arg2)) (m ((c.tc : Thread Cert.GmFwdIdeal.nD Cert.GmFwdIdeal.τ).loc Cert.GmFwdIdeal.main_arg3)) (m ((c.tc : Thread Cert.GmFwdIdeal.nD Cert.GmFwdIdeal.τ).loc Cert.GmFwdIdeal.main_arg4))).2.1 = (fun _ => 1#1)
    ∧ (Cert.Pre_finite_gmfwd.fn (F := Ideal) (m ((c.tc : Thread Cert.GmFwdIdeal.nD Cert.GmFwdIdeal.τ).loc Cert.GmFwdIdeal.main_arg0)) (m ((c.tc : Thread Cert.GmFwdIdeal.nD Cert.GmFwdIdeal.τ).loc Cert.GmFwdIdeal.main_arg1)) (m ((c.tc : Thread Cert.GmFwdIdeal.nD Cert.GmFwdIdeal.τ).loc Cert.GmFwdIdeal.main_arg2)) (m ((c.tc : Thread Cert.GmFwdIdeal.nD Cert.GmFwdIdeal.τ).loc Cert.GmFwdIdeal.main_arg3)) (m ((c.tc : Thread Cert.GmFwdIdeal.nD Cert.GmFwdIdeal.τ).loc Cert.GmFwdIdeal.main_arg4))).2.2.1 = (fun _ => 1#1)
    ∧ (Cert.Pre_finite_gmfwd.fn (F := Ideal) (m ((c.tc : Thread Cert.GmFwdIdeal.nD Cert.GmFwdIdeal.τ).loc Cert.GmFwdIdeal.main_arg0)) (m ((c.tc : Thread Cert.GmFwdIdeal.nD Cert.GmFwdIdeal.τ).loc Cert.GmFwdIdeal.main_arg1)) (m ((c.tc : Thread Cert.GmFwdIdeal.nD Cert.GmFwdIdeal.τ).loc Cert.GmFwdIdeal.main_arg2)) (m ((c.tc : Thread Cert.GmFwdIdeal.nD Cert.GmFwdIdeal.τ).loc Cert.GmFwdIdeal.main_arg3)) (m ((c.tc : Thread Cert.GmFwdIdeal.nD Cert.GmFwdIdeal.τ).loc Cert.GmFwdIdeal.main_arg4))).2.2.2.1 = (fun _ => 1#1)
    ∧ (Cert.Pre_finite_gmfwd.fn (F := Ideal) (m ((c.tc : Thread Cert.GmFwdIdeal.nD Cert.GmFwdIdeal.τ).loc Cert.GmFwdIdeal.main_arg0)) (m ((c.tc : Thread Cert.GmFwdIdeal.nD Cert.GmFwdIdeal.τ).loc Cert.GmFwdIdeal.main_arg1)) (m ((c.tc : Thread Cert.GmFwdIdeal.nD Cert.GmFwdIdeal.τ).loc Cert.GmFwdIdeal.main_arg2)) (m ((c.tc : Thread Cert.GmFwdIdeal.nD Cert.GmFwdIdeal.τ).loc Cert.GmFwdIdeal.main_arg3)) (m ((c.tc : Thread Cert.GmFwdIdeal.nD Cert.GmFwdIdeal.τ).loc Cert.GmFwdIdeal.main_arg4))).2.2.2.2 = (fun _ => 1#1)

def Pre_GmFwdRefIdeal (m : (ℓ : Loc Cert.GmFwdRefIdeal.nD Cert.GmFwdRefIdeal.τ Cert.GmFwdRefIdeal.sig) → Buf (Elt Ideal) ℓ) : Prop :=
  True

def Pre_GmFwdRefIdeal_finite_gmfwd [hPre_finite_gmfwd : Cert.Pre_finite_gmfwd.Facts] (m : (ℓ : Loc Cert.GmFwdRefIdeal.nD Cert.GmFwdRefIdeal.τ Cert.GmFwdRefIdeal.sig) → Buf (Elt Ideal) ℓ) : Prop :=
  ∀ c : Dev Cert.GmFwdRefIdeal.nD,
    (Cert.Pre_finite_gmfwd.fn (F := Ideal) (m ((c.tc : Thread Cert.GmFwdRefIdeal.nD Cert.GmFwdRefIdeal.τ).loc Cert.GmFwdRefIdeal.main_arg0)) (m ((c.tc : Thread Cert.GmFwdRefIdeal.nD Cert.GmFwdRefIdeal.τ).loc Cert.GmFwdRefIdeal.main_arg1)) (m ((c.tc : Thread Cert.GmFwdRefIdeal.nD Cert.GmFwdRefIdeal.τ).loc Cert.GmFwdRefIdeal.main_arg2)) (m ((c.tc : Thread Cert.GmFwdRefIdeal.nD Cert.GmFwdRefIdeal.τ).loc Cert.GmFwdRefIdeal.main_arg3)) (m ((c.tc : Thread Cert.GmFwdRefIdeal.nD Cert.GmFwdRefIdeal.τ).loc Cert.GmFwdRefIdeal.main_arg4))).1 = (fun _ => 1#1)
    ∧ (Cert.Pre_finite_gmfwd.fn (F := Ideal) (m ((c.tc : Thread Cert.GmFwdRefIdeal.nD Cert.GmFwdRefIdeal.τ).loc Cert.GmFwdRefIdeal.main_arg0)) (m ((c.tc : Thread Cert.GmFwdRefIdeal.nD Cert.GmFwdRefIdeal.τ).loc Cert.GmFwdRefIdeal.main_arg1)) (m ((c.tc : Thread Cert.GmFwdRefIdeal.nD Cert.GmFwdRefIdeal.τ).loc Cert.GmFwdRefIdeal.main_arg2)) (m ((c.tc : Thread Cert.GmFwdRefIdeal.nD Cert.GmFwdRefIdeal.τ).loc Cert.GmFwdRefIdeal.main_arg3)) (m ((c.tc : Thread Cert.GmFwdRefIdeal.nD Cert.GmFwdRefIdeal.τ).loc Cert.GmFwdRefIdeal.main_arg4))).2.1 = (fun _ => 1#1)
    ∧ (Cert.Pre_finite_gmfwd.fn (F := Ideal) (m ((c.tc : Thread Cert.GmFwdRefIdeal.nD Cert.GmFwdRefIdeal.τ).loc Cert.GmFwdRefIdeal.main_arg0)) (m ((c.tc : Thread Cert.GmFwdRefIdeal.nD Cert.GmFwdRefIdeal.τ).loc Cert.GmFwdRefIdeal.main_arg1)) (m ((c.tc : Thread Cert.GmFwdRefIdeal.nD Cert.GmFwdRefIdeal.τ).loc Cert.GmFwdRefIdeal.main_arg2)) (m ((c.tc : Thread Cert.GmFwdRefIdeal.nD Cert.GmFwdRefIdeal.τ).loc Cert.GmFwdRefIdeal.main_arg3)) (m ((c.tc : Thread Cert.GmFwdRefIdeal.nD Cert.GmFwdRefIdeal.τ).loc Cert.GmFwdRefIdeal.main_arg4))).2.2.1 = (fun _ => 1#1)
    ∧ (Cert.Pre_finite_gmfwd.fn (F := Ideal) (m ((c.tc : Thread Cert.GmFwdRefIdeal.nD Cert.GmFwdRefIdeal.τ).loc Cert.GmFwdRefIdeal.main_arg0)) (m ((c.tc : Thread Cert.GmFwdRefIdeal.nD Cert.GmFwdRefIdeal.τ).loc Cert.GmFwdRefIdeal.main_arg1)) (m ((c.tc : Thread Cert.GmFwdRefIdeal.nD Cert.GmFwdRefIdeal.τ).loc Cert.GmFwdRefIdeal.main_arg2)) (m ((c.tc : Thread Cert.GmFwdRefIdeal.nD Cert.GmFwdRefIdeal.τ).loc Cert.GmFwdRefIdeal.main_arg3)) (m ((c.tc : Thread Cert.GmFwdRefIdeal.nD Cert.GmFwdRefIdeal.τ).loc Cert.GmFwdRefIdeal.main_arg4))).2.2.2.1 = (fun _ => 1#1)
    ∧ (Cert.Pre_finite_gmfwd.fn (F := Ideal) (m ((c.tc : Thread Cert.GmFwdRefIdeal.nD Cert.GmFwdRefIdeal.τ).loc Cert.GmFwdRefIdeal.main_arg0)) (m ((c.tc : Thread Cert.GmFwdRefIdeal.nD Cert.GmFwdRefIdeal.τ).loc Cert.GmFwdRefIdeal.main_arg1)) (m ((c.tc : Thread Cert.GmFwdRefIdeal.nD Cert.GmFwdRefIdeal.τ).loc Cert.GmFwdRefIdeal.main_arg2)) (m ((c.tc : Thread Cert.GmFwdRefIdeal.nD Cert.GmFwdRefIdeal.τ).loc Cert.GmFwdRefIdeal.main_arg3)) (m ((c.tc : Thread Cert.GmFwdRefIdeal.nD Cert.GmFwdRefIdeal.τ).loc Cert.GmFwdRefIdeal.main_arg4))).2.2.2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_RetState (m : (ℓ : Loc Cert.RetState.nD Cert.RetState.τ Cert.RetState.sig) → Buf (Elt Bits) ℓ) : Prop :=
  True

def Pre_RetStateIdeal (m : (ℓ : Loc Cert.RetStateIdeal.nD Cert.RetStateIdeal.τ Cert.RetStateIdeal.sig) → Buf (Elt Ideal) ℓ) : Prop :=
  True

def Pre_RetStateIdeal_finite_retstate [hPre_finite_retstate : Cert.Pre_finite_retstate.Facts] (m : (ℓ : Loc Cert.RetStateIdeal.nD Cert.RetStateIdeal.τ Cert.RetStateIdeal.sig) → Buf (Elt Ideal) ℓ) : Prop :=
  ∀ c : Dev Cert.RetStateIdeal.nD,
    (Cert.Pre_finite_retstate.fn (F := Ideal) (m ((c.tc : Thread Cert.RetStateIdeal.nD Cert.RetStateIdeal.τ).loc Cert.RetStateIdeal.main_arg0)) (m ((c.tc : Thread Cert.RetStateIdeal.nD Cert.RetStateIdeal.τ).loc Cert.RetStateIdeal.main_arg1))).1 = (fun _ => 1#1)
    ∧ (Cert.Pre_finite_retstate.fn (F := Ideal) (m ((c.tc : Thread Cert.RetStateIdeal.nD Cert.RetStateIdeal.τ).loc Cert.RetStateIdeal.main_arg0)) (m ((c.tc : Thread Cert.RetStateIdeal.nD Cert.RetStateIdeal.τ).loc Cert.RetStateIdeal.main_arg1))).2 = (fun _ => 1#1)

def Pre_RetStateRefIdeal (m : (ℓ : Loc Cert.RetStateRefIdeal.nD Cert.RetStateRefIdeal.τ Cert.RetStateRefIdeal.sig) → Buf (Elt Ideal) ℓ) : Prop :=
  True

def Pre_RetStateRefIdeal_finite_retstate [hPre_finite_retstate : Cert.Pre_finite_retstate.Facts] (m : (ℓ : Loc Cert.RetStateRefIdeal.nD Cert.RetStateRefIdeal.τ Cert.RetStateRefIdeal.sig) → Buf (Elt Ideal) ℓ) : Prop :=
  ∀ c : Dev Cert.RetStateRefIdeal.nD,
    (Cert.Pre_finite_retstate.fn (F := Ideal) (m ((c.tc : Thread Cert.RetStateRefIdeal.nD Cert.RetStateRefIdeal.τ).loc Cert.RetStateRefIdeal.main_arg0)) (m ((c.tc : Thread Cert.RetStateRefIdeal.nD Cert.RetStateRefIdeal.τ).loc Cert.RetStateRefIdeal.main_arg1))).1 = (fun _ => 1#1)
    ∧ (Cert.Pre_finite_retstate.fn (F := Ideal) (m ((c.tc : Thread Cert.RetStateRefIdeal.nD Cert.RetStateRefIdeal.τ).loc Cert.RetStateRefIdeal.main_arg0)) (m ((c.tc : Thread Cert.RetStateRefIdeal.nD Cert.RetStateRefIdeal.τ).loc Cert.RetStateRefIdeal.main_arg1))).2 = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutIdeal_finite_ffnout [hPre_finite_ffnout : Cert.Pre_finite_ffnout.Facts] (m : (ℓ : Loc Cert.FfnOutIdeal.nD Cert.FfnOutIdeal.τ Cert.FfnOutIdeal.sig) → Buf (Elt Ideal) ℓ) : Prop :=
  ∀ c : Dev Cert.FfnOutIdeal.nD,
    (Cert.Pre_finite_ffnout.fn (F := Ideal) (m ((c.tc : Thread Cert.FfnOutIdeal.nD Cert.FfnOutIdeal.τ).loc Cert.FfnOutIdeal.main_arg0)) (m ((c.tc : Thread Cert.FfnOutIdeal.nD Cert.FfnOutIdeal.τ).loc Cert.FfnOutIdeal.main_arg1)) (m ((c.tc : Thread Cert.FfnOutIdeal.nD Cert.FfnOutIdeal.τ).loc Cert.FfnOutIdeal.main_arg2))).1 = (fun _ => 1#1)
    ∧ (Cert.Pre_finite_ffnout.fn (F := Ideal) (m ((c.tc : Thread Cert.FfnOutIdeal.nD Cert.FfnOutIdeal.τ).loc Cert.FfnOutIdeal.main_arg0)) (m ((c.tc : Thread Cert.FfnOutIdeal.nD Cert.FfnOutIdeal.τ).loc Cert.FfnOutIdeal.main_arg1)) (m ((c.tc : Thread Cert.FfnOutIdeal.nD Cert.FfnOutIdeal.τ).loc Cert.FfnOutIdeal.main_arg2))).2.1 = (fun _ => 1#1)
    ∧ (Cert.Pre_finite_ffnout.fn (F := Ideal) (m ((c.tc : Thread Cert.FfnOutIdeal.nD Cert.FfnOutIdeal.τ).loc Cert.FfnOutIdeal.main_arg0)) (m ((c.tc : Thread Cert.FfnOutIdeal.nD Cert.FfnOutIdeal.τ).loc Cert.FfnOutIdeal.main_arg1)) (m ((c.tc : Thread Cert.FfnOutIdeal.nD Cert.FfnOutIdeal.τ).loc Cert.FfnOutIdeal.main_arg2))).2.2 = (fun _ => 1#1)

def Pre_FfnOutRefIdeal (m : (ℓ : Loc Cert.FfnOutRefIdeal.nD Cert.FfnOutRefIdeal.τ Cert.FfnOutRefIdeal.sig) → Buf (Elt Ideal) ℓ) : Prop :=
  True

def Pre_FfnOutRefIdeal_finite_ffnout [hPre_finite_ffnout : Cert.Pre_finite_ffnout.Facts] (m : (ℓ : Loc Cert.FfnOutRefIdeal.nD Cert.FfnOutRefIdeal.τ Cert.FfnOutRefIdeal.sig) → Buf (Elt Ideal) ℓ) : Prop :=
  ∀ c : Dev Cert.FfnOutRefIdeal.nD,
    (Cert.Pre_finite_ffnout.fn (F := Ideal) (m ((c.tc : Thread Cert.FfnOutRefIdeal.nD Cert.FfnOutRefIdeal.τ).loc Cert.FfnOutRefIdeal.main_arg0)) (m ((c.tc : Thread Cert.FfnOutRefIdeal.nD Cert.FfnOutRefIdeal.τ).loc Cert.FfnOutRefIdeal.main_arg1)) (m ((c.tc : Thread Cert.FfnOutRefIdeal.nD Cert.FfnOutRefIdeal.τ).loc Cert.FfnOutRefIdeal.main_arg2))).1 = (fun _ => 1#1)
    ∧ (Cert.Pre_finite_ffnout.fn (F := Ideal) (m ((c.tc : Thread Cert.FfnOutRefIdeal.nD Cert.FfnOutRefIdeal.τ).loc Cert.FfnOutRefIdeal.main_arg0)) (m ((c.tc : Thread Cert.FfnOutRefIdeal.nD Cert.FfnOutRefIdeal.τ).loc Cert.FfnOutRefIdeal.main_arg1)) (m ((c.tc : Thread Cert.FfnOutRefIdeal.nD Cert.FfnOutRefIdeal.τ).loc Cert.FfnOutRefIdeal.main_arg2))).2.1 = (fun _ => 1#1)
    ∧ (Cert.Pre_finite_ffnout.fn (F := Ideal) (m ((c.tc : Thread Cert.FfnOutRefIdeal.nD Cert.FfnOutRefIdeal.τ).loc Cert.FfnOutRefIdeal.main_arg0)) (m ((c.tc : Thread Cert.FfnOutRefIdeal.nD Cert.FfnOutRefIdeal.τ).loc Cert.FfnOutRefIdeal.main_arg1)) (m ((c.tc : Thread Cert.FfnOutRefIdeal.nD Cert.FfnOutRefIdeal.τ).loc Cert.FfnOutRefIdeal.main_arg2))).2.2 = (fun _ => 1#1)

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormIdeal_finite_ffnnorm [hPre_finite_ffnnorm : Cert.Pre_finite_ffnnorm.Facts] (m : (ℓ : Loc Cert.FfnNormIdeal.nD Cert.FfnNormIdeal.τ Cert.FfnNormIdeal.sig) → Buf (Elt Ideal) ℓ) : Prop :=
  ∀ c : Dev Cert.FfnNormIdeal.nD,
    (Cert.Pre_finite_ffnnorm.fn (F := Ideal) (m ((c.tc : Thread Cert.FfnNormIdeal.nD Cert.FfnNormIdeal.τ).loc Cert.FfnNormIdeal.main_arg0)) (m ((c.tc : Thread Cert.FfnNormIdeal.nD Cert.FfnNormIdeal.τ).loc Cert.FfnNormIdeal.main_arg1)) (m ((c.tc : Thread Cert.FfnNormIdeal.nD Cert.FfnNormIdeal.τ).loc Cert.FfnNormIdeal.main_arg2))).1 = (fun _ => 1#1)
    ∧ (Cert.Pre_finite_ffnnorm.fn (F := Ideal) (m ((c.tc : Thread Cert.FfnNormIdeal.nD Cert.FfnNormIdeal.τ).loc Cert.FfnNormIdeal.main_arg0)) (m ((c.tc : Thread Cert.FfnNormIdeal.nD Cert.FfnNormIdeal.τ).loc Cert.FfnNormIdeal.main_arg1)) (m ((c.tc : Thread Cert.FfnNormIdeal.nD Cert.FfnNormIdeal.τ).loc Cert.FfnNormIdeal.main_arg2))).2.1 = (fun _ => 1#1)
    ∧ (Cert.Pre_finite_ffnnorm.fn (F := Ideal) (m ((c.tc : Thread Cert.FfnNormIdeal.nD Cert.FfnNormIdeal.τ).loc Cert.FfnNormIdeal.main_arg0)) (m ((c.tc : Thread Cert.FfnNormIdeal.nD Cert.FfnNormIdeal.τ).loc Cert.FfnNormIdeal.main_arg1)) (m ((c.tc : Thread Cert.FfnNormIdeal.nD Cert.FfnNormIdeal.τ).loc Cert.FfnNormIdeal.main_arg2))).2.2 = (fun _ => 1#1)

def Pre_FfnNormRefIdeal (m : (ℓ : Loc Cert.FfnNormRefIdeal.nD Cert.FfnNormRefIdeal.τ Cert.FfnNormRefIdeal.sig) → Buf (Elt Ideal) ℓ) : Prop :=
  True

def Pre_FfnNormRefIdeal_finite_ffnnorm [hPre_finite_ffnnorm : Cert.Pre_finite_ffnnorm.Facts] (m : (ℓ : Loc Cert.FfnNormRefIdeal.nD Cert.FfnNormRefIdeal.τ Cert.FfnNormRefIdeal.sig) → Buf (Elt Ideal) ℓ) : Prop :=
  ∀ c : Dev Cert.FfnNormRefIdeal.nD,
    (Cert.Pre_finite_ffnnorm.fn (F := Ideal) (m ((c.tc : Thread Cert.FfnNormRefIdeal.nD Cert.FfnNormRefIdeal.τ).loc Cert.FfnNormRefIdeal.main_arg0)) (m ((c.tc : Thread Cert.FfnNormRefIdeal.nD Cert.FfnNormRefIdeal.τ).loc Cert.FfnNormRefIdeal.main_arg1)) (m ((c.tc : Thread Cert.FfnNormRefIdeal.nD Cert.FfnNormRefIdeal.τ).loc Cert.FfnNormRefIdeal.main_arg2))).1 = (fun _ => 1#1)
    ∧ (Cert.Pre_finite_ffnnorm.fn (F := Ideal) (m ((c.tc : Thread Cert.FfnNormRefIdeal.nD Cert.FfnNormRefIdeal.τ).loc Cert.FfnNormRefIdeal.main_arg0)) (m ((c.tc : Thread Cert.FfnNormRefIdeal.nD Cert.FfnNormRefIdeal.τ).loc Cert.FfnNormRefIdeal.main_arg1)) (m ((c.tc : Thread Cert.FfnNormRefIdeal.nD Cert.FfnNormRefIdeal.τ).loc Cert.FfnNormRefIdeal.main_arg2))).2.1 = (fun _ => 1#1)
    ∧ (Cert.Pre_finite_ffnnorm.fn (F := Ideal) (m ((c.tc : Thread Cert.FfnNormRefIdeal.nD Cert.FfnNormRefIdeal.τ).loc Cert.FfnNormRefIdeal.main_arg0)) (m ((c.tc : Thread Cert.FfnNormRefIdeal.nD Cert.FfnNormRefIdeal.τ).loc Cert.FfnNormRefIdeal.main_arg1)) (m ((c.tc : Thread Cert.FfnNormRefIdeal.nD Cert.FfnNormRefIdeal.τ).loc Cert.FfnNormRefIdeal.main_arg2))).2.2 = (fun _ => 1#1)

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdIdeal_finite_outfwd [hPre_finite_outfwd : Cert.Pre_finite_outfwd.Facts] (m : (ℓ : Loc Cert.OutFwdIdeal.nD Cert.OutFwdIdeal.τ Cert.OutFwdIdeal.sig) → Buf (Elt Ideal) ℓ) : Prop :=
  ∀ c : Dev Cert.OutFwdIdeal.nD,
    (Cert.Pre_finite_outfwd.fn (F := Ideal) (m ((c.tc : Thread Cert.OutFwdIdeal.nD Cert.OutFwdIdeal.τ).loc Cert.OutFwdIdeal.main_arg0)) (m ((c.tc : Thread Cert.OutFwdIdeal.nD Cert.OutFwdIdeal.τ).loc Cert.OutFwdIdeal.main_arg1)) (m ((c.tc : Thread Cert.OutFwdIdeal.nD Cert.OutFwdIdeal.τ).loc Cert.OutFwdIdeal.main_arg2)) (m ((c.tc : Thread Cert.OutFwdIdeal.nD Cert.OutFwdIdeal.τ).loc Cert.OutFwdIdeal.main_arg3)) (m ((c.tc : Thread Cert.OutFwdIdeal.nD Cert.OutFwdIdeal.τ).loc Cert.OutFwdIdeal.main_arg4))).1 = (fun _ => 1#1)
    ∧ (Cert.Pre_finite_outfwd.fn (F := Ideal) (m ((c.tc : Thread Cert.OutFwdIdeal.nD Cert.OutFwdIdeal.τ).loc Cert.OutFwdIdeal.main_arg0)) (m ((c.tc : Thread Cert.OutFwdIdeal.nD Cert.OutFwdIdeal.τ).loc Cert.OutFwdIdeal.main_arg1)) (m ((c.tc : Thread Cert.OutFwdIdeal.nD Cert.OutFwdIdeal.τ).loc Cert.OutFwdIdeal.main_arg2)) (m ((c.tc : Thread Cert.OutFwdIdeal.nD Cert.OutFwdIdeal.τ).loc Cert.OutFwdIdeal.main_arg3)) (m ((c.tc : Thread Cert.OutFwdIdeal.nD Cert.OutFwdIdeal.τ).loc Cert.OutFwdIdeal.main_arg4))).2.1 = (fun _ => 1#1)
    ∧ (Cert.Pre_finite_outfwd.fn (F := Ideal) (m ((c.tc : Thread Cert.OutFwdIdeal.nD Cert.OutFwdIdeal.τ).loc Cert.OutFwdIdeal.main_arg0)) (m ((c.tc : Thread Cert.OutFwdIdeal.nD Cert.OutFwdIdeal.τ).loc Cert.OutFwdIdeal.main_arg1)) (m ((c.tc : Thread Cert.OutFwdIdeal.nD Cert.OutFwdIdeal.τ).loc Cert.OutFwdIdeal.main_arg2)) (m ((c.tc : Thread Cert.OutFwdIdeal.nD Cert.OutFwdIdeal.τ).loc Cert.OutFwdIdeal.main_arg3)) (m ((c.tc : Thread Cert.OutFwdIdeal.nD Cert.OutFwdIdeal.τ).loc Cert.OutFwdIdeal.main_arg4))).2.2.1 = (fun _ => 1#1)
    ∧ (Cert.Pre_finite_outfwd.fn (F := Ideal) (m ((c.tc : Thread Cert.OutFwdIdeal.nD Cert.OutFwdIdeal.τ).loc Cert.OutFwdIdeal.main_arg0)) (m ((c.tc : Thread Cert.OutFwdIdeal.nD Cert.OutFwdIdeal.τ).loc Cert.OutFwdIdeal.main_arg1)) (m ((c.tc : Thread Cert.OutFwdIdeal.nD Cert.OutFwdIdeal.τ).loc Cert.OutFwdIdeal.main_arg2)) (m ((c.tc : Thread Cert.OutFwdIdeal.nD Cert.OutFwdIdeal.τ).loc Cert.OutFwdIdeal.main_arg3)) (m ((c.tc : Thread Cert.OutFwdIdeal.nD Cert.OutFwdIdeal.τ).loc Cert.OutFwdIdeal.main_arg4))).2.2.2.1 = (fun _ => 1#1)
    ∧ (Cert.Pre_finite_outfwd.fn (F := Ideal) (m ((c.tc : Thread Cert.OutFwdIdeal.nD Cert.OutFwdIdeal.τ).loc Cert.OutFwdIdeal.main_arg0)) (m ((c.tc : Thread Cert.OutFwdIdeal.nD Cert.OutFwdIdeal.τ).loc Cert.OutFwdIdeal.main_arg1)) (m ((c.tc : Thread Cert.OutFwdIdeal.nD Cert.OutFwdIdeal.τ).loc Cert.OutFwdIdeal.main_arg2)) (m ((c.tc : Thread Cert.OutFwdIdeal.nD Cert.OutFwdIdeal.τ).loc Cert.OutFwdIdeal.main_arg3)) (m ((c.tc : Thread Cert.OutFwdIdeal.nD Cert.OutFwdIdeal.τ).loc Cert.OutFwdIdeal.main_arg4))).2.2.2.2 = (fun _ => 1#1)

def Pre_OutFwdRefIdeal (m : (ℓ : Loc Cert.OutFwdRefIdeal.nD Cert.OutFwdRefIdeal.τ Cert.OutFwdRefIdeal.sig) → Buf (Elt Ideal) ℓ) : Prop :=
  True

def Pre_OutFwdRefIdeal_finite_outfwd [hPre_finite_outfwd : Cert.Pre_finite_outfwd.Facts] (m : (ℓ : Loc Cert.OutFwdRefIdeal.nD Cert.OutFwdRefIdeal.τ Cert.OutFwdRefIdeal.sig) → Buf (Elt Ideal) ℓ) : Prop :=
  ∀ c : Dev Cert.OutFwdRefIdeal.nD,
    (Cert.Pre_finite_outfwd.fn (F := Ideal) (m ((c.tc : Thread Cert.OutFwdRefIdeal.nD Cert.OutFwdRefIdeal.τ).loc Cert.OutFwdRefIdeal.main_arg0)) (m ((c.tc : Thread Cert.OutFwdRefIdeal.nD Cert.OutFwdRefIdeal.τ).loc Cert.OutFwdRefIdeal.main_arg1)) (m ((c.tc : Thread Cert.OutFwdRefIdeal.nD Cert.OutFwdRefIdeal.τ).loc Cert.OutFwdRefIdeal.main_arg2)) (m ((c.tc : Thread Cert.OutFwdRefIdeal.nD Cert.OutFwdRefIdeal.τ).loc Cert.OutFwdRefIdeal.main_arg3)) (m ((c.tc : Thread Cert.OutFwdRefIdeal.nD Cert.OutFwdRefIdeal.τ).loc Cert.OutFwdRefIdeal.main_arg4))).1 = (fun _ => 1#1)
    ∧ (Cert.Pre_finite_outfwd.fn (F := Ideal) (m ((c.tc : Thread Cert.OutFwdRefIdeal.nD Cert.OutFwdRefIdeal.τ).loc Cert.OutFwdRefIdeal.main_arg0)) (m ((c.tc : Thread Cert.OutFwdRefIdeal.nD Cert.OutFwdRefIdeal.τ).loc Cert.OutFwdRefIdeal.main_arg1)) (m ((c.tc : Thread Cert.OutFwdRefIdeal.nD Cert.OutFwdRefIdeal.τ).loc Cert.OutFwdRefIdeal.main_arg2)) (m ((c.tc : Thread Cert.OutFwdRefIdeal.nD Cert.OutFwdRefIdeal.τ).loc Cert.OutFwdRefIdeal.main_arg3)) (m ((c.tc : Thread Cert.OutFwdRefIdeal.nD Cert.OutFwdRefIdeal.τ).loc Cert.OutFwdRefIdeal.main_arg4))).2.1 = (fun _ => 1#1)
    ∧ (Cert.Pre_finite_outfwd.fn (F := Ideal) (m ((c.tc : Thread Cert.OutFwdRefIdeal.nD Cert.OutFwdRefIdeal.τ).loc Cert.OutFwdRefIdeal.main_arg0)) (m ((c.tc : Thread Cert.OutFwdRefIdeal.nD Cert.OutFwdRefIdeal.τ).loc Cert.OutFwdRefIdeal.main_arg1)) (m ((c.tc : Thread Cert.OutFwdRefIdeal.nD Cert.OutFwdRefIdeal.τ).loc Cert.OutFwdRefIdeal.main_arg2)) (m ((c.tc : Thread Cert.OutFwdRefIdeal.nD Cert.OutFwdRefIdeal.τ).loc Cert.OutFwdRefIdeal.main_arg3)) (m ((c.tc : Thread Cert.OutFwdRefIdeal.nD Cert.OutFwdRefIdeal.τ).loc Cert.OutFwdRefIdeal.main_arg4))).2.2.1 = (fun _ => 1#1)
    ∧ (Cert.Pre_finite_outfwd.fn (F := Ideal) (m ((c.tc : Thread Cert.OutFwdRefIdeal.nD Cert.OutFwdRefIdeal.τ).loc Cert.OutFwdRefIdeal.main_arg0)) (m ((c.tc : Thread Cert.OutFwdRefIdeal.nD Cert.OutFwdRefIdeal.τ).loc Cert.OutFwdRefIdeal.main_arg1)) (m ((c.tc : Thread Cert.OutFwdRefIdeal.nD Cert.OutFwdRefIdeal.τ).loc Cert.OutFwdRefIdeal.main_arg2)) (m ((c.tc : Thread Cert.OutFwdRefIdeal.nD Cert.OutFwdRefIdeal.τ).loc Cert.OutFwdRefIdeal.main_arg3)) (m ((c.tc : Thread Cert.OutFwdRefIdeal.nD Cert.OutFwdRefIdeal.τ).loc Cert.OutFwdRefIdeal.main_arg4))).2.2.2.1 = (fun _ => 1#1)
    ∧ (Cert.Pre_finite_outfwd.fn (F := Ideal) (m ((c.tc : Thread Cert.OutFwdRefIdeal.nD Cert.OutFwdRefIdeal.τ).loc Cert.OutFwdRefIdeal.main_arg0)) (m ((c.tc : Thread Cert.OutFwdRefIdeal.nD Cert.OutFwdRefIdeal.τ).loc Cert.OutFwdRefIdeal.main_arg1)) (m ((c.tc : Thread Cert.OutFwdRefIdeal.nD Cert.OutFwdRefIdeal.τ).loc Cert.OutFwdRefIdeal.main_arg2)) (m ((c.tc : Thread Cert.OutFwdRefIdeal.nD Cert.OutFwdRefIdeal.τ).loc Cert.OutFwdRefIdeal.main_arg3)) (m ((c.tc : Thread Cert.OutFwdRefIdeal.nD Cert.OutFwdRefIdeal.τ).loc Cert.OutFwdRefIdeal.main_arg4))).2.2.2.2 = (fun _ => 1#1)

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_FfnDwIdeal_finite_ffndw [hPre_finite_ffndw : Cert.Pre_finite_ffndw.Facts] (m : (ℓ : Loc Cert.FfnDwIdeal.nD Cert.FfnDwIdeal.τ Cert.FfnDwIdeal.sig) → Buf (Elt Ideal) ℓ) : Prop :=
  ∀ c : Dev Cert.FfnDwIdeal.nD,
    (Cert.Pre_finite_ffndw.fn (F := Ideal) (m ((c.tc : Thread Cert.FfnDwIdeal.nD Cert.FfnDwIdeal.τ).loc Cert.FfnDwIdeal.main_arg0)) (m ((c.tc : Thread Cert.FfnDwIdeal.nD Cert.FfnDwIdeal.τ).loc Cert.FfnDwIdeal.main_arg1)) (m ((c.tc : Thread Cert.FfnDwIdeal.nD Cert.FfnDwIdeal.τ).loc Cert.FfnDwIdeal.main_arg2)) (m ((c.tc : Thread Cert.FfnDwIdeal.nD Cert.FfnDwIdeal.τ).loc Cert.FfnDwIdeal.main_arg3))).1 = (fun _ => 1#1)
    ∧ (Cert.Pre_finite_ffndw.fn (F := Ideal) (m ((c.tc : Thread Cert.FfnDwIdeal.nD Cert.FfnDwIdeal.τ).loc Cert.FfnDwIdeal.main_arg0)) (m ((c.tc : Thread Cert.FfnDwIdeal.nD Cert.FfnDwIdeal.τ).loc Cert.FfnDwIdeal.main_arg1)) (m ((c.tc : Thread Cert.FfnDwIdeal.nD Cert.FfnDwIdeal.τ).loc Cert.FfnDwIdeal.main_arg2)) (m ((c.tc : Thread Cert.FfnDwIdeal.nD Cert.FfnDwIdeal.τ).loc Cert.FfnDwIdeal.main_arg3))).2.1 = (fun _ => 1#1)
    ∧ (Cert.Pre_finite_ffndw.fn (F := Ideal) (m ((c.tc : Thread Cert.FfnDwIdeal.nD Cert.FfnDwIdeal.τ).loc Cert.FfnDwIdeal.main_arg0)) (m ((c.tc : Thread Cert.FfnDwIdeal.nD Cert.FfnDwIdeal.τ).loc Cert.FfnDwIdeal.main_arg1)) (m ((c.tc : Thread Cert.FfnDwIdeal.nD Cert.FfnDwIdeal.τ).loc Cert.FfnDwIdeal.main_arg2)) (m ((c.tc : Thread Cert.FfnDwIdeal.nD Cert.FfnDwIdeal.τ).loc Cert.FfnDwIdeal.main_arg3))).2.2.1 = (fun _ => 1#1)
    ∧ (Cert.Pre_finite_ffndw.fn (F := Ideal) (m ((c.tc : Thread Cert.FfnDwIdeal.nD Cert.FfnDwIdeal.τ).loc Cert.FfnDwIdeal.main_arg0)) (m ((c.tc : Thread Cert.FfnDwIdeal.nD Cert.FfnDwIdeal.τ).loc Cert.FfnDwIdeal.main_arg1)) (m ((c.tc : Thread Cert.FfnDwIdeal.nD Cert.FfnDwIdeal.τ).loc Cert.FfnDwIdeal.main_arg2)) (m ((c.tc : Thread Cert.FfnDwIdeal.nD Cert.FfnDwIdeal.τ).loc Cert.FfnDwIdeal.main_arg3))).2.2.2 = (fun _ => 1#1)

def Pre_FfnDwRefIdeal (m : (ℓ : Loc Cert.FfnDwRefIdeal.nD Cert.FfnDwRefIdeal.τ Cert.FfnDwRefIdeal.sig) → Buf (Elt Ideal) ℓ) : Prop :=
  True

def Pre_FfnDwRefIdeal_finite_ffndw [hPre_finite_ffndw : Cert.Pre_finite_ffndw.Facts] (m : (ℓ : Loc Cert.FfnDwRefIdeal.nD Cert.FfnDwRefIdeal.τ Cert.FfnDwRefIdeal.sig) → Buf (Elt Ideal) ℓ) : Prop :=
  ∀ c : Dev Cert.FfnDwRefIdeal.nD,
    (Cert.Pre_finite_ffndw.fn (F := Ideal) (m ((c.tc : Thread Cert.FfnDwRefIdeal.nD Cert.FfnDwRefIdeal.τ).loc Cert.FfnDwRefIdeal.main_arg0)) (m ((c.tc : Thread Cert.FfnDwRefIdeal.nD Cert.FfnDwRefIdeal.τ).loc Cert.FfnDwRefIdeal.main_arg1)) (m ((c.tc : Thread Cert.FfnDwRefIdeal.nD Cert.FfnDwRefIdeal.τ).loc Cert.FfnDwRefIdeal.main_arg2)) (m ((c.tc : Thread Cert.FfnDwRefIdeal.nD Cert.FfnDwRefIdeal.τ).loc Cert.FfnDwRefIdeal.main_arg3))).1 = (fun _ => 1#1)
    ∧ (Cert.Pre_finite_ffndw.fn (F := Ideal) (m ((c.tc : Thread Cert.FfnDwRefIdeal.nD Cert.FfnDwRefIdeal.τ).loc Cert.FfnDwRefIdeal.main_arg0)) (m ((c.tc : Thread Cert.FfnDwRefIdeal.nD Cert.FfnDwRefIdeal.τ).loc Cert.FfnDwRefIdeal.main_arg1)) (m ((c.tc : Thread Cert.FfnDwRefIdeal.nD Cert.FfnDwRefIdeal.τ).loc Cert.FfnDwRefIdeal.main_arg2)) (m ((c.tc : Thread Cert.FfnDwRefIdeal.nD Cert.FfnDwRefIdeal.τ).loc Cert.FfnDwRefIdeal.main_arg3))).2.1 = (fun _ => 1#1)
    ∧ (Cert.Pre_finite_ffndw.fn (F := Ideal) (m ((c.tc : Thread Cert.FfnDwRefIdeal.nD Cert.FfnDwRefIdeal.τ).loc Cert.FfnDwRefIdeal.main_arg0)) (m ((c.tc : Thread Cert.FfnDwRefIdeal.nD Cert.FfnDwRefIdeal.τ).loc Cert.FfnDwRefIdeal.main_arg1)) (m ((c.tc : Thread Cert.FfnDwRefIdeal.nD Cert.FfnDwRefIdeal.τ).loc Cert.FfnDwRefIdeal.main_arg2)) (m ((c.tc : Thread Cert.FfnDwRefIdeal.nD Cert.FfnDwRefIdeal.τ).loc Cert.FfnDwRefIdeal.main_arg3))).2.2.1 = (fun _ => 1#1)
    ∧ (Cert.Pre_finite_ffndw.fn (F := Ideal) (m ((c.tc : Thread Cert.FfnDwRefIdeal.nD Cert.FfnDwRefIdeal.τ).loc Cert.FfnDwRefIdeal.main_arg0)) (m ((c.tc : Thread Cert.FfnDwRefIdeal.nD Cert.FfnDwRefIdeal.τ).loc Cert.FfnDwRefIdeal.main_arg1)) (m ((c.tc : Thread Cert.FfnDwRefIdeal.nD Cert.FfnDwRefIdeal.τ).loc Cert.FfnDwRefIdeal.main_arg2)) (m ((c.tc : Thread Cert.FfnDwRefIdeal.nD Cert.FfnDwRefIdeal.τ).loc Cert.FfnDwRefIdeal.main_arg3))).2.2.2 = (fun _ => 1#1)

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwIdeal_finite_outdw [hPre_finite_outdw : Cert.Pre_finite_outdw.Facts] (m : (ℓ : Loc Cert.OutDwIdeal.nD Cert.OutDwIdeal.τ Cert.OutDwIdeal.sig) → Buf (Elt Ideal) ℓ) : Prop :=
  ∀ c : Dev Cert.OutDwIdeal.nD,
    (Cert.Pre_finite_outdw.fn (F := Ideal) (m ((c.tc : Thread Cert.OutDwIdeal.nD Cert.OutDwIdeal.τ).loc Cert.OutDwIdeal.main_arg0)) (m ((c.tc : Thread Cert.OutDwIdeal.nD Cert.OutDwIdeal.τ).loc Cert.OutDwIdeal.main_arg1)) (m ((c.tc : Thread Cert.OutDwIdeal.nD Cert.OutDwIdeal.τ).loc Cert.OutDwIdeal.main_arg2)) (m ((c.tc : Thread Cert.OutDwIdeal.nD Cert.OutDwIdeal.τ).loc Cert.OutDwIdeal.main_arg3)) (m ((c.tc : Thread Cert.OutDwIdeal.nD Cert.OutDwIdeal.τ).loc Cert.OutDwIdeal.main_arg4))).1 = (fun _ => 1#1)
    ∧ (Cert.Pre_finite_outdw.fn (F := Ideal) (m ((c.tc : Thread Cert.OutDwIdeal.nD Cert.OutDwIdeal.τ).loc Cert.OutDwIdeal.main_arg0)) (m ((c.tc : Thread Cert.OutDwIdeal.nD Cert.OutDwIdeal.τ).loc Cert.OutDwIdeal.main_arg1)) (m ((c.tc : Thread Cert.OutDwIdeal.nD Cert.OutDwIdeal.τ).loc Cert.OutDwIdeal.main_arg2)) (m ((c.tc : Thread Cert.OutDwIdeal.nD Cert.OutDwIdeal.τ).loc Cert.OutDwIdeal.main_arg3)) (m ((c.tc : Thread Cert.OutDwIdeal.nD Cert.OutDwIdeal.τ).loc Cert.OutDwIdeal.main_arg4))).2.1 = (fun _ => 1#1)
    ∧ (Cert.Pre_finite_outdw.fn (F := Ideal) (m ((c.tc : Thread Cert.OutDwIdeal.nD Cert.OutDwIdeal.τ).loc Cert.OutDwIdeal.main_arg0)) (m ((c.tc : Thread Cert.OutDwIdeal.nD Cert.OutDwIdeal.τ).loc Cert.OutDwIdeal.main_arg1)) (m ((c.tc : Thread Cert.OutDwIdeal.nD Cert.OutDwIdeal.τ).loc Cert.OutDwIdeal.main_arg2)) (m ((c.tc : Thread Cert.OutDwIdeal.nD Cert.OutDwIdeal.τ).loc Cert.OutDwIdeal.main_arg3)) (m ((c.tc : Thread Cert.OutDwIdeal.nD Cert.OutDwIdeal.τ).loc Cert.OutDwIdeal.main_arg4))).2.2.1 = (fun _ => 1#1)
    ∧ (Cert.Pre_finite_outdw.fn (F := Ideal) (m ((c.tc : Thread Cert.OutDwIdeal.nD Cert.OutDwIdeal.τ).loc Cert.OutDwIdeal.main_arg0)) (m ((c.tc : Thread Cert.OutDwIdeal.nD Cert.OutDwIdeal.τ).loc Cert.OutDwIdeal.main_arg1)) (m ((c.tc : Thread Cert.OutDwIdeal.nD Cert.OutDwIdeal.τ).loc Cert.OutDwIdeal.main_arg2)) (m ((c.tc : Thread Cert.OutDwIdeal.nD Cert.OutDwIdeal.τ).loc Cert.OutDwIdeal.main_arg3)) (m ((c.tc : Thread Cert.OutDwIdeal.nD Cert.OutDwIdeal.τ).loc Cert.OutDwIdeal.main_arg4))).2.2.2.1 = (fun _ => 1#1)
    ∧ (Cert.Pre_finite_outdw.fn (F := Ideal) (m ((c.tc : Thread Cert.OutDwIdeal.nD Cert.OutDwIdeal.τ).loc Cert.OutDwIdeal.main_arg0)) (m ((c.tc : Thread Cert.OutDwIdeal.nD Cert.OutDwIdeal.τ).loc Cert.OutDwIdeal.main_arg1)) (m ((c.tc : Thread Cert.OutDwIdeal.nD Cert.OutDwIdeal.τ).loc Cert.OutDwIdeal.main_arg2)) (m ((c.tc : Thread Cert.OutDwIdeal.nD Cert.OutDwIdeal.τ).loc Cert.OutDwIdeal.main_arg3)) (m ((c.tc : Thread Cert.OutDwIdeal.nD Cert.OutDwIdeal.τ).loc Cert.OutDwIdeal.main_arg4))).2.2.2.2 = (fun _ => 1#1)

def Pre_OutDwRefIdeal (m : (ℓ : Loc Cert.OutDwRefIdeal.nD Cert.OutDwRefIdeal.τ Cert.OutDwRefIdeal.sig) → Buf (Elt Ideal) ℓ) : Prop :=
  True

def Pre_OutDwRefIdeal_finite_outdw [hPre_finite_outdw : Cert.Pre_finite_outdw.Facts] (m : (ℓ : Loc Cert.OutDwRefIdeal.nD Cert.OutDwRefIdeal.τ Cert.OutDwRefIdeal.sig) → Buf (Elt Ideal) ℓ) : Prop :=
  ∀ c : Dev Cert.OutDwRefIdeal.nD,
    (Cert.Pre_finite_outdw.fn (F := Ideal) (m ((c.tc : Thread Cert.OutDwRefIdeal.nD Cert.OutDwRefIdeal.τ).loc Cert.OutDwRefIdeal.main_arg0)) (m ((c.tc : Thread Cert.OutDwRefIdeal.nD Cert.OutDwRefIdeal.τ).loc Cert.OutDwRefIdeal.main_arg1)) (m ((c.tc : Thread Cert.OutDwRefIdeal.nD Cert.OutDwRefIdeal.τ).loc Cert.OutDwRefIdeal.main_arg2)) (m ((c.tc : Thread Cert.OutDwRefIdeal.nD Cert.OutDwRefIdeal.τ).loc Cert.OutDwRefIdeal.main_arg3)) (m ((c.tc : Thread Cert.OutDwRefIdeal.nD Cert.OutDwRefIdeal.τ).loc Cert.OutDwRefIdeal.main_arg4))).1 = (fun _ => 1#1)
    ∧ (Cert.Pre_finite_outdw.fn (F := Ideal) (m ((c.tc : Thread Cert.OutDwRefIdeal.nD Cert.OutDwRefIdeal.τ).loc Cert.OutDwRefIdeal.main_arg0)) (m ((c.tc : Thread Cert.OutDwRefIdeal.nD Cert.OutDwRefIdeal.τ).loc Cert.OutDwRefIdeal.main_arg1)) (m ((c.tc : Thread Cert.OutDwRefIdeal.nD Cert.OutDwRefIdeal.τ).loc Cert.OutDwRefIdeal.main_arg2)) (m ((c.tc : Thread Cert.OutDwRefIdeal.nD Cert.OutDwRefIdeal.τ).loc Cert.OutDwRefIdeal.main_arg3)) (m ((c.tc : Thread Cert.OutDwRefIdeal.nD Cert.OutDwRefIdeal.τ).loc Cert.OutDwRefIdeal.main_arg4))).2.1 = (fun _ => 1#1)
    ∧ (Cert.Pre_finite_outdw.fn (F := Ideal) (m ((c.tc : Thread Cert.OutDwRefIdeal.nD Cert.OutDwRefIdeal.τ).loc Cert.OutDwRefIdeal.main_arg0)) (m ((c.tc : Thread Cert.OutDwRefIdeal.nD Cert.OutDwRefIdeal.τ).loc Cert.OutDwRefIdeal.main_arg1)) (m ((c.tc : Thread Cert.OutDwRefIdeal.nD Cert.OutDwRefIdeal.τ).loc Cert.OutDwRefIdeal.main_arg2)) (m ((c.tc : Thread Cert.OutDwRefIdeal.nD Cert.OutDwRefIdeal.τ).loc Cert.OutDwRefIdeal.main_arg3)) (m ((c.tc : Thread Cert.OutDwRefIdeal.nD Cert.OutDwRefIdeal.τ).loc Cert.OutDwRefIdeal.main_arg4))).2.2.1 = (fun _ => 1#1)
    ∧ (Cert.Pre_finite_outdw.fn (F := Ideal) (m ((c.tc : Thread Cert.OutDwRefIdeal.nD Cert.OutDwRefIdeal.τ).loc Cert.OutDwRefIdeal.main_arg0)) (m ((c.tc : Thread Cert.OutDwRefIdeal.nD Cert.OutDwRefIdeal.τ).loc Cert.OutDwRefIdeal.main_arg1)) (m ((c.tc : Thread Cert.OutDwRefIdeal.nD Cert.OutDwRefIdeal.τ).loc Cert.OutDwRefIdeal.main_arg2)) (m ((c.tc : Thread Cert.OutDwRefIdeal.nD Cert.OutDwRefIdeal.τ).loc Cert.OutDwRefIdeal.main_arg3)) (m ((c.tc : Thread Cert.OutDwRefIdeal.nD Cert.OutDwRefIdeal.τ).loc Cert.OutDwRefIdeal.main_arg4))).2.2.2.1 = (fun _ => 1#1)
    ∧ (Cert.Pre_finite_outdw.fn (F := Ideal) (m ((c.tc : Thread Cert.OutDwRefIdeal.nD Cert.OutDwRefIdeal.τ).loc Cert.OutDwRefIdeal.main_arg0)) (m ((c.tc : Thread Cert.OutDwRefIdeal.nD Cert.OutDwRefIdeal.τ).loc Cert.OutDwRefIdeal.main_arg1)) (m ((c.tc : Thread Cert.OutDwRefIdeal.nD Cert.OutDwRefIdeal.τ).loc Cert.OutDwRefIdeal.main_arg2)) (m ((c.tc : Thread Cert.OutDwRefIdeal.nD Cert.OutDwRefIdeal.τ).loc Cert.OutDwRefIdeal.main_arg3)) (m ((c.tc : Thread Cert.OutDwRefIdeal.nD Cert.OutDwRefIdeal.τ).loc Cert.OutDwRefIdeal.main_arg4))).2.2.2.2 = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInIdeal_finite_dwin [hPre_finite_dwin : Cert.Pre_finite_dwin.Facts] (m : (ℓ : Loc Cert.DwInIdeal.nD Cert.DwInIdeal.τ Cert.DwInIdeal.sig) → Buf (Elt Ideal) ℓ) : Prop :=
  ∀ c : Dev Cert.DwInIdeal.nD,
    (Cert.Pre_finite_dwin.fn (F := Ideal) (m ((c.tc : Thread Cert.DwInIdeal.nD Cert.DwInIdeal.τ).loc Cert.DwInIdeal.main_arg0)) (m ((c.tc : Thread Cert.DwInIdeal.nD Cert.DwInIdeal.τ).loc Cert.DwInIdeal.main_arg1)) (m ((c.tc : Thread Cert.DwInIdeal.nD Cert.DwInIdeal.τ).loc Cert.DwInIdeal.main_arg2)) (m ((c.tc : Thread Cert.DwInIdeal.nD Cert.DwInIdeal.τ).loc Cert.DwInIdeal.main_arg3)) (m ((c.tc : Thread Cert.DwInIdeal.nD Cert.DwInIdeal.τ).loc Cert.DwInIdeal.main_arg4)) (m ((c.tc : Thread Cert.DwInIdeal.nD Cert.DwInIdeal.τ).loc Cert.DwInIdeal.main_arg5)) (m ((c.tc : Thread Cert.DwInIdeal.nD Cert.DwInIdeal.τ).loc Cert.DwInIdeal.main_arg6))).1 = (fun _ => 1#1)
    ∧ (Cert.Pre_finite_dwin.fn (F := Ideal) (m ((c.tc : Thread Cert.DwInIdeal.nD Cert.DwInIdeal.τ).loc Cert.DwInIdeal.main_arg0)) (m ((c.tc : Thread Cert.DwInIdeal.nD Cert.DwInIdeal.τ).loc Cert.DwInIdeal.main_arg1)) (m ((c.tc : Thread Cert.DwInIdeal.nD Cert.DwInIdeal.τ).loc Cert.DwInIdeal.main_arg2)) (m ((c.tc : Thread Cert.DwInIdeal.nD Cert.DwInIdeal.τ).loc Cert.DwInIdeal.main_arg3)) (m ((c.tc : Thread Cert.DwInIdeal.nD Cert.DwInIdeal.τ).loc Cert.DwInIdeal.main_arg4)) (m ((c.tc : Thread Cert.DwInIdeal.nD Cert.DwInIdeal.τ).loc Cert.DwInIdeal.main_arg5)) (m ((c.tc : Thread Cert.DwInIdeal.nD Cert.DwInIdeal.τ).loc Cert.DwInIdeal.main_arg6))).2.1 = (fun _ => 1#1)
    ∧ (Cert.Pre_finite_dwin.fn (F := Ideal) (m ((c.tc : Thread Cert.DwInIdeal.nD Cert.DwInIdeal.τ).loc Cert.DwInIdeal.main_arg0)) (m ((c.tc : Thread Cert.DwInIdeal.nD Cert.DwInIdeal.τ).loc Cert.DwInIdeal.main_arg1)) (m ((c.tc : Thread Cert.DwInIdeal.nD Cert.DwInIdeal.τ).loc Cert.DwInIdeal.main_arg2)) (m ((c.tc : Thread Cert.DwInIdeal.nD Cert.DwInIdeal.τ).loc Cert.DwInIdeal.main_arg3)) (m ((c.tc : Thread Cert.DwInIdeal.nD Cert.DwInIdeal.τ).loc Cert.DwInIdeal.main_arg4)) (m ((c.tc : Thread Cert.DwInIdeal.nD Cert.DwInIdeal.τ).loc Cert.DwInIdeal.main_arg5)) (m ((c.tc : Thread Cert.DwInIdeal.nD Cert.DwInIdeal.τ).loc Cert.DwInIdeal.main_arg6))).2.2.1 = (fun _ => 1#1)
    ∧ (Cert.Pre_finite_dwin.fn (F := Ideal) (m ((c.tc : Thread Cert.DwInIdeal.nD Cert.DwInIdeal.τ).loc Cert.DwInIdeal.main_arg0)) (m ((c.tc : Thread Cert.DwInIdeal.nD Cert.DwInIdeal.τ).loc Cert.DwInIdeal.main_arg1)) (m ((c.tc : Thread Cert.DwInIdeal.nD Cert.DwInIdeal.τ).loc Cert.DwInIdeal.main_arg2)) (m ((c.tc : Thread Cert.DwInIdeal.nD Cert.DwInIdeal.τ).loc Cert.DwInIdeal.main_arg3)) (m ((c.tc : Thread Cert.DwInIdeal.nD Cert.DwInIdeal.τ).loc Cert.DwInIdeal.main_arg4)) (m ((c.tc : Thread Cert.DwInIdeal.nD Cert.DwInIdeal.τ).loc Cert.DwInIdeal.main_arg5)) (m ((c.tc : Thread Cert.DwInIdeal.nD Cert.DwInIdeal.τ).loc Cert.DwInIdeal.main_arg6))).2.2.2.1 = (fun _ => 1#1)
    ∧ (Cert.Pre_finite_dwin.fn (F := Ideal) (m ((c.tc : Thread Cert.DwInIdeal.nD Cert.DwInIdeal.τ).loc Cert.DwInIdeal.main_arg0)) (m ((c.tc : Thread Cert.DwInIdeal.nD Cert.DwInIdeal.τ).loc Cert.DwInIdeal.main_arg1)) (m ((c.tc : Thread Cert.DwInIdeal.nD Cert.DwInIdeal.τ).loc Cert.DwInIdeal.main_arg2)) (m ((c.tc : Thread Cert.DwInIdeal.nD Cert.DwInIdeal.τ).loc Cert.DwInIdeal.main_arg3)) (m ((c.tc : Thread Cert.DwInIdeal.nD Cert.DwInIdeal.τ).loc Cert.DwInIdeal.main_arg4)) (m ((c.tc : Thread Cert.DwInIdeal.nD Cert.DwInIdeal.τ).loc Cert.DwInIdeal.main_arg5)) (m ((c.tc : Thread Cert.DwInIdeal.nD Cert.DwInIdeal.τ).loc Cert.DwInIdeal.main_arg6))).2.2.2.2.1 = (fun _ => 1#1)
    ∧ (Cert.Pre_finite_dwin.fn (F := Ideal) (m ((c.tc : Thread Cert.DwInIdeal.nD Cert.DwInIdeal.τ).loc Cert.DwInIdeal.main_arg0)) (m ((c.tc : Thread Cert.DwInIdeal.nD Cert.DwInIdeal.τ).loc Cert.DwInIdeal.main_arg1)) (m ((c.tc : Thread Cert.DwInIdeal.nD Cert.DwInIdeal.τ).loc Cert.DwInIdeal.main_arg2)) (m ((c.tc : Thread Cert.DwInIdeal.nD Cert.DwInIdeal.τ).loc Cert.DwInIdeal.main_arg3)) (m ((c.tc : Thread Cert.DwInIdeal.nD Cert.DwInIdeal.τ).loc Cert.DwInIdeal.main_arg4)) (m ((c.tc : Thread Cert.DwInIdeal.nD Cert.DwInIdeal.τ).loc Cert.DwInIdeal.main_arg5)) (m ((c.tc : Thread Cert.DwInIdeal.nD Cert.DwInIdeal.τ).loc Cert.DwInIdeal.main_arg6))).2.2.2.2.2.1 = (fun _ => 1#1)
    ∧ (Cert.Pre_finite_dwin.fn (F := Ideal) (m ((c.tc : Thread Cert.DwInIdeal.nD Cert.DwInIdeal.τ).loc Cert.DwInIdeal.main_arg0)) (m ((c.tc : Thread Cert.DwInIdeal.nD Cert.DwInIdeal.τ).loc Cert.DwInIdeal.main_arg1)) (m ((c.tc : Thread Cert.DwInIdeal.nD Cert.DwInIdeal.τ).loc Cert.DwInIdeal.main_arg2)) (m ((c.tc : Thread Cert.DwInIdeal.nD Cert.DwInIdeal.τ).loc Cert.DwInIdeal.main_arg3)) (m ((c.tc : Thread Cert.DwInIdeal.nD Cert.DwInIdeal.τ).loc Cert.DwInIdeal.main_arg4)) (m ((c.tc : Thread Cert.DwInIdeal.nD Cert.DwInIdeal.τ).loc Cert.DwInIdeal.main_arg5)) (m ((c.tc : Thread Cert.DwInIdeal.nD Cert.DwInIdeal.τ).loc Cert.DwInIdeal.main_arg6))).2.2.2.2.2.2 = (fun _ => 1#1)

def Pre_DwInRefIdeal (m : (ℓ : Loc Cert.DwInRefIdeal.nD Cert.DwInRefIdeal.τ Cert.DwInRefIdeal.sig) → Buf (Elt Ideal) ℓ) : Prop :=
  True

def Pre_DwInRefIdeal_finite_dwin [hPre_finite_dwin : Cert.Pre_finite_dwin.Facts] (m : (ℓ : Loc Cert.DwInRefIdeal.nD Cert.DwInRefIdeal.τ Cert.DwInRefIdeal.sig) → Buf (Elt Ideal) ℓ) : Prop :=
  ∀ c : Dev Cert.DwInRefIdeal.nD,
    (Cert.Pre_finite_dwin.fn (F := Ideal) (m ((c.tc : Thread Cert.DwInRefIdeal.nD Cert.DwInRefIdeal.τ).loc Cert.DwInRefIdeal.main_arg0)) (m ((c.tc : Thread Cert.DwInRefIdeal.nD Cert.DwInRefIdeal.τ).loc Cert.DwInRefIdeal.main_arg1)) (m ((c.tc : Thread Cert.DwInRefIdeal.nD Cert.DwInRefIdeal.τ).loc Cert.DwInRefIdeal.main_arg2)) (m ((c.tc : Thread Cert.DwInRefIdeal.nD Cert.DwInRefIdeal.τ).loc Cert.DwInRefIdeal.main_arg3)) (m ((c.tc : Thread Cert.DwInRefIdeal.nD Cert.DwInRefIdeal.τ).loc Cert.DwInRefIdeal.main_arg4)) (m ((c.tc : Thread Cert.DwInRefIdeal.nD Cert.DwInRefIdeal.τ).loc Cert.DwInRefIdeal.main_arg5)) (m ((c.tc : Thread Cert.DwInRefIdeal.nD Cert.DwInRefIdeal.τ).loc Cert.DwInRefIdeal.main_arg6))).1 = (fun _ => 1#1)
    ∧ (Cert.Pre_finite_dwin.fn (F := Ideal) (m ((c.tc : Thread Cert.DwInRefIdeal.nD Cert.DwInRefIdeal.τ).loc Cert.DwInRefIdeal.main_arg0)) (m ((c.tc : Thread Cert.DwInRefIdeal.nD Cert.DwInRefIdeal.τ).loc Cert.DwInRefIdeal.main_arg1)) (m ((c.tc : Thread Cert.DwInRefIdeal.nD Cert.DwInRefIdeal.τ).loc Cert.DwInRefIdeal.main_arg2)) (m ((c.tc : Thread Cert.DwInRefIdeal.nD Cert.DwInRefIdeal.τ).loc Cert.DwInRefIdeal.main_arg3)) (m ((c.tc : Thread Cert.DwInRefIdeal.nD Cert.DwInRefIdeal.τ).loc Cert.DwInRefIdeal.main_arg4)) (m ((c.tc : Thread Cert.DwInRefIdeal.nD Cert.DwInRefIdeal.τ).loc Cert.DwInRefIdeal.main_arg5)) (m ((c.tc : Thread Cert.DwInRefIdeal.nD Cert.DwInRefIdeal.τ).loc Cert.DwInRefIdeal.main_arg6))).2.1 = (fun _ => 1#1)
    ∧ (Cert.Pre_finite_dwin.fn (F := Ideal) (m ((c.tc : Thread Cert.DwInRefIdeal.nD Cert.DwInRefIdeal.τ).loc Cert.DwInRefIdeal.main_arg0)) (m ((c.tc : Thread Cert.DwInRefIdeal.nD Cert.DwInRefIdeal.τ).loc Cert.DwInRefIdeal.main_arg1)) (m ((c.tc : Thread Cert.DwInRefIdeal.nD Cert.DwInRefIdeal.τ).loc Cert.DwInRefIdeal.main_arg2)) (m ((c.tc : Thread Cert.DwInRefIdeal.nD Cert.DwInRefIdeal.τ).loc Cert.DwInRefIdeal.main_arg3)) (m ((c.tc : Thread Cert.DwInRefIdeal.nD Cert.DwInRefIdeal.τ).loc Cert.DwInRefIdeal.main_arg4)) (m ((c.tc : Thread Cert.DwInRefIdeal.nD Cert.DwInRefIdeal.τ).loc Cert.DwInRefIdeal.main_arg5)) (m ((c.tc : Thread Cert.DwInRefIdeal.nD Cert.DwInRefIdeal.τ).loc Cert.DwInRefIdeal.main_arg6))).2.2.1 = (fun _ => 1#1)
    ∧ (Cert.Pre_finite_dwin.fn (F := Ideal) (m ((c.tc : Thread Cert.DwInRefIdeal.nD Cert.DwInRefIdeal.τ).loc Cert.DwInRefIdeal.main_arg0)) (m ((c.tc : Thread Cert.DwInRefIdeal.nD Cert.DwInRefIdeal.τ).loc Cert.DwInRefIdeal.main_arg1)) (m ((c.tc : Thread Cert.DwInRefIdeal.nD Cert.DwInRefIdeal.τ).loc Cert.DwInRefIdeal.main_arg2)) (m ((c.tc : Thread Cert.DwInRefIdeal.nD Cert.DwInRefIdeal.τ).loc Cert.DwInRefIdeal.main_arg3)) (m ((c.tc : Thread Cert.DwInRefIdeal.nD Cert.DwInRefIdeal.τ).loc Cert.DwInRefIdeal.main_arg4)) (m ((c.tc : Thread Cert.DwInRefIdeal.nD Cert.DwInRefIdeal.τ).loc Cert.DwInRefIdeal.main_arg5)) (m ((c.tc : Thread Cert.DwInRefIdeal.nD Cert.DwInRefIdeal.τ).loc Cert.DwInRefIdeal.main_arg6))).2.2.2.1 = (fun _ => 1#1)
    ∧ (Cert.Pre_finite_dwin.fn (F := Ideal) (m ((c.tc : Thread Cert.DwInRefIdeal.nD Cert.DwInRefIdeal.τ).loc Cert.DwInRefIdeal.main_arg0)) (m ((c.tc : Thread Cert.DwInRefIdeal.nD Cert.DwInRefIdeal.τ).loc Cert.DwInRefIdeal.main_arg1)) (m ((c.tc : Thread Cert.DwInRefIdeal.nD Cert.DwInRefIdeal.τ).loc Cert.DwInRefIdeal.main_arg2)) (m ((c.tc : Thread Cert.DwInRefIdeal.nD Cert.DwInRefIdeal.τ).loc Cert.DwInRefIdeal.main_arg3)) (m ((c.tc : Thread Cert.DwInRefIdeal.nD Cert.DwInRefIdeal.τ).loc Cert.DwInRefIdeal.main_arg4)) (m ((c.tc : Thread Cert.DwInRefIdeal.nD Cert.DwInRefIdeal.τ).loc Cert.DwInRefIdeal.main_arg5)) (m ((c.tc : Thread Cert.DwInRefIdeal.nD Cert.DwInRefIdeal.τ).loc Cert.DwInRefIdeal.main_arg6))).2.2.2.2.1 = (fun _ => 1#1)
    ∧ (Cert.Pre_finite_dwin.fn (F := Ideal) (m ((c.tc : Thread Cert.DwInRefIdeal.nD Cert.DwInRefIdeal.τ).loc Cert.DwInRefIdeal.main_arg0)) (m ((c.tc : Thread Cert.DwInRefIdeal.nD Cert.DwInRefIdeal.τ).loc Cert.DwInRefIdeal.main_arg1)) (m ((c.tc : Thread Cert.DwInRefIdeal.nD Cert.DwInRefIdeal.τ).loc Cert.DwInRefIdeal.main_arg2)) (m ((c.tc : Thread Cert.DwInRefIdeal.nD Cert.DwInRefIdeal.τ).loc Cert.DwInRefIdeal.main_arg3)) (m ((c.tc : Thread Cert.DwInRefIdeal.nD Cert.DwInRefIdeal.τ).loc Cert.DwInRefIdeal.main_arg4)) (m ((c.tc : Thread Cert.DwInRefIdeal.nD Cert.DwInRefIdeal.τ).loc Cert.DwInRefIdeal.main_arg5)) (m ((c.tc : Thread Cert.DwInRefIdeal.nD Cert.DwInRefIdeal.τ).loc Cert.DwInRefIdeal.main_arg6))).2.2.2.2.2.1 = (fun _ => 1#1)
    ∧ (Cert.Pre_finite_dwin.fn (F := Ideal) (m ((c.tc : Thread Cert.DwInRefIdeal.nD Cert.DwInRefIdeal.τ).loc Cert.DwInRefIdeal.main_arg0)) (m ((c.tc : Thread Cert.DwInRefIdeal.nD Cert.DwInRefIdeal.τ).loc Cert.DwInRefIdeal.main_arg1)) (m ((c.tc : Thread Cert.DwInRefIdeal.nD Cert.DwInRefIdeal.τ).loc Cert.DwInRefIdeal.main_arg2)) (m ((c.tc : Thread Cert.DwInRefIdeal.nD Cert.DwInRefIdeal.τ).loc Cert.DwInRefIdeal.main_arg3)) (m ((c.tc : Thread Cert.DwInRefIdeal.nD Cert.DwInRefIdeal.τ).loc Cert.DwInRefIdeal.main_arg4)) (m ((c.tc : Thread Cert.DwInRefIdeal.nD Cert.DwInRefIdeal.τ).loc Cert.DwInRefIdeal.main_arg5)) (m ((c.tc : Thread Cert.DwInRefIdeal.nD Cert.DwInRefIdeal.τ).loc Cert.DwInRefIdeal.main_arg6))).2.2.2.2.2.2 = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Gm [hGm : Cert.Gm.Facts] : Prop :=
  ∀ (m : (ℓ : Loc Cert.Gm.nD Cert.Gm.τ Cert.Gm.sig) → Buf (Elt Bits) ℓ) (g : Dev Cert.Gm.nD → PrngReg), Pre_Gm m →
    θ_run (Cert.Gm.defs (F := Bits)) (onTc (τ := Cert.Gm.τ) (Cert.Gm.main (F := Bits))) ⟨m, fun _ => 0, g⟩ (fun r => (∀ c : Dev Cert.Gm.nD,
      r.2.mem ((c.tc : Thread Cert.Gm.nD Cert.Gm.τ).loc Cert.Gm.main_arg0) = m ((c.tc : Thread Cert.Gm.nD Cert.Gm.τ).loc Cert.Gm.main_arg0)
      ∧ r.2.mem ((c.tc : Thread Cert.Gm.nD Cert.Gm.τ).loc Cert.Gm.main_arg1) = m ((c.tc : Thread Cert.Gm.nD Cert.Gm.τ).loc Cert.Gm.main_arg1)
      ∧ r.2.mem ((c.tc : Thread Cert.Gm.nD Cert.Gm.τ).loc Cert.Gm.main_arg2) = m ((c.tc : Thread Cert.Gm.nD Cert.Gm.τ).loc Cert.Gm.main_arg2)
      ∧ r.2.mem ((c.tc : Thread Cert.Gm.nD Cert.Gm.τ).loc Cert.Gm.main_arg3) = m ((c.tc : Thread Cert.Gm.nD Cert.Gm.τ).loc Cert.Gm.main_arg3)
      ∧ r.2.mem ((c.tc : Thread Cert.Gm.nD Cert.Gm.τ).loc Cert.Gm.main_arg4) = m ((c.tc : Thread Cert.Gm.nD Cert.Gm.τ).loc Cert.Gm.main_arg4)
      ∧ r.2.mem ((c.tc : Thread Cert.Gm.nD Cert.Gm.τ).loc Cert.Gm.main_arg5) = m ((c.tc : Thread Cert.Gm.nD Cert.Gm.τ).loc Cert.Gm.main_arg5))
      ∧ r.2.sem = fun _ => 0)

def quiescent_GmIdeal [hGmIdeal : Cert.GmIdeal.Facts] : Prop :=
  ∀ (m : (ℓ : Loc Cert.GmIdeal.nD Cert.GmIdeal.τ Cert.GmIdeal.sig) → Buf (Elt Ideal) ℓ) (g : Dev Cert.GmIdeal.nD → PrngReg), Pre_GmIdeal m →
    θ_run (Cert.GmIdeal.defs (F := Ideal)) (onTc (τ := Cert.GmIdeal.τ) (Cert.GmIdeal.main (F := Ideal))) ⟨m, fun _ => 0, g⟩ (fun r => (∀ c : Dev Cert.GmIdeal.nD,
      r.2.mem ((c.tc : Thread Cert.GmIdeal.nD Cert.GmIdeal.τ).loc Cert.GmIdeal.main_arg0) = m ((c.tc : Thread Cert.GmIdeal.nD Cert.GmIdeal.τ).loc Cert.GmIdeal.main_arg0)
      ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
      ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
      ∧ r.2.mem ((c.tc : Thread Cert.GmIdeal.nD Cert.GmIdeal.τ).loc Cert.GmIdeal.main_arg3) = m ((c.tc : Thread Cert.GmIdeal.nD Cert.GmIdeal.τ).loc Cert.GmIdeal.main_arg3)
      ∧ r.2.mem ((c.tc : Thread Cert.GmIdeal.nD Cert.GmIdeal.τ).loc Cert.GmIdeal.main_arg4) = m ((c.tc : Thread Cert.GmIdeal.nD Cert.GmIdeal.τ).loc Cert.GmIdeal.main_arg4)
      ∧ r.2.mem ((c.tc : Thread Cert.GmIdeal.nD Cert.GmIdeal.τ).loc Cert.GmIdeal.main_arg5) = m ((c.tc : Thread Cert.GmIdeal.nD Cert.GmIdeal.τ).loc Cert.GmIdeal.main_arg5))
      ∧ r.2.sem = fun _ => 0)

def quiescent_GmIdeal_pre_finite_gm [hGmIdeal : Cert.GmIdeal.Facts] [hPre_finite_gm : Cert.Pre_finite_gm.Facts] : Prop :=
  ∀ (m : (ℓ : Loc Cert.GmIdeal.nD Cert.GmIdeal.τ Cert.GmIdeal.sig) → Buf (Elt Ideal) ℓ) (g : Dev Cert.GmIdeal.nD → PrngReg), Pre_GmIdeal_finite_gm m →
    θ_run (Cert.GmIdeal.defs (F := Ideal)) (onTc (τ := Cert.GmIdeal.τ) (Cert.GmIdeal.main (F := Ideal))) ⟨m, fun _ => 0, g⟩ (fun r => (∀ c : Dev Cert.GmIdeal.nD,
      r.2.mem ((c.tc : Thread Cert.GmIdeal.nD Cert.GmIdeal.τ).loc Cert.GmIdeal.main_arg0) = m ((c.tc : Thread Cert.GmIdeal.nD Cert.GmIdeal.τ).loc Cert.GmIdeal.main_arg0)
      ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
      ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
      ∧ r.2.mem ((c.tc : Thread Cert.GmIdeal.nD Cert.GmIdeal.τ).loc Cert.GmIdeal.main_arg3) = m ((c.tc : Thread Cert.GmIdeal.nD Cert.GmIdeal.τ).loc Cert.GmIdeal.main_arg3)
      ∧ r.2.mem ((c.tc : Thread Cert.GmIdeal.nD Cert.GmIdeal.τ).loc Cert.GmIdeal.main_arg4) = m ((c.tc : Thread Cert.GmIdeal.nD Cert.GmIdeal.τ).loc Cert.GmIdeal.main_arg4)
      ∧ r.2.mem ((c.tc : Thread Cert.GmIdeal.nD Cert.GmIdeal.τ).loc Cert.GmIdeal.main_arg5) = m ((c.tc : Thread Cert.GmIdeal.nD Cert.GmIdeal.τ).loc Cert.GmIdeal.main_arg5))
      ∧ r.2.sem = fun _ => 0)

def quiescent_GmRefIdeal [hGmRefIdeal : Cert.GmRefIdeal.Facts] : Prop :=
  ∀ (m : (ℓ : Loc Cert.GmRefIdeal.nD Cert.GmRefIdeal.τ Cert.GmRefIdeal.sig) → Buf (Elt Ideal) ℓ) (g : Dev Cert.GmRefIdeal.nD → PrngReg), Pre_GmRefIdeal m →
    θ_run (Cert.GmRefIdeal.defs (F := Ideal)) (onTc (τ := Cert.GmRefIdeal.τ) (Cert.GmRefIdeal.main (F := Ideal))) ⟨m, fun _ => 0, g⟩ (fun r => (∀ c : Dev Cert.GmRefIdeal.nD,
      r.2.mem ((c.tc : Thread Cert.GmRefIdeal.nD Cert.GmRefIdeal.τ).loc Cert.GmRefIdeal.main_arg0) = m ((c.tc : Thread Cert.GmRefIdeal.nD Cert.GmRefIdeal.τ).loc Cert.GmRefIdeal.main_arg0)
      ∧ r.2.mem ((c.tc : Thread Cert.GmRefIdeal.nD Cert.GmRefIdeal.τ).loc Cert.GmRefIdeal.main_arg1) = m ((c.tc : Thread Cert.GmRefIdeal.nD Cert.GmRefIdeal.τ).loc Cert.GmRefIdeal.main_arg1)
      ∧ r.2.mem ((c.tc : Thread Cert.GmRefIdeal.nD Cert.GmRefIdeal.τ).loc Cert.GmRefIdeal.main_arg2) = m ((c.tc : Thread Cert.GmRefIdeal.nD Cert.GmRefIdeal.τ).loc Cert.GmRefIdeal.main_arg2)
      ∧ r.2.mem ((c.tc : Thread Cert.GmRefIdeal.nD Cert.GmRefIdeal.τ).loc Cert.GmRefIdeal.main_arg3) = m ((c.tc : Thread Cert.GmRefIdeal.nD Cert.GmRefIdeal.τ).loc Cert.GmRefIdeal.main_arg3)
      ∧ r.2.mem ((c.tc : Thread Cert.GmRefIdeal.nD Cert.GmRefIdeal.τ).loc Cert.GmRefIdeal.main_arg4) = m ((c.tc : Thread Cert.GmRefIdeal.nD Cert.GmRefIdeal.τ).loc Cert.GmRefIdeal.main_arg4)
      ∧ r.2.mem ((c.tc : Thread Cert.GmRefIdeal.nD Cert.GmRefIdeal.τ).loc Cert.GmRefIdeal.main_arg5) = m ((c.tc : Thread Cert.GmRefIdeal.nD Cert.GmRefIdeal.τ).loc Cert.GmRefIdeal.main_arg5))
      ∧ r.2.sem = fun _ => 0)

def quiescent_GmRefIdeal_pre_finite_gm [hGmRefIdeal : Cert.GmRefIdeal.Facts] [hPre_finite_gm : Cert.Pre_finite_gm.Facts] : Prop :=
  ∀ (m : (ℓ : Loc Cert.GmRefIdeal.nD Cert.GmRefIdeal.τ Cert.GmRefIdeal.sig) → Buf (Elt Ideal) ℓ) (g : Dev Cert.GmRefIdeal.nD → PrngReg), Pre_GmRefIdeal_finite_gm m →
    θ_run (Cert.GmRefIdeal.defs (F := Ideal)) (onTc (τ := Cert.GmRefIdeal.τ) (Cert.GmRefIdeal.main (F := Ideal))) ⟨m, fun _ => 0, g⟩ (fun r => (∀ c : Dev Cert.GmRefIdeal.nD,
      r.2.mem ((c.tc : Thread Cert.GmRefIdeal.nD Cert.GmRefIdeal.τ).loc Cert.GmRefIdeal.main_arg0) = m ((c.tc : Thread Cert.GmRefIdeal.nD Cert.GmRefIdeal.τ).loc Cert.GmRefIdeal.main_arg0)
      ∧ r.2.mem ((c.tc : Thread Cert.GmRefIdeal.nD Cert.GmRefIdeal.τ).loc Cert.GmRefIdeal.main_arg1) = m ((c.tc : Thread Cert.GmRefIdeal.nD Cert.GmRefIdeal.τ).loc Cert.GmRefIdeal.main_arg1)
      ∧ r.2.mem ((c.tc : Thread Cert.GmRefIdeal.nD Cert.GmRefIdeal.τ).loc Cert.GmRefIdeal.main_arg2) = m ((c.tc : Thread Cert.GmRefIdeal.nD Cert.GmRefIdeal.τ).loc Cert.GmRefIdeal.main_arg2)
      ∧ r.2.mem ((c.tc : Thread Cert.GmRefIdeal.nD Cert.GmRefIdeal.τ).loc Cert.GmRefIdeal.main_arg3) = m ((c.tc : Thread Cert.GmRefIdeal.nD Cert.GmRefIdeal.τ).loc Cert.GmRefIdeal.main_arg3)
      ∧ r.2.mem ((c.tc : Thread Cert.GmRefIdeal.nD Cert.GmRefIdeal.τ).loc Cert.GmRefIdeal.main_arg4) = m ((c.tc : Thread Cert.GmRefIdeal.nD Cert.GmRefIdeal.τ).loc Cert.GmRefIdeal.main_arg4)
      ∧ r.2.mem ((c.tc : Thread Cert.GmRefIdeal.nD Cert.GmRefIdeal.τ).loc Cert.GmRefIdeal.main_arg5) = m ((c.tc : Thread Cert.GmRefIdeal.nD Cert.GmRefIdeal.τ).loc Cert.GmRefIdeal.main_arg5))
      ∧ r.2.sem = fun _ => 0)

def quiescent_RetMain [hRetMain : Cert.RetMain.Facts] : Prop :=
  ∀ (m : (ℓ : Loc Cert.RetMain.nD Cert.RetMain.τ Cert.RetMain.sig) → Buf (Elt Bits) ℓ) (g : Dev Cert.RetMain.nD → PrngReg), Pre_RetMain m →
    θ_run (Cert.RetMain.defs (F := Bits)) (onTc (τ := Cert.RetMain.τ) (Cert.RetMain.main (F := Bits))) ⟨m, fun _ => 0, g⟩ (fun r => (∀ c : Dev Cert.RetMain.nD,
      r.2.mem ((c.tc : Thread Cert.RetMain.nD Cert.RetMain.τ).loc Cert.RetMain.main_arg0) = m ((c.tc : Thread Cert.RetMain.nD Cert.RetMain.τ).loc Cert.RetMain.main_arg0)
      ∧ r.2.mem ((c.tc : Thread Cert.RetMain.nD Cert.RetMain.τ).loc Cert.RetMain.main_arg1) = m ((c.tc : Thread Cert.RetMain.nD Cert.RetMain.τ).loc Cert.RetMain.main_arg1)
      ∧ r.2.mem ((c.tc : Thread Cert.RetMain.nD Cert.RetMain.τ).loc Cert.RetMain.main_arg2) = m ((c.tc : Thread Cert.RetMain.nD Cert.RetMain.τ).loc Cert.RetMain.main_arg2)
      ∧ r.2.mem ((c.tc : Thread Cert.RetMain.nD Cert.RetMain.τ).loc Cert.RetMain.main_arg3) = m ((c.tc : Thread Cert.RetMain.nD Cert.RetMain.τ).loc Cert.RetMain.main_arg3)
      ∧ r.2.mem ((c.tc : Thread Cert.RetMain.nD Cert.RetMain.τ).loc Cert.RetMain.main_arg4) = m ((c.tc : Thread Cert.RetMain.nD Cert.RetMain.τ).loc Cert.RetMain.main_arg4)
      ∧ r.2.mem ((c.tc : Thread Cert.RetMain.nD Cert.RetMain.τ).loc Cert.RetMain.main_arg5) = m ((c.tc : Thread Cert.RetMain.nD Cert.RetMain.τ).loc Cert.RetMain.main_arg5))
      ∧ r.2.sem = fun _ => 0)

def quiescent_RetMainIdeal [hRetMainIdeal : Cert.RetMainIdeal.Facts] : Prop :=
  ∀ (m : (ℓ : Loc Cert.RetMainIdeal.nD Cert.RetMainIdeal.τ Cert.RetMainIdeal.sig) → Buf (Elt Ideal) ℓ) (g : Dev Cert.RetMainIdeal.nD → PrngReg), Pre_RetMainIdeal m →
    θ_run (Cert.RetMainIdeal.defs (F := Ideal)) (onTc (τ := Cert.RetMainIdeal.τ) (Cert.RetMainIdeal.main (F := Ideal))) ⟨m, fun _ => 0, g⟩ (fun r => (∀ c : Dev Cert.RetMainIdeal.nD,
      r.2.mem ((c.tc : Thread Cert.RetMainIdeal.nD Cert.RetMainIdeal.τ).loc Cert.RetMainIdeal.main_arg0) = m ((c.tc : Thread Cert.RetMainIdeal.nD Cert.RetMainIdeal.τ).loc Cert.RetMainIdeal.main_arg0)
      ∧ r.2.mem ((c.tc : Thread Cert.RetMainIdeal.nD Cert.RetMainIdeal.τ).loc Cert.RetMainIdeal.main_arg1) = m ((c.tc : Thread Cert.RetMainIdeal.nD Cert.RetMainIdeal.τ).loc Cert.RetMainIdeal.main_arg1)
      ∧ r.2.mem ((c.tc : Thread Cert.RetMainIdeal.nD Cert.RetMainIdeal.τ).loc Cert.RetMainIdeal.main_arg2) = m ((c.tc : Thread Cert.RetMainIdeal.nD Cert.RetMainIdeal.τ).loc Cert.RetMainIdeal.main_arg2)
      ∧ r.2.mem ((c.tc : Thread Cert.RetMainIdeal.nD Cert.RetMainIdeal.τ).loc Cert.RetMainIdeal.main_arg3) = m ((c.tc : Thread Cert.RetMainIdeal.nD Cert.RetMainIdeal.τ).loc Cert.RetMainIdeal.main_arg3)
      ∧ r.2.mem ((c.tc : Thread Cert.RetMainIdeal.nD Cert.RetMainIdeal.τ).loc Cert.RetMainIdeal.main_arg4) = m ((c.tc : Thread Cert.RetMainIdeal.nD Cert.RetMainIdeal.τ).loc Cert.RetMainIdeal.main_arg4)
      ∧ r.2.mem ((c.tc : Thread Cert.RetMainIdeal.nD Cert.RetMainIdeal.τ).loc Cert.RetMainIdeal.main_arg5) = m ((c.tc : Thread Cert.RetMainIdeal.nD Cert.RetMainIdeal.τ).loc Cert.RetMainIdeal.main_arg5))
      ∧ r.2.sem = fun _ => 0)

def quiescent_RetMainIdeal_pre_finite_retmain [hRetMainIdeal : Cert.RetMainIdeal.Facts] [hPre_finite_retmain : Cert.Pre_finite_retmain.Facts] : Prop :=
  ∀ (m : (ℓ : Loc Cert.RetMainIdeal.nD Cert.RetMainIdeal.τ Cert.RetMainIdeal.sig) → Buf (Elt Ideal) ℓ) (g : Dev Cert.RetMainIdeal.nD → PrngReg), Pre_RetMainIdeal_finite_retmain m →
    θ_run (Cert.RetMainIdeal.defs (F := Ideal)) (onTc (τ := Cert.RetMainIdeal.τ) (Cert.RetMainIdeal.main (F := Ideal))) ⟨m, fun _ => 0, g⟩ (fun r => (∀ c : Dev Cert.RetMainIdeal.nD,
      r.2.mem ((c.tc : Thread Cert.RetMainIdeal.nD Cert.RetMainIdeal.τ).loc Cert.RetMainIdeal.main_arg0) = m ((c.tc : Thread Cert.RetMainIdeal.nD Cert.RetMainIdeal.τ).loc Cert.RetMainIdeal.main_arg0)
      ∧ r.2.mem ((c.tc : Thread Cert.RetMainIdeal.nD Cert.RetMainIdeal.τ).loc Cert.RetMainIdeal.main_arg1) = m ((c.tc : Thread Cert.RetMainIdeal.nD Cert.RetMainIdeal.τ).loc Cert.RetMainIdeal.main_arg1)
      ∧ r.2.mem ((c.tc : Thread Cert.RetMainIdeal.nD Cert.RetMainIdeal.τ).loc Cert.RetMainIdeal.main_arg2) = m ((c.tc : Thread Cert.RetMainIdeal.nD Cert.RetMainIdeal.τ).loc Cert.RetMainIdeal.main_arg2)
      ∧ r.2.mem ((c.tc : Thread Cert.RetMainIdeal.nD Cert.RetMainIdeal.τ).loc Cert.RetMainIdeal.main_arg3) = m ((c.tc : Thread Cert.RetMainIdeal.nD Cert.RetMainIdeal.τ).loc Cert.RetMainIdeal.main_arg3)
      ∧ r.2.mem ((c.tc : Thread Cert.RetMainIdeal.nD Cert.RetMainIdeal.τ).loc Cert.RetMainIdeal.main_arg4) = m ((c.tc : Thread Cert.RetMainIdeal.nD Cert.RetMainIdeal.τ).loc Cert.RetMainIdeal.main_arg4)
      ∧ r.2.mem ((c.tc : Thread Cert.RetMainIdeal.nD Cert.RetMainIdeal.τ).loc Cert.RetMainIdeal.main_arg5) = m ((c.tc : Thread Cert.RetMainIdeal.nD Cert.RetMainIdeal.τ).loc Cert.RetMainIdeal.main_arg5))
      ∧ r.2.sem = fun _ => 0)

def quiescent_RetMainRefIdeal [hRetMainRefIdeal : Cert.RetMainRefIdeal.Facts] : Prop :=
  ∀ (m : (ℓ : Loc Cert.RetMainRefIdeal.nD Cert.RetMainRefIdeal.τ Cert.RetMainRefIdeal.sig) → Buf (Elt Ideal) ℓ) (g : Dev Cert.RetMainRefIdeal.nD → PrngReg), Pre_RetMainRefIdeal m →
    θ_run (Cert.RetMainRefIdeal.defs (F := Ideal)) (onTc (τ := Cert.RetMainRefIdeal.τ) (Cert.RetMainRefIdeal.main (F := Ideal))) ⟨m, fun _ => 0, g⟩ (fun r => (∀ c : Dev Cert.RetMainRefIdeal.nD,
      r.2.mem ((c.tc : Thread Cert.RetMainRefIdeal.nD Cert.RetMainRefIdeal.τ).loc Cert.RetMainRefIdeal.main_arg0) = m ((c.tc : Thread Cert.RetMainRefIdeal.nD Cert.RetMainRefIdeal.τ).loc Cert.RetMainRefIdeal.main_arg0)
      ∧ r.2.mem ((c.tc : Thread Cert.RetMainRefIdeal.nD Cert.RetMainRefIdeal.τ).loc Cert.RetMainRefIdeal.main_arg1) = m ((c.tc : Thread Cert.RetMainRefIdeal.nD Cert.RetMainRefIdeal.τ).loc Cert.RetMainRefIdeal.main_arg1)
      ∧ r.2.mem ((c.tc : Thread Cert.RetMainRefIdeal.nD Cert.RetMainRefIdeal.τ).loc Cert.RetMainRefIdeal.main_arg2) = m ((c.tc : Thread Cert.RetMainRefIdeal.nD Cert.RetMainRefIdeal.τ).loc Cert.RetMainRefIdeal.main_arg2)
      ∧ r.2.mem ((c.tc : Thread Cert.RetMainRefIdeal.nD Cert.RetMainRefIdeal.τ).loc Cert.RetMainRefIdeal.main_arg3) = m ((c.tc : Thread Cert.RetMainRefIdeal.nD Cert.RetMainRefIdeal.τ).loc Cert.RetMainRefIdeal.main_arg3)
      ∧ r.2.mem ((c.tc : Thread Cert.RetMainRefIdeal.nD Cert.RetMainRefIdeal.τ).loc Cert.RetMainRefIdeal.main_arg4) = m ((c.tc : Thread Cert.RetMainRefIdeal.nD Cert.RetMainRefIdeal.τ).loc Cert.RetMainRefIdeal.main_arg4)
      ∧ r.2.mem ((c.tc : Thread Cert.RetMainRefIdeal.nD Cert.RetMainRefIdeal.τ).loc Cert.RetMainRefIdeal.main_arg5) = m ((c.tc : Thread Cert.RetMainRefIdeal.nD Cert.RetMainRefIdeal.τ).loc Cert.RetMainRefIdeal.main_arg5))
      ∧ r.2.sem = fun _ => 0)

def quiescent_RetMainRefIdeal_pre_finite_retmain [hRetMainRefIdeal : Cert.RetMainRefIdeal.Facts] [hPre_finite_retmain : Cert.Pre_finite_retmain.Facts] : Prop :=
  ∀ (m : (ℓ : Loc Cert.RetMainRefIdeal.nD Cert.RetMainRefIdeal.τ Cert.RetMainRefIdeal.sig) → Buf (Elt Ideal) ℓ) (g : Dev Cert.RetMainRefIdeal.nD → PrngReg), Pre_RetMainRefIdeal_finite_retmain m →
    θ_run (Cert.RetMainRefIdeal.defs (F := Ideal)) (onTc (τ := Cert.RetMainRefIdeal.τ) (Cert.RetMainRefIdeal.main (F := Ideal))) ⟨m, fun _ => 0, g⟩ (fun r => (∀ c : Dev Cert.RetMainRefIdeal.nD,
      r.2.mem ((c.tc : Thread Cert.RetMainRefIdeal.nD Cert.RetMainRefIdeal.τ).loc Cert.RetMainRefIdeal.main_arg0) = m ((c.tc : Thread Cert.RetMainRefIdeal.nD Cert.RetMainRefIdeal.τ).loc Cert.RetMainRefIdeal.main_arg0)
      ∧ r.2.mem ((c.tc : Thread Cert.RetMainRefIdeal.nD Cert.RetMainRefIdeal.τ).loc Cert.RetMainRefIdeal.main_arg1) = m ((c.tc : Thread Cert.RetMainRefIdeal.nD Cert.RetMainRefIdeal.τ).loc Cert.RetMainRefIdeal.main_arg1)
      ∧ r.2.mem ((c.tc : Thread Cert.RetMainRefIdeal.nD Cert.RetMainRefIdeal.τ).loc Cert.RetMainRefIdeal.main_arg2) = m ((c.tc : Thread Cert.RetMainRefIdeal.nD Cert.RetMainRefIdeal.τ).loc Cert.RetMainRefIdeal.main_arg2)
      ∧ r.2.mem ((c.tc : Thread Cert.RetMainRefIdeal.nD Cert.RetMainRefIdeal.τ).loc Cert.RetMainRefIdeal.main_arg3) = m ((c.tc : Thread Cert.RetMainRefIdeal.nD Cert.RetMainRefIdeal.τ).loc Cert.RetMainRefIdeal.main_arg3)
      ∧ r.2.mem ((c.tc : Thread Cert.RetMainRefIdeal.nD Cert.RetMainRefIdeal.τ).loc Cert.RetMainRefIdeal.main_arg4) = m ((c.tc : Thread Cert.RetMainRefIdeal.nD Cert.RetMainRefIdeal.τ).loc Cert.RetMainRefIdeal.main_arg4)
      ∧ r.2.mem ((c.tc : Thread Cert.RetMainRefIdeal.nD Cert.RetMainRefIdeal.τ).loc Cert.RetMainRefIdeal.main_arg5) = m ((c.tc : Thread Cert.RetMainRefIdeal.nD Cert.RetMainRefIdeal.τ).loc Cert.RetMainRefIdeal.main_arg5))
      ∧ r.2.sem = fun _ => 0)

def quiescent_RetCarry [hRetCarry : Cert.RetCarry.Facts] : Prop :=
  ∀ (m : (ℓ : Loc Cert.RetCarry.nD Cert.RetCarry.τ Cert.RetCarry.sig) → Buf (Elt Bits) ℓ) (g : Dev Cert.RetCarry.nD → PrngReg), Pre_RetCarry m →
    θ_run (Cert.RetCarry.defs (F := Bits)) (onTc (τ := Cert.RetCarry.τ) (Cert.RetCarry.main (F := Bits))) ⟨m, fun _ => 0, g⟩ (fun r => (∀ c : Dev Cert.RetCarry.nD,
      r.2.mem ((c.tc : Thread Cert.RetCarry.nD Cert.RetCarry.τ).loc Cert.RetCarry.main_arg0) = m ((c.tc : Thread Cert.RetCarry.nD Cert.RetCarry.τ).loc Cert.RetCarry.main_arg0)
      ∧ r.2.mem ((c.tc : Thread Cert.RetCarry.nD Cert.RetCarry.τ).loc Cert.RetCarry.main_arg1) = m ((c.tc : Thread Cert.RetCarry.nD Cert.RetCarry.τ).loc Cert.RetCarry.main_arg1))
      ∧ r.2.sem = fun _ => 0)

def quiescent_RetCarryIdeal [hRetCarryIdeal : Cert.RetCarryIdeal.Facts] : Prop :=
  ∀ (m : (ℓ : Loc Cert.RetCarryIdeal.nD Cert.RetCarryIdeal.τ Cert.RetCarryIdeal.sig) → Buf (Elt Ideal) ℓ) (g : Dev Cert.RetCarryIdeal.nD → PrngReg), Pre_RetCarryIdeal m →
    θ_run (Cert.RetCarryIdeal.defs (F := Ideal)) (onTc (τ := Cert.RetCarryIdeal.τ) (Cert.RetCarryIdeal.main (F := Ideal))) ⟨m, fun _ => 0, g⟩ (fun r => (∀ c : Dev Cert.RetCarryIdeal.nD,
      r.2.mem ((c.tc : Thread Cert.RetCarryIdeal.nD Cert.RetCarryIdeal.τ).loc Cert.RetCarryIdeal.main_arg0) = m ((c.tc : Thread Cert.RetCarryIdeal.nD Cert.RetCarryIdeal.τ).loc Cert.RetCarryIdeal.main_arg0)
      ∧ r.2.mem ((c.tc : Thread Cert.RetCarryIdeal.nD Cert.RetCarryIdeal.τ).loc Cert.RetCarryIdeal.main_arg1) = m ((c.tc : Thread Cert.RetCarryIdeal.nD Cert.RetCarryIdeal.τ).loc Cert.RetCarryIdeal.main_arg1))
      ∧ r.2.sem = fun _ => 0)

def quiescent_RetCarryIdeal_pre_finite_retcarry [hRetCarryIdeal : Cert.RetCarryIdeal.Facts] [hPre_finite_retcarry : Cert.Pre_finite_retcarry.Facts] : Prop :=
  ∀ (m : (ℓ : Loc Cert.RetCarryIdeal.nD Cert.RetCarryIdeal.τ Cert.RetCarryIdeal.sig) → Buf (Elt Ideal) ℓ) (g : Dev Cert.RetCarryIdeal.nD → PrngReg), Pre_RetCarryIdeal_finite_retcarry m →
    θ_run (Cert.RetCarryIdeal.defs (F := Ideal)) (onTc (τ := Cert.RetCarryIdeal.τ) (Cert.RetCarryIdeal.main (F := Ideal))) ⟨m, fun _ => 0, g⟩ (fun r => (∀ c : Dev Cert.RetCarryIdeal.nD,
      r.2.mem ((c.tc : Thread Cert.RetCarryIdeal.nD Cert.RetCarryIdeal.τ).loc Cert.RetCarryIdeal.main_arg0) = m ((c.tc : Thread Cert.RetCarryIdeal.nD Cert.RetCarryIdeal.τ).loc Cert.RetCarryIdeal.main_arg0)
      ∧ r.2.mem ((c.tc : Thread Cert.RetCarryIdeal.nD Cert.RetCarryIdeal.τ).loc Cert.RetCarryIdeal.main_arg1) = m ((c.tc : Thread Cert.RetCarryIdeal.nD Cert.RetCarryIdeal.τ).loc Cert.RetCarryIdeal.main_arg1))
      ∧ r.2.sem = fun _ => 0)

def quiescent_RetCarryRefIdeal [hRetCarryRefIdeal : Cert.RetCarryRefIdeal.Facts] : Prop :=
  ∀ (m : (ℓ : Loc Cert.RetCarryRefIdeal.nD Cert.RetCarryRefIdeal.τ Cert.RetCarryRefIdeal.sig) → Buf (Elt Ideal) ℓ) (g : Dev Cert.RetCarryRefIdeal.nD → PrngReg), Pre_RetCarryRefIdeal m →
    θ_run (Cert.RetCarryRefIdeal.defs (F := Ideal)) (onTc (τ := Cert.RetCarryRefIdeal.τ) (Cert.RetCarryRefIdeal.main (F := Ideal))) ⟨m, fun _ => 0, g⟩ (fun r => (∀ c : Dev Cert.RetCarryRefIdeal.nD,
      r.2.mem ((c.tc : Thread Cert.RetCarryRefIdeal.nD Cert.RetCarryRefIdeal.τ).loc Cert.RetCarryRefIdeal.main_arg0) = m ((c.tc : Thread Cert.RetCarryRefIdeal.nD Cert.RetCarryRefIdeal.τ).loc Cert.RetCarryRefIdeal.main_arg0)
      ∧ r.2.mem ((c.tc : Thread Cert.RetCarryRefIdeal.nD Cert.RetCarryRefIdeal.τ).loc Cert.RetCarryRefIdeal.main_arg1) = m ((c.tc : Thread Cert.RetCarryRefIdeal.nD Cert.RetCarryRefIdeal.τ).loc Cert.RetCarryRefIdeal.main_arg1))
      ∧ r.2.sem = fun _ => 0)

def quiescent_RetCarryRefIdeal_pre_finite_retcarry [hRetCarryRefIdeal : Cert.RetCarryRefIdeal.Facts] [hPre_finite_retcarry : Cert.Pre_finite_retcarry.Facts] : Prop :=
  ∀ (m : (ℓ : Loc Cert.RetCarryRefIdeal.nD Cert.RetCarryRefIdeal.τ Cert.RetCarryRefIdeal.sig) → Buf (Elt Ideal) ℓ) (g : Dev Cert.RetCarryRefIdeal.nD → PrngReg), Pre_RetCarryRefIdeal_finite_retcarry m →
    θ_run (Cert.RetCarryRefIdeal.defs (F := Ideal)) (onTc (τ := Cert.RetCarryRefIdeal.τ) (Cert.RetCarryRefIdeal.main (F := Ideal))) ⟨m, fun _ => 0, g⟩ (fun r => (∀ c : Dev Cert.RetCarryRefIdeal.nD,
      r.2.mem ((c.tc : Thread Cert.RetCarryRefIdeal.nD Cert.RetCarryRefIdeal.τ).loc Cert.RetCarryRefIdeal.main_arg0) = m ((c.tc : Thread Cert.RetCarryRefIdeal.nD Cert.RetCarryRefIdeal.τ).loc Cert.RetCarryRefIdeal.main_arg0)
      ∧ r.2.mem ((c.tc : Thread Cert.RetCarryRefIdeal.nD Cert.RetCarryRefIdeal.τ).loc Cert.RetCarryRefIdeal.main_arg1) = m ((c.tc : Thread Cert.RetCarryRefIdeal.nD Cert.RetCarryRefIdeal.τ).loc Cert.RetCarryRefIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluIdeal_pre_finite_swiglu [hSwigluIdeal : Cert.SwigluIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite_swiglu m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_SwigluRefIdeal_pre_finite_swiglu [hSwigluRefIdeal : Cert.SwigluRefIdeal.Facts] [hPre_finite_swiglu : Cert.Pre_finite_swiglu.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite_swiglu m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_SwigluW [hSwigluW : Cert.SwigluW.Facts] : Prop :=
  ∀ (m : (ℓ : Loc Cert.SwigluW.nD Cert.SwigluW.τ Cert.SwigluW.sig) → Buf (Elt Bits) ℓ) (g : Dev Cert.SwigluW.nD → PrngReg), Pre_SwigluW m →
    θ_run (Cert.SwigluW.defs (F := Bits)) (onTc (τ := Cert.SwigluW.τ) (Cert.SwigluW.main (F := Bits))) ⟨m, fun _ => 0, g⟩ (fun r => (∀ c : Dev Cert.SwigluW.nD,
      r.2.mem ((c.tc : Thread Cert.SwigluW.nD Cert.SwigluW.τ).loc Cert.SwigluW.main_arg0) = m ((c.tc : Thread Cert.SwigluW.nD Cert.SwigluW.τ).loc Cert.SwigluW.main_arg0)
      ∧ r.2.mem ((c.tc : Thread Cert.SwigluW.nD Cert.SwigluW.τ).loc Cert.SwigluW.main_arg1) = m ((c.tc : Thread Cert.SwigluW.nD Cert.SwigluW.τ).loc Cert.SwigluW.main_arg1)
      ∧ r.2.mem ((c.tc : Thread Cert.SwigluW.nD Cert.SwigluW.τ).loc Cert.SwigluW.main_arg2) = m ((c.tc : Thread Cert.SwigluW.nD Cert.SwigluW.τ).loc Cert.SwigluW.main_arg2))
      ∧ r.2.sem = fun _ => 0)

def quiescent_SwigluWIdeal [hSwigluWIdeal : Cert.SwigluWIdeal.Facts] : Prop :=
  ∀ (m : (ℓ : Loc Cert.SwigluWIdeal.nD Cert.SwigluWIdeal.τ Cert.SwigluWIdeal.sig) → Buf (Elt Ideal) ℓ) (g : Dev Cert.SwigluWIdeal.nD → PrngReg), Pre_SwigluWIdeal m →
    θ_run (Cert.SwigluWIdeal.defs (F := Ideal)) (onTc (τ := Cert.SwigluWIdeal.τ) (Cert.SwigluWIdeal.main (F := Ideal))) ⟨m, fun _ => 0, g⟩ (fun r => (∀ c : Dev Cert.SwigluWIdeal.nD,
      r.2.mem ((c.tc : Thread Cert.SwigluWIdeal.nD Cert.SwigluWIdeal.τ).loc Cert.SwigluWIdeal.main_arg0) = m ((c.tc : Thread Cert.SwigluWIdeal.nD Cert.SwigluWIdeal.τ).loc Cert.SwigluWIdeal.main_arg0)
      ∧ r.2.mem ((c.tc : Thread Cert.SwigluWIdeal.nD Cert.SwigluWIdeal.τ).loc Cert.SwigluWIdeal.main_arg1) = m ((c.tc : Thread Cert.SwigluWIdeal.nD Cert.SwigluWIdeal.τ).loc Cert.SwigluWIdeal.main_arg1)
      ∧ r.2.mem ((c.tc : Thread Cert.SwigluWIdeal.nD Cert.SwigluWIdeal.τ).loc Cert.SwigluWIdeal.main_arg2) = m ((c.tc : Thread Cert.SwigluWIdeal.nD Cert.SwigluWIdeal.τ).loc Cert.SwigluWIdeal.main_arg2))
      ∧ r.2.sem = fun _ => 0)

def quiescent_SwigluWIdeal_pre_finite_swigluw [hSwigluWIdeal : Cert.SwigluWIdeal.Facts] [hPre_finite_swigluw : Cert.Pre_finite_swigluw.Facts] : Prop :=
  ∀ (m : (ℓ : Loc Cert.SwigluWIdeal.nD Cert.SwigluWIdeal.τ Cert.SwigluWIdeal.sig) → Buf (Elt Ideal) ℓ) (g : Dev Cert.SwigluWIdeal.nD → PrngReg), Pre_SwigluWIdeal_finite_swigluw m →
    θ_run (Cert.SwigluWIdeal.defs (F := Ideal)) (onTc (τ := Cert.SwigluWIdeal.τ) (Cert.SwigluWIdeal.main (F := Ideal))) ⟨m, fun _ => 0, g⟩ (fun r => (∀ c : Dev Cert.SwigluWIdeal.nD,
      r.2.mem ((c.tc : Thread Cert.SwigluWIdeal.nD Cert.SwigluWIdeal.τ).loc Cert.SwigluWIdeal.main_arg0) = m ((c.tc : Thread Cert.SwigluWIdeal.nD Cert.SwigluWIdeal.τ).loc Cert.SwigluWIdeal.main_arg0)
      ∧ r.2.mem ((c.tc : Thread Cert.SwigluWIdeal.nD Cert.SwigluWIdeal.τ).loc Cert.SwigluWIdeal.main_arg1) = m ((c.tc : Thread Cert.SwigluWIdeal.nD Cert.SwigluWIdeal.τ).loc Cert.SwigluWIdeal.main_arg1)
      ∧ r.2.mem ((c.tc : Thread Cert.SwigluWIdeal.nD Cert.SwigluWIdeal.τ).loc Cert.SwigluWIdeal.main_arg2) = m ((c.tc : Thread Cert.SwigluWIdeal.nD Cert.SwigluWIdeal.τ).loc Cert.SwigluWIdeal.main_arg2))
      ∧ r.2.sem = fun _ => 0)

def quiescent_SwigluWRefIdeal [hSwigluWRefIdeal : Cert.SwigluWRefIdeal.Facts] : Prop :=
  ∀ (m : (ℓ : Loc Cert.SwigluWRefIdeal.nD Cert.SwigluWRefIdeal.τ Cert.SwigluWRefIdeal.sig) → Buf (Elt Ideal) ℓ) (g : Dev Cert.SwigluWRefIdeal.nD → PrngReg), Pre_SwigluWRefIdeal m →
    θ_run (Cert.SwigluWRefIdeal.defs (F := Ideal)) (onTc (τ := Cert.SwigluWRefIdeal.τ) (Cert.SwigluWRefIdeal.main (F := Ideal))) ⟨m, fun _ => 0, g⟩ (fun r => (∀ c : Dev Cert.SwigluWRefIdeal.nD,
      r.2.mem ((c.tc : Thread Cert.SwigluWRefIdeal.nD Cert.SwigluWRefIdeal.τ).loc Cert.SwigluWRefIdeal.main_arg0) = m ((c.tc : Thread Cert.SwigluWRefIdeal.nD Cert.SwigluWRefIdeal.τ).loc Cert.SwigluWRefIdeal.main_arg0)
      ∧ r.2.mem ((c.tc : Thread Cert.SwigluWRefIdeal.nD Cert.SwigluWRefIdeal.τ).loc Cert.SwigluWRefIdeal.main_arg1) = m ((c.tc : Thread Cert.SwigluWRefIdeal.nD Cert.SwigluWRefIdeal.τ).loc Cert.SwigluWRefIdeal.main_arg1)
      ∧ r.2.mem ((c.tc : Thread Cert.SwigluWRefIdeal.nD Cert.SwigluWRefIdeal.τ).loc Cert.SwigluWRefIdeal.main_arg2) = m ((c.tc : Thread Cert.SwigluWRefIdeal.nD Cert.SwigluWRefIdeal.τ).loc Cert.SwigluWRefIdeal.main_arg2))
      ∧ r.2.sem = fun _ => 0)

def quiescent_SwigluWRefIdeal_pre_finite_swigluw [hSwigluWRefIdeal : Cert.SwigluWRefIdeal.Facts] [hPre_finite_swigluw : Cert.Pre_finite_swigluw.Facts] : Prop :=
  ∀ (m : (ℓ : Loc Cert.SwigluWRefIdeal.nD Cert.SwigluWRefIdeal.τ Cert.SwigluWRefIdeal.sig) → Buf (Elt Ideal) ℓ) (g : Dev Cert.SwigluWRefIdeal.nD → PrngReg), Pre_SwigluWRefIdeal_finite_swigluw m →
    θ_run (Cert.SwigluWRefIdeal.defs (F := Ideal)) (onTc (τ := Cert.SwigluWRefIdeal.τ) (Cert.SwigluWRefIdeal.main (F := Ideal))) ⟨m, fun _ => 0, g⟩ (fun r => (∀ c : Dev Cert.SwigluWRefIdeal.nD,
      r.2.mem ((c.tc : Thread Cert.SwigluWRefIdeal.nD Cert.SwigluWRefIdeal.τ).loc Cert.SwigluWRefIdeal.main_arg0) = m ((c.tc : Thread Cert.SwigluWRefIdeal.nD Cert.SwigluWRefIdeal.τ).loc Cert.SwigluWRefIdeal.main_arg0)
      ∧ r.2.mem ((c.tc : Thread Cert.SwigluWRefIdeal.nD Cert.SwigluWRefIdeal.τ).loc Cert.SwigluWRefIdeal.main_arg1) = m ((c.tc : Thread Cert.SwigluWRefIdeal.nD Cert.SwigluWRefIdeal.τ).loc Cert.SwigluWRefIdeal.main_arg1)
      ∧ r.2.mem ((c.tc : Thread Cert.SwigluWRefIdeal.nD Cert.SwigluWRefIdeal.τ).loc Cert.SwigluWRefIdeal.main_arg2) = m ((c.tc : Thread Cert.SwigluWRefIdeal.nD Cert.SwigluWRefIdeal.τ).loc Cert.SwigluWRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInIdeal_pre_finite_ffnin [hFfnInIdeal : Cert.FfnInIdeal.Facts] [hPre_finite_ffnin : Cert.Pre_finite_ffnin.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_finite_ffnin m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_FfnInRefIdeal_pre_finite_ffnin [hFfnInRefIdeal : Cert.FfnInRefIdeal.Facts] [hPre_finite_ffnin : Cert.Pre_finite_ffnin.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_finite_ffnin m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjIdeal_pre_finite_inproj [hInProjIdeal : Cert.InProjIdeal.Facts] [hPre_finite_inproj : Cert.Pre_finite_inproj.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_inproj m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def quiescent_InProjRefIdeal_pre_finite_inproj [hInProjRefIdeal : Cert.InProjRefIdeal.Facts] [hPre_finite_inproj : Cert.Pre_finite_inproj.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_inproj m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjIdeal_pre_finite_outproj [hOutProjIdeal : Cert.OutProjIdeal.Facts] [hPre_finite_outproj : Cert.Pre_finite_outproj.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite_outproj m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_OutProjRefIdeal_pre_finite_outproj [hOutProjRefIdeal : Cert.OutProjRefIdeal.Facts] [hPre_finite_outproj : Cert.Pre_finite_outproj.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite_outproj m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ r.2.sem = fun _ => 0)

def quiescent_RetOutIdeal_pre_finite_retout [hRetOutIdeal : Cert.RetOutIdeal.Facts] [hPre_finite_retout : Cert.Pre_finite_retout.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal_finite_retout m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2)
      ∧ r.2.mem ((c.tc : Thread Cert.RetOutRefIdeal.nD Cert.RetOutRefIdeal.τ).loc Cert.RetOutRefIdeal.main_arg3) = m ((c.tc : Thread Cert.RetOutRefIdeal.nD Cert.RetOutRefIdeal.τ).loc Cert.RetOutRefIdeal.main_arg3))
      ∧ r.2.sem = fun _ => 0)

def quiescent_RetOutRefIdeal_pre_finite_retout [hRetOutRefIdeal : Cert.RetOutRefIdeal.Facts] [hPre_finite_retout : Cert.Pre_finite_retout.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal_finite_retout m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2)
      ∧ r.2.mem ((c.tc : Thread Cert.RetOutRefIdeal.nD Cert.RetOutRefIdeal.τ).loc Cert.RetOutRefIdeal.main_arg3) = m ((c.tc : Thread Cert.RetOutRefIdeal.nD Cert.RetOutRefIdeal.τ).loc Cert.RetOutRefIdeal.main_arg3))
      ∧ r.2.sem = fun _ => 0)

def quiescent_GmFwd [hGmFwd : Cert.GmFwd.Facts] : Prop :=
  ∀ (m : (ℓ : Loc Cert.GmFwd.nD Cert.GmFwd.τ Cert.GmFwd.sig) → Buf (Elt Bits) ℓ) (g : Dev Cert.GmFwd.nD → PrngReg), Pre_GmFwd m →
    θ_run (Cert.GmFwd.defs (F := Bits)) (onTc (τ := Cert.GmFwd.τ) (Cert.GmFwd.main (F := Bits))) ⟨m, fun _ => 0, g⟩ (fun r => (∀ c : Dev Cert.GmFwd.nD,
      r.2.mem ((c.tc : Thread Cert.GmFwd.nD Cert.GmFwd.τ).loc Cert.GmFwd.main_arg0) = m ((c.tc : Thread Cert.GmFwd.nD Cert.GmFwd.τ).loc Cert.GmFwd.main_arg0)
      ∧ r.2.mem ((c.tc : Thread Cert.GmFwd.nD Cert.GmFwd.τ).loc Cert.GmFwd.main_arg1) = m ((c.tc : Thread Cert.GmFwd.nD Cert.GmFwd.τ).loc Cert.GmFwd.main_arg1)
      ∧ r.2.mem ((c.tc : Thread Cert.GmFwd.nD Cert.GmFwd.τ).loc Cert.GmFwd.main_arg2) = m ((c.tc : Thread Cert.GmFwd.nD Cert.GmFwd.τ).loc Cert.GmFwd.main_arg2)
      ∧ r.2.mem ((c.tc : Thread Cert.GmFwd.nD Cert.GmFwd.τ).loc Cert.GmFwd.main_arg3) = m ((c.tc : Thread Cert.GmFwd.nD Cert.GmFwd.τ).loc Cert.GmFwd.main_arg3)
      ∧ r.2.mem ((c.tc : Thread Cert.GmFwd.nD Cert.GmFwd.τ).loc Cert.GmFwd.main_arg4) = m ((c.tc : Thread Cert.GmFwd.nD Cert.GmFwd.τ).loc Cert.GmFwd.main_arg4))
      ∧ r.2.sem = fun _ => 0)

def quiescent_GmFwdIdeal [hGmFwdIdeal : Cert.GmFwdIdeal.Facts] : Prop :=
  ∀ (m : (ℓ : Loc Cert.GmFwdIdeal.nD Cert.GmFwdIdeal.τ Cert.GmFwdIdeal.sig) → Buf (Elt Ideal) ℓ) (g : Dev Cert.GmFwdIdeal.nD → PrngReg), Pre_GmFwdIdeal m →
    θ_run (Cert.GmFwdIdeal.defs (F := Ideal)) (onTc (τ := Cert.GmFwdIdeal.τ) (Cert.GmFwdIdeal.main (F := Ideal))) ⟨m, fun _ => 0, g⟩ (fun r => (∀ c : Dev Cert.GmFwdIdeal.nD,
      r.2.mem ((c.tc : Thread Cert.GmFwdIdeal.nD Cert.GmFwdIdeal.τ).loc Cert.GmFwdIdeal.main_arg0) = m ((c.tc : Thread Cert.GmFwdIdeal.nD Cert.GmFwdIdeal.τ).loc Cert.GmFwdIdeal.main_arg0)
      ∧ r.2.mem ((c.tc : Thread Cert.GmFwdIdeal.nD Cert.GmFwdIdeal.τ).loc Cert.GmFwdIdeal.main_arg1) = m ((c.tc : Thread Cert.GmFwdIdeal.nD Cert.GmFwdIdeal.τ).loc Cert.GmFwdIdeal.main_arg1)
      ∧ r.2.mem ((c.tc : Thread Cert.GmFwdIdeal.nD Cert.GmFwdIdeal.τ).loc Cert.GmFwdIdeal.main_arg2) = m ((c.tc : Thread Cert.GmFwdIdeal.nD Cert.GmFwdIdeal.τ).loc Cert.GmFwdIdeal.main_arg2)
      ∧ r.2.mem ((c.tc : Thread Cert.GmFwdIdeal.nD Cert.GmFwdIdeal.τ).loc Cert.GmFwdIdeal.main_arg3) = m ((c.tc : Thread Cert.GmFwdIdeal.nD Cert.GmFwdIdeal.τ).loc Cert.GmFwdIdeal.main_arg3)
      ∧ r.2.mem ((c.tc : Thread Cert.GmFwdIdeal.nD Cert.GmFwdIdeal.τ).loc Cert.GmFwdIdeal.main_arg4) = m ((c.tc : Thread Cert.GmFwdIdeal.nD Cert.GmFwdIdeal.τ).loc Cert.GmFwdIdeal.main_arg4))
      ∧ r.2.sem = fun _ => 0)

def quiescent_GmFwdIdeal_pre_finite_gmfwd [hGmFwdIdeal : Cert.GmFwdIdeal.Facts] [hPre_finite_gmfwd : Cert.Pre_finite_gmfwd.Facts] : Prop :=
  ∀ (m : (ℓ : Loc Cert.GmFwdIdeal.nD Cert.GmFwdIdeal.τ Cert.GmFwdIdeal.sig) → Buf (Elt Ideal) ℓ) (g : Dev Cert.GmFwdIdeal.nD → PrngReg), Pre_GmFwdIdeal_finite_gmfwd m →
    θ_run (Cert.GmFwdIdeal.defs (F := Ideal)) (onTc (τ := Cert.GmFwdIdeal.τ) (Cert.GmFwdIdeal.main (F := Ideal))) ⟨m, fun _ => 0, g⟩ (fun r => (∀ c : Dev Cert.GmFwdIdeal.nD,
      r.2.mem ((c.tc : Thread Cert.GmFwdIdeal.nD Cert.GmFwdIdeal.τ).loc Cert.GmFwdIdeal.main_arg0) = m ((c.tc : Thread Cert.GmFwdIdeal.nD Cert.GmFwdIdeal.τ).loc Cert.GmFwdIdeal.main_arg0)
      ∧ r.2.mem ((c.tc : Thread Cert.GmFwdIdeal.nD Cert.GmFwdIdeal.τ).loc Cert.GmFwdIdeal.main_arg1) = m ((c.tc : Thread Cert.GmFwdIdeal.nD Cert.GmFwdIdeal.τ).loc Cert.GmFwdIdeal.main_arg1)
      ∧ r.2.mem ((c.tc : Thread Cert.GmFwdIdeal.nD Cert.GmFwdIdeal.τ).loc Cert.GmFwdIdeal.main_arg2) = m ((c.tc : Thread Cert.GmFwdIdeal.nD Cert.GmFwdIdeal.τ).loc Cert.GmFwdIdeal.main_arg2)
      ∧ r.2.mem ((c.tc : Thread Cert.GmFwdIdeal.nD Cert.GmFwdIdeal.τ).loc Cert.GmFwdIdeal.main_arg3) = m ((c.tc : Thread Cert.GmFwdIdeal.nD Cert.GmFwdIdeal.τ).loc Cert.GmFwdIdeal.main_arg3)
      ∧ r.2.mem ((c.tc : Thread Cert.GmFwdIdeal.nD Cert.GmFwdIdeal.τ).loc Cert.GmFwdIdeal.main_arg4) = m ((c.tc : Thread Cert.GmFwdIdeal.nD Cert.GmFwdIdeal.τ).loc Cert.GmFwdIdeal.main_arg4))
      ∧ r.2.sem = fun _ => 0)

def quiescent_GmFwdRefIdeal [hGmFwdRefIdeal : Cert.GmFwdRefIdeal.Facts] : Prop :=
  ∀ (m : (ℓ : Loc Cert.GmFwdRefIdeal.nD Cert.GmFwdRefIdeal.τ Cert.GmFwdRefIdeal.sig) → Buf (Elt Ideal) ℓ) (g : Dev Cert.GmFwdRefIdeal.nD → PrngReg), Pre_GmFwdRefIdeal m →
    θ_run (Cert.GmFwdRefIdeal.defs (F := Ideal)) (onTc (τ := Cert.GmFwdRefIdeal.τ) (Cert.GmFwdRefIdeal.main (F := Ideal))) ⟨m, fun _ => 0, g⟩ (fun r => (∀ c : Dev Cert.GmFwdRefIdeal.nD,
      r.2.mem ((c.tc : Thread Cert.GmFwdRefIdeal.nD Cert.GmFwdRefIdeal.τ).loc Cert.GmFwdRefIdeal.main_arg0) = m ((c.tc : Thread Cert.GmFwdRefIdeal.nD Cert.GmFwdRefIdeal.τ).loc Cert.GmFwdRefIdeal.main_arg0)
      ∧ r.2.mem ((c.tc : Thread Cert.GmFwdRefIdeal.nD Cert.GmFwdRefIdeal.τ).loc Cert.GmFwdRefIdeal.main_arg1) = m ((c.tc : Thread Cert.GmFwdRefIdeal.nD Cert.GmFwdRefIdeal.τ).loc Cert.GmFwdRefIdeal.main_arg1)
      ∧ r.2.mem ((c.tc : Thread Cert.GmFwdRefIdeal.nD Cert.GmFwdRefIdeal.τ).loc Cert.GmFwdRefIdeal.main_arg2) = m ((c.tc : Thread Cert.GmFwdRefIdeal.nD Cert.GmFwdRefIdeal.τ).loc Cert.GmFwdRefIdeal.main_arg2)
      ∧ r.2.mem ((c.tc : Thread Cert.GmFwdRefIdeal.nD Cert.GmFwdRefIdeal.τ).loc Cert.GmFwdRefIdeal.main_arg3) = m ((c.tc : Thread Cert.GmFwdRefIdeal.nD Cert.GmFwdRefIdeal.τ).loc Cert.GmFwdRefIdeal.main_arg3)
      ∧ r.2.mem ((c.tc : Thread Cert.GmFwdRefIdeal.nD Cert.GmFwdRefIdeal.τ).loc Cert.GmFwdRefIdeal.main_arg4) = m ((c.tc : Thread Cert.GmFwdRefIdeal.nD Cert.GmFwdRefIdeal.τ).loc Cert.GmFwdRefIdeal.main_arg4))
      ∧ r.2.sem = fun _ => 0)

def quiescent_GmFwdRefIdeal_pre_finite_gmfwd [hGmFwdRefIdeal : Cert.GmFwdRefIdeal.Facts] [hPre_finite_gmfwd : Cert.Pre_finite_gmfwd.Facts] : Prop :=
  ∀ (m : (ℓ : Loc Cert.GmFwdRefIdeal.nD Cert.GmFwdRefIdeal.τ Cert.GmFwdRefIdeal.sig) → Buf (Elt Ideal) ℓ) (g : Dev Cert.GmFwdRefIdeal.nD → PrngReg), Pre_GmFwdRefIdeal_finite_gmfwd m →
    θ_run (Cert.GmFwdRefIdeal.defs (F := Ideal)) (onTc (τ := Cert.GmFwdRefIdeal.τ) (Cert.GmFwdRefIdeal.main (F := Ideal))) ⟨m, fun _ => 0, g⟩ (fun r => (∀ c : Dev Cert.GmFwdRefIdeal.nD,
      r.2.mem ((c.tc : Thread Cert.GmFwdRefIdeal.nD Cert.GmFwdRefIdeal.τ).loc Cert.GmFwdRefIdeal.main_arg0) = m ((c.tc : Thread Cert.GmFwdRefIdeal.nD Cert.GmFwdRefIdeal.τ).loc Cert.GmFwdRefIdeal.main_arg0)
      ∧ r.2.mem ((c.tc : Thread Cert.GmFwdRefIdeal.nD Cert.GmFwdRefIdeal.τ).loc Cert.GmFwdRefIdeal.main_arg1) = m ((c.tc : Thread Cert.GmFwdRefIdeal.nD Cert.GmFwdRefIdeal.τ).loc Cert.GmFwdRefIdeal.main_arg1)
      ∧ r.2.mem ((c.tc : Thread Cert.GmFwdRefIdeal.nD Cert.GmFwdRefIdeal.τ).loc Cert.GmFwdRefIdeal.main_arg2) = m ((c.tc : Thread Cert.GmFwdRefIdeal.nD Cert.GmFwdRefIdeal.τ).loc Cert.GmFwdRefIdeal.main_arg2)
      ∧ r.2.mem ((c.tc : Thread Cert.GmFwdRefIdeal.nD Cert.GmFwdRefIdeal.τ).loc Cert.GmFwdRefIdeal.main_arg3) = m ((c.tc : Thread Cert.GmFwdRefIdeal.nD Cert.GmFwdRefIdeal.τ).loc Cert.GmFwdRefIdeal.main_arg3)
      ∧ r.2.mem ((c.tc : Thread Cert.GmFwdRefIdeal.nD Cert.GmFwdRefIdeal.τ).loc Cert.GmFwdRefIdeal.main_arg4) = m ((c.tc : Thread Cert.GmFwdRefIdeal.nD Cert.GmFwdRefIdeal.τ).loc Cert.GmFwdRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_RetState [hRetState : Cert.RetState.Facts] : Prop :=
  ∀ (m : (ℓ : Loc Cert.RetState.nD Cert.RetState.τ Cert.RetState.sig) → Buf (Elt Bits) ℓ) (g : Dev Cert.RetState.nD → PrngReg), Pre_RetState m →
    θ_run (Cert.RetState.defs (F := Bits)) (onTc (τ := Cert.RetState.τ) (Cert.RetState.main (F := Bits))) ⟨m, fun _ => 0, g⟩ (fun r => (∀ c : Dev Cert.RetState.nD,
      r.2.mem ((c.tc : Thread Cert.RetState.nD Cert.RetState.τ).loc Cert.RetState.main_arg0) = m ((c.tc : Thread Cert.RetState.nD Cert.RetState.τ).loc Cert.RetState.main_arg0)
      ∧ r.2.mem ((c.tc : Thread Cert.RetState.nD Cert.RetState.τ).loc Cert.RetState.main_arg1) = m ((c.tc : Thread Cert.RetState.nD Cert.RetState.τ).loc Cert.RetState.main_arg1))
      ∧ r.2.sem = fun _ => 0)

def quiescent_RetStateIdeal [hRetStateIdeal : Cert.RetStateIdeal.Facts] : Prop :=
  ∀ (m : (ℓ : Loc Cert.RetStateIdeal.nD Cert.RetStateIdeal.τ Cert.RetStateIdeal.sig) → Buf (Elt Ideal) ℓ) (g : Dev Cert.RetStateIdeal.nD → PrngReg), Pre_RetStateIdeal m →
    θ_run (Cert.RetStateIdeal.defs (F := Ideal)) (onTc (τ := Cert.RetStateIdeal.τ) (Cert.RetStateIdeal.main (F := Ideal))) ⟨m, fun _ => 0, g⟩ (fun r => (∀ c : Dev Cert.RetStateIdeal.nD,
      r.2.mem ((c.tc : Thread Cert.RetStateIdeal.nD Cert.RetStateIdeal.τ).loc Cert.RetStateIdeal.main_arg0) = m ((c.tc : Thread Cert.RetStateIdeal.nD Cert.RetStateIdeal.τ).loc Cert.RetStateIdeal.main_arg0)
      ∧ r.2.mem ((c.tc : Thread Cert.RetStateIdeal.nD Cert.RetStateIdeal.τ).loc Cert.RetStateIdeal.main_arg1) = m ((c.tc : Thread Cert.RetStateIdeal.nD Cert.RetStateIdeal.τ).loc Cert.RetStateIdeal.main_arg1))
      ∧ r.2.sem = fun _ => 0)

def quiescent_RetStateIdeal_pre_finite_retstate [hRetStateIdeal : Cert.RetStateIdeal.Facts] [hPre_finite_retstate : Cert.Pre_finite_retstate.Facts] : Prop :=
  ∀ (m : (ℓ : Loc Cert.RetStateIdeal.nD Cert.RetStateIdeal.τ Cert.RetStateIdeal.sig) → Buf (Elt Ideal) ℓ) (g : Dev Cert.RetStateIdeal.nD → PrngReg), Pre_RetStateIdeal_finite_retstate m →
    θ_run (Cert.RetStateIdeal.defs (F := Ideal)) (onTc (τ := Cert.RetStateIdeal.τ) (Cert.RetStateIdeal.main (F := Ideal))) ⟨m, fun _ => 0, g⟩ (fun r => (∀ c : Dev Cert.RetStateIdeal.nD,
      r.2.mem ((c.tc : Thread Cert.RetStateIdeal.nD Cert.RetStateIdeal.τ).loc Cert.RetStateIdeal.main_arg0) = m ((c.tc : Thread Cert.RetStateIdeal.nD Cert.RetStateIdeal.τ).loc Cert.RetStateIdeal.main_arg0)
      ∧ r.2.mem ((c.tc : Thread Cert.RetStateIdeal.nD Cert.RetStateIdeal.τ).loc Cert.RetStateIdeal.main_arg1) = m ((c.tc : Thread Cert.RetStateIdeal.nD Cert.RetStateIdeal.τ).loc Cert.RetStateIdeal.main_arg1))
      ∧ r.2.sem = fun _ => 0)

def quiescent_RetStateRefIdeal [hRetStateRefIdeal : Cert.RetStateRefIdeal.Facts] : Prop :=
  ∀ (m : (ℓ : Loc Cert.RetStateRefIdeal.nD Cert.RetStateRefIdeal.τ Cert.RetStateRefIdeal.sig) → Buf (Elt Ideal) ℓ) (g : Dev Cert.RetStateRefIdeal.nD → PrngReg), Pre_RetStateRefIdeal m →
    θ_run (Cert.RetStateRefIdeal.defs (F := Ideal)) (onTc (τ := Cert.RetStateRefIdeal.τ) (Cert.RetStateRefIdeal.main (F := Ideal))) ⟨m, fun _ => 0, g⟩ (fun r => (∀ c : Dev Cert.RetStateRefIdeal.nD,
      r.2.mem ((c.tc : Thread Cert.RetStateRefIdeal.nD Cert.RetStateRefIdeal.τ).loc Cert.RetStateRefIdeal.main_arg0) = m ((c.tc : Thread Cert.RetStateRefIdeal.nD Cert.RetStateRefIdeal.τ).loc Cert.RetStateRefIdeal.main_arg0)
      ∧ r.2.mem ((c.tc : Thread Cert.RetStateRefIdeal.nD Cert.RetStateRefIdeal.τ).loc Cert.RetStateRefIdeal.main_arg1) = m ((c.tc : Thread Cert.RetStateRefIdeal.nD Cert.RetStateRefIdeal.τ).loc Cert.RetStateRefIdeal.main_arg1))
      ∧ r.2.sem = fun _ => 0)

def quiescent_RetStateRefIdeal_pre_finite_retstate [hRetStateRefIdeal : Cert.RetStateRefIdeal.Facts] [hPre_finite_retstate : Cert.Pre_finite_retstate.Facts] : Prop :=
  ∀ (m : (ℓ : Loc Cert.RetStateRefIdeal.nD Cert.RetStateRefIdeal.τ Cert.RetStateRefIdeal.sig) → Buf (Elt Ideal) ℓ) (g : Dev Cert.RetStateRefIdeal.nD → PrngReg), Pre_RetStateRefIdeal_finite_retstate m →
    θ_run (Cert.RetStateRefIdeal.defs (F := Ideal)) (onTc (τ := Cert.RetStateRefIdeal.τ) (Cert.RetStateRefIdeal.main (F := Ideal))) ⟨m, fun _ => 0, g⟩ (fun r => (∀ c : Dev Cert.RetStateRefIdeal.nD,
      r.2.mem ((c.tc : Thread Cert.RetStateRefIdeal.nD Cert.RetStateRefIdeal.τ).loc Cert.RetStateRefIdeal.main_arg0) = m ((c.tc : Thread Cert.RetStateRefIdeal.nD Cert.RetStateRefIdeal.τ).loc Cert.RetStateRefIdeal.main_arg0)
      ∧ r.2.mem ((c.tc : Thread Cert.RetStateRefIdeal.nD Cert.RetStateRefIdeal.τ).loc Cert.RetStateRefIdeal.main_arg1) = m ((c.tc : Thread Cert.RetStateRefIdeal.nD Cert.RetStateRefIdeal.τ).loc Cert.RetStateRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutIdeal_pre_finite_ffnout [hFfnOutIdeal : Cert.FfnOutIdeal.Facts] [hPre_finite_ffnout : Cert.Pre_finite_ffnout.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal_finite_ffnout m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_FfnOutRefIdeal_pre_finite_ffnout [hFfnOutRefIdeal : Cert.FfnOutRefIdeal.Facts] [hPre_finite_ffnout : Cert.Pre_finite_ffnout.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal_finite_ffnout m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2))
      ∧ r.2.sem = fun _ => 0)

def quiescent_FfnNormIdeal_pre_finite_ffnnorm [hFfnNormIdeal : Cert.FfnNormIdeal.Facts] [hPre_finite_ffnnorm : Cert.Pre_finite_ffnnorm.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal_finite_ffnnorm m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2))
      ∧ r.2.sem = fun _ => 0)

def quiescent_FfnNormRefIdeal_pre_finite_ffnnorm [hFfnNormRefIdeal : Cert.FfnNormRefIdeal.Facts] [hPre_finite_ffnnorm : Cert.Pre_finite_ffnnorm.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal_finite_ffnnorm m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ r.2.sem = fun _ => 0)

def quiescent_OutFwdIdeal_pre_finite_outfwd [hOutFwdIdeal : Cert.OutFwdIdeal.Facts] [hPre_finite_outfwd : Cert.Pre_finite_outfwd.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal_finite_outfwd m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4))
      ∧ r.2.sem = fun _ => 0)

def quiescent_OutFwdRefIdeal_pre_finite_outfwd [hOutFwdRefIdeal : Cert.OutFwdRefIdeal.Facts] [hPre_finite_outfwd : Cert.Pre_finite_outfwd.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal_finite_outfwd m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1)
      ∧ r.2.mem ((c.tc : Thread Cert.FfnDw.nD Cert.FfnDw.τ).loc Cert.FfnDw.main_arg2) = m ((c.tc : Thread Cert.FfnDw.nD Cert.FfnDw.τ).loc Cert.FfnDw.main_arg2)
      ∧ r.2.mem ((c.tc : Thread Cert.FfnDw.nD Cert.FfnDw.τ).loc Cert.FfnDw.main_arg3) = m ((c.tc : Thread Cert.FfnDw.nD Cert.FfnDw.τ).loc Cert.FfnDw.main_arg3))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
      ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2)
      ∧ r.2.mem ((c.tc : Thread Cert.FfnDwIdeal.nD Cert.FfnDwIdeal.τ).loc Cert.FfnDwIdeal.main_arg3) = m ((c.tc : Thread Cert.FfnDwIdeal.nD Cert.FfnDwIdeal.τ).loc Cert.FfnDwIdeal.main_arg3))
      ∧ r.2.sem = fun _ => 0)

def quiescent_FfnDwIdeal_pre_finite_ffndw [hFfnDwIdeal : Cert.FfnDwIdeal.Facts] [hPre_finite_ffndw : Cert.Pre_finite_ffndw.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal_finite_ffndw m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
      ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2)
      ∧ r.2.mem ((c.tc : Thread Cert.FfnDwIdeal.nD Cert.FfnDwIdeal.τ).loc Cert.FfnDwIdeal.main_arg3) = m ((c.tc : Thread Cert.FfnDwIdeal.nD Cert.FfnDwIdeal.τ).loc Cert.FfnDwIdeal.main_arg3))
      ∧ r.2.sem = fun _ => 0)

def quiescent_FfnDwRefIdeal [hFfnDwRefIdeal : Cert.FfnDwRefIdeal.Facts] : Prop :=
  ∀ (m : (ℓ : Loc Cert.FfnDwRefIdeal.nD Cert.FfnDwRefIdeal.τ Cert.FfnDwRefIdeal.sig) → Buf (Elt Ideal) ℓ) (g : Dev Cert.FfnDwRefIdeal.nD → PrngReg), Pre_FfnDwRefIdeal m →
    θ_run (Cert.FfnDwRefIdeal.defs (F := Ideal)) (onTc (τ := Cert.FfnDwRefIdeal.τ) (Cert.FfnDwRefIdeal.main (F := Ideal))) ⟨m, fun _ => 0, g⟩ (fun r => (∀ c : Dev Cert.FfnDwRefIdeal.nD,
      r.2.mem ((c.tc : Thread Cert.FfnDwRefIdeal.nD Cert.FfnDwRefIdeal.τ).loc Cert.FfnDwRefIdeal.main_arg0) = m ((c.tc : Thread Cert.FfnDwRefIdeal.nD Cert.FfnDwRefIdeal.τ).loc Cert.FfnDwRefIdeal.main_arg0)
      ∧ r.2.mem ((c.tc : Thread Cert.FfnDwRefIdeal.nD Cert.FfnDwRefIdeal.τ).loc Cert.FfnDwRefIdeal.main_arg1) = m ((c.tc : Thread Cert.FfnDwRefIdeal.nD Cert.FfnDwRefIdeal.τ).loc Cert.FfnDwRefIdeal.main_arg1)
      ∧ r.2.mem ((c.tc : Thread Cert.FfnDwRefIdeal.nD Cert.FfnDwRefIdeal.τ).loc Cert.FfnDwRefIdeal.main_arg2) = m ((c.tc : Thread Cert.FfnDwRefIdeal.nD Cert.FfnDwRefIdeal.τ).loc Cert.FfnDwRefIdeal.main_arg2)
      ∧ r.2.mem ((c.tc : Thread Cert.FfnDwRefIdeal.nD Cert.FfnDwRefIdeal.τ).loc Cert.FfnDwRefIdeal.main_arg3) = m ((c.tc : Thread Cert.FfnDwRefIdeal.nD Cert.FfnDwRefIdeal.τ).loc Cert.FfnDwRefIdeal.main_arg3))
      ∧ r.2.sem = fun _ => 0)

def quiescent_FfnDwRefIdeal_pre_finite_ffndw [hFfnDwRefIdeal : Cert.FfnDwRefIdeal.Facts] [hPre_finite_ffndw : Cert.Pre_finite_ffndw.Facts] : Prop :=
  ∀ (m : (ℓ : Loc Cert.FfnDwRefIdeal.nD Cert.FfnDwRefIdeal.τ Cert.FfnDwRefIdeal.sig) → Buf (Elt Ideal) ℓ) (g : Dev Cert.FfnDwRefIdeal.nD → PrngReg), Pre_FfnDwRefIdeal_finite_ffndw m →
    θ_run (Cert.FfnDwRefIdeal.defs (F := Ideal)) (onTc (τ := Cert.FfnDwRefIdeal.τ) (Cert.FfnDwRefIdeal.main (F := Ideal))) ⟨m, fun _ => 0, g⟩ (fun r => (∀ c : Dev Cert.FfnDwRefIdeal.nD,
      r.2.mem ((c.tc : Thread Cert.FfnDwRefIdeal.nD Cert.FfnDwRefIdeal.τ).loc Cert.FfnDwRefIdeal.main_arg0) = m ((c.tc : Thread Cert.FfnDwRefIdeal.nD Cert.FfnDwRefIdeal.τ).loc Cert.FfnDwRefIdeal.main_arg0)
      ∧ r.2.mem ((c.tc : Thread Cert.FfnDwRefIdeal.nD Cert.FfnDwRefIdeal.τ).loc Cert.FfnDwRefIdeal.main_arg1) = m ((c.tc : Thread Cert.FfnDwRefIdeal.nD Cert.FfnDwRefIdeal.τ).loc Cert.FfnDwRefIdeal.main_arg1)
      ∧ r.2.mem ((c.tc : Thread Cert.FfnDwRefIdeal.nD Cert.FfnDwRefIdeal.τ).loc Cert.FfnDwRefIdeal.main_arg2) = m ((c.tc : Thread Cert.FfnDwRefIdeal.nD Cert.FfnDwRefIdeal.τ).loc Cert.FfnDwRefIdeal.main_arg2)
      ∧ r.2.mem ((c.tc : Thread Cert.FfnDwRefIdeal.nD Cert.FfnDwRefIdeal.τ).loc Cert.FfnDwRefIdeal.main_arg3) = m ((c.tc : Thread Cert.FfnDwRefIdeal.nD Cert.FfnDwRefIdeal.τ).loc Cert.FfnDwRefIdeal.main_arg3))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2)
      ∧ r.2.mem ((c.tc : Thread Cert.OutDw.nD Cert.OutDw.τ).loc Cert.OutDw.main_arg3) = m ((c.tc : Thread Cert.OutDw.nD Cert.OutDw.τ).loc Cert.OutDw.main_arg3)
      ∧ r.2.mem ((c.tc : Thread Cert.OutDw.nD Cert.OutDw.τ).loc Cert.OutDw.main_arg4) = m ((c.tc : Thread Cert.OutDw.nD Cert.OutDw.τ).loc Cert.OutDw.main_arg4))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2)
      ∧ r.2.mem ((c.tc : Thread Cert.OutDwIdeal.nD Cert.OutDwIdeal.τ).loc Cert.OutDwIdeal.main_arg3) = m ((c.tc : Thread Cert.OutDwIdeal.nD Cert.OutDwIdeal.τ).loc Cert.OutDwIdeal.main_arg3)
      ∧ r.2.mem ((c.tc : Thread Cert.OutDwIdeal.nD Cert.OutDwIdeal.τ).loc Cert.OutDwIdeal.main_arg4) = m ((c.tc : Thread Cert.OutDwIdeal.nD Cert.OutDwIdeal.τ).loc Cert.OutDwIdeal.main_arg4))
      ∧ r.2.sem = fun _ => 0)

def quiescent_OutDwIdeal_pre_finite_outdw [hOutDwIdeal : Cert.OutDwIdeal.Facts] [hPre_finite_outdw : Cert.Pre_finite_outdw.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal_finite_outdw m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2)
      ∧ r.2.mem ((c.tc : Thread Cert.OutDwIdeal.nD Cert.OutDwIdeal.τ).loc Cert.OutDwIdeal.main_arg3) = m ((c.tc : Thread Cert.OutDwIdeal.nD Cert.OutDwIdeal.τ).loc Cert.OutDwIdeal.main_arg3)
      ∧ r.2.mem ((c.tc : Thread Cert.OutDwIdeal.nD Cert.OutDwIdeal.τ).loc Cert.OutDwIdeal.main_arg4) = m ((c.tc : Thread Cert.OutDwIdeal.nD Cert.OutDwIdeal.τ).loc Cert.OutDwIdeal.main_arg4))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2)
      ∧ r.2.mem ((c.tc : Thread Cert.OutDwRefIdeal.nD Cert.OutDwRefIdeal.τ).loc Cert.OutDwRefIdeal.main_arg3) = m ((c.tc : Thread Cert.OutDwRefIdeal.nD Cert.OutDwRefIdeal.τ).loc Cert.OutDwRefIdeal.main_arg3)
      ∧ r.2.mem ((c.tc : Thread Cert.OutDwRefIdeal.nD Cert.OutDwRefIdeal.τ).loc Cert.OutDwRefIdeal.main_arg4) = m ((c.tc : Thread Cert.OutDwRefIdeal.nD Cert.OutDwRefIdeal.τ).loc Cert.OutDwRefIdeal.main_arg4))
      ∧ r.2.sem = fun _ => 0)

def quiescent_OutDwRefIdeal_pre_finite_outdw [hOutDwRefIdeal : Cert.OutDwRefIdeal.Facts] [hPre_finite_outdw : Cert.Pre_finite_outdw.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal_finite_outdw m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2)
      ∧ r.2.mem ((c.tc : Thread Cert.OutDwRefIdeal.nD Cert.OutDwRefIdeal.τ).loc Cert.OutDwRefIdeal.main_arg3) = m ((c.tc : Thread Cert.OutDwRefIdeal.nD Cert.OutDwRefIdeal.τ).loc Cert.OutDwRefIdeal.main_arg3)
      ∧ r.2.mem ((c.tc : Thread Cert.OutDwRefIdeal.nD Cert.OutDwRefIdeal.τ).loc Cert.OutDwRefIdeal.main_arg4) = m ((c.tc : Thread Cert.OutDwRefIdeal.nD Cert.OutDwRefIdeal.τ).loc Cert.OutDwRefIdeal.main_arg4))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4)
      ∧ r.2.mem ((c.tc : Thread Cert.DwIn.nD Cert.DwIn.τ).loc Cert.DwIn.main_arg5) = m ((c.tc : Thread Cert.DwIn.nD Cert.DwIn.τ).loc Cert.DwIn.main_arg5)
      ∧ r.2.mem ((c.tc : Thread Cert.DwIn.nD Cert.DwIn.τ).loc Cert.DwIn.main_arg6) = m ((c.tc : Thread Cert.DwIn.nD Cert.DwIn.τ).loc Cert.DwIn.main_arg6))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
      ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6))
      ∧ r.2.sem = fun _ => 0)

def quiescent_DwInIdeal_pre_finite_dwin [hDwInIdeal : Cert.DwInIdeal.Facts] [hPre_finite_dwin : Cert.Pre_finite_dwin.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal_finite_dwin m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
      ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5)
      ∧ r.2.mem ((c.tc : Thread Cert.DwInRefIdeal.nD Cert.DwInRefIdeal.τ).loc Cert.DwInRefIdeal.main_arg6) = m ((c.tc : Thread Cert.DwInRefIdeal.nD Cert.DwInRefIdeal.τ).loc Cert.DwInRefIdeal.main_arg6))
      ∧ r.2.sem = fun _ => 0)

def quiescent_DwInRefIdeal_pre_finite_dwin [hDwInRefIdeal : Cert.DwInRefIdeal.Facts] [hPre_finite_dwin : Cert.Pre_finite_dwin.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal_finite_dwin m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5)
      ∧ r.2.mem ((c.tc : Thread Cert.DwInRefIdeal.nD Cert.DwInRefIdeal.τ).loc Cert.DwInRefIdeal.main_arg6) = m ((c.tc : Thread Cert.DwInRefIdeal.nD Cert.DwInRefIdeal.τ).loc Cert.DwInRefIdeal.main_arg6))
      ∧ r.2.sem = fun _ => 0)

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Gm_GmIdeal : Prop :=
  IdealRules.named_const.Statement Cert.GmIdeal.κ "inv_sqrt2" .f32 0x3F3504F3#32 (((Real.sqrt 2)⁻¹ : ℝ) : EReal)
  ∧ IdealRules.named_const.Statement Cert.GmIdeal.κ "half_erf_slope_inv_sqrt2" .f32 0x3ECC422A#32 (((9465531 / 16777216) * (Real.sqrt 2)⁻¹ : ℝ) : EReal)

def algebraic_GmIdeal_GmRefIdeal_pre_finite_gm [hGmIdeal : Cert.GmIdeal.Facts] [hGmRefIdeal : Cert.GmRefIdeal.Facts] [hPre_finite_gm : Cert.Pre_finite_gm.Facts] : Prop :=
  ∀ (m : (ℓ : Loc Cert.GmIdeal.nD Cert.GmIdeal.τ Cert.GmIdeal.sig) → Buf (Elt Ideal) ℓ) (g : Dev Cert.GmIdeal.nD → PrngReg)
    (m' : (ℓ : Loc Cert.GmRefIdeal.nD Cert.GmRefIdeal.τ Cert.GmRefIdeal.sig) → Buf (Elt Ideal) ℓ) (g' : Dev Cert.GmRefIdeal.nD → PrngReg), Pre_GmIdeal_finite_gm m →
    (∀ c : Dev Cert.GmIdeal.nD,
      m' ((c.tc : Thread Cert.GmRefIdeal.nD Cert.GmRefIdeal.τ).loc Cert.GmRefIdeal.main_arg0) = m ((c.tc : Thread Cert.GmIdeal.nD Cert.GmIdeal.τ).loc Cert.GmIdeal.main_arg0)
      ∧ m' ((c.tc : Thread Cert.GmRefIdeal.nD Cert.GmRefIdeal.τ).loc Cert.GmRefIdeal.main_arg1) = m ((c.tc : Thread Cert.GmIdeal.nD Cert.GmIdeal.τ).loc Cert.GmIdeal.main_arg1)
      ∧ m' ((c.tc : Thread Cert.GmRefIdeal.nD Cert.GmRefIdeal.τ).loc Cert.GmRefIdeal.main_arg2) = m ((c.tc : Thread Cert.GmIdeal.nD Cert.GmIdeal.τ).loc Cert.GmIdeal.main_arg2)
      ∧ m' ((c.tc : Thread Cert.GmRefIdeal.nD Cert.GmRefIdeal.τ).loc Cert.GmRefIdeal.main_arg3) = m ((c.tc : Thread Cert.GmIdeal.nD Cert.GmIdeal.τ).loc Cert.GmIdeal.main_arg3)
      ∧ m' ((c.tc : Thread Cert.GmRefIdeal.nD Cert.GmRefIdeal.τ).loc Cert.GmRefIdeal.main_arg4) = m ((c.tc : Thread Cert.GmIdeal.nD Cert.GmIdeal.τ).loc Cert.GmIdeal.main_arg4)
      ∧ m' ((c.tc : Thread Cert.GmRefIdeal.nD Cert.GmRefIdeal.τ).loc Cert.GmRefIdeal.main_arg5) = m ((c.tc : Thread Cert.GmIdeal.nD Cert.GmIdeal.τ).loc Cert.GmIdeal.main_arg5)) →
    ∃ (v0 : (c : Dev Cert.GmIdeal.nD) → Buf (Elt Ideal) ((c.tc : Thread Cert.GmIdeal.nD Cert.GmIdeal.τ).loc Cert.GmIdeal.main_v6_0)) (v1 : (c : Dev Cert.GmIdeal.nD) → Buf (Elt Ideal) ((c.tc : Thread Cert.GmIdeal.nD Cert.GmIdeal.τ).loc Cert.GmIdeal.main_v6_1)) (v2 : (c : Dev Cert.GmIdeal.nD) → Buf (Elt Ideal) ((c.tc : Thread Cert.GmIdeal.nD Cert.GmIdeal.τ).loc Cert.GmIdeal.main_v6_2)) (v3 : (c : Dev Cert.GmIdeal.nD) → Buf (Elt Ideal) ((c.tc : Thread Cert.GmIdeal.nD Cert.GmIdeal.τ).loc Cert.GmIdeal.main_v6_3)) (v4 : (c : Dev Cert.GmIdeal.nD) → Buf (Elt Ideal) ((c.tc : Thread Cert.GmIdeal.nD Cert.GmIdeal.τ).loc Cert.GmIdeal.main_v6_4)),
      θ_run (Cert.GmIdeal.defs (F := Ideal)) (onTc (τ := Cert.GmIdeal.τ) (Cert.GmIdeal.main (F := Ideal))) ⟨m, fun _ => 0, g⟩ (fun r => ∀ c : Dev Cert.GmIdeal.nD,
          r.2.mem ((c.tc : Thread Cert.GmIdeal.nD Cert.GmIdeal.τ).loc Cert.GmIdeal.main_v6_0) = v0 c
          ∧ r.2.mem ((c.tc : Thread Cert.GmIdeal.nD Cert.GmIdeal.τ).loc Cert.GmIdeal.main_v6_1) = v1 c
          ∧ r.2.mem ((c.tc : Thread Cert.GmIdeal.nD Cert.GmIdeal.τ).loc Cert.GmIdeal.main_v6_2) = v2 c
          ∧ r.2.mem ((c.tc : Thread Cert.GmIdeal.nD Cert.GmIdeal.τ).loc Cert.GmIdeal.main_v6_3) = v3 c
          ∧ r.2.mem ((c.tc : Thread Cert.GmIdeal.nD Cert.GmIdeal.τ).loc Cert.GmIdeal.main_v6_4) = v4 c
          ∧ r.2.mem ((c.tc : Thread Cert.GmIdeal.nD Cert.GmIdeal.τ).loc Cert.GmIdeal.main_arg0) = m ((c.tc : Thread Cert.GmIdeal.nD Cert.GmIdeal.τ).loc Cert.GmIdeal.main_arg0)
          ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
          ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
          ∧ r.2.mem ((c.tc : Thread Cert.GmIdeal.nD Cert.GmIdeal.τ).loc Cert.GmIdeal.main_arg3) = m ((c.tc : Thread Cert.GmIdeal.nD Cert.GmIdeal.τ).loc Cert.GmIdeal.main_arg3)
          ∧ r.2.mem ((c.tc : Thread Cert.GmIdeal.nD Cert.GmIdeal.τ).loc Cert.GmIdeal.main_arg4) = m ((c.tc : Thread Cert.GmIdeal.nD Cert.GmIdeal.τ).loc Cert.GmIdeal.main_arg4)
          ∧ r.2.mem ((c.tc : Thread Cert.GmIdeal.nD Cert.GmIdeal.τ).loc Cert.GmIdeal.main_arg5) = m ((c.tc : Thread Cert.GmIdeal.nD Cert.GmIdeal.τ).loc Cert.GmIdeal.main_arg5))
      ∧ θ_run (Cert.GmRefIdeal.defs (F := Ideal)) (onTc (τ := Cert.GmRefIdeal.τ) (Cert.GmRefIdeal.main (F := Ideal))) ⟨m', fun _ => 0, g'⟩ (fun r => ∀ c : Dev Cert.GmRefIdeal.nD,
          r.2.mem ((c.tc : Thread Cert.GmRefIdeal.nD Cert.GmRefIdeal.τ).loc Cert.GmRefIdeal.main_v136) = v0 c
          ∧ r.2.mem ((c.tc : Thread Cert.GmRefIdeal.nD Cert.GmRefIdeal.τ).loc Cert.GmRefIdeal.main_v76) = v1 c
          ∧ r.2.mem ((c.tc : Thread Cert.GmRefIdeal.nD Cert.GmRefIdeal.τ).loc Cert.GmRefIdeal.main_v138) = v2 c
          ∧ r.2.mem ((c.tc : Thread Cert.GmRefIdeal.nD Cert.GmRefIdeal.τ).loc Cert.GmRefIdeal.main_v139) = v3 c
          ∧ r.2.mem ((c.tc : Thread Cert.GmRefIdeal.nD Cert.GmRefIdeal.τ).loc Cert.GmRefIdeal.main_v140) = v4 c
          ∧ r.2.mem ((c.tc : Thread Cert.GmRefIdeal.nD Cert.GmRefIdeal.τ).loc Cert.GmRefIdeal.main_arg0) = m' ((c.tc : Thread Cert.GmRefIdeal.nD Cert.GmRefIdeal.τ).loc Cert.GmRefIdeal.main_arg0)
          ∧ r.2.mem ((c.tc : Thread Cert.GmRefIdeal.nD Cert.GmRefIdeal.τ).loc Cert.GmRefIdeal.main_arg1) = m' ((c.tc : Thread Cert.GmRefIdeal.nD Cert.GmRefIdeal.τ).loc Cert.GmRefIdeal.main_arg1)
          ∧ r.2.mem ((c.tc : Thread Cert.GmRefIdeal.nD Cert.GmRefIdeal.τ).loc Cert.GmRefIdeal.main_arg2) = m' ((c.tc : Thread Cert.GmRefIdeal.nD Cert.GmRefIdeal.τ).loc Cert.GmRefIdeal.main_arg2)
          ∧ r.2.mem ((c.tc : Thread Cert.GmRefIdeal.nD Cert.GmRefIdeal.τ).loc Cert.GmRefIdeal.main_arg3) = m' ((c.tc : Thread Cert.GmRefIdeal.nD Cert.GmRefIdeal.τ).loc Cert.GmRefIdeal.main_arg3)
          ∧ r.2.mem ((c.tc : Thread Cert.GmRefIdeal.nD Cert.GmRefIdeal.τ).loc Cert.GmRefIdeal.main_arg4) = m' ((c.tc : Thread Cert.GmRefIdeal.nD Cert.GmRefIdeal.τ).loc Cert.GmRefIdeal.main_arg4)
          ∧ r.2.mem ((c.tc : Thread Cert.GmRefIdeal.nD Cert.GmRefIdeal.τ).loc Cert.GmRefIdeal.main_arg5) = m' ((c.tc : Thread Cert.GmRefIdeal.nD Cert.GmRefIdeal.τ).loc Cert.GmRefIdeal.main_arg5))

def preserves_RetMain_RetMainIdeal : Prop :=
  True

def algebraic_RetMainIdeal_RetMainRefIdeal_pre_finite_retmain [hRetMainIdeal : Cert.RetMainIdeal.Facts] [hRetMainRefIdeal : Cert.RetMainRefIdeal.Facts] [hPre_finite_retmain : Cert.Pre_finite_retmain.Facts] : Prop :=
  ∀ (m : (ℓ : Loc Cert.RetMainIdeal.nD Cert.RetMainIdeal.τ Cert.RetMainIdeal.sig) → Buf (Elt Ideal) ℓ) (g : Dev Cert.RetMainIdeal.nD → PrngReg)
    (m' : (ℓ : Loc Cert.RetMainRefIdeal.nD Cert.RetMainRefIdeal.τ Cert.RetMainRefIdeal.sig) → Buf (Elt Ideal) ℓ) (g' : Dev Cert.RetMainRefIdeal.nD → PrngReg), Pre_RetMainIdeal_finite_retmain m →
    (∀ c : Dev Cert.RetMainIdeal.nD,
      m' ((c.tc : Thread Cert.RetMainRefIdeal.nD Cert.RetMainRefIdeal.τ).loc Cert.RetMainRefIdeal.main_arg0) = m ((c.tc : Thread Cert.RetMainIdeal.nD Cert.RetMainIdeal.τ).loc Cert.RetMainIdeal.main_arg0)
      ∧ m' ((c.tc : Thread Cert.RetMainRefIdeal.nD Cert.RetMainRefIdeal.τ).loc Cert.RetMainRefIdeal.main_arg1) = m ((c.tc : Thread Cert.RetMainIdeal.nD Cert.RetMainIdeal.τ).loc Cert.RetMainIdeal.main_arg1)
      ∧ m' ((c.tc : Thread Cert.RetMainRefIdeal.nD Cert.RetMainRefIdeal.τ).loc Cert.RetMainRefIdeal.main_arg2) = m ((c.tc : Thread Cert.RetMainIdeal.nD Cert.RetMainIdeal.τ).loc Cert.RetMainIdeal.main_arg2)
      ∧ m' ((c.tc : Thread Cert.RetMainRefIdeal.nD Cert.RetMainRefIdeal.τ).loc Cert.RetMainRefIdeal.main_arg3) = m ((c.tc : Thread Cert.RetMainIdeal.nD Cert.RetMainIdeal.τ).loc Cert.RetMainIdeal.main_arg3)
      ∧ m' ((c.tc : Thread Cert.RetMainRefIdeal.nD Cert.RetMainRefIdeal.τ).loc Cert.RetMainRefIdeal.main_arg4) = m ((c.tc : Thread Cert.RetMainIdeal.nD Cert.RetMainIdeal.τ).loc Cert.RetMainIdeal.main_arg4)
      ∧ m' ((c.tc : Thread Cert.RetMainRefIdeal.nD Cert.RetMainRefIdeal.τ).loc Cert.RetMainRefIdeal.main_arg5) = m ((c.tc : Thread Cert.RetMainIdeal.nD Cert.RetMainIdeal.τ).loc Cert.RetMainIdeal.main_arg5)) →
    ∃ (v0 : (c : Dev Cert.RetMainIdeal.nD) → Buf (Elt Ideal) ((c.tc : Thread Cert.RetMainIdeal.nD Cert.RetMainIdeal.τ).loc Cert.RetMainIdeal.main_v284)),
      θ_run (Cert.RetMainIdeal.defs (F := Ideal)) (onTc (τ := Cert.RetMainIdeal.τ) (Cert.RetMainIdeal.main (F := Ideal))) ⟨m, fun _ => 0, g⟩ (fun r => ∀ c : Dev Cert.RetMainIdeal.nD,
          r.2.mem ((c.tc : Thread Cert.RetMainIdeal.nD Cert.RetMainIdeal.τ).loc Cert.RetMainIdeal.main_v284) = v0 c
          ∧ r.2.mem ((c.tc : Thread Cert.RetMainIdeal.nD Cert.RetMainIdeal.τ).loc Cert.RetMainIdeal.main_arg0) = m ((c.tc : Thread Cert.RetMainIdeal.nD Cert.RetMainIdeal.τ).loc Cert.RetMainIdeal.main_arg0)
          ∧ r.2.mem ((c.tc : Thread Cert.RetMainIdeal.nD Cert.RetMainIdeal.τ).loc Cert.RetMainIdeal.main_arg1) = m ((c.tc : Thread Cert.RetMainIdeal.nD Cert.RetMainIdeal.τ).loc Cert.RetMainIdeal.main_arg1)
          ∧ r.2.mem ((c.tc : Thread Cert.RetMainIdeal.nD Cert.RetMainIdeal.τ).loc Cert.RetMainIdeal.main_arg2) = m ((c.tc : Thread Cert.RetMainIdeal.nD Cert.RetMainIdeal.τ).loc Cert.RetMainIdeal.main_arg2)
          ∧ r.2.mem ((c.tc : Thread Cert.RetMainIdeal.nD Cert.RetMainIdeal.τ).loc Cert.RetMainIdeal.main_arg3) = m ((c.tc : Thread Cert.RetMainIdeal.nD Cert.RetMainIdeal.τ).loc Cert.RetMainIdeal.main_arg3)
          ∧ r.2.mem ((c.tc : Thread Cert.RetMainIdeal.nD Cert.RetMainIdeal.τ).loc Cert.RetMainIdeal.main_arg4) = m ((c.tc : Thread Cert.RetMainIdeal.nD Cert.RetMainIdeal.τ).loc Cert.RetMainIdeal.main_arg4)
          ∧ r.2.mem ((c.tc : Thread Cert.RetMainIdeal.nD Cert.RetMainIdeal.τ).loc Cert.RetMainIdeal.main_arg5) = m ((c.tc : Thread Cert.RetMainIdeal.nD Cert.RetMainIdeal.τ).loc Cert.RetMainIdeal.main_arg5))
      ∧ θ_run (Cert.RetMainRefIdeal.defs (F := Ideal)) (onTc (τ := Cert.RetMainRefIdeal.τ) (Cert.RetMainRefIdeal.main (F := Ideal))) ⟨m', fun _ => 0, g'⟩ (fun r => ∀ c : Dev Cert.RetMainRefIdeal.nD,
          r.2.mem ((c.tc : Thread Cert.RetMainRefIdeal.nD Cert.RetMainRefIdeal.τ).loc Cert.RetMainRefIdeal.main_v358) = v0 c
          ∧ r.2.mem ((c.tc : Thread Cert.RetMainRefIdeal.nD Cert.RetMainRefIdeal.τ).loc Cert.RetMainRefIdeal.main_arg0) = m' ((c.tc : Thread Cert.RetMainRefIdeal.nD Cert.RetMainRefIdeal.τ).loc Cert.RetMainRefIdeal.main_arg0)
          ∧ r.2.mem ((c.tc : Thread Cert.RetMainRefIdeal.nD Cert.RetMainRefIdeal.τ).loc Cert.RetMainRefIdeal.main_arg1) = m' ((c.tc : Thread Cert.RetMainRefIdeal.nD Cert.RetMainRefIdeal.τ).loc Cert.RetMainRefIdeal.main_arg1)
          ∧ r.2.mem ((c.tc : Thread Cert.RetMainRefIdeal.nD Cert.RetMainRefIdeal.τ).loc Cert.RetMainRefIdeal.main_arg2) = m' ((c.tc : Thread Cert.RetMainRefIdeal.nD Cert.RetMainRefIdeal.τ).loc Cert.RetMainRefIdeal.main_arg2)
          ∧ r.2.mem ((c.tc : Thread Cert.RetMainRefIdeal.nD Cert.RetMainRefIdeal.τ).loc Cert.RetMainRefIdeal.main_arg3) = m' ((c.tc : Thread Cert.RetMainRefIdeal.nD Cert.RetMainRefIdeal.τ).loc Cert.RetMainRefIdeal.main_arg3)
          ∧ r.2.mem ((c.tc : Thread Cert.RetMainRefIdeal.nD Cert.RetMainRefIdeal.τ).loc Cert.RetMainRefIdeal.main_arg4) = m' ((c.tc : Thread Cert.RetMainRefIdeal.nD Cert.RetMainRefIdeal.τ).loc Cert.RetMainRefIdeal.main_arg4)
          ∧ r.2.mem ((c.tc : Thread Cert.RetMainRefIdeal.nD Cert.RetMainRefIdeal.τ).loc Cert.RetMainRefIdeal.main_arg5) = m' ((c.tc : Thread Cert.RetMainRefIdeal.nD Cert.RetMainRefIdeal.τ).loc Cert.RetMainRefIdeal.main_arg5))

def preserves_RetCarry_RetCarryIdeal : Prop :=
  True

def algebraic_RetCarryIdeal_RetCarryRefIdeal_pre_finite_retcarry [hRetCarryIdeal : Cert.RetCarryIdeal.Facts] [hRetCarryRefIdeal : Cert.RetCarryRefIdeal.Facts] [hPre_finite_retcarry : Cert.Pre_finite_retcarry.Facts] : Prop :=
  ∀ (m : (ℓ : Loc Cert.RetCarryIdeal.nD Cert.RetCarryIdeal.τ Cert.RetCarryIdeal.sig) → Buf (Elt Ideal) ℓ) (g : Dev Cert.RetCarryIdeal.nD → PrngReg)
    (m' : (ℓ : Loc Cert.RetCarryRefIdeal.nD Cert.RetCarryRefIdeal.τ Cert.RetCarryRefIdeal.sig) → Buf (Elt Ideal) ℓ) (g' : Dev Cert.RetCarryRefIdeal.nD → PrngReg), Pre_RetCarryIdeal_finite_retcarry m →
    (∀ c : Dev Cert.RetCarryIdeal.nD,
      m' ((c.tc : Thread Cert.RetCarryRefIdeal.nD Cert.RetCarryRefIdeal.τ).loc Cert.RetCarryRefIdeal.main_arg0) = m ((c.tc : Thread Cert.RetCarryIdeal.nD Cert.RetCarryIdeal.τ).loc Cert.RetCarryIdeal.main_arg0)
      ∧ m' ((c.tc : Thread Cert.RetCarryRefIdeal.nD Cert.RetCarryRefIdeal.τ).loc Cert.RetCarryRefIdeal.main_arg1) = m ((c.tc : Thread Cert.RetCarryIdeal.nD Cert.RetCarryIdeal.τ).loc Cert.RetCarryIdeal.main_arg1)) →
    ∃ (v0 : (c : Dev Cert.RetCarryIdeal.nD) → Buf (Elt Ideal) ((c.tc : Thread Cert.RetCarryIdeal.nD Cert.RetCarryIdeal.τ).loc Cert.RetCarryIdeal.main_v176_0)) (v1 : (c : Dev Cert.RetCarryIdeal.nD) → Buf (Elt Ideal) ((c.tc : Thread Cert.RetCarryIdeal.nD Cert.RetCarryIdeal.τ).loc Cert.RetCarryIdeal.main_v176_1)),
      θ_run (Cert.RetCarryIdeal.defs (F := Ideal)) (onTc (τ := Cert.RetCarryIdeal.τ) (Cert.RetCarryIdeal.main (F := Ideal))) ⟨m, fun _ => 0, g⟩ (fun r => ∀ c : Dev Cert.RetCarryIdeal.nD,
          r.2.mem ((c.tc : Thread Cert.RetCarryIdeal.nD Cert.RetCarryIdeal.τ).loc Cert.RetCarryIdeal.main_v176_0) = v0 c
          ∧ r.2.mem ((c.tc : Thread Cert.RetCarryIdeal.nD Cert.RetCarryIdeal.τ).loc Cert.RetCarryIdeal.main_v176_1) = v1 c
          ∧ r.2.mem ((c.tc : Thread Cert.RetCarryIdeal.nD Cert.RetCarryIdeal.τ).loc Cert.RetCarryIdeal.main_arg0) = m ((c.tc : Thread Cert.RetCarryIdeal.nD Cert.RetCarryIdeal.τ).loc Cert.RetCarryIdeal.main_arg0)
          ∧ r.2.mem ((c.tc : Thread Cert.RetCarryIdeal.nD Cert.RetCarryIdeal.τ).loc Cert.RetCarryIdeal.main_arg1) = m ((c.tc : Thread Cert.RetCarryIdeal.nD Cert.RetCarryIdeal.τ).loc Cert.RetCarryIdeal.main_arg1))
      ∧ θ_run (Cert.RetCarryRefIdeal.defs (F := Ideal)) (onTc (τ := Cert.RetCarryRefIdeal.τ) (Cert.RetCarryRefIdeal.main (F := Ideal))) ⟨m', fun _ => 0, g'⟩ (fun r => ∀ c : Dev Cert.RetCarryRefIdeal.nD,
          r.2.mem ((c.tc : Thread Cert.RetCarryRefIdeal.nD Cert.RetCarryRefIdeal.τ).loc Cert.RetCarryRefIdeal.main_v148) = v0 c
          ∧ r.2.mem ((c.tc : Thread Cert.RetCarryRefIdeal.nD Cert.RetCarryRefIdeal.τ).loc Cert.RetCarryRefIdeal.main_v151) = v1 c
          ∧ r.2.mem ((c.tc : Thread Cert.RetCarryRefIdeal.nD Cert.RetCarryRefIdeal.τ).loc Cert.RetCarryRefIdeal.main_arg0) = m' ((c.tc : Thread Cert.RetCarryRefIdeal.nD Cert.RetCarryRefIdeal.τ).loc Cert.RetCarryRefIdeal.main_arg0)
          ∧ r.2.mem ((c.tc : Thread Cert.RetCarryRefIdeal.nD Cert.RetCarryRefIdeal.τ).loc Cert.RetCarryRefIdeal.main_arg1) = m' ((c.tc : Thread Cert.RetCarryRefIdeal.nD Cert.RetCarryRefIdeal.τ).loc Cert.RetCarryRefIdeal.main_arg1))

def preserves_Swiglu_SwigluIdeal : Prop :=
  True

def algebraic_SwigluIdeal_SwigluRefIdeal_pre_finite_swiglu [hSwigluIdeal : Cert.SwigluIdeal.Facts] [hSwigluRefIdeal : Cert.SwigluRefIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_finite_swiglu m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v2)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v2) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v12) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_SwigluW_SwigluWIdeal : Prop :=
  True

def algebraic_SwigluWIdeal_SwigluWRefIdeal_pre_finite_swigluw [hSwigluWIdeal : Cert.SwigluWIdeal.Facts] [hSwigluWRefIdeal : Cert.SwigluWRefIdeal.Facts] [hPre_finite_swigluw : Cert.Pre_finite_swigluw.Facts] : Prop :=
  ∀ (m : (ℓ : Loc Cert.SwigluWIdeal.nD Cert.SwigluWIdeal.τ Cert.SwigluWIdeal.sig) → Buf (Elt Ideal) ℓ) (g : Dev Cert.SwigluWIdeal.nD → PrngReg)
    (m' : (ℓ : Loc Cert.SwigluWRefIdeal.nD Cert.SwigluWRefIdeal.τ Cert.SwigluWRefIdeal.sig) → Buf (Elt Ideal) ℓ) (g' : Dev Cert.SwigluWRefIdeal.nD → PrngReg), Pre_SwigluWIdeal_finite_swigluw m →
    (∀ c : Dev Cert.SwigluWIdeal.nD,
      m' ((c.tc : Thread Cert.SwigluWRefIdeal.nD Cert.SwigluWRefIdeal.τ).loc Cert.SwigluWRefIdeal.main_arg0) = m ((c.tc : Thread Cert.SwigluWIdeal.nD Cert.SwigluWIdeal.τ).loc Cert.SwigluWIdeal.main_arg0)
      ∧ m' ((c.tc : Thread Cert.SwigluWRefIdeal.nD Cert.SwigluWRefIdeal.τ).loc Cert.SwigluWRefIdeal.main_arg1) = m ((c.tc : Thread Cert.SwigluWIdeal.nD Cert.SwigluWIdeal.τ).loc Cert.SwigluWIdeal.main_arg1)
      ∧ m' ((c.tc : Thread Cert.SwigluWRefIdeal.nD Cert.SwigluWRefIdeal.τ).loc Cert.SwigluWRefIdeal.main_arg2) = m ((c.tc : Thread Cert.SwigluWIdeal.nD Cert.SwigluWIdeal.τ).loc Cert.SwigluWIdeal.main_arg2)) →
    ∃ (v0 : (c : Dev Cert.SwigluWIdeal.nD) → Buf (Elt Ideal) ((c.tc : Thread Cert.SwigluWIdeal.nD Cert.SwigluWIdeal.τ).loc Cert.SwigluWIdeal.main_v1)),
      θ_run (Cert.SwigluWIdeal.defs (F := Ideal)) (onTc (τ := Cert.SwigluWIdeal.τ) (Cert.SwigluWIdeal.main (F := Ideal))) ⟨m, fun _ => 0, g⟩ (fun r => ∀ c : Dev Cert.SwigluWIdeal.nD,
          r.2.mem ((c.tc : Thread Cert.SwigluWIdeal.nD Cert.SwigluWIdeal.τ).loc Cert.SwigluWIdeal.main_v1) = v0 c
          ∧ r.2.mem ((c.tc : Thread Cert.SwigluWIdeal.nD Cert.SwigluWIdeal.τ).loc Cert.SwigluWIdeal.main_arg0) = m ((c.tc : Thread Cert.SwigluWIdeal.nD Cert.SwigluWIdeal.τ).loc Cert.SwigluWIdeal.main_arg0)
          ∧ r.2.mem ((c.tc : Thread Cert.SwigluWIdeal.nD Cert.SwigluWIdeal.τ).loc Cert.SwigluWIdeal.main_arg1) = m ((c.tc : Thread Cert.SwigluWIdeal.nD Cert.SwigluWIdeal.τ).loc Cert.SwigluWIdeal.main_arg1)
          ∧ r.2.mem ((c.tc : Thread Cert.SwigluWIdeal.nD Cert.SwigluWIdeal.τ).loc Cert.SwigluWIdeal.main_arg2) = m ((c.tc : Thread Cert.SwigluWIdeal.nD Cert.SwigluWIdeal.τ).loc Cert.SwigluWIdeal.main_arg2))
      ∧ θ_run (Cert.SwigluWRefIdeal.defs (F := Ideal)) (onTc (τ := Cert.SwigluWRefIdeal.τ) (Cert.SwigluWRefIdeal.main (F := Ideal))) ⟨m', fun _ => 0, g'⟩ (fun r => ∀ c : Dev Cert.SwigluWRefIdeal.nD,
          r.2.mem ((c.tc : Thread Cert.SwigluWRefIdeal.nD Cert.SwigluWRefIdeal.τ).loc Cert.SwigluWRefIdeal.main_v12) = v0 c
          ∧ r.2.mem ((c.tc : Thread Cert.SwigluWRefIdeal.nD Cert.SwigluWRefIdeal.τ).loc Cert.SwigluWRefIdeal.main_arg0) = m' ((c.tc : Thread Cert.SwigluWRefIdeal.nD Cert.SwigluWRefIdeal.τ).loc Cert.SwigluWRefIdeal.main_arg0)
          ∧ r.2.mem ((c.tc : Thread Cert.SwigluWRefIdeal.nD Cert.SwigluWRefIdeal.τ).loc Cert.SwigluWRefIdeal.main_arg1) = m' ((c.tc : Thread Cert.SwigluWRefIdeal.nD Cert.SwigluWRefIdeal.τ).loc Cert.SwigluWRefIdeal.main_arg1)
          ∧ r.2.mem ((c.tc : Thread Cert.SwigluWRefIdeal.nD Cert.SwigluWRefIdeal.τ).loc Cert.SwigluWRefIdeal.main_arg2) = m' ((c.tc : Thread Cert.SwigluWRefIdeal.nD Cert.SwigluWRefIdeal.τ).loc Cert.SwigluWRefIdeal.main_arg2))

def preserves_FfnIn_FfnInIdeal : Prop :=
  True

def algebraic_FfnInIdeal_FfnInRefIdeal_pre_finite_ffnin [hFfnInIdeal : Cert.FfnInIdeal.Facts] [hFfnInRefIdeal : Cert.FfnInRefIdeal.Facts] [hPre_finite_ffnin : Cert.Pre_finite_ffnin.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_finite_ffnin m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v4_0)) (v1 : (c : Dev Cert.FfnInIdeal.nD) → Buf (Elt Ideal) ((c.tc : Thread Cert.FfnInIdeal.nD Cert.FfnInIdeal.τ).loc Cert.FfnInIdeal.main_v4_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v4_0) = v0 c
          ∧ r.2.mem ((c.tc : Thread Cert.FfnInIdeal.nD Cert.FfnInIdeal.τ).loc Cert.FfnInIdeal.main_v4_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v36) = v0 c
          ∧ r.2.mem ((c.tc : Thread Cert.FfnInRefIdeal.nD Cert.FfnInRefIdeal.τ).loc Cert.FfnInRefIdeal.main_v19) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4))

def preserves_InProj_InProjIdeal : Prop :=
  True

def algebraic_InProjIdeal_InProjRefIdeal_pre_finite_inproj [hInProjIdeal : Cert.InProjIdeal.Facts] [hInProjRefIdeal : Cert.InProjRefIdeal.Facts] [hPre_finite_inproj : Cert.Pre_finite_inproj.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_inproj m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v7_0)) (v1 : (c : Dev Cert.InProjIdeal.nD) → Buf (Elt Ideal) ((c.tc : Thread Cert.InProjIdeal.nD Cert.InProjIdeal.τ).loc Cert.InProjIdeal.main_v7_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7_0) = v0 c
          ∧ r.2.mem ((c.tc : Thread Cert.InProjIdeal.nD Cert.InProjIdeal.τ).loc Cert.InProjIdeal.main_v7_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v37) = v0 c
          ∧ r.2.mem ((c.tc : Thread Cert.InProjRefIdeal.nD Cert.InProjRefIdeal.τ).loc Cert.InProjRefIdeal.main_v20) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7))

def preserves_OutProj_OutProjIdeal : Prop :=
  True

def algebraic_OutProjIdeal_OutProjRefIdeal_pre_finite_outproj [hOutProjIdeal : Cert.OutProjIdeal.Facts] [hOutProjRefIdeal : Cert.OutProjRefIdeal.Facts] [hPre_finite_outproj : Cert.Pre_finite_outproj.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite_outproj m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)) (v2 : (c : Dev Cert.OutProjIdeal.nD) → Buf (Elt Ideal) ((c.tc : Thread Cert.OutProjIdeal.nD Cert.OutProjIdeal.τ).loc Cert.OutProjIdeal.main_v1_2)) (v3 : (c : Dev Cert.OutProjIdeal.nD) → Buf (Elt Ideal) ((c.tc : Thread Cert.OutProjIdeal.nD Cert.OutProjIdeal.τ).loc Cert.OutProjIdeal.main_v1_3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_v1_2) = v2 c
          ∧ r.2.mem ((c.tc : Thread Cert.OutProjIdeal.nD Cert.OutProjIdeal.τ).loc Cert.OutProjIdeal.main_v1_3) = v3 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v31) = v0 c
          ∧ r.2.mem ((c.tc : Thread Cert.OutProjRefIdeal.nD Cert.OutProjRefIdeal.τ).loc Cert.OutProjRefIdeal.main_v63) = v1 c
          ∧ r.2.mem ((c.tc : Thread Cert.OutProjRefIdeal.nD Cert.OutProjRefIdeal.τ).loc Cert.OutProjRefIdeal.main_v64) = v2 c
          ∧ r.2.mem ((c.tc : Thread Cert.OutProjRefIdeal.nD Cert.OutProjRefIdeal.τ).loc Cert.OutProjRefIdeal.main_v33) = v3 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_RetOut_RetOutIdeal : Prop :=
  True

def algebraic_RetOutIdeal_RetOutRefIdeal_pre_finite_retout [hRetOutIdeal : Cert.RetOutIdeal.Facts] [hRetOutRefIdeal : Cert.RetOutRefIdeal.Facts] [hPre_finite_retout : Cert.Pre_finite_retout.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal_finite_retout m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)
      ∧ m' ((c.tc : Thread Cert.RetOutRefIdeal.nD Cert.RetOutRefIdeal.τ).loc Cert.RetOutRefIdeal.main_arg3) = m ((c.tc : Thread Cert.RetOutIdeal.nD Cert.RetOutIdeal.τ).loc Cert.RetOutIdeal.main_arg3)) →
    ∃ (v0 : (c : Dev Cert.RetOutIdeal.nD) → Buf (Elt Ideal) ((c.tc : Thread Cert.RetOutIdeal.nD Cert.RetOutIdeal.τ).loc Cert.RetOutIdeal.main_v276_0)) (v1 : (c : Dev Cert.RetOutIdeal.nD) → Buf (Elt Ideal) ((c.tc : Thread Cert.RetOutIdeal.nD Cert.RetOutIdeal.τ).loc Cert.RetOutIdeal.main_v276_1)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v276_0) = v0 c
          ∧ r.2.mem ((c.tc : Thread Cert.RetOutIdeal.nD Cert.RetOutIdeal.τ).loc Cert.RetOutIdeal.main_v276_1) = v1 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v235) = v0 c
          ∧ r.2.mem ((c.tc : Thread Cert.RetOutRefIdeal.nD Cert.RetOutRefIdeal.τ).loc Cert.RetOutRefIdeal.main_v236) = v1 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2)
          ∧ r.2.mem ((c.tc : Thread Cert.RetOutRefIdeal.nD Cert.RetOutRefIdeal.τ).loc Cert.RetOutRefIdeal.main_arg3) = m' ((c.tc : Thread Cert.RetOutRefIdeal.nD Cert.RetOutRefIdeal.τ).loc Cert.RetOutRefIdeal.main_arg3))

def preserves_GmFwd_GmFwdIdeal : Prop :=
  IdealRules.named_const.Statement Cert.GmFwdIdeal.κ "inv_sqrt2" .f32 0x3F3504F3#32 (((Real.sqrt 2)⁻¹ : ℝ) : EReal)

def algebraic_GmFwdIdeal_GmFwdRefIdeal_pre_finite_gmfwd [hGmFwdIdeal : Cert.GmFwdIdeal.Facts] [hGmFwdRefIdeal : Cert.GmFwdRefIdeal.Facts] [hPre_finite_gmfwd : Cert.Pre_finite_gmfwd.Facts] : Prop :=
  ∀ (m : (ℓ : Loc Cert.GmFwdIdeal.nD Cert.GmFwdIdeal.τ Cert.GmFwdIdeal.sig) → Buf (Elt Ideal) ℓ) (g : Dev Cert.GmFwdIdeal.nD → PrngReg)
    (m' : (ℓ : Loc Cert.GmFwdRefIdeal.nD Cert.GmFwdRefIdeal.τ Cert.GmFwdRefIdeal.sig) → Buf (Elt Ideal) ℓ) (g' : Dev Cert.GmFwdRefIdeal.nD → PrngReg), Pre_GmFwdIdeal_finite_gmfwd m →
    (∀ c : Dev Cert.GmFwdIdeal.nD,
      m' ((c.tc : Thread Cert.GmFwdRefIdeal.nD Cert.GmFwdRefIdeal.τ).loc Cert.GmFwdRefIdeal.main_arg0) = m ((c.tc : Thread Cert.GmFwdIdeal.nD Cert.GmFwdIdeal.τ).loc Cert.GmFwdIdeal.main_arg0)
      ∧ m' ((c.tc : Thread Cert.GmFwdRefIdeal.nD Cert.GmFwdRefIdeal.τ).loc Cert.GmFwdRefIdeal.main_arg1) = m ((c.tc : Thread Cert.GmFwdIdeal.nD Cert.GmFwdIdeal.τ).loc Cert.GmFwdIdeal.main_arg1)
      ∧ m' ((c.tc : Thread Cert.GmFwdRefIdeal.nD Cert.GmFwdRefIdeal.τ).loc Cert.GmFwdRefIdeal.main_arg2) = m ((c.tc : Thread Cert.GmFwdIdeal.nD Cert.GmFwdIdeal.τ).loc Cert.GmFwdIdeal.main_arg2)
      ∧ m' ((c.tc : Thread Cert.GmFwdRefIdeal.nD Cert.GmFwdRefIdeal.τ).loc Cert.GmFwdRefIdeal.main_arg3) = m ((c.tc : Thread Cert.GmFwdIdeal.nD Cert.GmFwdIdeal.τ).loc Cert.GmFwdIdeal.main_arg3)
      ∧ m' ((c.tc : Thread Cert.GmFwdRefIdeal.nD Cert.GmFwdRefIdeal.τ).loc Cert.GmFwdRefIdeal.main_arg4) = m ((c.tc : Thread Cert.GmFwdIdeal.nD Cert.GmFwdIdeal.τ).loc Cert.GmFwdIdeal.main_arg4)) →
    ∃ (v0 : (c : Dev Cert.GmFwdIdeal.nD) → Buf (Elt Ideal) ((c.tc : Thread Cert.GmFwdIdeal.nD Cert.GmFwdIdeal.τ).loc Cert.GmFwdIdeal.main_v5)),
      θ_run (Cert.GmFwdIdeal.defs (F := Ideal)) (onTc (τ := Cert.GmFwdIdeal.τ) (Cert.GmFwdIdeal.main (F := Ideal))) ⟨m, fun _ => 0, g⟩ (fun r => ∀ c : Dev Cert.GmFwdIdeal.nD,
          r.2.mem ((c.tc : Thread Cert.GmFwdIdeal.nD Cert.GmFwdIdeal.τ).loc Cert.GmFwdIdeal.main_v5) = v0 c
          ∧ r.2.mem ((c.tc : Thread Cert.GmFwdIdeal.nD Cert.GmFwdIdeal.τ).loc Cert.GmFwdIdeal.main_arg0) = m ((c.tc : Thread Cert.GmFwdIdeal.nD Cert.GmFwdIdeal.τ).loc Cert.GmFwdIdeal.main_arg0)
          ∧ r.2.mem ((c.tc : Thread Cert.GmFwdIdeal.nD Cert.GmFwdIdeal.τ).loc Cert.GmFwdIdeal.main_arg1) = m ((c.tc : Thread Cert.GmFwdIdeal.nD Cert.GmFwdIdeal.τ).loc Cert.GmFwdIdeal.main_arg1)
          ∧ r.2.mem ((c.tc : Thread Cert.GmFwdIdeal.nD Cert.GmFwdIdeal.τ).loc Cert.GmFwdIdeal.main_arg2) = m ((c.tc : Thread Cert.GmFwdIdeal.nD Cert.GmFwdIdeal.τ).loc Cert.GmFwdIdeal.main_arg2)
          ∧ r.2.mem ((c.tc : Thread Cert.GmFwdIdeal.nD Cert.GmFwdIdeal.τ).loc Cert.GmFwdIdeal.main_arg3) = m ((c.tc : Thread Cert.GmFwdIdeal.nD Cert.GmFwdIdeal.τ).loc Cert.GmFwdIdeal.main_arg3)
          ∧ r.2.mem ((c.tc : Thread Cert.GmFwdIdeal.nD Cert.GmFwdIdeal.τ).loc Cert.GmFwdIdeal.main_arg4) = m ((c.tc : Thread Cert.GmFwdIdeal.nD Cert.GmFwdIdeal.τ).loc Cert.GmFwdIdeal.main_arg4))
      ∧ θ_run (Cert.GmFwdRefIdeal.defs (F := Ideal)) (onTc (τ := Cert.GmFwdRefIdeal.τ) (Cert.GmFwdRefIdeal.main (F := Ideal))) ⟨m', fun _ => 0, g'⟩ (fun r => ∀ c : Dev Cert.GmFwdRefIdeal.nD,
          r.2.mem ((c.tc : Thread Cert.GmFwdRefIdeal.nD Cert.GmFwdRefIdeal.τ).loc Cert.GmFwdRefIdeal.main_v54) = v0 c
          ∧ r.2.mem ((c.tc : Thread Cert.GmFwdRefIdeal.nD Cert.GmFwdRefIdeal.τ).loc Cert.GmFwdRefIdeal.main_arg0) = m' ((c.tc : Thread Cert.GmFwdRefIdeal.nD Cert.GmFwdRefIdeal.τ).loc Cert.GmFwdRefIdeal.main_arg0)
          ∧ r.2.mem ((c.tc : Thread Cert.GmFwdRefIdeal.nD Cert.GmFwdRefIdeal.τ).loc Cert.GmFwdRefIdeal.main_arg1) = m' ((c.tc : Thread Cert.GmFwdRefIdeal.nD Cert.GmFwdRefIdeal.τ).loc Cert.GmFwdRefIdeal.main_arg1)
          ∧ r.2.mem ((c.tc : Thread Cert.GmFwdRefIdeal.nD Cert.GmFwdRefIdeal.τ).loc Cert.GmFwdRefIdeal.main_arg2) = m' ((c.tc : Thread Cert.GmFwdRefIdeal.nD Cert.GmFwdRefIdeal.τ).loc Cert.GmFwdRefIdeal.main_arg2)
          ∧ r.2.mem ((c.tc : Thread Cert.GmFwdRefIdeal.nD Cert.GmFwdRefIdeal.τ).loc Cert.GmFwdRefIdeal.main_arg3) = m' ((c.tc : Thread Cert.GmFwdRefIdeal.nD Cert.GmFwdRefIdeal.τ).loc Cert.GmFwdRefIdeal.main_arg3)
          ∧ r.2.mem ((c.tc : Thread Cert.GmFwdRefIdeal.nD Cert.GmFwdRefIdeal.τ).loc Cert.GmFwdRefIdeal.main_arg4) = m' ((c.tc : Thread Cert.GmFwdRefIdeal.nD Cert.GmFwdRefIdeal.τ).loc Cert.GmFwdRefIdeal.main_arg4))

def preserves_Conv_ConvIdeal : Prop :=
  True

def preserves_RetState_RetStateIdeal : Prop :=
  True

def algebraic_RetStateIdeal_RetStateRefIdeal_pre_finite_retstate [hRetStateIdeal : Cert.RetStateIdeal.Facts] [hRetStateRefIdeal : Cert.RetStateRefIdeal.Facts] [hPre_finite_retstate : Cert.Pre_finite_retstate.Facts] : Prop :=
  ∀ (m : (ℓ : Loc Cert.RetStateIdeal.nD Cert.RetStateIdeal.τ Cert.RetStateIdeal.sig) → Buf (Elt Ideal) ℓ) (g : Dev Cert.RetStateIdeal.nD → PrngReg)
    (m' : (ℓ : Loc Cert.RetStateRefIdeal.nD Cert.RetStateRefIdeal.τ Cert.RetStateRefIdeal.sig) → Buf (Elt Ideal) ℓ) (g' : Dev Cert.RetStateRefIdeal.nD → PrngReg), Pre_RetStateIdeal_finite_retstate m →
    (∀ c : Dev Cert.RetStateIdeal.nD,
      m' ((c.tc : Thread Cert.RetStateRefIdeal.nD Cert.RetStateRefIdeal.τ).loc Cert.RetStateRefIdeal.main_arg0) = m ((c.tc : Thread Cert.RetStateIdeal.nD Cert.RetStateIdeal.τ).loc Cert.RetStateIdeal.main_arg0)
      ∧ m' ((c.tc : Thread Cert.RetStateRefIdeal.nD Cert.RetStateRefIdeal.τ).loc Cert.RetStateRefIdeal.main_arg1) = m ((c.tc : Thread Cert.RetStateIdeal.nD Cert.RetStateIdeal.τ).loc Cert.RetStateIdeal.main_arg1)) →
    ∃ (v0 : (c : Dev Cert.RetStateIdeal.nD) → Buf (Elt Ideal) ((c.tc : Thread Cert.RetStateIdeal.nD Cert.RetStateIdeal.τ).loc Cert.RetStateIdeal.main_v193_0)) (v1 : (c : Dev Cert.RetStateIdeal.nD) → Buf (Elt Ideal) ((c.tc : Thread Cert.RetStateIdeal.nD Cert.RetStateIdeal.τ).loc Cert.RetStateIdeal.main_v193_1)),
      θ_run (Cert.RetStateIdeal.defs (F := Ideal)) (onTc (τ := Cert.RetStateIdeal.τ) (Cert.RetStateIdeal.main (F := Ideal))) ⟨m, fun _ => 0, g⟩ (fun r => ∀ c : Dev Cert.RetStateIdeal.nD,
          r.2.mem ((c.tc : Thread Cert.RetStateIdeal.nD Cert.RetStateIdeal.τ).loc Cert.RetStateIdeal.main_v193_0) = v0 c
          ∧ r.2.mem ((c.tc : Thread Cert.RetStateIdeal.nD Cert.RetStateIdeal.τ).loc Cert.RetStateIdeal.main_v193_1) = v1 c
          ∧ r.2.mem ((c.tc : Thread Cert.RetStateIdeal.nD Cert.RetStateIdeal.τ).loc Cert.RetStateIdeal.main_arg0) = m ((c.tc : Thread Cert.RetStateIdeal.nD Cert.RetStateIdeal.τ).loc Cert.RetStateIdeal.main_arg0)
          ∧ r.2.mem ((c.tc : Thread Cert.RetStateIdeal.nD Cert.RetStateIdeal.τ).loc Cert.RetStateIdeal.main_arg1) = m ((c.tc : Thread Cert.RetStateIdeal.nD Cert.RetStateIdeal.τ).loc Cert.RetStateIdeal.main_arg1))
      ∧ θ_run (Cert.RetStateRefIdeal.defs (F := Ideal)) (onTc (τ := Cert.RetStateRefIdeal.τ) (Cert.RetStateRefIdeal.main (F := Ideal))) ⟨m', fun _ => 0, g'⟩ (fun r => ∀ c : Dev Cert.RetStateRefIdeal.nD,
          r.2.mem ((c.tc : Thread Cert.RetStateRefIdeal.nD Cert.RetStateRefIdeal.τ).loc Cert.RetStateRefIdeal.main_v124) = v0 c
          ∧ r.2.mem ((c.tc : Thread Cert.RetStateRefIdeal.nD Cert.RetStateRefIdeal.τ).loc Cert.RetStateRefIdeal.main_v128) = v1 c
          ∧ r.2.mem ((c.tc : Thread Cert.RetStateRefIdeal.nD Cert.RetStateRefIdeal.τ).loc Cert.RetStateRefIdeal.main_arg0) = m' ((c.tc : Thread Cert.RetStateRefIdeal.nD Cert.RetStateRefIdeal.τ).loc Cert.RetStateRefIdeal.main_arg0)
          ∧ r.2.mem ((c.tc : Thread Cert.RetStateRefIdeal.nD Cert.RetStateRefIdeal.τ).loc Cert.RetStateRefIdeal.main_arg1) = m' ((c.tc : Thread Cert.RetStateRefIdeal.nD Cert.RetStateRefIdeal.τ).loc Cert.RetStateRefIdeal.main_arg1))

def preserves_FfnOut_FfnOutIdeal : Prop :=
  True

def algebraic_FfnOutIdeal_FfnOutRefIdeal_pre_finite_ffnout [hFfnOutIdeal : Cert.FfnOutIdeal.Facts] [hFfnOutRefIdeal : Cert.FfnOutRefIdeal.Facts] [hPre_finite_ffnout : Cert.Pre_finite_ffnout.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal_finite_ffnout m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v2) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v5) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_FfnNorm_FfnNormIdeal : Prop :=
  True

def algebraic_FfnNormIdeal_FfnNormRefIdeal_pre_finite_ffnnorm [hFfnNormIdeal : Cert.FfnNormIdeal.Facts] [hFfnNormRefIdeal : Cert.FfnNormRefIdeal.Facts] [hPre_finite_ffnnorm : Cert.Pre_finite_ffnnorm.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal_finite_ffnnorm m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)
      ∧ m' ((c.tc : Thread Cert.FfnNormRefIdeal.nD Cert.FfnNormRefIdeal.τ).loc Cert.FfnNormRefIdeal.main_arg2) = m ((c.tc : Thread Cert.FfnNormIdeal.nD Cert.FfnNormIdeal.τ).loc Cert.FfnNormIdeal.main_arg2)) →
    ∃ (v0 : (c : Dev Cert.FfnNormIdeal.nD) → Buf (Elt Ideal) ((c.tc : Thread Cert.FfnNormIdeal.nD Cert.FfnNormIdeal.τ).loc Cert.FfnNormIdeal.main_v3_0)) (v1 : (c : Dev Cert.FfnNormIdeal.nD) → Buf (Elt Ideal) ((c.tc : Thread Cert.FfnNormIdeal.nD Cert.FfnNormIdeal.τ).loc Cert.FfnNormIdeal.main_v3_1)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v3_0) = v0 c
          ∧ r.2.mem ((c.tc : Thread Cert.FfnNormIdeal.nD Cert.FfnNormIdeal.τ).loc Cert.FfnNormIdeal.main_v3_1) = v1 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v13) = v0 c
          ∧ r.2.mem ((c.tc : Thread Cert.FfnNormRefIdeal.nD Cert.FfnNormRefIdeal.τ).loc Cert.FfnNormRefIdeal.main_v15) = v1 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1)
          ∧ r.2.mem ((c.tc : Thread Cert.FfnNormRefIdeal.nD Cert.FfnNormRefIdeal.τ).loc Cert.FfnNormRefIdeal.main_arg2) = m' ((c.tc : Thread Cert.FfnNormRefIdeal.nD Cert.FfnNormRefIdeal.τ).loc Cert.FfnNormRefIdeal.main_arg2))

def preserves_OutFwd_OutFwdIdeal : Prop :=
  True

def algebraic_OutFwdIdeal_OutFwdRefIdeal_pre_finite_outfwd [hOutFwdIdeal : Cert.OutFwdIdeal.Facts] [hOutFwdRefIdeal : Cert.OutFwdRefIdeal.Facts] [hPre_finite_outfwd : Cert.Pre_finite_outfwd.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal_finite_outfwd m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)) →
    ∃ (v0 : (c : Dev Cert.OutFwdIdeal.nD) → Buf (Elt Ideal) ((c.tc : Thread Cert.OutFwdIdeal.nD Cert.OutFwdIdeal.τ).loc Cert.OutFwdIdeal.main_v4)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v4) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg1) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_FfnDw_FfnDwIdeal : Prop :=
  True

def algebraic_FfnDwIdeal_FfnDwRefIdeal_pre_finite_ffndw [hFfnDwIdeal : Cert.FfnDwIdeal.Facts] [hFfnDwRefIdeal : Cert.FfnDwRefIdeal.Facts] [hPre_finite_ffndw : Cert.Pre_finite_ffndw.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.FfnDwRefIdeal.nD Cert.FfnDwRefIdeal.τ Cert.FfnDwRefIdeal.sig) → Buf (Elt Ideal) ℓ) (g' : Dev Cert.FfnDwRefIdeal.nD → PrngReg), Pre_FfnDwIdeal_finite_ffndw m →
    (∀ c : Dev Cert.FfnDwIdeal.nD,
      m' ((c.tc : Thread Cert.FfnDwRefIdeal.nD Cert.FfnDwRefIdeal.τ).loc Cert.FfnDwRefIdeal.main_arg0) = m ((c.tc : Thread Cert.FfnDwIdeal.nD Cert.FfnDwIdeal.τ).loc Cert.FfnDwIdeal.main_arg0)
      ∧ m' ((c.tc : Thread Cert.FfnDwRefIdeal.nD Cert.FfnDwRefIdeal.τ).loc Cert.FfnDwRefIdeal.main_arg1) = m ((c.tc : Thread Cert.FfnDwIdeal.nD Cert.FfnDwIdeal.τ).loc Cert.FfnDwIdeal.main_arg1)
      ∧ m' ((c.tc : Thread Cert.FfnDwRefIdeal.nD Cert.FfnDwRefIdeal.τ).loc Cert.FfnDwRefIdeal.main_arg2) = m ((c.tc : Thread Cert.FfnDwIdeal.nD Cert.FfnDwIdeal.τ).loc Cert.FfnDwIdeal.main_arg2)
      ∧ m' ((c.tc : Thread Cert.FfnDwRefIdeal.nD Cert.FfnDwRefIdeal.τ).loc Cert.FfnDwRefIdeal.main_arg3) = m ((c.tc : Thread Cert.FfnDwIdeal.nD Cert.FfnDwIdeal.τ).loc Cert.FfnDwIdeal.main_arg3)) →
    ∃ (v0 : (c : Dev Cert.FfnDwIdeal.nD) → Buf (Elt Ideal) ((c.tc : Thread Cert.FfnDwIdeal.nD Cert.FfnDwIdeal.τ).loc Cert.FfnDwIdeal.main_v15)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v15) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
          ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2)
          ∧ r.2.mem ((c.tc : Thread Cert.FfnDwIdeal.nD Cert.FfnDwIdeal.τ).loc Cert.FfnDwIdeal.main_arg3) = m ((c.tc : Thread Cert.FfnDwIdeal.nD Cert.FfnDwIdeal.τ).loc Cert.FfnDwIdeal.main_arg3))
      ∧ θ_run (Cert.FfnDwRefIdeal.defs (F := Ideal)) (onTc (τ := Cert.FfnDwRefIdeal.τ) (Cert.FfnDwRefIdeal.main (F := Ideal))) ⟨m', fun _ => 0, g'⟩ (fun r => ∀ c : Dev Cert.FfnDwRefIdeal.nD,
          r.2.mem ((c.tc : Thread Cert.FfnDwRefIdeal.nD Cert.FfnDwRefIdeal.τ).loc Cert.FfnDwRefIdeal.main_v17) = v0 c
          ∧ r.2.mem ((c.tc : Thread Cert.FfnDwRefIdeal.nD Cert.FfnDwRefIdeal.τ).loc Cert.FfnDwRefIdeal.main_arg0) = m' ((c.tc : Thread Cert.FfnDwRefIdeal.nD Cert.FfnDwRefIdeal.τ).loc Cert.FfnDwRefIdeal.main_arg0)
          ∧ r.2.mem ((c.tc : Thread Cert.FfnDwRefIdeal.nD Cert.FfnDwRefIdeal.τ).loc Cert.FfnDwRefIdeal.main_arg1) = m' ((c.tc : Thread Cert.FfnDwRefIdeal.nD Cert.FfnDwRefIdeal.τ).loc Cert.FfnDwRefIdeal.main_arg1)
          ∧ r.2.mem ((c.tc : Thread Cert.FfnDwRefIdeal.nD Cert.FfnDwRefIdeal.τ).loc Cert.FfnDwRefIdeal.main_arg2) = m' ((c.tc : Thread Cert.FfnDwRefIdeal.nD Cert.FfnDwRefIdeal.τ).loc Cert.FfnDwRefIdeal.main_arg2)
          ∧ r.2.mem ((c.tc : Thread Cert.FfnDwRefIdeal.nD Cert.FfnDwRefIdeal.τ).loc Cert.FfnDwRefIdeal.main_arg3) = m' ((c.tc : Thread Cert.FfnDwRefIdeal.nD Cert.FfnDwRefIdeal.τ).loc Cert.FfnDwRefIdeal.main_arg3))

def preserves_OutDw_OutDwIdeal : Prop :=
  True

def algebraic_OutDwIdeal_OutDwRefIdeal_pre_finite_outdw [hOutDwIdeal : Cert.OutDwIdeal.Facts] [hOutDwRefIdeal : Cert.OutDwRefIdeal.Facts] [hPre_finite_outdw : Cert.Pre_finite_outdw.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal_finite_outdw m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)
      ∧ m' ((c.tc : Thread Cert.OutDwRefIdeal.nD Cert.OutDwRefIdeal.τ).loc Cert.OutDwRefIdeal.main_arg3) = m ((c.tc : Thread Cert.OutDwIdeal.nD Cert.OutDwIdeal.τ).loc Cert.OutDwIdeal.main_arg3)
      ∧ m' ((c.tc : Thread Cert.OutDwRefIdeal.nD Cert.OutDwRefIdeal.τ).loc Cert.OutDwRefIdeal.main_arg4) = m ((c.tc : Thread Cert.OutDwIdeal.nD Cert.OutDwIdeal.τ).loc Cert.OutDwIdeal.main_arg4)) →
    ∃ (v0 : (c : Dev Cert.OutDwIdeal.nD) → Buf (Elt Ideal) ((c.tc : Thread Cert.OutDwIdeal.nD Cert.OutDwIdeal.τ).loc Cert.OutDwIdeal.main_v3)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v3) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2)
          ∧ r.2.mem ((c.tc : Thread Cert.OutDwIdeal.nD Cert.OutDwIdeal.τ).loc Cert.OutDwIdeal.main_arg3) = m ((c.tc : Thread Cert.OutDwIdeal.nD Cert.OutDwIdeal.τ).loc Cert.OutDwIdeal.main_arg3)
          ∧ r.2.mem ((c.tc : Thread Cert.OutDwIdeal.nD Cert.OutDwIdeal.τ).loc Cert.OutDwIdeal.main_arg4) = m ((c.tc : Thread Cert.OutDwIdeal.nD Cert.OutDwIdeal.τ).loc Cert.OutDwIdeal.main_arg4))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2)
          ∧ r.2.mem ((c.tc : Thread Cert.OutDwRefIdeal.nD Cert.OutDwRefIdeal.τ).loc Cert.OutDwRefIdeal.main_arg3) = m' ((c.tc : Thread Cert.OutDwRefIdeal.nD Cert.OutDwRefIdeal.τ).loc Cert.OutDwRefIdeal.main_arg3)
          ∧ r.2.mem ((c.tc : Thread Cert.OutDwRefIdeal.nD Cert.OutDwRefIdeal.τ).loc Cert.OutDwRefIdeal.main_arg4) = m' ((c.tc : Thread Cert.OutDwRefIdeal.nD Cert.OutDwRefIdeal.τ).loc Cert.OutDwRefIdeal.main_arg4))

def preserves_DwIn_DwInIdeal : Prop :=
  True

def algebraic_DwInIdeal_DwInRefIdeal_pre_finite_dwin [hDwInIdeal : Cert.DwInIdeal.Facts] [hDwInRefIdeal : Cert.DwInRefIdeal.Facts] [hPre_finite_dwin : Cert.Pre_finite_dwin.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal_finite_dwin m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)
      ∧ m' ((c.tc : Thread Cert.DwInRefIdeal.nD Cert.DwInRefIdeal.τ).loc Cert.DwInRefIdeal.main_arg5) = m ((c.tc : Thread Cert.DwInIdeal.nD Cert.DwInIdeal.τ).loc Cert.DwInIdeal.main_arg5)
      ∧ m' ((c.tc : Thread Cert.DwInRefIdeal.nD Cert.DwInRefIdeal.τ).loc Cert.DwInRefIdeal.main_arg6) = m ((c.tc : Thread Cert.DwInIdeal.nD Cert.DwInIdeal.τ).loc Cert.DwInIdeal.main_arg6)) →
    ∃ (v0 : (c : Dev Cert.DwInIdeal.nD) → Buf (Elt Ideal) ((c.tc : Thread Cert.DwInIdeal.nD Cert.DwInIdeal.τ).loc Cert.DwInIdeal.main_v18)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v18) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
          ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
          ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v18) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4)
          ∧ r.2.mem ((c.tc : Thread Cert.DwInRefIdeal.nD Cert.DwInRefIdeal.τ).loc Cert.DwInRefIdeal.main_arg5) = m' ((c.tc : Thread Cert.DwInRefIdeal.nD Cert.DwInRefIdeal.τ).loc Cert.DwInRefIdeal.main_arg5)
          ∧ r.2.mem ((c.tc : Thread Cert.DwInRefIdeal.nD Cert.DwInRefIdeal.τ).loc Cert.DwInRefIdeal.main_arg6) = m' ((c.tc : Thread Cert.DwInRefIdeal.nD Cert.DwInRefIdeal.τ).loc Cert.DwInRefIdeal.main_arg6))

def Claim : Prop :=
  ∃ (hLoss : Cert.Loss.Facts) (hLossIdeal : Cert.LossIdeal.Facts) (hLossRefIdeal : Cert.LossRefIdeal.Facts) (hGm : Cert.Gm.Facts) (hGmIdeal : Cert.GmIdeal.Facts) (hGmRefIdeal : Cert.GmRefIdeal.Facts) (hRetMain : Cert.RetMain.Facts) (hRetMainIdeal : Cert.RetMainIdeal.Facts) (hRetMainRefIdeal : Cert.RetMainRefIdeal.Facts) (hRetCarry : Cert.RetCarry.Facts) (hRetCarryIdeal : Cert.RetCarryIdeal.Facts) (hRetCarryRefIdeal : Cert.RetCarryRefIdeal.Facts) (hSwiglu : Cert.Swiglu.Facts) (hSwigluIdeal : Cert.SwigluIdeal.Facts) (hSwigluRefIdeal : Cert.SwigluRefIdeal.Facts) (hSwigluW : Cert.SwigluW.Facts) (hSwigluWIdeal : Cert.SwigluWIdeal.Facts) (hSwigluWRefIdeal : Cert.SwigluWRefIdeal.Facts) (hFfnIn : Cert.FfnIn.Facts) (hFfnInIdeal : Cert.FfnInIdeal.Facts) (hFfnInRefIdeal : Cert.FfnInRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hRetOut : Cert.RetOut.Facts) (hRetOutIdeal : Cert.RetOutIdeal.Facts) (hRetOutRefIdeal : Cert.RetOutRefIdeal.Facts) (hGmFwd : Cert.GmFwd.Facts) (hGmFwdIdeal : Cert.GmFwdIdeal.Facts) (hGmFwdRefIdeal : Cert.GmFwdRefIdeal.Facts) (hConv : Cert.Conv.Facts) (hConvIdeal : Cert.ConvIdeal.Facts) (hConvRefIdeal : Cert.ConvRefIdeal.Facts) (hRetState : Cert.RetState.Facts) (hRetStateIdeal : Cert.RetStateIdeal.Facts) (hRetStateRefIdeal : Cert.RetStateRefIdeal.Facts) (hFfnOut : Cert.FfnOut.Facts) (hFfnOutIdeal : Cert.FfnOutIdeal.Facts) (hFfnOutRefIdeal : Cert.FfnOutRefIdeal.Facts) (hFfnNorm : Cert.FfnNorm.Facts) (hFfnNormIdeal : Cert.FfnNormIdeal.Facts) (hFfnNormRefIdeal : Cert.FfnNormRefIdeal.Facts) (hOutFwd : Cert.OutFwd.Facts) (hOutFwdIdeal : Cert.OutFwdIdeal.Facts) (hOutFwdRefIdeal : Cert.OutFwdRefIdeal.Facts) (hAdam : Cert.Adam.Facts) (hAdamIdeal : Cert.AdamIdeal.Facts) (hAdamRefIdeal : Cert.AdamRefIdeal.Facts) (hFfnDw : Cert.FfnDw.Facts) (hFfnDwIdeal : Cert.FfnDwIdeal.Facts) (hFfnDwRefIdeal : Cert.FfnDwRefIdeal.Facts) (hOutDw : Cert.OutDw.Facts) (hOutDwIdeal : Cert.OutDwIdeal.Facts) (hOutDwRefIdeal : Cert.OutDwRefIdeal.Facts) (hDwIn : Cert.DwIn.Facts) (hDwInIdeal : Cert.DwInIdeal.Facts) (hDwInRefIdeal : Cert.DwInRefIdeal.Facts) (hPre_finite_loss : Cert.Pre_finite_loss.Facts) (hPre_finite_gm : Cert.Pre_finite_gm.Facts) (hPre_finite_retmain : Cert.Pre_finite_retmain.Facts) (hPre_finite_retcarry : Cert.Pre_finite_retcarry.Facts) (hPre_finite_swiglu : Cert.Pre_finite_swiglu.Facts) (hPre_finite_swigluw : Cert.Pre_finite_swigluw.Facts) (hPre_finite_ffnin : Cert.Pre_finite_ffnin.Facts) (hPre_finite_inproj : Cert.Pre_finite_inproj.Facts) (hPre_finite_outproj : Cert.Pre_finite_outproj.Facts) (hPre_finite_retout : Cert.Pre_finite_retout.Facts) (hPre_finite_gmfwd : Cert.Pre_finite_gmfwd.Facts) (hPre_finite_retstate : Cert.Pre_finite_retstate.Facts) (hPre_finite_ffnout : Cert.Pre_finite_ffnout.Facts) (hPre_finite_ffnnorm : Cert.Pre_finite_ffnnorm.Facts) (hPre_finite_outfwd : Cert.Pre_finite_outfwd.Facts) (hPre_finite_ffndw : Cert.Pre_finite_ffndw.Facts) (hPre_finite_outdw : Cert.Pre_finite_outdw.Facts) (hPre_finite_dwin : Cert.Pre_finite_dwin.Facts),
    quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Gm (hGm := hGm)
    ∧ quiescent_GmIdeal (hGmIdeal := hGmIdeal)
    ∧ quiescent_GmIdeal_pre_finite_gm (hGmIdeal := hGmIdeal) (hPre_finite_gm := hPre_finite_gm)
    ∧ quiescent_GmRefIdeal (hGmRefIdeal := hGmRefIdeal)
    ∧ quiescent_GmRefIdeal_pre_finite_gm (hGmRefIdeal := hGmRefIdeal) (hPre_finite_gm := hPre_finite_gm)
    ∧ quiescent_RetMain (hRetMain := hRetMain)
    ∧ quiescent_RetMainIdeal (hRetMainIdeal := hRetMainIdeal)
    ∧ quiescent_RetMainIdeal_pre_finite_retmain (hRetMainIdeal := hRetMainIdeal) (hPre_finite_retmain := hPre_finite_retmain)
    ∧ quiescent_RetMainRefIdeal (hRetMainRefIdeal := hRetMainRefIdeal)
    ∧ quiescent_RetMainRefIdeal_pre_finite_retmain (hRetMainRefIdeal := hRetMainRefIdeal) (hPre_finite_retmain := hPre_finite_retmain)
    ∧ quiescent_RetCarry (hRetCarry := hRetCarry)
    ∧ quiescent_RetCarryIdeal (hRetCarryIdeal := hRetCarryIdeal)
    ∧ quiescent_RetCarryIdeal_pre_finite_retcarry (hRetCarryIdeal := hRetCarryIdeal) (hPre_finite_retcarry := hPre_finite_retcarry)
    ∧ quiescent_RetCarryRefIdeal (hRetCarryRefIdeal := hRetCarryRefIdeal)
    ∧ quiescent_RetCarryRefIdeal_pre_finite_retcarry (hRetCarryRefIdeal := hRetCarryRefIdeal) (hPre_finite_retcarry := hPre_finite_retcarry)
    ∧ quiescent_Swiglu (hSwiglu := hSwiglu)
    ∧ quiescent_SwigluIdeal (hSwigluIdeal := hSwigluIdeal)
    ∧ quiescent_SwigluIdeal_pre_finite_swiglu (hSwigluIdeal := hSwigluIdeal) (hPre_finite_swiglu := hPre_finite_swiglu)
    ∧ quiescent_SwigluRefIdeal (hSwigluRefIdeal := hSwigluRefIdeal)
    ∧ quiescent_SwigluRefIdeal_pre_finite_swiglu (hSwigluRefIdeal := hSwigluRefIdeal) (hPre_finite_swiglu := hPre_finite_swiglu)
    ∧ quiescent_SwigluW (hSwigluW := hSwigluW)
    ∧ quiescent_SwigluWIdeal (hSwigluWIdeal := hSwigluWIdeal)
    ∧ quiescent_SwigluWIdeal_pre_finite_swigluw (hSwigluWIdeal := hSwigluWIdeal) (hPre_finite_swigluw := hPre_finite_swigluw)
    ∧ quiescent_SwigluWRefIdeal (hSwigluWRefIdeal := hSwigluWRefIdeal)
    ∧ quiescent_SwigluWRefIdeal_pre_finite_swigluw (hSwigluWRefIdeal := hSwigluWRefIdeal) (hPre_finite_swigluw := hPre_finite_swigluw)
    ∧ quiescent_FfnIn (hFfnIn := hFfnIn)
    ∧ quiescent_FfnInIdeal (hFfnInIdeal := hFfnInIdeal)
    ∧ quiescent_FfnInIdeal_pre_finite_ffnin (hFfnInIdeal := hFfnInIdeal) (hPre_finite_ffnin := hPre_finite_ffnin)
    ∧ quiescent_FfnInRefIdeal (hFfnInRefIdeal := hFfnInRefIdeal)
    ∧ quiescent_FfnInRefIdeal_pre_finite_ffnin (hFfnInRefIdeal := hFfnInRefIdeal) (hPre_finite_ffnin := hPre_finite_ffnin)
    ∧ quiescent_InProj (hInProj := hInProj)
    ∧ quiescent_InProjIdeal (hInProjIdeal := hInProjIdeal)
    ∧ quiescent_InProjIdeal_pre_finite_inproj (hInProjIdeal := hInProjIdeal) (hPre_finite_inproj := hPre_finite_inproj)
    ∧ quiescent_InProjRefIdeal (hInProjRefIdeal := hInProjRefIdeal)
    ∧ quiescent_InProjRefIdeal_pre_finite_inproj (hInProjRefIdeal := hInProjRefIdeal) (hPre_finite_inproj := hPre_finite_inproj)
    ∧ quiescent_OutProj (hOutProj := hOutProj)
    ∧ quiescent_OutProjIdeal (hOutProjIdeal := hOutProjIdeal)
    ∧ quiescent_OutProjIdeal_pre_finite_outproj (hOutProjIdeal := hOutProjIdeal) (hPre_finite_outproj := hPre_finite_outproj)
    ∧ quiescent_OutProjRefIdeal (hOutProjRefIdeal := hOutProjRefIdeal)
    ∧ quiescent_OutProjRefIdeal_pre_finite_outproj (hOutProjRefIdeal := hOutProjRefIdeal) (hPre_finite_outproj := hPre_finite_outproj)
    ∧ quiescent_RetOut (hRetOut := hRetOut)
    ∧ quiescent_RetOutIdeal (hRetOutIdeal := hRetOutIdeal)
    ∧ quiescent_RetOutIdeal_pre_finite_retout (hRetOutIdeal := hRetOutIdeal) (hPre_finite_retout := hPre_finite_retout)
    ∧ quiescent_RetOutRefIdeal (hRetOutRefIdeal := hRetOutRefIdeal)
    ∧ quiescent_RetOutRefIdeal_pre_finite_retout (hRetOutRefIdeal := hRetOutRefIdeal) (hPre_finite_retout := hPre_finite_retout)
    ∧ quiescent_GmFwd (hGmFwd := hGmFwd)
    ∧ quiescent_GmFwdIdeal (hGmFwdIdeal := hGmFwdIdeal)
    ∧ quiescent_GmFwdIdeal_pre_finite_gmfwd (hGmFwdIdeal := hGmFwdIdeal) (hPre_finite_gmfwd := hPre_finite_gmfwd)
    ∧ quiescent_GmFwdRefIdeal (hGmFwdRefIdeal := hGmFwdRefIdeal)
    ∧ quiescent_GmFwdRefIdeal_pre_finite_gmfwd (hGmFwdRefIdeal := hGmFwdRefIdeal) (hPre_finite_gmfwd := hPre_finite_gmfwd)
    ∧ quiescent_Conv (hConv := hConv)
    ∧ quiescent_ConvIdeal (hConvIdeal := hConvIdeal)
    ∧ quiescent_ConvRefIdeal (hConvRefIdeal := hConvRefIdeal)
    ∧ quiescent_RetState (hRetState := hRetState)
    ∧ quiescent_RetStateIdeal (hRetStateIdeal := hRetStateIdeal)
    ∧ quiescent_RetStateIdeal_pre_finite_retstate (hRetStateIdeal := hRetStateIdeal) (hPre_finite_retstate := hPre_finite_retstate)
    ∧ quiescent_RetStateRefIdeal (hRetStateRefIdeal := hRetStateRefIdeal)
    ∧ quiescent_RetStateRefIdeal_pre_finite_retstate (hRetStateRefIdeal := hRetStateRefIdeal) (hPre_finite_retstate := hPre_finite_retstate)
    ∧ quiescent_FfnOut (hFfnOut := hFfnOut)
    ∧ quiescent_FfnOutIdeal (hFfnOutIdeal := hFfnOutIdeal)
    ∧ quiescent_FfnOutIdeal_pre_finite_ffnout (hFfnOutIdeal := hFfnOutIdeal) (hPre_finite_ffnout := hPre_finite_ffnout)
    ∧ quiescent_FfnOutRefIdeal (hFfnOutRefIdeal := hFfnOutRefIdeal)
    ∧ quiescent_FfnOutRefIdeal_pre_finite_ffnout (hFfnOutRefIdeal := hFfnOutRefIdeal) (hPre_finite_ffnout := hPre_finite_ffnout)
    ∧ quiescent_FfnNorm (hFfnNorm := hFfnNorm)
    ∧ quiescent_FfnNormIdeal (hFfnNormIdeal := hFfnNormIdeal)
    ∧ quiescent_FfnNormIdeal_pre_finite_ffnnorm (hFfnNormIdeal := hFfnNormIdeal) (hPre_finite_ffnnorm := hPre_finite_ffnnorm)
    ∧ quiescent_FfnNormRefIdeal (hFfnNormRefIdeal := hFfnNormRefIdeal)
    ∧ quiescent_FfnNormRefIdeal_pre_finite_ffnnorm (hFfnNormRefIdeal := hFfnNormRefIdeal) (hPre_finite_ffnnorm := hPre_finite_ffnnorm)
    ∧ quiescent_OutFwd (hOutFwd := hOutFwd)
    ∧ quiescent_OutFwdIdeal (hOutFwdIdeal := hOutFwdIdeal)
    ∧ quiescent_OutFwdIdeal_pre_finite_outfwd (hOutFwdIdeal := hOutFwdIdeal) (hPre_finite_outfwd := hPre_finite_outfwd)
    ∧ quiescent_OutFwdRefIdeal (hOutFwdRefIdeal := hOutFwdRefIdeal)
    ∧ quiescent_OutFwdRefIdeal_pre_finite_outfwd (hOutFwdRefIdeal := hOutFwdRefIdeal) (hPre_finite_outfwd := hPre_finite_outfwd)
    ∧ quiescent_Adam (hAdam := hAdam)
    ∧ quiescent_AdamIdeal (hAdamIdeal := hAdamIdeal)
    ∧ quiescent_AdamRefIdeal (hAdamRefIdeal := hAdamRefIdeal)
    ∧ quiescent_FfnDw (hFfnDw := hFfnDw)
    ∧ quiescent_FfnDwIdeal (hFfnDwIdeal := hFfnDwIdeal)
    ∧ quiescent_FfnDwIdeal_pre_finite_ffndw (hFfnDwIdeal := hFfnDwIdeal) (hPre_finite_ffndw := hPre_finite_ffndw)
    ∧ quiescent_FfnDwRefIdeal (hFfnDwRefIdeal := hFfnDwRefIdeal)
    ∧ quiescent_FfnDwRefIdeal_pre_finite_ffndw (hFfnDwRefIdeal := hFfnDwRefIdeal) (hPre_finite_ffndw := hPre_finite_ffndw)
    ∧ quiescent_OutDw (hOutDw := hOutDw)
    ∧ quiescent_OutDwIdeal (hOutDwIdeal := hOutDwIdeal)
    ∧ quiescent_OutDwIdeal_pre_finite_outdw (hOutDwIdeal := hOutDwIdeal) (hPre_finite_outdw := hPre_finite_outdw)
    ∧ quiescent_OutDwRefIdeal (hOutDwRefIdeal := hOutDwRefIdeal)
    ∧ quiescent_OutDwRefIdeal_pre_finite_outdw (hOutDwRefIdeal := hOutDwRefIdeal) (hPre_finite_outdw := hPre_finite_outdw)
    ∧ quiescent_DwIn (hDwIn := hDwIn)
    ∧ quiescent_DwInIdeal (hDwInIdeal := hDwInIdeal)
    ∧ quiescent_DwInIdeal_pre_finite_dwin (hDwInIdeal := hDwInIdeal) (hPre_finite_dwin := hPre_finite_dwin)
    ∧ quiescent_DwInRefIdeal (hDwInRefIdeal := hDwInRefIdeal)
    ∧ quiescent_DwInRefIdeal_pre_finite_dwin (hDwInRefIdeal := hDwInRefIdeal) (hPre_finite_dwin := hPre_finite_dwin)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Gm_GmIdeal
    ∧ algebraic_GmIdeal_GmRefIdeal_pre_finite_gm (hGmIdeal := hGmIdeal) (hGmRefIdeal := hGmRefIdeal) (hPre_finite_gm := hPre_finite_gm)
    ∧ preserves_RetMain_RetMainIdeal
    ∧ algebraic_RetMainIdeal_RetMainRefIdeal_pre_finite_retmain (hRetMainIdeal := hRetMainIdeal) (hRetMainRefIdeal := hRetMainRefIdeal) (hPre_finite_retmain := hPre_finite_retmain)
    ∧ preserves_RetCarry_RetCarryIdeal
    ∧ algebraic_RetCarryIdeal_RetCarryRefIdeal_pre_finite_retcarry (hRetCarryIdeal := hRetCarryIdeal) (hRetCarryRefIdeal := hRetCarryRefIdeal) (hPre_finite_retcarry := hPre_finite_retcarry)
    ∧ preserves_Swiglu_SwigluIdeal
    ∧ algebraic_SwigluIdeal_SwigluRefIdeal_pre_finite_swiglu (hSwigluIdeal := hSwigluIdeal) (hSwigluRefIdeal := hSwigluRefIdeal) (hPre_finite_swiglu := hPre_finite_swiglu)
    ∧ preserves_SwigluW_SwigluWIdeal
    ∧ algebraic_SwigluWIdeal_SwigluWRefIdeal_pre_finite_swigluw (hSwigluWIdeal := hSwigluWIdeal) (hSwigluWRefIdeal := hSwigluWRefIdeal) (hPre_finite_swigluw := hPre_finite_swigluw)
    ∧ preserves_FfnIn_FfnInIdeal
    ∧ algebraic_FfnInIdeal_FfnInRefIdeal_pre_finite_ffnin (hFfnInIdeal := hFfnInIdeal) (hFfnInRefIdeal := hFfnInRefIdeal) (hPre_finite_ffnin := hPre_finite_ffnin)
    ∧ preserves_InProj_InProjIdeal
    ∧ algebraic_InProjIdeal_InProjRefIdeal_pre_finite_inproj (hInProjIdeal := hInProjIdeal) (hInProjRefIdeal := hInProjRefIdeal) (hPre_finite_inproj := hPre_finite_inproj)
    ∧ preserves_OutProj_OutProjIdeal
    ∧ algebraic_OutProjIdeal_OutProjRefIdeal_pre_finite_outproj (hOutProjIdeal := hOutProjIdeal) (hOutProjRefIdeal := hOutProjRefIdeal) (hPre_finite_outproj := hPre_finite_outproj)
    ∧ preserves_RetOut_RetOutIdeal
    ∧ algebraic_RetOutIdeal_RetOutRefIdeal_pre_finite_retout (hRetOutIdeal := hRetOutIdeal) (hRetOutRefIdeal := hRetOutRefIdeal) (hPre_finite_retout := hPre_finite_retout)
    ∧ preserves_GmFwd_GmFwdIdeal
    ∧ algebraic_GmFwdIdeal_GmFwdRefIdeal_pre_finite_gmfwd (hGmFwdIdeal := hGmFwdIdeal) (hGmFwdRefIdeal := hGmFwdRefIdeal) (hPre_finite_gmfwd := hPre_finite_gmfwd)
    ∧ preserves_Conv_ConvIdeal
    ∧ preserves_RetState_RetStateIdeal
    ∧ algebraic_RetStateIdeal_RetStateRefIdeal_pre_finite_retstate (hRetStateIdeal := hRetStateIdeal) (hRetStateRefIdeal := hRetStateRefIdeal) (hPre_finite_retstate := hPre_finite_retstate)
    ∧ preserves_FfnOut_FfnOutIdeal
    ∧ algebraic_FfnOutIdeal_FfnOutRefIdeal_pre_finite_ffnout (hFfnOutIdeal := hFfnOutIdeal) (hFfnOutRefIdeal := hFfnOutRefIdeal) (hPre_finite_ffnout := hPre_finite_ffnout)
    ∧ preserves_FfnNorm_FfnNormIdeal
    ∧ algebraic_FfnNormIdeal_FfnNormRefIdeal_pre_finite_ffnnorm (hFfnNormIdeal := hFfnNormIdeal) (hFfnNormRefIdeal := hFfnNormRefIdeal) (hPre_finite_ffnnorm := hPre_finite_ffnnorm)
    ∧ preserves_OutFwd_OutFwdIdeal
    ∧ algebraic_OutFwdIdeal_OutFwdRefIdeal_pre_finite_outfwd (hOutFwdIdeal := hOutFwdIdeal) (hOutFwdRefIdeal := hOutFwdRefIdeal) (hPre_finite_outfwd := hPre_finite_outfwd)
    ∧ preserves_Adam_AdamIdeal
    ∧ algebraic_AdamIdeal_AdamRefIdeal (hAdamIdeal := hAdamIdeal) (hAdamRefIdeal := hAdamRefIdeal)
    ∧ preserves_FfnDw_FfnDwIdeal
    ∧ algebraic_FfnDwIdeal_FfnDwRefIdeal_pre_finite_ffndw (hFfnDwIdeal := hFfnDwIdeal) (hFfnDwRefIdeal := hFfnDwRefIdeal) (hPre_finite_ffndw := hPre_finite_ffndw)
    ∧ preserves_OutDw_OutDwIdeal
    ∧ algebraic_OutDwIdeal_OutDwRefIdeal_pre_finite_outdw (hOutDwIdeal := hOutDwIdeal) (hOutDwRefIdeal := hOutDwRefIdeal) (hPre_finite_outdw := hPre_finite_outdw)
    ∧ preserves_DwIn_DwInIdeal
    ∧ algebraic_DwInIdeal_DwInRefIdeal_pre_finite_dwin (hDwInIdeal := hDwInIdeal) (hDwInRefIdeal := hDwInRefIdeal) (hPre_finite_dwin := hPre_finite_dwin)
-- ==== Pre_finite_dwin.lean ====
abbrev S8192x1024 : Shape := ⟨2, ![8192, 1024]⟩
abbrev S1x1024 : Shape := ⟨2, ![1, 1024]⟩
abbrev S1024x3072 : Shape := ⟨2, ![1024, 3072]⟩
abbrev S8192x512 : Shape := ⟨2, ![8192, 512]⟩
abbrev S8192x1536 : Shape := ⟨2, ![8192, 1536]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x3072 : S_.BroadcastsInDim S1024x3072 (![] : Fin 0 → Fin S1024x3072.rank)
  bcast_S_S8192x512 : S_.BroadcastsInDim S8192x512 (![] : Fin 0 → Fin S8192x512.rank)
  bcast_S_S8192x1536 : S_.BroadcastsInDim S8192x1536 (![] : Fin 0 → Fin S8192x1536.rank)

variable [Facts]

def fn_part1 {F : FTy → Type} [FloatOps F] (main_arg6 : FVec F S8192x512 .f32) (main_v2 : IVec S8192x1024 1) (main_v5 : IVec S1x1024 1) (main_v8 : IVec S1024x3072 1) (main_v11 : IVec S8192x512 1) (main_v14 : IVec S8192x1536 1) (main_v17 : IVec S8192x512 1) : IVec S8192x1024 1 × IVec S1x1024 1 × IVec S1024x3072 1 × IVec S8192x512 1 × IVec S8192x1536 1 × IVec S8192x512 1 × IVec S8192x512 1 :=
  let main_v18 : FVec F S8192x512 .f32 := Host.absf main_arg6
  let main_cst_5 : FVec F S_ .f32 := constant S_ .f32 0x7F800000#32
  let main_v19 : FVec F S8192x512 .f32 := broadcastInDim S8192x512 ![] bcast_S_S8192x512 main_cst_5
  let main_v20 : IVec S8192x512 1 := cmpf .olt main_v18 main_v19
  (main_v2, main_v5, main_v8, main_v11, main_v14, main_v17, main_v20)

def fn {F : FTy → Type} [FloatOps F] (main_arg0 : FVec F S8192x1024 .f32) (main_arg1 : FVec F S1x1024 .f32) (main_arg2 : FVec F S1024x3072 .f32) (main_arg3 : FVec F S8192x512 .f32) (main_arg4 : FVec F S8192x1536 .f32) (main_arg5 : FVec F S8192x512 .f32) (main_arg6 : FVec F S8192x512 .f32) : IVec S8192x1024 1 × IVec S1x1024 1 × IVec S1024x3072 1 × IVec S8192x512 1 × IVec S8192x1536 1 × IVec S8192x512 1 × IVec S8192x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x3072 .f32 := Host.absf main_arg2
  let main_cst_1 : FVec F S_ .f32 := constant S_ .f32 0x7F800000#32
  let main_v7 : FVec F S1024x3072 .f32 := broadcastInDim S1024x3072 ![] bcast_S_S1024x3072 main_cst_1
  let main_v8 : IVec S1024x3072 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x1536 .f32 := Host.absf main_arg4
  let main_cst_3 : FVec F S_ .f32 := constant S_ .f32 0x7F800000#32
  let main_v13 : FVec F S8192x1536 .f32 := broadcastInDim S8192x1536 ![] bcast_S_S8192x1536 main_cst_3
  let main_v14 : IVec S8192x1536 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_v2 main_v5 main_v8 main_v11 main_v14 main_v17
-- ==== Pre_finite_ffndw.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S8192x5632 : S_.BroadcastsInDim S8192x5632 (![] : Fin 0 → Fin S8192x5632.rank)

variable [Facts]

def fn {F : FTy → Type} [FloatOps F] (main_arg0 : FVec F S8192x1024 .f32) (main_arg1 : FVec F S1x1024 .f32) (main_arg2 : FVec F S1024x5632 .f32) (main_arg3 : FVec F S8192x5632 .f32) : IVec S8192x1024 1 × IVec S1x1024 1 × IVec S1024x5632 1 × IVec S8192x5632 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S8192x5632 .f32 := Host.absf main_arg3
  let main_cst_2 : FVec F S_ .f32 := constant S_ .f32 0x7F800000#32
  let main_v10 : FVec F S8192x5632 .f32 := broadcastInDim S8192x5632 ![] bcast_S_S8192x5632 main_cst_2
  let main_v11 : IVec S8192x5632 1 := cmpf .olt main_v9 main_v10
  (main_v2, main_v5, main_v8, main_v11)
-- ==== Pre_finite_ffnin.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S8192x5632 : S_.BroadcastsInDim S8192x5632 (![] : Fin 0 → Fin S8192x5632.rank)

variable [Facts]

def fn {F : FTy → Type} [FloatOps F] (main_arg0 : FVec F S8192x1024 .f32) (main_arg1 : FVec F S1x1024 .f32) (main_arg2 : FVec F S1024x5632 .f32) (main_arg3 : FVec F S8192x5632 .f32) (main_arg4 : FVec F S8192x1024 .f32) : IVec S8192x1024 1 × IVec S1x1024 1 × IVec S1024x5632 1 × IVec S8192x5632 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S8192x5632 .f32 := Host.absf main_arg3
  let main_cst_2 : FVec F S_ .f32 := constant S_ .f32 0x7F800000#32
  let main_v10 : FVec F S8192x5632 .f32 := broadcastInDim S8192x5632 ![] bcast_S_S8192x5632 main_cst_2
  let main_v11 : IVec S8192x5632 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite_ffnnorm.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x5632 : S_.BroadcastsInDim S1024x5632 (![] : Fin 0 → Fin S1024x5632.rank)

variable [Facts]

def fn {F : FTy → Type} [FloatOps F] (main_arg0 : FVec F S8192x1024 .f32) (main_arg1 : FVec F S1x1024 .f32) (main_arg2 : FVec F S1024x5632 .f32) : IVec S8192x1024 1 × IVec S1x1024 1 × IVec S1024x5632 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  (main_v2, main_v5, main_v8)
-- ==== Pre_finite_ffnout.lean ====
abbrev S8192x5632 : Shape := ⟨2, ![8192, 5632]⟩
abbrev S2816x1024 : Shape := ⟨2, ![2816, 1024]⟩
abbrev S8192x1024 : Shape := ⟨2, ![8192, 1024]⟩
abbrev S_ : Shape := ⟨0, ![]⟩

class Facts : Prop where
  bcast_S_S8192x5632 : S_.BroadcastsInDim S8192x5632 (![] : Fin 0 → Fin S8192x5632.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x5632 .f32) (main_arg1 : FVec F S2816x1024 .f32) (main_arg2 : FVec F S8192x1024 .f32) : IVec S8192x5632 1 × IVec S2816x1024 1 × IVec S8192x1024 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite_gm.lean ====
abbrev S8192x3072 : Shape := ⟨2, ![8192, 3072]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S_ : Shape := ⟨0, ![]⟩

class Facts : Prop where
  bcast_S_S8192x3072 : S_.BroadcastsInDim S8192x3072 (![] : Fin 0 → Fin S8192x3072.rank)
  bcast_S_S256 : S_.BroadcastsInDim S256 (![] : Fin 0 → Fin S256.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S8192x256 : S_.BroadcastsInDim S8192x256 (![] : Fin 0 → Fin S8192x256.rank)

variable [Facts]

def fn {F : FTy → Type} [FloatOps F] (main_arg0 : FVec F S8192x3072 .f32) (main_arg1 : FVec F S256 .f32) (main_arg2 : FVec F S256 .f32) (main_arg3 : FVec F S4x128x128 .f32) (main_arg4 : FVec F S4x128 .f32) (main_arg5 : FVec F S8192x256 .f32) : IVec S8192x3072 1 × IVec S256 1 × IVec S256 1 × IVec S4x128x128 1 × IVec S4x128 1 × IVec S8192x256 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_v3 : FVec F S256 .f32 := Host.absf main_arg1
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S4x128 .f32 := Host.absf main_arg4
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  let main_v15 : FVec F S8192x256 .f32 := Host.absf main_arg5
  let main_cst_4 : FVec F S_ .f32 := constant S_ .f32 0x7F800000#32
  let main_v16 : FVec F S8192x256 .f32 := broadcastInDim S8192x256 ![] bcast_S_S8192x256 main_cst_4
  let main_v17 : IVec S8192x256 1 := cmpf .olt main_v15 main_v16
  (main_v2, main_v5, main_v8, main_v11, main_v14, main_v17)
-- ==== Pre_finite_gmfwd.lean ====
abbrev S8192x3072 : Shape := ⟨2, ![8192, 3072]⟩
abbrev S256 : Shape := ⟨1, ![256]⟩
abbrev S4x128x128 : Shape := ⟨3, ![4, 128, 128]⟩
abbrev S4x128 : Shape := ⟨2, ![4, 128]⟩
abbrev S_ : Shape := ⟨0, ![]⟩

class Facts : Prop where
  bcast_S_S8192x3072 : S_.BroadcastsInDim S8192x3072 (![] : Fin 0 → Fin S8192x3072.rank)
  bcast_S_S256 : S_.BroadcastsInDim S256 (![] : Fin 0 → Fin S256.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn {F : FTy → Type} [FloatOps F] (main_arg0 : FVec F S8192x3072 .f32) (main_arg1 : FVec F S256 .f32) (main_arg2 : FVec F S256 .f32) (main_arg3 : FVec F S4x128x128 .f32) (main_arg4 : FVec F S4x128 .f32) : IVec S8192x3072 1 × IVec S256 1 × IVec S256 1 × IVec S4x128x128 1 × IVec S4x128 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_v3 : FVec F S256 .f32 := Host.absf main_arg1
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S4x128 .f32 := Host.absf main_arg4
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  (main_v2, main_v5, main_v8, main_v11, main_v14)
-- ==== Pre_finite_inproj.lean ====
abbrev S8192x1024 : Shape := ⟨2, ![8192, 1024]⟩
abbrev S1x1024 : Shape := ⟨2, ![1, 1024]⟩
abbrev S1024x3072 : Shape := ⟨2, ![1024, 3072]⟩
abbrev S8192x512 : Shape := ⟨2, ![8192, 512]⟩
abbrev S8192x1536 : Shape := ⟨2, ![8192, 1536]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x3072 : S_.BroadcastsInDim S1024x3072 (![] : Fin 0 → Fin S1024x3072.rank)
  bcast_S_S8192x512 : S_.BroadcastsInDim S8192x512 (![] : Fin 0 → Fin S8192x512.rank)
  bcast_S_S8192x1536 : S_.BroadcastsInDim S8192x1536 (![] : Fin 0 → Fin S8192x1536.rank)

variable [Facts]

def fn_part1 {F : FTy → Type} [FloatOps F] (main_arg6 : FVec F S8192x512 .f32) (main_arg7 : FVec F S8192x1024 .f32) (main_v2 : IVec S8192x1024 1) (main_v5 : IVec S1x1024 1) (main_v8 : IVec S1024x3072 1) (main_v11 : IVec S8192x512 1) (main_v14 : IVec S8192x1536 1) (main_v17 : IVec S8192x512 1) : IVec S8192x1024 1 × IVec S1x1024 1 × IVec S1024x3072 1 × IVec S8192x512 1 × IVec S8192x1536 1 × IVec S8192x512 1 × IVec S8192x512 1 × IVec S8192x1024 1 :=
  let main_v18 : FVec F S8192x512 .f32 := Host.absf main_arg6
  let main_cst_5 : FVec F S_ .f32 := constant S_ .f32 0x7F800000#32
  let main_v19 : FVec F S8192x512 .f32 := broadcastInDim S8192x512 ![] bcast_S_S8192x512 main_cst_5
  let main_v20 : IVec S8192x512 1 := cmpf .olt main_v18 main_v19
  let main_v21 : FVec F S8192x1024 .f32 := Host.absf main_arg7
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  (main_v2, main_v5, main_v8, main_v11, main_v14, main_v17, main_v20, main_v23)

def fn {F : FTy → Type} [FloatOps F] (main_arg0 : FVec F S8192x1024 .f32) (main_arg1 : FVec F S1x1024 .f32) (main_arg2 : FVec F S1024x3072 .f32) (main_arg3 : FVec F S8192x512 .f32) (main_arg4 : FVec F S8192x1536 .f32) (main_arg5 : FVec F S8192x512 .f32) (main_arg6 : FVec F S8192x512 .f32) (main_arg7 : FVec F S8192x1024 .f32) : IVec S8192x1024 1 × IVec S1x1024 1 × IVec S1024x3072 1 × IVec S8192x512 1 × IVec S8192x1536 1 × IVec S8192x512 1 × IVec S8192x512 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x3072 .f32 := Host.absf main_arg2
  let main_cst_1 : FVec F S_ .f32 := constant S_ .f32 0x7F800000#32
  let main_v7 : FVec F S1024x3072 .f32 := broadcastInDim S1024x3072 ![] bcast_S_S1024x3072 main_cst_1
  let main_v8 : IVec S1024x3072 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x1536 .f32 := Host.absf main_arg4
  let main_cst_3 : FVec F S_ .f32 := constant S_ .f32 0x7F800000#32
  let main_v13 : FVec F S8192x1536 .f32 := broadcastInDim S8192x1536 ![] bcast_S_S8192x1536 main_cst_3
  let main_v14 : IVec S8192x1536 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_arg7 main_v2 main_v5 main_v8 main_v11 main_v14 main_v17
-- ==== Pre_finite_loss.lean ====
abbrev S1x8192x1024 : Shape := ⟨3, ![1, 8192, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  bcast_S_S1024 : S_.BroadcastsInDim S1024 (![] : Fin 0 → Fin S1024.rank)

variable [Facts]

def fn {F : FTy → Type} [FloatOps F] (main_arg0 : FVec F S1x8192x1024 .f32) (main_arg1 : FVec F S1024 .f32) (main_arg2 : FVec F S1x8192x1024 .f32) : IVec S1x8192x1024 1 × IVec S1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x8192x1024 .f32 := Host.absf main_arg2
  let main_cst_1 : FVec F S_ .f32 := constant S_ .f32 0x7F800000#32
  let main_v7 : FVec F S1x8192x1024 .f32 := broadcastInDim S1x8192x1024 ![] bcast_S_S1x8192x1024 main_cst_1
  let main_v8 : IVec S1x8192x1024 1 := cmpf .olt main_v6 main_v7
  (main_v2, main_v5, main_v8)
-- ==== Pre_finite_outdw.lean ====
abbrev S8192x256 : Shape := ⟨2, ![8192, 256]⟩
abbrev S8192x512 : Shape := ⟨2, ![8192, 512]⟩
abbrev S1024x1024 : Shape := ⟨2, ![1024, 1024]⟩
abbrev S8192x1024 : Shape := ⟨2, ![8192, 1024]⟩
abbrev S_ : Shape := ⟨0, ![]⟩

class Facts : Prop where
  bcast_S_S8192x256 : S_.BroadcastsInDim S8192x256 (![] : Fin 0 → Fin S8192x256.rank)
  bcast_S_S8192x512 : S_.BroadcastsInDim S8192x512 (![] : Fin 0 → Fin S8192x512.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn {F : FTy → Type} [FloatOps F] (main_arg0 : FVec F S8192x256 .f32) (main_arg1 : FVec F S8192x512 .f32) (main_arg2 : FVec F S8192x256 .f32) (main_arg3 : FVec F S1024x1024 .f32) (main_arg4 : FVec F S8192x1024 .f32) : IVec S8192x256 1 × IVec S8192x512 1 × IVec S8192x256 1 × IVec S1024x1024 1 × IVec S8192x1024 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite_outfwd.lean ====
abbrev S8192x256 : Shape := ⟨2, ![8192, 256]⟩
abbrev S8192x512 : Shape := ⟨2, ![8192, 512]⟩
abbrev S1024x1024 : Shape := ⟨2, ![1024, 1024]⟩
abbrev S8192x1024 : Shape := ⟨2, ![8192, 1024]⟩
abbrev S_ : Shape := ⟨0, ![]⟩

class Facts : Prop where
  bcast_S_S8192x256 : S_.BroadcastsInDim S8192x256 (![] : Fin 0 → Fin S8192x256.rank)
  bcast_S_S8192x512 : S_.BroadcastsInDim S8192x512 (![] : Fin 0 → Fin S8192x512.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn {F : FTy → Type} [FloatOps F] (main_arg0 : FVec F S8192x256 .f32) (main_arg1 : FVec F S8192x512 .f32) (main_arg2 : FVec F S8192x256 .f32) (main_arg3 : FVec F S1024x1024 .f32) (main_arg4 : FVec F S8192x1024 .f32) : IVec S8192x256 1 × IVec S8192x512 1 × IVec S8192x256 1 × IVec S1024x1024 1 × IVec S8192x1024 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite_outproj.lean ====
abbrev S8192x256 : Shape := ⟨2, ![8192, 256]⟩
abbrev S8192x512 : Shape := ⟨2, ![8192, 512]⟩
abbrev S8192x3072 : Shape := ⟨2, ![8192, 3072]⟩
abbrev S1024x1024 : Shape := ⟨2, ![1024, 1024]⟩
abbrev S8192x1024 : Shape := ⟨2, ![8192, 1024]⟩
abbrev S_ : Shape := ⟨0, ![]⟩

class Facts : Prop where
  bcast_S_S8192x256 : S_.BroadcastsInDim S8192x256 (![] : Fin 0 → Fin S8192x256.rank)
  bcast_S_S8192x512 : S_.BroadcastsInDim S8192x512 (![] : Fin 0 → Fin S8192x512.rank)
  bcast_S_S8192x3072 : S_.BroadcastsInDim S8192x3072 (![] : Fin 0 → Fin S8192x3072.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn {F : FTy → Type} [FloatOps F] (main_arg0 : FVec F S8192x256 .f32) (main_arg1 : FVec F S8192x512 .f32) (main_arg2 : FVec F S8192x3072 .f32) (main_arg3 : FVec F S8192x256 .f32) (main_arg4 : FVec F S1024x1024 .f32) (main_arg5 : FVec F S8192x1024 .f32) : IVec S8192x256 1 × IVec S8192x512 1 × IVec S8192x3072 1 × IVec S8192x256 1 × IVec S1024x1024 1 × IVec S8192x1024 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x3072 .f32 := Host.absf main_arg2
  let main_cst_1 : FVec F S_ .f32 := constant S_ .f32 0x7F800000#32
  let main_v7 : FVec F S8192x3072 .f32 := broadcastInDim S8192x3072 ![] bcast_S_S8192x3072 main_cst_1
  let main_v8 : IVec S8192x3072 1 := cmpf .olt main_v6 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite_retcarry.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) : IVec S8192x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  (main_v2, main_v5)
-- ==== Pre_finite_retmain.lean ====
abbrev S8192x512 : Shape := ⟨2, ![8192, 512]⟩
abbrev S64x4x128x128 : Shape := ⟨4, ![64, 4, 128, 128]⟩
abbrev S_ : Shape := ⟨0, ![]⟩

class Facts : Prop where
  bcast_S_S8192x512 : S_.BroadcastsInDim S8192x512 (![] : Fin 0 → Fin S8192x512.rank)
  bcast_S_S64x4x128x128 : S_.BroadcastsInDim S64x4x128x128 (![] : Fin 0 → Fin S64x4x128x128.rank)

variable [Facts]

def fn {F : FTy → Type} [FloatOps F] (main_arg0 : FVec F S8192x512 .f32) (main_arg1 : FVec F S8192x512 .f32) (main_arg2 : FVec F S8192x512 .f32) (main_arg3 : FVec F S8192x512 .f32) (main_arg4 : FVec F S64x4x128x128 .f32) (main_arg5 : FVec F S64x4x128x128 .f32) : IVec S8192x512 1 × IVec S8192x512 1 × IVec S8192x512 1 × IVec S8192x512 1 × IVec S64x4x128x128 1 × IVec S64x4x128x128 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S64x4x128x128 .f32 := Host.absf main_arg4
  let main_cst_3 : FVec F S_ .f32 := constant S_ .f32 0x7F800000#32
  let main_v13 : FVec F S64x4x128x128 .f32 := broadcastInDim S64x4x128x128 ![] bcast_S_S64x4x128x128 main_cst_3
  let main_v14 : IVec S64x4x128x128 1 := cmpf .olt main_v12 main_v13
  let main_v15 : FVec F S64x4x128x128 .f32 := Host.absf main_arg5
  let main_cst_4 : FVec F S_ .f32 := constant S_ .f32 0x7F800000#32
  let main_v16 : FVec F S64x4x128x128 .f32 := broadcastInDim S64x4x128x128 ![] bcast_S_S64x4x128x128 main_cst_4
  let main_v17 : IVec S64x4x128x128 1 := cmpf .olt main_v15 main_v16
  (main_v2, main_v5, main_v8, main_v11, main_v14, main_v17)
-- ==== Pre_finite_retout.lean ====
abbrev S8192x512 : Shape := ⟨2, ![8192, 512]⟩
abbrev S8192x3072 : Shape := ⟨2, ![8192, 3072]⟩
abbrev S_ : Shape := ⟨0, ![]⟩

class Facts : Prop where
  bcast_S_S8192x512 : S_.BroadcastsInDim S8192x512 (![] : Fin 0 → Fin S8192x512.rank)
  bcast_S_S8192x3072 : S_.BroadcastsInDim S8192x3072 (![] : Fin 0 → Fin S8192x3072.rank)

variable [Facts]

def fn {F : FTy → Type} [FloatOps F] (main_arg0 : FVec F S8192x512 .f32) (main_arg1 : FVec F S8192x512 .f32) (main_arg2 : FVec F S8192x512 .f32) (main_arg3 : FVec F S8192x3072 .f32) : IVec S8192x512 1 × IVec S8192x512 1 × IVec S8192x512 1 × IVec S8192x3072 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x3072 .f32 := Host.absf main_arg3
  let main_cst_2 : FVec F S_ .f32 := constant S_ .f32 0x7F800000#32
  let main_v10 : FVec F S8192x3072 .f32 := broadcastInDim S8192x3072 ![] bcast_S_S8192x3072 main_cst_2
  let main_v11 : IVec S8192x3072 1 := cmpf .olt main_v9 main_v10
  (main_v2, main_v5, main_v8, main_v11)
-- ==== Pre_finite_retstate.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) : IVec S8192x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  (main_v2, main_v5)
-- ==== Pre_finite_swiglu.lean ====
abbrev S8192x5632 : Shape := ⟨2, ![8192, 5632]⟩
abbrev S2816x1024 : Shape := ⟨2, ![2816, 1024]⟩
abbrev S8192x1024 : Shape := ⟨2, ![8192, 1024]⟩
abbrev S_ : Shape := ⟨0, ![]⟩

class Facts : Prop where
  bcast_S_S8192x5632 : S_.BroadcastsInDim S8192x5632 (![] : Fin 0 → Fin S8192x5632.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x5632 .f32) (main_arg1 : FVec F S2816x1024 .f32) (main_arg2 : FVec F S8192x1024 .f32) : IVec S8192x5632 1 × IVec S2816x1024 1 × IVec S8192x1024 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite_swigluw.lean ====
abbrev S8192x5632 : Shape := ⟨2, ![8192, 5632]⟩
abbrev S2816x1024 : Shape := ⟨2, ![2816, 1024]⟩
abbrev S8192x1024 : Shape := ⟨2, ![8192, 1024]⟩
abbrev S_ : Shape := ⟨0, ![]⟩

class Facts : Prop where
  bcast_S_S8192x5632 : S_.BroadcastsInDim S8192x5632 (![] : Fin 0 → Fin S8192x5632.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x5632 .f32) (main_arg1 : FVec F S2816x1024 .f32) (main_arg2 : FVec F S8192x1024 .f32) : IVec S8192x5632 1 × IVec S2816x1024 1 × IVec S8192x1024 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Loss.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S8x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v46 : BitVec 32 := Scalar.extui v0
  let c0_i32_15 : BitVec 32 := 0#32
  let v47 : BitVec 1 := Scalar.cmpi .ne v46 c0_i32_15
  v47

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v48 : BitVec 1 := Scalar.xori v0 v_true
  let v49 : BitVec 32 := Scalar.extui v48
  let c0_i32_16 : BitVec 32 := 0#32
  let v50 : BitVec 1 := Scalar.cmpi .ne v49 c0_i32_16
  v50

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v62 : BitVec 32 := Scalar.extui v0
  let c0_i32_21 : BitVec 32 := 0#32
  let v63 : BitVec 1 := Scalar.cmpi .ne v62 c0_i32_21
  v63

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_22 : BitVec 1 := 1#1
  let v64 : BitVec 1 := Scalar.xori v0 true_22
  let v65 : BitVec 32 := Scalar.extui v64
  let c0_i32_23 : BitVec 32 := 0#32
  let v66 : BitVec 1 := Scalar.cmpi .ne v65 c0_i32_23
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S1x8192x1024 : Shape := ⟨3, ![1, 8192, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 75
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8x128, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Gm.lean ====
abbrev S8192x3072 : Shape := ⟨2, ![8192, 3072]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S8192x512 : Shape := ⟨2, ![8192, 512]⟩
abbrev S128x128 : Shape := ⟨2, ![128, 128]⟩
abbrev S512x256 : Shape := ⟨2, ![512, 256]⟩
abbrev S512x512 : Shape := ⟨2, ![512, 512]⟩
abbrev S128 : Shape := ⟨1, ![128]⟩
abbrev S128x1 : Shape := ⟨2, ![128, 1]⟩
abbrev S1x128x128 : Shape := ⟨3, ![1, 128, 128]⟩

abbrev nBuf : Space → Nat
  | .hbm => 17
  | .vmem => 18
  | .smem => 0
  | _ => 0

abbrev bufTy : (tb : Table) → Fin (tcTables nBuf tb) → BufTy
  | .hbm, ⟨0, _⟩ => ⟨S8192x3072, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S8192x256, .f32⟩
  | .hbm, ⟨6, _⟩ => ⟨S128x4, .f32⟩
  | .hbm, ⟨7, _⟩ => ⟨S128x4x64, .f32⟩
  | .hbm, ⟨8, _⟩ => ⟨S128x256, .f32⟩
  | .hbm, ⟨9, _⟩ => ⟨S1x256, .f32⟩
  | .hbm, ⟨10, _⟩ => ⟨S1x256, .f32⟩
  | .hbm, ⟨11, _⟩ => ⟨S4x128x128, .f32⟩
  | .hbm, ⟨12, _⟩ => ⟨S8192x512, .bf16⟩
  | .hbm, ⟨13, _⟩ => ⟨S4x128x128, .f32⟩
  | .hbm, ⟨14, _⟩ => ⟨S128x128, .f32⟩
  | .hbm, ⟨15, _⟩ => ⟨S1x256, .f32⟩
  | .hbm, ⟨16, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S4x128x128, .f32⟩
  | .local _ .vmem, ⟨9, _⟩ => ⟨S4x128x128, .f32⟩
  | .local _ .vmem, ⟨10, _⟩ => ⟨S128x256, .f32⟩
  | .local _ .vmem, ⟨11, _⟩ => ⟨S512x512, .bf16⟩
  | .local _ .vmem, ⟨12, _⟩ => ⟨S512x512, .bf16⟩
  | .local _ .vmem, ⟨13, _⟩ => ⟨S4x128x128, .f32⟩
  | .local _ .vmem, ⟨14, _⟩ => ⟨S128x128, .f32⟩
  | .local _ .vmem, ⟨15, _⟩ => ⟨S1x256, .f32⟩
  | .local _ .vmem, ⟨16, _⟩ => ⟨S1x256, .f32⟩
  | .local _ .vmem, ⟨17, _⟩ => ⟨S128x256, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v797 : BitVec 32 := Scalar.extui v0
  let c0_i32_355 : BitVec 32 := 0#32
  let v798 : BitVec 1 := Scalar.cmpi .ne v797 c0_i32_355
  v798

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v799 : BitVec 1 := Scalar.xori v0 v_true
  let v800 : BitVec 32 := Scalar.extui v799
  let c0_i32_357 : BitVec 32 := 0#32
  let v801 : BitVec 1 := Scalar.cmpi .ne v800 c0_i32_357
  v801

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v802 : BitVec 32 := Scalar.extui v0
  let c0_i32_358 : BitVec 32 := 0#32
  let v803 : BitVec 1 := Scalar.cmpi .ne v802 c0_i32_358
  v803

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_359 : BitVec 1 := 1#1
  let v804 : BitVec 1 := Scalar.xori v0 true_359
  let v805 : BitVec 32 := Scalar.extui v804
  let c0_i32_361 : BitVec 32 := 0#32
  let v806 : BitVec 1 := Scalar.cmpi .ne v805 c0_i32_361
  v806

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v807 : BitVec 32 := Scalar.extui v0
  let c0_i32_362 : BitVec 32 := 0#32
  let v808 : BitVec 1 := Scalar.cmpi .ne v807 c0_i32_362
  v808

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_363 : BitVec 1 := 1#1
  let v809 : BitVec 1 := Scalar.xori v0 true_363
  let v810 : BitVec 32 := Scalar.extui v809
  let c0_i32_365 : BitVec 32 := 0#32
  let v811 : BitVec 1 := Scalar.cmpi .ne v810 c0_i32_365
  v811

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v812 : BitVec 32 := Scalar.extui v0
  let c0_i32_366 : BitVec 32 := 0#32
  let v813 : BitVec 1 := Scalar.cmpi .ne v812 c0_i32_366
  v813

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_367 : BitVec 1 := 1#1
  let v814 : BitVec 1 := Scalar.xori v0 true_367
  let v815 : BitVec 32 := Scalar.extui v814
  let c0_i32_369 : BitVec 32 := 0#32
  let v816 : BitVec 1 := Scalar.cmpi .ne v815 c0_i32_369
  v816

def k0_cond15 (i : grid0.Coords) : BitVec 1 :=
  let arg0 : BitVec 32 := BitVec.ofNat 32 (i 0).val
  let c15_i32 : BitVec 32 := 15#32
  let v832 : BitVec 1 := Scalar.cmpi .eq arg0 c15_i32
  let v833 : BitVec 32 := Scalar.extui v832
  let c0_i32_379 : BitVec 32 := 0#32
  let v834 : BitVec 1 := Scalar.cmpi .ne v833 c0_i32_379
  v834

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v822 : BitVec 32 := Scalar.extui v0
  let c0_i32_373 : BitVec 32 := 0#32
  let v823 : BitVec 1 := Scalar.cmpi .ne v822 c0_i32_373
  v823

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_374 : BitVec 1 := 1#1
  let v824 : BitVec 1 := Scalar.xori v0 true_374
  let v825 : BitVec 32 := Scalar.extui v824
  let c0_i32_375 : BitVec 32 := 0#32
  let v826 : BitVec 1 := Scalar.cmpi .ne v825 c0_i32_375
  v826

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v827 : BitVec 32 := Scalar.extui v0
  let c0_i32_376 : BitVec 32 := 0#32
  let v828 : BitVec 1 := Scalar.cmpi .ne v827 c0_i32_376
  v828

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_377 : BitVec 1 := 1#1
  let v829 : BitVec 1 := Scalar.xori v0 true_377
  let v830 : BitVec 32 := Scalar.extui v829
  let c0_i32_378 : BitVec 32 := 0#32
  let v831 : BitVec 1 := Scalar.cmpi .ne v830 c0_i32_378
  v831

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GmIdeal.lean ====
variable {F : FTy → Type} [FloatOps F] [Named F]
def κ : String → Option EReal := fun
  | "half_erf_slope_inv_sqrt2" => some (((9465531 / 16777216) * (Real.sqrt 2)⁻¹ : ℝ) : EReal)
  | "inv_sqrt2" => some (((Real.sqrt 2)⁻¹ : ℝ) : EReal)
  | _ => none
-- ==== GmRefIdeal.lean ====
abbrev S8192x3072 : Shape := ⟨2, ![8192, 3072]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S64x128x4x64 : Shape := ⟨4, ![64, 128, 4, 64]⟩
abbrev S4x64x64x128 : Shape := ⟨4, ![4, 64, 64, 128]⟩
abbrev S128x4 : Shape := ⟨2, ![128, 4]⟩
abbrev S128x4x1 : Shape := ⟨3, ![128, 4, 1]⟩
abbrev S1x128x4x1 : Shape := ⟨4, ![1, 128, 4, 1]⟩
abbrev S128x128 : Shape := ⟨2, ![128, 128]⟩

abbrev nBuf : Space → Nat
  | .hbm => 178
  | .vmem => 0
  | .smem => 0
  | _ => 0

abbrev hbmTy0_0 (i : Nat) : BufTy := match i % 128 with
  | 0 => ⟨S8192x3072, .f32⟩
  | 1 => ⟨S256, .f32⟩
  | 2 => ⟨S256, .f32⟩
  | 3 => ⟨S4x128x128, .f32⟩
  | 4 => ⟨S4x128, .f32⟩
  | 5 => ⟨S8192x256, .f32⟩
  | 6 => ⟨S8192x512, .f32⟩
  | 7 => ⟨S8192x256, .f32⟩
  | 8 => ⟨S8192x256, .f32⟩
  | 9 => ⟨S_, .f32⟩
  | 10 => ⟨S8192x256, .f32⟩
  | 11 => ⟨S8192x256, .f32⟩
  | 12 => ⟨S8192x256, .f32⟩
  | 13 => ⟨S_, .f32⟩
  | 14 => ⟨S_, .f32⟩
  | 15 => ⟨S8192x256, .f32⟩
  | 16 => ⟨S8192x256, .f32⟩
  | 17 => ⟨S8192x256, .f32⟩
  | 18 => ⟨S8192x256, .f32⟩
  | 19 => ⟨S8192x256, .f32⟩
  | 20 => ⟨S8192x256, .f32⟩
  | 21 => ⟨S8192x256, .f32⟩
  | 22 => ⟨S_, .f32⟩
  | 23 => ⟨S8192x256, .f32⟩
  | 24 => ⟨S8192x256, .f32⟩
  | 25 => ⟨S8192x256, .f32⟩
  | 26 => ⟨S_, .f32⟩
  | 27 => ⟨S_, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S8192x256, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S8192x256, .f32⟩
  | 42 => ⟨S8192x256, .f32⟩
  | 43 => ⟨S8192x256, .f32⟩
  | 44 => ⟨S_, .f32⟩
  | 45 => ⟨S8192x256, .f32⟩
  | 46 => ⟨S8192x256, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S8192x256, .f32⟩
  | 54 => ⟨S8192x256, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x256, .f32⟩
  | 64 => ⟨S8192x256, .f32⟩
  | 65 => ⟨S1x256, .f32⟩
  | 66 => ⟨S8192x256, .f32⟩
  | 67 => ⟨S8192x256, .f32⟩
  | 68 => ⟨S1x256, .f32⟩
  | 69 => ⟨S8192x256, .f32⟩
  | 70 => ⟨S8192x256, .f32⟩
  | 71 => ⟨S64x128x4x64, .f32⟩
  | 72 => ⟨S4x64x64x128, .f32⟩
  | 73 => ⟨S64x128x4x64, .f32⟩
  | 74 => ⟨S128x4, .f32⟩
  | 75 => ⟨S128x4x1, .f32⟩
  | 76 => ⟨S1x128x4x1, .f32⟩
  | 77 => ⟨S64x128x4x64, .f32⟩
  | 78 => ⟨S64x128x4x64, .f32⟩
  | 79 => ⟨S64x128x4x64, .f32⟩
  | 80 => ⟨S64x128x4x64, .f32⟩
  | 81 => ⟨S8192x256, .f32⟩
  | 82 => ⟨S64x128x4x64, .f32⟩
  | 83 => ⟨S64x128x4x64, .f32⟩
  | 84 => ⟨S64x128x4x64, .f32⟩
  | 85 => ⟨S8192x256, .f32⟩
  | 86 => ⟨S_, .f32⟩
  | 87 => ⟨S128x4, .f32⟩
  | 88 => ⟨S1x128x4x1, .f32⟩
  | 89 => ⟨S_, .f32⟩
  | 90 => ⟨S128x4, .f32⟩
  | 91 => ⟨S128x4x1, .f32⟩
  | 92 => ⟨S_, .f32⟩
  | 93 => ⟨S128x4, .f32⟩
  | 94 => ⟨S4x128, .f32⟩
  | 95 => ⟨S4x64x64x128, .f32⟩
  | 96 => ⟨S4x128x128, .f32⟩
  | 97 => ⟨S4x64x64x128, .f32⟩
  | 98 => ⟨S64x128x4x64, .f32⟩
  | 99 => ⟨S8192x256, .f32⟩
  | 100 => ⟨S_, .f32⟩
  | 101 => ⟨S256, .f32⟩
  | 102 => ⟨S1x256, .f32⟩
  | 103 => ⟨S_, .f32⟩
  | 104 => ⟨S256, .f32⟩
  | 105 => ⟨S8192x256, .f32⟩
  | 106 => ⟨S_, .f32⟩
  | 107 => ⟨S256, .f32⟩
  | 108 => ⟨S1x256, .f32⟩
  | 109 => ⟨S8192x256, .f32⟩
  | 110 => ⟨S8192x256, .f32⟩
  | 111 => ⟨S_, .f32⟩
  | 112 => ⟨S256, .f32⟩
  | 113 => ⟨S8192x256, .f32⟩
  | 114 => ⟨S_, .f32⟩
  | 115 => ⟨S8192, .f32⟩
  | 116 => ⟨S8192x1, .f32⟩
  | 117 => ⟨S8192x256, .f32⟩
  | 118 => ⟨S8192x256, .f32⟩
  | 119 => ⟨S8192x1, .f32⟩
  | 120 => ⟨S8192x256, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x3072, .f32⟩

abbrev hbmTy0_1 (i : Nat) : BufTy := match i % 128 with
  | 0 => ⟨S8192, .f32⟩
  | 1 => ⟨S8192x256, .f32⟩
  | 2 => ⟨S8192x256, .f32⟩
  | 3 => ⟨S8192x256, .f32⟩
  | 4 => ⟨S_, .f32⟩
  | 5 => ⟨S8192, .f32⟩
  | 6 => ⟨S8192x1, .f32⟩
  | 7 => ⟨S8192x256, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192, .f32⟩
  | 14 => ⟨S8192x256, .f32⟩
  | 15 => ⟨S8192x256, .f32⟩
  | 16 => ⟨S8192x256, .f32⟩
  | 17 => ⟨S8192x256, .f32⟩
  | 18 => ⟨S_, .f32⟩
  | 19 => ⟨S8192x256, .f32⟩
  | 20 => ⟨S8192x256, .f32⟩
  | 21 => ⟨S8192x256, .f32⟩
  | 22 => ⟨S8192x256, .f32⟩
  | 23 => ⟨S8192x256, .f32⟩
  | 24 => ⟨S8192x256, .f32⟩
  | 25 => ⟨S_, .f32⟩
  | 26 => ⟨S8192x256, .f32⟩
  | 27 => ⟨S8192x256, .f32⟩
  | 28 => ⟨S8192x256, .f32⟩
  | 29 => ⟨S8192x256, .f32⟩
  | 30 => ⟨S8192x256, .f32⟩
  | 31 => ⟨S_, .f32⟩
  | 32 => ⟨S8192x256, .f32⟩
  | 33 => ⟨S8192x256, .f32⟩
  | 34 => ⟨S8192x256, .f32⟩
  | 35 => ⟨S8192x256, .f32⟩
  | 36 => ⟨S8192x256, .f32⟩
  | 37 => ⟨S8192x256, .f32⟩
  | 38 => ⟨S_, .f32⟩
  | 39 => ⟨S8192x256, .f32⟩
  | 40 => ⟨S8192x256, .f32⟩
  | 41 => ⟨S8192x256, .f32⟩
  | 42 => ⟨S8192x512, .f32⟩
  | 43 => ⟨S8192x512, .bf16⟩
  | 44 => ⟨S128x4, .f32⟩
  | 45 => ⟨S_, .i32⟩
  | 46 => ⟨S_, .f32⟩
  | 47 => ⟨S128x128, .f32⟩
  | 48 => ⟨S1x256, .f32⟩
  | 49 => ⟨S1x256, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_cst_12 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_13 : Ref sig .tc := ⟨.hbm, 100, rfl⟩
abbrev main_v80 : Ref sig .tc := ⟨.hbm, 101, rfl⟩
abbrev main_v81 : Ref sig .tc := ⟨.hbm, 102, rfl⟩
abbrev main_cst_14 : Ref sig .tc := ⟨.hbm, 103, rfl⟩
abbrev main_v82 : Ref sig .tc := ⟨.hbm, 104, rfl⟩
abbrev main_v83 : Ref sig .tc := ⟨.hbm, 105, rfl⟩
abbrev main_cst_15 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_16 : Ref sig .tc := ⟨.hbm, 111, rfl⟩
abbrev main_v88 : Ref sig .tc := ⟨.hbm, 112, rfl⟩
abbrev main_v89 : Ref sig .tc := ⟨.hbm, 113, rfl⟩
abbrev main_cst_17 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_18 : Ref sig .tc := ⟨.hbm, 121, rfl⟩
abbrev main_v96 : Ref sig .tc := ⟨.hbm, 122, rfl⟩
abbrev main_v97 : Ref sig .tc := ⟨.hbm, 123, rfl⟩
abbrev main_cst_19 : Ref sig .tc := ⟨.hbm, 124, rfl⟩
abbrev main_v98 : Ref sig .tc := ⟨.hbm, 125, rfl⟩
abbrev main_v99 : Ref sig .tc := ⟨.hbm, 126, rfl⟩
abbrev main_cst_20 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_21 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_22 : Ref sig .tc := ⟨.hbm, 137, rfl⟩
abbrev main_v108 : Ref sig .tc := ⟨.hbm, 138, rfl⟩
abbrev main_v109 : Ref sig .tc := ⟨.hbm, 139, rfl⟩
abbrev main_cst_23 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_24 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_25 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_26 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_27 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_c : Ref sig .tc := ⟨.hbm, 173, rfl⟩
abbrev main_call0_v0 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩

abbrev nD : Nat := 1
abbrev τ : Topo := Topo.v7x

variable {F : FTy → Type} [FloatOps F]
-- ==== RetMain.lean ====
abbrev S8192x512 : Shape := ⟨2, ![8192, 512]⟩
abbrev S64x4x128x128 : Shape := ⟨4, ![64, 4, 128, 128]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S128 : Shape := ⟨1, ![128]⟩
abbrev S128x1 : Shape := ⟨2, ![128, 1]⟩
abbrev S128x64 : Shape := ⟨2, ![128, 64]⟩
abbrev S64x1x64 : Shape := ⟨3, ![64, 1, 64]⟩
abbrev S1x128x64 : Shape := ⟨3, ![1, 128, 64]⟩
abbrev S64x128x64 : Shape := ⟨3, ![64, 128, 64]⟩
abbrev S8192x64 : Shape := ⟨2, ![8192, 64]⟩
abbrev S8192x128 : Shape := ⟨2, ![8192, 128]⟩
abbrev S4 : Shape := ⟨1, ![4]⟩
abbrev S4x1 : Shape := ⟨2, ![4, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S4x128x1 : Shape := ⟨3, ![4, 128, 1]⟩
abbrev S512x1 : Shape := ⟨2, ![512, 1]⟩
abbrev S1x512 : Shape := ⟨2, ![1, 512]⟩
abbrev S8192 : Shape := ⟨1, ![8192]⟩
abbrev S8192x1 : Shape := ⟨2, ![8192, 1]⟩
abbrev S8192x1x64 : Shape := ⟨3, ![8192, 1, 64]⟩
abbrev S8192x4x128 : Shape := ⟨3, ![8192, 4, 128]⟩
abbrev S8192x4x64 : Shape := ⟨3, ![8192, 4, 64]⟩
abbrev S1x8192 : Shape := ⟨2, ![1, 8192]⟩
abbrev S64x8192 : Shape := ⟨2, ![64, 8192]⟩
abbrev S1x64x8192 : Shape := ⟨3, ![1, 64, 8192]⟩
abbrev S4x64x8192 : Shape := ⟨3, ![4, 64, 8192]⟩
abbrev S4x64x8192x1 : Shape := ⟨4, ![4, 64, 8192, 1]⟩
abbrev S4x8192x128 : Shape := ⟨3, ![4, 8192, 128]⟩
abbrev S4x1x8192x128 : Shape := ⟨4, ![4, 1, 8192, 128]⟩
abbrev S4x64x8192x128 : Shape := ⟨4, ![4, 64, 8192, 128]⟩
abbrev S4x128x64x128 : Shape := ⟨4, ![4, 128, 64, 128]⟩
abbrev S8192x1536 : Shape := ⟨2, ![8192, 1536]⟩
abbrev S64x128x4x128 : Shape := ⟨4, ![64, 128, 4, 128]⟩
abbrev S64x128x512 : Shape := ⟨3, ![64, 128, 512]⟩
abbrev S512x512 : Shape := ⟨2, ![512, 512]⟩
abbrev S4x128x512 : Shape := ⟨3, ![4, 128, 512]⟩
abbrev S512x128 : Shape := ⟨2, ![512, 128]⟩
abbrev S512x1536 : Shape := ⟨2, ![512, 1536]⟩

abbrev nBuf : Space → Nat
  | .hbm => 348
  | .vmem => 28
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S64x4x128x128, .f32⟩
  | 5 => ⟨S64x4x128x128, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S64, .f32⟩
  | 15 => ⟨S_, .f32⟩
  | 16 => ⟨S64, .f32⟩
  | 17 => ⟨S64, .f32⟩
  | 18 => ⟨S64x1, .f32⟩
  | 19 => ⟨S1x64, .f32⟩
  | 20 => ⟨S64x64, .f32⟩
  | 21 => ⟨S64x64, .f32⟩
  | 22 => ⟨S64x64, .f32⟩
  | 23 => ⟨S128, .f32⟩
  | 24 => ⟨S128x1, .f32⟩
  | 25 => ⟨S1x64, .f32⟩
  | 26 => ⟨S128x64, .f32⟩
  | 27 => ⟨S128x64, .f32⟩
  | 28 => ⟨S128x64, .f32⟩
  | 29 => ⟨S64x64, .f32⟩
  | 30 => ⟨S64x1x64, .f32⟩
  | 31 => ⟨S64x64, .f32⟩
  | 32 => ⟨S64x1x64, .f32⟩
  | 33 => ⟨S128x64, .f32⟩
  | 34 => ⟨S1x128x64, .f32⟩
  | 35 => ⟨S128x64, .f32⟩
  | 36 => ⟨S1x128x64, .f32⟩
  | 37 => ⟨S64x128x64, .f32⟩
  | 38 => ⟨S64x128x64, .f32⟩
  | 39 => ⟨S64x128x64, .f32⟩
  | 40 => ⟨S64x128x64, .f32⟩
  | 41 => ⟨S64x128x64, .f32⟩
  | 42 => ⟨S64x128x64, .f32⟩
  | 43 => ⟨S64x128x64, .f32⟩
  | 44 => ⟨S8192x64, .f32⟩
  | 45 => ⟨S64x128x64, .f32⟩
  | 46 => ⟨S64x128x64, .f32⟩
  | 47 => ⟨S64x128x64, .f32⟩
  | 48 => ⟨S64x128x64, .f32⟩
  | 49 => ⟨S64x128x64, .f32⟩
  | 50 => ⟨S64x128x64, .f32⟩
  | 51 => ⟨S64x128x64, .f32⟩
  | 52 => ⟨S8192x64, .f32⟩
  | 53 => ⟨S8192x128, .f32⟩
  | 54 => ⟨S8192x64, .f32⟩
  | 55 => ⟨S8192x128, .f32⟩
  | 56 => ⟨S4, .f32⟩
  | 57 => ⟨S_, .f32⟩
  | 58 => ⟨S4, .f32⟩
  | 59 => ⟨S4, .f32⟩
  | 60 => ⟨S_, .f32⟩
  | 61 => ⟨S4, .f32⟩
  | 62 => ⟨S4, .f32⟩
  | 63 => ⟨S4, .f32⟩
  | 64 => ⟨S_, .f32⟩
  | 65 => ⟨S4, .f32⟩
  | 66 => ⟨S4, .f32⟩
  | 67 => ⟨S4, .f32⟩
  | 68 => ⟨S4x1, .f32⟩
  | 69 => ⟨S4, .f32⟩
  | 70 => ⟨S4, .f32⟩
  | 71 => ⟨S4x1, .f32⟩
  | 72 => ⟨S128, .f32⟩
  | 73 => ⟨S128x1, .f32⟩
  | 74 => ⟨S1x128, .f32⟩
  | 75 => ⟨S128x128, .f32⟩
  | 76 => ⟨S128x128, .f32⟩
  | 77 => ⟨S128x128, .f32⟩
  | 78 => ⟨S_, .f32⟩
  | 79 => ⟨S128x128, .f32⟩
  | 80 => ⟨S128x128, .i1⟩
  | 81 => ⟨S4x1x1, .f32⟩
  | 82 => ⟨S_, .f32⟩
  | 83 => ⟨S128x128, .f32⟩
  | 84 => ⟨S128x128, .i1⟩
  | 85 => ⟨S_, .f32⟩
  | 86 => ⟨S_, .f32⟩
  | 87 => ⟨S128x128, .f32⟩
  | 88 => ⟨S128x128, .f32⟩
  | 89 => ⟨S1x128x128, .f32⟩
  | 90 => ⟨S4x128x128, .f32⟩
  | 91 => ⟨S4x128x128, .f32⟩
  | 92 => ⟨S4x128x128, .f32⟩
  | 93 => ⟨S4x128x128, .f32⟩
  | 94 => ⟨S_, .f32⟩
  | 95 => ⟨S_, .f32⟩
  | 96 => ⟨S4x128x128, .i1⟩
  | 97 => ⟨S4x128x128, .f32⟩
  | 98 => ⟨S4x128x128, .f32⟩
  | 99 => ⟨S_, .f32⟩
  | 100 => ⟨S128x128, .f32⟩
  | 101 => ⟨S128x128, .i1⟩
  | 102 => ⟨S4x1x1, .f32⟩
  | 103 => ⟨S_, .f32⟩
  | 104 => ⟨S128x128, .f32⟩
  | 105 => ⟨S128x128, .i1⟩
  | 106 => ⟨S128x128, .f32⟩
  | 107 => ⟨S_, .f32⟩
  | 108 => ⟨S_, .f32⟩
  | 109 => ⟨S128x128, .f32⟩
  | 110 => ⟨S128x128, .f32⟩
  | 111 => ⟨S1x128x128, .f32⟩
  | 112 => ⟨S4x128x128, .f32⟩
  | 113 => ⟨S4x128x128, .f32⟩
  | 114 => ⟨S4x128x128, .f32⟩
  | 115 => ⟨S4x128x128, .f32⟩
  | 116 => ⟨S_, .f32⟩
  | 117 => ⟨S_, .f32⟩
  | 118 => ⟨S4x128x128, .i1⟩
  | 119 => ⟨S4x128x128, .f32⟩
  | 120 => ⟨S4x128x128, .f32⟩
  | 121 => ⟨S4x128x128, .f32⟩
  | 122 => ⟨S4x128x128, .f32⟩
  | 123 => ⟨S_, .f32⟩
  | 124 => ⟨S128, .f32⟩
  | 125 => ⟨S128, .f32⟩
  | 126 => ⟨S1x128, .f32⟩
  | 127 => ⟨S4x128, .f32⟩
  | _ => ⟨S8192x512, .f32⟩

abbrev hbmTy0_1 (i : Nat) : BufTy := match i % 128 with
  | 0 => ⟨S4x128, .f32⟩
  | 1 => ⟨S4x128, .f32⟩
  | 2 => ⟨S4x128, .f32⟩
  | 3 => ⟨S128x4, .f32⟩
  | 4 => ⟨S128x4x128, .f32⟩
  | 5 => ⟨S128x512, .f32⟩
  | 6 => ⟨S_, .f32⟩
  | 7 => ⟨S128, .f32⟩
  | 8 => ⟨S128, .f32⟩
  | 9 => ⟨S1x128, .f32⟩
  | 10 => ⟨S4x128, .f32⟩
  | 11 => ⟨S4x128, .f32⟩
  | 12 => ⟨S4x128, .f32⟩
  | 13 => ⟨S4x128, .f32⟩
  | 14 => ⟨S128x4, .f32⟩
  | 15 => ⟨S128x4x128, .f32⟩
  | 16 => ⟨S128x512, .f32⟩
  | 17 => ⟨S_, .f32⟩
  | 18 => ⟨S128, .f32⟩
  | 19 => ⟨S128, .f32⟩
  | 20 => ⟨S1x128, .f32⟩
  | 21 => ⟨S4x128, .f32⟩
  | 22 => ⟨S4x128, .f32⟩
  | 23 => ⟨S4x128, .f32⟩
  | 24 => ⟨S4x128, .f32⟩
  | 25 => ⟨S128x4, .f32⟩
  | 26 => ⟨S128x4x128, .f32⟩
  | 27 => ⟨S128x512, .f32⟩
  | 28 => ⟨S1x128, .f32⟩
  | 29 => ⟨S4x128, .f32⟩
  | 30 => ⟨S4x128, .f32⟩
  | 31 => ⟨S4x128, .f32⟩
  | 32 => ⟨S4x128, .f32⟩
  | 33 => ⟨S128x4, .f32⟩
  | 34 => ⟨S128x4x128, .f32⟩
  | 35 => ⟨S128x512, .f32⟩
  | 36 => ⟨S_, .f32⟩
  | 37 => ⟨S4x1, .f32⟩
  | 38 => ⟨S4x1, .f32⟩
  | 39 => ⟨S4x1, .f32⟩
  | 40 => ⟨S4x128x1, .f32⟩
  | 41 => ⟨S512x1, .f32⟩
  | 42 => ⟨S1x512, .f32⟩
  | 43 => ⟨S_, .f32⟩
  | 44 => ⟨S4x1, .f32⟩
  | 45 => ⟨S4x1, .f32⟩
  | 46 => ⟨S4x1, .f32⟩
  | 47 => ⟨S4x128x1, .f32⟩
  | 48 => ⟨S512x1, .f32⟩
  | 49 => ⟨S1x512, .f32⟩
  | 50 => ⟨S64, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S8192, .f32⟩
  | 59 => ⟨S8192x1, .f32⟩
  | 60 => ⟨S1x64, .f32⟩
  | 61 => ⟨S8192x64, .f32⟩
  | 62 => ⟨S8192x64, .f32⟩
  | 63 => ⟨S8192x64, .f32⟩
  | 64 => ⟨S8192x64, .f32⟩
  | 65 => ⟨S8192x1x64, .f32⟩
  | 66 => ⟨S8192x64, .f32⟩
  | 67 => ⟨S8192x1x64, .f32⟩
  | 68 => ⟨S8192x4x128, .f32⟩
  | 69 => ⟨S8192x4x64, .f32⟩
  | 70 => ⟨S8192x4x64, .f32⟩
  | 71 => ⟨S8192x4x64, .f32⟩
  | 72 => ⟨S8192x4x64, .f32⟩
  | 73 => ⟨S8192x4x64, .f32⟩
  | 74 => ⟨S8192x4x64, .f32⟩
  | 75 => ⟨S8192x4x64, .f32⟩
  | 76 => ⟨S8192x4x64, .f32⟩
  | 77 => ⟨S8192x4x64, .f32⟩
  | 78 => ⟨S8192x4x64, .f32⟩
  | 79 => ⟨S8192x4x64, .f32⟩
  | 80 => ⟨S8192x4x64, .f32⟩
  | 81 => ⟨S8192x4x128, .f32⟩
  | 82 => ⟨S8192x4x128, .f32⟩
  | 83 => ⟨S8192x4x64, .f32⟩
  | 84 => ⟨S8192x4x64, .f32⟩
  | 85 => ⟨S8192x4x64, .f32⟩
  | 86 => ⟨S8192x4x64, .f32⟩
  | 87 => ⟨S8192x4x64, .f32⟩
  | 88 => ⟨S8192x4x64, .f32⟩
  | 89 => ⟨S8192x4x64, .f32⟩
  | 90 => ⟨S8192x4x64, .f32⟩
  | 91 => ⟨S8192x4x64, .f32⟩
  | 92 => ⟨S8192x4x64, .f32⟩
  | 93 => ⟨S8192x4x64, .f32⟩
  | 94 => ⟨S8192x4x64, .f32⟩
  | 95 => ⟨S8192x4x128, .f32⟩
  | 96 => ⟨S_, .f32⟩
  | 97 => ⟨S8192x4x128, .f32⟩
  | 98 => ⟨S8192x4x128, .f32⟩
  | 99 => ⟨S8192x4x128, .f32⟩
  | 100 => ⟨S4, .f32⟩
  | 101 => ⟨S_, .f32⟩
  | 102 => ⟨S4, .f32⟩
  | 103 => ⟨S4, .f32⟩
  | 104 => ⟨S_, .f32⟩
  | 105 => ⟨S4, .f32⟩
  | 106 => ⟨S4, .f32⟩
  | 107 => ⟨S4, .f32⟩
  | 108 => ⟨S_, .f32⟩
  | 109 => ⟨S4, .f32⟩
  | 110 => ⟨S4, .f32⟩
  | 111 => ⟨S4, .f32⟩
  | 112 => ⟨S4, .f32⟩
  | 113 => ⟨S4x1x1, .f32⟩
  | 114 => ⟨S64, .f32⟩
  | 115 => ⟨S_, .f32⟩
  | 116 => ⟨S64, .f32⟩
  | 117 => ⟨S64, .f32⟩
  | 118 => ⟨S64x1, .f32⟩
  | 119 => ⟨S_, .f32⟩
  | 120 => ⟨S64x1, .f32⟩
  | 121 => ⟨S64x1, .f32⟩
  | 122 => ⟨S8192, .f32⟩
  | 123 => ⟨S1x8192, .f32⟩
  | 124 => ⟨S64x8192, .f32⟩
  | 125 => ⟨S64x8192, .f32⟩
  | 126 => ⟨S64x8192, .f32⟩
  | 127 => ⟨S_, .f32⟩
  | _ => ⟨S8192x512, .f32⟩

abbrev hbmTy0_2 (i : Nat) : BufTy := match i % 128 with
  | 0 => ⟨S64x8192, .f32⟩
  | 1 => ⟨S64x8192, .i1⟩
  | 2 => ⟨S_, .f32⟩
  | 3 => ⟨S64x8192, .f32⟩
  | 4 => ⟨S64x8192, .i1⟩
  | 5 => ⟨S_, .f32⟩
  | 6 => ⟨S_, .f32⟩
  | 7 => ⟨S64x8192, .f32⟩
  | 8 => ⟨S64x8192, .f32⟩
  | 9 => ⟨S1x64x8192, .f32⟩
  | 10 => ⟨S4x64x8192, .f32⟩
  | 11 => ⟨S4x64x8192, .f32⟩
  | 12 => ⟨S4x64x8192, .f32⟩
  | 13 => ⟨S4x64x8192, .f32⟩
  | 14 => ⟨S_, .f32⟩
  | 15 => ⟨S_, .f32⟩
  | 16 => ⟨S4x64x8192, .i1⟩
  | 17 => ⟨S4x64x8192, .f32⟩
  | 18 => ⟨S4x64x8192, .f32⟩
  | 19 => ⟨S4x64x8192x1, .f32⟩
  | 20 => ⟨S4x8192x128, .f32⟩
  | 21 => ⟨S4x1x8192x128, .f32⟩
  | 22 => ⟨S4x64x8192x128, .f32⟩
  | 23 => ⟨S4x64x8192x128, .f32⟩
  | 24 => ⟨S4x64x8192x128, .f32⟩
  | 25 => ⟨S4x128x64x128, .f32⟩
  | 26 => ⟨S64x4x128x128, .f32⟩
  | 27 => ⟨S8192x4x128, .f32⟩
  | 28 => ⟨S8192x4x128, .f32⟩
  | 29 => ⟨S4, .f32⟩
  | 30 => ⟨S4x1x1, .f32⟩
  | 31 => ⟨S64, .f32⟩
  | 32 => ⟨S_, .f32⟩
  | 33 => ⟨S64, .f32⟩
  | 34 => ⟨S64, .f32⟩
  | 35 => ⟨S64x1, .f32⟩
  | 36 => ⟨S_, .f32⟩
  | 37 => ⟨S64x1, .f32⟩
  | 38 => ⟨S64x1, .f32⟩
  | 39 => ⟨S8192, .f32⟩
  | 40 => ⟨S1x8192, .f32⟩
  | 41 => ⟨S64x8192, .f32⟩
  | 42 => ⟨S64x8192, .f32⟩
  | 43 => ⟨S64x8192, .f32⟩
  | 44 => ⟨S_, .f32⟩
  | 45 => ⟨S64x8192, .f32⟩
  | 46 => ⟨S64x8192, .i1⟩
  | 47 => ⟨S_, .f32⟩
  | 48 => ⟨S64x8192, .f32⟩
  | 49 => ⟨S64x8192, .i1⟩
  | 50 => ⟨S_, .f32⟩
  | 51 => ⟨S_, .f32⟩
  | 52 => ⟨S64x8192, .f32⟩
  | 53 => ⟨S64x8192, .f32⟩
  | 54 => ⟨S1x64x8192, .f32⟩
  | 55 => ⟨S4x64x8192, .f32⟩
  | 56 => ⟨S4x64x8192, .f32⟩
  | 57 => ⟨S4x64x8192, .f32⟩
  | 58 => ⟨S4x64x8192, .f32⟩
  | 59 => ⟨S_, .f32⟩
  | 60 => ⟨S_, .f32⟩
  | 61 => ⟨S4x64x8192, .i1⟩
  | 62 => ⟨S4x64x8192, .f32⟩
  | 63 => ⟨S4x64x8192, .f32⟩
  | 64 => ⟨S4x64x8192x1, .f32⟩
  | 65 => ⟨S4x8192x128, .f32⟩
  | 66 => ⟨S4x1x8192x128, .f32⟩
  | 67 => ⟨S4x64x8192x128, .f32⟩
  | 68 => ⟨S4x64x8192x128, .f32⟩
  | 69 => ⟨S4x64x8192x128, .f32⟩
  | 70 => ⟨S4x128x64x128, .f32⟩
  | 71 => ⟨S64x4x128x128, .f32⟩
  | 72 => ⟨S8192x512, .f32⟩
  | 73 => ⟨S8192x512, .f32⟩
  | 74 => ⟨S8192x1536, .f32⟩
  | 75 => ⟨S8192x1536, .bf16⟩
  | 76 => ⟨S8192x512, .bf16⟩
  | 77 => ⟨S64x128x4x128, .f32⟩
  | 78 => ⟨S64x128x512, .f32⟩
  | 79 => ⟨S64x128x512, .bf16⟩
  | 80 => ⟨S64x4x128x128, .f32⟩
  | 81 => ⟨S64x128x4x128, .f32⟩
  | 82 => ⟨S64x128x512, .f32⟩
  | 83 => ⟨S64x128x512, .bf16⟩
  | 84 => ⟨S64x128x4x128, .f32⟩
  | 85 => ⟨S64x128x512, .f32⟩
  | 86 => ⟨S64x128x512, .bf16⟩
  | 87 => ⟨S64x4x128x128, .f32⟩
  | 88 => ⟨S64x128x4x128, .f32⟩
  | 89 => ⟨S64x128x512, .f32⟩
  | 90 => ⟨S64x128x512, .bf16⟩
  | 91 => ⟨S8192x1536, .bf16⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4x128x512, .bf16⟩
  | .local _ .vmem, ⟨9, _⟩ => ⟨S4x128x512, .bf16⟩
  | .local _ .vmem, ⟨10, _⟩ => ⟨S4x128x512, .bf16⟩
  | .local _ .vmem, ⟨11, _⟩ => ⟨S4x128x512, .bf16⟩
  | .local _ .vmem, ⟨12, _⟩ => ⟨S4x128x512, .bf16⟩
  | .local _ .vmem, ⟨13, _⟩ => ⟨S4x128x512, .bf16⟩
  | .local _ .vmem, ⟨14, _⟩ => ⟨S4x128x512, .bf16⟩
  | .local _ .vmem, ⟨15, _⟩ => ⟨S4x128x512, .bf16⟩
  | .local _ .vmem, ⟨16, _⟩ => ⟨S4x128x128, .f32⟩
  | .local _ .vmem, ⟨17, _⟩ => ⟨S4x128x128, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x1536, .bf16⟩
  | .local _ .vmem, ⟨27, _⟩ => ⟨S512x1536, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_2 : Ref sig .tc := ⟨.hbm, 57, rfl⟩
abbrev main_v48 : Ref sig .tc := ⟨.hbm, 58, rfl⟩
abbrev main_v49 : Ref sig .tc := ⟨.hbm, 59, rfl⟩
abbrev main_cst_3 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_5 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_6 : Ref sig .tc := ⟨.hbm, 82, rfl⟩
abbrev main_v69 : Ref sig .tc := ⟨.hbm, 83, rfl⟩
abbrev main_v70 : Ref sig .tc := ⟨.hbm, 84, rfl⟩
abbrev main_cst_7 : Ref sig .tc := ⟨.hbm, 85, rfl⟩
abbrev main_call0_v0 : Ref sig .tc := ⟨.hbm, 86, rfl⟩
abbrev main_call0_v1 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_8 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v77 : Ref sig .tc := ⟨.hbm, 98, rfl⟩
abbrev main_cst_9 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_10 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_11 : Ref sig .tc := ⟨.hbm, 107, rfl⟩
abbrev main_call2_v0 : Ref sig .tc := ⟨.hbm, 108, rfl⟩
abbrev main_call2_v1 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_12 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_13 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_14 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_15 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_16 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_cst_17 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_cst_18 : Ref sig .tc := ⟨.hbm, 180, rfl⟩
abbrev main_v145 : Ref sig .tc := ⟨.hbm, 181, rfl⟩
abbrev main_v146 : Ref sig .tc := ⟨.hbm, 182, rfl⟩
abbrev main_cst_19 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_cst_20 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_cst_21 : Ref sig .tc := ⟨.hbm, 229, rfl⟩
abbrev main_v191 : Ref sig .tc := ⟨.hbm, 230, rfl⟩
abbrev main_v192 : Ref sig .tc := ⟨.hbm, 231, rfl⟩
abbrev main_cst_22 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_cst_23 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_cst_24 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_cst_25 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_cst_26 : Ref sig .tc := ⟨.hbm, 255, rfl⟩
abbrev main_v212 : Ref sig .tc := ⟨.hbm, 256, rfl⟩
abbrev main_v213 : Ref sig .tc := ⟨.hbm, 257, rfl⟩
abbrev main_cst_27 : Ref sig .tc := ⟨.hbm, 258, rfl⟩
abbrev main_v214 : Ref sig .tc := ⟨.hbm, 259, rfl⟩
abbrev main_v215 : Ref sig .tc := ⟨.hbm, 260, rfl⟩
abbrev main_cst_28 : Ref sig .tc := ⟨.hbm, 261, rfl⟩
abbrev main_call4_v0 : Ref sig .tc := ⟨.hbm, 262, rfl⟩
abbrev main_call4_v1 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_cst_29 : Ref sig .tc := ⟨.hbm, 270, rfl⟩
abbrev main_call5_v0 : Ref sig .tc := ⟨.hbm, 271, rfl⟩
abbrev main_call5_v1 : Ref sig .tc := ⟨.hbm, 272, rfl⟩
abbrev main_call5_v2 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_cst_30 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_cst_31 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_cst_32 : Ref sig .tc := ⟨.hbm, 300, rfl⟩
abbrev main_v246 : Ref sig .tc := ⟨.hbm, 301, rfl⟩
abbrev main_v247 : Ref sig .tc := ⟨.hbm, 302, rfl⟩
abbrev main_cst_33 : Ref sig .tc := ⟨.hbm, 303, rfl⟩
abbrev main_v248 : Ref sig .tc := ⟨.hbm, 304, rfl⟩
abbrev main_v249 : Ref sig .tc := ⟨.hbm, 305, rfl⟩
abbrev main_cst_34 : Ref sig .tc := ⟨.hbm, 306, rfl⟩
abbrev main_call8_v0 : Ref sig .tc := ⟨.hbm, 307, rfl⟩
abbrev main_call8_v1 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_cst_35 : Ref sig .tc := ⟨.hbm, 315, rfl⟩
abbrev main_call9_v0 : Ref sig .tc := ⟨.hbm, 316, rfl⟩
abbrev main_call9_v1 : Ref sig .tc := ⟨.hbm, 317, rfl⟩
abbrev main_call9_v2 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== RetMainRefIdeal.lean ====
abbrev S8192x512 : Shape := ⟨2, ![8192, 512]⟩
abbrev S64x4x128x128 : Shape := ⟨4, ![64, 4, 128, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S4 : Shape := ⟨1, ![4]⟩
abbrev S8192x4x128 : Shape := ⟨3, ![8192, 4, 128]⟩
abbrev S8192x4x64 : Shape := ⟨3, ![8192, 4, 64]⟩
abbrev S4x1x1 : Shape := ⟨3, ![4, 1, 1]⟩
abbrev S64x1 : Shape := ⟨2, ![64, 1]⟩
abbrev S1x8192 : Shape := ⟨2, ![1, 8192]⟩
abbrev S64x8192 : Shape := ⟨2, ![64, 8192]⟩
abbrev S1x64x8192 : Shape := ⟨3, ![1, 64, 8192]⟩
abbrev S4x64x8192 : Shape := ⟨3, ![4, 64, 8192]⟩
abbrev S4x64x8192x1 : Shape := ⟨4, ![4, 64, 8192, 1]⟩
abbrev S4x8192x128 : Shape := ⟨3, ![4, 8192, 128]⟩
abbrev S4x1x8192x128 : Shape := ⟨4, ![4, 1, 8192, 128]⟩
abbrev S4x64x8192x128 : Shape := ⟨4, ![4, 64, 8192, 128]⟩
abbrev S4x128x64x128 : Shape := ⟨4, ![4, 128, 64, 128]⟩
abbrev S64x128x4x128 : Shape := ⟨4, ![64, 128, 4, 128]⟩
abbrev S4x64x128x128 : Shape := ⟨4, ![4, 64, 128, 128]⟩
abbrev S128 : Shape := ⟨1, ![128]⟩
abbrev S4x1 : Shape := ⟨2, ![4, 1]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x128x128 : Shape := ⟨3, ![4, 128, 128]⟩
abbrev S4x128 : Shape := ⟨2, ![4, 128]⟩
abbrev S4x1x128x128 : Shape := ⟨4, ![4, 1, 128, 128]⟩
abbrev S4x1x128x1 : Shape := ⟨4, ![4, 1, 128, 1]⟩
abbrev S8192x1536 : Shape := ⟨2, ![8192, 1536]⟩

abbrev nBuf : Space → Nat
  | .hbm => 414
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S64x4x128x128, .f32⟩
  | 5 => ⟨S64x4x128x128, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S8192, .f32⟩
  | 15 => ⟨S8192x1, .f32⟩
  | 16 => ⟨S1x64, .f32⟩
  | 17 => ⟨S8192x64, .f32⟩
  | 18 => ⟨S8192x64, .f32⟩
  | 19 => ⟨S8192x64, .f32⟩
  | 20 => ⟨S8192x64, .f32⟩
  | 21 => ⟨S8192x1x64, .f32⟩
  | 22 => ⟨S8192x64, .f32⟩
  | 23 => ⟨S8192x1x64, .f32⟩
  | 24 => ⟨S4, .f32⟩
  | 25 => ⟨S_, .f32⟩
  | 26 => ⟨S4, .f32⟩
  | 27 => ⟨S4, .f32⟩
  | 28 => ⟨S_, .f32⟩
  | 29 => ⟨S4, .f32⟩
  | 30 => ⟨S4, .f32⟩
  | 31 => ⟨S4, .f32⟩
  | 32 => ⟨S_, .f32⟩
  | 33 => ⟨S4, .f32⟩
  | 34 => ⟨S4, .f32⟩
  | 35 => ⟨S4, .f32⟩
  | 36 => ⟨S8192x4x128, .f32⟩
  | 37 => ⟨S8192x4x64, .f32⟩
  | 38 => ⟨S8192x4x64, .f32⟩
  | 39 => ⟨S8192x4x64, .f32⟩
  | 40 => ⟨S8192x4x64, .f32⟩
  | 41 => ⟨S8192x4x64, .f32⟩
  | 42 => ⟨S8192x4x64, .f32⟩
  | 43 => ⟨S8192x4x64, .f32⟩
  | 44 => ⟨S8192x4x64, .f32⟩
  | 45 => ⟨S8192x4x64, .f32⟩
  | 46 => ⟨S8192x4x64, .f32⟩
  | 47 => ⟨S8192x4x64, .f32⟩
  | 48 => ⟨S8192x4x64, .f32⟩
  | 49 => ⟨S8192x4x128, .f32⟩
  | 50 => ⟨S8192x4x128, .f32⟩
  | 51 => ⟨S8192x4x64, .f32⟩
  | 52 => ⟨S8192x4x64, .f32⟩
  | 53 => ⟨S8192x4x64, .f32⟩
  | 54 => ⟨S8192x4x64, .f32⟩
  | 55 => ⟨S8192x4x64, .f32⟩
  | 56 => ⟨S8192x4x64, .f32⟩
  | 57 => ⟨S8192x4x64, .f32⟩
  | 58 => ⟨S8192x4x64, .f32⟩
  | 59 => ⟨S8192x4x64, .f32⟩
  | 60 => ⟨S8192x4x64, .f32⟩
  | 61 => ⟨S8192x4x64, .f32⟩
  | 62 => ⟨S8192x4x64, .f32⟩
  | 63 => ⟨S8192x4x128, .f32⟩
  | 64 => ⟨S_, .f32⟩
  | 65 => ⟨S8192x4x128, .f32⟩
  | 66 => ⟨S8192x4x128, .f32⟩
  | 67 => ⟨S8192x4x128, .f32⟩
  | 68 => ⟨S4, .f32⟩
  | 69 => ⟨S4x1x1, .f32⟩
  | 70 => ⟨S64, .f32⟩
  | 71 => ⟨S_, .f32⟩
  | 72 => ⟨S64, .f32⟩
  | 73 => ⟨S64, .f32⟩
  | 74 => ⟨S64x1, .f32⟩
  | 75 => ⟨S_, .f32⟩
  | 76 => ⟨S64x1, .f32⟩
  | 77 => ⟨S64x1, .f32⟩
  | 78 => ⟨S8192, .f32⟩
  | 79 => ⟨S1x8192, .f32⟩
  | 80 => ⟨S64x8192, .f32⟩
  | 81 => ⟨S64x8192, .f32⟩
  | 82 => ⟨S64x8192, .f32⟩
  | 83 => ⟨S_, .f32⟩
  | 84 => ⟨S64x8192, .f32⟩
  | 85 => ⟨S64x8192, .i1⟩
  | 86 => ⟨S_, .f32⟩
  | 87 => ⟨S64x8192, .f32⟩
  | 88 => ⟨S64x8192, .i1⟩
  | 89 => ⟨S_, .f32⟩
  | 90 => ⟨S_, .f32⟩
  | 91 => ⟨S64x8192, .f32⟩
  | 92 => ⟨S64x8192, .f32⟩
  | 93 => ⟨S1x64x8192, .f32⟩
  | 94 => ⟨S4x64x8192, .f32⟩
  | 95 => ⟨S4x64x8192, .f32⟩
  | 96 => ⟨S4x64x8192, .f32⟩
  | 97 => ⟨S4x64x8192, .f32⟩
  | 98 => ⟨S_, .f32⟩
  | 99 => ⟨S_, .f32⟩
  | 100 => ⟨S4x64x8192, .i1⟩
  | 101 => ⟨S4x64x8192, .f32⟩
  | 102 => ⟨S4x64x8192, .f32⟩
  | 103 => ⟨S4x64x8192x1, .f32⟩
  | 104 => ⟨S4x8192x128, .f32⟩
  | 105 => ⟨S4x1x8192x128, .f32⟩
  | 106 => ⟨S4x64x8192x128, .f32⟩
  | 107 => ⟨S4x64x8192x128, .f32⟩
  | 108 => ⟨S4x64x8192x128, .f32⟩
  | 109 => ⟨S4x128x64x128, .f32⟩
  | 110 => ⟨S64x4x128x128, .f32⟩
  | 111 => ⟨S8192x4x128, .f32⟩
  | 112 => ⟨S8192x4x128, .f32⟩
  | 113 => ⟨S4, .f32⟩
  | 114 => ⟨S4x1x1, .f32⟩
  | 115 => ⟨S64, .f32⟩
  | 116 => ⟨S_, .f32⟩
  | 117 => ⟨S64, .f32⟩
  | 118 => ⟨S64, .f32⟩
  | 119 => ⟨S64x1, .f32⟩
  | 120 => ⟨S_, .f32⟩
  | 121 => ⟨S64x1, .f32⟩
  | 122 => ⟨S64x1, .f32⟩
  | 123 => ⟨S8192, .f32⟩
  | 124 => ⟨S1x8192, .f32⟩
  | 125 => ⟨S64x8192, .f32⟩
  | 126 => ⟨S64x8192, .f32⟩
  | 127 => ⟨S64x8192, .f32⟩
  | _ => ⟨S8192x512, .f32⟩

abbrev hbmTy0_1 (i : Nat) : BufTy := match i % 128 with
  | 0 => ⟨S_, .f32⟩
  | 1 => ⟨S64x8192, .f32⟩
  | 2 => ⟨S64x8192, .i1⟩
  | 3 => ⟨S_, .f32⟩
  | 4 => ⟨S64x8192, .f32⟩
  | 5 => ⟨S64x8192, .i1⟩
  | 6 => ⟨S_, .f32⟩
  | 7 => ⟨S_, .f32⟩
  | 8 => ⟨S64x8192, .f32⟩
  | 9 => ⟨S64x8192, .f32⟩
  | 10 => ⟨S1x64x8192, .f32⟩
  | 11 => ⟨S4x64x8192, .f32⟩
  | 12 => ⟨S4x64x8192, .f32⟩
  | 13 => ⟨S4x64x8192, .f32⟩
  | 14 => ⟨S4x64x8192, .f32⟩
  | 15 => ⟨S_, .f32⟩
  | 16 => ⟨S_, .f32⟩
  | 17 => ⟨S4x64x8192, .i1⟩
  | 18 => ⟨S4x64x8192, .f32⟩
  | 19 => ⟨S4x64x8192, .f32⟩
  | 20 => ⟨S4x64x8192x1, .f32⟩
  | 21 => ⟨S4x8192x128, .f32⟩
  | 22 => ⟨S4x1x8192x128, .f32⟩
  | 23 => ⟨S4x64x8192x128, .f32⟩
  | 24 => ⟨S4x64x8192x128, .f32⟩
  | 25 => ⟨S4x64x8192x128, .f32⟩
  | 26 => ⟨S4x128x64x128, .f32⟩
  | 27 => ⟨S64x4x128x128, .f32⟩
  | 28 => ⟨S64x128x4x128, .f32⟩
  | 29 => ⟨S4x64x128x128, .f32⟩
  | 30 => ⟨S64x128x4x128, .f32⟩
  | 31 => ⟨S4x64x128x128, .f32⟩
  | 32 => ⟨S64x128x4x128, .f32⟩
  | 33 => ⟨S4x64x128x128, .f32⟩
  | 34 => ⟨S128, .f32⟩
  | 35 => ⟨S4, .f32⟩
  | 36 => ⟨S4x1, .f32⟩
  | 37 => ⟨S128x1, .f32⟩
  | 38 => ⟨S1x128, .f32⟩
  | 39 => ⟨S128x128, .f32⟩
  | 40 => ⟨S128x128, .f32⟩
  | 41 => ⟨S128x128, .f32⟩
  | 42 => ⟨S_, .f32⟩
  | 43 => ⟨S128x128, .f32⟩
  | 44 => ⟨S128x128, .i1⟩
  | 45 => ⟨S4x1x1, .f32⟩
  | 46 => ⟨S_, .f32⟩
  | 47 => ⟨S_, .f32⟩
  | 48 => ⟨S128x128, .f32⟩
  | 49 => ⟨S128x128, .f32⟩
  | 50 => ⟨S1x128x128, .f32⟩
  | 51 => ⟨S4x128x128, .f32⟩
  | 52 => ⟨S4x128x128, .f32⟩
  | 53 => ⟨S4x128x128, .f32⟩
  | 54 => ⟨S4x128x128, .f32⟩
  | 55 => ⟨S_, .f32⟩
  | 56 => ⟨S_, .f32⟩
  | 57 => ⟨S4x128x128, .i1⟩
  | 58 => ⟨S4x128x128, .f32⟩
  | 59 => ⟨S4x128x128, .f32⟩
  | 60 => ⟨S_, .f32⟩
  | 61 => ⟨S128, .f32⟩
  | 62 => ⟨S128, .f32⟩
  | 63 => ⟨S1x128, .f32⟩
  | 64 => ⟨S4x128, .f32⟩
  | 65 => ⟨S4x128, .f32⟩
  | 66 => ⟨S4x128, .f32⟩
  | 67 => ⟨S4x128, .f32⟩
  | 68 => ⟨S4x64x128x128, .f32⟩
  | 69 => ⟨S4x1x128x128, .f32⟩
  | 70 => ⟨S4x64x128x128, .f32⟩
  | 71 => ⟨S4x64x128x128, .f32⟩
  | 72 => ⟨S4x64x128x128, .f32⟩
  | 73 => ⟨S4x1x128x1, .f32⟩
  | 74 => ⟨S4x64x128x128, .f32⟩
  | 75 => ⟨S4x64x128x128, .f32⟩
  | 76 => ⟨S4x64x128x128, .f32⟩
  | 77 => ⟨S4x64x128x128, .f32⟩
  | 78 => ⟨S64x128x4x128, .f32⟩
  | 79 => ⟨S8192x4x128, .f32⟩
  | 80 => ⟨S8192x4x128, .f32⟩
  | 81 => ⟨S64x128x4x128, .f32⟩
  | 82 => ⟨S4x64x128x128, .f32⟩
  | 83 => ⟨S8192x4x128, .f32⟩
  | 84 => ⟨S64x128x4x128, .f32⟩
  | 85 => ⟨S4x64x128x128, .f32⟩
  | 86 => ⟨S8192x4x128, .f32⟩
  | 87 => ⟨S64x128x4x128, .f32⟩
  | 88 => ⟨S4x64x128x128, .f32⟩
  | 89 => ⟨S128, .f32⟩
  | 90 => ⟨S4, .f32⟩
  | 91 => ⟨S4x1, .f32⟩
  | 92 => ⟨S128x1, .f32⟩
  | 93 => ⟨S1x128, .f32⟩
  | 94 => ⟨S128x128, .f32⟩
  | 95 => ⟨S128x128, .f32⟩
  | 96 => ⟨S128x128, .f32⟩
  | 97 => ⟨S_, .f32⟩
  | 98 => ⟨S128x128, .f32⟩
  | 99 => ⟨S128x128, .i1⟩
  | 100 => ⟨S4x1x1, .f32⟩
  | 101 => ⟨S_, .f32⟩
  | 102 => ⟨S_, .f32⟩
  | 103 => ⟨S128x128, .f32⟩
  | 104 => ⟨S128x128, .f32⟩
  | 105 => ⟨S1x128x128, .f32⟩
  | 106 => ⟨S4x128x128, .f32⟩
  | 107 => ⟨S4x128x128, .f32⟩
  | 108 => ⟨S4x128x128, .f32⟩
  | 109 => ⟨S4x128x128, .f32⟩
  | 110 => ⟨S_, .f32⟩
  | 111 => ⟨S_, .f32⟩
  | 112 => ⟨S4x128x128, .i1⟩
  | 113 => ⟨S4x128x128, .f32⟩
  | 114 => ⟨S4x128x128, .f32⟩
  | 115 => ⟨S_, .f32⟩
  | 116 => ⟨S128, .f32⟩
  | 117 => ⟨S128, .f32⟩
  | 118 => ⟨S1x128, .f32⟩
  | 119 => ⟨S4x128, .f32⟩
  | 120 => ⟨S4x128, .f32⟩
  | 121 => ⟨S4x128, .f32⟩
  | 122 => ⟨S4x128, .f32⟩
  | 123 => ⟨S4x64x128x128, .f32⟩
  | 124 => ⟨S4x1x128x128, .f32⟩
  | 125 => ⟨S4x64x128x128, .f32⟩
  | 126 => ⟨S4x64x128x128, .f32⟩
  | 127 => ⟨S4x64x128x128, .f32⟩
  | _ => ⟨S8192x512, .f32⟩

abbrev hbmTy0_2 (i : Nat) : BufTy := match i % 128 with
  | 0 => ⟨S4x1x128x1, .f32⟩
  | 1 => ⟨S4x64x128x128, .f32⟩
  | 2 => ⟨S4x64x128x128, .f32⟩
  | 3 => ⟨S4x64x128x128, .f32⟩
  | 4 => ⟨S4x64x128x128, .f32⟩
  | 5 => ⟨S64x128x4x128, .f32⟩
  | 6 => ⟨S8192x4x128, .f32⟩
  | 7 => ⟨S8192x4x128, .f32⟩
  | 8 => ⟨S64x128x4x128, .f32⟩
  | 9 => ⟨S4x64x128x128, .f32⟩
  | 10 => ⟨S64x128x4x128, .f32⟩
  | 11 => ⟨S4x64x128x128, .f32⟩
  | 12 => ⟨S128, .f32⟩
  | 13 => ⟨S4, .f32⟩
  | 14 => ⟨S4x1, .f32⟩
  | 15 => ⟨S_, .f32⟩
  | 16 => ⟨S128, .f32⟩
  | 17 => ⟨S128, .f32⟩
  | 18 => ⟨S1x128, .f32⟩
  | 19 => ⟨S4x128, .f32⟩
  | 20 => ⟨S4x128, .f32⟩
  | 21 => ⟨S4x128, .f32⟩
  | 22 => ⟨S4x128, .f32⟩
  | 23 => ⟨S4x1x128x1, .f32⟩
  | 24 => ⟨S4x64x128x128, .f32⟩
  | 25 => ⟨S4x64x128x128, .f32⟩
  | 26 => ⟨S64x4x128x128, .f32⟩
  | 27 => ⟨S8192x4x128, .f32⟩
  | 28 => ⟨S64x128x4x128, .f32⟩
  | 29 => ⟨S4x64x128x128, .f32⟩
  | 30 => ⟨S8192x4x128, .f32⟩
  | 31 => ⟨S64x128x4x128, .f32⟩
  | 32 => ⟨S4x64x128x128, .f32⟩
  | 33 => ⟨S128, .f32⟩
  | 34 => ⟨S4, .f32⟩
  | 35 => ⟨S4x1, .f32⟩
  | 36 => ⟨S_, .f32⟩
  | 37 => ⟨S128, .f32⟩
  | 38 => ⟨S128, .f32⟩
  | 39 => ⟨S1x128, .f32⟩
  | 40 => ⟨S4x128, .f32⟩
  | 41 => ⟨S4x128, .f32⟩
  | 42 => ⟨S4x128, .f32⟩
  | 43 => ⟨S4x128, .f32⟩
  | 44 => ⟨S4x1x128x1, .f32⟩
  | 45 => ⟨S4x64x128x128, .f32⟩
  | 46 => ⟨S4x64x128x128, .f32⟩
  | 47 => ⟨S64x4x128x128, .f32⟩
  | 48 => ⟨S8192x4x128, .f32⟩
  | 49 => ⟨S8192x512, .f32⟩
  | 50 => ⟨S8192x4x128, .f32⟩
  | 51 => ⟨S64x4x128x128, .f32⟩
  | 52 => ⟨S4x64x128x128, .f32⟩
  | 53 => ⟨S64x4x128x128, .f32⟩
  | 54 => ⟨S4x64x128x128, .f32⟩
  | 55 => ⟨S4x64x128x128, .f32⟩
  | 56 => ⟨S4x64x128x128, .f32⟩
  | 57 => ⟨S64x128x4x128, .f32⟩
  | 58 => ⟨S8192x4x128, .f32⟩
  | 59 => ⟨S8192x4x128, .f32⟩
  | 60 => ⟨S64x128x4x128, .f32⟩
  | 61 => ⟨S8192x4x128, .f32⟩
  | 62 => ⟨S8192x4x128, .f32⟩
  | 63 => ⟨S64x4x128x128, .f32⟩
  | 64 => ⟨S4x64x128x128, .f32⟩
  | 65 => ⟨S64x4x128x128, .f32⟩
  | 66 => ⟨S4x64x128x128, .f32⟩
  | 67 => ⟨S4x64x128x128, .f32⟩
  | 68 => ⟨S4x64x128x128, .f32⟩
  | 69 => ⟨S64x128x4x128, .f32⟩
  | 70 => ⟨S8192x4x128, .f32⟩
  | 71 => ⟨S8192x4x128, .f32⟩
  | 72 => ⟨S64x128x4x128, .f32⟩
  | 73 => ⟨S8192x4x128, .f32⟩
  | 74 => ⟨S8192x4x128, .f32⟩
  | 75 => ⟨S8192x4x128, .f32⟩
  | 76 => ⟨S64x128x4x128, .f32⟩
  | 77 => ⟨S4x64x128x128, .f32⟩
  | 78 => ⟨S4x64x128x128, .f32⟩
  | 79 => ⟨S4x64x128x128, .f32⟩
  | 80 => ⟨S4x64x128x128, .f32⟩
  | 81 => ⟨S4x64x128x128, .f32⟩
  | 82 => ⟨S4x64x128x128, .f32⟩
  | 83 => ⟨S4x64x128x128, .f32⟩
  | 84 => ⟨S4x64x128x128, .f32⟩
  | 85 => ⟨S4x64x128x128, .f32⟩
  | 86 => ⟨S4x64x128x128, .f32⟩
  | 87 => ⟨S4x64x128x128, .f32⟩
  | 88 => ⟨S4x64x128x128, .f32⟩
  | 89 => ⟨S64x128x4x128, .f32⟩
  | 90 => ⟨S8192x4x128, .f32⟩
  | 91 => ⟨S8192x4x128, .f32⟩
  | 92 => ⟨S8192x4x128, .f32⟩
  | 93 => ⟨S64x128x4x128, .f32⟩
  | 94 => ⟨S8192x4x128, .f32⟩
  | 95 => ⟨S8192x4x128, .f32⟩
  | 96 => ⟨S8192x4x128, .f32⟩
  | 97 => ⟨S64x128x4x128, .f32⟩
  | 98 => ⟨S8192x4x128, .f32⟩
  | 99 => ⟨S8192x4x128, .f32⟩
  | 100 => ⟨S64x128x4x128, .f32⟩
  | 101 => ⟨S4x64x128x128, .f32⟩
  | 102 => ⟨S4x64x128x128, .f32⟩
  | 103 => ⟨S4x64x128x128, .f32⟩
  | 104 => ⟨S4x64x128x128, .f32⟩
  | 105 => ⟨S4x64x128x128, .f32⟩
  | 106 => ⟨S4x64x128x128, .f32⟩
  | 107 => ⟨S4x64x128x128, .f32⟩
  | 108 => ⟨S4x64x128x128, .f32⟩
  | 109 => ⟨S4x64x128x128, .f32⟩
  | 110 => ⟨S4x64x128x128, .f32⟩
  | 111 => ⟨S4x64x128x128, .f32⟩
  | 112 => ⟨S4x64x128x128, .f32⟩
  | 113 => ⟨S64x128x4x128, .f32⟩
  | 114 => ⟨S8192x4x128, .f32⟩
  | 115 => ⟨S8192x4x128, .f32⟩
  | 116 => ⟨S64x128x4x128, .f32⟩
  | 117 => ⟨S8192x4x128, .f32⟩
  | 118 => ⟨S8192x4x128, .f32⟩
  | 119 => ⟨S64x128x4x128, .f32⟩
  | 120 => ⟨S8192x4x128, .f32⟩
  | 121 => ⟨S8192x4x128, .f32⟩
  | 122 => ⟨S8192x512, .f32⟩
  | 123 => ⟨S_, .f32⟩
  | 124 => ⟨S8192x4x128, .f32⟩
  | 125 => ⟨S8192x4x128, .f32⟩
  | 126 => ⟨S8192x4x64, .f32⟩
  | 127 => ⟨S8192x4x64, .f32⟩
  | _ => ⟨S8192x512, .f32⟩

abbrev hbmTy0_3 (i : Nat) : BufTy := match i % 128 with
  | 0 => ⟨S8192x4x64, .f32⟩
  | 1 => ⟨S8192x4x64, .f32⟩
  | 2 => ⟨S8192x4x64, .f32⟩
  | 3 => ⟨S8192x4x64, .f32⟩
  | 4 => ⟨S8192x4x64, .f32⟩
  | 5 => ⟨S8192x4x64, .f32⟩
  | 6 => ⟨S8192x4x64, .f32⟩
  | 7 => ⟨S8192x4x64, .f32⟩
  | 8 => ⟨S8192x4x64, .f32⟩
  | 9 => ⟨S8192x4x64, .f32⟩
  | 10 => ⟨S8192x4x64, .f32⟩
  | 11 => ⟨S8192x4x128, .f32⟩
  | 12 => ⟨S8192x512, .f32⟩
  | 13 => ⟨S8192x4x64, .f32⟩
  | 14 => ⟨S8192x4x64, .f32⟩
  | 15 => ⟨S8192x4x64, .f32⟩
  | 16 => ⟨S8192x4x64, .f32⟩
  | 17 => ⟨S8192x4x64, .f32⟩
  | 18 => ⟨S8192x4x64, .f32⟩
  | 19 => ⟨S8192x4x64, .f32⟩
  | 20 => ⟨S8192x4x64, .f32⟩
  | 21 => ⟨S8192x4x64, .f32⟩
  | 22 => ⟨S8192x4x64, .f32⟩
  | 23 => ⟨S8192x4x64, .f32⟩
  | 24 => ⟨S8192x4x64, .f32⟩
  | 25 => ⟨S8192x4x64, .f32⟩
  | 26 => ⟨S8192x4x128, .f32⟩
  | 27 => ⟨S8192x512, .f32⟩
  | 28 => ⟨S8192x1536, .f32⟩
  | 29 => ⟨S8192x1536, .bf16⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_5 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_6 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_7 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_cst_9 : Ref sig .tc := ⟨.hbm, 89, rfl⟩
abbrev main_call0_v0 : Ref sig .tc := ⟨.hbm, 90, rfl⟩
abbrev main_call0_v1 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_10 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_11 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_12 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_13 : Ref sig .tc := ⟨.hbm, 128, rfl⟩
abbrev main_v103 : Ref sig .tc := ⟨.hbm, 129, rfl⟩
abbrev main_v104 : Ref sig .tc := ⟨.hbm, 130, rfl⟩
abbrev main_cst_14 : Ref sig .tc := ⟨.hbm, 131, rfl⟩
abbrev main_v105 : Ref sig .tc := ⟨.hbm, 132, rfl⟩
abbrev main_v106 : Ref sig .tc := ⟨.hbm, 133, rfl⟩
abbrev main_cst_15 : Ref sig .tc := ⟨.hbm, 134, rfl⟩
abbrev main_call4_v0 : Ref sig .tc := ⟨.hbm, 135, rfl⟩
abbrev main_call4_v1 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_16 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_17 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_18 : Ref sig .tc := ⟨.hbm, 174, rfl⟩
abbrev main_call6_v0 : Ref sig .tc := ⟨.hbm, 175, rfl⟩
abbrev main_call6_v1 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_cst_19 : Ref sig .tc := ⟨.hbm, 183, rfl⟩
abbrev main_call7_v0 : Ref sig .tc := ⟨.hbm, 184, rfl⟩
abbrev main_call7_v1 : Ref sig .tc := ⟨.hbm, 185, rfl⟩
abbrev main_call7_v2 : Ref sig .tc := ⟨.hbm, 186, rfl⟩
abbrev main_v145 : Ref sig .tc := ⟨.hbm, 187, rfl⟩
abbrev main_cst_20 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_cst_21 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_cst_22 : Ref sig .tc := ⟨.hbm, 229, rfl⟩
abbrev main_call11_v0 : Ref sig .tc := ⟨.hbm, 230, rfl⟩
abbrev main_call11_v1 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_cst_23 : Ref sig .tc := ⟨.hbm, 238, rfl⟩
abbrev main_call12_v0 : Ref sig .tc := ⟨.hbm, 239, rfl⟩
abbrev main_call12_v1 : Ref sig .tc := ⟨.hbm, 240, rfl⟩
abbrev main_call12_v2 : Ref sig .tc := ⟨.hbm, 241, rfl⟩
abbrev main_v191 : Ref sig .tc := ⟨.hbm, 242, rfl⟩
abbrev main_cst_24 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_cst_25 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_cst_26 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_v310 : Ref sig .tc := ⟨.hbm, 364, rfl⟩
abbrev main_v311 : Ref sig .tc := ⟨.hbm, 365, rfl⟩
abbrev main_v312 : Ref sig .tc := ⟨.hbm, 366, rfl⟩
abbrev main_v313 : Ref sig .tc := ⟨.hbm, 367, rfl⟩
abbrev main_v314 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩
abbrev main_v318 : Ref sig .tc := ⟨.hbm, 372, rfl⟩
abbrev main_v319 : Ref sig .tc := ⟨.hbm, 373, rfl⟩
abbrev main_v320 : Ref sig .tc := ⟨.hbm, 374, rfl⟩
abbrev main_v321 : Ref sig .tc := ⟨.hbm, 375, rfl⟩
abbrev main_v322 : Ref sig .tc := ⟨.hbm, 376, rfl⟩
abbrev main_v323 : Ref sig .tc := ⟨.hbm, 377, rfl⟩
abbrev main_v324 : Ref sig .tc := ⟨.hbm, 378, rfl⟩
abbrev main_cst_27 : Ref sig .tc := ⟨.hbm, 379, rfl⟩
abbrev main_v325 : Ref sig .tc := ⟨.hbm, 380, rfl⟩
abbrev main_v326 : Ref sig .tc := ⟨.hbm, 381, rfl⟩
abbrev main_v327 : Ref sig .tc := ⟨.hbm, 382, rfl⟩
abbrev main_v328 : Ref sig .tc := ⟨.hbm, 383, rfl⟩
abbrev main_v329 : Ref sig .tc := ⟨.hbm, 384, rfl⟩
abbrev main_v330 : Ref sig .tc := ⟨.hbm, 385, rfl⟩
abbrev main_v331 : Ref sig .tc := ⟨.hbm, 386, rfl⟩
abbrev main_v332 : Ref sig .tc := ⟨.hbm, 387, rfl⟩
abbrev main_v333 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_v338 : Ref sig .tc := ⟨.hbm, 393, rfl⟩
abbrev main_v339 : Ref sig .tc := ⟨.hbm, 394, rfl⟩
abbrev main_v340 : Ref sig .tc := ⟨.hbm, 395, rfl⟩
abbrev main_v341 : Ref sig .tc := ⟨.hbm, 396, rfl⟩
abbrev main_v342 : Ref sig .tc := ⟨.hbm, 397, rfl⟩
abbrev main_v343 : Ref sig .tc := ⟨.hbm, 398, rfl⟩
abbrev main_v344 : Ref sig .tc := ⟨.hbm, 399, rfl⟩
abbrev main_v345 : Ref sig .tc := ⟨.hbm, 400, rfl⟩
abbrev main_v346 : Ref sig .tc := ⟨.hbm, 401, rfl⟩
abbrev main_v347 : Ref sig .tc := ⟨.hbm, 402, rfl⟩
abbrev main_v348 : Ref sig .tc := ⟨.hbm, 403, rfl⟩
abbrev main_v349 : Ref sig .tc := ⟨.hbm, 404, rfl⟩
abbrev main_v350 : Ref sig .tc := ⟨.hbm, 405, rfl⟩
abbrev main_v351 : Ref sig .tc := ⟨.hbm, 406, rfl⟩
abbrev main_v352 : Ref sig .tc := ⟨.hbm, 407, rfl⟩
abbrev main_v353 : Ref sig .tc := ⟨.hbm, 408, rfl⟩
abbrev main_v354 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_v358 : Ref sig .tc := ⟨.hbm, 413, rfl⟩

abbrev nD : Nat := 1
abbrev τ : Topo := Topo.v7x

variable {F : FTy → Type} [FloatOps F]
-- ==== RetCarry.lean ====
abbrev S8192x512 : Shape := ⟨2, ![8192, 512]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S128 : Shape := ⟨1, ![128]⟩
abbrev S128x1 : Shape := ⟨2, ![128, 1]⟩
abbrev S128x64 : Shape := ⟨2, ![128, 64]⟩
abbrev S64x1x64 : Shape := ⟨3, ![64, 1, 64]⟩
abbrev S1x128x64 : Shape := ⟨3, ![1, 128, 64]⟩
abbrev S64x128x64 : Shape := ⟨3, ![64, 128, 64]⟩
abbrev S8192x64 : Shape := ⟨2, ![8192, 64]⟩
abbrev S8192x128 : Shape := ⟨2, ![8192, 128]⟩
abbrev S4 : Shape := ⟨1, ![4]⟩
abbrev S4x1 : Shape := ⟨2, ![4, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S4x128x1 : Shape := ⟨3, ![4, 128, 1]⟩
abbrev S512x1 : Shape := ⟨2, ![512, 1]⟩
abbrev S1x512 : Shape := ⟨2, ![1, 512]⟩
abbrev S8192 : Shape := ⟨1, ![8192]⟩
abbrev S8192x1 : Shape := ⟨2, ![8192, 1]⟩
abbrev S8192x1x64 : Shape := ⟨3, ![8192, 1, 64]⟩
abbrev S8192x4x128 : Shape := ⟨3, ![8192, 4, 128]⟩
abbrev S8192x4x64 : Shape := ⟨3, ![8192, 4, 64]⟩
abbrev S64x128x512 : Shape := ⟨3, ![64, 128, 512]⟩
abbrev S1024x512 : Shape := ⟨2, ![1024, 512]⟩
abbrev S8x128x512 : Shape := ⟨3, ![8, 128, 512]⟩
abbrev S1x128x512 : Shape := ⟨3, ![1, 128, 512]⟩

abbrev nBuf : Space → Nat
  | .hbm => 211
  | .vmem => 18
  | .smem => 0
  | _ => 0

abbrev hbmTy0_0 (i : Nat) : BufTy := match i % 128 with
  | 0 => ⟨S8192x512, .f32⟩
  | 1 => ⟨S8192x512, .f32⟩
  | 2 => ⟨S64, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S64, .f32⟩
  | 11 => ⟨S_, .f32⟩
  | 12 => ⟨S64, .f32⟩
  | 13 => ⟨S64, .f32⟩
  | 14 => ⟨S64x1, .f32⟩
  | 15 => ⟨S1x64, .f32⟩
  | 16 => ⟨S64x64, .f32⟩
  | 17 => ⟨S64x64, .f32⟩
  | 18 => ⟨S64x64, .f32⟩
  | 19 => ⟨S128, .f32⟩
  | 20 => ⟨S128x1, .f32⟩
  | 21 => ⟨S1x64, .f32⟩
  | 22 => ⟨S128x64, .f32⟩
  | 23 => ⟨S128x64, .f32⟩
  | 24 => ⟨S128x64, .f32⟩
  | 25 => ⟨S64x64, .f32⟩
  | 26 => ⟨S64x1x64, .f32⟩
  | 27 => ⟨S64x64, .f32⟩
  | 28 => ⟨S64x1x64, .f32⟩
  | 29 => ⟨S128x64, .f32⟩
  | 30 => ⟨S1x128x64, .f32⟩
  | 31 => ⟨S128x64, .f32⟩
  | 32 => ⟨S1x128x64, .f32⟩
  | 33 => ⟨S64x128x64, .f32⟩
  | 34 => ⟨S64x128x64, .f32⟩
  | 35 => ⟨S64x128x64, .f32⟩
  | 36 => ⟨S64x128x64, .f32⟩
  | 37 => ⟨S64x128x64, .f32⟩
  | 38 => ⟨S64x128x64, .f32⟩
  | 39 => ⟨S64x128x64, .f32⟩
  | 40 => ⟨S8192x64, .f32⟩
  | 41 => ⟨S64x128x64, .f32⟩
  | 42 => ⟨S64x128x64, .f32⟩
  | 43 => ⟨S64x128x64, .f32⟩
  | 44 => ⟨S64x128x64, .f32⟩
  | 45 => ⟨S64x128x64, .f32⟩
  | 46 => ⟨S64x128x64, .f32⟩
  | 47 => ⟨S64x128x64, .f32⟩
  | 48 => ⟨S8192x64, .f32⟩
  | 49 => ⟨S8192x128, .f32⟩
  | 50 => ⟨S8192x64, .f32⟩
  | 51 => ⟨S8192x128, .f32⟩
  | 52 => ⟨S4, .f32⟩
  | 53 => ⟨S_, .f32⟩
  | 54 => ⟨S4, .f32⟩
  | 55 => ⟨S4, .f32⟩
  | 56 => ⟨S_, .f32⟩
  | 57 => ⟨S4, .f32⟩
  | 58 => ⟨S4, .f32⟩
  | 59 => ⟨S4, .f32⟩
  | 60 => ⟨S_, .f32⟩
  | 61 => ⟨S4, .f32⟩
  | 62 => ⟨S4, .f32⟩
  | 63 => ⟨S4, .f32⟩
  | 64 => ⟨S4x1, .f32⟩
  | 65 => ⟨S4, .f32⟩
  | 66 => ⟨S4, .f32⟩
  | 67 => ⟨S4x1, .f32⟩
  | 68 => ⟨S128, .f32⟩
  | 69 => ⟨S128x1, .f32⟩
  | 70 => ⟨S1x128, .f32⟩
  | 71 => ⟨S128x128, .f32⟩
  | 72 => ⟨S128x128, .f32⟩
  | 73 => ⟨S128x128, .f32⟩
  | 74 => ⟨S_, .f32⟩
  | 75 => ⟨S128x128, .f32⟩
  | 76 => ⟨S128x128, .i1⟩
  | 77 => ⟨S4x1x1, .f32⟩
  | 78 => ⟨S_, .f32⟩
  | 79 => ⟨S128x128, .f32⟩
  | 80 => ⟨S128x128, .i1⟩
  | 81 => ⟨S_, .f32⟩
  | 82 => ⟨S_, .f32⟩
  | 83 => ⟨S128x128, .f32⟩
  | 84 => ⟨S128x128, .f32⟩
  | 85 => ⟨S1x128x128, .f32⟩
  | 86 => ⟨S4x128x128, .f32⟩
  | 87 => ⟨S4x128x128, .f32⟩
  | 88 => ⟨S4x128x128, .f32⟩
  | 89 => ⟨S4x128x128, .f32⟩
  | 90 => ⟨S_, .f32⟩
  | 91 => ⟨S_, .f32⟩
  | 92 => ⟨S4x128x128, .i1⟩
  | 93 => ⟨S4x128x128, .f32⟩
  | 94 => ⟨S4x128x128, .f32⟩
  | 95 => ⟨S_, .f32⟩
  | 96 => ⟨S128x128, .f32⟩
  | 97 => ⟨S128x128, .i1⟩
  | 98 => ⟨S4x1x1, .f32⟩
  | 99 => ⟨S_, .f32⟩
  | 100 => ⟨S128x128, .f32⟩
  | 101 => ⟨S128x128, .i1⟩
  | 102 => ⟨S128x128, .f32⟩
  | 103 => ⟨S_, .f32⟩
  | 104 => ⟨S_, .f32⟩
  | 105 => ⟨S128x128, .f32⟩
  | 106 => ⟨S128x128, .f32⟩
  | 107 => ⟨S1x128x128, .f32⟩
  | 108 => ⟨S4x128x128, .f32⟩
  | 109 => ⟨S4x128x128, .f32⟩
  | 110 => ⟨S4x128x128, .f32⟩
  | 111 => ⟨S4x128x128, .f32⟩
  | 112 => ⟨S_, .f32⟩
  | 113 => ⟨S_, .f32⟩
  | 114 => ⟨S4x128x128, .i1⟩
  | 115 => ⟨S4x128x128, .f32⟩
  | 116 => ⟨S4x128x128, .f32⟩
  | 117 => ⟨S4x128x128, .f32⟩
  | 118 => ⟨S4x128x128, .f32⟩
  | 119 => ⟨S_, .f32⟩
  | 120 => ⟨S128, .f32⟩
  | 121 => ⟨S128, .f32⟩
  | 122 => ⟨S1x128, .f32⟩
  | 123 => ⟨S4x128, .f32⟩
  | 124 => ⟨S4x128, .f32⟩
  | 125 => ⟨S4x128, .f32⟩
  | 126 => ⟨S4x128, .f32⟩
  | 127 => ⟨S128x4, .f32⟩
  | _ => ⟨S8192x512, .f32⟩

abbrev hbmTy0_1 (i : Nat) : BufTy := match i % 128 with
  | 0 => ⟨S128x4x128, .f32⟩
  | 1 => ⟨S128x512, .f32⟩
  | 2 => ⟨S_, .f32⟩
  | 3 => ⟨S128, .f32⟩
  | 4 => ⟨S128, .f32⟩
  | 5 => ⟨S1x128, .f32⟩
  | 6 => ⟨S4x128, .f32⟩
  | 7 => ⟨S4x128, .f32⟩
  | 8 => ⟨S4x128, .f32⟩
  | 9 => ⟨S4x128, .f32⟩
  | 10 => ⟨S128x4, .f32⟩
  | 11 => ⟨S128x4x128, .f32⟩
  | 12 => ⟨S128x512, .f32⟩
  | 13 => ⟨S_, .f32⟩
  | 14 => ⟨S128, .f32⟩
  | 15 => ⟨S128, .f32⟩
  | 16 => ⟨S1x128, .f32⟩
  | 17 => ⟨S4x128, .f32⟩
  | 18 => ⟨S4x128, .f32⟩
  | 19 => ⟨S4x128, .f32⟩
  | 20 => ⟨S4x128, .f32⟩
  | 21 => ⟨S128x4, .f32⟩
  | 22 => ⟨S128x4x128, .f32⟩
  | 23 => ⟨S128x512, .f32⟩
  | 24 => ⟨S1x128, .f32⟩
  | 25 => ⟨S4x128, .f32⟩
  | 26 => ⟨S4x128, .f32⟩
  | 27 => ⟨S4x128, .f32⟩
  | 28 => ⟨S4x128, .f32⟩
  | 29 => ⟨S128x4, .f32⟩
  | 30 => ⟨S128x4x128, .f32⟩
  | 31 => ⟨S128x512, .f32⟩
  | 32 => ⟨S_, .f32⟩
  | 33 => ⟨S4x1, .f32⟩
  | 34 => ⟨S4x1, .f32⟩
  | 35 => ⟨S4x1, .f32⟩
  | 36 => ⟨S4x128x1, .f32⟩
  | 37 => ⟨S512x1, .f32⟩
  | 38 => ⟨S1x512, .f32⟩
  | 39 => ⟨S_, .f32⟩
  | 40 => ⟨S4x1, .f32⟩
  | 41 => ⟨S4x1, .f32⟩
  | 42 => ⟨S4x1, .f32⟩
  | 43 => ⟨S4x128x1, .f32⟩
  | 44 => ⟨S512x1, .f32⟩
  | 45 => ⟨S1x512, .f32⟩
  | 46 => ⟨S64, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S8192, .f32⟩
  | 55 => ⟨S8192x1, .f32⟩
  | 56 => ⟨S1x64, .f32⟩
  | 57 => ⟨S8192x64, .f32⟩
  | 58 => ⟨S8192x64, .f32⟩
  | 59 => ⟨S8192x64, .f32⟩
  | 60 => ⟨S8192x64, .f32⟩
  | 61 => ⟨S8192x1x64, .f32⟩
  | 62 => ⟨S8192x64, .f32⟩
  | 63 => ⟨S8192x1x64, .f32⟩
  | 64 => ⟨S8192x4x128, .f32⟩
  | 65 => ⟨S8192x4x64, .f32⟩
  | 66 => ⟨S8192x4x64, .f32⟩
  | 67 => ⟨S8192x4x64, .f32⟩
  | 68 => ⟨S8192x4x64, .f32⟩
  | 69 => ⟨S8192x4x64, .f32⟩
  | 70 => ⟨S8192x4x64, .f32⟩
  | 71 => ⟨S8192x4x64, .f32⟩
  | 72 => ⟨S8192x4x64, .f32⟩
  | 73 => ⟨S8192x4x64, .f32⟩
  | 74 => ⟨S8192x4x64, .f32⟩
  | 75 => ⟨S8192x4x64, .f32⟩
  | 76 => ⟨S8192x4x64, .f32⟩
  | 77 => ⟨S8192x4x128, .f32⟩
  | 78 => ⟨S8192x512, .f32⟩
  | 79 => ⟨S8192x512, .bf16⟩
  | 80 => ⟨S8192x512, .bf16⟩
  | 81 => ⟨S64x128x512, .bf16⟩
  | 82 => ⟨S64x128x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S1x512, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S8x128x512, .bf16⟩
  | .local _ .vmem, ⟨13, _⟩ => ⟨S8x128x512, .bf16⟩
  | .local _ .vmem, ⟨14, _⟩ => ⟨S8x128x512, .bf16⟩
  | .local _ .vmem, ⟨15, _⟩ => ⟨S8x128x512, .bf16⟩
  | .local _ .vmem, ⟨16, _⟩ => ⟨S128x512, .f32⟩
  | .local _ .vmem, ⟨17, _⟩ => ⟨S128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_cst_2 : Ref sig .tc := ⟨.hbm, 53, rfl⟩
abbrev main_v48 : Ref sig .tc := ⟨.hbm, 54, rfl⟩
abbrev main_v49 : Ref sig .tc := ⟨.hbm, 55, rfl⟩
abbrev main_cst_3 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_4 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_5 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_cst_6 : Ref sig .tc := ⟨.hbm, 78, rfl⟩
abbrev main_v69 : Ref sig .tc := ⟨.hbm, 79, rfl⟩
abbrev main_v70 : Ref sig .tc := ⟨.hbm, 80, rfl⟩
abbrev main_cst_7 : Ref sig .tc := ⟨.hbm, 81, rfl⟩
abbrev main_call0_v0 : Ref sig .tc := ⟨.hbm, 82, rfl⟩
abbrev main_call0_v1 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_8 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v77 : Ref sig .tc := ⟨.hbm, 94, rfl⟩
abbrev main_cst_9 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_10 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_11 : Ref sig .tc := ⟨.hbm, 103, rfl⟩
abbrev main_call2_v0 : Ref sig .tc := ⟨.hbm, 104, rfl⟩
abbrev main_call2_v1 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_12 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_13 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_14 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_15 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_16 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_17 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_18 : Ref sig .tc := ⟨.hbm, 176, rfl⟩
abbrev main_v145 : Ref sig .tc := ⟨.hbm, 177, rfl⟩
abbrev main_v146 : Ref sig .tc := ⟨.hbm, 178, rfl⟩
abbrev main_cst_19 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176_0 : Ref sig .tc := ⟨.hbm, 209, rfl⟩
abbrev main_v176_1 : Ref sig .tc := ⟨.hbm, 210, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RetCarryRefIdeal.lean ====
abbrev S8192x512 : Shape := ⟨2, ![8192, 512]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S4 : Shape := ⟨1, ![4]⟩
abbrev S8192x4x128 : Shape := ⟨3, ![8192, 4, 128]⟩
abbrev S8192x4x64 : Shape := ⟨3, ![8192, 4, 64]⟩
abbrev S128 : Shape := ⟨1, ![128]⟩
abbrev S64x4x128x128 : Shape := ⟨4, ![64, 4, 128, 128]⟩
abbrev S64x128x4x128 : Shape := ⟨4, ![64, 128, 4, 128]⟩
abbrev S4x64x128x128 : Shape := ⟨4, ![4, 64, 128, 128]⟩
abbrev S4x1 : Shape := ⟨2, ![4, 1]⟩
abbrev S1x128 : Shape := ⟨2, ![1, 128]⟩
abbrev S4x128 : Shape := ⟨2, ![4, 128]⟩
abbrev S4x1x128x1 : Shape := ⟨4, ![4, 1, 128, 1]⟩
abbrev S4x1x1 : Shape := ⟨3, ![4, 1, 1]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S4x128x128x64 : Shape := ⟨4, ![4, 128, 128, 64]⟩
abbrev S64x128x512 : Shape := ⟨3, ![64, 128, 512]⟩

abbrev nBuf : Space → Nat
  | .hbm => 184
  | .vmem => 0
  | .smem => 0
  | _ => 0

abbrev hbmTy0_0 (i : Nat) : BufTy := match i % 128 with
  | 0 => ⟨S8192x512, .f32⟩
  | 1 => ⟨S8192x512, .f32⟩
  | 2 => ⟨S64, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S8192, .f32⟩
  | 11 => ⟨S8192x1, .f32⟩
  | 12 => ⟨S1x64, .f32⟩
  | 13 => ⟨S8192x64, .f32⟩
  | 14 => ⟨S8192x64, .f32⟩
  | 15 => ⟨S8192x64, .f32⟩
  | 16 => ⟨S8192x64, .f32⟩
  | 17 => ⟨S8192x1x64, .f32⟩
  | 18 => ⟨S8192x64, .f32⟩
  | 19 => ⟨S8192x1x64, .f32⟩
  | 20 => ⟨S4, .f32⟩
  | 21 => ⟨S_, .f32⟩
  | 22 => ⟨S4, .f32⟩
  | 23 => ⟨S4, .f32⟩
  | 24 => ⟨S_, .f32⟩
  | 25 => ⟨S4, .f32⟩
  | 26 => ⟨S4, .f32⟩
  | 27 => ⟨S4, .f32⟩
  | 28 => ⟨S_, .f32⟩
  | 29 => ⟨S4, .f32⟩
  | 30 => ⟨S4, .f32⟩
  | 31 => ⟨S4, .f32⟩
  | 32 => ⟨S8192x4x128, .f32⟩
  | 33 => ⟨S8192x4x64, .f32⟩
  | 34 => ⟨S8192x4x64, .f32⟩
  | 35 => ⟨S8192x4x64, .f32⟩
  | 36 => ⟨S8192x4x64, .f32⟩
  | 37 => ⟨S8192x4x64, .f32⟩
  | 38 => ⟨S8192x4x64, .f32⟩
  | 39 => ⟨S8192x4x64, .f32⟩
  | 40 => ⟨S8192x4x64, .f32⟩
  | 41 => ⟨S8192x4x64, .f32⟩
  | 42 => ⟨S8192x4x64, .f32⟩
  | 43 => ⟨S8192x4x64, .f32⟩
  | 44 => ⟨S8192x4x64, .f32⟩
  | 45 => ⟨S8192x4x128, .f32⟩
  | 46 => ⟨S128, .f32⟩
  | 47 => ⟨S_, .f32⟩
  | 48 => ⟨S64x4x128x128, .f32⟩
  | 49 => ⟨S64x128x4x128, .f32⟩
  | 50 => ⟨S4x64x128x128, .f32⟩
  | 51 => ⟨S4, .f32⟩
  | 52 => ⟨S4x1, .f32⟩
  | 53 => ⟨S_, .f32⟩
  | 54 => ⟨S128, .f32⟩
  | 55 => ⟨S128, .f32⟩
  | 56 => ⟨S1x128, .f32⟩
  | 57 => ⟨S4x128, .f32⟩
  | 58 => ⟨S4x128, .f32⟩
  | 59 => ⟨S4x128, .f32⟩
  | 60 => ⟨S4x128, .f32⟩
  | 61 => ⟨S4x1x128x1, .f32⟩
  | 62 => ⟨S4x64x128x128, .f32⟩
  | 63 => ⟨S4x64x128x128, .f32⟩
  | 64 => ⟨S4, .f32⟩
  | 65 => ⟨S4x1x1, .f32⟩
  | 66 => ⟨S64, .f32⟩
  | 67 => ⟨S64x1, .f32⟩
  | 68 => ⟨S_, .f32⟩
  | 69 => ⟨S64x1, .f32⟩
  | 70 => ⟨S64x1, .f32⟩
  | 71 => ⟨S1x64, .f32⟩
  | 72 => ⟨S64x64, .f32⟩
  | 73 => ⟨S64x64, .f32⟩
  | 74 => ⟨S64x64, .f32⟩
  | 75 => ⟨S_, .f32⟩
  | 76 => ⟨S64x64, .f32⟩
  | 77 => ⟨S64x64, .i1⟩
  | 78 => ⟨S_, .f32⟩
  | 79 => ⟨S64x64, .f32⟩
  | 80 => ⟨S64x64, .i1⟩
  | 81 => ⟨S_, .f32⟩
  | 82 => ⟨S_, .f32⟩
  | 83 => ⟨S64x64, .f32⟩
  | 84 => ⟨S64x64, .f32⟩
  | 85 => ⟨S_, .f32⟩
  | 86 => ⟨S64x64, .f32⟩
  | 87 => ⟨S64x64, .f32⟩
  | 88 => ⟨S1x64x64, .f32⟩
  | 89 => ⟨S4x64x64, .f32⟩
  | 90 => ⟨S4x64x64, .f32⟩
  | 91 => ⟨S4x64x64, .f32⟩
  | 92 => ⟨S4x64x64, .f32⟩
  | 93 => ⟨S_, .f32⟩
  | 94 => ⟨S_, .f32⟩
  | 95 => ⟨S4x64x64, .i1⟩
  | 96 => ⟨S4x64x64, .f32⟩
  | 97 => ⟨S4x64x64, .f32⟩
  | 98 => ⟨S4x128x128x64, .f32⟩
  | 99 => ⟨S64x4x128x128, .f32⟩
  | 100 => ⟨S4x64x128x128, .f32⟩
  | 101 => ⟨S64x128x4x128, .f32⟩
  | 102 => ⟨S8192x4x128, .f32⟩
  | 103 => ⟨S8192x4x128, .f32⟩
  | 104 => ⟨S64x128x4x128, .f32⟩
  | 105 => ⟨S4x64x128x128, .f32⟩
  | 106 => ⟨S4, .f32⟩
  | 107 => ⟨S4x1, .f32⟩
  | 108 => ⟨S_, .f32⟩
  | 109 => ⟨S128, .f32⟩
  | 110 => ⟨S128, .f32⟩
  | 111 => ⟨S1x128, .f32⟩
  | 112 => ⟨S4x128, .f32⟩
  | 113 => ⟨S4x128, .f32⟩
  | 114 => ⟨S4x128, .f32⟩
  | 115 => ⟨S4x128, .f32⟩
  | 116 => ⟨S4x1x128x1, .f32⟩
  | 117 => ⟨S4x64x128x128, .f32⟩
  | 118 => ⟨S4x64x128x128, .f32⟩
  | 119 => ⟨S4, .f32⟩
  | 120 => ⟨S4x1x1, .f32⟩
  | 121 => ⟨S64, .f32⟩
  | 122 => ⟨S64x1, .f32⟩
  | 123 => ⟨S_, .f32⟩
  | 124 => ⟨S64x1, .f32⟩
  | 125 => ⟨S64x1, .f32⟩
  | 126 => ⟨S1x64, .f32⟩
  | 127 => ⟨S64x64, .f32⟩
  | _ => ⟨S8192x512, .f32⟩

abbrev hbmTy0_1 (i : Nat) : BufTy := match i % 128 with
  | 0 => ⟨S64x64, .f32⟩
  | 1 => ⟨S64x64, .f32⟩
  | 2 => ⟨S_, .f32⟩
  | 3 => ⟨S64x64, .f32⟩
  | 4 => ⟨S64x64, .i1⟩
  | 5 => ⟨S_, .f32⟩
  | 6 => ⟨S64x64, .f32⟩
  | 7 => ⟨S64x64, .i1⟩
  | 8 => ⟨S_, .f32⟩
  | 9 => ⟨S_, .f32⟩
  | 10 => ⟨S64x64, .f32⟩
  | 11 => ⟨S64x64, .f32⟩
  | 12 => ⟨S_, .f32⟩
  | 13 => ⟨S64x64, .f32⟩
  | 14 => ⟨S64x64, .f32⟩
  | 15 => ⟨S1x64x64, .f32⟩
  | 16 => ⟨S4x64x64, .f32⟩
  | 17 => ⟨S4x64x64, .f32⟩
  | 18 => ⟨S4x64x64, .f32⟩
  | 19 => ⟨S4x64x64, .f32⟩
  | 20 => ⟨S_, .f32⟩
  | 21 => ⟨S_, .f32⟩
  | 22 => ⟨S4x64x64, .i1⟩
  | 23 => ⟨S4x64x64, .f32⟩
  | 24 => ⟨S4x64x64, .f32⟩
  | 25 => ⟨S4x128x128x64, .f32⟩
  | 26 => ⟨S64x4x128x128, .f32⟩
  | 27 => ⟨S4x64x128x128, .f32⟩
  | 28 => ⟨S64x128x4x128, .f32⟩
  | 29 => ⟨S8192x4x128, .f32⟩
  | 30 => ⟨S8192x4x128, .f32⟩
  | 31 => ⟨S8192x4x128, .f32⟩
  | 32 => ⟨S8192x512, .f32⟩
  | 33 => ⟨S8192x4x128, .f32⟩
  | 34 => ⟨S8192x4x128, .f32⟩
  | 35 => ⟨S64x128x4x128, .f32⟩
  | 36 => ⟨S4x64x128x128, .f32⟩
  | 37 => ⟨S4x64x128x128, .f32⟩
  | 38 => ⟨S64x4x128x128, .f32⟩
  | 39 => ⟨S4x128x128x64, .f32⟩
  | 40 => ⟨S4x128x128x64, .f32⟩
  | 41 => ⟨S64x4x128x128, .f32⟩
  | 42 => ⟨S64x128x4x128, .f32⟩
  | 43 => ⟨S4x64x128x128, .f32⟩
  | 44 => ⟨S4x64x128x128, .f32⟩
  | 45 => ⟨S64x4x128x128, .f32⟩
  | 46 => ⟨S4x128x128x64, .f32⟩
  | 47 => ⟨S4x128x128x64, .f32⟩
  | 48 => ⟨S64x4x128x128, .f32⟩
  | 49 => ⟨S64x4x128x128, .f32⟩
  | 50 => ⟨S64x128x4x128, .f32⟩
  | 51 => ⟨S64x128x512, .f32⟩
  | 52 => ⟨S64x128x512, .bf16⟩
  | 53 => ⟨S64x128x4x128, .f32⟩
  | 54 => ⟨S64x128x512, .f32⟩
  | 55 => ⟨S64x128x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_6 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_7 : Ref sig .tc := ⟨.hbm, 75, rfl⟩
abbrev main_v65 : Ref sig .tc := ⟨.hbm, 76, rfl⟩
abbrev main_v66 : Ref sig .tc := ⟨.hbm, 77, rfl⟩
abbrev main_cst_8 : Ref sig .tc := ⟨.hbm, 78, rfl⟩
abbrev main_v67 : Ref sig .tc := ⟨.hbm, 79, rfl⟩
abbrev main_v68 : Ref sig .tc := ⟨.hbm, 80, rfl⟩
abbrev main_cst_9 : Ref sig .tc := ⟨.hbm, 81, rfl⟩
abbrev main_call0_v0 : Ref sig .tc := ⟨.hbm, 82, rfl⟩
abbrev main_call0_v1 : Ref sig .tc := ⟨.hbm, 83, rfl⟩
abbrev main_v69 : Ref sig .tc := ⟨.hbm, 84, rfl⟩
abbrev main_cst_10 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_11 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_12 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_13 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_14 : Ref sig .tc := ⟨.hbm, 130, rfl⟩
abbrev main_v108 : Ref sig .tc := ⟨.hbm, 131, rfl⟩
abbrev main_v109 : Ref sig .tc := ⟨.hbm, 132, rfl⟩
abbrev main_cst_15 : Ref sig .tc := ⟨.hbm, 133, rfl⟩
abbrev main_v110 : Ref sig .tc := ⟨.hbm, 134, rfl⟩
abbrev main_v111 : Ref sig .tc := ⟨.hbm, 135, rfl⟩
abbrev main_cst_16 : Ref sig .tc := ⟨.hbm, 136, rfl⟩
abbrev main_call3_v0 : Ref sig .tc := ⟨.hbm, 137, rfl⟩
abbrev main_call3_v1 : Ref sig .tc := ⟨.hbm, 138, rfl⟩
abbrev main_v112 : Ref sig .tc := ⟨.hbm, 139, rfl⟩
abbrev main_cst_17 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_18 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩

abbrev nD : Nat := 1
abbrev τ : Topo := Topo.v7x

variable {F : FTy → Type} [FloatOps F]
-- ==== Swiglu.lean ====
abbrev S8192x5632 : Shape := ⟨2, ![8192, 5632]⟩
abbrev S2816x1024 : Shape := ⟨2, ![2816, 1024]⟩
abbrev S8192x1024 : Shape := ⟨2, ![8192, 1024]⟩
abbrev S512x1024 : Shape := ⟨2, ![512, 1024]⟩
abbrev S512x5632 : Shape := ⟨2, ![512, 5632]⟩
abbrev S512x2816 : Shape := ⟨2, ![512, 2816]⟩

abbrev nBuf : Space → Nat
  | .hbm => 6
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x5632, .bf16⟩
  | .hbm, ⟨4, _⟩ => ⟨S2816x1024, .bf16⟩
  | .hbm, ⟨5, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S512x5632, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SwigluRefIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩

abbrev nBuf : Space → Nat
  | .hbm => 31
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S1024x2816, .f32⟩
  | .hbm, ⟨21, _⟩ => ⟨S2816x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x5632, .f32⟩
  | .hbm, ⟨30, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== SwigluW.lean ====
abbrev S8192x5632 : Shape := ⟨2, ![8192, 5632]⟩
abbrev S2816x1024 : Shape := ⟨2, ![2816, 1024]⟩
abbrev S8192x1024 : Shape := ⟨2, ![8192, 1024]⟩
abbrev S512x5632 : Shape := ⟨2, ![512, 5632]⟩
abbrev S512x1024 : Shape := ⟨2, ![512, 1024]⟩
abbrev S512x2816 : Shape := ⟨2, ![512, 2816]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x5632, .bf16⟩
  | .hbm, ⟨4, _⟩ => ⟨S2816x1024, .bf16⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S2816x1024, .bf16⟩
  | .local _ .vmem, ⟨5, _⟩ => ⟨S2816x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v27 : BitVec 1 := Scalar.cmpi .eq arg0 c15_i32
  let v28 : BitVec 32 := Scalar.extui v27
  let c0_i32_11 : BitVec 32 := 0#32
  let v29 : BitVec 1 := Scalar.cmpi .ne v28 c0_i32_11
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== SwigluWRefIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩

abbrev nBuf : Space → Nat
  | .hbm => 31
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S1024x2816, .f32⟩
  | .hbm, ⟨21, _⟩ => ⟨S2816x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x5632, .f32⟩
  | .hbm, ⟨30, _⟩ => ⟨S2816x1024, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== FfnIn.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S1024x4x1408 : Shape := ⟨3, ![1024, 4, 1408]⟩
abbrev S4x1024x1408 : Shape := ⟨3, ![4, 1024, 1408]⟩
abbrev S512x5632 : Shape := ⟨2, ![512, 5632]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S8192x5632, .bf16⟩
  | .hbm, ⟨9, _⟩ => ⟨S8192x1024, .f32⟩
  | .hbm, ⟨10, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v59 : BitVec 1 := Scalar.cmpi .eq arg0 c0_i32
  let v60 : BitVec 32 := Scalar.extui v59
  let c0_i32_31 : BitVec 32 := 0#32
  let v61 : BitVec 1 := Scalar.cmpi .ne v60 c0_i32_31
  v61

def k0_cond2 (i : grid0.Coords) : BitVec 1 :=
  let arg0 : BitVec 32 := BitVec.ofNat 32 (i 0).val
  let c0_i32 : BitVec 32 := 0#32
  let v59 : BitVec 1 := Scalar.cmpi .eq arg0 c0_i32
  let v_true : BitVec 1 := 1#1
  let v62 : BitVec 1 := Scalar.xori v59 v_true
  let v63 : BitVec 32 := Scalar.extui v62
  let c0_i32_32 : BitVec 32 := 0#32
  let v64 : BitVec 1 := Scalar.cmpi .ne v63 c0_i32_32
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnInRefIdeal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== InProj.lean ====
abbrev S8192x1024 : Shape := ⟨2, ![8192, 1024]⟩
abbrev S1x1024 : Shape := ⟨2, ![1, 1024]⟩
abbrev S1024x3072 : Shape := ⟨2, ![1024, 3072]⟩
abbrev S8192x512 : Shape := ⟨2, ![8192, 512]⟩
abbrev S8192x1536 : Shape := ⟨2, ![8192, 1536]⟩
abbrev S1024x4x768 : Shape := ⟨3, ![1024, 4, 768]⟩
abbrev S4x1024x768 : Shape := ⟨3, ![4, 1024, 768]⟩
abbrev S512x512 : Shape := ⟨2, ![512, 512]⟩
abbrev S512x1536 : Shape := ⟨2, ![512, 1536]⟩
abbrev S512x1024 : Shape := ⟨2, ![512, 1024]⟩
abbrev S1x1024x512 : Shape := ⟨3, ![1, 1024, 512]⟩
abbrev S1024x512 : Shape := ⟨2, ![1024, 512]⟩
abbrev S512x256 : Shape := ⟨2, ![512, 256]⟩
abbrev S1x1024x256 : Shape := ⟨3, ![1, 1024, 256]⟩
abbrev S1024x256 : Shape := ⟨2, ![1024, 256]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 17
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x512, .f32⟩
  | .hbm, ⟨4, _⟩ => ⟨S8192x1536, .f32⟩
  | .hbm, ⟨5, _⟩ => ⟨S8192x512, .f32⟩
  | .hbm, ⟨6, _⟩ => ⟨S8192x512, .f32⟩
  | .hbm, ⟨7, _⟩ => ⟨S8192x1024, .f32⟩
  | .hbm, ⟨8, _⟩ => ⟨S1024x4x768, .f32⟩
  | .hbm, ⟨9, _⟩ => ⟨S4x1024x768, .f32⟩
  | .hbm, ⟨10, _⟩ => ⟨S4x1024x768, .bf16⟩
  | .hbm, ⟨11, _⟩ => ⟨S8192x512, .bf16⟩
  | .hbm, ⟨12, _⟩ => ⟨S8192x1536, .bf16⟩
  | .hbm, ⟨13, _⟩ => ⟨S8192x512, .bf16⟩
  | .hbm, ⟨14, _⟩ => ⟨S8192x512, .bf16⟩
  | .hbm, ⟨15, _⟩ => ⟨S8192x1024, .f32⟩
  | .hbm, ⟨16, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4x1024x768, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_49 : BitVec 32 := 0#32
  let v79 : BitVec 1 := Scalar.cmpi .ne v78 c0_i32_49
  v79

def k0_cond2 (i : grid0.Coords) : BitVec 1 :=
  let arg0 : BitVec 32 := BitVec.ofNat 32 (i 0).val
  let c0_i32 : BitVec 32 := 0#32
  let v77 : BitVec 1 := Scalar.cmpi .eq arg0 c0_i32
  let v_true : BitVec 1 := 1#1
  let v80 : BitVec 1 := Scalar.xori v77 v_true
  let v81 : BitVec 32 := Scalar.extui v80
  let c0_i32_50 : BitVec 32 := 0#32
  let v82 : BitVec 1 := Scalar.cmpi .ne v81 c0_i32_50
  v82

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InProjRefIdeal.lean ====
abbrev S8192x1024 : Shape := ⟨2, ![8192, 1024]⟩
abbrev S1x1024 : Shape := ⟨2, ![1, 1024]⟩
abbrev S1024x3072 : Shape := ⟨2, ![1024, 3072]⟩
abbrev S8192x512 : Shape := ⟨2, ![8192, 512]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x512, .f32⟩
  | .hbm, ⟨4, _⟩ => ⟨S8192x1536, .f32⟩
  | .hbm, ⟨5, _⟩ => ⟨S8192x512, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x3072, .f32⟩
  | .hbm, ⟨28, _⟩ => ⟨S8192x3072, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== OutProj.lean ====
abbrev S8192x256 : Shape := ⟨2, ![8192, 256]⟩
abbrev S8192x512 : Shape := ⟨2, ![8192, 512]⟩
abbrev S8192x3072 : Shape := ⟨2, ![8192, 3072]⟩
abbrev S1024x1024 : Shape := ⟨2, ![1024, 1024]⟩
abbrev S8192x1024 : Shape := ⟨2, ![8192, 1024]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩
abbrev S128x1024 : Shape := ⟨2, ![128, 1024]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x3072, .f32⟩
  | .hbm, ⟨3, _⟩ => ⟨S8192x256, .f32⟩
  | .hbm, ⟨4, _⟩ => ⟨S1024x1024, .f32⟩
  | .hbm, ⟨5, _⟩ => ⟨S8192x1024, .f32⟩
  | .hbm, ⟨6, _⟩ => ⟨S1024x1024, .bf16⟩
  | .hbm, ⟨7, _⟩ => ⟨S8192x256, .f32⟩
  | .hbm, ⟨8, _⟩ => ⟨S8192x512, .bf16⟩
  | .hbm, ⟨9, _⟩ => ⟨S8192x512, .bf16⟩
  | .hbm, ⟨10, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x256, .f32⟩
  | .local _ .vmem, ⟨8, _⟩ => ⟨S512x256, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x256, .f32⟩
  | .local _ .vmem, ⟨14, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S8192x256 : Shape := ⟨2, ![8192, 256]⟩
abbrev S8192x512 : Shape := ⟨2, ![8192, 512]⟩
abbrev S8192x3072 : Shape := ⟨2, ![8192, 3072]⟩
abbrev S1024x1024 : Shape := ⟨2, ![1024, 1024]⟩
abbrev S8192x1024 : Shape := ⟨2, ![8192, 1024]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩

abbrev nBuf : Space → Nat
  | .hbm => 100
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x3072, .f32⟩
  | .hbm, ⟨3, _⟩ => ⟨S8192x256, .f32⟩
  | .hbm, ⟨4, _⟩ => ⟨S1024x1024, .f32⟩
  | .hbm, ⟨5, _⟩ => ⟨S8192x1024, .f32⟩
  | .hbm, ⟨6, _⟩ => ⟨S8192x512, .f32⟩
  | .hbm, ⟨7, _⟩ => ⟨S8192x4x128, .f32⟩
  | .hbm, ⟨8, _⟩ => ⟨S_, .f32⟩
  | .hbm, ⟨9, _⟩ => ⟨S8192x4, .f32⟩
  | .hbm, ⟨10, _⟩ => ⟨S8192x4x1, .f32⟩
  | .hbm, ⟨11, _⟩ => ⟨S_, .f32⟩
  | .hbm, ⟨12, _⟩ => ⟨S8192x4x1, .f32⟩
  | .hbm, ⟨13, _⟩ => ⟨S8192x4x1, .f32⟩
  | .hbm, ⟨14, _⟩ => ⟨S8192x4x128, .f32⟩
  | .hbm, ⟨15, _⟩ => ⟨S8192x4x128, .f32⟩
  | .hbm, ⟨16, _⟩ => ⟨S8192x4x128, .f32⟩
  | .hbm, ⟨17, _⟩ => ⟨S_, .f32⟩
  | .hbm, ⟨18, _⟩ => ⟨S8192x4x128, .f32⟩
  | .hbm, ⟨19, _⟩ => ⟨S8192x4x128, .f32⟩
  | .hbm, ⟨20, _⟩ => ⟨S_, .f32⟩
  | .hbm, ⟨21, _⟩ => ⟨S8192x4, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S8192x4x128, .f32⟩
  | .hbm, ⟨27, _⟩ => ⟨S8192x4x128, .f32⟩
  | .hbm, ⟨28, _⟩ => ⟨S_, .f32⟩
  | .hbm, ⟨29, _⟩ => ⟨S8192x4x1, .f32⟩
  | .hbm, ⟨30, _⟩ => ⟨S8192x4x1, .f32⟩
  | .hbm, ⟨31, _⟩ => ⟨S8192x4x1, .f32⟩
  | .hbm, ⟨32, _⟩ => ⟨S8192x4x1, .f32⟩
  | .hbm, ⟨33, _⟩ => ⟨S_, .f32⟩
  | .hbm, ⟨34, _⟩ => ⟨S8192x4x1, .f32⟩
  | .hbm, ⟨35, _⟩ => ⟨S8192x4x1, .f32⟩
  | .hbm, ⟨36, _⟩ => ⟨S8192x4x128, .f32⟩
  | .hbm, ⟨37, _⟩ => ⟨S8192x4x128, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x256, .f32⟩
  | .hbm, ⟨57, _⟩ => ⟨S8192x512, .f32⟩
  | .hbm, ⟨58, _⟩ => ⟨S8192x256, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x4x128, .f32⟩
  | .hbm, ⟨66, _⟩ => ⟨S8192x4x128, .f32⟩
  | .hbm, ⟨67, _⟩ => ⟨S_, .f32⟩
  | .hbm, ⟨68, _⟩ => ⟨S8192x4, .f32⟩
  | .hbm, ⟨69, _⟩ => ⟨S8192x4x1, .f32⟩
  | .hbm, ⟨70, _⟩ => ⟨S8192x4x128, .f32⟩
  | .hbm, ⟨71, _⟩ => ⟨S8192x4x128, .f32⟩
  | .hbm, ⟨72, _⟩ => ⟨S8192x4x1, .f32⟩
  | .hbm, ⟨73, _⟩ => ⟨S8192x4x128, .f32⟩
  | .hbm, ⟨74, _⟩ => ⟨S_, .f32⟩
  | .hbm, ⟨75, _⟩ => ⟨S8192x4, .f32⟩
  | .hbm, ⟨76, _⟩ => ⟨S8192x4x1, .f32⟩
  | .hbm, ⟨77, _⟩ => ⟨S_, .f32⟩
  | .hbm, ⟨78, _⟩ => ⟨S8192x4x1, .f32⟩
  | .hbm, ⟨79, _⟩ => ⟨S8192x4x1, .f32⟩
  | .hbm, ⟨80, _⟩ => ⟨S_, .f32⟩
  | .hbm, ⟨81, _⟩ => ⟨S8192x4, .f32⟩
  | .hbm, ⟨82, _⟩ => ⟨S8192x4x128, .f32⟩
  | .hbm, ⟨83, _⟩ => ⟨S8192x4x128, .f32⟩
  | .hbm, ⟨84, _⟩ => ⟨S8192x4x128, .f32⟩
  | .hbm, ⟨85, _⟩ => ⟨S_, .f32⟩
  | .hbm, ⟨86, _⟩ => ⟨S8192x4, .f32⟩
  | .hbm, ⟨87, _⟩ => ⟨S8192x4x1, .f32⟩
  | .hbm, ⟨88, _⟩ => ⟨S8192x4x128, .f32⟩
  | .hbm, ⟨89, _⟩ => ⟨S8192x4x1, .f32⟩
  | .hbm, ⟨90, _⟩ => ⟨S_, .f32⟩
  | .hbm, ⟨91, _⟩ => ⟨S8192x4x1, .f32⟩
  | .hbm, ⟨92, _⟩ => ⟨S8192x4x1, .f32⟩
  | .hbm, ⟨93, _⟩ => ⟨S_, .f32⟩
  | .hbm, ⟨94, _⟩ => ⟨S8192x4, .f32⟩
  | .hbm, ⟨95, _⟩ => ⟨S8192x4x128, .f32⟩
  | .hbm, ⟨96, _⟩ => ⟨S8192x4x128, .f32⟩
  | .hbm, ⟨97, _⟩ => ⟨S8192x512, .f32⟩
  | .hbm, ⟨98, _⟩ => ⟨S8192x512, .bf16⟩
  | .hbm, ⟨99, _⟩ => ⟨S8192x512, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v26_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v26_1 : Ref sig .tc := ⟨.hbm, 50, rfl⟩
abbrev main_v26_0 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩

abbrev nD : Nat := 1
abbrev τ : Topo := Topo.v7x

variable {F : FTy → Type} [FloatOps F]
-- ==== RetOut.lean ====
abbrev S8192x512 : Shape := ⟨2, ![8192, 512]⟩
abbrev S8192x3072 : Shape := ⟨2, ![8192, 3072]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S128 : Shape := ⟨1, ![128]⟩
abbrev S128x1 : Shape := ⟨2, ![128, 1]⟩
abbrev S128x64 : Shape := ⟨2, ![128, 64]⟩
abbrev S64x1x64 : Shape := ⟨3, ![64, 1, 64]⟩
abbrev S1x128x64 : Shape := ⟨3, ![1, 128, 64]⟩
abbrev S64x128x64 : Shape := ⟨3, ![64, 128, 64]⟩
abbrev S8192x64 : Shape := ⟨2, ![8192, 64]⟩
abbrev S8192x128 : Shape := ⟨2, ![8192, 128]⟩
abbrev S4 : Shape := ⟨1, ![4]⟩
abbrev S4x1 : Shape := ⟨2, ![4, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S4x128x1 : Shape := ⟨3, ![4, 128, 1]⟩
abbrev S512x1 : Shape := ⟨2, ![512, 1]⟩
abbrev S1x512 : Shape := ⟨2, ![1, 512]⟩
abbrev S8192 : Shape := ⟨1, ![8192]⟩
abbrev S8192x1 : Shape := ⟨2, ![8192, 1]⟩
abbrev S8192x1x64 : Shape := ⟨3, ![8192, 1, 64]⟩
abbrev S8192x4x128 : Shape := ⟨3, ![8192, 4, 128]⟩
abbrev S8192x4x64 : Shape := ⟨3, ![8192, 4, 64]⟩
abbrev S1x8192 : Shape := ⟨2, ![1, 8192]⟩
abbrev S64x8192 : Shape := ⟨2, ![64, 8192]⟩
abbrev S1x64x8192 : Shape := ⟨3, ![1, 64, 8192]⟩
abbrev S4x64x8192 : Shape := ⟨3, ![4, 64, 8192]⟩
abbrev S4x64x8192x1 : Shape := ⟨4, ![4, 64, 8192, 1]⟩
abbrev S4x8192x128 : Shape := ⟨3, ![4, 8192, 128]⟩
abbrev S4x1x8192x128 : Shape := ⟨4, ![4, 1, 8192, 128]⟩
abbrev S4x64x8192x128 : Shape := ⟨4, ![4, 64, 8192, 128]⟩
abbrev S4x128x64x128 : Shape := ⟨4, ![4, 128, 64, 128]⟩
abbrev S64x4x128x128 : Shape := ⟨4, ![64, 4, 128, 128]⟩
abbrev S8192x1536 : Shape := ⟨2, ![8192, 1536]⟩
abbrev S64x128x4x128 : Shape := ⟨4, ![64, 128, 4, 128]⟩
abbrev S64x128x512 : Shape := ⟨3, ![64, 128, 512]⟩
abbrev S512x512 : Shape := ⟨2, ![512, 512]⟩
abbrev S4x128x512 : Shape := ⟨3, ![4, 128, 512]⟩

abbrev nBuf : Space → Nat
  | .hbm => 339
  | .vmem => 19
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x3072, .f32⟩
  | 4 => ⟨S64, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S64, .f32⟩
  | 13 => ⟨S_, .f32⟩
  | 14 => ⟨S64, .f32⟩
  | 15 => ⟨S64, .f32⟩
  | 16 => ⟨S64x1, .f32⟩
  | 17 => ⟨S1x64, .f32⟩
  | 18 => ⟨S64x64, .f32⟩
  | 19 => ⟨S64x64, .f32⟩
  | 20 => ⟨S64x64, .f32⟩
  | 21 => ⟨S128, .f32⟩
  | 22 => ⟨S128x1, .f32⟩
  | 23 => ⟨S1x64, .f32⟩
  | 24 => ⟨S128x64, .f32⟩
  | 25 => ⟨S128x64, .f32⟩
  | 26 => ⟨S128x64, .f32⟩
  | 27 => ⟨S64x64, .f32⟩
  | 28 => ⟨S64x1x64, .f32⟩
  | 29 => ⟨S64x64, .f32⟩
  | 30 => ⟨S64x1x64, .f32⟩
  | 31 => ⟨S128x64, .f32⟩
  | 32 => ⟨S1x128x64, .f32⟩
  | 33 => ⟨S128x64, .f32⟩
  | 34 => ⟨S1x128x64, .f32⟩
  | 35 => ⟨S64x128x64, .f32⟩
  | 36 => ⟨S64x128x64, .f32⟩
  | 37 => ⟨S64x128x64, .f32⟩
  | 38 => ⟨S64x128x64, .f32⟩
  | 39 => ⟨S64x128x64, .f32⟩
  | 40 => ⟨S64x128x64, .f32⟩
  | 41 => ⟨S64x128x64, .f32⟩
  | 42 => ⟨S8192x64, .f32⟩
  | 43 => ⟨S64x128x64, .f32⟩
  | 44 => ⟨S64x128x64, .f32⟩
  | 45 => ⟨S64x128x64, .f32⟩
  | 46 => ⟨S64x128x64, .f32⟩
  | 47 => ⟨S64x128x64, .f32⟩
  | 48 => ⟨S64x128x64, .f32⟩
  | 49 => ⟨S64x128x64, .f32⟩
  | 50 => ⟨S8192x64, .f32⟩
  | 51 => ⟨S8192x128, .f32⟩
  | 52 => ⟨S8192x64, .f32⟩
  | 53 => ⟨S8192x128, .f32⟩
  | 54 => ⟨S4, .f32⟩
  | 55 => ⟨S_, .f32⟩
  | 56 => ⟨S4, .f32⟩
  | 57 => ⟨S4, .f32⟩
  | 58 => ⟨S_, .f32⟩
  | 59 => ⟨S4, .f32⟩
  | 60 => ⟨S4, .f32⟩
  | 61 => ⟨S4, .f32⟩
  | 62 => ⟨S_, .f32⟩
  | 63 => ⟨S4, .f32⟩
  | 64 => ⟨S4, .f32⟩
  | 65 => ⟨S4, .f32⟩
  | 66 => ⟨S4x1, .f32⟩
  | 67 => ⟨S4, .f32⟩
  | 68 => ⟨S4, .f32⟩
  | 69 => ⟨S4x1, .f32⟩
  | 70 => ⟨S128, .f32⟩
  | 71 => ⟨S128x1, .f32⟩
  | 72 => ⟨S1x128, .f32⟩
  | 73 => ⟨S128x128, .f32⟩
  | 74 => ⟨S128x128, .f32⟩
  | 75 => ⟨S128x128, .f32⟩
  | 76 => ⟨S_, .f32⟩
  | 77 => ⟨S128x128, .f32⟩
  | 78 => ⟨S128x128, .i1⟩
  | 79 => ⟨S4x1x1, .f32⟩
  | 80 => ⟨S_, .f32⟩
  | 81 => ⟨S128x128, .f32⟩
  | 82 => ⟨S128x128, .i1⟩
  | 83 => ⟨S_, .f32⟩
  | 84 => ⟨S_, .f32⟩
  | 85 => ⟨S128x128, .f32⟩
  | 86 => ⟨S128x128, .f32⟩
  | 87 => ⟨S1x128x128, .f32⟩
  | 88 => ⟨S4x128x128, .f32⟩
  | 89 => ⟨S4x128x128, .f32⟩
  | 90 => ⟨S4x128x128, .f32⟩
  | 91 => ⟨S4x128x128, .f32⟩
  | 92 => ⟨S_, .f32⟩
  | 93 => ⟨S_, .f32⟩
  | 94 => ⟨S4x128x128, .i1⟩
  | 95 => ⟨S4x128x128, .f32⟩
  | 96 => ⟨S4x128x128, .f32⟩
  | 97 => ⟨S_, .f32⟩
  | 98 => ⟨S128x128, .f32⟩
  | 99 => ⟨S128x128, .i1⟩
  | 100 => ⟨S4x1x1, .f32⟩
  | 101 => ⟨S_, .f32⟩
  | 102 => ⟨S128x128, .f32⟩
  | 103 => ⟨S128x128, .i1⟩
  | 104 => ⟨S128x128, .f32⟩
  | 105 => ⟨S_, .f32⟩
  | 106 => ⟨S_, .f32⟩
  | 107 => ⟨S128x128, .f32⟩
  | 108 => ⟨S128x128, .f32⟩
  | 109 => ⟨S1x128x128, .f32⟩
  | 110 => ⟨S4x128x128, .f32⟩
  | 111 => ⟨S4x128x128, .f32⟩
  | 112 => ⟨S4x128x128, .f32⟩
  | 113 => ⟨S4x128x128, .f32⟩
  | 114 => ⟨S_, .f32⟩
  | 115 => ⟨S_, .f32⟩
  | 116 => ⟨S4x128x128, .i1⟩
  | 117 => ⟨S4x128x128, .f32⟩
  | 118 => ⟨S4x128x128, .f32⟩
  | 119 => ⟨S4x128x128, .f32⟩
  | 120 => ⟨S4x128x128, .f32⟩
  | 121 => ⟨S_, .f32⟩
  | 122 => ⟨S128, .f32⟩
  | 123 => ⟨S128, .f32⟩
  | 124 => ⟨S1x128, .f32⟩
  | 125 => ⟨S4x128, .f32⟩
  | 126 => ⟨S4x128, .f32⟩
  | 127 => ⟨S4x128, .f32⟩
  | _ => ⟨S8192x512, .f32⟩

abbrev hbmTy0_1 (i : Nat) : BufTy := match i % 128 with
  | 0 => ⟨S4x128, .f32⟩
  | 1 => ⟨S128x4, .f32⟩
  | 2 => ⟨S128x4x128, .f32⟩
  | 3 => ⟨S128x512, .f32⟩
  | 4 => ⟨S_, .f32⟩
  | 5 => ⟨S128, .f32⟩
  | 6 => ⟨S128, .f32⟩
  | 7 => ⟨S1x128, .f32⟩
  | 8 => ⟨S4x128, .f32⟩
  | 9 => ⟨S4x128, .f32⟩
  | 10 => ⟨S4x128, .f32⟩
  | 11 => ⟨S4x128, .f32⟩
  | 12 => ⟨S128x4, .f32⟩
  | 13 => ⟨S128x4x128, .f32⟩
  | 14 => ⟨S128x512, .f32⟩
  | 15 => ⟨S_, .f32⟩
  | 16 => ⟨S128, .f32⟩
  | 17 => ⟨S128, .f32⟩
  | 18 => ⟨S1x128, .f32⟩
  | 19 => ⟨S4x128, .f32⟩
  | 20 => ⟨S4x128, .f32⟩
  | 21 => ⟨S4x128, .f32⟩
  | 22 => ⟨S4x128, .f32⟩
  | 23 => ⟨S128x4, .f32⟩
  | 24 => ⟨S128x4x128, .f32⟩
  | 25 => ⟨S128x512, .f32⟩
  | 26 => ⟨S1x128, .f32⟩
  | 27 => ⟨S4x128, .f32⟩
  | 28 => ⟨S4x128, .f32⟩
  | 29 => ⟨S4x128, .f32⟩
  | 30 => ⟨S4x128, .f32⟩
  | 31 => ⟨S128x4, .f32⟩
  | 32 => ⟨S128x4x128, .f32⟩
  | 33 => ⟨S128x512, .f32⟩
  | 34 => ⟨S_, .f32⟩
  | 35 => ⟨S4x1, .f32⟩
  | 36 => ⟨S4x1, .f32⟩
  | 37 => ⟨S4x1, .f32⟩
  | 38 => ⟨S4x128x1, .f32⟩
  | 39 => ⟨S512x1, .f32⟩
  | 40 => ⟨S1x512, .f32⟩
  | 41 => ⟨S_, .f32⟩
  | 42 => ⟨S4x1, .f32⟩
  | 43 => ⟨S4x1, .f32⟩
  | 44 => ⟨S4x1, .f32⟩
  | 45 => ⟨S4x128x1, .f32⟩
  | 46 => ⟨S512x1, .f32⟩
  | 47 => ⟨S1x512, .f32⟩
  | 48 => ⟨S64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S8192, .f32⟩
  | 57 => ⟨S8192x1, .f32⟩
  | 58 => ⟨S1x64, .f32⟩
  | 59 => ⟨S8192x64, .f32⟩
  | 60 => ⟨S8192x64, .f32⟩
  | 61 => ⟨S8192x64, .f32⟩
  | 62 => ⟨S8192x64, .f32⟩
  | 63 => ⟨S8192x1x64, .f32⟩
  | 64 => ⟨S8192x64, .f32⟩
  | 65 => ⟨S8192x1x64, .f32⟩
  | 66 => ⟨S8192x4x128, .f32⟩
  | 67 => ⟨S8192x4x64, .f32⟩
  | 68 => ⟨S8192x4x64, .f32⟩
  | 69 => ⟨S8192x4x64, .f32⟩
  | 70 => ⟨S8192x4x64, .f32⟩
  | 71 => ⟨S8192x4x64, .f32⟩
  | 72 => ⟨S8192x4x64, .f32⟩
  | 73 => ⟨S8192x4x64, .f32⟩
  | 74 => ⟨S8192x4x64, .f32⟩
  | 75 => ⟨S8192x4x64, .f32⟩
  | 76 => ⟨S8192x4x64, .f32⟩
  | 77 => ⟨S8192x4x64, .f32⟩
  | 78 => ⟨S8192x4x64, .f32⟩
  | 79 => ⟨S8192x4x128, .f32⟩
  | 80 => ⟨S8192x4x128, .f32⟩
  | 81 => ⟨S8192x4x64, .f32⟩
  | 82 => ⟨S8192x4x64, .f32⟩
  | 83 => ⟨S8192x4x64, .f32⟩
  | 84 => ⟨S8192x4x64, .f32⟩
  | 85 => ⟨S8192x4x64, .f32⟩
  | 86 => ⟨S8192x4x64, .f32⟩
  | 87 => ⟨S8192x4x64, .f32⟩
  | 88 => ⟨S8192x4x64, .f32⟩
  | 89 => ⟨S8192x4x64, .f32⟩
  | 90 => ⟨S8192x4x64, .f32⟩
  | 91 => ⟨S8192x4x64, .f32⟩
  | 92 => ⟨S8192x4x64, .f32⟩
  | 93 => ⟨S8192x4x128, .f32⟩
  | 94 => ⟨S_, .f32⟩
  | 95 => ⟨S8192x4x128, .f32⟩
  | 96 => ⟨S8192x4x128, .f32⟩
  | 97 => ⟨S8192x4x128, .f32⟩
  | 98 => ⟨S4, .f32⟩
  | 99 => ⟨S_, .f32⟩
  | 100 => ⟨S4, .f32⟩
  | 101 => ⟨S4, .f32⟩
  | 102 => ⟨S_, .f32⟩
  | 103 => ⟨S4, .f32⟩
  | 104 => ⟨S4, .f32⟩
  | 105 => ⟨S4, .f32⟩
  | 106 => ⟨S_, .f32⟩
  | 107 => ⟨S4, .f32⟩
  | 108 => ⟨S4, .f32⟩
  | 109 => ⟨S4, .f32⟩
  | 110 => ⟨S4, .f32⟩
  | 111 => ⟨S4x1x1, .f32⟩
  | 112 => ⟨S64, .f32⟩
  | 113 => ⟨S_, .f32⟩
  | 114 => ⟨S64, .f32⟩
  | 115 => ⟨S64, .f32⟩
  | 116 => ⟨S64x1, .f32⟩
  | 117 => ⟨S_, .f32⟩
  | 118 => ⟨S64x1, .f32⟩
  | 119 => ⟨S64x1, .f32⟩
  | 120 => ⟨S8192, .f32⟩
  | 121 => ⟨S1x8192, .f32⟩
  | 122 => ⟨S64x8192, .f32⟩
  | 123 => ⟨S64x8192, .f32⟩
  | 124 => ⟨S64x8192, .f32⟩
  | 125 => ⟨S_, .f32⟩
  | 126 => ⟨S64x8192, .f32⟩
  | 127 => ⟨S64x8192, .i1⟩
  | _ => ⟨S8192x512, .f32⟩

abbrev hbmTy0_2 (i : Nat) : BufTy := match i % 128 with
  | 0 => ⟨S_, .f32⟩
  | 1 => ⟨S64x8192, .f32⟩
  | 2 => ⟨S64x8192, .i1⟩
  | 3 => ⟨S_, .f32⟩
  | 4 => ⟨S_, .f32⟩
  | 5 => ⟨S64x8192, .f32⟩
  | 6 => ⟨S64x8192, .f32⟩
  | 7 => ⟨S1x64x8192, .f32⟩
  | 8 => ⟨S4x64x8192, .f32⟩
  | 9 => ⟨S4x64x8192, .f32⟩
  | 10 => ⟨S4x64x8192, .f32⟩
  | 11 => ⟨S4x64x8192, .f32⟩
  | 12 => ⟨S_, .f32⟩
  | 13 => ⟨S_, .f32⟩
  | 14 => ⟨S4x64x8192, .i1⟩
  | 15 => ⟨S4x64x8192, .f32⟩
  | 16 => ⟨S4x64x8192, .f32⟩
  | 17 => ⟨S4x64x8192x1, .f32⟩
  | 18 => ⟨S4x8192x128, .f32⟩
  | 19 => ⟨S4x1x8192x128, .f32⟩
  | 20 => ⟨S4x64x8192x128, .f32⟩
  | 21 => ⟨S4x64x8192x128, .f32⟩
  | 22 => ⟨S4x64x8192x128, .f32⟩
  | 23 => ⟨S4x128x64x128, .f32⟩
  | 24 => ⟨S64x4x128x128, .f32⟩
  | 25 => ⟨S8192x4x128, .f32⟩
  | 26 => ⟨S8192x4x128, .f32⟩
  | 27 => ⟨S4, .f32⟩
  | 28 => ⟨S4x1x1, .f32⟩
  | 29 => ⟨S64, .f32⟩
  | 30 => ⟨S_, .f32⟩
  | 31 => ⟨S64, .f32⟩
  | 32 => ⟨S64, .f32⟩
  | 33 => ⟨S64x1, .f32⟩
  | 34 => ⟨S_, .f32⟩
  | 35 => ⟨S64x1, .f32⟩
  | 36 => ⟨S64x1, .f32⟩
  | 37 => ⟨S8192, .f32⟩
  | 38 => ⟨S1x8192, .f32⟩
  | 39 => ⟨S64x8192, .f32⟩
  | 40 => ⟨S64x8192, .f32⟩
  | 41 => ⟨S64x8192, .f32⟩
  | 42 => ⟨S_, .f32⟩
  | 43 => ⟨S64x8192, .f32⟩
  | 44 => ⟨S64x8192, .i1⟩
  | 45 => ⟨S_, .f32⟩
  | 46 => ⟨S64x8192, .f32⟩
  | 47 => ⟨S64x8192, .i1⟩
  | 48 => ⟨S_, .f32⟩
  | 49 => ⟨S_, .f32⟩
  | 50 => ⟨S64x8192, .f32⟩
  | 51 => ⟨S64x8192, .f32⟩
  | 52 => ⟨S1x64x8192, .f32⟩
  | 53 => ⟨S4x64x8192, .f32⟩
  | 54 => ⟨S4x64x8192, .f32⟩
  | 55 => ⟨S4x64x8192, .f32⟩
  | 56 => ⟨S4x64x8192, .f32⟩
  | 57 => ⟨S_, .f32⟩
  | 58 => ⟨S_, .f32⟩
  | 59 => ⟨S4x64x8192, .i1⟩
  | 60 => ⟨S4x64x8192, .f32⟩
  | 61 => ⟨S4x64x8192, .f32⟩
  | 62 => ⟨S4x64x8192x1, .f32⟩
  | 63 => ⟨S4x8192x128, .f32⟩
  | 64 => ⟨S4x1x8192x128, .f32⟩
  | 65 => ⟨S4x64x8192x128, .f32⟩
  | 66 => ⟨S4x64x8192x128, .f32⟩
  | 67 => ⟨S4x64x8192x128, .f32⟩
  | 68 => ⟨S4x128x64x128, .f32⟩
  | 69 => ⟨S64x4x128x128, .f32⟩
  | 70 => ⟨S8192x512, .f32⟩
  | 71 => ⟨S8192x512, .f32⟩
  | 72 => ⟨S8192x1536, .f32⟩
  | 73 => ⟨S8192x1536, .bf16⟩
  | 74 => ⟨S64x128x4x128, .f32⟩
  | 75 => ⟨S64x128x512, .f32⟩
  | 76 => ⟨S64x128x512, .bf16⟩
  | 77 => ⟨S64x4x128x128, .f32⟩
  | 78 => ⟨S64x128x4x128, .f32⟩
  | 79 => ⟨S64x128x512, .f32⟩
  | 80 => ⟨S64x128x512, .bf16⟩
  | 81 => ⟨S8192x512, .f32⟩
  | 82 => ⟨S8192x512, .bf16⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S4x128x512, .bf16⟩
  | .local _ .vmem, ⟨9, _⟩ => ⟨S4x128x512, .bf16⟩
  | .local _ .vmem, ⟨10, _⟩ => ⟨S4x128x512, .bf16⟩
  | .local _ .vmem, ⟨11, _⟩ => ⟨S4x128x512, .bf16⟩
  | .local _ .vmem, ⟨12, _⟩ => ⟨S4x128x128, .f32⟩
  | .local _ .vmem, ⟨13, _⟩ => ⟨S128x512, .f32⟩
  | .local _ .vmem, ⟨14, _⟩ => ⟨S128x512, .f32⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_2 : Ref sig .tc := ⟨.hbm, 55, rfl⟩
abbrev main_v48 : Ref sig .tc := ⟨.hbm, 56, rfl⟩
abbrev main_v49 : Ref sig .tc := ⟨.hbm, 57, rfl⟩
abbrev main_cst_3 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_5 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_6 : Ref sig .tc := ⟨.hbm, 80, rfl⟩
abbrev main_v69 : Ref sig .tc := ⟨.hbm, 81, rfl⟩
abbrev main_v70 : Ref sig .tc := ⟨.hbm, 82, rfl⟩
abbrev main_cst_7 : Ref sig .tc := ⟨.hbm, 83, rfl⟩
abbrev main_call0_v0 : Ref sig .tc := ⟨.hbm, 84, rfl⟩
abbrev main_call0_v1 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_8 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_10 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_11 : Ref sig .tc := ⟨.hbm, 105, rfl⟩
abbrev main_call2_v0 : Ref sig .tc := ⟨.hbm, 106, rfl⟩
abbrev main_call2_v1 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_12 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_13 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_14 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_15 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_cst_16 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_cst_17 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_18 : Ref sig .tc := ⟨.hbm, 178, rfl⟩
abbrev main_v145 : Ref sig .tc := ⟨.hbm, 179, rfl⟩
abbrev main_v146 : Ref sig .tc := ⟨.hbm, 180, rfl⟩
abbrev main_cst_19 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_cst_20 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_cst_21 : Ref sig .tc := ⟨.hbm, 227, rfl⟩
abbrev main_v191 : Ref sig .tc := ⟨.hbm, 228, rfl⟩
abbrev main_v192 : Ref sig .tc := ⟨.hbm, 229, rfl⟩
abbrev main_cst_22 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_cst_23 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_cst_24 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_cst_25 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_cst_26 : Ref sig .tc := ⟨.hbm, 253, rfl⟩
abbrev main_v212 : Ref sig .tc := ⟨.hbm, 254, rfl⟩
abbrev main_v213 : Ref sig .tc := ⟨.hbm, 255, rfl⟩
abbrev main_cst_27 : Ref sig .tc := ⟨.hbm, 256, rfl⟩
abbrev main_v214 : Ref sig .tc := ⟨.hbm, 257, rfl⟩
abbrev main_v215 : Ref sig .tc := ⟨.hbm, 258, rfl⟩
abbrev main_cst_28 : Ref sig .tc := ⟨.hbm, 259, rfl⟩
abbrev main_call4_v0 : Ref sig .tc := ⟨.hbm, 260, rfl⟩
abbrev main_call4_v1 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_cst_29 : Ref sig .tc := ⟨.hbm, 268, rfl⟩
abbrev main_call5_v0 : Ref sig .tc := ⟨.hbm, 269, rfl⟩
abbrev main_call5_v1 : Ref sig .tc := ⟨.hbm, 270, rfl⟩
abbrev main_call5_v2 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_cst_30 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_cst_31 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_cst_32 : Ref sig .tc := ⟨.hbm, 298, rfl⟩
abbrev main_v246 : Ref sig .tc := ⟨.hbm, 299, rfl⟩
abbrev main_v247 : Ref sig .tc := ⟨.hbm, 300, rfl⟩
abbrev main_cst_33 : Ref sig .tc := ⟨.hbm, 301, rfl⟩
abbrev main_v248 : Ref sig .tc := ⟨.hbm, 302, rfl⟩
abbrev main_v249 : Ref sig .tc := ⟨.hbm, 303, rfl⟩
abbrev main_cst_34 : Ref sig .tc := ⟨.hbm, 304, rfl⟩
abbrev main_call8_v0 : Ref sig .tc := ⟨.hbm, 305, rfl⟩
abbrev main_call8_v1 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_cst_35 : Ref sig .tc := ⟨.hbm, 313, rfl⟩
abbrev main_call9_v0 : Ref sig .tc := ⟨.hbm, 314, rfl⟩
abbrev main_call9_v1 : Ref sig .tc := ⟨.hbm, 315, rfl⟩
abbrev main_call9_v2 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276_0 : Ref sig .tc := ⟨.hbm, 337, rfl⟩
abbrev main_v276_1 : Ref sig .tc := ⟨.hbm, 338, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RetOutRefIdeal.lean ====
abbrev S8192x512 : Shape := ⟨2, ![8192, 512]⟩
abbrev S8192x3072 : Shape := ⟨2, ![8192, 3072]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S4 : Shape := ⟨1, ![4]⟩
abbrev S8192x4x128 : Shape := ⟨3, ![8192, 4, 128]⟩
abbrev S8192x4x64 : Shape := ⟨3, ![8192, 4, 64]⟩
abbrev S4x1x1 : Shape := ⟨3, ![4, 1, 1]⟩
abbrev S64x1 : Shape := ⟨2, ![64, 1]⟩
abbrev S1x8192 : Shape := ⟨2, ![1, 8192]⟩
abbrev S64x8192 : Shape := ⟨2, ![64, 8192]⟩
abbrev S1x64x8192 : Shape := ⟨3, ![1, 64, 8192]⟩
abbrev S4x64x8192 : Shape := ⟨3, ![4, 64, 8192]⟩
abbrev S4x64x8192x1 : Shape := ⟨4, ![4, 64, 8192, 1]⟩
abbrev S4x8192x128 : Shape := ⟨3, ![4, 8192, 128]⟩
abbrev S4x1x8192x128 : Shape := ⟨4, ![4, 1, 8192, 128]⟩
abbrev S4x64x8192x128 : Shape := ⟨4, ![4, 64, 8192, 128]⟩
abbrev S4x128x64x128 : Shape := ⟨4, ![4, 128, 64, 128]⟩
abbrev S64x4x128x128 : Shape := ⟨4, ![64, 4, 128, 128]⟩
abbrev S64x128x4x128 : Shape := ⟨4, ![64, 128, 4, 128]⟩
abbrev S4x64x128x128 : Shape := ⟨4, ![4, 64, 128, 128]⟩
abbrev S128 : Shape := ⟨1, ![128]⟩
abbrev S4x1 : Shape := ⟨2, ![4, 1]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x128x128 : Shape := ⟨3, ![4, 128, 128]⟩
abbrev S4x128 : Shape := ⟨2, ![4, 128]⟩
abbrev S4x1x128x128 : Shape := ⟨4, ![4, 1, 128, 128]⟩
abbrev S4x1x128x1 : Shape := ⟨4, ![4, 1, 128, 1]⟩
abbrev S8192x4 : Shape := ⟨2, ![8192, 4]⟩
abbrev S8192x4x1 : Shape := ⟨3, ![8192, 4, 1]⟩

abbrev nBuf : Space → Nat
  | .hbm => 300
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x3072, .f32⟩
  | 4 => ⟨S64, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S8192, .f32⟩
  | 13 => ⟨S8192x1, .f32⟩
  | 14 => ⟨S1x64, .f32⟩
  | 15 => ⟨S8192x64, .f32⟩
  | 16 => ⟨S8192x64, .f32⟩
  | 17 => ⟨S8192x64, .f32⟩
  | 18 => ⟨S8192x64, .f32⟩
  | 19 => ⟨S8192x1x64, .f32⟩
  | 20 => ⟨S8192x64, .f32⟩
  | 21 => ⟨S8192x1x64, .f32⟩
  | 22 => ⟨S4, .f32⟩
  | 23 => ⟨S_, .f32⟩
  | 24 => ⟨S4, .f32⟩
  | 25 => ⟨S4, .f32⟩
  | 26 => ⟨S_, .f32⟩
  | 27 => ⟨S4, .f32⟩
  | 28 => ⟨S4, .f32⟩
  | 29 => ⟨S4, .f32⟩
  | 30 => ⟨S_, .f32⟩
  | 31 => ⟨S4, .f32⟩
  | 32 => ⟨S4, .f32⟩
  | 33 => ⟨S4, .f32⟩
  | 34 => ⟨S8192x4x128, .f32⟩
  | 35 => ⟨S8192x4x64, .f32⟩
  | 36 => ⟨S8192x4x64, .f32⟩
  | 37 => ⟨S8192x4x64, .f32⟩
  | 38 => ⟨S8192x4x64, .f32⟩
  | 39 => ⟨S8192x4x64, .f32⟩
  | 40 => ⟨S8192x4x64, .f32⟩
  | 41 => ⟨S8192x4x64, .f32⟩
  | 42 => ⟨S8192x4x64, .f32⟩
  | 43 => ⟨S8192x4x64, .f32⟩
  | 44 => ⟨S8192x4x64, .f32⟩
  | 45 => ⟨S8192x4x64, .f32⟩
  | 46 => ⟨S8192x4x64, .f32⟩
  | 47 => ⟨S8192x4x128, .f32⟩
  | 48 => ⟨S8192x4x128, .f32⟩
  | 49 => ⟨S8192x4x64, .f32⟩
  | 50 => ⟨S8192x4x64, .f32⟩
  | 51 => ⟨S8192x4x64, .f32⟩
  | 52 => ⟨S8192x4x64, .f32⟩
  | 53 => ⟨S8192x4x64, .f32⟩
  | 54 => ⟨S8192x4x64, .f32⟩
  | 55 => ⟨S8192x4x64, .f32⟩
  | 56 => ⟨S8192x4x64, .f32⟩
  | 57 => ⟨S8192x4x64, .f32⟩
  | 58 => ⟨S8192x4x64, .f32⟩
  | 59 => ⟨S8192x4x64, .f32⟩
  | 60 => ⟨S8192x4x64, .f32⟩
  | 61 => ⟨S8192x4x128, .f32⟩
  | 62 => ⟨S_, .f32⟩
  | 63 => ⟨S8192x4x128, .f32⟩
  | 64 => ⟨S8192x4x128, .f32⟩
  | 65 => ⟨S8192x4x128, .f32⟩
  | 66 => ⟨S4, .f32⟩
  | 67 => ⟨S4x1x1, .f32⟩
  | 68 => ⟨S64, .f32⟩
  | 69 => ⟨S_, .f32⟩
  | 70 => ⟨S64, .f32⟩
  | 71 => ⟨S64, .f32⟩
  | 72 => ⟨S64x1, .f32⟩
  | 73 => ⟨S_, .f32⟩
  | 74 => ⟨S64x1, .f32⟩
  | 75 => ⟨S64x1, .f32⟩
  | 76 => ⟨S8192, .f32⟩
  | 77 => ⟨S1x8192, .f32⟩
  | 78 => ⟨S64x8192, .f32⟩
  | 79 => ⟨S64x8192, .f32⟩
  | 80 => ⟨S64x8192, .f32⟩
  | 81 => ⟨S_, .f32⟩
  | 82 => ⟨S64x8192, .f32⟩
  | 83 => ⟨S64x8192, .i1⟩
  | 84 => ⟨S_, .f32⟩
  | 85 => ⟨S64x8192, .f32⟩
  | 86 => ⟨S64x8192, .i1⟩
  | 87 => ⟨S_, .f32⟩
  | 88 => ⟨S_, .f32⟩
  | 89 => ⟨S64x8192, .f32⟩
  | 90 => ⟨S64x8192, .f32⟩
  | 91 => ⟨S1x64x8192, .f32⟩
  | 92 => ⟨S4x64x8192, .f32⟩
  | 93 => ⟨S4x64x8192, .f32⟩
  | 94 => ⟨S4x64x8192, .f32⟩
  | 95 => ⟨S4x64x8192, .f32⟩
  | 96 => ⟨S_, .f32⟩
  | 97 => ⟨S_, .f32⟩
  | 98 => ⟨S4x64x8192, .i1⟩
  | 99 => ⟨S4x64x8192, .f32⟩
  | 100 => ⟨S4x64x8192, .f32⟩
  | 101 => ⟨S4x64x8192x1, .f32⟩
  | 102 => ⟨S4x8192x128, .f32⟩
  | 103 => ⟨S4x1x8192x128, .f32⟩
  | 104 => ⟨S4x64x8192x128, .f32⟩
  | 105 => ⟨S4x64x8192x128, .f32⟩
  | 106 => ⟨S4x64x8192x128, .f32⟩
  | 107 => ⟨S4x128x64x128, .f32⟩
  | 108 => ⟨S64x4x128x128, .f32⟩
  | 109 => ⟨S8192x4x128, .f32⟩
  | 110 => ⟨S8192x4x128, .f32⟩
  | 111 => ⟨S4, .f32⟩
  | 112 => ⟨S4x1x1, .f32⟩
  | 113 => ⟨S64, .f32⟩
  | 114 => ⟨S_, .f32⟩
  | 115 => ⟨S64, .f32⟩
  | 116 => ⟨S64, .f32⟩
  | 117 => ⟨S64x1, .f32⟩
  | 118 => ⟨S_, .f32⟩
  | 119 => ⟨S64x1, .f32⟩
  | 120 => ⟨S64x1, .f32⟩
  | 121 => ⟨S8192, .f32⟩
  | 122 => ⟨S1x8192, .f32⟩
  | 123 => ⟨S64x8192, .f32⟩
  | 124 => ⟨S64x8192, .f32⟩
  | 125 => ⟨S64x8192, .f32⟩
  | 126 => ⟨S_, .f32⟩
  | 127 => ⟨S64x8192, .f32⟩
  | _ => ⟨S8192x512, .f32⟩

abbrev hbmTy0_1 (i : Nat) : BufTy := match i % 128 with
  | 0 => ⟨S64x8192, .i1⟩
  | 1 => ⟨S_, .f32⟩
  | 2 => ⟨S64x8192, .f32⟩
  | 3 => ⟨S64x8192, .i1⟩
  | 4 => ⟨S_, .f32⟩
  | 5 => ⟨S_, .f32⟩
  | 6 => ⟨S64x8192, .f32⟩
  | 7 => ⟨S64x8192, .f32⟩
  | 8 => ⟨S1x64x8192, .f32⟩
  | 9 => ⟨S4x64x8192, .f32⟩
  | 10 => ⟨S4x64x8192, .f32⟩
  | 11 => ⟨S4x64x8192, .f32⟩
  | 12 => ⟨S4x64x8192, .f32⟩
  | 13 => ⟨S_, .f32⟩
  | 14 => ⟨S_, .f32⟩
  | 15 => ⟨S4x64x8192, .i1⟩
  | 16 => ⟨S4x64x8192, .f32⟩
  | 17 => ⟨S4x64x8192, .f32⟩
  | 18 => ⟨S4x64x8192x1, .f32⟩
  | 19 => ⟨S4x8192x128, .f32⟩
  | 20 => ⟨S4x1x8192x128, .f32⟩
  | 21 => ⟨S4x64x8192x128, .f32⟩
  | 22 => ⟨S4x64x8192x128, .f32⟩
  | 23 => ⟨S4x64x8192x128, .f32⟩
  | 24 => ⟨S4x128x64x128, .f32⟩
  | 25 => ⟨S64x4x128x128, .f32⟩
  | 26 => ⟨S64x128x4x128, .f32⟩
  | 27 => ⟨S4x64x128x128, .f32⟩
  | 28 => ⟨S64x128x4x128, .f32⟩
  | 29 => ⟨S4x64x128x128, .f32⟩
  | 30 => ⟨S64x128x4x128, .f32⟩
  | 31 => ⟨S4x64x128x128, .f32⟩
  | 32 => ⟨S128, .f32⟩
  | 33 => ⟨S4, .f32⟩
  | 34 => ⟨S4x1, .f32⟩
  | 35 => ⟨S128x1, .f32⟩
  | 36 => ⟨S1x128, .f32⟩
  | 37 => ⟨S128x128, .f32⟩
  | 38 => ⟨S128x128, .f32⟩
  | 39 => ⟨S128x128, .f32⟩
  | 40 => ⟨S_, .f32⟩
  | 41 => ⟨S128x128, .f32⟩
  | 42 => ⟨S128x128, .i1⟩
  | 43 => ⟨S4x1x1, .f32⟩
  | 44 => ⟨S_, .f32⟩
  | 45 => ⟨S_, .f32⟩
  | 46 => ⟨S128x128, .f32⟩
  | 47 => ⟨S128x128, .f32⟩
  | 48 => ⟨S1x128x128, .f32⟩
  | 49 => ⟨S4x128x128, .f32⟩
  | 50 => ⟨S4x128x128, .f32⟩
  | 51 => ⟨S4x128x128, .f32⟩
  | 52 => ⟨S4x128x128, .f32⟩
  | 53 => ⟨S_, .f32⟩
  | 54 => ⟨S_, .f32⟩
  | 55 => ⟨S4x128x128, .i1⟩
  | 56 => ⟨S4x128x128, .f32⟩
  | 57 => ⟨S4x128x128, .f32⟩
  | 58 => ⟨S_, .f32⟩
  | 59 => ⟨S128, .f32⟩
  | 60 => ⟨S128, .f32⟩
  | 61 => ⟨S1x128, .f32⟩
  | 62 => ⟨S4x128, .f32⟩
  | 63 => ⟨S4x128, .f32⟩
  | 64 => ⟨S4x128, .f32⟩
  | 65 => ⟨S4x128, .f32⟩
  | 66 => ⟨S4x64x128x128, .f32⟩
  | 67 => ⟨S4x1x128x128, .f32⟩
  | 68 => ⟨S4x64x128x128, .f32⟩
  | 69 => ⟨S4x64x128x128, .f32⟩
  | 70 => ⟨S4x64x128x128, .f32⟩
  | 71 => ⟨S4x1x128x1, .f32⟩
  | 72 => ⟨S4x64x128x128, .f32⟩
  | 73 => ⟨S4x64x128x128, .f32⟩
  | 74 => ⟨S4x64x128x128, .f32⟩
  | 75 => ⟨S4x64x128x128, .f32⟩
  | 76 => ⟨S64x128x4x128, .f32⟩
  | 77 => ⟨S8192x4x128, .f32⟩
  | 78 => ⟨S8192x4x128, .f32⟩
  | 79 => ⟨S64x128x4x128, .f32⟩
  | 80 => ⟨S4x64x128x128, .f32⟩
  | 81 => ⟨S8192x4x128, .f32⟩
  | 82 => ⟨S64x128x4x128, .f32⟩
  | 83 => ⟨S4x64x128x128, .f32⟩
  | 84 => ⟨S8192x4x128, .f32⟩
  | 85 => ⟨S64x128x4x128, .f32⟩
  | 86 => ⟨S4x64x128x128, .f32⟩
  | 87 => ⟨S128, .f32⟩
  | 88 => ⟨S4, .f32⟩
  | 89 => ⟨S4x1, .f32⟩
  | 90 => ⟨S128x1, .f32⟩
  | 91 => ⟨S1x128, .f32⟩
  | 92 => ⟨S128x128, .f32⟩
  | 93 => ⟨S128x128, .f32⟩
  | 94 => ⟨S128x128, .f32⟩
  | 95 => ⟨S_, .f32⟩
  | 96 => ⟨S128x128, .f32⟩
  | 97 => ⟨S128x128, .i1⟩
  | 98 => ⟨S4x1x1, .f32⟩
  | 99 => ⟨S_, .f32⟩
  | 100 => ⟨S_, .f32⟩
  | 101 => ⟨S128x128, .f32⟩
  | 102 => ⟨S128x128, .f32⟩
  | 103 => ⟨S1x128x128, .f32⟩
  | 104 => ⟨S4x128x128, .f32⟩
  | 105 => ⟨S4x128x128, .f32⟩
  | 106 => ⟨S4x128x128, .f32⟩
  | 107 => ⟨S4x128x128, .f32⟩
  | 108 => ⟨S_, .f32⟩
  | 109 => ⟨S_, .f32⟩
  | 110 => ⟨S4x128x128, .i1⟩
  | 111 => ⟨S4x128x128, .f32⟩
  | 112 => ⟨S4x128x128, .f32⟩
  | 113 => ⟨S_, .f32⟩
  | 114 => ⟨S128, .f32⟩
  | 115 => ⟨S128, .f32⟩
  | 116 => ⟨S1x128, .f32⟩
  | 117 => ⟨S4x128, .f32⟩
  | 118 => ⟨S4x128, .f32⟩
  | 119 => ⟨S4x128, .f32⟩
  | 120 => ⟨S4x128, .f32⟩
  | 121 => ⟨S4x64x128x128, .f32⟩
  | 122 => ⟨S4x1x128x128, .f32⟩
  | 123 => ⟨S4x64x128x128, .f32⟩
  | 124 => ⟨S4x64x128x128, .f32⟩
  | 125 => ⟨S4x64x128x128, .f32⟩
  | 126 => ⟨S4x1x128x1, .f32⟩
  | 127 => ⟨S4x64x128x128, .f32⟩
  | _ => ⟨S8192x512, .f32⟩

abbrev hbmTy0_2 (i : Nat) : BufTy := match i % 128 with
  | 0 => ⟨S4x64x128x128, .f32⟩
  | 1 => ⟨S4x64x128x128, .f32⟩
  | 2 => ⟨S4x64x128x128, .f32⟩
  | 3 => ⟨S64x128x4x128, .f32⟩
  | 4 => ⟨S8192x4x128, .f32⟩
  | 5 => ⟨S8192x4x128, .f32⟩
  | 6 => ⟨S8192x4x128, .f32⟩
  | 7 => ⟨S8192x512, .f32⟩
  | 8 => ⟨S_, .f32⟩
  | 9 => ⟨S8192x4, .f32⟩
  | 10 => ⟨S8192x4x1, .f32⟩
  | 11 => ⟨S_, .f32⟩
  | 12 => ⟨S8192x4x1, .f32⟩
  | 13 => ⟨S8192x4x1, .f32⟩
  | 14 => ⟨S8192x4x128, .f32⟩
  | 15 => ⟨S8192x4x128, .f32⟩
  | 16 => ⟨S8192x4x128, .f32⟩
  | 17 => ⟨S_, .f32⟩
  | 18 => ⟨S8192x4, .f32⟩
  | 19 => ⟨S8192x4x1, .f32⟩
  | 20 => ⟨S_, .f32⟩
  | 21 => ⟨S8192x4x1, .f32⟩
  | 22 => ⟨S8192x4x1, .f32⟩
  | 23 => ⟨S8192x4x128, .f32⟩
  | 24 => ⟨S8192x4x128, .f32⟩
  | 25 => ⟨S_, .f32⟩
  | 26 => ⟨S8192x4x1, .f32⟩
  | 27 => ⟨S8192x4x1, .f32⟩
  | 28 => ⟨S8192x4x1, .f32⟩
  | 29 => ⟨S8192x4x128, .f32⟩
  | 30 => ⟨S8192x4x128, .f32⟩
  | 31 => ⟨S8192x512, .f32⟩
  | 32 => ⟨S8192x512, .f32⟩
  | 33 => ⟨S8192x512, .f32⟩
  | 34 => ⟨S_, .f32⟩
  | 35 => ⟨S8192x512, .f32⟩
  | 36 => ⟨S8192x512, .f32⟩
  | 37 => ⟨S_, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S8192x512, .bf16⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_5 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_6 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_7 : Ref sig .tc := ⟨.hbm, 81, rfl⟩
abbrev main_v69 : Ref sig .tc := ⟨.hbm, 82, rfl⟩
abbrev main_v70 : Ref sig .tc := ⟨.hbm, 83, rfl⟩
abbrev main_cst_8 : Ref sig .tc := ⟨.hbm, 84, rfl⟩
abbrev main_v71 : Ref sig .tc := ⟨.hbm, 85, rfl⟩
abbrev main_v72 : Ref sig .tc := ⟨.hbm, 86, rfl⟩
abbrev main_cst_9 : Ref sig .tc := ⟨.hbm, 87, rfl⟩
abbrev main_call0_v0 : Ref sig .tc := ⟨.hbm, 88, rfl⟩
abbrev main_call0_v1 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_10 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_11 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_12 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_13 : Ref sig .tc := ⟨.hbm, 126, rfl⟩
abbrev main_v103 : Ref sig .tc := ⟨.hbm, 127, rfl⟩
abbrev main_v104 : Ref sig .tc := ⟨.hbm, 128, rfl⟩
abbrev main_cst_14 : Ref sig .tc := ⟨.hbm, 129, rfl⟩
abbrev main_v105 : Ref sig .tc := ⟨.hbm, 130, rfl⟩
abbrev main_v106 : Ref sig .tc := ⟨.hbm, 131, rfl⟩
abbrev main_cst_15 : Ref sig .tc := ⟨.hbm, 132, rfl⟩
abbrev main_call4_v0 : Ref sig .tc := ⟨.hbm, 133, rfl⟩
abbrev main_call4_v1 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_16 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_cst_17 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_18 : Ref sig .tc := ⟨.hbm, 172, rfl⟩
abbrev main_call6_v0 : Ref sig .tc := ⟨.hbm, 173, rfl⟩
abbrev main_call6_v1 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_cst_19 : Ref sig .tc := ⟨.hbm, 181, rfl⟩
abbrev main_call7_v0 : Ref sig .tc := ⟨.hbm, 182, rfl⟩
abbrev main_call7_v1 : Ref sig .tc := ⟨.hbm, 183, rfl⟩
abbrev main_call7_v2 : Ref sig .tc := ⟨.hbm, 184, rfl⟩
abbrev main_v145 : Ref sig .tc := ⟨.hbm, 185, rfl⟩
abbrev main_cst_20 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_cst_21 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_cst_22 : Ref sig .tc := ⟨.hbm, 227, rfl⟩
abbrev main_call11_v0 : Ref sig .tc := ⟨.hbm, 228, rfl⟩
abbrev main_call11_v1 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_cst_23 : Ref sig .tc := ⟨.hbm, 236, rfl⟩
abbrev main_call12_v0 : Ref sig .tc := ⟨.hbm, 237, rfl⟩
abbrev main_call12_v1 : Ref sig .tc := ⟨.hbm, 238, rfl⟩
abbrev main_call12_v2 : Ref sig .tc := ⟨.hbm, 239, rfl⟩
abbrev main_v191 : Ref sig .tc := ⟨.hbm, 240, rfl⟩
abbrev main_cst_24 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_cst_25 : Ref sig .tc := ⟨.hbm, 264, rfl⟩
abbrev main_v214 : Ref sig .tc := ⟨.hbm, 265, rfl⟩
abbrev main_v215 : Ref sig .tc := ⟨.hbm, 266, rfl⟩
abbrev main_cst_26 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_cst_27 : Ref sig .tc := ⟨.hbm, 273, rfl⟩
abbrev main_v221 : Ref sig .tc := ⟨.hbm, 274, rfl⟩
abbrev main_v222 : Ref sig .tc := ⟨.hbm, 275, rfl⟩
abbrev main_cst_28 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_cst_29 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_call14_v0 : Ref sig .tc := ⟨.hbm, 288, rfl⟩
abbrev main_call14_v1 : Ref sig .tc := ⟨.hbm, 289, rfl⟩
abbrev main_call14_cst : Ref sig .tc := ⟨.hbm, 290, rfl⟩
abbrev main_call14_v2 : Ref sig .tc := ⟨.hbm, 291, rfl⟩
abbrev main_call14_v3 : Ref sig .tc := ⟨.hbm, 292, rfl⟩
abbrev main_call14_cst_0 : Ref sig .tc := ⟨.hbm, 293, rfl⟩
abbrev main_call14_v4 : Ref sig .tc := ⟨.hbm, 294, rfl⟩
abbrev main_call14_v5 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩

abbrev nD : Nat := 1
abbrev τ : Topo := Topo.v7x

variable {F : FTy → Type} [FloatOps F]
-- ==== GmFwd.lean ====
abbrev S8192x3072 : Shape := ⟨2, ![8192, 3072]⟩
abbrev S256 : Shape := ⟨1, ![256]⟩
abbrev S4x128x128 : Shape := ⟨3, ![4, 128, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S8192x256 : Shape := ⟨2, ![8192, 256]⟩
abbrev S512x256 : Shape := ⟨2, ![512, 256]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 11
  | .vmem => 10
  | .smem => 0
  | _ => 0

abbrev bufTy : (tb : Table) → Fin (tcTables nBuf tb) → BufTy
  | .hbm, ⟨0, _⟩ => ⟨S8192x3072, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x64, .f32⟩
  | .hbm, ⟨7, _⟩ => ⟨S128x256, .f32⟩
  | .hbm, ⟨8, _⟩ => ⟨S1x256, .f32⟩
  | .hbm, ⟨9, _⟩ => ⟨S1x256, .f32⟩
  | .hbm, ⟨10, _⟩ => ⟨S8192x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S4x128x128, .f32⟩
  | .local _ .vmem, ⟨7, _⟩ => ⟨S128x256, .f32⟩
  | .local _ .vmem, ⟨8, _⟩ => ⟨S512x256, .bf16⟩
  | .local _ .vmem, ⟨9, _⟩ => ⟨S512x256, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmFwdIdeal.lean ====
variable {F : FTy → Type} [FloatOps F] [Named F]
def κ : String → Option EReal := fun
  | "inv_sqrt2" => some (((Real.sqrt 2)⁻¹ : ℝ) : EReal)
  | _ => none
-- ==== GmFwdRefIdeal.lean ====
abbrev S8192x3072 : Shape := ⟨2, ![8192, 3072]⟩
abbrev S256 : Shape := ⟨1, ![256]⟩
abbrev S4x128x128 : Shape := ⟨3, ![4, 128, 128]⟩
abbrev S4x128 : Shape := ⟨2, ![4, 128]⟩
abbrev S8192x512 : Shape := ⟨2, ![8192, 512]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S64x128x4x64 : Shape := ⟨4, ![64, 128, 4, 64]⟩
abbrev S4x64x64x128 : Shape := ⟨4, ![4, 64, 64, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S8192x512, .f32⟩
  | .hbm, ⟨6, _⟩ => ⟨S8192x256, .f32⟩
  | .hbm, ⟨7, _⟩ => ⟨S8192x256, .f32⟩
  | .hbm, ⟨8, _⟩ => ⟨S_, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S_, .f32⟩
  | .hbm, ⟨13, _⟩ => ⟨S_, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S_, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S_, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x256, .f32⟩
  | .hbm, ⟨44, _⟩ => ⟨S8192x256, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x256, .f32⟩
  | .hbm, ⟨50, _⟩ => ⟨S8192x256, .f32⟩
  | .hbm, ⟨51, _⟩ => ⟨S1x256, .f32⟩
  | .hbm, ⟨52, _⟩ => ⟨S8192x256, .f32⟩
  | .hbm, ⟨53, _⟩ => ⟨S8192x256, .f32⟩
  | .hbm, ⟨54, _⟩ => ⟨S1x256, .f32⟩
  | .hbm, ⟨55, _⟩ => ⟨S8192x256, .f32⟩
  | .hbm, ⟨56, _⟩ => ⟨S8192x256, .f32⟩
  | .hbm, ⟨57, _⟩ => ⟨S64x128x4x64, .f32⟩
  | .hbm, ⟨58, _⟩ => ⟨S4x64x64x128, .f32⟩
  | .hbm, ⟨59, _⟩ => ⟨S64x128x4x64, .f32⟩
  | .hbm, ⟨60, _⟩ => ⟨S128x4, .f32⟩
  | .hbm, ⟨61, _⟩ => ⟨S128x4x1, .f32⟩
  | .hbm, ⟨62, _⟩ => ⟨S1x128x4x1, .f32⟩
  | .hbm, ⟨63, _⟩ => ⟨S64x128x4x64, .f32⟩
  | .hbm, ⟨64, _⟩ => ⟨S64x128x4x64, .f32⟩
  | .hbm, ⟨65, _⟩ => ⟨S64x128x4x64, .f32⟩
  | .hbm, ⟨66, _⟩ => ⟨S64x128x4x64, .f32⟩
  | .hbm, ⟨67, _⟩ => ⟨S8192x256, .f32⟩
  | .hbm, ⟨68, _⟩ => ⟨S8192x256, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Conv.lean ====
abbrev S8192x3072 : Shape := ⟨2, ![8192, 3072]⟩
abbrev S31x256 : Shape := ⟨2, ![31, 256]⟩
abbrev S256 : Shape := ⟨1, ![256]⟩
abbrev S8192x256 : Shape := ⟨2, ![8192, 256]⟩
abbrev S8192x512 : Shape := ⟨2, ![8192, 512]⟩
abbrev S_ : Shape := ⟨0, ![]⟩
abbrev S8192x8192x31x256 : Shape := ⟨4, ![8192, 8192, 31, 256]⟩
abbrev S1x8192x1x256 : Shape := ⟨4, ![1, 8192, 1, 256]⟩
abbrev S8192x31x256 : Shape := ⟨3, ![8192, 31, 256]⟩
abbrev S1x31x256 : Shape := ⟨3, ![1, 31, 256]⟩
abbrev S1x256 : Shape := ⟨2, ![1, 256]⟩
abbrev S32x256 : Shape := ⟨2, ![32, 256]⟩
abbrev S256x256 : Shape := ⟨2, ![256, 256]⟩
abbrev S16x256 : Shape := ⟨2, ![16, 256]⟩
abbrev S256x512 : Shape := ⟨2, ![256, 512]⟩
abbrev S288x256 : Shape := ⟨2, ![288, 256]⟩
abbrev S8x288x256 : Shape := ⟨3, ![8, 288, 256]⟩
abbrev S256x1 : Shape := ⟨2, ![256, 1]⟩
abbrev S16 : Shape := ⟨1, ![16]⟩
abbrev S16x1 : Shape := ⟨2, ![16, 1]⟩
abbrev S280x256 : Shape := ⟨2, ![280, 256]⟩
abbrev S1x280x256 : Shape := ⟨3, ![1, 280, 256]⟩
abbrev S64x256 : Shape := ⟨2, ![64, 256]⟩
abbrev S1x64x256 : Shape := ⟨3, ![1, 64, 256]⟩
abbrev S8x256 : Shape := ⟨2, ![8, 256]⟩
abbrev S8x8x256 : Shape := ⟨3, ![8, 8, 256]⟩

abbrev nBuf : Space → Nat
  | .hbm => 52
  | .vmem => 38
  | .smem => 0
  | _ => 0

abbrev bufTy : (tb : Table) → Fin (tcTables nBuf tb) → BufTy
  | .hbm, ⟨0, _⟩ => ⟨S8192x3072, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S8192x256, .f32⟩
  | .hbm, ⟨6, _⟩ => ⟨S8192x512, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x8192x31x256, .i32⟩
  | .hbm, ⟨19, _⟩ => ⟨S8192x8192x31x256, .i32⟩
  | .hbm, ⟨20, _⟩ => ⟨S8192x8192x31x256, .i32⟩
  | .hbm, ⟨21, _⟩ => ⟨S8192x8192x31x256, .i32⟩
  | .hbm, ⟨22, _⟩ => ⟨S_, .i32⟩
  | .hbm, ⟨23, _⟩ => ⟨S8192x8192x31x256, .i32⟩
  | .hbm, ⟨24, _⟩ => ⟨S8192x8192x31x256, .i32⟩
  | .hbm, ⟨25, _⟩ => ⟨S8192x8192x31x256, .i1⟩
  | .hbm, ⟨26, _⟩ => ⟨S1x8192x1x256, .f32⟩
  | .hbm, ⟨27, _⟩ => ⟨S_, .f32⟩
  | .hbm, ⟨28, _⟩ => ⟨S_, .f32⟩
  | .hbm, ⟨29, _⟩ => ⟨S8192x8192x31x256, .f32⟩
  | .hbm, ⟨30, _⟩ => ⟨S8192x8192x31x256, .f32⟩
  | .hbm, ⟨31, _⟩ => ⟨S8192x8192x31x256, .f32⟩
  | .hbm, ⟨32, _⟩ => ⟨S_, .f32⟩
  | .hbm, ⟨33, _⟩ => ⟨S8192x31x256, .f32⟩
  | .hbm, ⟨34, _⟩ => ⟨S1x31x256, .f32⟩
  | .hbm, ⟨35, _⟩ => ⟨S8192x31x256, .f32⟩
  | .hbm, ⟨36, _⟩ => ⟨S8192x31x256, .f32⟩
  | .hbm, ⟨37, _⟩ => ⟨S_, .f32⟩
  | .hbm, ⟨38, _⟩ => ⟨S8192x256, .f32⟩
  | .hbm, ⟨39, _⟩ => ⟨S1x256, .f32⟩
  | .hbm, ⟨40, _⟩ => ⟨S8192x256, .f32⟩
  | .hbm, ⟨41, _⟩ => ⟨S8192x256, .f32⟩
  | .hbm, ⟨42, _⟩ => ⟨S_, .i32⟩
  | .hbm, ⟨43, _⟩ => ⟨S_, .f32⟩
  | .hbm, ⟨44, _⟩ => ⟨S32x256, .f32⟩
  | .hbm, ⟨45, _⟩ => ⟨S1x256, .f32⟩
  | .hbm, ⟨46, _⟩ => ⟨S1x256, .f32⟩
  | .hbm, ⟨47, _⟩ => ⟨S8192x512, .bf16⟩
  | .hbm, ⟨48, _⟩ => ⟨S32x256, .f32⟩
  | .hbm, ⟨49, _⟩ => ⟨S1x256, .f32⟩
  | .hbm, ⟨50, _⟩ => ⟨S1x256, .f32⟩
  | .hbm, ⟨51, _⟩ => ⟨S1x256, .f32⟩
  | .local _ .vmem, ⟨0, _⟩ => ⟨S256x256, .f32⟩
  | .local _ .vmem, ⟨1, _⟩ => ⟨S256x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S256x256, .f32⟩
  | .local _ .vmem, ⟨7, _⟩ => ⟨S256x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S256x256, .f32⟩
  | .local _ .vmem, ⟨13, _⟩ => ⟨S256x256, .f32⟩
  | .local _ .vmem, ⟨14, _⟩ => ⟨S16x256, .f32⟩
  | .local _ .vmem, ⟨15, _⟩ => ⟨S16x256, .f32⟩
  | .local _ .vmem, ⟨16, _⟩ => ⟨S16x256, .f32⟩
  | .local _ .vmem, ⟨17, _⟩ => ⟨S16x256, .f32⟩
  | .local _ .vmem, ⟨18, _⟩ => ⟨S256x256, .f32⟩
  | .local _ .vmem, ⟨19, _⟩ => ⟨S256x256, .f32⟩
  | .local _ .vmem, ⟨20, _⟩ => ⟨S16x256, .f32⟩
  | .local _ .vmem, ⟨21, _⟩ => ⟨S16x256, .f32⟩
  | .local _ .vmem, ⟨22, _⟩ => ⟨S16x256, .f32⟩
  | .local _ .vmem, ⟨23, _⟩ => ⟨S16x256, .f32⟩
  | .local _ .vmem, ⟨24, _⟩ => ⟨S32x256, .f32⟩
  | .local _ .vmem, ⟨25, _⟩ => ⟨S1x256, .f32⟩
  | .local _ .vmem, ⟨26, _⟩ => ⟨S1x256, .f32⟩
  | .local _ .vmem, ⟨27, _⟩ => ⟨S256x512, .bf16⟩
  | .local _ .vmem, ⟨28, _⟩ => ⟨S256x512, .bf16⟩
  | .local _ .vmem, ⟨29, _⟩ => ⟨S32x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S288x256, .f32⟩
  | .local _ .vmem, ⟨34, _⟩ => ⟨S288x256, .f32⟩
  | .local _ .vmem, ⟨35, _⟩ => ⟨S256x256, .f32⟩
  | .local _ .vmem, ⟨36, _⟩ => ⟨S8x288x256, .f32⟩
  | .local _ .vmem, ⟨37, _⟩ => ⟨S8x288x256, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v30_2 : Ref sig .tc := ⟨.hbm, 49, rfl⟩
abbrev main_v30_3 : Ref sig .tc := ⟨.hbm, 50, rfl⟩
abbrev main_v30_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31
abbrev cc0_sem19_0 : DmaSem sig := 32

abbrev nD : Nat := 1
abbrev τ : Topo := Topo.v7x

variable {F : FTy → Type} [FloatOps F]

abbrev grid0 : Pipeline.Grid := ⟨1, ![32], ![false]⟩

def k0_cond8 (i : grid0.Coords) : BitVec 1 :=
  let arg0 : BitVec 32 := BitVec.ofNat 32 (i 0).val
  let c31_i32_1815 : BitVec 32 := 31#32
  let v2524 : BitVec 1 := Scalar.cmpi .eq arg0 c31_i32_1815
  let v2525 : BitVec 32 := Scalar.extui v2524
  let c0_i32_1816 : BitVec 32 := 0#32
  let v2526 : BitVec 1 := Scalar.cmpi .ne v2525 c0_i32_1816
  v2526

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v79 : BitVec 32 := Scalar.extui v0
  let c0_i32_30 : BitVec 32 := 0#32
  let v80 : BitVec 1 := Scalar.cmpi .ne v79 c0_i32_30
  v80

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_31 : BitVec 1 := 1#1
  let v81 : BitVec 1 := Scalar.xori v0 true_31
  let v82 : BitVec 32 := Scalar.extui v81
  let c0_i32_32 : BitVec 32 := 0#32
  let v83 : BitVec 1 := Scalar.cmpi .ne v82 c0_i32_32
  v83

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v65 : BitVec 32 := Scalar.extui v0
  let c0_i32_23 : BitVec 32 := 0#32
  let v66 : BitVec 1 := Scalar.cmpi .ne v65 c0_i32_23
  v66

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v67 : BitVec 1 := Scalar.xori v0 v_true
  let v68 : BitVec 32 := Scalar.extui v67
  let c0_i32_24 : BitVec 32 := 0#32
  let v69 : BitVec 1 := Scalar.cmpi .ne v68 c0_i32_24
  v69

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v72 : BitVec 32 := Scalar.extui v0
  let c0_i32_26 : BitVec 32 := 0#32
  let v73 : BitVec 1 := Scalar.cmpi .ne v72 c0_i32_26
  v73

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_27 : BitVec 1 := 1#1
  let v74 : BitVec 1 := Scalar.xori v0 true_27
  let v75 : BitVec 32 := Scalar.extui v74
  let c0_i32_28 : BitVec 32 := 0#32
  let v76 : BitVec 1 := Scalar.cmpi .ne v75 c0_i32_28
  v76

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c10_i32 : BitVec 32 := 10#32
  let c0_i32 : BitVec 32 := 0#32
  ![v2.toNat, c10_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let c0_i32_0 : BitVec 32 := 0#32
  ![v2.toNat, c11_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c11_i32 : BitVec 32 := 11#32
  let c0_i32 : BitVec 32 := 0#32
  ![v2.toNat, c11_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S32x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ConvRefIdeal.lean ====
abbrev S8192x3072 : Shape := ⟨2, ![8192, 3072]⟩
abbrev S31x256 : Shape := ⟨2, ![31, 256]⟩
abbrev S256 : Shape := ⟨1, ![256]⟩
abbrev S8192x256 : Shape := ⟨2, ![8192, 256]⟩
abbrev S8192x512 : Shape := ⟨2, ![8192, 512]⟩
abbrev S_ : Shape := ⟨0, ![]⟩
abbrev S8192x8192x31x256 : Shape := ⟨4, ![8192, 8192, 31, 256]⟩
abbrev S1x8192x1x256 : Shape := ⟨4, ![1, 8192, 1, 256]⟩
abbrev S8192x31x256 : Shape := ⟨3, ![8192, 31, 256]⟩
abbrev S1x31x256 : Shape := ⟨3, ![1, 31, 256]⟩
abbrev S1x256 : Shape := ⟨2, ![1, 256]⟩
abbrev S8192 : Shape := ⟨1, ![8192]⟩
abbrev S8192x1 : Shape := ⟨2, ![8192, 1]⟩
abbrev S32x256 : Shape := ⟨2, ![32, 256]⟩

abbrev nBuf : Space → Nat
  | .hbm => 179
  | .vmem => 0
  | .smem => 0
  | _ => 0

abbrev hbmTy0_0 (i : Nat) : BufTy := match i % 128 with
  | 0 => ⟨S8192x3072, .f32⟩
  | 1 => ⟨S31x256, .f32⟩
  | 2 => ⟨S256, .f32⟩
  | 3 => ⟨S256, .f32⟩
  | 4 => ⟨S256, .f32⟩
  | 5 => ⟨S8192x256, .f32⟩
  | 6 => ⟨S8192x512, .f32⟩
  | 7 => ⟨S8192x256, .f32⟩
  | 8 => ⟨S8192x256, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S_, .f32⟩
  | 15 => ⟨S8192x256, .f32⟩
  | 16 => ⟨S8192x256, .f32⟩
  | 17 => ⟨S_, .f32⟩
  | 18 => ⟨S8192x256, .f32⟩
  | 19 => ⟨S8192x256, .f32⟩
  | 20 => ⟨S8192x256, .f32⟩
  | 21 => ⟨S8192x256, .f32⟩
  | 22 => ⟨S8192x8192x31x256, .i32⟩
  | 23 => ⟨S8192x8192x31x256, .i32⟩
  | 24 => ⟨S8192x8192x31x256, .i32⟩
  | 25 => ⟨S8192x8192x31x256, .i32⟩
  | 26 => ⟨S_, .i32⟩
  | 27 => ⟨S8192x8192x31x256, .i32⟩
  | 28 => ⟨S8192x8192x31x256, .i32⟩
  | 29 => ⟨S8192x8192x31x256, .i1⟩
  | 30 => ⟨S1x8192x1x256, .f32⟩
  | 31 => ⟨S_, .f32⟩
  | 32 => ⟨S_, .f32⟩
  | 33 => ⟨S8192x8192x31x256, .f32⟩
  | 34 => ⟨S8192x8192x31x256, .f32⟩
  | 35 => ⟨S8192x8192x31x256, .f32⟩
  | 36 => ⟨S_, .f32⟩
  | 37 => ⟨S8192x8192x31x256, .f32⟩
  | 38 => ⟨S_, .f32⟩
  | 39 => ⟨S8192x31x256, .f32⟩
  | 40 => ⟨S1x31x256, .f32⟩
  | 41 => ⟨S8192x31x256, .f32⟩
  | 42 => ⟨S8192x31x256, .f32⟩
  | 43 => ⟨S_, .f32⟩
  | 44 => ⟨S8192x256, .f32⟩
  | 45 => ⟨S1x256, .f32⟩
  | 46 => ⟨S8192x256, .f32⟩
  | 47 => ⟨S8192x256, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S8192x256, .f32⟩
  | 55 => ⟨S8192x256, .f32⟩
  | 56 => ⟨S8192x256, .f32⟩
  | 57 => ⟨S_, .f32⟩
  | 58 => ⟨S8192x256, .f32⟩
  | 59 => ⟨S8192x256, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S8192x256, .f32⟩
  | 67 => ⟨S8192x256, .f32⟩
  | 68 => ⟨S_, .f32⟩
  | 69 => ⟨S8192x1, .f32⟩
  | 70 => ⟨S8192x1, .f32⟩
  | 71 => ⟨S8192x1, .f32⟩
  | 72 => ⟨S8192x1, .f32⟩
  | 73 => ⟨S_, .f32⟩
  | 74 => ⟨S8192x1, .f32⟩
  | 75 => ⟨S8192x1, .f32⟩
  | 76 => ⟨S8192x256, .f32⟩
  | 77 => ⟨S8192x256, .f32⟩
  | 78 => ⟨S1x256, .f32⟩
  | 79 => ⟨S8192x256, .f32⟩
  | 80 => ⟨S8192x256, .f32⟩
  | 81 => ⟨S1x256, .f32⟩
  | 82 => ⟨S8192x256, .f32⟩
  | 83 => ⟨S8192x256, .f32⟩
  | 84 => ⟨S8192x256, .f32⟩
  | 85 => ⟨S8192x256, .f32⟩
  | 86 => ⟨S_, .f32⟩
  | 87 => ⟨S8192x256, .f32⟩
  | 88 => ⟨S8192x256, .f32⟩
  | 89 => ⟨S_, .f32⟩
  | 90 => ⟨S8192x256, .f32⟩
  | 91 => ⟨S8192x256, .f32⟩
  | 92 => ⟨S_, .f32⟩
  | 93 => ⟨S8192x256, .f32⟩
  | 94 => ⟨S8192x256, .f32⟩
  | 95 => ⟨S8192x256, .f32⟩
  | 96 => ⟨S8192x256, .f32⟩
  | 97 => ⟨S8192x256, .f32⟩
  | 98 => ⟨S8192x256, .f32⟩
  | 99 => ⟨S8192x256, .f32⟩
  | 100 => ⟨S8192x256, .f32⟩
  | 101 => ⟨S_, .f32⟩
  | 102 => ⟨S256, .f32⟩
  | 103 => ⟨S1x256, .f32⟩
  | 104 => ⟨S_, .f32⟩
  | 105 => ⟨S256, .f32⟩
  | 106 => ⟨S8192x256, .f32⟩
  | 107 => ⟨S_, .f32⟩
  | 108 => ⟨S256, .f32⟩
  | 109 => ⟨S1x256, .f32⟩
  | 110 => ⟨S8192x256, .f32⟩
  | 111 => ⟨S8192x256, .f32⟩
  | 112 => ⟨S_, .f32⟩
  | 113 => ⟨S256, .f32⟩
  | 114 => ⟨S8192x256, .f32⟩
  | 115 => ⟨S_, .f32⟩
  | 116 => ⟨S8192, .f32⟩
  | 117 => ⟨S8192x1, .f32⟩
  | 118 => ⟨S8192x256, .f32⟩
  | 119 => ⟨S8192x256, .f32⟩
  | 120 => ⟨S8192x1, .f32⟩
  | 121 => ⟨S8192x256, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S8192x3072, .f32⟩

abbrev hbmTy0_1 (i : Nat) : BufTy := match i % 128 with
  | 0 => ⟨S_, .f32⟩
  | 1 => ⟨S8192, .f32⟩
  | 2 => ⟨S8192x256, .f32⟩
  | 3 => ⟨S8192x256, .f32⟩
  | 4 => ⟨S8192x256, .f32⟩
  | 5 => ⟨S_, .f32⟩
  | 6 => ⟨S8192, .f32⟩
  | 7 => ⟨S8192x1, .f32⟩
  | 8 => ⟨S8192x256, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x256, .f32⟩
  | 16 => ⟨S8192x256, .f32⟩
  | 17 => ⟨S_, .f32⟩
  | 18 => ⟨S256, .f32⟩
  | 19 => ⟨S1x256, .f32⟩
  | 20 => ⟨S_, .f32⟩
  | 21 => ⟨S256, .f32⟩
  | 22 => ⟨S8192x31x256, .f32⟩
  | 23 => ⟨S8192x31x256, .f32⟩
  | 24 => ⟨S_, .f32⟩
  | 25 => ⟨S31x256, .f32⟩
  | 26 => ⟨S1x31x256, .f32⟩
  | 27 => ⟨S8192x31x256, .f32⟩
  | 28 => ⟨S8192x31x256, .f32⟩
  | 29 => ⟨S_, .f32⟩
  | 30 => ⟨S31x256, .f32⟩
  | 31 => ⟨S8192x8192x31x256, .f32⟩
  | 32 => ⟨S_, .f32⟩
  | 33 => ⟨S8192x8192x31x256, .f32⟩
  | 34 => ⟨S8192x8192x31x256, .f32⟩
  | 35 => ⟨S_, .f32⟩
  | 36 => ⟨S8192x256, .f32⟩
  | 37 => ⟨S1x8192x1x256, .f32⟩
  | 38 => ⟨S_, .f32⟩
  | 39 => ⟨S8192x256, .f32⟩
  | 40 => ⟨S8192x256, .f32⟩
  | 41 => ⟨S8192x256, .f32⟩
  | 42 => ⟨S8192x256, .f32⟩
  | 43 => ⟨S8192x512, .f32⟩
  | 44 => ⟨S8192x512, .bf16⟩
  | 45 => ⟨S_, .i32⟩
  | 46 => ⟨S_, .f32⟩
  | 47 => ⟨S32x256, .f32⟩
  | 48 => ⟨S1x256, .f32⟩
  | 49 => ⟨S1x256, .f32⟩
  | 50 => ⟨S1x256, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v21_0 : Ref sig .tc := ⟨.hbm, 35, rfl⟩
abbrev main_call0_cst : Ref sig .tc := ⟨.hbm, 36, rfl⟩
abbrev main_v21_1 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_v59_2 : Ref sig .tc := ⟨.hbm, 91, rfl⟩
abbrev main_call1_cst_1 : Ref sig .tc := ⟨.hbm, 92, rfl⟩
abbrev main_call1_v6 : Ref sig .tc := ⟨.hbm, 93, rfl⟩
abbrev main_call1_v7 : Ref sig .tc := ⟨.hbm, 94, rfl⟩
abbrev main_v59_1 : Ref sig .tc := ⟨.hbm, 95, rfl⟩
abbrev main_v59_0 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_v60 : Ref sig .tc := ⟨.hbm, 100, rfl⟩
abbrev main_cst_12 : Ref sig .tc := ⟨.hbm, 101, rfl⟩
abbrev main_v61 : Ref sig .tc := ⟨.hbm, 102, rfl⟩
abbrev main_v62 : Ref sig .tc := ⟨.hbm, 103, rfl⟩
abbrev main_cst_13 : Ref sig .tc := ⟨.hbm, 104, rfl⟩
abbrev main_v63 : Ref sig .tc := ⟨.hbm, 105, rfl⟩
abbrev main_v64 : Ref sig .tc := ⟨.hbm, 106, rfl⟩
abbrev main_cst_14 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_15 : Ref sig .tc := ⟨.hbm, 112, rfl⟩
abbrev main_v69 : Ref sig .tc := ⟨.hbm, 113, rfl⟩
abbrev main_v70 : Ref sig .tc := ⟨.hbm, 114, rfl⟩
abbrev main_cst_16 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_17 : Ref sig .tc := ⟨.hbm, 122, rfl⟩
abbrev main_v77 : Ref sig .tc := ⟨.hbm, 123, rfl⟩
abbrev main_v78 : Ref sig .tc := ⟨.hbm, 124, rfl⟩
abbrev main_cst_18 : Ref sig .tc := ⟨.hbm, 125, rfl⟩
abbrev main_v79 : Ref sig .tc := ⟨.hbm, 126, rfl⟩
abbrev main_v80 : Ref sig .tc := ⟨.hbm, 127, rfl⟩
abbrev main_cst_19 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_20 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_21 : Ref sig .tc := ⟨.hbm, 138, rfl⟩
abbrev main_v89 : Ref sig .tc := ⟨.hbm, 139, rfl⟩
abbrev main_v90 : Ref sig .tc := ⟨.hbm, 140, rfl⟩
abbrev main_cst_22 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_23 : Ref sig .tc := ⟨.hbm, 145, rfl⟩
abbrev main_v94 : Ref sig .tc := ⟨.hbm, 146, rfl⟩
abbrev main_v95 : Ref sig .tc := ⟨.hbm, 147, rfl⟩
abbrev main_cst_24 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_cst_25 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_26 : Ref sig .tc := ⟨.hbm, 157, rfl⟩
abbrev main_v103 : Ref sig .tc := ⟨.hbm, 158, rfl⟩
abbrev main_v104 : Ref sig .tc := ⟨.hbm, 159, rfl⟩
abbrev main_call3_cst : Ref sig .tc := ⟨.hbm, 160, rfl⟩
abbrev main_call3_v0 : Ref sig .tc := ⟨.hbm, 161, rfl⟩
abbrev main_call3_v1 : Ref sig .tc := ⟨.hbm, 162, rfl⟩
abbrev main_call3_cst_0 : Ref sig .tc := ⟨.hbm, 163, rfl⟩
abbrev main_call3_v2 : Ref sig .tc := ⟨.hbm, 164, rfl⟩
abbrev main_v105 : Ref sig .tc := ⟨.hbm, 165, rfl⟩
abbrev main_cst_27 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_c_28 : Ref sig .tc := ⟨.hbm, 173, rfl⟩
abbrev main_call4_v0 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩

abbrev nD : Nat := 1
abbrev τ : Topo := Topo.v7x

variable {F : FTy → Type} [FloatOps F]
-- ==== RetState.lean ====
abbrev S8192x512 : Shape := ⟨2, ![8192, 512]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S128 : Shape := ⟨1, ![128]⟩
abbrev S128x1 : Shape := ⟨2, ![128, 1]⟩
abbrev S128x64 : Shape := ⟨2, ![128, 64]⟩
abbrev S64x1x64 : Shape := ⟨3, ![64, 1, 64]⟩
abbrev S1x128x64 : Shape := ⟨3, ![1, 128, 64]⟩
abbrev S64x128x64 : Shape := ⟨3, ![64, 128, 64]⟩
abbrev S8192x64 : Shape := ⟨2, ![8192, 64]⟩
abbrev S8192x128 : Shape := ⟨2, ![8192, 128]⟩
abbrev S4 : Shape := ⟨1, ![4]⟩
abbrev S4x1 : Shape := ⟨2, ![4, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S4x128x1 : Shape := ⟨3, ![4, 128, 1]⟩
abbrev S512x1 : Shape := ⟨2, ![512, 1]⟩
abbrev S1x512 : Shape := ⟨2, ![1, 512]⟩
abbrev S8192 : Shape := ⟨1, ![8192]⟩
abbrev S8192x1 : Shape := ⟨2, ![8192, 1]⟩
abbrev S8192x1x64 : Shape := ⟨3, ![8192, 1, 64]⟩
abbrev S8192x4x128 : Shape := ⟨3, ![8192, 4, 128]⟩
abbrev S8192x4x64 : Shape := ⟨3, ![8192, 4, 64]⟩
abbrev S8192x1024 : Shape := ⟨2, ![8192, 1024]⟩
abbrev S64x128x512 : Shape := ⟨3, ![64, 128, 512]⟩
abbrev S1024x512 : Shape := ⟨2, ![1024, 512]⟩
abbrev S8x128x512 : Shape := ⟨3, ![8, 128, 512]⟩
abbrev S1x128x512 : Shape := ⟨3, ![1, 128, 512]⟩

abbrev nBuf : Space → Nat
  | .hbm => 229
  | .vmem => 18
  | .smem => 0
  | _ => 0

abbrev hbmTy0_0 (i : Nat) : BufTy := match i % 128 with
  | 0 => ⟨S8192x512, .f32⟩
  | 1 => ⟨S8192x512, .f32⟩
  | 2 => ⟨S64, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S64, .f32⟩
  | 11 => ⟨S_, .f32⟩
  | 12 => ⟨S64, .f32⟩
  | 13 => ⟨S64, .f32⟩
  | 14 => ⟨S64x1, .f32⟩
  | 15 => ⟨S1x64, .f32⟩
  | 16 => ⟨S64x64, .f32⟩
  | 17 => ⟨S64x64, .f32⟩
  | 18 => ⟨S64x64, .f32⟩
  | 19 => ⟨S128, .f32⟩
  | 20 => ⟨S128x1, .f32⟩
  | 21 => ⟨S1x64, .f32⟩
  | 22 => ⟨S128x64, .f32⟩
  | 23 => ⟨S128x64, .f32⟩
  | 24 => ⟨S128x64, .f32⟩
  | 25 => ⟨S64x64, .f32⟩
  | 26 => ⟨S64x1x64, .f32⟩
  | 27 => ⟨S64x64, .f32⟩
  | 28 => ⟨S64x1x64, .f32⟩
  | 29 => ⟨S128x64, .f32⟩
  | 30 => ⟨S1x128x64, .f32⟩
  | 31 => ⟨S128x64, .f32⟩
  | 32 => ⟨S1x128x64, .f32⟩
  | 33 => ⟨S64x128x64, .f32⟩
  | 34 => ⟨S64x128x64, .f32⟩
  | 35 => ⟨S64x128x64, .f32⟩
  | 36 => ⟨S64x128x64, .f32⟩
  | 37 => ⟨S64x128x64, .f32⟩
  | 38 => ⟨S64x128x64, .f32⟩
  | 39 => ⟨S64x128x64, .f32⟩
  | 40 => ⟨S8192x64, .f32⟩
  | 41 => ⟨S64x128x64, .f32⟩
  | 42 => ⟨S64x128x64, .f32⟩
  | 43 => ⟨S64x128x64, .f32⟩
  | 44 => ⟨S64x128x64, .f32⟩
  | 45 => ⟨S64x128x64, .f32⟩
  | 46 => ⟨S64x128x64, .f32⟩
  | 47 => ⟨S64x128x64, .f32⟩
  | 48 => ⟨S8192x64, .f32⟩
  | 49 => ⟨S8192x128, .f32⟩
  | 50 => ⟨S8192x64, .f32⟩
  | 51 => ⟨S8192x128, .f32⟩
  | 52 => ⟨S4, .f32⟩
  | 53 => ⟨S_, .f32⟩
  | 54 => ⟨S4, .f32⟩
  | 55 => ⟨S4, .f32⟩
  | 56 => ⟨S_, .f32⟩
  | 57 => ⟨S4, .f32⟩
  | 58 => ⟨S4, .f32⟩
  | 59 => ⟨S4, .f32⟩
  | 60 => ⟨S_, .f32⟩
  | 61 => ⟨S4, .f32⟩
  | 62 => ⟨S4, .f32⟩
  | 63 => ⟨S4, .f32⟩
  | 64 => ⟨S4x1, .f32⟩
  | 65 => ⟨S4, .f32⟩
  | 66 => ⟨S4, .f32⟩
  | 67 => ⟨S4x1, .f32⟩
  | 68 => ⟨S128, .f32⟩
  | 69 => ⟨S128x1, .f32⟩
  | 70 => ⟨S1x128, .f32⟩
  | 71 => ⟨S128x128, .f32⟩
  | 72 => ⟨S128x128, .f32⟩
  | 73 => ⟨S128x128, .f32⟩
  | 74 => ⟨S_, .f32⟩
  | 75 => ⟨S128x128, .f32⟩
  | 76 => ⟨S128x128, .i1⟩
  | 77 => ⟨S4x1x1, .f32⟩
  | 78 => ⟨S_, .f32⟩
  | 79 => ⟨S128x128, .f32⟩
  | 80 => ⟨S128x128, .i1⟩
  | 81 => ⟨S_, .f32⟩
  | 82 => ⟨S_, .f32⟩
  | 83 => ⟨S128x128, .f32⟩
  | 84 => ⟨S128x128, .f32⟩
  | 85 => ⟨S1x128x128, .f32⟩
  | 86 => ⟨S4x128x128, .f32⟩
  | 87 => ⟨S4x128x128, .f32⟩
  | 88 => ⟨S4x128x128, .f32⟩
  | 89 => ⟨S4x128x128, .f32⟩
  | 90 => ⟨S_, .f32⟩
  | 91 => ⟨S_, .f32⟩
  | 92 => ⟨S4x128x128, .i1⟩
  | 93 => ⟨S4x128x128, .f32⟩
  | 94 => ⟨S4x128x128, .f32⟩
  | 95 => ⟨S_, .f32⟩
  | 96 => ⟨S128x128, .f32⟩
  | 97 => ⟨S128x128, .i1⟩
  | 98 => ⟨S4x1x1, .f32⟩
  | 99 => ⟨S_, .f32⟩
  | 100 => ⟨S128x128, .f32⟩
  | 101 => ⟨S128x128, .i1⟩
  | 102 => ⟨S128x128, .f32⟩
  | 103 => ⟨S_, .f32⟩
  | 104 => ⟨S_, .f32⟩
  | 105 => ⟨S128x128, .f32⟩
  | 106 => ⟨S128x128, .f32⟩
  | 107 => ⟨S1x128x128, .f32⟩
  | 108 => ⟨S4x128x128, .f32⟩
  | 109 => ⟨S4x128x128, .f32⟩
  | 110 => ⟨S4x128x128, .f32⟩
  | 111 => ⟨S4x128x128, .f32⟩
  | 112 => ⟨S_, .f32⟩
  | 113 => ⟨S_, .f32⟩
  | 114 => ⟨S4x128x128, .i1⟩
  | 115 => ⟨S4x128x128, .f32⟩
  | 116 => ⟨S4x128x128, .f32⟩
  | 117 => ⟨S4x128x128, .f32⟩
  | 118 => ⟨S4x128x128, .f32⟩
  | 119 => ⟨S_, .f32⟩
  | 120 => ⟨S128, .f32⟩
  | 121 => ⟨S128, .f32⟩
  | 122 => ⟨S1x128, .f32⟩
  | 123 => ⟨S4x128, .f32⟩
  | 124 => ⟨S4x128, .f32⟩
  | 125 => ⟨S4x128, .f32⟩
  | 126 => ⟨S4x128, .f32⟩
  | 127 => ⟨S128x4, .f32⟩
  | _ => ⟨S8192x512, .f32⟩

abbrev hbmTy0_1 (i : Nat) : BufTy := match i % 128 with
  | 0 => ⟨S128x4x128, .f32⟩
  | 1 => ⟨S128x512, .f32⟩
  | 2 => ⟨S_, .f32⟩
  | 3 => ⟨S128, .f32⟩
  | 4 => ⟨S128, .f32⟩
  | 5 => ⟨S1x128, .f32⟩
  | 6 => ⟨S4x128, .f32⟩
  | 7 => ⟨S4x128, .f32⟩
  | 8 => ⟨S4x128, .f32⟩
  | 9 => ⟨S4x128, .f32⟩
  | 10 => ⟨S128x4, .f32⟩
  | 11 => ⟨S128x4x128, .f32⟩
  | 12 => ⟨S128x512, .f32⟩
  | 13 => ⟨S_, .f32⟩
  | 14 => ⟨S128, .f32⟩
  | 15 => ⟨S128, .f32⟩
  | 16 => ⟨S1x128, .f32⟩
  | 17 => ⟨S4x128, .f32⟩
  | 18 => ⟨S4x128, .f32⟩
  | 19 => ⟨S4x128, .f32⟩
  | 20 => ⟨S4x128, .f32⟩
  | 21 => ⟨S128x4, .f32⟩
  | 22 => ⟨S128x4x128, .f32⟩
  | 23 => ⟨S128x512, .f32⟩
  | 24 => ⟨S1x128, .f32⟩
  | 25 => ⟨S4x128, .f32⟩
  | 26 => ⟨S4x128, .f32⟩
  | 27 => ⟨S4x128, .f32⟩
  | 28 => ⟨S4x128, .f32⟩
  | 29 => ⟨S128x4, .f32⟩
  | 30 => ⟨S128x4x128, .f32⟩
  | 31 => ⟨S128x512, .f32⟩
  | 32 => ⟨S_, .f32⟩
  | 33 => ⟨S4x1, .f32⟩
  | 34 => ⟨S4x1, .f32⟩
  | 35 => ⟨S4x1, .f32⟩
  | 36 => ⟨S4x128x1, .f32⟩
  | 37 => ⟨S512x1, .f32⟩
  | 38 => ⟨S1x512, .f32⟩
  | 39 => ⟨S_, .f32⟩
  | 40 => ⟨S4x1, .f32⟩
  | 41 => ⟨S4x1, .f32⟩
  | 42 => ⟨S4x1, .f32⟩
  | 43 => ⟨S4x128x1, .f32⟩
  | 44 => ⟨S512x1, .f32⟩
  | 45 => ⟨S1x512, .f32⟩
  | 46 => ⟨S64, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S8192, .f32⟩
  | 55 => ⟨S8192x1, .f32⟩
  | 56 => ⟨S1x64, .f32⟩
  | 57 => ⟨S8192x64, .f32⟩
  | 58 => ⟨S8192x64, .f32⟩
  | 59 => ⟨S8192x64, .f32⟩
  | 60 => ⟨S8192x64, .f32⟩
  | 61 => ⟨S8192x1x64, .f32⟩
  | 62 => ⟨S8192x64, .f32⟩
  | 63 => ⟨S8192x1x64, .f32⟩
  | 64 => ⟨S8192x4x128, .f32⟩
  | 65 => ⟨S8192x4x64, .f32⟩
  | 66 => ⟨S8192x4x64, .f32⟩
  | 67 => ⟨S8192x4x64, .f32⟩
  | 68 => ⟨S8192x4x64, .f32⟩
  | 69 => ⟨S8192x4x64, .f32⟩
  | 70 => ⟨S8192x4x64, .f32⟩
  | 71 => ⟨S8192x4x64, .f32⟩
  | 72 => ⟨S8192x4x64, .f32⟩
  | 73 => ⟨S8192x4x64, .f32⟩
  | 74 => ⟨S8192x4x64, .f32⟩
  | 75 => ⟨S8192x4x64, .f32⟩
  | 76 => ⟨S8192x4x64, .f32⟩
  | 77 => ⟨S8192x4x128, .f32⟩
  | 78 => ⟨S8192x4x128, .f32⟩
  | 79 => ⟨S8192x4x64, .f32⟩
  | 80 => ⟨S8192x4x64, .f32⟩
  | 81 => ⟨S8192x4x64, .f32⟩
  | 82 => ⟨S8192x4x64, .f32⟩
  | 83 => ⟨S8192x4x64, .f32⟩
  | 84 => ⟨S8192x4x64, .f32⟩
  | 85 => ⟨S8192x4x64, .f32⟩
  | 86 => ⟨S8192x4x64, .f32⟩
  | 87 => ⟨S8192x4x64, .f32⟩
  | 88 => ⟨S8192x4x64, .f32⟩
  | 89 => ⟨S8192x4x64, .f32⟩
  | 90 => ⟨S8192x4x64, .f32⟩
  | 91 => ⟨S8192x4x128, .f32⟩
  | 92 => ⟨S_, .f32⟩
  | 93 => ⟨S8192x4x128, .f32⟩
  | 94 => ⟨S8192x4x128, .f32⟩
  | 95 => ⟨S8192x4x128, .f32⟩
  | 96 => ⟨S8192x512, .f32⟩
  | 97 => ⟨S8192x1024, .f32⟩
  | 98 => ⟨S8192x1024, .bf16⟩
  | 99 => ⟨S64x128x512, .bf16⟩
  | 100 => ⟨S64x128x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S1x512, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S8x128x512, .bf16⟩
  | .local _ .vmem, ⟨13, _⟩ => ⟨S8x128x512, .bf16⟩
  | .local _ .vmem, ⟨14, _⟩ => ⟨S8x128x512, .bf16⟩
  | .local _ .vmem, ⟨15, _⟩ => ⟨S8x128x512, .bf16⟩
  | .local _ .vmem, ⟨16, _⟩ => ⟨S128x512, .f32⟩
  | .local _ .vmem, ⟨17, _⟩ => ⟨S128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_cst_2 : Ref sig .tc := ⟨.hbm, 53, rfl⟩
abbrev main_v48 : Ref sig .tc := ⟨.hbm, 54, rfl⟩
abbrev main_v49 : Ref sig .tc := ⟨.hbm, 55, rfl⟩
abbrev main_cst_3 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_4 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_5 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_cst_6 : Ref sig .tc := ⟨.hbm, 78, rfl⟩
abbrev main_v69 : Ref sig .tc := ⟨.hbm, 79, rfl⟩
abbrev main_v70 : Ref sig .tc := ⟨.hbm, 80, rfl⟩
abbrev main_cst_7 : Ref sig .tc := ⟨.hbm, 81, rfl⟩
abbrev main_call0_v0 : Ref sig .tc := ⟨.hbm, 82, rfl⟩
abbrev main_call0_v1 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_8 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v77 : Ref sig .tc := ⟨.hbm, 94, rfl⟩
abbrev main_cst_9 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_10 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_11 : Ref sig .tc := ⟨.hbm, 103, rfl⟩
abbrev main_call2_v0 : Ref sig .tc := ⟨.hbm, 104, rfl⟩
abbrev main_call2_v1 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_12 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_13 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_14 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_15 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_16 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_17 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_18 : Ref sig .tc := ⟨.hbm, 176, rfl⟩
abbrev main_v145 : Ref sig .tc := ⟨.hbm, 177, rfl⟩
abbrev main_v146 : Ref sig .tc := ⟨.hbm, 178, rfl⟩
abbrev main_cst_19 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_cst_20 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193_0 : Ref sig .tc := ⟨.hbm, 227, rfl⟩
abbrev main_v193_1 : Ref sig .tc := ⟨.hbm, 228, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RetStateRefIdeal.lean ====
abbrev S8192x512 : Shape := ⟨2, ![8192, 512]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S4 : Shape := ⟨1, ![4]⟩
abbrev S8192x4x128 : Shape := ⟨3, ![8192, 4, 128]⟩
abbrev S8192x4x64 : Shape := ⟨3, ![8192, 4, 64]⟩
abbrev S4x1x1 : Shape := ⟨3, ![4, 1, 1]⟩
abbrev S64x1 : Shape := ⟨2, ![64, 1]⟩
abbrev S1x8192 : Shape := ⟨2, ![1, 8192]⟩
abbrev S64x8192 : Shape := ⟨2, ![64, 8192]⟩
abbrev S1x64x8192 : Shape := ⟨3, ![1, 64, 8192]⟩
abbrev S4x64x8192 : Shape := ⟨3, ![4, 64, 8192]⟩
abbrev S4x64x8192x1 : Shape := ⟨4, ![4, 64, 8192, 1]⟩
abbrev S4x8192x128 : Shape := ⟨3, ![4, 8192, 128]⟩
abbrev S4x1x8192x128 : Shape := ⟨4, ![4, 1, 8192, 128]⟩
abbrev S4x64x8192x128 : Shape := ⟨4, ![4, 64, 8192, 128]⟩
abbrev S4x128x64x128 : Shape := ⟨4, ![4, 128, 64, 128]⟩
abbrev S64x4x128x128 : Shape := ⟨4, ![64, 4, 128, 128]⟩
abbrev S64x128x4x128 : Shape := ⟨4, ![64, 128, 4, 128]⟩
abbrev S64x128x512 : Shape := ⟨3, ![64, 128, 512]⟩

abbrev nBuf : Space → Nat
  | .hbm => 159
  | .vmem => 0
  | .smem => 0
  | _ => 0

abbrev hbmTy0_0 (i : Nat) : BufTy := match i % 128 with
  | 0 => ⟨S8192x512, .f32⟩
  | 1 => ⟨S8192x512, .f32⟩
  | 2 => ⟨S64, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S8192, .f32⟩
  | 11 => ⟨S8192x1, .f32⟩
  | 12 => ⟨S1x64, .f32⟩
  | 13 => ⟨S8192x64, .f32⟩
  | 14 => ⟨S8192x64, .f32⟩
  | 15 => ⟨S8192x64, .f32⟩
  | 16 => ⟨S8192x64, .f32⟩
  | 17 => ⟨S8192x1x64, .f32⟩
  | 18 => ⟨S8192x64, .f32⟩
  | 19 => ⟨S8192x1x64, .f32⟩
  | 20 => ⟨S4, .f32⟩
  | 21 => ⟨S_, .f32⟩
  | 22 => ⟨S4, .f32⟩
  | 23 => ⟨S4, .f32⟩
  | 24 => ⟨S_, .f32⟩
  | 25 => ⟨S4, .f32⟩
  | 26 => ⟨S4, .f32⟩
  | 27 => ⟨S4, .f32⟩
  | 28 => ⟨S_, .f32⟩
  | 29 => ⟨S4, .f32⟩
  | 30 => ⟨S4, .f32⟩
  | 31 => ⟨S4, .f32⟩
  | 32 => ⟨S8192x4x128, .f32⟩
  | 33 => ⟨S8192x4x64, .f32⟩
  | 34 => ⟨S8192x4x64, .f32⟩
  | 35 => ⟨S8192x4x64, .f32⟩
  | 36 => ⟨S8192x4x64, .f32⟩
  | 37 => ⟨S8192x4x64, .f32⟩
  | 38 => ⟨S8192x4x64, .f32⟩
  | 39 => ⟨S8192x4x64, .f32⟩
  | 40 => ⟨S8192x4x64, .f32⟩
  | 41 => ⟨S8192x4x64, .f32⟩
  | 42 => ⟨S8192x4x64, .f32⟩
  | 43 => ⟨S8192x4x64, .f32⟩
  | 44 => ⟨S8192x4x64, .f32⟩
  | 45 => ⟨S8192x4x128, .f32⟩
  | 46 => ⟨S8192x4x128, .f32⟩
  | 47 => ⟨S8192x4x64, .f32⟩
  | 48 => ⟨S8192x4x64, .f32⟩
  | 49 => ⟨S8192x4x64, .f32⟩
  | 50 => ⟨S8192x4x64, .f32⟩
  | 51 => ⟨S8192x4x64, .f32⟩
  | 52 => ⟨S8192x4x64, .f32⟩
  | 53 => ⟨S8192x4x64, .f32⟩
  | 54 => ⟨S8192x4x64, .f32⟩
  | 55 => ⟨S8192x4x64, .f32⟩
  | 56 => ⟨S8192x4x64, .f32⟩
  | 57 => ⟨S8192x4x64, .f32⟩
  | 58 => ⟨S8192x4x64, .f32⟩
  | 59 => ⟨S8192x4x128, .f32⟩
  | 60 => ⟨S_, .f32⟩
  | 61 => ⟨S8192x4x128, .f32⟩
  | 62 => ⟨S8192x4x128, .f32⟩
  | 63 => ⟨S8192x4x128, .f32⟩
  | 64 => ⟨S4, .f32⟩
  | 65 => ⟨S4x1x1, .f32⟩
  | 66 => ⟨S64, .f32⟩
  | 67 => ⟨S_, .f32⟩
  | 68 => ⟨S64, .f32⟩
  | 69 => ⟨S64, .f32⟩
  | 70 => ⟨S64x1, .f32⟩
  | 71 => ⟨S_, .f32⟩
  | 72 => ⟨S64x1, .f32⟩
  | 73 => ⟨S64x1, .f32⟩
  | 74 => ⟨S8192, .f32⟩
  | 75 => ⟨S1x8192, .f32⟩
  | 76 => ⟨S64x8192, .f32⟩
  | 77 => ⟨S64x8192, .f32⟩
  | 78 => ⟨S64x8192, .f32⟩
  | 79 => ⟨S_, .f32⟩
  | 80 => ⟨S64x8192, .f32⟩
  | 81 => ⟨S64x8192, .i1⟩
  | 82 => ⟨S_, .f32⟩
  | 83 => ⟨S64x8192, .f32⟩
  | 84 => ⟨S64x8192, .i1⟩
  | 85 => ⟨S_, .f32⟩
  | 86 => ⟨S_, .f32⟩
  | 87 => ⟨S64x8192, .f32⟩
  | 88 => ⟨S64x8192, .f32⟩
  | 89 => ⟨S1x64x8192, .f32⟩
  | 90 => ⟨S4x64x8192, .f32⟩
  | 91 => ⟨S4x64x8192, .f32⟩
  | 92 => ⟨S4x64x8192, .f32⟩
  | 93 => ⟨S4x64x8192, .f32⟩
  | 94 => ⟨S_, .f32⟩
  | 95 => ⟨S_, .f32⟩
  | 96 => ⟨S4x64x8192, .i1⟩
  | 97 => ⟨S4x64x8192, .f32⟩
  | 98 => ⟨S4x64x8192, .f32⟩
  | 99 => ⟨S4x64x8192x1, .f32⟩
  | 100 => ⟨S4x8192x128, .f32⟩
  | 101 => ⟨S4x1x8192x128, .f32⟩
  | 102 => ⟨S4x64x8192x128, .f32⟩
  | 103 => ⟨S4x64x8192x128, .f32⟩
  | 104 => ⟨S4x64x8192x128, .f32⟩
  | 105 => ⟨S4x128x64x128, .f32⟩
  | 106 => ⟨S64x4x128x128, .f32⟩
  | 107 => ⟨S8192x4x128, .f32⟩
  | 108 => ⟨S8192x4x128, .f32⟩
  | 109 => ⟨S4, .f32⟩
  | 110 => ⟨S4x1x1, .f32⟩
  | 111 => ⟨S64, .f32⟩
  | 112 => ⟨S_, .f32⟩
  | 113 => ⟨S64, .f32⟩
  | 114 => ⟨S64, .f32⟩
  | 115 => ⟨S64x1, .f32⟩
  | 116 => ⟨S_, .f32⟩
  | 117 => ⟨S64x1, .f32⟩
  | 118 => ⟨S64x1, .f32⟩
  | 119 => ⟨S8192, .f32⟩
  | 120 => ⟨S1x8192, .f32⟩
  | 121 => ⟨S64x8192, .f32⟩
  | 122 => ⟨S64x8192, .f32⟩
  | 123 => ⟨S64x8192, .f32⟩
  | 124 => ⟨S_, .f32⟩
  | 125 => ⟨S64x8192, .f32⟩
  | 126 => ⟨S64x8192, .i1⟩
  | 127 => ⟨S_, .f32⟩
  | _ => ⟨S8192x512, .f32⟩

abbrev hbmTy0_1 (i : Nat) : BufTy := match i % 128 with
  | 0 => ⟨S64x8192, .f32⟩
  | 1 => ⟨S64x8192, .i1⟩
  | 2 => ⟨S_, .f32⟩
  | 3 => ⟨S_, .f32⟩
  | 4 => ⟨S64x8192, .f32⟩
  | 5 => ⟨S64x8192, .f32⟩
  | 6 => ⟨S1x64x8192, .f32⟩
  | 7 => ⟨S4x64x8192, .f32⟩
  | 8 => ⟨S4x64x8192, .f32⟩
  | 9 => ⟨S4x64x8192, .f32⟩
  | 10 => ⟨S4x64x8192, .f32⟩
  | 11 => ⟨S_, .f32⟩
  | 12 => ⟨S_, .f32⟩
  | 13 => ⟨S4x64x8192, .i1⟩
  | 14 => ⟨S4x64x8192, .f32⟩
  | 15 => ⟨S4x64x8192, .f32⟩
  | 16 => ⟨S4x64x8192x1, .f32⟩
  | 17 => ⟨S4x8192x128, .f32⟩
  | 18 => ⟨S4x1x8192x128, .f32⟩
  | 19 => ⟨S4x64x8192x128, .f32⟩
  | 20 => ⟨S4x64x8192x128, .f32⟩
  | 21 => ⟨S4x64x8192x128, .f32⟩
  | 22 => ⟨S4x128x64x128, .f32⟩
  | 23 => ⟨S64x4x128x128, .f32⟩
  | 24 => ⟨S64x128x4x128, .f32⟩
  | 25 => ⟨S64x128x512, .f32⟩
  | 26 => ⟨S64x128x512, .bf16⟩
  | 27 => ⟨S64x4x128x128, .f32⟩
  | 28 => ⟨S64x128x4x128, .f32⟩
  | 29 => ⟨S64x128x512, .f32⟩
  | 30 => ⟨S64x128x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_4 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_5 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_6 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_7 : Ref sig .tc := ⟨.hbm, 79, rfl⟩
abbrev main_v69 : Ref sig .tc := ⟨.hbm, 80, rfl⟩
abbrev main_v70 : Ref sig .tc := ⟨.hbm, 81, rfl⟩
abbrev main_cst_8 : Ref sig .tc := ⟨.hbm, 82, rfl⟩
abbrev main_v71 : Ref sig .tc := ⟨.hbm, 83, rfl⟩
abbrev main_v72 : Ref sig .tc := ⟨.hbm, 84, rfl⟩
abbrev main_cst_9 : Ref sig .tc := ⟨.hbm, 85, rfl⟩
abbrev main_call0_v0 : Ref sig .tc := ⟨.hbm, 86, rfl⟩
abbrev main_call0_v1 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_10 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_11 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_12 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_13 : Ref sig .tc := ⟨.hbm, 124, rfl⟩
abbrev main_v103 : Ref sig .tc := ⟨.hbm, 125, rfl⟩
abbrev main_v104 : Ref sig .tc := ⟨.hbm, 126, rfl⟩
abbrev main_cst_14 : Ref sig .tc := ⟨.hbm, 127, rfl⟩
abbrev main_v105 : Ref sig .tc := ⟨.hbm, 128, rfl⟩
abbrev main_v106 : Ref sig .tc := ⟨.hbm, 129, rfl⟩
abbrev main_cst_15 : Ref sig .tc := ⟨.hbm, 130, rfl⟩
abbrev main_call4_v0 : Ref sig .tc := ⟨.hbm, 131, rfl⟩
abbrev main_call4_v1 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_16 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩

abbrev nD : Nat := 1
abbrev τ : Topo := Topo.v7x

variable {F : FTy → Type} [FloatOps F]
-- ==== FfnOut.lean ====
abbrev S8192x5632 : Shape := ⟨2, ![8192, 5632]⟩
abbrev S2816x1024 : Shape := ⟨2, ![2816, 1024]⟩
abbrev S8192x1024 : Shape := ⟨2, ![8192, 1024]⟩
abbrev S512x5632 : Shape := ⟨2, ![512, 5632]⟩
abbrev S512x1024 : Shape := ⟨2, ![512, 1024]⟩
abbrev S512x2816 : Shape := ⟨2, ![512, 2816]⟩

abbrev nBuf : Space → Nat
  | .hbm => 6
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x5632, .bf16⟩
  | .hbm, ⟨4, _⟩ => ⟨S2816x1024, .bf16⟩
  | .hbm, ⟨5, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnOutRefIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x1024, .f32⟩
  | .hbm, ⟨16, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== FfnNorm.lean ====
abbrev S8192x1024 : Shape := ⟨2, ![8192, 1024]⟩
abbrev S1x1024 : Shape := ⟨2, ![1, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S8192x5632 : Shape := ⟨2, ![8192, 5632]⟩
abbrev S1024x8192 : Shape := ⟨2, ![1024, 8192]⟩
abbrev S512x1024 : Shape := ⟨2, ![512, 1024]⟩
abbrev S512x5632 : Shape := ⟨2, ![512, 5632]⟩
abbrev S1024x512 : Shape := ⟨2, ![1024, 512]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S1024x4x1408, .f32⟩
  | .hbm, ⟨4, _⟩ => ⟨S4x1024x1408, .f32⟩
  | .hbm, ⟨5, _⟩ => ⟨S4x1024x1408, .bf16⟩
  | .hbm, ⟨6, _⟩ => ⟨S8192x5632, .bf16⟩
  | .hbm, ⟨7, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S512x5632, .bf16⟩
  | .local _ .vmem, ⟨5, _⟩ => ⟨S512x5632, .bf16⟩
  | .local _ .vmem, ⟨6, _⟩ => ⟨S1024x512, .bf16⟩
  | .local _ .vmem, ⟨7, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnNormRefIdeal.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1024x8192 : Shape := ⟨2, ![1024, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x5632, .f32⟩
  | .hbm, ⟨19, _⟩ => ⟨S8192x5632, .bf16⟩
  | .hbm, ⟨20, _⟩ => ⟨S1024x8192, .f32⟩
  | .hbm, ⟨21, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OutFwd.lean ====
abbrev S8192x256 : Shape := ⟨2, ![8192, 256]⟩
abbrev S8192x512 : Shape := ⟨2, ![8192, 512]⟩
abbrev S1024x1024 : Shape := ⟨2, ![1024, 1024]⟩
abbrev S8192x1024 : Shape := ⟨2, ![8192, 1024]⟩
abbrev S512x256 : Shape := ⟨2, ![512, 256]⟩
abbrev S512x512 : Shape := ⟨2, ![512, 512]⟩
abbrev S512x1024 : Shape := ⟨2, ![512, 1024]⟩
abbrev S256x1024 : Shape := ⟨2, ![256, 1024]⟩

abbrev nBuf : Space → Nat
  | .hbm => 10
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .f32⟩
  | .hbm, ⟨3, _⟩ => ⟨S1024x1024, .f32⟩
  | .hbm, ⟨4, _⟩ => ⟨S8192x1024, .f32⟩
  | .hbm, ⟨5, _⟩ => ⟨S8192x256, .bf16⟩
  | .hbm, ⟨6, _⟩ => ⟨S8192x512, .bf16⟩
  | .hbm, ⟨7, _⟩ => ⟨S8192x256, .bf16⟩
  | .hbm, ⟨8, _⟩ => ⟨S1024x1024, .bf16⟩
  | .hbm, ⟨9, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwdRefIdeal.lean ====
abbrev S8192x256 : Shape := ⟨2, ![8192, 256]⟩
abbrev S8192x512 : Shape := ⟨2, ![8192, 512]⟩
abbrev S1024x1024 : Shape := ⟨2, ![1024, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Adam.lean ====
abbrev S2048x768 : Shape := ⟨2, ![2048, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FfnDw.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S4x1024x1408 : Shape := ⟨3, ![4, 1024, 1408]⟩
abbrev S1024x2048 : Shape := ⟨2, ![1024, 2048]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 23
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x8192, .f32⟩
  | .hbm, ⟨20, _⟩ => ⟨S1024x8192, .bf16⟩
  | .hbm, ⟨21, _⟩ => ⟨S8192x5632, .bf16⟩
  | .hbm, ⟨22, _⟩ => ⟨S4x1024x1408, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDwRefIdeal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x5632, .f32⟩
  | .hbm, ⟨20, _⟩ => ⟨S5632x1024, .f32⟩
  | .hbm, ⟨21, _⟩ => ⟨S1024x5632, .f32⟩
  | .hbm, ⟨22, _⟩ => ⟨S1024x5632, .bf16⟩
  | .hbm, ⟨23, _⟩ => ⟨S1024x4x1408, .bf16⟩
  | .hbm, ⟨24, _⟩ => ⟨S4x1024x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== OutDw.lean ====
abbrev S8192x256 : Shape := ⟨2, ![8192, 256]⟩
abbrev S8192x512 : Shape := ⟨2, ![8192, 512]⟩
abbrev S1024x1024 : Shape := ⟨2, ![1024, 1024]⟩
abbrev S8192x1024 : Shape := ⟨2, ![8192, 1024]⟩
abbrev S1024x256 : Shape := ⟨2, ![1024, 256]⟩
abbrev S1024x512 : Shape := ⟨2, ![1024, 512]⟩
abbrev S256x1024 : Shape := ⟨2, ![256, 1024]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .f32⟩
  | .hbm, ⟨3, _⟩ => ⟨S1024x1024, .f32⟩
  | .hbm, ⟨4, _⟩ => ⟨S8192x1024, .f32⟩
  | .hbm, ⟨5, _⟩ => ⟨S8192x256, .bf16⟩
  | .hbm, ⟨6, _⟩ => ⟨S8192x512, .bf16⟩
  | .hbm, ⟨7, _⟩ => ⟨S8192x256, .bf16⟩
  | .hbm, ⟨8, _⟩ => ⟨S1024x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v29 : BitVec 1 := Scalar.cmpi .eq arg0 c7_i32
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== OutDwRefIdeal.lean ====
abbrev S8192x256 : Shape := ⟨2, ![8192, 256]⟩
abbrev S8192x512 : Shape := ⟨2, ![8192, 512]⟩
abbrev S1024x1024 : Shape := ⟨2, ![1024, 1024]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== DwIn.lean ====
abbrev S8192x1024 : Shape := ⟨2, ![8192, 1024]⟩
abbrev S1x1024 : Shape := ⟨2, ![1, 1024]⟩
abbrev S1024x3072 : Shape := ⟨2, ![1024, 3072]⟩
abbrev S8192x512 : Shape := ⟨2, ![8192, 512]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S4x1024x768 : Shape := ⟨3, ![4, 1024, 768]⟩
abbrev S1024x1024 : Shape := ⟨2, ![1024, 1024]⟩
abbrev S1024x512 : Shape := ⟨2, ![1024, 512]⟩
abbrev S1024x1536 : Shape := ⟨2, ![1024, 1536]⟩
abbrev S1x1024x512 : Shape := ⟨3, ![1, 1024, 512]⟩
abbrev S1x1024x256 : Shape := ⟨3, ![1, 1024, 256]⟩
abbrev S1024x256 : Shape := ⟨2, ![1024, 256]⟩
abbrev S1x1024x768 : Shape := ⟨3, ![1, 1024, 768]⟩
abbrev S1024x768 : Shape := ⟨2, ![1024, 768]⟩

abbrev nBuf : Space → Nat
  | .hbm => 29
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x512, .f32⟩
  | .hbm, ⟨4, _⟩ => ⟨S8192x1536, .f32⟩
  | .hbm, ⟨5, _⟩ => ⟨S8192x512, .f32⟩
  | .hbm, ⟨6, _⟩ => ⟨S8192x512, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1024x8192, .f32⟩
  | .hbm, ⟨23, _⟩ => ⟨S1024x8192, .bf16⟩
  | .hbm, ⟨24, _⟩ => ⟨S8192x512, .bf16⟩
  | .hbm, ⟨25, _⟩ => ⟨S8192x1536, .bf16⟩
  | .hbm, ⟨26, _⟩ => ⟨S8192x512, .bf16⟩
  | .hbm, ⟨27, _⟩ => ⟨S8192x512, .bf16⟩
  | .hbm, ⟨28, _⟩ => ⟨S4x1024x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1536, .bf16⟩
  | .local _ .vmem, ⟨5, _⟩ => ⟨S1024x1536, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S4x1024x768, .bf16⟩
  | .local _ .vmem, ⟨11, _⟩ => ⟨S4x1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v68 : BitVec 1 := Scalar.cmpi .eq arg0 c7_i32
  let v69 : BitVec 32 := Scalar.extui v68
  let c0_i32_58 : BitVec 32 := 0#32
  let v70 : BitVec 1 := Scalar.cmpi .ne v69 c0_i32_58
  v70

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DwInRefIdeal.lean ====
abbrev S8192x1024 : Shape := ⟨2, ![8192, 1024]⟩
abbrev S1x1024 : Shape := ⟨2, ![1, 1024]⟩
abbrev S1024x3072 : Shape := ⟨2, ![1024, 3072]⟩
abbrev S8192x512 : Shape := ⟨2, ![8192, 512]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x512, .f32⟩
  | .hbm, ⟨4, _⟩ => ⟨S8192x1536, .f32⟩
  | .hbm, ⟨5, _⟩ => ⟨S8192x512, .f32⟩
  | .hbm, ⟨6, _⟩ => ⟨S8192x512, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x3072, .f32⟩
  | .hbm, ⟨23, _⟩ => ⟨S8192x3072, .f32⟩
  | .hbm, ⟨24, _⟩ => ⟨S3072x1024, .f32⟩
  | .hbm, ⟨25, _⟩ => ⟨S1024x3072, .f32⟩
  | .hbm, ⟨26, _⟩ => ⟨S1024x3072, .bf16⟩
  | .hbm, ⟨27, _⟩ => ⟨S1024x4x768, .bf16⟩
  | .hbm, ⟨28, _⟩ => ⟨S4x1024x768, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Lift.lean ====
module

public import Idealize.ShloMosaic.PureOps.Ideal
public import Idealize.ShloMosaic.PureOps.Ideal.Laws
public import Idealize.ShloMosaic.Lib.IdealHost

@[expose] public section

/-! # Extended reals that are real numbers

The operations of the idealized programs, on finite operands, are the operations of the real numbers. Each lemma
pulls one coercion outwards; rewriting with all of them turns an expression over finite reads into one coerced
real expression. -/

noncomputable section

namespace Cert.Lift

open Idealize.ShloMosaic

theorem add_coe (x y : ℝ) : (x : EReal) + (y : EReal) = ((x + y : ℝ) : EReal) := (EReal.coe_add x y).symm
theorem sub_coe (x y : ℝ) : (x : EReal) - (y : EReal) = ((x - y : ℝ) : EReal) := (EReal.coe_sub x y).symm
theorem mul_coe (x y : ℝ) : (x : EReal) * (y : EReal) = ((x * y : ℝ) : EReal) := (EReal.coe_mul x y).symm
theorem neg_coe (x : ℝ) : -(x : EReal) = ((-x : ℝ) : EReal) := (EReal.coe_neg x).symm
theorem one_coe : (1 : EReal) = ((1 : ℝ) : EReal) := EReal.coe_one.symm

/-- A finite sum of reals. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, add_coe]

/-- A quotient by a real other than zero. -/
theorem div_coe (x y : ℝ) (h : y ≠ 0) : Ideal.div (x : EReal) (y : EReal) = ((x / y : ℝ) : EReal) := by
  rw [Ideal.div_coe h, mul_coe, mul_one_div]

/-- A reciprocal square root of a positive real. -/
theorem rsqrt_coe (x : ℝ) (h : 0 < x) : Ideal.rsqrt (x : EReal) = (((Real.sqrt x)⁻¹ : ℝ) : EReal) := by
  rw [Ideal.rsqrt_coe, if_neg h.le.not_gt, if_neg h.ne']

/-- An array of extended reals none of which is infinite is an array of reals. -/
theorem exists_real {ι : Type} (X : ι → EReal) (h : ∀ i, X i ≠ ⊤ ∧ X i ≠ ⊥) : ∃ x : ι → ℝ, X = fun i => ((x i : ℝ) : EReal) :=
  ⟨fun i => (X i).toReal, funext fun i => (EReal.coe_toReal (h i).1 (h i).2).symm⟩

/-- What `|x| < ∞`, compared in the program, says of `x`. -/
theorem finite_of_abs_lt {x : EReal} (h : Ideal.cmp .olt (max x (-x)) ⊤ = 1#1) : x ≠ ⊤ ∧ x ≠ ⊥ := by
  have h' : max x (-x) < ⊤ := by
    by_contra hn
    simp [Ideal.cmp, hn] at h
  refine ⟨fun e => ?_, fun e => ?_⟩ <;> simp [e] at h'

/-- The `1.0E-6` every norm adds to a mean square: the exact value of its word. -/
def eps : ℝ := 8796093 / 8796093022208

theorem eps_pos : 0 < eps := by norm_num [eps]

theorem bits_inf : Ideal.ofBits .f32 0x7F800000#32 = ⊤ := by simp [Ideal.ofBits, Ideal.ieee]

/-- The same with infinity as the program's word. -/
theorem finite_of_word {x : EReal} (h : Ideal.cmp .olt (max x (-x)) (Ideal.ofBits .f32 0x7F800000#32) = 1#1) : x ≠ ⊤ ∧ x ≠ ⊥ :=
  finite_of_abs_lt (bits_inf ▸ h)

/-- An array all of whose elements pass the program's finiteness test is an array of reals. -/
theorem real_of_words {ι : Type} (X : ι → EReal) (h : ∀ i, Ideal.cmp .olt (max (X i) (-X i)) (Ideal.ofBits .f32 0x7F800000#32) = 1#1) :
    ∃ x : ι → ℝ, X = fun i => ((x i : ℝ) : EReal) := exists_real X fun i => finite_of_word (h i)

theorem bits_eps : Ideal.ofBits .f32 0x358637BD#32 = ((eps : ℝ) : EReal) := by
  simp [Ideal.ofBits, Ideal.ieee, eps, -EReal.coe_mul]; norm_num
theorem bits_1024 : Ideal.ofBits .f32 0x44800000#32 = ((1024 : ℝ) : EReal) := by
  simp [Ideal.ofBits, Ideal.ieee, -EReal.coe_mul]; norm_num
theorem bits_inv1024 : Ideal.ofBits .f32 0x3A800000#32 = ((1 / 1024 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul, -EReal.coe_neg]; norm_num
theorem bits_two : Ideal.ofBits .f32 0x40000000#32 = ((2 : ℝ) : EReal) := by
  simp [Ideal.ofBits, Ideal.ieee, -EReal.coe_mul]; norm_num
theorem bits_one : Ideal.ofBits .f32 0x3F800000#32 = ((1 : ℝ) : EReal) := by
  rw [Ideal.ofBits_one_f32, EReal.coe_one]

end Cert.Lift

end
-- ==== Proof.LossRef.lean ====
module

public import proofs.«01_k».proof.Proof.Gen.LossRefIdeal.Read
public import proofs.«01_k».proof.Proof.Lift
public import Idealize.ShloMosaic.Lib.Pointwise

@[expose] public section

set_option maxRecDepth 16384

noncomputable section

namespace Cert.LossReal

open Cert.Lift

/-- The reciprocal root mean square of a row. -/
def rinv (v : Fin 1024 → ℝ) : ℝ := (Real.sqrt ((∑ k, v k * v k) / 1024 + eps))⁻¹
/-- The error of a row: the normed, scaled row less its target. -/
def err (v g t : Fin 1024 → ℝ) (k : Fin 1024) : ℝ := v k * rinv v * g k - t k
/-- The gradient of the loss in the normed, scaled row. -/
def dout (v g t : Fin 1024 → ℝ) (k : Fin 1024) : ℝ := err v g t k * (1 / 1024)
/-- The gradient of the loss in the row. -/
def dx (v g t : Fin 1024 → ℝ) (k : Fin 1024) : ℝ :=
  rinv v * (dout v g t k * g k) - v k * (rinv v * rinv v * rinv v) * ((∑ j, dout v g t j * g j * v j) / 1024)

theorem ms_pos (v : Fin 1024 → ℝ) : 0 < (∑ k, v k * v k) / 1024 + eps :=
  add_pos_of_nonneg_of_pos (div_nonneg (Finset.sum_nonneg fun k _ => mul_self_nonneg (v k)) (by norm_num)) eps_pos

theorem rinv_sq (v : Fin 1024 → ℝ) : rinv v * rinv v = ((∑ k, v k * v k) / 1024 + eps)⁻¹ := by
  rw [rinv, ← mul_inv, Real.mul_self_sqrt (ms_pos v).le]

/-- The row's gradient as the derivative of the reciprocal root has it: half of it from each factor of the square. -/
theorem dx_eq (v g t : Fin 1024 → ℝ) (k : Fin 1024) :
    dx v g t k = dout v g t k * g k * rinv v
      + v k * ((∑ j, v j * (dout v g t j * g j)) * (-(1 / 2) * (rinv v / ((∑ k, v k * v k) / 1024 + eps))) / 1024)
      + (∑ j, v j * (dout v g t j * g j)) * (-(1 / 2) * (rinv v / ((∑ k, v k * v k) / 1024 + eps))) / 1024 * v k := by
  have hs : ∑ j, dout v g t j * g j * v j = ∑ j, v j * (dout v g t j * g j) := Finset.sum_congr rfl fun j _ => mul_comm _ _
  rw [dx, rinv_sq, hs]
  ring

end Cert.LossReal

namespace Cert.LossRefIdeal.Val

open Cert.LossRefIdeal Cert.LossRefIdeal.Read Cert.Lift Cert.LossReal Idealize.ShloMosaic

variable (x t : Fin 8192 → Fin 1024 → ℝ) (g : Fin 1024 → ℝ)

/-- The three arguments, as arrays of reals. -/
abbrev X : FVec Ideal S1x8192x1024 .f32 := fun i => ((x (i 1) (i 2) : ℝ) : EReal)
abbrev G : FVec Ideal S1024 .f32 := fun i => ((g (i 0) : ℝ) : EReal)

theorem v0_real : val_main_v0 (F := Ideal) (X x) = fun i => ((x (i 0) (i 1) : ℝ) : EReal) := by
  funext i
  pointwise [val_main_v0, X]

theorem v17_real : val_main_v17 (F := Ideal) (X t) = fun i => ((t (i 0) (i 1) : ℝ) : EReal) := v0_real t

theorem v7_real : val_main_v7 (F := Ideal) (X x) = fun i => (((∑ k, x (i 0) k * x (i 0) k) / 1024 + eps : ℝ) : EReal) := by
  funext i
  simp (disch := norm_num) only [val_main_v7_apply, val_main_v6_apply, val_main_cst_1_apply, val_main_v5_apply, val_main_v4_apply, val_main_cst_0_apply,
    val_main_v3_apply, val_main_v2_apply, val_main_cst_apply, val_main_v1_apply, v0_real, X, Ideal.addf_def, Ideal.mulf_def,
    Ideal.hostDivf_def, Ideal.ofBits_def, Ideal.ofBits_zero_f32, zero_add, bits_eps, bits_1024, mul_coe, sum_coe, div_coe, add_coe]
  rfl

theorem v8_real : val_main_v8 (F := Ideal) (X x) = fun i => ((rinv (x (i 0)) : ℝ) : EReal) := by
  funext i
  simp only [val_main_v8_apply, v7_real, Ideal.hostUnary_rsqrt_def, rsqrt_coe _ (ms_pos _), rinv]

theorem v18_real : val_main_v18 (F := Ideal) (X x) (G g) (X t) = fun i => ((err (x (i 0)) g (t (i 0)) (i 1) : ℝ) : EReal) := by
  funext i
  simp only [val_main_v18_apply, v17_real, val_main_v16_apply, val_main_v15_apply, val_main_v14_apply, val_main_v13_apply,
    val_main_v12_apply, v0_real, v8_real, X, G, Ideal.subf_def, Ideal.mulf_def, mul_coe, sub_coe, err]
  rfl

theorem v32_real : val_main_v32 (F := Ideal) (X x) (G g) (X t) = fun i => ((dout (x (i 0)) g (t (i 0)) (i 1) : ℝ) : EReal) := by
  funext i
  simp (disch := norm_num) only [val_main_v32_apply, val_main_v31_apply, val_main_v30_apply, val_main_v29_apply, val_main_v28_apply, val_main_v27_apply,
    val_main_v21_apply, val_main_v20_apply, val_main_cst_3_apply, val_main_cst_8_apply, val_main_cst_9_apply, val_main_cst_10_apply, v18_real,
    Ideal.mulf_def, Ideal.hostDivf_def, Ideal.ofBits_def, bits_half, bits_one, bits_1024, bits_two, mul_coe, div_coe, dout]
  congr 1
  ring

theorem v37_real : val_main_v37 (F := Ideal) (X x) (G g) (X t) = fun i => ((dout (x (i 0)) g (t (i 0)) (i 1) * g (i 1) : ℝ) : EReal) := by
  funext i
  simp only [val_main_v37_apply, val_main_v36_apply, val_main_v14_apply, v32_real, G, Ideal.mulf_def, mul_coe]
  rfl

theorem v48_real : val_main_v48 (F := Ideal) (X x) (G g) (X t) = fun i =>
    (((∑ j, x (i 0) j * (dout (x (i 0)) g (t (i 0)) j * g j)) * (-(1 / 2) * (rinv (x (i 0)) / ((∑ k, x (i 0) k * x (i 0) k) / 1024 + eps))) / 1024 : ℝ) : EReal) := by
  funext i
  pointwise [val_main_v48, val_main_v47, val_main_v46, val_main_v45, val_main_v44, val_main_v41, val_main_v40, val_main_v39, val_main_v11, val_main_v10,
    val_main_v9, val_main_cst_2, val_main_cst_13, val_main_cst_14, val_main_cst_15, v0_real, v37_real, v7_real, v8_real]
  simp (disch := norm_num) only [bits_neg_half, bits_1024, mul_coe, sum_coe, div_coe _ _ (ms_pos _).ne', div_coe, Finset.univ_unique, Finset.sum_singleton]

/-- The reference's gradient of the loss in `x`. -/
theorem v52_real : val_main_v52 (F := Ideal) (X x) (G g) (X t) = fun i => ((dx (x (i 0)) g (t (i 0)) (i 1) : ℝ) : EReal) := by
  funext i
  simp only [val_main_v52_apply, val_main_v51_apply, val_main_v50_apply, val_main_v49_apply, val_main_v43_apply, val_main_v42_apply,
    v0_real, v37_real, v48_real, v8_real, Ideal.addf_def, Ideal.mulf_def, mul_coe, add_coe]
  exact congrArg _ (dx_eq (x (i 0)) g (t (i 0)) (i 1)).symm

/-- The reference's gradient of the loss in the gain. -/
theorem v53_real : val_main_v53 (F := Ideal) (X x) (G g) (X t) = fun i => ((∑ n, dout (x n) g (t n) (i 1) * x n (i 1) * rinv (x n) : ℝ) : EReal) := by
  funext i
  pointwise [val_main_v53, val_main_v38, val_main_v35, val_main_v34, val_main_v33, val_main_v13, val_main_v12, val_main_cst_11, val_main_cst_12, v0_real, v32_real, v8_real]
  simp only [mul_coe, sum_coe, Finset.univ_unique, Finset.sum_singleton]
  exact congrArg _ (Finset.sum_congr rfl fun n _ => (mul_comm _ _).trans (mul_assoc _ _ _).symm)

/-- A sum over the positions of a vector of 8192 is the sum over its coordinate. -/
theorem sum_S8192 (f : Fin 8192 → ℝ) : ∑ j : S8192.Idx, ((f (j 0) : ℝ) : EReal) = ∑ n, ((f n : ℝ) : EReal) :=
  Fintype.sum_equiv ⟨fun j => j 0, fun n => fun a => match a with | ⟨0, _⟩ => n,
    fun j => funext fun a => match a with | ⟨0, _⟩ => rfl, fun _ => rfl⟩ _ _ fun _ => rfl

theorem v24_real : val_main_v24 (F := Ideal) (X x) (G g) (X t) =
    fun i => (((∑ k, err (x (i 0)) g (t (i 0)) k * err (x (i 0)) g (t (i 0)) k) / 1024 : ℝ) : EReal) := by
  funext i
  simp (disch := norm_num) only [val_main_v24_apply, val_main_v23_apply, val_main_v22_apply, val_main_v19_apply, val_main_cst_4_apply,
    val_main_cst_5_apply, v18_real, Ideal.mulf_def, Ideal.hostDivf_def, Ideal.ofBits_def, Ideal.ofBits_zero_f32, zero_add, bits_1024, mul_coe, sum_coe,
    div_coe]
  rfl

/-- The reference's loss, in every element of the result. -/
theorem v54_real : val_main_v54 (F := Ideal) (X x) (G g) (X t) =
    fun i => ((1 / 2 * ∑ n, (∑ k, err (x n) g (t n) k * err (x n) g (t n) k) / 1024 : ℝ) : EReal) := by
  funext i
  rw [val_main_v54_apply, val_main_v26_apply, val_main_v25_apply, v24_real,
    sum_S8192 fun n => (∑ k, err (x n) g (t n) k * err (x n) g (t n) k) / 1024]
  simp only [val_main_cst_6_apply, val_main_cst_7_apply, Ideal.mulf_def, Ideal.ofBits_def, Ideal.ofBits_zero_f32, zero_add, bits_half, mul_coe, sum_coe]

end Cert.LossRefIdeal.Val

end
-- ==== Proof.LossKernel.lean ====
module

public import proofs.«01_k».proof.Proof.Gen.LossIdeal.Value
public import proofs.«01_k».proof.Proof.LossRef
public import Idealize.ShloMosaic.Lib.Pipeline.ValueKit
public import Idealize.ShloMosaic.Lib.StableHlo.Run

@[expose] public section

/-! # The loss head's gradient, as the kernel computes it, over real arguments -/

set_option maxRecDepth 16384

noncomputable section

open Idealize.ShloMosaic Idealize.ShloMosaic.TcCoe Idealize.SL.Sem
open Idealize.ShloMosaic.Pipeline (Dat)

namespace Cert.LossIdeal.Val

open Cert.LossIdeal Cert.LossIdeal.Gen Cert.Lift Cert.LossReal

section payloads

variable (v t : Fin 512 → Fin 1024 → ℝ) (g : Fin 1024 → ℝ)

/-- A block of rows of reals, and one row of reals. -/
abbrev B (v : Fin 512 → Fin 1024 → ℝ) : FVec Ideal S512x1024 .f32 := fun i => ((v (i 0) (i 1) : ℝ) : EReal)
abbrev R (g : Fin 1024 → ℝ) : FVec Ideal S1x1024 .f32 := fun i => ((g (i 1) : ℝ) : EReal)

theorem pay5_real : k0_pay5 (F := Ideal) (B v) = B v := by
  funext i
  pointwise [k0_pay5]

theorem pay6_real : k0_pay6 (F := Ideal) (B v) = fun i => ((rinv (v (i 0)) : ℝ) : EReal) := by
  funext i
  pointwise [k0_pay6, pay5_real]
  simp (disch := norm_num) only [bits_1024, bits_eps, mul_coe, sum_coe, div_coe, add_coe, rinv]
  exact rsqrt_coe _ (ms_pos (v (i 0)))

theorem pay7_real : k0_pay7 (F := Ideal) (B v) (R g) (B t) = B fun r => err (v r) g (t r) := by
  funext i
  pointwise [k0_pay7, pay5_real, pay6_real]
  simp only [mul_coe, sub_coe, err]
  rfl

theorem pay8_real : k0_pay8 (F := Ideal) (B v) (R g) (B t) = B fun r => dout (v r) g (t r) := by
  funext i
  pointwise [k0_pay8, pay7_real]
  simp only [bits_inv1024, mul_coe, dout]
  rfl

theorem pay9_real : k0_pay9 (F := Ideal) (B v) (R g) (B t) (R g) = B fun r => dx (v r) g (t r) := by
  funext i
  pointwise [k0_pay9, pay5_real, pay6_real, pay8_real]
  simp (disch := norm_num) only [bits_1024, mul_coe, sum_coe, div_coe, sub_coe, dx]
  rfl

theorem pay10_real : k0_pay10 (F := Ideal) (B v) (R g) (B t) = B fun r k => dout (v r) g (t r) k * v r k * rinv (v r) := by
  funext i
  pointwise [k0_pay10, pay5_real, pay6_real, pay8_real]
  simp only [mul_coe]

theorem pay1_real : k0_pay1 (F := Ideal) (B v) = R fun k => ∑ r, v r k := by
  funext i
  pointwise [k0_pay1]
  simp only [sum_coe]
  rfl

theorem pay3_real : k0_pay3 (F := Ideal) (B v) = fun i => ((1 / 2 * ∑ r, (∑ k, v r k * v r k) / 1024 : ℝ) : EReal) := by
  funext i
  pointwise [k0_pay3]
  simp (disch := norm_num) only [bits_1024, bits_half, mul_coe, sum_coe, div_coe]
  rfl

theorem pay2_apply (d : FVec Ideal S512x1024 .f32) (a : Vec Ideal S1x1024 .f32) (i) : k0_pay2 (F := Ideal) d a i = a i + k0_pay1 d i := by
  pointwise [k0_pay2]

theorem pay4_apply (d : FVec Ideal S512x1024 .f32) (a : Vec Ideal S8x128 .f32) (i) : k0_pay4 (F := Ideal) d a i = a i + k0_pay3 d i := by
  pointwise [k0_pay4]

end payloads

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

/-- The row of the array that a point's block has at `r`. -/
def row (t : Fin cfg0.N) (r : Fin 512) : Fin 8192 := ⟨t.val * 512 + r.val, by have := t.isLt; have h : t.val < 16 := lt_of_lt_of_eq t.isLt N_0; omega⟩

variable (x t : Fin 8192 → Fin 1024 → ℝ) (g : Fin 1024 → ℝ) (c : Dev nD)

theorem blk0 (hx : m ((c : Thread nD τ).loc main_arg0) = LossRefIdeal.Val.X x) (p : Fin cfg0.N) : iblk m c 0 p = B fun r => x (row p r) := by
  funext y
  blk_simp [iblk, idx p]
  entry_read
  rw [hx]
  pointwise
  refine congrArg Real.toEReal (congrArg₂ x (Fin.ext ?_) (Fin.ext ?_)) <;> blk_simp [idx p, row]

theorem blk1 (hg : m ((c : Thread nD τ).loc main_arg1) = LossRefIdeal.Val.G g) (p : Fin cfg0.N) : iblk m c 1 p = R g := by
  funext y
  blk_simp [iblk, idx p]
  entry_read
  rw [hg]
  pointwise
  refine congrArg Real.toEReal (congrArg g (Fin.ext ?_)) <;> blk_simp [idx p]

theorem blk2 (ht : m ((c : Thread nD τ).loc main_arg2) = LossRefIdeal.Val.X t) (p : Fin cfg0.N) : iblk m c 2 p = B fun r => t (row p r) := by
  funext y
  blk_simp [iblk, idx p]
  entry_read
  rw [ht]
  pointwise
  refine congrArg Real.toEReal (congrArg₂ t (Fin.ext ?_) (Fin.ext ?_)) <;> blk_simp [idx p, row]

section final

variable (hx : m ((c : Thread nD τ).loc main_arg0) = LossRefIdeal.Val.X x) (hg : m ((c : Thread nD τ).loc main_arg1) = LossRefIdeal.Val.G g)
  (ht : m ((c : Thread nD τ).loc main_arg2) = LossRefIdeal.Val.X t)

include hx hg ht

/-- The gradient in `x` after the run. -/
theorem final3 : (dats m 0 c).arrAt 3 (cfgs 0).N = fun i : S8192x1024.Idx => ((dx (x (i 0)) g (t (i 0)) (i 1) : ℝ) : EReal) := by
  refine (dats m 0 c).arrAt_eq_of_covers 3 _ (by decide +kernel) fun p hf y => ?_
  blk_simp
  rw [after0_3]
  have e : (B fun r => dx (x (row p r)) g (t (row p r))) y = ((dx (x (((cfg0.win 3).blk p).view.emb y 0)) g (t (((cfg0.win 3).blk p).view.emb y 0))
      (((cfg0.win 3).blk p).view.emb y 1) : ℝ) : EReal) := by
    have e0 : row p (y 0) = ((cfg0.win 3).blk p).view.emb y 0 := Fin.ext (by blk_simp [idx p, row])
    have e1 : y 1 = ((cfg0.win 3).blk p).view.emb y 1 := Fin.ext (by blk_simp [idx p])
    exact congrArg Real.toEReal (congrArg₂ (fun r k => dx (x r) g (t r) k) e0 e1)
  refine Eq.trans ?_ e
  by_cases h : p.val % 16 = 0
  · have h1 : ¬1 ≤ p.val := by have : p.val < 16 := lt_of_lt_of_eq p.isLt N_0; omega
    rw [outsAt0_A m c p h h1 h h1]
    frame_out
    rw [blk0 m x c hx p, blk1 m g c hg p, blk2 m t c ht p, pay9_real]
  · have h2 : 1 ≤ p.val := by omega
    rw [outsAt0_B m c p h h2 h h2]
    frame_out
    rw [blk0 m x c hx p, blk1 m g c hg p, blk2 m t c ht p, pay9_real]

/-- The gradient in the gain after the run. -/
theorem final4 : (dats m 0 c).arrAt 4 (cfgs 0).N = fun i : S1x1024.Idx => ((∑ n, dout (x n) g (t n) (i 1) * x n (i 1) * rinv (x n) : ℝ) : EReal) := by
  refine (dats m 0 c).arrAt_eq_of_after_last 4 t0_15 (by decide +kernel) _ fun j => ?_
  blk_simp
  have h1 : ∀ p : Fin cfg0.N, p.val % 16 = 0 → ¬1 ≤ p.val := fun p h => by have : p.val < 16 := lt_of_lt_of_eq p.isLt N_0; omega
  rw [after0_4, Pipeline.eq_sum_fin_of_reset_step_apply_last (fun n h => (outsAt0 m c n h).2.1) 16 (fun _ => 0)
    (fun p j => ((∑ r, dout (x (row p r)) g (t (row p r)) (j 1) * x (row p r) (j 1) * rinv (x (row p r)) : ℝ) : EReal))
    (fun p h j => by
      rw [outsAt0_A m c p h (h1 p h) h (h1 p h)]; frame_out
      rw [blk0 m x c hx p, blk1 m g c hg p, blk2 m t c ht p, pay10_real, pay1_real, zero_add])
    (fun p h j => by
      have h2 : 1 ≤ p.val := by omega
      rw [outsAt0_B m c p h h2 h h2]; frame_out
      rw [blk0 m x c hx p, blk1 m g c hg p, blk2 m t c ht p, pay10_real, pay2_apply, pay1_real])
    (le_of_eq N_0) t0_15 rfl j, zero_add, sum_coe]
  exact congrArg Real.toEReal (Fin.sum_mul_add_congr (S := 16) (n := 512) (f := fun n => dout (x n) g (t n) (j 1) * x n (j 1) * rinv (x n)) fun _ _ _ => rfl)

/-- The loss after the run. -/
theorem final5 : (dats m 0 c).arrAt 5 (cfgs 0).N =
    fun i : S8x128.Idx => ((1 / 2 * ∑ n, (∑ k, err (x n) g (t n) k * err (x n) g (t n) k) / 1024 : ℝ) : EReal) := by
  refine (dats m 0 c).arrAt_eq_of_after_last 5 t0_15 (by decide +kernel) _ fun j => ?_
  blk_simp
  have h1 : ∀ p : Fin cfg0.N, p.val % 16 = 0 → ¬1 ≤ p.val := fun p h => by have : p.val < 16 := lt_of_lt_of_eq p.isLt N_0; omega
  rw [after0_5, Pipeline.eq_sum_fin_of_reset_step_apply_last (fun n h => (outsAt0 m c n h).2.2) 16 (fun _ => 0)
    (fun p j => ((1 / 2 * ∑ r, (∑ k, err (x (row p r)) g (t (row p r)) k * err (x (row p r)) g (t (row p r)) k) / 1024 : ℝ) : EReal))
    (fun p h j => by
      rw [outsAt0_A m c p h (h1 p h) h (h1 p h)]; frame_out
      rw [blk0 m x c hx p, blk1 m g c hg p, blk2 m t c ht p, pay7_real, pay3_real, zero_add])
    (fun p h j => by
      have h2 : 1 ≤ p.val := by omega
      rw [outsAt0_B m c p h h2 h h2]; frame_out
      rw [blk0 m x c hx p, blk1 m g c hg p, blk2 m t c ht p, pay7_real, pay4_apply, pay3_real])
    (le_of_eq N_0) t0_15 rfl j, zero_add, sum_coe]
  rw [← Finset.mul_sum]
  exact congrArg (fun s : ℝ => ((1 / 2 * s : ℝ) : EReal)) (Fin.sum_mul_add_congr (S := 16) (n := 512)
    (f := fun n => (∑ k, err (x n) g (t n) k * err (x n) g (t n) k) / 1024) fun _ _ _ => rfl)

end final

end Cert.LossIdeal.Val
-- ==== Proof.Loss.lean ====
module

public import proofs.«01_k».proof.Proof.LossKernel
public import proofs.«01_k».proof.Defs
public import proofs.«01_k».proof.Proof.Gen.Pre_finite_loss
public import proofs.«01_k».proof.Proof.Gen.LossRefIdeal.Run

@[expose] public section

/-! # The loss head's gradient: the precondition as real arguments, and the comparison -/

set_option maxRecDepth 16384

noncomputable section

open Idealize.ShloMosaic Idealize.ShloMosaic.TcCoe Idealize.SL.Sem

namespace Cert.LossIdeal.Val

open Cert.Lift

/-- Finite arguments are real arguments. -/
theorem pre_real (a0 : FVec Ideal LossIdeal.S1x8192x1024 .f32) (a1 : FVec Ideal LossIdeal.S1024 .f32) (a2 : FVec Ideal LossIdeal.S1x8192x1024 .f32)
    (h : (Cert.Pre_finite_loss.fn (F := Ideal) a0 a1 a2).1 = (fun _ => 1#1) ∧ (Cert.Pre_finite_loss.fn (F := Ideal) a0 a1 a2).2.1 = (fun _ => 1#1)
      ∧ (Cert.Pre_finite_loss.fn (F := Ideal) a0 a1 a2).2.2 = (fun _ => 1#1)) :
    ∃ x g t, a0 = LossRefIdeal.Val.X x ∧ a1 = LossRefIdeal.Val.G g ∧ a2 = LossRefIdeal.Val.X t := by
  obtain ⟨h0, h1, h2⟩ := h
  obtain ⟨x, rfl⟩ := real_of_words a0 fun i => congrFun h0 i
  obtain ⟨g, rfl⟩ := real_of_words a1 fun i => congrFun h1 i
  obtain ⟨t, rfl⟩ := real_of_words a2 fun i => congrFun h2 i
  have e (f : LossIdeal.S1x8192x1024.Idx → ℝ) : (fun i => ((f i : ℝ) : EReal)) = LossRefIdeal.Val.X fun n k => f (ix3 0 n k) :=
    funext fun i => congrArg (fun j => ((f j : ℝ) : EReal)) (funext fun a => match a with | ⟨0, _⟩ => Subsingleton.elim (α := Fin 1) _ _ | ⟨1, _⟩ => rfl | ⟨2, _⟩ => rfl)
  exact ⟨_, fun k => g (ix1 k), _, e x, funext fun i => congrArg (fun j => ((g j : ℝ) : EReal)) (funext fun a => match a with | ⟨0, _⟩ => rfl), e t⟩

theorem algebraic : Cert.algebraic_LossIdeal_LossRefIdeal_pre_finite_loss := by
  pair_intro
  · run_from Cert.LossIdeal.Gen.run_main m g
  · run_from Cert.LossRefIdeal.Value.run m' g'
    all_goals obtain ⟨x, γ, t, hx, hg, ht⟩ := pre_real _ _ _ (hpre c)
    · rw [final3 m x t γ c hx hg ht]
      obtain ⟨a0, a1, a2⟩ := hagree c
      rw [← LossRefIdeal.Val.v52_real, ← hx, ← hg, ← ht, ← a0, ← a1, ← a2]
      exact LossRefIdeal.Read.val_main_v52_eq m' c
    · rw [final4 m x t γ c hx hg ht, ← LossRefIdeal.Val.v53_real, ← hx, ← hg, ← ht]
      rfl
    · rw [final5 m x t γ c hx hg ht, ← LossRefIdeal.Val.v54_real, ← hx, ← hg, ← ht]
      rfl

end Cert.LossIdeal.Val
-- ==== Proof.GmReal.lean ====
module

public import proofs.«01_k».proof.Proof.Lift
public import Idealize.ShloMosaic.Lib.Pointwise

@[expose] public section

/-! # Standardizing a row, the exact gelu, and spatial gating, over the real numbers -/

noncomputable section

namespace Cert.Lift

open Idealize.ShloMosaic

/-- The error function. -/
def erfR (x : ℝ) : ℝ := 2 / Real.sqrt Real.pi * ∫ t in (0 : ℝ)..x, Real.exp (-(t ^ 2))

theorem erf_coe (x : ℝ) : Ideal.erf (x : EReal) = ((erfR x : ℝ) : EReal) := Ideal.erf_coe x
theorem exp_coe (x : ℝ) : Ideal.exp (x : EReal) = ((Real.exp x : ℝ) : EReal) := Ideal.exp_coe x

theorem erfc_neg_coe (x : ℝ) : Ideal.erfc ((-x : ℝ) : EReal) = ((1 + erfR x : ℝ) : EReal) := by
  rw [EReal.coe_neg, Ideal.erfc_neg, erf_coe, one_coe, add_coe]

theorem sqrt_half : Real.sqrt (1 / 2) = (Real.sqrt 2)⁻¹ := by rw [one_div, Real.sqrt_inv]

theorem sqrt_half_coe : Ideal.sqrt ((1 / 2 : ℝ) : EReal) = (((Real.sqrt 2)⁻¹ : ℝ) : EReal) := by
  rw [Ideal.sqrt_coe, if_neg (by norm_num), sqrt_half]

theorem bits_256 : Ideal.ofBits .f32 0x43800000#32 = ((256 : ℝ) : EReal) := by
  simp [Ideal.ofBits, Ideal.ieee, -EReal.coe_mul]; norm_num
theorem bits_erf : Ideal.ofBits .f32 0xBF906EBB#32 = ((-(9465531 / 8388608) : ℝ) : EReal) := by
  simp [Ideal.ofBits, Ideal.ieee, -EReal.coe_mul, -EReal.coe_neg]; norm_num

end Cert.Lift

namespace Cert.Std

open Cert.Lift

section

variable {n : ℕ} (N : ℝ) (a x : Fin n → ℝ)

/-- A row less its mean. -/
def cen (k : Fin n) : ℝ := x k - (∑ j, x j) / N
/-- The variance of a row, a little lifted. -/
def var : ℝ := (∑ k, cen N x k * cen N x k) / N + eps
/-- The reciprocal of the standard deviation. -/
def rs : ℝ := (Real.sqrt (var N x))⁻¹
/-- The row standardized. -/
def std (k : Fin n) : ℝ := cen N x k * rs N x
/-- The gradient in the row, from the gradient `a` in the standardized row. -/
def bwd (k : Fin n) : ℝ := rs N x * (a k - (∑ j, a j) / N - std N x k * ((∑ j, a j * std N x j) / N))

theorem var_pos (hN : 0 < N) : 0 < var N x :=
  add_pos_of_nonneg_of_pos (div_nonneg (Finset.sum_nonneg fun k _ => mul_self_nonneg (cen N x k)) hN.le) eps_pos

theorem rs_sq (hN : 0 < N) : rs N x * rs N x = (var N x)⁻¹ := by
  rw [rs, ← mul_inv, Real.mul_self_sqrt (var_pos N x hN).le]

theorem sum_cen (hN : 0 < N) (h : (n : ℝ) = N) : ∑ k, cen N x k = 0 := by
  simp only [cen, Finset.sum_sub_distrib, Finset.sum_const, Finset.card_univ, Fintype.card_fin, nsmul_eq_mul, h]
  rw [mul_div_cancel₀ _ hN.ne', sub_self]

/-- The gradient as the derivative of the standardization has it, term by term. -/
theorem bwd_eq (hN : 0 < N) (h : (n : ℝ) = N) (k : Fin n) :
    a k * rs N x + (∑ j, cen N x j * a j) * (-(1 / 2) * (rs N x / var N x)) / N * (2 * cen N x k)
      + ((∑ j, -(a j * rs N x)) + ∑ j, -((∑ j, cen N x j * a j) * (-(1 / 2) * (rs N x / var N x)) / N * (2 * cen N x j))) / N = bwd N a x k := by
  have h1 : ∑ j, -((∑ j, cen N x j * a j) * (-(1 / 2) * (rs N x / var N x)) / N * (2 * cen N x j)) = 0 := by
    rw [Finset.sum_neg_distrib, ← Finset.mul_sum, ← Finset.mul_sum, sum_cen N x hN h, mul_zero, mul_zero, neg_zero]
  have h2 : ∑ j, a j * std N x j = (∑ j, cen N x j * a j) * rs N x := by
    rw [Finset.sum_mul]; exact Finset.sum_congr rfl fun j _ => by rw [std]; ring
  have h3 : ∑ j, -(a j * rs N x) = -((∑ j, a j) * rs N x) := by rw [Finset.sum_neg_distrib, Finset.sum_mul]
  rw [h1, h3, bwd, h2, std, div_eq_mul_inv (rs N x), ← rs_sq N x hN]
  ring

end

end Cert.Std

namespace Cert.GmReal

open Cert.Lift Cert.Std

/-- The exact gelu and its derivative. -/
def gel (x : ℝ) : ℝ := 1 / 2 * x * (1 + erfR (x * (Real.sqrt 2)⁻¹))
def gel' (x : ℝ) : ℝ :=
  1 / 2 * (1 + erfR (x * (Real.sqrt 2)⁻¹)) + x * Real.exp (-(1 / 2) * x * x) * (9465531 / 16777216 * (Real.sqrt 2)⁻¹)

theorem sq_inv_sqrt_two (x : ℝ) : -(-(x * (Real.sqrt 2)⁻¹) * -(x * (Real.sqrt 2)⁻¹)) = -(1 / 2) * x * x := by
  have h : (Real.sqrt 2)⁻¹ * (Real.sqrt 2)⁻¹ = 1 / 2 := by rw [← mul_inv, Real.mul_self_sqrt (by norm_num)]; norm_num
  linear_combination (-(x * x)) * h

/-- The head of a column, and a column of a head. -/
def hof (k : Fin 256) : Fin 4 := ⟨k.val / 64, by omega⟩
def col (h : Fin 4) (d : Fin 64) : Fin 256 := ⟨h.val * 64 + d.val, by omega⟩

theorem hof_col (h : Fin 4) (d : Fin 64) : hof (col h d) = h := Fin.ext (by show (h.val * 64 + d.val) / 64 = h.val; omega)

theorem col_divmod (k : Fin 256) (h1 : k.val / 64 < 4) (h2 : k.val % 64 < 64) : col ⟨k.val / 64, h1⟩ ⟨k.val % 64, h2⟩ = k :=
  Fin.ext (Nat.div_add_mod' k.val 64)

/-- A row of a chunk, and the chunk and the row in it of a row. -/
def cr (c : Fin 64) (p : Fin 128) : Fin 8192 := ⟨c.val * 128 + p.val, by omega⟩
def cof (n : Fin 8192) : Fin 64 := ⟨n.val / 128, by omega⟩
def rof (n : Fin 8192) : Fin 128 := ⟨n.val % 128, by omega⟩

theorem cr_of (n : Fin 8192) : cr (cof n) (rof n) = n := Fin.ext (by show n.val / 128 * 128 + n.val % 128 = n.val; omega)
theorem cof_cr (c : Fin 64) (p : Fin 128) : cof (cr c p) = c := Fin.ext (by show (c.val * 128 + p.val) / 128 = c.val; omega)
theorem rof_cr (c : Fin 64) (p : Fin 128) : rof (cr c p) = p := Fin.ext (by show (c.val * 128 + p.val) % 128 = p.val; omega)

/-! One chunk of 128 positions: the two halves of the projection, the gradient of the output, and the parameters. -/

variable (pu pv dy : Fin 128 → Fin 256 → ℝ) (g b : Fin 256 → ℝ) (ws : Fin 4 → Fin 128 → Fin 128 → ℝ) (bs : Fin 4 → Fin 128 → ℝ)

/-- The gelu of a row of the second half. -/
def gv (q : Fin 128) (k : Fin 256) : ℝ := gel (pv q k)
/-- The normed second half. -/
def vn (q : Fin 128) (k : Fin 256) : ℝ := std 256 (gv pv q) k * g k + b k
/-- The mixture over the chunk's positions. -/
def mix (p : Fin 128) (k : Fin 256) : ℝ := (∑ q, ws (hof k) p q * vn pv g b q k) + bs (hof k) p
/-- The gradient in the first half. -/
def dpu (p : Fin 128) (k : Fin 256) : ℝ := dy p k * mix pv g b ws bs p k * gel' (pu p k)
/-- The gradient in the mixture. -/
def dm (p : Fin 128) (k : Fin 256) : ℝ := dy p k * gel (pu p k)
/-- The gradient in the normed second half. -/
def dvn (q : Fin 128) (k : Fin 256) : ℝ := ∑ p, ws (hof k) p q * dm pu dy p k
/-- The gradient in the second half. -/
def dpv (q : Fin 128) (k : Fin 256) : ℝ := bwd 256 (fun j => dvn pu dy ws q j * g j) (gv pv q) k * gel' (pv q k)
/-- What a chunk adds to the gradients in the mixing weights, the mixing biases, the norm's gain and its bias. -/
def dws (h : Fin 4) (p q : Fin 128) : ℝ := ∑ d, dm pu dy p (col h d) * vn pv g b q (col h d)
def dbs (h : Fin 4) (p : Fin 128) : ℝ := ∑ d, dm pu dy p (col h d)
def dg (k : Fin 256) : ℝ := ∑ q, dvn pu dy ws q k * std 256 (gv pv q) k
def db (k : Fin 256) : ℝ := ∑ q, dvn pu dy ws q k

theorem mix_col (p : Fin 128) (h : Fin 4) (d : Fin 64) : mix pv g b ws bs p (col h d) = (∑ q, vn pv g b q (col h d) * ws h p q) + bs h p := by
  rw [mix, hof_col]; exact congrArg (· + bs h p) (Finset.sum_congr rfl fun q _ => mul_comm _ _)

theorem dvn_col (q : Fin 128) (h : Fin 4) (d : Fin 64) : dvn pu dy ws q (col h d) = ∑ p, dm pu dy p (col h d) * ws h p q := by
  rw [dvn, hof_col]; exact Finset.sum_congr rfl fun p _ => mul_comm _ _

end Cert.GmReal

end
-- ==== Proof.GmRef.lean ====
module

public import proofs.«01_k».proof.Proof.Gen.GmRefIdeal.Read
public import proofs.«01_k».proof.Proof.GmReal

@[expose] public section

/-! # What the reference of the gating's gradients computes -/

set_option maxRecDepth 16384

noncomputable section

namespace Cert.GmReal

/-- The columns of the projection that hold the two halves. -/
def lo (k : Fin 256) : Fin 3072 := ⟨k.val, by omega⟩
def hi (k : Fin 256) : Fin 3072 := ⟨256 + k.val, by omega⟩

/-- A chunk's rows of the two halves, and of an array of 256 columns. -/
def PU (P : Fin 8192 → Fin 3072 → ℝ) (c : Fin 64) (p : Fin 128) (k : Fin 256) : ℝ := P (cr c p) (lo k)
def PV (P : Fin 8192 → Fin 3072 → ℝ) (c : Fin 64) (p : Fin 128) (k : Fin 256) : ℝ := P (cr c p) (hi k)
def RO (D : Fin 8192 → Fin 256 → ℝ) (c : Fin 64) (p : Fin 128) (k : Fin 256) : ℝ := D (cr c p) k

end Cert.GmReal

namespace Cert.GmRefIdeal.Val

open Cert.GmRefIdeal Cert.GmRefIdeal.Read Cert.Lift Cert.Std Cert.GmReal Idealize.ShloMosaic

variable (P : Fin 8192 → Fin 3072 → ℝ) (g b : Fin 256 → ℝ) (ws : Fin 4 → Fin 128 → Fin 128 → ℝ) (bs : Fin 4 → Fin 128 → ℝ)
  (D : Fin 8192 → Fin 256 → ℝ)

/-- The arguments, as arrays of reals. -/
abbrev XP : FVec Ideal S8192x3072 .f32 := fun i => ((P (i 0) (i 1) : ℝ) : EReal)
abbrev XG : FVec Ideal S256 .f32 := fun i => ((g (i 0) : ℝ) : EReal)
abbrev XW : FVec Ideal S4x128x128 .f32 := fun i => ((ws (i 0) (i 1) (i 2) : ℝ) : EReal)
abbrev XB : FVec Ideal S4x128 .f32 := fun i => ((bs (i 0) (i 1) : ℝ) : EReal)
abbrev XD : FVec Ideal S8192x256 .f32 := fun i => ((D (i 0) (i 1) : ℝ) : EReal)

/-- The gelu of a row of the second half. -/
abbrev gr (n : Fin 8192) (k : Fin 256) : ℝ := gel (P n (hi k))
/-- A row of the normed second half. -/
abbrev vr (n : Fin 8192) (k : Fin 256) : ℝ := std 256 (gr P n) k * g k + b k

theorem v1_real : val_main_v1 (F := Ideal) (XP P) = fun i => ((P (i 0) (lo (i 1)) : ℝ) : EReal) := by
  funext i; simp only [val_main_v1_apply, val_main_v0_apply, XP]; rfl

theorem v2_real : val_main_v2 (F := Ideal) (XP P) = fun i => ((P (i 0) (hi (i 1)) : ℝ) : EReal) := by
  funext i; simp only [val_main_v2_apply, val_main_v0_apply, XP]; rfl

theorem v6_real (i) : val_main_v6 (F := Ideal) i = (((Real.sqrt 2)⁻¹ : ℝ) : EReal) := by
  simp only [val_main_v6_apply, val_main_cst_0_apply, Ideal.ofBits_def, bits_half]; exact sqrt_half_coe

theorem v17_real (i) : val_main_v17 (F := Ideal) i = (((Real.sqrt 2)⁻¹ : ℝ) : EReal) := v6_real i

theorem v8_real : val_main_v8 (F := Ideal) (XP P) = fun i => ((-(P (i 0) (lo (i 1)) * (Real.sqrt 2)⁻¹) : ℝ) : EReal) := by
  funext i
  simp only [val_main_v8_apply, val_main_v5_apply, val_main_v7_apply, v6_real, v1_real, Ideal.mulf_def, Ideal.hostNegf_def, Ideal.negf_def, neg_coe, mul_coe, neg_mul]

theorem v19_real : val_main_v19 (F := Ideal) (XP P) = fun i => ((-(P (i 0) (hi (i 1)) * (Real.sqrt 2)⁻¹) : ℝ) : EReal) := by
  funext i
  simp only [val_main_v19_apply, val_main_v16_apply, val_main_v18_apply, v17_real, v2_real, Ideal.mulf_def, Ideal.hostNegf_def, Ideal.negf_def, neg_coe, mul_coe, neg_mul]

theorem v9_real : val_main_v9 (F := Ideal) (XP P) = fun i => ((1 + erfR (P (i 0) (lo (i 1)) * (Real.sqrt 2)⁻¹) : ℝ) : EReal) := by
  funext i; simp only [val_main_v9_apply, v8_real, Ideal.hostUnary_erfc_def, erfc_neg_coe]

theorem v20_real : val_main_v20 (F := Ideal) (XP P) = fun i => ((1 + erfR (P (i 0) (hi (i 1)) * (Real.sqrt 2)⁻¹) : ℝ) : EReal) := by
  funext i; simp only [val_main_v20_apply, v19_real, Ideal.hostUnary_erfc_def, erfc_neg_coe]

theorem v4_real : val_main_v4 (F := Ideal) (XP P) = fun i => ((1 / 2 * P (i 0) (lo (i 1)) : ℝ) : EReal) := by
  funext i; simp only [val_main_v4_apply, val_main_v3_apply, val_main_cst_apply, v1_real, Ideal.mulf_def, Ideal.ofBits_def, bits_half, mul_coe]

theorem v15_real : val_main_v15 (F := Ideal) (XP P) = fun i => ((1 / 2 * P (i 0) (hi (i 1)) : ℝ) : EReal) := by
  funext i; simp only [val_main_v15_apply, val_main_v14_apply, val_main_cst_1_apply, v2_real, Ideal.mulf_def, Ideal.ofBits_def, bits_half, mul_coe]

theorem v12_real : val_main_v12 (F := Ideal) (XP P) =
    fun i => ((Real.exp (-(1 / 2) * P (i 0) (lo (i 1)) * P (i 0) (lo (i 1))) : ℝ) : EReal) := by
  funext i
  simp only [val_main_v12_apply, val_main_v11_apply, val_main_v10_apply, v8_real, Ideal.mulf_def, Ideal.hostNegf_def, Ideal.negf_def, Ideal.hostUnary_exp_def, mul_coe, neg_coe,
    exp_coe, sq_inv_sqrt_two]

theorem v23_real : val_main_v23 (F := Ideal) (XP P) =
    fun i => ((Real.exp (-(1 / 2) * P (i 0) (hi (i 1)) * P (i 0) (hi (i 1))) : ℝ) : EReal) := by
  funext i
  simp only [val_main_v23_apply, val_main_v22_apply, val_main_v21_apply, v19_real, Ideal.mulf_def, Ideal.hostNegf_def, Ideal.negf_def, Ideal.hostUnary_exp_def, mul_coe, neg_coe,
    exp_coe, sq_inv_sqrt_two]

theorem v13_real : val_main_v13 (F := Ideal) (XP P) = fun i => ((gel (P (i 0) (lo (i 1))) : ℝ) : EReal) := by
  funext i; simp only [val_main_v13_apply, v4_real, v9_real, Ideal.mulf_def, mul_coe]; rfl

theorem v24_real : val_main_v24 (F := Ideal) (XP P) = fun i => ((gr P (i 0) (i 1) : ℝ) : EReal) := by
  funext i; simp only [val_main_v24_apply, v15_real, v20_real, Ideal.mulf_def, mul_coe]; rfl

theorem v30_real : val_main_v30 (F := Ideal) (XP P) = fun i => ((cen 256 (gr P (i 0)) (i 1) : ℝ) : EReal) := by
  funext i
  simp (disch := norm_num) only [val_main_v30_apply, val_main_v29_apply, val_main_v28_apply, val_main_v27_apply, val_main_v26_apply, val_main_v25_apply,
    val_main_cst_3_apply, val_main_cst_4_apply, v24_real, Ideal.subf_def, Ideal.hostDivf_def, Ideal.ofBits_def, Ideal.ofBits_zero_f32, bits_256, zero_add, sum_coe,
    div_coe, sub_coe]
  rfl

theorem v39_real : val_main_v39 (F := Ideal) (XP P) = fun i => ((cen 256 (gr P (i 0)) (i 1) : ℝ) : EReal) := v30_real P

theorem v41_real : val_main_v41 (F := Ideal) (XP P) = fun i => ((var 256 (gr P (i 0)) : ℝ) : EReal) := by
  funext i
  simp (disch := norm_num) only [val_main_v41_apply, val_main_v40_apply, val_main_v37_apply, val_main_v36_apply, val_main_v35_apply, val_main_v34_apply, val_main_v31_apply,
    val_main_cst_6_apply, val_main_cst_7_apply, val_main_cst_8_apply, v30_real, Ideal.addf_def, Ideal.mulf_def, Ideal.hostDivf_def, Ideal.ofBits_def,
    Ideal.ofBits_zero_f32, bits_256, bits_eps, zero_add, mul_coe, sum_coe, div_coe, add_coe]
  rfl

theorem v42_real : val_main_v42 (F := Ideal) (XP P) = fun i => ((rs 256 (gr P (i 0)) : ℝ) : EReal) := by
  funext i
  simp only [val_main_v42_apply, v41_real, Ideal.hostUnary_rsqrt_def, rsqrt_coe _ (var_pos 256 _ (by norm_num))]
  rfl

theorem v45_real : val_main_v45 (F := Ideal) (XP P) = fun i => ((-(1 / 2) * (rs 256 (gr P (i 0)) / var 256 (gr P (i 0))) : ℝ) : EReal) := by
  funext i
  simp only [val_main_v45_apply, val_main_v44_apply, val_main_v43_apply, val_main_cst_9_apply, v41_real, v42_real, Ideal.mulf_def, Ideal.hostDivf_def, Ideal.ofBits_def,
    bits_neg_half, div_coe _ _ (var_pos 256 _ (by norm_num)).ne', mul_coe]

theorem v47_real : val_main_v47 (F := Ideal) (XP P) = fun i => ((std 256 (gr P (i 0)) (i 1) : ℝ) : EReal) := by
  funext i
  simp only [val_main_v47_apply, val_main_v46_apply, v39_real, v42_real, Ideal.mulf_def, mul_coe]
  rfl

theorem v53_real : val_main_v53 (F := Ideal) (XP P) (XG g) (XG b) = fun i => ((vr P g b (i 0) (i 1) : ℝ) : EReal) := by
  funext i
  simp only [val_main_v53_apply, val_main_v50_apply, val_main_v49_apply, val_main_v48_apply, val_main_v52_apply, val_main_v51_apply, v47_real, Ideal.mulf_def,
    Ideal.addf_def, mul_coe, add_coe]
  rfl

theorem v54_real : val_main_v54 (F := Ideal) (XP P) (XG g) (XG b) = fun i => ((vr P g b (cr (i 0) (i 1)) (col (i 2) (i 3)) : ℝ) : EReal) := by
  funext i
  pointwise [val_main_v54, v53_real]
  rfl

theorem v61_real : val_main_v61 (F := Ideal) (XP P) (XG g) (XG b) (XW ws) (XB bs) =
    fun i => ((mix (PV P (i 0)) g b ws bs (i 1) (col (i 2) (i 3)) : ℝ) : EReal) := by
  funext i
  simp only [val_main_v61_apply, val_main_v60_apply, val_main_v59_apply, val_main_v58_apply, val_main_v57_apply, val_main_v56_apply, val_main_v55_apply,
    v54_real, XW, XB, Ideal.addf_def, mul_coe, sum_coe, add_coe]
  exact congrArg Real.toEReal (mix_col (PV P (i 0)) g b ws bs (i 1) (i 2) (i 3)).symm

theorem v62_real : val_main_v62 (F := Ideal) (XP P) = fun i => ((gel (PU P (i 0) (i 1) (col (i 2) (i 3))) : ℝ) : EReal) := by
  funext i
  pointwise [val_main_v62, v13_real]
  rfl

theorem v65_real : val_main_v65 (F := Ideal) (XD D) = fun i => ((RO D (i 0) (i 1) (col (i 2) (i 3)) : ℝ) : EReal) := by
  funext i
  pointwise [val_main_v65, XD]
  rfl

theorem v66_real : val_main_v66 (F := Ideal) (XP P) (XD D) = fun i => ((dm (PU P (i 0)) (RO D (i 0)) (i 1) (col (i 2) (i 3)) : ℝ) : EReal) := by
  funext i
  simp only [val_main_v66_apply, v62_real, v65_real, Ideal.mulf_def, mul_coe]
  exact congrArg Real.toEReal (mul_comm _ _)

theorem v67_real : val_main_v67 (F := Ideal) (XP P) (XG g) (XG b) (XW ws) (XB bs) (XD D) =
    fun i => ((RO D (i 0) (i 1) (col (i 2) (i 3)) * mix (PV P (i 0)) g b ws bs (i 1) (col (i 2) (i 3)) : ℝ) : EReal) := by
  funext i
  simp only [val_main_v67_apply, v61_real, v65_real, Ideal.mulf_def, mul_coe]

theorem v68_real : val_main_v68 (F := Ideal) (XP P) (XG g) (XG b) (XW ws) (XB bs) (XD D) =
    fun i => ((RO D (cof (i 0)) (rof (i 0)) (i 1) * mix (PV P (cof (i 0))) g b ws bs (rof (i 0)) (i 1) : ℝ) : EReal) := by
  funext i
  pointwise [val_main_v68, v67_real]
  exact congrArg Real.toEReal (by rw [col_divmod (i 1)]; rfl)

/-- A host sum over the first and the last of four axes. -/
theorem hostReduceAdd_ends {n0 n1 n2 n3 : ℕ} {t : Shape} (h : (⟨4, ![n0, n1, n2, n3]⟩ : Shape).ReducesTo [0, 3] t)
    (v : (⟨4, ![n0, n1, n2, n3]⟩ : Shape).Idx → EReal) (init : EReal) (j : t.Idx) (h0 : 0 < t.rank) (h1 : 1 < t.rank)
    (s0 : t.size ⟨0, h0⟩ = n1) (s1 : t.size ⟨1, h1⟩ = n2) :
    Ideal.hostReduceAdd h v init j = init + ∑ c : Fin n0, ∑ d : Fin n3,
      v (ix4 c ⟨(j ⟨0, h0⟩).val, Shape.coordLt (j ⟨0, h0⟩) s0⟩ ⟨(j ⟨1, h1⟩).val, Shape.coordLt (j ⟨1, h1⟩) s1⟩ d) := by
  refine congrArg (init + ·) ?_
  refine (Finset.sum_filter_eq_sum_of_fiber _
    (fun k : Fin n0 × Fin n3 => ix4 k.1 ⟨(j ⟨0, h0⟩).val, Shape.coordLt (j ⟨0, h0⟩) s0⟩ ⟨(j ⟨1, h1⟩).val, Shape.coordLt (j ⟨1, h1⟩) s1⟩ k.2)
    (fun k l e => Prod.ext (congrFun e 0) (congrFun e 3)) (fun i => ⟨fun e => ⟨(i 0, i 3), ?_⟩, ?_⟩) v).trans
    (Fintype.sum_prod_type _)
  · funext a; apply Fin.ext
    match a with
    | ⟨0, _⟩ => rfl
    | ⟨1, _⟩ => exact (congrArg Fin.val (congrFun e ⟨0, h0⟩)).symm
    | ⟨2, _⟩ => exact (congrArg Fin.val (congrFun e ⟨1, h1⟩)).symm
    | ⟨3, _⟩ => rfl
  · rintro ⟨k, rfl⟩
    funext a; apply Fin.ext
    match a with
    | ⟨0, _⟩ => rfl
    | ⟨1, _⟩ => rfl
    | ⟨_ + 2, hb⟩ => exact absurd hb (by have : t.rank = 2 := h.1; omega)

theorem ends_64 (h : S64x128x4x64.ReducesTo [0, 3] S128x4) (v : S64x128x4x64.Idx → EReal) (init : EReal) (j : S128x4.Idx) :
    Ideal.hostReduceAdd h v init j = init + ∑ c : Fin 64, ∑ d : Fin 64, v (ix4 c (j 0) (j 1) d) :=
  hostReduceAdd_ends h v init j (by decide) (by decide) rfl rfl

theorem ends_1 (h : S1x128x4x1.ReducesTo [0, 3] S128x4) (v : S1x128x4x1.Idx → EReal) (init : EReal) (j : S128x4.Idx) :
    Ideal.hostReduceAdd h v init j = init + ∑ c : Fin 1, ∑ d : Fin 1, v (ix4 c (j 0) (j 1) d) :=
  hostReduceAdd_ends h v init j (by decide) (by decide) rfl rfl

theorem v69_real : val_main_v69 (F := Ideal) (XP P) (XD D) = fun i => ((∑ c, dbs (PU P c) (RO D c) (i 1) (i 0) : ℝ) : EReal) := by
  funext i
  refine (ends_64 _ (val_main_v66 (F := Ideal) (XP P) (XD D)) (val_main_cst_10 (F := Ideal) (Shape.Idx.first Gen.h_S_)) i).trans ?_
  simp only [v66_real, val_main_cst_10_apply, Ideal.ofBits_def, Ideal.ofBits_zero_f32, zero_add, sum_coe]
  rfl

theorem v71_real : val_main_v71 (F := Ideal) (XP P) (XD D) = fun i => ((∑ c, dbs (PU P c) (RO D c) (i 1) (i 0) : ℝ) : EReal) := by
  funext i
  refine (ends_1 _ (val_main_v70 (F := Ideal) (XP P) (XD D)) (val_main_cst_11 (F := Ideal) (Shape.Idx.first Gen.h_S_)) i).trans ?_
  pointwise [val_main_v70, v69_real, val_main_cst_11]
  simp only [Finset.univ_unique, Finset.sum_singleton, Ideal.ofBits_def, Ideal.ofBits_zero_f32, zero_add]

theorem v73_real : val_main_v73 (F := Ideal) (XP P) (XD D) = fun i => ((∑ c, dbs (PU P c) (RO D c) (i 1) (i 0) : ℝ) : EReal) := by
  funext i
  pointwise [val_main_v73, val_main_v72, v71_real, val_main_cst_12]
  simp only [Finset.univ_unique, Finset.sum_singleton, Ideal.ofBits_def, Ideal.ofBits_zero_f32, zero_add]

theorem v76_real : val_main_v76 (F := Ideal) (XP P) (XG g) (XG b) (XD D) =
    fun i => ((∑ c, dws (PU P c) (PV P c) (RO D c) g b (i 0) (i 1) (i 2) : ℝ) : EReal) := by
  funext i
  pointwise [val_main_v76, val_main_v75, v66_real, v54_real]
  simp only [mul_coe, sum_coe]
  rfl

/-- The gradient in the normed second half, over all the rows. -/
abbrev dr (n : Fin 8192) (k : Fin 256) : ℝ := dvn (PU P (cof n)) (RO D (cof n)) ws (rof n) k

theorem v79_real : val_main_v79 (F := Ideal) (XP P) (XW ws) (XD D) = fun i => ((dr P ws D (i 0) (i 1) : ℝ) : EReal) := by
  have h78 : val_main_v78 (F := Ideal) (XP P) (XW ws) (XD D) =
      fun i => ((dvn (PU P (i 0)) (RO D (i 0)) ws (i 1) (col (i 2) (i 3)) : ℝ) : EReal) := by
    funext i
    simp only [val_main_v78_apply, val_main_v77_apply, val_main_v75_apply, v66_real, XW, mul_coe, sum_coe]
    exact congrArg Real.toEReal (dvn_col (PU P (i 0)) (RO D (i 0)) ws (i 1) (i 2) (i 3)).symm
  funext i
  pointwise [val_main_v79, h78]
  exact congrArg Real.toEReal (by rw [col_divmod (i 1)]; rfl)

theorem v82_real : val_main_v82 (F := Ideal) (XP P) (XW ws) (XD D) = fun i => ((∑ n, dr P ws D n (i 0) : ℝ) : EReal) := by
  funext i
  pointwise [val_main_v82, val_main_v81, val_main_v80, v79_real, val_main_cst_13, val_main_cst_14]
  simp only [Finset.univ_unique, Finset.sum_singleton, Ideal.ofBits_def, Ideal.ofBits_zero_f32, zero_add, sum_coe]

theorem v88_real : val_main_v88 (F := Ideal) (XP P) (XW ws) (XD D) =
    fun i => ((∑ n, std 256 (gr P n) (i 0) * dr P ws D n (i 0) : ℝ) : EReal) := by
  funext i
  pointwise [val_main_v88, val_main_v85, val_main_v84, val_main_v83, v47_real, v79_real, val_main_cst_15, val_main_cst_16]
  simp only [Finset.univ_unique, Finset.sum_singleton, Ideal.ofBits_def, Ideal.ofBits_zero_f32, zero_add, mul_coe, sum_coe]

/-- The gradient in the standardized row. -/
abbrev ar (n : Fin 8192) (k : Fin 256) : ℝ := dr P ws D n k * g k

theorem v87_real : val_main_v87 (F := Ideal) (XP P) (XG g) (XW ws) (XD D) = fun i => ((ar P g ws D (i 0) (i 1) : ℝ) : EReal) := by
  funext i
  simp only [val_main_v87_apply, val_main_v86_apply, val_main_v48_apply, v79_real, Ideal.mulf_def, mul_coe]
  rfl

theorem v93_real : val_main_v93 (F := Ideal) (XP P) (XG g) (XW ws) (XD D) =
    fun i => ((ar P g ws D (i 0) (i 1) * rs 256 (gr P (i 0)) : ℝ) : EReal) := by
  funext i
  simp only [val_main_v93_apply, val_main_v92_apply, v87_real, v42_real, Ideal.mulf_def, mul_coe]
  rfl

/-- The part of the gradient that comes through the standard deviation. -/
abbrev tr (n : Fin 8192) (k : Fin 256) : ℝ :=
  (∑ j, cen 256 (gr P n) j * ar P g ws D n j) * (-(1 / 2) * (rs 256 (gr P n) / var 256 (gr P n))) / 256 * (2 * cen 256 (gr P n) k)

theorem v102_real : val_main_v102 (F := Ideal) (XP P) (XG g) (XW ws) (XD D) = fun i => ((tr P g ws D (i 0) (i 1) : ℝ) : EReal) := by
  have h100 : val_main_v100 (F := Ideal) (XP P) (XG g) (XW ws) (XD D) =
      fun i => (((∑ j, cen 256 (gr P (i 0)) j * ar P g ws D (i 0) j) * (-(1 / 2) * (rs 256 (gr P (i 0)) / var 256 (gr P (i 0)))) / 256 : ℝ) : EReal) := by
    funext i
    pointwise [val_main_v100, val_main_v99, val_main_v98, val_main_v94, val_main_v91, val_main_v90, val_main_v89, v39_real, v87_real, v45_real, val_main_cst_17,
      val_main_cst_19, val_main_cst_20]
    simp (disch := norm_num) only [Finset.univ_unique, Finset.sum_singleton, Ideal.ofBits_def, Ideal.ofBits_zero_f32, bits_256, zero_add, mul_coe, sum_coe, div_coe]
  funext i
  simp only [val_main_v102_apply, val_main_v101_apply, val_main_v33_apply, val_main_v32_apply, val_main_cst_5_apply, v30_real, h100, Ideal.ofBits_def, bits_two,
    Ideal.mulf_def, mul_coe]
  rfl

theorem v112_real : val_main_v112 (F := Ideal) (XP P) (XG g) (XW ws) (XD D) =
    fun i => ((bwd 256 (ar P g ws D (i 0)) (gr P (i 0)) (i 1) : ℝ) : EReal) := by
  have h110 : val_main_v110 (F := Ideal) (XP P) (XG g) (XW ws) (XD D) =
      fun i => (((∑ j, -(ar P g ws D (i 0) j * rs 256 (gr P (i 0))) + ∑ j, -tr P g ws D (i 0) j) / 256 : ℝ) : EReal) := by
    funext i
    pointwise [val_main_v110, val_main_v109, val_main_v108, val_main_v107, val_main_v105, val_main_v104, val_main_v103, val_main_v97, val_main_v96, val_main_v95,
      v93_real, v102_real, val_main_cst_18, val_main_cst_21, val_main_cst_22, val_main_cst_23]
    simp (disch := norm_num) only [Finset.univ_unique, Finset.sum_singleton, Ideal.ofBits_def, Ideal.ofBits_zero_f32, bits_256, zero_add, neg_coe, sum_coe, add_coe,
      div_coe]
  funext i
  simp only [val_main_v112_apply, val_main_v111_apply, val_main_v106_apply, v93_real, v102_real, h110, Ideal.addf_def, add_coe]
  exact congrArg Real.toEReal (bwd_eq 256 _ _ (by norm_num) (by norm_num) _)

theorem v123_real : val_main_v123 (F := Ideal) (XP P) (XG g) (XW ws) (XD D) =
    fun i => ((bwd 256 (ar P g ws D (i 0)) (gr P (i 0)) (i 1) * gel' (P (i 0) (hi (i 1))) : ℝ) : EReal) := by
  funext i
  simp only [val_main_v123_apply, val_main_v122_apply, val_main_v121_apply, val_main_v120_apply, val_main_v119_apply, val_main_v118_apply, val_main_v117_apply,
    val_main_v116_apply, val_main_v115_apply, val_main_v114_apply, val_main_v113_apply, val_main_cst_24_apply, val_main_cst_25_apply, v17_real, v112_real, v15_real,
    v20_real, v23_real, Ideal.mulf_def, Ideal.addf_def, Ideal.hostNegf_def, Ideal.negf_def, Ideal.ofBits_def, bits_erf, bits_half, mul_coe, neg_coe, add_coe]
  exact congrArg Real.toEReal (by rw [gel']; ring)

theorem dpu_of (n : Fin 8192) (k : Fin 256) : dpu (PU P (cof n)) (PV P (cof n)) (RO D (cof n)) g b ws bs (rof n) k =
    RO D (cof n) (rof n) k * mix (PV P (cof n)) g b ws bs (rof n) k * gel' (P n (lo k)) := by rw [dpu, PU, cr_of]

theorem v134_real : val_main_v134 (F := Ideal) (XP P) (XG g) (XG b) (XW ws) (XB bs) (XD D) =
    fun i => ((dpu (PU P (cof (i 0))) (PV P (cof (i 0))) (RO D (cof (i 0))) g b ws bs (rof (i 0)) (i 1) : ℝ) : EReal) := by
  funext i
  simp only [val_main_v134_apply, val_main_v133_apply, val_main_v132_apply, val_main_v131_apply, val_main_v130_apply, val_main_v129_apply, val_main_v128_apply,
    val_main_v127_apply, val_main_v126_apply, val_main_v125_apply, val_main_v124_apply, val_main_cst_26_apply, val_main_cst_27_apply, v6_real, v68_real, v4_real,
    v9_real, v12_real, Ideal.mulf_def, Ideal.addf_def, Ideal.hostNegf_def, Ideal.negf_def, Ideal.ofBits_def, bits_erf, bits_half, mul_coe, neg_coe, add_coe]
  refine congrArg Real.toEReal (Eq.trans ?_ (dpu_of P g b ws bs D (i 0) (i 1)).symm)
  rw [gel']; ring

end Cert.GmRefIdeal.Val

end
-- ==== Proof.GmKernel.lean ====
module

public import proofs.«01_k».proof.Proof.Gen.GmIdeal.Value
public import proofs.«01_k».proof.Proof.GmRef
public import Idealize.ShloMosaic.Lib.Pipeline.ValueKit
public import Idealize.ShloMosaic.Lib.StableHlo.Run

@[expose] public section

/-! # The kernel of the gating's gradients, one chunk of positions at a time, over real arguments -/

set_option maxRecDepth 16384

noncomputable section

open Idealize.ShloMosaic Idealize.ShloMosaic.TcCoe Idealize.SL.Sem
open Idealize.ShloMosaic.Pipeline (Dat)

namespace Cert.GmIdeal.Val

open Cert.GmIdeal Cert.GmIdeal.Gen Cert.Lift Cert.Std Cert.GmReal

theorem named_s : (Named.named (F := Ideal) (φ := .f32) κ "inv_sqrt2" 0x3F3504F3#32 : EReal) = (((Real.sqrt 2)⁻¹ : ℝ) : EReal) :=
  IdealRules.named_const.ideal_named_scalar _ _ _ _ rfl
theorem named_e : (Named.named (F := Ideal) (φ := .f32) κ "half_erf_slope_inv_sqrt2" 0x3ECC422A#32 : EReal) = ((9465531 / 16777216 * (Real.sqrt 2)⁻¹ : ℝ) : EReal) :=
  IdealRules.named_const.ideal_named_scalar _ _ _ _ rfl

theorem lane_lt {α : Type} (k : Fin 128) (a b : α) :
    Scalar.select (IntOp.cmpi .slt (BitVec.ofNat 32 k.val) 64#32) a b = if k.val < 64 then a else b := by
  have h : ∀ k : Fin 128, IntOp.cmpi .slt (BitVec.ofNat 32 k.val) 64#32 = BitVec.ofBool (decide (k.val < 64)) := by decide +kernel
  rw [h]
  pointwise

/-- A choice between reals, as reals. -/
theorem ite_coe (p : Prop) [Decidable p] (x y : ℝ) : (if p then (x : EReal) else (y : EReal)) = ((if p then x else y : ℝ) : EReal) := by
  split_ifs <;> rfl

/-- Arrays of reals: a chunk's rows, one row, and one head's weights. -/
abbrev BV (v : Fin 128 → Fin 256 → ℝ) : FVec Ideal S128x256 .f32 := fun i => ((v (i 0) (i 1) : ℝ) : EReal)
abbrev BH (v : Fin 128 → Fin 128 → ℝ) : FVec Ideal S128x128 .f32 := fun i => ((v (i 0) (i 1) : ℝ) : EReal)
abbrev BR (v : Fin 256 → ℝ) : FVec Ideal S1x256 .f32 := fun i => ((v (i 1) : ℝ) : EReal)
abbrev BW (w : Fin 128 → Fin 128 → ℝ) : FVec Ideal S1x128x128 .f32 := fun i => ((w (i 1) (i 2) : ℝ) : EReal)
/-- The lanes. -/
abbrev LN : IVec S128x128 32 := fun i => BitVec.ofNat 32 (i 1).val

/-- A column of a half of the columns. -/
def cl (k : Fin 128) : Fin 256 := ⟨k.val, by omega⟩
def ch (k : Fin 128) : Fin 256 := ⟨128 + k.val, by omega⟩

variable (pu pv dy : Fin 128 → Fin 256 → ℝ) (g b : Fin 256 → ℝ) (ws : Fin 4 → Fin 128 → Fin 128 → ℝ) (bs : Fin 4 → Fin 128 → ℝ)

theorem pay13_real : k0_pay13 (F := Ideal) (BV pu) = BV fun r k => gel (pu r k) := by
  funext i
  pointwise [k0_pay13]
  simp only [named_s, bits_half, Ideal.erf_def, one_coe, erf_coe, mul_coe, add_coe]
  rfl

theorem pay14_real : k0_pay14 (F := Ideal) (BV pv) = BV fun r => cen 256 (gv pv r) := by
  funext i
  pointwise [k0_pay14]
  simp (disch := norm_num) only [named_s, bits_half, bits_256, Ideal.erf_def, one_coe, erf_coe, mul_coe, add_coe, sum_coe, div_coe, sub_coe]
  rfl

theorem pay15_real : k0_pay15 (F := Ideal) (BV pv) = fun i => ((∑ k, cen 256 (gv pv (i 0)) k * cen 256 (gv pv (i 0)) k : ℝ) : EReal) := by
  funext i
  pointwise [k0_pay15, pay14_real]
  simp only [mul_coe, sum_coe]
  rfl

/-- The reciprocal of a row's standard deviation. -/
abbrev vRs (v : FVec Ideal S128x256 .f32) : FVec Ideal S128x1 .f32 := k0_pay17 (F := Ideal) (k0_pay15 (F := Ideal) v) (k0_pay16 (F := Ideal))

theorem vRs_real : vRs (BV pv) = fun i => ((rs 256 (gv pv (i 0)) : ℝ) : EReal) := by
  funext i
  pointwise [k0_pay17, k0_pay16, pay15_real]
  simp (disch := norm_num) only [bits_256, bits_eps, div_coe, add_coe]
  exact rsqrt_coe _ (var_pos 256 (gv pv (i 0)) (by norm_num))

/-- The standardized rows. -/
abbrev vStd (v : FVec Ideal S128x256 .f32) : FVec Ideal S128x256 .f32 :=
  k0_pay18 (F := Ideal) (k0_pay14 (F := Ideal) v) (k0_pay15 (F := Ideal) v) (k0_pay16 (F := Ideal))

theorem vStd_real : vStd (BV pv) = BV fun r => std 256 (gv pv r) := by
  funext i
  pointwise [k0_pay18, vRs_real, pay14_real]
  simp only [mul_coe]
  rfl

/-- The normed rows. -/
abbrev vVn (v : FVec Ideal S128x256 .f32) (g b : FVec Ideal S1x256 .f32) : FVec Ideal S128x256 .f32 :=
  k0_pay19 (F := Ideal) (k0_pay14 (F := Ideal) v) (k0_pay15 (F := Ideal) v) (k0_pay16 (F := Ideal)) g b

theorem vVn_real : vVn (BV pv) (BR g) (BR b) = BV (vn pv g b) := by
  funext i
  pointwise [k0_pay19, vStd_real]
  simp only [mul_coe, add_coe]
  rfl

/-- A choice among four heads by column. -/
theorem quarter (f : Fin 4 → Fin 256 → ℝ) (k : Fin 256) (h1 : ¬k.val < 128 → k.val - 128 < 128) :
    (if h : k.val < 128 then (((fun k : Fin 128 => if k.val < 64 then f 0 (cl k) else f 1 (cl k)) ⟨k.val, h⟩ : ℝ) : EReal)
      else (((fun k : Fin 128 => if k.val < 64 then f 2 (ch k) else f 3 (ch k)) ⟨k.val - 128, h1 h⟩ : ℝ) : EReal)) = ((f (hof k) k : ℝ) : EReal) := by
  have q (n : Fin 4) (h : k.val / 64 = n.val) : hof k = n := Fin.ext h
  by_cases h : k.val < 128
  · rw [dif_pos h]
    refine congrArg Real.toEReal ?_
    by_cases h' : k.val < 64
    · exact (if_pos h').trans (by rw [q 0 (by show k.val / 64 = 0; omega)]; rfl)
    · exact (if_neg h').trans (by rw [q 1 (by show k.val / 64 = 1; omega)]; rfl)
  · rw [dif_neg h]
    have e : ch ⟨k.val - 128, h1 h⟩ = k := Fin.ext (by show 128 + (k.val - 128) = k.val; omega)
    refine congrArg Real.toEReal ?_
    by_cases h' : k.val - 128 < 64
    · exact (if_pos h').trans (by rw [q 2 (by show k.val / 64 = 2; omega), e])
    · exact (if_neg h').trans (by rw [q 3 (by show k.val / 64 = 3; omega), e])

/-- The gradient in the first half. -/
abbrev vDpu (l : IVec S128x128 32) (pu pv dy bias : FVec Ideal S128x256 .f32) (g b : FVec Ideal S1x256 .f32) (w0 w1 w2 w3 : FVec Ideal S1x128x128 .f32) :
    FVec Ideal S128x256 .bf16 :=
  k0_pay24 (F := Ideal) pu (k0_pay20 (F := Ideal) bias) l
    (k0_pay21 (F := Ideal) (k0_pay14 (F := Ideal) pv) (k0_pay15 (F := Ideal) pv) (k0_pay16 (F := Ideal)) g b w0 w1)
    (k0_pay22 (F := Ideal) (k0_pay14 (F := Ideal) pv) (k0_pay15 (F := Ideal) pv) (k0_pay16 (F := Ideal)) g b)
    (k0_pay23 (F := Ideal) (k0_pay14 (F := Ideal) pv) (k0_pay15 (F := Ideal) pv) (k0_pay16 (F := Ideal)) g b w2) w3 dy

/-- One head's mixture at a column. -/
abbrev mx (h : Fin 4) (p : Fin 128) (k : Fin 256) : ℝ := ∑ q, ws h p q * vn pv g b q k

theorem pay21_real : k0_pay21 (F := Ideal) (k0_pay14 (F := Ideal) (BV pv)) (k0_pay15 (F := Ideal) (BV pv)) (k0_pay16 (F := Ideal)) (BR g) (BR b) (BW (ws 0)) (BW (ws 1)) =
    BH fun p k => if k.val < 64 then mx pv g b ws 0 p (cl k) else mx pv g b ws 1 p (cl k) := by
  funext i
  pointwise [k0_pay21, vVn_real]
  simp only [mul_coe, sum_coe]
  exact (lane_lt (i 1) _ _).trans (ite_coe _ _ _)

theorem right_real : select (cmpi .slt LN (broadcast S128x128 64#32))
      (k0_pay23 (F := Ideal) (k0_pay14 (F := Ideal) (BV pv)) (k0_pay15 (F := Ideal) (BV pv)) (k0_pay16 (F := Ideal)) (BR g) (BR b) (BW (ws 2)))
      (k0_pay23 (F := Ideal) (k0_pay14 (F := Ideal) (BV pv)) (k0_pay15 (F := Ideal) (BV pv)) (k0_pay16 (F := Ideal)) (BR g) (BR b) (BW (ws 3))) =
    BH fun p k => if k.val < 64 then mx pv g b ws 2 p (ch k) else mx pv g b ws 3 p (ch k) := by
  funext i
  pointwise [k0_pay23, k0_pay22, vVn_real]
  simp only [mul_coe, sum_coe]
  exact (lane_lt (i 1) _ _).trans (ite_coe _ _ _)

theorem vDpu_real : vDpu LN (BV pu) (BV pv) (BV dy) (BV fun p k => bs (hof k) p) (BR g) (BR b) (BW (ws 0)) (BW (ws 1)) (BW (ws 2)) (BW (ws 3)) =
    fun i => ((dpu pu pv dy g b ws bs (i 0) (i 1) : ℝ) : EReal) := by
  funext i
  have h := fun h1 => congrFun (right_real pv g b ws) (ix2 (i 0) ⟨(i 1).val - 128, h1⟩)
  pointwise [k0_pay23, k0_pay22, vVn_real] at h
  pointwise [k0_pay24, k0_pay20, pay21_real, k0_pay22, k0_pay23, vVn_real, h]
  refine (congrArg (fun z => BV dy i * (z + BV (fun p k => bs (hof k) p) i) * _) (quarter (fun h k => mx pv g b ws h (i 0) k) (i 1) fun _ => by omega)).trans ?_
  simp only [named_s, named_e, bits_half, bits_neg_half, Ideal.erf_def, one_coe, erf_coe, exp_coe, mul_coe, add_coe]
  rfl

/-- The gradient in the mixture. -/
abbrev vDm (pu dy : FVec Ideal S128x256 .f32) : FVec Ideal S128x256 .f32 := k0_pay25 (F := Ideal) (k0_pay13 (F := Ideal) pu) dy

theorem vDm_real : vDm (BV pu) (BV dy) = BV (dm pu dy) := by
  funext i
  pointwise [k0_pay25, pay13_real]
  simp only [mul_coe]
  rfl

/-- One head's gradient in the normed second half, at a column. -/
abbrev dx (h : Fin 4) (q : Fin 128) (k : Fin 256) : ℝ := ∑ p, ws h p q * dm pu dy p k
/-- One head's weights, transposed. -/
abbrev wt (h : Fin 4) (q p : Fin 128) : ℝ := ws h p q

abbrev vL (l : IVec S128x128 32) (pu dy : FVec Ideal S128x256 .f32) (w0 w1 : FVec Ideal S1x128x128 .f32) : FVec Ideal S128x128 .f32 :=
  k0_pay33 (F := Ideal) l (k0_pay27 (F := Ideal) (k0_pay13 (F := Ideal) pu) dy) w0 w1

theorem vL_real : vL LN (BV pu) (BV dy) (BW (wt ws 0)) (BW (wt ws 1)) =
    BH fun q k => if k.val < 64 then dx pu dy ws 0 q (cl k) else dx pu dy ws 1 q (cl k) := by
  funext i
  pointwise [k0_pay33, k0_pay27, vDm_real]
  simp only [mul_coe, sum_coe]
  exact (lane_lt (i 1) _ _).trans (ite_coe _ _ _)

theorem pay39_real (w : Fin 128 → Fin 128 → ℝ) : k0_pay39 (F := Ideal) (BV (dm pu dy)) (BW w) = BH fun q k => ∑ p, w q p * dm pu dy p (ch k) := by
  funext i
  pointwise [k0_pay39, k0_pay34]
  simp only [mul_coe, sum_coe]
  rfl

theorem pay40_real (w : Fin 128 → Fin 128 → ℝ) : k0_pay40 (F := Ideal) (BV (dm pu dy)) (BW w) = BH fun q k => ∑ p, w q p * dm pu dy p (ch k) :=
  pay39_real pu dy w

/-- The gradient in the normed second half. -/
abbrev vDvn (l : IVec S128x128 32) (pu dy : FVec Ideal S128x256 .f32) (w0 w1 w2 w3 : FVec Ideal S1x128x128 .f32) : FVec Ideal S128x256 .f32 :=
  k0_pay41 (F := Ideal) l (vL l pu dy w0 w1) (k0_pay39 (F := Ideal) (vDm pu dy) w2) (k0_pay40 (F := Ideal) (vDm pu dy) w3)

theorem vDvn_real : vDvn LN (BV pu) (BV dy) (BW (wt ws 0)) (BW (wt ws 1)) (BW (wt ws 2)) (BW (wt ws 3)) = BV (dvn pu dy ws) := by
  funext i
  have h : select (cmpi .slt LN (broadcast S128x128 64#32)) (BH fun q k => dx pu dy ws 2 q (ch k)) (BH fun q k => dx pu dy ws 3 q (ch k)) =
      BH fun q k => if k.val < 64 then dx pu dy ws 2 q (ch k) else dx pu dy ws 3 q (ch k) := by
    funext j
    exact (lane_lt (j 1) _ _).trans (ite_coe _ _ _)
  have h := fun h1 => congrFun h (ix2 (i 0) ⟨(i 1).val - 128, h1⟩)
  pointwise at h
  pointwise [k0_pay41, vL_real, vDm_real, pay39_real, pay40_real, h]
  exact quarter (fun h k => dx pu dy ws h (i 0) k) (i 1) fun _ => by omega

/-- The gradient in the second half. -/
abbrev vDpv (l : IVec S128x128 32) (pu pv dy : FVec Ideal S128x256 .f32) (g : FVec Ideal S1x256 .f32) (w0 w1 w2 w3 : FVec Ideal S1x128x128 .f32) :
    FVec Ideal S128x256 .bf16 :=
  k0_pay46 (F := Ideal) (k0_pay44 (F := Ideal) l (vRs pv) (vStd pv) (vL l pu dy w0 w1) (k0_pay39 (F := Ideal) (vDm pu dy) w2) (k0_pay40 (F := Ideal) (vDm pu dy) w3) g)
    (k0_pay45 (F := Ideal) pv)

theorem pay45_real : k0_pay45 (F := Ideal) (BV pv) = BV fun q k => gel' (pv q k) := by
  funext i
  pointwise [k0_pay45]
  simp only [named_s, named_e, bits_half, bits_neg_half, Ideal.erf_def, one_coe, erf_coe, exp_coe, mul_coe, add_coe]
  rfl

theorem vDpv_real : vDpv LN (BV pu) (BV pv) (BV dy) (BR g) (BW (wt ws 0)) (BW (wt ws 1)) (BW (wt ws 2)) (BW (wt ws 3)) =
    fun i => ((dpv pu pv dy g ws (i 0) (i 1) : ℝ) : EReal) := by
  funext i
  pointwise [k0_pay46, k0_pay44, vDvn_real, vRs_real, vStd_real, pay45_real]
  simp (disch := norm_num) only [bits_256, mul_coe, sum_coe, div_coe, sub_coe]
  rfl

/-! What a chunk adds to each of the sums. -/

theorem vDg_real (a : FVec Ideal S1x256 .f32) (i) :
    k0_pay42 (F := Ideal) LN a (vStd (BV pv)) (vL LN (BV pu) (BV dy) (BW (wt ws 0)) (BW (wt ws 1))) (k0_pay39 (F := Ideal) (vDm (BV pu) (BV dy)) (BW (wt ws 2)))
      (k0_pay40 (F := Ideal) (vDm (BV pu) (BV dy)) (BW (wt ws 3))) i = a i + ((dg pu pv dy ws (i 1) : ℝ) : EReal) := by
  pointwise [k0_pay42, vDvn_real, vStd_real]
  simp only [mul_coe, sum_coe]
  rfl

theorem vDb_real (a : FVec Ideal S1x256 .f32) (i) :
    k0_pay43 (F := Ideal) LN a (vL LN (BV pu) (BV dy) (BW (wt ws 0)) (BW (wt ws 1))) (k0_pay39 (F := Ideal) (vDm (BV pu) (BV dy)) (BW (wt ws 2)))
      (k0_pay40 (F := Ideal) (vDm (BV pu) (BV dy)) (BW (wt ws 3))) i = a i + ((db pu dy ws (i 1) : ℝ) : EReal) := by
  pointwise [k0_pay43, vDvn_real]
  simp only [sum_coe]
  rfl

theorem vDbs_real (a : FVec Ideal S128x256 .f32) (i) :
    k0_pay26 (F := Ideal) a (k0_pay13 (F := Ideal) (BV pu)) (BV dy) i = a i + ((dm pu dy (i 0) (i 1) : ℝ) : EReal) := by
  pointwise [k0_pay26, vDm_real]

/-- A sum over 128 lanes, as two sums over 64. -/
theorem sum_halves (f : Fin 128 → ℝ) : ∑ k, f k = ∑ d : Fin 64, f ⟨d.val, by omega⟩ + ∑ d : Fin 64, f ⟨64 + d.val, by omega⟩ :=
  Fin.sum_univ_add (a := 64) (b := 64) f

/-- Products summed over the lanes of the first of two heads, and of the second. -/
theorem sum_low (x y : Fin 128 → ℝ) :
    ∑ k : Fin 128, Scalar.select (IntOp.cmpi .slt (BitVec.ofNat 32 k.val) 64#32) ((x k : EReal) * (y k : EReal)) 0 =
      ((∑ d : Fin 64, x ⟨d.val, by omega⟩ * y ⟨d.val, by omega⟩ : ℝ) : EReal) := by
  have h (k : Fin 128) : Scalar.select (IntOp.cmpi .slt (BitVec.ofNat 32 k.val) 64#32) ((x k : EReal) * (y k : EReal)) 0 =
      ((if k.val < 64 then x k * y k else 0 : ℝ) : EReal) := by
    rw [lane_lt, mul_coe]; exact ite_coe _ _ 0
  simp only [h, sum_coe]
  refine congrArg Real.toEReal ((sum_halves _).trans ?_)
  simp only [Fin.is_lt, if_true, show ∀ d : ℕ, ¬64 + d < 64 from fun d => by omega, if_false, Finset.sum_const_zero, add_zero]

theorem sum_high (x y : Fin 128 → ℝ) :
    ∑ k : Fin 128, ((x k : EReal) - Scalar.select (IntOp.cmpi .slt (BitVec.ofNat 32 k.val) 64#32) (x k : EReal) 0) * (y k : EReal) =
      ((∑ d : Fin 64, x ⟨64 + d.val, by omega⟩ * y ⟨64 + d.val, by omega⟩ : ℝ) : EReal) := by
  have h (k : Fin 128) : ((x k : EReal) - Scalar.select (IntOp.cmpi .slt (BitVec.ofNat 32 k.val) 64#32) (x k : EReal) 0) * (y k : EReal) =
      ((if k.val < 64 then 0 else x k * y k : ℝ) : EReal) := by
    rw [lane_lt]
    split_ifs
    · rw [sub_coe, mul_coe, sub_self, zero_mul]
    · rw [← EReal.coe_zero, sub_coe, mul_coe, sub_zero]
  simp only [h, sum_coe]
  refine congrArg Real.toEReal ((sum_halves _).trans ?_)
  simp only [Fin.is_lt, if_true, show ∀ d : ℕ, ¬64 + d < 64 from fun d => by omega, if_false, Finset.sum_const_zero, zero_add]

theorem vDws0_real (a : FVec Ideal S128x128 .f32) (i) :
    k0_pay30 (F := Ideal) LN a (k0_pay13 (F := Ideal) (BV pu)) (vVn (BV pv) (BR g) (BR b)) (BV dy) i = a i + ((dws pu pv dy g b 0 (i 0) (i 1) : ℝ) : EReal) := by
  pointwise [k0_pay30, k0_pay29, k0_pay28, k0_pay27, vDm_real, vVn_real]
  refine congrArg (a i + ·) ((sum_low (fun k => dm pu dy (i 0) (cl k)) fun k => vn pv g b (i 1) (cl k)).trans ?_)
  have e (d : Fin 64) : cl ⟨d.val, by omega⟩ = col 0 d := Fin.ext (by show d.val = 0 * 64 + d.val; omega)
  simp only [e]; rfl

theorem vDws1_real (a : FVec Ideal S128x128 .f32) (i) :
    addf a (k0_pay31 (F := Ideal) LN (k0_pay13 (F := Ideal) (BV pu)) (vVn (BV pv) (BR g) (BR b)) (BV dy)) i = a i + ((dws pu pv dy g b 1 (i 0) (i 1) : ℝ) : EReal) := by
  pointwise [k0_pay31, k0_pay29, k0_pay28, k0_pay27, vDm_real, vVn_real]
  refine congrArg (a i + ·) ((sum_high (fun k => dm pu dy (i 0) (cl k)) fun k => vn pv g b (i 1) (cl k)).trans ?_)
  have e (d : Fin 64) : cl ⟨64 + d.val, by omega⟩ = col 1 d := Fin.ext (by show 64 + d.val = 1 * 64 + d.val; omega)
  simp only [e]; rfl

theorem vDws2_real (a : FVec Ideal S128x128 .f32) (i) :
    k0_pay37 (F := Ideal) LN a (vVn (BV pv) (BR g) (BR b)) (vDm (BV pu) (BV dy)) i = a i + ((dws pu pv dy g b 2 (i 0) (i 1) : ℝ) : EReal) := by
  pointwise [k0_pay37, k0_pay36, k0_pay35, k0_pay34, vDm_real, vVn_real]
  refine congrArg (a i + ·) ((sum_low (fun k => dm pu dy (i 0) (ch k)) fun k => vn pv g b (i 1) (ch k)).trans ?_)
  have e (d : Fin 64) : ch ⟨d.val, by omega⟩ = col 2 d := Fin.ext (by show 128 + d.val = 2 * 64 + d.val; omega)
  simp only [e]; rfl

theorem vDws3_real (a : FVec Ideal S128x128 .f32) (i) :
    k0_pay38 (F := Ideal) LN a (vVn (BV pv) (BR g) (BR b)) (vDm (BV pu) (BV dy)) i = a i + ((dws pu pv dy g b 3 (i 0) (i 1) : ℝ) : EReal) := by
  pointwise [k0_pay38, k0_pay36, k0_pay35, k0_pay34, vDm_real, vVn_real]
  refine congrArg (a i + ·) ((sum_high (fun k => dm pu dy (i 0) (ch k)) fun k => vn pv g b (i 1) (ch k)).trans ?_)
  have e (d : Fin 64) : ch ⟨64 + d.val, by omega⟩ = col 3 d := Fin.ext (by show 128 + (64 + d.val) = 3 * 64 + d.val; omega)
  simp only [e]; rfl

end Cert.GmIdeal.Val

end
-- ==== Proof.GmBlocks.lean ====
module

public import proofs.«01_k».proof.Proof.GmKernel

@[expose] public section

/-! # What each point of the gating's kernel reads and writes -/

set_option maxRecDepth 16384

noncomputable section

open Idealize.ShloMosaic Idealize.ShloMosaic.TcCoe Idealize.SL.Sem
open Idealize.ShloMosaic.Pipeline (Dat)

namespace Cert.GmIdeal.Val

open Cert.GmIdeal Cert.GmIdeal.Gen Cert.Lift Cert.Std Cert.GmReal

variable (m : (ℓ : Loc nD τ sig) → Buf (Elt Ideal) ℓ)

theorem idx : ∀ t : Fin cfg0.N, win0_0.index t = ![t.val, 0] ∧ win0_1.index t = ![t.val, 1] ∧ win0_2.index t = ![t.val, 0]
    ∧ win0_3.index t = ![0, 0] ∧ win0_4.index t = ![0, 0] ∧ win0_5.index t = ![0, 0, 0] ∧ win0_6.index t = ![0, 0, 0] ∧ win0_7.index t = ![0, 0]
    ∧ win0_8.index t = ![t.val, 0] ∧ win0_9.index t = ![0, 0, 0] ∧ win0_10.index t = ![0, 0] ∧ win0_11.index t = ![0, 0] ∧ win0_12.index t = ![0, 0] :=
  (by decide +kernel : ∀ t : Fin grid0.N, _)

/-- The row of the array that a point's block has at `r`. -/
def row (t : Fin cfg0.N) (r : Fin 512) : Fin 8192 := ⟨t.val * 512 + r.val, by have h : t.val < 16 := lt_of_lt_of_eq t.isLt N_0; omega⟩

/-- A point's block of an array of 256 columns. -/
def BB (t : Fin cfg0.N) (v : Fin 8192 → Fin 256 → ℝ) : FVec Ideal S512x256 .f32 := fun i => ((v (row t (i 0)) (i 1) : ℝ) : EReal)

/-- The weights of the four heads. -/
def BT (v : Fin 4 → Fin 128 → Fin 128 → ℝ) : FVec Ideal S4x128x128 .f32 := fun i => ((v (i 0) (i 1) (i 2) : ℝ) : EReal)

/-- The two halves of the projection, row by row. -/
def PUr (P : Fin 8192 → Fin 3072 → ℝ) (n : Fin 8192) (k : Fin 256) : ℝ := P n (lo k)
def PVr (P : Fin 8192 → Fin 3072 → ℝ) (n : Fin 8192) (k : Fin 256) : ℝ := P n (hi k)

variable (P : Fin 8192 → Fin 3072 → ℝ) (D : Fin 8192 → Fin 256 → ℝ) (g b : Fin 256 → ℝ) (ws : Fin 4 → Fin 128 → Fin 128 → ℝ) (bs : Fin 4 → Fin 128 → ℝ) (c : Dev nD)

theorem blk0 (hx : m ((c : Thread nD τ).loc main_arg0) = GmRefIdeal.Val.XP P) (p : Fin cfg0.N) : iblk m c 0 p = BB p (PUr P) := by
  funext y
  blk_simp [iblk, idx p]
  entry_read
  rw [hx]
  pointwise
  refine congrArg Real.toEReal (congrArg₂ P (Fin.ext ?_) (Fin.ext ?_)) <;> blk_simp [idx p, row, lo]

theorem blk1 (hx : m ((c : Thread nD τ).loc main_arg0) = GmRefIdeal.Val.XP P) (p : Fin cfg0.N) : iblk m c 1 p = BB p (PVr P) := by
  funext y
  blk_simp [iblk, idx p]
  entry_read
  rw [hx]
  pointwise
  refine congrArg Real.toEReal (congrArg₂ P (Fin.ext ?_) (Fin.ext ?_)) <;> blk_simp [idx p, row, hi]

theorem blk2 (hx : m ((c : Thread nD τ).loc main_arg5) = GmRefIdeal.Val.XD D) (p : Fin cfg0.N) : iblk m c 2 p = BB p D := by
  funext y
  blk_simp [iblk, idx p]
  entry_read
  rw [hx]
  pointwise
  refine congrArg Real.toEReal (congrArg₂ D (Fin.ext ?_) (Fin.ext ?_)) <;> blk_simp [idx p, row]

theorem blk3 (hg : m ((c : Thread nD τ).loc main_arg1) = GmRefIdeal.Val.XG g) (p : Fin cfg0.N) : iblk m c 3 p = BR g := by
  funext y
  blk_simp [iblk, idx p]
  entry_read
  rw [hg]
  pointwise
  refine congrArg Real.toEReal (congrArg g (Fin.ext ?_)); blk_simp [idx p]

theorem blk4 (hb : m ((c : Thread nD τ).loc main_arg2) = GmRefIdeal.Val.XG b) (p : Fin cfg0.N) : iblk m c 4 p = BR b := by
  funext y
  blk_simp [iblk, idx p]
  entry_read
  rw [hb]
  pointwise
  refine congrArg Real.toEReal (congrArg b (Fin.ext ?_)); blk_simp [idx p]

theorem ws_congr {h h' : Fin 4} {p p' q q' : Fin 128} (e : h.val = h'.val) (e' : p.val = p'.val) (e'' : q.val = q'.val) :
    ((ws h p q : ℝ) : EReal) = ((ws h' p' q' : ℝ) : EReal) := by rw [Fin.ext e, Fin.ext e', Fin.ext e'']

theorem blk5 (hw : m ((c : Thread nD τ).loc main_arg3) = GmRefIdeal.Val.XW ws) (p : Fin cfg0.N) : iblk m c 5 p = BT ws := by
  funext y
  blk_simp [iblk, idx p]
  entry_read
  rw [hw]
  refine ws_congr ws ?_ ?_ ?_ <;> blk_simp [idx p]

theorem blk6 (hw : m ((c : Thread nD τ).loc main_arg3) = GmRefIdeal.Val.XW ws) (p : Fin cfg0.N) : iblk m c 6 p = BT fun h => wt ws h := by
  funext y
  blk_simp [iblk, idx p]
  entry_read
  rw [hw]
  pointwise
  refine ws_congr ws ?_ ?_ ?_ <;> blk_simp [idx p]

theorem blk7 (hw : m ((c : Thread nD τ).loc main_arg4) = GmRefIdeal.Val.XB bs) (p : Fin cfg0.N) : iblk m c 7 p = BV fun p k => bs (hof k) p := by
  funext y
  blk_simp [iblk, idx p]
  entry_read
  rw [hw]
  pointwise
  refine congrArg Real.toEReal (congrArg₂ bs (Fin.ext ?_) (Fin.ext ?_)) <;> blk_simp [idx p, hof]

/-- The chunk that a point's block has at `q`. -/
def ck (t : Fin cfg0.N) (q : Fin 4) : Fin 64 := ⟨t.val * 4 + q.val, by have h : t.val < 16 := lt_of_lt_of_eq t.isLt N_0; omega⟩

theorem lanes (h) : iota .tc S128x128 32 [1] h = LN := by
  funext i
  pointwise

theorem row_ck (t : Fin cfg0.N) (q : Fin 4) (o : ℕ) (ho : o = q.val * 128) (r : Fin 128) (h) : row t ⟨o + r.val, h⟩ = cr (ck t q) r :=
  Fin.ext (by show t.val * 512 + (o + r.val) = (t.val * 4 + q.val) * 128 + r.val; omega)

section loads

variable (t : Fin cfg0.N) (v : Fin 8192 → Fin 256 → ℝ) (w : Fin 4 → Fin 128 → Fin 128 → ℝ)

theorem ld_rows (q : Fin 4) (o : ℕ) (ho : o = q.val * 128) (inb) :
    View.ld (Val := Elt Ideal) (e' := .f32) (S := S512x256) (BB t v) (Rect.unit ![o, 0] ![128, 256] inb) = BV (RO v (ck t q)) := by
  funext y
  pointwise
  exact congrArg (fun n => ((v n (y 1) : ℝ) : EReal)) (row_ck t q o ho (y 0) _)

theorem ld_0 (inb) : View.ld (Val := Elt Ideal) (e' := .f32) (S := S512x256) (BB t v) (Rect.unit ![0, 0] ![128, 256] inb) = BV (RO v (ck t 0)) :=
  ld_rows t v 0 0 rfl inb
theorem ld_1 (inb) : View.ld (Val := Elt Ideal) (e' := .f32) (S := S512x256) (BB t v) (Rect.unit ![128, 0] ![128, 256] inb) = BV (RO v (ck t 1)) :=
  ld_rows t v 1 128 rfl inb
theorem ld_2 (inb) : View.ld (Val := Elt Ideal) (e' := .f32) (S := S512x256) (BB t v) (Rect.unit ![256, 0] ![128, 256] inb) = BV (RO v (ck t 2)) :=
  ld_rows t v 2 256 rfl inb
theorem ld_3 (inb) : View.ld (Val := Elt Ideal) (e' := .f32) (S := S512x256) (BB t v) (Rect.unit ![384, 0] ![128, 256] inb) = BV (RO v (ck t 3)) :=
  ld_rows t v 3 384 rfl inb

theorem ld_w0 (inb) : View.ld (Val := Elt Ideal) (e' := .f32) (S := S4x128x128) (BT w) (Rect.unit ![0, 0, 0] ![1, 128, 128] inb) = BW (w 0) := by
  funext y
  pointwise
  rfl
theorem ld_w1 (inb) : View.ld (Val := Elt Ideal) (e' := .f32) (S := S4x128x128) (BT w) (Rect.unit ![1, 0, 0] ![1, 128, 128] inb) = BW (w 1) := by
  funext y
  pointwise
  rfl
theorem ld_w2 (inb) : View.ld (Val := Elt Ideal) (e' := .f32) (S := S4x128x128) (BT w) (Rect.unit ![2, 0, 0] ![1, 128, 128] inb) = BW (w 2) := by
  funext y
  pointwise
  rfl
theorem ld_w3 (inb) : View.ld (Val := Elt Ideal) (e' := .f32) (S := S4x128x128) (BT w) (Rect.unit ![3, 0, 0] ![1, 128, 128] inb) = BW (w 3) := by
  funext y
  pointwise
  rfl

end loads

/-- What a chunk's rows of a point's blocks are. -/
abbrev up (p : Fin cfg0.N) (q : Fin 4) := RO (PUr P) (ck p q)
abbrev vp (p : Fin cfg0.N) (q : Fin 4) := RO (PVr P) (ck p q)
abbrev yp (p : Fin cfg0.N) (q : Fin 4) := RO D (ck p q)

section reads

variable (p : Fin cfg0.N)

/-- A point's blocks as the kernel's loads read them. -/
abbrev rd0 (o : ℕ) (inb : ∀ a, (![o, 0] : Fin S512x256.rank → ℕ) a + (![128, 256] : Fin S512x256.rank → ℕ) a ≤ S512x256.size a) : FVec Ideal S128x256 .f32 := View.ld (View.read (Elt Ideal) (ms0_0 p).view ((hs0_0 p).unread (iblk m c 0 p))) (Rect.unit ![o, 0] ![128, 256] inb)
abbrev rd1 (o : ℕ) (inb : ∀ a, (![o, 0] : Fin S512x256.rank → ℕ) a + (![128, 256] : Fin S512x256.rank → ℕ) a ≤ S512x256.size a) : FVec Ideal S128x256 .f32 := View.ld (View.read (Elt Ideal) (ms0_1 p).view ((hs0_1 p).unread (iblk m c 1 p))) (Rect.unit ![o, 0] ![128, 256] inb)
abbrev rd2 (o : ℕ) (inb : ∀ a, (![o, 0] : Fin S512x256.rank → ℕ) a + (![128, 256] : Fin S512x256.rank → ℕ) a ≤ S512x256.size a) : FVec Ideal S128x256 .f32 := View.ld (View.read (Elt Ideal) (ms0_2 p).view ((hs0_2 p).unread (iblk m c 2 p))) (Rect.unit ![o, 0] ![128, 256] inb)
abbrev rd3 : FVec Ideal S1x256 .f32 := View.ld (View.read (Elt Ideal) (ms0_3 p).view ((hs0_3 p).unread (iblk m c 3 p))) (Rect.unit ![0, 0] ![1, 256] inb_S1x256_S1x256_0_0)
abbrev rd4 : FVec Ideal S1x256 .f32 := View.ld (View.read (Elt Ideal) (ms0_4 p).view ((hs0_4 p).unread (iblk m c 4 p))) (Rect.unit ![0, 0] ![1, 256] inb_S1x256_S1x256_0_0)
abbrev rd6 (o : ℕ) (inb : ∀ a, (![o, 0, 0] : Fin S4x128x128.rank → ℕ) a + (![1, 128, 128] : Fin S4x128x128.rank → ℕ) a ≤ S4x128x128.size a) : FVec Ideal S1x128x128 .f32 := View.ld (View.read (Elt Ideal) (ms0_6 p).view ((hs0_6 p).unread (iblk m c 6 p))) (Rect.unit ![o, 0, 0] ![1, 128, 128] inb)

theorem rd0_real (h0 : m ((c : Thread nD τ).loc main_arg0) = GmRefIdeal.Val.XP P) (q : Fin 4) (o : ℕ) (ho : o = q.val * 128) (inb) : rd0 m c p o inb = BV (up P p q) := by
  rw [rd0, Memref.IsWhole.read_unread, blk0 m P c h0]
  exact ld_rows p _ q o ho inb
theorem rd1_real (h0 : m ((c : Thread nD τ).loc main_arg0) = GmRefIdeal.Val.XP P) (q : Fin 4) (o : ℕ) (ho : o = q.val * 128) (inb) : rd1 m c p o inb = BV (vp P p q) := by
  rw [rd1, Memref.IsWhole.read_unread, blk1 m P c h0]
  exact ld_rows p _ q o ho inb
theorem rd2_real (h5 : m ((c : Thread nD τ).loc main_arg5) = GmRefIdeal.Val.XD D) (q : Fin 4) (o : ℕ) (ho : o = q.val * 128) (inb) : rd2 m c p o inb = BV (yp D p q) := by
  rw [rd2, Memref.IsWhole.read_unread, blk2 m D c h5]
  exact ld_rows p _ q o ho inb
theorem rd6_real0 (h3 : m ((c : Thread nD τ).loc main_arg3) = GmRefIdeal.Val.XW ws) (inb) : rd6 m c p 0 inb = BW (wt ws 0) := by
  rw [rd6, Memref.IsWhole.read_unread, blk6 m ws c h3]
  exact ld_w0 _ _
theorem rd6_real1 (h3 : m ((c : Thread nD τ).loc main_arg3) = GmRefIdeal.Val.XW ws) (inb) : rd6 m c p 1 inb = BW (wt ws 1) := by
  rw [rd6, Memref.IsWhole.read_unread, blk6 m ws c h3]
  exact ld_w1 _ _
theorem rd6_real2 (h3 : m ((c : Thread nD τ).loc main_arg3) = GmRefIdeal.Val.XW ws) (inb) : rd6 m c p 2 inb = BW (wt ws 2) := by
  rw [rd6, Memref.IsWhole.read_unread, blk6 m ws c h3]
  exact ld_w2 _ _
theorem rd6_real3 (h3 : m ((c : Thread nD τ).loc main_arg3) = GmRefIdeal.Val.XW ws) (inb) : rd6 m c p 3 inb = BW (wt ws 3) := by
  rw [rd6, Memref.IsWhole.read_unread, blk6 m ws c h3]
  exact ld_w3 _ _
theorem rd3_real (h1 : m ((c : Thread nD τ).loc main_arg1) = GmRefIdeal.Val.XG g) : rd3 m c p = BR g := by
  rw [rd3, Memref.IsWhole.read_unread, blk3 m g c h1]
  exact View.ld_unit_lit' (Val := Elt Ideal) (e := .f32) (S := S1x256) inb_S1x256_S1x256_0_0 _ (by decide)
theorem rd4_real (h2 : m ((c : Thread nD τ).loc main_arg2) = GmRefIdeal.Val.XG b) : rd4 m c p = BR b := by
  rw [rd4, Memref.IsWhole.read_unread, blk4 m b c h2]
  exact View.ld_unit_lit' (Val := Elt Ideal) (e := .f32) (S := S1x256) inb_S1x256_S1x256_0_0 _ (by decide)

abbrev rd5 (o : ℕ) (inb : ∀ a, (![o, 0, 0] : Fin S4x128x128.rank → ℕ) a + (![1, 128, 128] : Fin S4x128x128.rank → ℕ) a ≤ S4x128x128.size a) : FVec Ideal S1x128x128 .f32 := View.ld (View.read (Elt Ideal) (ms0_5 p).view ((hs0_5 p).unread (iblk m c 5 p))) (Rect.unit ![o, 0, 0] ![1, 128, 128] inb)
abbrev rd7 : FVec Ideal S128x256 .f32 := View.ld (View.read (Elt Ideal) (ms0_7 p).view ((hs0_7 p).unread (iblk m c 7 p))) (Rect.unit ![0, 0] ![128, 256] inb_S128x256_S128x256_0_0)

theorem rd5_real0 (h3 : m ((c : Thread nD τ).loc main_arg3) = GmRefIdeal.Val.XW ws) (inb) : rd5 m c p 0 inb = BW (ws 0) := by
  rw [rd5, Memref.IsWhole.read_unread, blk5 m ws c h3]
  exact ld_w0 _ _
theorem rd5_real1 (h3 : m ((c : Thread nD τ).loc main_arg3) = GmRefIdeal.Val.XW ws) (inb) : rd5 m c p 1 inb = BW (ws 1) := by
  rw [rd5, Memref.IsWhole.read_unread, blk5 m ws c h3]
  exact ld_w1 _ _
theorem rd5_real2 (h3 : m ((c : Thread nD τ).loc main_arg3) = GmRefIdeal.Val.XW ws) (inb) : rd5 m c p 2 inb = BW (ws 2) := by
  rw [rd5, Memref.IsWhole.read_unread, blk5 m ws c h3]
  exact ld_w2 _ _
theorem rd5_real3 (h3 : m ((c : Thread nD τ).loc main_arg3) = GmRefIdeal.Val.XW ws) (inb) : rd5 m c p 3 inb = BW (ws 3) := by
  rw [rd5, Memref.IsWhole.read_unread, blk5 m ws c h3]
  exact ld_w3 _ _
theorem rd7_real (h4 : m ((c : Thread nD τ).loc main_arg4) = GmRefIdeal.Val.XB bs) : rd7 m c p = BV fun p k => bs (hof k) p := by
  rw [rd7, Memref.IsWhole.read_unread, blk7 m bs c h4]
  exact View.ld_unit_lit' (Val := Elt Ideal) (e := .f32) (S := S128x256) inb_S128x256_S128x256_0_0 _ (by decide)

end reads

/-! What a point's four chunks add to each of the sums. -/

section sums

variable (l : IVec S128x128 32) (u v y : FVec Ideal S128x256 .f32) (w0 w1 w2 w3 : FVec Ideal S1x128x128 .f32) (gg bb : FVec Ideal S1x256 .f32)

abbrev gS (a : FVec Ideal S1x256 .f32) : FVec Ideal S1x256 .f32 :=
  k0_pay42 (F := Ideal) l a (vStd v) (vL l u y w0 w1) (k0_pay39 (F := Ideal) (vDm u y) w2) (k0_pay40 (F := Ideal) (vDm u y) w3)
abbrev bS (a : FVec Ideal S1x256 .f32) : FVec Ideal S1x256 .f32 :=
  k0_pay43 (F := Ideal) l a (vL l u y w0 w1) (k0_pay39 (F := Ideal) (vDm u y) w2) (k0_pay40 (F := Ideal) (vDm u y) w3)
abbrev sS (a : FVec Ideal S128x256 .f32) : FVec Ideal S128x256 .f32 := k0_pay26 (F := Ideal) a (k0_pay13 (F := Ideal) u) y
abbrev wS0 (a : FVec Ideal S128x128 .f32) : FVec Ideal S128x128 .f32 := k0_pay30 (F := Ideal) l a (k0_pay13 (F := Ideal) u) (vVn v gg bb) y
abbrev wS1 (a : FVec Ideal S128x128 .f32) : FVec Ideal S128x128 .f32 := addf a (k0_pay31 (F := Ideal) l (k0_pay13 (F := Ideal) u) (vVn v gg bb) y)
abbrev wS2 (a : FVec Ideal S128x128 .f32) : FVec Ideal S128x128 .f32 := k0_pay37 (F := Ideal) l a (vVn v gg bb) (vDm u y)
abbrev wS3 (a : FVec Ideal S128x128 .f32) : FVec Ideal S128x128 .f32 := k0_pay38 (F := Ideal) l a (vVn v gg bb) (vDm u y)

end sums
end Cert.GmIdeal.Val

end
-- ==== Proof.GmPoints.lean ====
module

public import proofs.«01_k».proof.Proof.GmBlocks

@[expose] public section

/-! # What each grid point adds to the sums of the gating's gradients -/

set_option maxRecDepth 16384

noncomputable section

open Idealize.ShloMosaic Idealize.ShloMosaic.TcCoe Idealize.SL.Sem
open Idealize.ShloMosaic.Pipeline (Dat)

namespace Cert.GmIdeal.Val

open Cert.GmIdeal Cert.GmIdeal.Gen Cert.Lift Cert.Std Cert.GmReal

theorem pay_zero6 (i) : k0_pay6 (F := Ideal) i = 0 := by pointwise [k0_pay6]
theorem pay_zero7 (i) : k0_pay7 (F := Ideal) i = 0 := by pointwise [k0_pay7]
theorem pay_zero8 (i) : k0_pay8 (F := Ideal) i = 0 := by pointwise [k0_pay8]
theorem pay_zero9 (i) : k0_pay9 (F := Ideal) i = 0 := by pointwise [k0_pay9]
theorem pay_zero10 (i) : k0_pay10 (F := Ideal) i = 0 := by pointwise [k0_pay10]
theorem pay_zero11 (i) : k0_pay11 (F := Ideal) i = 0 := by pointwise [k0_pay11]
theorem pay_zero12 (i) : k0_pay12 (F := Ideal) i = 0 := by pointwise [k0_pay12]
theorem pay140_id (v) : k0_pay140 (F := Ideal) v = v := by
  funext i
  pointwise [k0_pay140]
theorem k0_pay141_add (v w) : k0_pay141 (F := Ideal) v w = fun i => w i + v i := by
  funext i
  pointwise [k0_pay141]
theorem k0_pay142_add (v w) : k0_pay142 (F := Ideal) v w = fun i => w i + v i := by
  funext i
  pointwise [k0_pay142]
theorem k0_pay1_add (v w) : k0_pay1 (F := Ideal) v w = fun i => w i + v i := by
  funext i
  pointwise [k0_pay1]
theorem pay132_id (v) : k0_pay132 (F := Ideal) v = fun i => v (ix2 (i 1) (i 2)) := by
  funext i
  pointwise [k0_pay132]
theorem pay133_add (v w) : k0_pay133 (F := Ideal) v w = fun i => w i + v (ix2 (i 1) (i 2)) := by
  funext i
  have e : ix3 0 (i 1) (i 2) = i := by
    funext a
    match a with
    | 0 => exact (Fin.eq_zero (i 0)).symm
    | 1 => rfl
    | 2 => rfl
  pointwise [k0_pay133, e]
theorem pay134_id (v) : k0_pay134 (F := Ideal) v = fun i => v (ix2 (i 1) (i 2)) := by
  funext i
  pointwise [k0_pay134]
theorem pay135_add (v w) : k0_pay135 (F := Ideal) v w = fun i => w i + v (ix2 (i 1) (i 2)) := by
  funext i
  have e : ix3 0 (i 1) (i 2) = i := by
    funext a
    match a with
    | 0 => exact (Fin.eq_zero (i 0)).symm
    | 1 => rfl
    | 2 => rfl
  pointwise [k0_pay135, e]
theorem pay136_id (v) : k0_pay136 (F := Ideal) v = fun i => v (ix2 (i 1) (i 2)) := by
  funext i
  pointwise [k0_pay136]
theorem pay137_add (v w) : k0_pay137 (F := Ideal) v w = fun i => w i + v (ix2 (i 1) (i 2)) := by
  funext i
  have e : ix3 0 (i 1) (i 2) = i := by
    funext a
    match a with
    | 0 => exact (Fin.eq_zero (i 0)).symm
    | 1 => rfl
    | 2 => rfl
  pointwise [k0_pay137, e]
theorem pay138_id (v) : k0_pay138 (F := Ideal) v = fun i => v (ix2 (i 1) (i 2)) := by
  funext i
  pointwise [k0_pay138]
theorem pay139_add (v w) : k0_pay139 (F := Ideal) v w = fun i => w i + v (ix2 (i 1) (i 2)) := by
  funext i
  have e : ix3 0 (i 1) (i 2) = i := by
    funext a
    match a with
    | 0 => exact (Fin.eq_zero (i 0)).symm
    | 1 => rfl
    | 2 => rfl
  pointwise [k0_pay139, e]

theorem tW_congr (P : Fin 8192 → Fin 3072 → ℝ) (D : Fin 8192 → Fin 256 → ℝ) (g b : Fin 256 → ℝ) (p : Fin cfg0.N) {x : S4x128x128.Idx} {h : Fin 4} {r s : Fin 128}
    (e0 : h.val = (x 0).val) (e1 : r.val = (x 1).val) (e2 : s.val = (x 2).val) :
    ((∑ q, dws (up P p q) (vp P p q) (yp D p q) g b h r s : ℝ) : EReal) = ((∑ q, dws (up P p q) (vp P p q) (yp D p q) g b (x 0) (x 1) (x 2) : ℝ) : EReal) := by
  have e0 : h = x 0 := Fin.ext e0
  have e1 : r = x 1 := Fin.ext e1
  have e2 : s = x 2 := Fin.ext e2
  subst e0 e1 e2
  rfl
variable (m : (ℓ : Loc nD τ sig) → Buf (Elt Ideal) ℓ)
variable (P : Fin 8192 → Fin 3072 → ℝ) (D : Fin 8192 → Fin 256 → ℝ) (g b : Fin 256 → ℝ) (ws : Fin 4 → Fin 128 → Fin 128 → ℝ) (bs : Fin 4 → Fin 128 → ℝ) (c : Dev nD)

/-- What the point before left, as the kernel's loads read it. -/
theorem prev11 (p : Fin cfg0.N) (v : FVec Ideal S1x256 .f32) :
    View.ld (View.read (Elt Ideal) (ms0_11 p).view ((hs0_11 p).unread v)) (Rect.unit ![0, 0] ![1, 256] inb_S1x256_S1x256_0_0) = v := by
  rw [Memref.IsWhole.read_unread]
  exact View.ld_unit_lit' (Val := Elt Ideal) (e := .f32) (S := S1x256) inb_S1x256_S1x256_0_0 _ (by decide)
theorem prev12 (p : Fin cfg0.N) (v : FVec Ideal S1x256 .f32) :
    View.ld (View.read (Elt Ideal) (ms0_12 p).view ((hs0_12 p).unread v)) (Rect.unit ![0, 0] ![1, 256] inb_S1x256_S1x256_0_0) = v := by
  rw [Memref.IsWhole.read_unread]
  exact View.ld_unit_lit' (Val := Elt Ideal) (e := .f32) (S := S1x256) inb_S1x256_S1x256_0_0 _ (by decide)
theorem prevS (hw : (scM0_0).IsWhole) (v : FVec Ideal S128x256 .f32) :
    View.ld (View.read (Elt Ideal) scM0_0.view (hw.unread v)) (Rect.unit ![0, 0] ![128, 256] inb_S128x256_S128x256_0_0) = v := by
  rw [Memref.IsWhole.read_unread]
  exact View.ld_unit_lit' (Val := Elt Ideal) (e := .f32) (S := S128x256) inb_S128x256_S128x256_0_0 _ (by decide)
theorem prev9 (p : Fin cfg0.N) (v : FVec Ideal S4x128x128 .f32) (o : ℕ) (inb : ∀ a, (![o, 0, 0] : Fin S4x128x128.rank → ℕ) a + (![1, 128, 128] : Fin S4x128x128.rank → ℕ) a ≤ S4x128x128.size a)
    (x : S4x128x128.Idx) (y : S1x128x128.Idx) (e0 : (x 0).val = o) (e1 : (x 1).val = (y 1).val) (e2 : (x 2).val = (y 2).val) :
    View.ld (View.read (Elt Ideal) (ms0_9 p).view ((hs0_9 p).unread v)) (Rect.unit ![o, 0, 0] ![1, 128, 128] inb) y = v x := by
  rw [Memref.IsWhole.read_unread]
  have h : (y 0).val < 1 := (y 0).isLt
  refine congrArg v (funext fun a => Fin.ext ?_)
  match a with
  | 0 => show o + 1 * (y 0).val = (x 0).val; omega
  | 1 => show 0 + 1 * (y 1).val = (x 1).val; omega
  | 2 => show 0 + 1 * (y 2).val = (x 2).val; omega

section

variable (h0 : m ((c : Thread nD τ).loc main_arg0) = GmRefIdeal.Val.XP P) (h1 : m ((c : Thread nD τ).loc main_arg1) = GmRefIdeal.Val.XG g)
  (h2 : m ((c : Thread nD τ).loc main_arg2) = GmRefIdeal.Val.XG b) (h3 : m ((c : Thread nD τ).loc main_arg3) = GmRefIdeal.Val.XW ws)
  (h4 : m ((c : Thread nD τ).loc main_arg4) = GmRefIdeal.Val.XB bs) (h5 : m ((c : Thread nD τ).loc main_arg5) = GmRefIdeal.Val.XD D)

/-- What a point adds to each of the sums. -/
abbrev tG (p : Fin cfg0.N) (k : Fin 256) : ℝ := ∑ q, dg (up P p q) (vp P p q) (yp D p q) ws k
abbrev tB (p : Fin cfg0.N) (k : Fin 256) : ℝ := ∑ q, db (up P p q) (yp D p q) ws k
abbrev tM (p : Fin cfg0.N) (r : Fin 128) (k : Fin 256) : ℝ := ∑ q, dm (up P p q) (yp D p q) r k
abbrev tW (p : Fin cfg0.N) (h : Fin 4) (r s : Fin 128) : ℝ := ∑ q, dws (up P p q) (vp P p q) (yp D p q) g b h r s

include h0 h1 h2 h3 h4 h5

theorem totG (p : Fin cfg0.N) (x) : (gS (iota .tc S128x128 32 [1] iota_S128x128_d1_w32) (rd0 m c p 384 inb_S512x256_S128x256_384_0) (rd1 m c p 384 inb_S512x256_S128x256_384_0) (rd2 m c p 384 inb_S512x256_S128x256_384_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (gS (iota .tc S128x128 32 [1] iota_S128x128_d1_w32) (rd0 m c p 256 inb_S512x256_S128x256_256_0) (rd1 m c p 256 inb_S512x256_S128x256_256_0) (rd2 m c p 256 inb_S512x256_S128x256_256_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (gS (iota .tc S128x128 32 [1] iota_S128x128_d1_w32) (rd0 m c p 128 inb_S512x256_S128x256_128_0) (rd1 m c p 128 inb_S512x256_S128x256_128_0) (rd2 m c p 128 inb_S512x256_S128x256_128_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (gS (iota .tc S128x128 32 [1] iota_S128x128_d1_w32) (rd0 m c p 0 inb_S512x256_S128x256_0_0) (rd1 m c p 0 inb_S512x256_S128x256_0_0) (rd2 m c p 0 inb_S512x256_S128x256_0_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (k0_pay11 (F := Ideal)))))) x = ((tG P D ws p (x 1) : ℝ) : EReal) := by
  rw [lanes, rd0_real m P c p h0 0 0 rfl, rd0_real m P c p h0 1 128 rfl, rd0_real m P c p h0 2 256 rfl, rd0_real m P c p h0 3 384 rfl, rd1_real m P c p h0 0 0 rfl, rd1_real m P c p h0 1 128 rfl, rd1_real m P c p h0 2 256 rfl, rd1_real m P c p h0 3 384 rfl, rd2_real m D c p h5 0 0 rfl, rd2_real m D c p h5 1 128 rfl, rd2_real m D c p h5 2 256 rfl, rd2_real m D c p h5 3 384 rfl, rd6_real0 m ws c p h3, rd6_real1 m ws c p h3, rd6_real2 m ws c p h3, rd6_real3 m ws c p h3]
  simp only [gS, vDg_real, pay_zero11, zero_add, add_assoc, add_coe, tG, Fin.sum_univ_four]
theorem totB (p : Fin cfg0.N) (x) : (bS (iota .tc S128x128 32 [1] iota_S128x128_d1_w32) (rd0 m c p 384 inb_S512x256_S128x256_384_0) (rd2 m c p 384 inb_S512x256_S128x256_384_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (bS (iota .tc S128x128 32 [1] iota_S128x128_d1_w32) (rd0 m c p 256 inb_S512x256_S128x256_256_0) (rd2 m c p 256 inb_S512x256_S128x256_256_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (bS (iota .tc S128x128 32 [1] iota_S128x128_d1_w32) (rd0 m c p 128 inb_S512x256_S128x256_128_0) (rd2 m c p 128 inb_S512x256_S128x256_128_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (bS (iota .tc S128x128 32 [1] iota_S128x128_d1_w32) (rd0 m c p 0 inb_S512x256_S128x256_0_0) (rd2 m c p 0 inb_S512x256_S128x256_0_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (k0_pay12 (F := Ideal)))))) x = ((tB P D ws p (x 1) : ℝ) : EReal) := by
  rw [lanes, rd0_real m P c p h0 0 0 rfl, rd0_real m P c p h0 1 128 rfl, rd0_real m P c p h0 2 256 rfl, rd0_real m P c p h0 3 384 rfl, rd2_real m D c p h5 0 0 rfl, rd2_real m D c p h5 1 128 rfl, rd2_real m D c p h5 2 256 rfl, rd2_real m D c p h5 3 384 rfl, rd6_real0 m ws c p h3, rd6_real1 m ws c p h3, rd6_real2 m ws c p h3, rd6_real3 m ws c p h3]
  simp only [bS, vDb_real, pay_zero12, zero_add, add_assoc, add_coe, tB, Fin.sum_univ_four]
theorem totM (p : Fin cfg0.N) (x) : (sS (rd0 m c p 384 inb_S512x256_S128x256_384_0) (rd2 m c p 384 inb_S512x256_S128x256_384_0) (sS (rd0 m c p 256 inb_S512x256_S128x256_256_0) (rd2 m c p 256 inb_S512x256_S128x256_256_0) (sS (rd0 m c p 128 inb_S512x256_S128x256_128_0) (rd2 m c p 128 inb_S512x256_S128x256_128_0) (sS (rd0 m c p 0 inb_S512x256_S128x256_0_0) (rd2 m c p 0 inb_S512x256_S128x256_0_0) (k0_pay10 (F := Ideal)))))) x = ((tM P D p (x 0) (x 1) : ℝ) : EReal) := by
  rw [rd0_real m P c p h0 0 0 rfl, rd0_real m P c p h0 1 128 rfl, rd0_real m P c p h0 2 256 rfl, rd0_real m P c p h0 3 384 rfl, rd2_real m D c p h5 0 0 rfl, rd2_real m D c p h5 1 128 rfl, rd2_real m D c p h5 2 256 rfl, rd2_real m D c p h5 3 384 rfl]
  simp only [sS, vDbs_real, pay_zero10, zero_add, add_assoc, add_coe, tM, Fin.sum_univ_four]
theorem totW0 (p : Fin cfg0.N) (x) : (wS0 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS0 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS0 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS0 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay6 (F := Ideal)))))) x = ((tW P D g b p 0 (x 0) (x 1) : ℝ) : EReal) := by
  rw [lanes, rd0_real m P c p h0 0 0 rfl, rd0_real m P c p h0 1 128 rfl, rd0_real m P c p h0 2 256 rfl, rd0_real m P c p h0 3 384 rfl, rd1_real m P c p h0 0 0 rfl, rd1_real m P c p h0 1 128 rfl, rd1_real m P c p h0 2 256 rfl, rd1_real m P c p h0 3 384 rfl, rd2_real m D c p h5 0 0 rfl, rd2_real m D c p h5 1 128 rfl, rd2_real m D c p h5 2 256 rfl, rd2_real m D c p h5 3 384 rfl, rd3_real m g c p h1, rd4_real m b c p h2]
  simp only [wS0, vDws0_real, pay_zero6, zero_add, add_assoc, add_coe, tW, Fin.sum_univ_four]
theorem totW1 (p : Fin cfg0.N) (x) : (wS1 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS1 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS1 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS1 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay7 (F := Ideal)))))) x = ((tW P D g b p 1 (x 0) (x 1) : ℝ) : EReal) := by
  rw [lanes, rd0_real m P c p h0 0 0 rfl, rd0_real m P c p h0 1 128 rfl, rd0_real m P c p h0 2 256 rfl, rd0_real m P c p h0 3 384 rfl, rd1_real m P c p h0 0 0 rfl, rd1_real m P c p h0 1 128 rfl, rd1_real m P c p h0 2 256 rfl, rd1_real m P c p h0 3 384 rfl, rd2_real m D c p h5 0 0 rfl, rd2_real m D c p h5 1 128 rfl, rd2_real m D c p h5 2 256 rfl, rd2_real m D c p h5 3 384 rfl, rd3_real m g c p h1, rd4_real m b c p h2]
  simp only [wS1, vDws1_real, pay_zero7, zero_add, add_assoc, add_coe, tW, Fin.sum_univ_four]
theorem totW2 (p : Fin cfg0.N) (x) : (wS2 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS2 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS2 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS2 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay8 (F := Ideal)))))) x = ((tW P D g b p 2 (x 0) (x 1) : ℝ) : EReal) := by
  rw [lanes, rd0_real m P c p h0 0 0 rfl, rd0_real m P c p h0 1 128 rfl, rd0_real m P c p h0 2 256 rfl, rd0_real m P c p h0 3 384 rfl, rd1_real m P c p h0 0 0 rfl, rd1_real m P c p h0 1 128 rfl, rd1_real m P c p h0 2 256 rfl, rd1_real m P c p h0 3 384 rfl, rd2_real m D c p h5 0 0 rfl, rd2_real m D c p h5 1 128 rfl, rd2_real m D c p h5 2 256 rfl, rd2_real m D c p h5 3 384 rfl, rd3_real m g c p h1, rd4_real m b c p h2]
  simp only [wS2, vDws2_real, pay_zero8, zero_add, add_assoc, add_coe, tW, Fin.sum_univ_four]
theorem totW3 (p : Fin cfg0.N) (x) : (wS3 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS3 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS3 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS3 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay9 (F := Ideal)))))) x = ((tW P D g b p 3 (x 0) (x 1) : ℝ) : EReal) := by
  rw [lanes, rd0_real m P c p h0 0 0 rfl, rd0_real m P c p h0 1 128 rfl, rd0_real m P c p h0 2 256 rfl, rd0_real m P c p h0 3 384 rfl, rd1_real m P c p h0 0 0 rfl, rd1_real m P c p h0 1 128 rfl, rd1_real m P c p h0 2 256 rfl, rd1_real m P c p h0 3 384 rfl, rd2_real m D c p h5 0 0 rfl, rd2_real m D c p h5 1 128 rfl, rd2_real m D c p h5 2 256 rfl, rd2_real m D c p h5 3 384 rfl, rd3_real m g c p h1, rd4_real m b c p h2]
  simp only [wS3, vDws3_real, pay_zero9, zero_add, add_assoc, add_coe, tW, Fin.sum_univ_four]
theorem atA_G (p : Fin cfg0.N) (h : p.val % 16 = 0) (h' : ¬1 ≤ p.val) (h'' : ¬p.val % 16 = 15) (x) : (outsAt0 m c p.val p.isLt).2.2.2.1 x = ((tG P D ws p (x 1) : ℝ) : EReal) := by
  rw [outsAt0_A m c p h h' h h' h h' h h' h h' h h' h h' h'']
  dsimp only
  frame_open
  rw [View.read_writes_junk_eq_canon, View.canon_cons_unit_lit' _ _ _ (by decide)]
  show (gS (iota .tc S128x128 32 [1] iota_S128x128_d1_w32) (rd0 m c p 384 inb_S512x256_S128x256_384_0) (rd1 m c p 384 inb_S512x256_S128x256_384_0) (rd2 m c p 384 inb_S512x256_S128x256_384_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (gS (iota .tc S128x128 32 [1] iota_S128x128_d1_w32) (rd0 m c p 256 inb_S512x256_S128x256_256_0) (rd1 m c p 256 inb_S512x256_S128x256_256_0) (rd2 m c p 256 inb_S512x256_S128x256_256_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (gS (iota .tc S128x128 32 [1] iota_S128x128_d1_w32) (rd0 m c p 128 inb_S512x256_S128x256_128_0) (rd1 m c p 128 inb_S512x256_S128x256_128_0) (rd2 m c p 128 inb_S512x256_S128x256_128_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (gS (iota .tc S128x128 32 [1] iota_S128x128_d1_w32) (rd0 m c p 0 inb_S512x256_S128x256_0_0) (rd1 m c p 0 inb_S512x256_S128x256_0_0) (rd2 m c p 0 inb_S512x256_S128x256_0_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (k0_pay11 (F := Ideal)))))) x = _
  exact totG m P D g b ws bs c h0 h1 h2 h3 h4 h5 p x
theorem atA_B (p : Fin cfg0.N) (h : p.val % 16 = 0) (h' : ¬1 ≤ p.val) (h'' : ¬p.val % 16 = 15) (x) : (outsAt0 m c p.val p.isLt).2.2.2.2.1 x = ((tB P D ws p (x 1) : ℝ) : EReal) := by
  rw [outsAt0_A m c p h h' h h' h h' h h' h h' h h' h h' h'']
  dsimp only
  frame_open
  rw [View.read_writes_junk_eq_canon, View.canon_cons_unit_lit' _ _ _ (by decide)]
  show (bS (iota .tc S128x128 32 [1] iota_S128x128_d1_w32) (rd0 m c p 384 inb_S512x256_S128x256_384_0) (rd2 m c p 384 inb_S512x256_S128x256_384_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (bS (iota .tc S128x128 32 [1] iota_S128x128_d1_w32) (rd0 m c p 256 inb_S512x256_S128x256_256_0) (rd2 m c p 256 inb_S512x256_S128x256_256_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (bS (iota .tc S128x128 32 [1] iota_S128x128_d1_w32) (rd0 m c p 128 inb_S512x256_S128x256_128_0) (rd2 m c p 128 inb_S512x256_S128x256_128_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (bS (iota .tc S128x128 32 [1] iota_S128x128_d1_w32) (rd0 m c p 0 inb_S512x256_S128x256_0_0) (rd2 m c p 0 inb_S512x256_S128x256_0_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (k0_pay12 (F := Ideal)))))) x = _
  exact totB m P D g b ws bs c h0 h1 h2 h3 h4 h5 p x
theorem atA_M (p : Fin cfg0.N) (h : p.val % 16 = 0) (h' : ¬1 ≤ p.val) (h'' : ¬p.val % 16 = 15) (x) : (outsAt0 m c p.val p.isLt).2.2.2.2.2 x = ((tM P D p (x 0) (x 1) : ℝ) : EReal) := by
  rw [outsAt0_A m c p h h' h h' h h' h h' h h' h h' h h' h'']
  dsimp only
  frame_open
  rw [View.read_writes_junk_eq_canon, View.canon_cons_unit_lit' _ _ _ (by decide)]
  show (k0_pay140 (sS (rd0 m c p 384 inb_S512x256_S128x256_384_0) (rd2 m c p 384 inb_S512x256_S128x256_384_0) (sS (rd0 m c p 256 inb_S512x256_S128x256_256_0) (rd2 m c p 256 inb_S512x256_S128x256_256_0) (sS (rd0 m c p 128 inb_S512x256_S128x256_128_0) (rd2 m c p 128 inb_S512x256_S128x256_128_0) (sS (rd0 m c p 0 inb_S512x256_S128x256_0_0) (rd2 m c p 0 inb_S512x256_S128x256_0_0) (k0_pay10 (F := Ideal))))))) x = _
  refine (congrFun (pay140_id _) x).trans ?_
  exact totM m P D g b ws bs c h0 h1 h2 h3 h4 h5 p x
theorem atA_W (p : Fin cfg0.N) (h : p.val % 16 = 0) (h' : ¬1 ≤ p.val) (h'' : ¬p.val % 16 = 15) (x) : (outsAt0 m c p.val p.isLt).2.1 x = ((tW P D g b p (x 0) (x 1) (x 2) : ℝ) : EReal) := by
  rw [outsAt0_A m c p h h' h h' h h' h h' h h' h h' h h' h'']
  dsimp only
  frame_open
  rw [View.read_writes_junk_eq_canon]
  canon_tiles x h3
  case piece3 =>
    rename_i y
    show k0_pay132 (wS0 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS0 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS0 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS0 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay6 (F := Ideal)))))) x = _
    exact (congrFun (pay132_id _) x).trans ((totW0 m P D g b ws bs c h0 h1 h2 h3 h4 h5 p _).trans (tW_congr P D g b p (x := y) (by show 0 = (y 0).val; omega) h31.symm h32.symm))
  case piece2 =>
    rename_i y
    show k0_pay134 (wS1 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS1 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS1 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS1 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay7 (F := Ideal)))))) x = _
    exact (congrFun (pay134_id _) x).trans ((totW1 m P D g b ws bs c h0 h1 h2 h3 h4 h5 p _).trans (tW_congr P D g b p (x := y) (by show 1 = (y 0).val; omega) h31.symm h32.symm))
  case piece1 =>
    rename_i y
    show k0_pay136 (wS2 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS2 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS2 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS2 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay8 (F := Ideal)))))) x = _
    exact (congrFun (pay136_id _) x).trans ((totW2 m P D g b ws bs c h0 h1 h2 h3 h4 h5 p _).trans (tW_congr P D g b p (x := y) (by show 2 = (y 0).val; omega) h31.symm h32.symm))
  case piece0 =>
    rename_i y
    show k0_pay138 (wS3 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS3 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS3 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS3 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay9 (F := Ideal)))))) x = _
    exact (congrFun (pay138_id _) x).trans ((totW3 m P D g b ws bs c h0 h1 h2 h3 h4 h5 p _).trans (tW_congr P D g b p (x := y) (by show 3 = (y 0).val; omega) h31.symm h32.symm))
theorem atB_G (p : Fin cfg0.N) (h : ¬p.val % 16 = 0) (h' : 1 ≤ p.val) (h'' : ¬p.val % 16 = 15) (x) : (outsAt0 m c p.val p.isLt).2.2.2.1 x = (outsAt0 m c (p.val - 1) (Nat.lt_of_le_of_lt (Nat.sub_le _ _) p.isLt)).2.2.2.1 x + ((tG P D ws p (x 1) : ℝ) : EReal) := by
  rw [outsAt0_B m c p h h' h h' h h' h h' h h' h h' h h' h'']
  dsimp only
  frame_open
  rw [View.read_writes_junk_eq_canon, View.canon_cons_unit_lit' _ _ _ (by decide)]
  show k0_pay142 (gS (iota .tc S128x128 32 [1] iota_S128x128_d1_w32) (rd0 m c p 384 inb_S512x256_S128x256_384_0) (rd1 m c p 384 inb_S512x256_S128x256_384_0) (rd2 m c p 384 inb_S512x256_S128x256_384_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (gS (iota .tc S128x128 32 [1] iota_S128x128_d1_w32) (rd0 m c p 256 inb_S512x256_S128x256_256_0) (rd1 m c p 256 inb_S512x256_S128x256_256_0) (rd2 m c p 256 inb_S512x256_S128x256_256_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (gS (iota .tc S128x128 32 [1] iota_S128x128_d1_w32) (rd0 m c p 128 inb_S512x256_S128x256_128_0) (rd1 m c p 128 inb_S512x256_S128x256_128_0) (rd2 m c p 128 inb_S512x256_S128x256_128_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (gS (iota .tc S128x128 32 [1] iota_S128x128_d1_w32) (rd0 m c p 0 inb_S512x256_S128x256_0_0) (rd1 m c p 0 inb_S512x256_S128x256_0_0) (rd2 m c p 0 inb_S512x256_S128x256_0_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (k0_pay11 (F := Ideal)))))) (View.ld (View.read (Elt Ideal) (ms0_11 p).view ((hs0_11 p).unread _)) (Rect.unit ![0, 0] ![1, 256] inb_S1x256_S1x256_0_0)) x = _
  rw [prev11]
  refine (congrFun (k0_pay142_add _ _) x).trans ?_
  exact congrArg (_ + ·) (totG m P D g b ws bs c h0 h1 h2 h3 h4 h5 p x)
theorem atB_B (p : Fin cfg0.N) (h : ¬p.val % 16 = 0) (h' : 1 ≤ p.val) (h'' : ¬p.val % 16 = 15) (x) : (outsAt0 m c p.val p.isLt).2.2.2.2.1 x = (outsAt0 m c (p.val - 1) (Nat.lt_of_le_of_lt (Nat.sub_le _ _) p.isLt)).2.2.2.2.1 x + ((tB P D ws p (x 1) : ℝ) : EReal) := by
  rw [outsAt0_B m c p h h' h h' h h' h h' h h' h h' h h' h'']
  dsimp only
  frame_open
  rw [View.read_writes_junk_eq_canon, View.canon_cons_unit_lit' _ _ _ (by decide)]
  show k0_pay1 (bS (iota .tc S128x128 32 [1] iota_S128x128_d1_w32) (rd0 m c p 384 inb_S512x256_S128x256_384_0) (rd2 m c p 384 inb_S512x256_S128x256_384_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (bS (iota .tc S128x128 32 [1] iota_S128x128_d1_w32) (rd0 m c p 256 inb_S512x256_S128x256_256_0) (rd2 m c p 256 inb_S512x256_S128x256_256_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (bS (iota .tc S128x128 32 [1] iota_S128x128_d1_w32) (rd0 m c p 128 inb_S512x256_S128x256_128_0) (rd2 m c p 128 inb_S512x256_S128x256_128_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (bS (iota .tc S128x128 32 [1] iota_S128x128_d1_w32) (rd0 m c p 0 inb_S512x256_S128x256_0_0) (rd2 m c p 0 inb_S512x256_S128x256_0_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (k0_pay12 (F := Ideal)))))) (View.ld (View.read (Elt Ideal) (ms0_12 p).view ((hs0_12 p).unread _)) (Rect.unit ![0, 0] ![1, 256] inb_S1x256_S1x256_0_0)) x = _
  rw [prev12]
  refine (congrFun (k0_pay1_add _ _) x).trans ?_
  exact congrArg (_ + ·) (totB m P D g b ws bs c h0 h1 h2 h3 h4 h5 p x)
theorem atB_M (p : Fin cfg0.N) (h : ¬p.val % 16 = 0) (h' : 1 ≤ p.val) (h'' : ¬p.val % 16 = 15) (x) : (outsAt0 m c p.val p.isLt).2.2.2.2.2 x = (outsAt0 m c (p.val - 1) (Nat.lt_of_le_of_lt (Nat.sub_le _ _) p.isLt)).2.2.2.2.2 x + ((tM P D p (x 0) (x 1) : ℝ) : EReal) := by
  rw [outsAt0_B m c p h h' h h' h h' h h' h h' h h' h h' h'']
  dsimp only
  frame_open
  rw [View.read_writes_junk_eq_canon, View.canon_cons_unit_lit' _ _ _ (by decide)]
  show k0_pay141 (sS (rd0 m c p 384 inb_S512x256_S128x256_384_0) (rd2 m c p 384 inb_S512x256_S128x256_384_0) (sS (rd0 m c p 256 inb_S512x256_S128x256_256_0) (rd2 m c p 256 inb_S512x256_S128x256_256_0) (sS (rd0 m c p 128 inb_S512x256_S128x256_128_0) (rd2 m c p 128 inb_S512x256_S128x256_128_0) (sS (rd0 m c p 0 inb_S512x256_S128x256_0_0) (rd2 m c p 0 inb_S512x256_S128x256_0_0) (k0_pay10 (F := Ideal)))))) (View.ld (View.read (Elt Ideal) scM0_0.view ((Memref.isWhole_whole _).unread _)) (Rect.unit ![0, 0] ![128, 256] inb_S128x256_S128x256_0_0)) x = _
  rw [prevS]
  refine (congrFun (k0_pay141_add _ _) x).trans ?_
  exact congrArg (_ + ·) (totM m P D g b ws bs c h0 h1 h2 h3 h4 h5 p x)
theorem atB_W (p : Fin cfg0.N) (h : ¬p.val % 16 = 0) (h' : 1 ≤ p.val) (h'' : ¬p.val % 16 = 15) (x) : (outsAt0 m c p.val p.isLt).2.1 x = (outsAt0 m c (p.val - 1) (Nat.lt_of_le_of_lt (Nat.sub_le _ _) p.isLt)).2.1 x + ((tW P D g b p (x 0) (x 1) (x 2) : ℝ) : EReal) := by
  rw [outsAt0_B m c p h h' h h' h h' h h' h h' h h' h h' h'']
  dsimp only
  frame_open
  rw [View.read_writes_junk_eq_canon]
  canon_tiles x h3
  case piece3 =>
    rename_i y
    show k0_pay133 (wS0 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS0 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS0 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS0 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay6 (F := Ideal)))))) (View.ld (View.read (Elt Ideal) (ms0_9 p).view ((hs0_9 p).unread _)) (Rect.unit ![0, 0, 0] ![1, 128, 128] inb_S4x128x128_S1x128x128_0_0_0)) x = _
    refine (congrFun (pay133_add _ _) x).trans (congrArg₂ (· + ·) (prev9 p _ 0 _ y x (by omega) h31 h32) ((totW0 m P D g b ws bs c h0 h1 h2 h3 h4 h5 p _).trans (tW_congr P D g b p (x := y) (by show 0 = (y 0).val; omega) h31.symm h32.symm)))
  case piece2 =>
    rename_i y
    show k0_pay135 (wS1 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS1 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS1 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS1 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay7 (F := Ideal)))))) (View.ld (View.read (Elt Ideal) (ms0_9 p).view ((hs0_9 p).unread _)) (Rect.unit ![1, 0, 0] ![1, 128, 128] inb_S4x128x128_S1x128x128_1_0_0)) x = _
    refine (congrFun (pay135_add _ _) x).trans (congrArg₂ (· + ·) (prev9 p _ 1 _ y x (by omega) h31 h32) ((totW1 m P D g b ws bs c h0 h1 h2 h3 h4 h5 p _).trans (tW_congr P D g b p (x := y) (by show 1 = (y 0).val; omega) h31.symm h32.symm)))
  case piece1 =>
    rename_i y
    show k0_pay137 (wS2 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS2 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS2 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS2 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay8 (F := Ideal)))))) (View.ld (View.read (Elt Ideal) (ms0_9 p).view ((hs0_9 p).unread _)) (Rect.unit ![2, 0, 0] ![1, 128, 128] inb_S4x128x128_S1x128x128_2_0_0)) x = _
    refine (congrFun (pay137_add _ _) x).trans (congrArg₂ (· + ·) (prev9 p _ 2 _ y x (by omega) h31 h32) ((totW2 m P D g b ws bs c h0 h1 h2 h3 h4 h5 p _).trans (tW_congr P D g b p (x := y) (by show 2 = (y 0).val; omega) h31.symm h32.symm)))
  case piece0 =>
    rename_i y
    show k0_pay139 (wS3 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS3 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS3 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS3 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay9 (F := Ideal)))))) (View.ld (View.read (Elt Ideal) (ms0_9 p).view ((hs0_9 p).unread _)) (Rect.unit ![3, 0, 0] ![1, 128, 128] inb_S4x128x128_S1x128x128_3_0_0)) x = _
    refine (congrFun (pay139_add _ _) x).trans (congrArg₂ (· + ·) (prev9 p _ 3 _ y x (by omega) h31 h32) ((totW3 m P D g b ws bs c h0 h1 h2 h3 h4 h5 p _).trans (tW_congr P D g b p (x := y) (by show 3 = (y 0).val; omega) h31.symm h32.symm)))
theorem atC_G (p : Fin cfg0.N) (h : ¬p.val % 16 = 0) (h' : 1 ≤ p.val) (h'' : p.val % 16 = 15) (x) : (outsAt0 m c p.val p.isLt).2.2.2.1 x = (outsAt0 m c (p.val - 1) (Nat.lt_of_le_of_lt (Nat.sub_le _ _) p.isLt)).2.2.2.1 x + ((tG P D ws p (x 1) : ℝ) : EReal) := by
  rw [outsAt0_C m c p h h' h h' h h' h h' h h' h h' h h' h'']
  dsimp only
  frame_open
  rw [View.read_writes_junk_eq_canon, View.canon_cons_unit_lit' _ _ _ (by decide)]
  show k0_pay142 (gS (iota .tc S128x128 32 [1] iota_S128x128_d1_w32) (rd0 m c p 384 inb_S512x256_S128x256_384_0) (rd1 m c p 384 inb_S512x256_S128x256_384_0) (rd2 m c p 384 inb_S512x256_S128x256_384_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (gS (iota .tc S128x128 32 [1] iota_S128x128_d1_w32) (rd0 m c p 256 inb_S512x256_S128x256_256_0) (rd1 m c p 256 inb_S512x256_S128x256_256_0) (rd2 m c p 256 inb_S512x256_S128x256_256_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (gS (iota .tc S128x128 32 [1] iota_S128x128_d1_w32) (rd0 m c p 128 inb_S512x256_S128x256_128_0) (rd1 m c p 128 inb_S512x256_S128x256_128_0) (rd2 m c p 128 inb_S512x256_S128x256_128_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (gS (iota .tc S128x128 32 [1] iota_S128x128_d1_w32) (rd0 m c p 0 inb_S512x256_S128x256_0_0) (rd1 m c p 0 inb_S512x256_S128x256_0_0) (rd2 m c p 0 inb_S512x256_S128x256_0_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (k0_pay11 (F := Ideal)))))) (View.ld (View.read (Elt Ideal) (ms0_11 p).view ((hs0_11 p).unread _)) (Rect.unit ![0, 0] ![1, 256] inb_S1x256_S1x256_0_0)) x = _
  rw [prev11]
  refine (congrFun (k0_pay142_add _ _) x).trans ?_
  exact congrArg (_ + ·) (totG m P D g b ws bs c h0 h1 h2 h3 h4 h5 p x)
theorem atC_B (p : Fin cfg0.N) (h : ¬p.val % 16 = 0) (h' : 1 ≤ p.val) (h'' : p.val % 16 = 15) (x) : (outsAt0 m c p.val p.isLt).2.2.2.2.1 x = (outsAt0 m c (p.val - 1) (Nat.lt_of_le_of_lt (Nat.sub_le _ _) p.isLt)).2.2.2.2.1 x + ((tB P D ws p (x 1) : ℝ) : EReal) := by
  rw [outsAt0_C m c p h h' h h' h h' h h' h h' h h' h h' h'']
  dsimp only
  frame_open
  rw [View.read_writes_junk_eq_canon, View.canon_cons_unit_lit' _ _ _ (by decide)]
  show k0_pay1 (bS (iota .tc S128x128 32 [1] iota_S128x128_d1_w32) (rd0 m c p 384 inb_S512x256_S128x256_384_0) (rd2 m c p 384 inb_S512x256_S128x256_384_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (bS (iota .tc S128x128 32 [1] iota_S128x128_d1_w32) (rd0 m c p 256 inb_S512x256_S128x256_256_0) (rd2 m c p 256 inb_S512x256_S128x256_256_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (bS (iota .tc S128x128 32 [1] iota_S128x128_d1_w32) (rd0 m c p 128 inb_S512x256_S128x256_128_0) (rd2 m c p 128 inb_S512x256_S128x256_128_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (bS (iota .tc S128x128 32 [1] iota_S128x128_d1_w32) (rd0 m c p 0 inb_S512x256_S128x256_0_0) (rd2 m c p 0 inb_S512x256_S128x256_0_0) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) (k0_pay12 (F := Ideal)))))) (View.ld (View.read (Elt Ideal) (ms0_12 p).view ((hs0_12 p).unread _)) (Rect.unit ![0, 0] ![1, 256] inb_S1x256_S1x256_0_0)) x = _
  rw [prev12]
  refine (congrFun (k0_pay1_add _ _) x).trans ?_
  exact congrArg (_ + ·) (totB m P D g b ws bs c h0 h1 h2 h3 h4 h5 p x)
theorem atC_M (p : Fin cfg0.N) (h : ¬p.val % 16 = 0) (h' : 1 ≤ p.val) (h'' : p.val % 16 = 15) (x) : (outsAt0 m c p.val p.isLt).2.2.2.2.2 x = (outsAt0 m c (p.val - 1) (Nat.lt_of_le_of_lt (Nat.sub_le _ _) p.isLt)).2.2.2.2.2 x + ((tM P D p (x 0) (x 1) : ℝ) : EReal) := by
  rw [outsAt0_C m c p h h' h h' h h' h h' h h' h h' h h' h'']
  dsimp only
  frame_open
  rw [View.read_writes_junk_eq_canon, View.canon_cons_unit_lit' _ _ _ (by decide)]
  show k0_pay141 (sS (rd0 m c p 384 inb_S512x256_S128x256_384_0) (rd2 m c p 384 inb_S512x256_S128x256_384_0) (sS (rd0 m c p 256 inb_S512x256_S128x256_256_0) (rd2 m c p 256 inb_S512x256_S128x256_256_0) (sS (rd0 m c p 128 inb_S512x256_S128x256_128_0) (rd2 m c p 128 inb_S512x256_S128x256_128_0) (sS (rd0 m c p 0 inb_S512x256_S128x256_0_0) (rd2 m c p 0 inb_S512x256_S128x256_0_0) (k0_pay10 (F := Ideal)))))) (View.ld (View.read (Elt Ideal) scM0_0.view ((Memref.isWhole_whole _).unread _)) (Rect.unit ![0, 0] ![128, 256] inb_S128x256_S128x256_0_0)) x = _
  rw [prevS]
  refine (congrFun (k0_pay141_add _ _) x).trans ?_
  exact congrArg (_ + ·) (totM m P D g b ws bs c h0 h1 h2 h3 h4 h5 p x)
theorem atC_W (p : Fin cfg0.N) (h : ¬p.val % 16 = 0) (h' : 1 ≤ p.val) (h'' : p.val % 16 = 15) (x) : (outsAt0 m c p.val p.isLt).2.1 x = (outsAt0 m c (p.val - 1) (Nat.lt_of_le_of_lt (Nat.sub_le _ _) p.isLt)).2.1 x + ((tW P D g b p (x 0) (x 1) (x 2) : ℝ) : EReal) := by
  rw [outsAt0_C m c p h h' h h' h h' h h' h h' h h' h h' h'']
  dsimp only
  frame_open
  rw [View.read_writes_junk_eq_canon]
  canon_tiles x h3
  case piece3 =>
    rename_i y
    show k0_pay133 (wS0 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS0 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS0 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS0 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay6 (F := Ideal)))))) (View.ld (View.read (Elt Ideal) (ms0_9 p).view ((hs0_9 p).unread _)) (Rect.unit ![0, 0, 0] ![1, 128, 128] inb_S4x128x128_S1x128x128_0_0_0)) x = _
    refine (congrFun (pay133_add _ _) x).trans (congrArg₂ (· + ·) (prev9 p _ 0 _ y x (by omega) h31 h32) ((totW0 m P D g b ws bs c h0 h1 h2 h3 h4 h5 p _).trans (tW_congr P D g b p (x := y) (by show 0 = (y 0).val; omega) h31.symm h32.symm)))
  case piece2 =>
    rename_i y
    show k0_pay135 (wS1 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS1 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS1 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS1 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay7 (F := Ideal)))))) (View.ld (View.read (Elt Ideal) (ms0_9 p).view ((hs0_9 p).unread _)) (Rect.unit ![1, 0, 0] ![1, 128, 128] inb_S4x128x128_S1x128x128_1_0_0)) x = _
    refine (congrFun (pay135_add _ _) x).trans (congrArg₂ (· + ·) (prev9 p _ 1 _ y x (by omega) h31 h32) ((totW1 m P D g b ws bs c h0 h1 h2 h3 h4 h5 p _).trans (tW_congr P D g b p (x := y) (by show 1 = (y 0).val; omega) h31.symm h32.symm)))
  case piece1 =>
    rename_i y
    show k0_pay137 (wS2 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS2 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS2 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS2 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay8 (F := Ideal)))))) (View.ld (View.read (Elt Ideal) (ms0_9 p).view ((hs0_9 p).unread _)) (Rect.unit ![2, 0, 0] ![1, 128, 128] inb_S4x128x128_S1x128x128_2_0_0)) x = _
    refine (congrFun (pay137_add _ _) x).trans (congrArg₂ (· + ·) (prev9 p _ 2 _ y x (by omega) h31 h32) ((totW2 m P D g b ws bs c h0 h1 h2 h3 h4 h5 p _).trans (tW_congr P D g b p (x := y) (by show 2 = (y 0).val; omega) h31.symm h32.symm)))
  case piece0 =>
    rename_i y
    show k0_pay139 (wS3 (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd4 m c p) (wS3 (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd4 m c p) (wS3 (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd4 m c p) (wS3 (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd4 m c p) (k0_pay9 (F := Ideal)))))) (View.ld (View.read (Elt Ideal) (ms0_9 p).view ((hs0_9 p).unread _)) (Rect.unit ![3, 0, 0] ![1, 128, 128] inb_S4x128x128_S1x128x128_3_0_0)) x = _
    refine (congrFun (pay139_add _ _) x).trans (congrArg₂ (· + ·) (prev9 p _ 3 _ y x (by omega) h31 h32) ((totW3 m P D g b ws bs c h0 h1 h2 h3 h4 h5 p _).trans (tW_congr P D g b p (x := y) (by show 3 = (y 0).val; omega) h31.symm h32.symm)))

end

end Cert.GmIdeal.Val

end
-- ==== Proof.GmTiles.lean ====
module

public import proofs.«01_k».proof.Proof.GmPoints

@[expose] public section

/-! # What each grid point writes of the gradient in the projection, and the last point of the table of sums -/

set_option maxRecDepth 16384

noncomputable section

open Idealize.ShloMosaic Idealize.ShloMosaic.TcCoe Idealize.SL.Sem
open Idealize.ShloMosaic.Pipeline (Dat)

namespace Cert.GmIdeal.Val

open Cert.GmIdeal Cert.GmIdeal.Gen Cert.Lift Cert.Std Cert.GmReal

/-- The gradient in the projection: its two halves side by side. -/
def duv (P : Fin 8192 → Fin 3072 → ℝ) (D : Fin 8192 → Fin 256 → ℝ) (g b : Fin 256 → ℝ) (ws : Fin 4 → Fin 128 → Fin 128 → ℝ) (bs : Fin 4 → Fin 128 → ℝ) (n : Fin 8192) (k : Fin 512) : ℝ :=
  if h : k.val < 256 then dpu (PU P (cof n)) (PV P (cof n)) (RO D (cof n)) g b ws bs (rof n) ⟨k.val, h⟩
  else dpv (PU P (cof n)) (PV P (cof n)) (RO D (cof n)) g ws (rof n) ⟨k.val - 256, by omega⟩

theorem duv_low (P : Fin 8192 → Fin 3072 → ℝ) (D : Fin 8192 → Fin 256 → ℝ) (g b : Fin 256 → ℝ) (ws : Fin 4 → Fin 128 → Fin 128 → ℝ) (bs : Fin 4 → Fin 128 → ℝ)
    (t : Fin cfg0.N) (q : Fin 4) (r : Fin 128) (k : Fin 256) (r' : Fin 512) (k' : Fin 512) (e : r'.val = q.val * 128 + r.val) (e' : k'.val = k.val) :
    dpu (up P t q) (vp P t q) (yp D t q) g b ws bs r k = duv P D g b ws bs (row t r') k' := by
  have hn : row t r' = cr (ck t q) r := Fin.ext (by show t.val * 512 + r'.val = (t.val * 4 + q.val) * 128 + r.val; omega)
  have hk : (⟨k'.val, by omega⟩ : Fin 256) = k := Fin.ext e'
  rw [duv, dif_pos (by omega), hn, cof_cr, rof_cr, hk]
  rfl

theorem duv_high (P : Fin 8192 → Fin 3072 → ℝ) (D : Fin 8192 → Fin 256 → ℝ) (g b : Fin 256 → ℝ) (ws : Fin 4 → Fin 128 → Fin 128 → ℝ) (bs : Fin 4 → Fin 128 → ℝ)
    (t : Fin cfg0.N) (q : Fin 4) (r : Fin 128) (k : Fin 256) (r' : Fin 512) (k' : Fin 512) (e : r'.val = q.val * 128 + r.val) (e' : k'.val = 256 + k.val) :
    dpv (up P t q) (vp P t q) (yp D t q) g ws r k = duv P D g b ws bs (row t r') k' := by
  have hn : row t r' = cr (ck t q) r := Fin.ext (by show t.val * 512 + r'.val = (t.val * 4 + q.val) * 128 + r.val; omega)
  have hk : (⟨k'.val - 256, by omega⟩ : Fin 256) = k := Fin.ext (by show k'.val - 256 = k.val; omega)
  rw [duv, dif_neg (by omega), hn, cof_cr, rof_cr, hk]
  rfl

variable (m : (ℓ : Loc nD τ sig) → Buf (Elt Ideal) ℓ)
variable (P : Fin 8192 → Fin 3072 → ℝ) (D : Fin 8192 → Fin 256 → ℝ) (g b : Fin 256 → ℝ) (ws : Fin 4 → Fin 128 → Fin 128 → ℝ) (bs : Fin 4 → Fin 128 → ℝ) (c : Dev nD)

section

variable (h0 : m ((c : Thread nD τ).loc main_arg0) = GmRefIdeal.Val.XP P) (h1 : m ((c : Thread nD τ).loc main_arg1) = GmRefIdeal.Val.XG g)
  (h2 : m ((c : Thread nD τ).loc main_arg2) = GmRefIdeal.Val.XG b) (h3 : m ((c : Thread nD τ).loc main_arg3) = GmRefIdeal.Val.XW ws)
  (h4 : m ((c : Thread nD τ).loc main_arg4) = GmRefIdeal.Val.XB bs) (h5 : m ((c : Thread nD τ).loc main_arg5) = GmRefIdeal.Val.XD D)

include h0 h1 h2 h3 h4 h5

theorem low0 (p : Fin cfg0.N) (x) (y : S512x512.Idx) (e : (y 0).val = 0 + (x 0).val) (e' : (y 1).val = (x 1).val) :
    vDpu (iota .tc S128x128 32 [1] iota_S128x128_d1_w32) (rd0 m c p 0 inb_S512x256_S128x256_0_0) (rd1 m c p 0 inb_S512x256_S128x256_0_0) (rd2 m c p 0 inb_S512x256_S128x256_0_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = ((duv P D g b ws bs (row p (y 0)) (y 1) : ℝ) : EReal) := by
  rw [lanes, rd0_real m P c p h0 0 0 rfl, rd1_real m P c p h0 0 0 rfl, rd2_real m D c p h5 0 0 rfl, rd3_real m g c p h1, rd4_real m b c p h2, rd7_real m bs c p h4, rd5_real0 m ws c p h3, rd5_real1 m ws c p h3, rd5_real2 m ws c p h3, rd5_real3 m ws c p h3, vDpu_real]
  exact congrArg Real.toEReal (duv_low P D g b ws bs p 0 (x 0) (x 1) (y 0) (y 1) e e')
theorem high0 (p : Fin cfg0.N) (x) (y : S512x512.Idx) (e : (y 0).val = 0 + (x 0).val) (e' : (y 1).val = 256 + (x 1).val) :
    vDpv (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = ((duv P D g b ws bs (row p (y 0)) (y 1) : ℝ) : EReal) := by
  rw [lanes, rd0_real m P c p h0 0 0 rfl, rd1_real m P c p h0 0 0 rfl, rd2_real m D c p h5 0 0 rfl, rd3_real m g c p h1, rd6_real0 m ws c p h3, rd6_real1 m ws c p h3, rd6_real2 m ws c p h3, rd6_real3 m ws c p h3, vDpv_real]
  exact congrArg Real.toEReal (duv_high P D g b ws bs p 0 (x 0) (x 1) (y 0) (y 1) e e')
theorem low1 (p : Fin cfg0.N) (x) (y : S512x512.Idx) (e : (y 0).val = 128 + (x 0).val) (e' : (y 1).val = (x 1).val) :
    vDpu (iota .tc S128x128 32 [1] iota_S128x128_d1_w32) (rd0 m c p 128 inb_S512x256_S128x256_128_0) (rd1 m c p 128 inb_S512x256_S128x256_128_0) (rd2 m c p 128 inb_S512x256_S128x256_128_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = ((duv P D g b ws bs (row p (y 0)) (y 1) : ℝ) : EReal) := by
  rw [lanes, rd0_real m P c p h0 1 128 rfl, rd1_real m P c p h0 1 128 rfl, rd2_real m D c p h5 1 128 rfl, rd3_real m g c p h1, rd4_real m b c p h2, rd7_real m bs c p h4, rd5_real0 m ws c p h3, rd5_real1 m ws c p h3, rd5_real2 m ws c p h3, rd5_real3 m ws c p h3, vDpu_real]
  exact congrArg Real.toEReal (duv_low P D g b ws bs p 1 (x 0) (x 1) (y 0) (y 1) e e')
theorem high1 (p : Fin cfg0.N) (x) (y : S512x512.Idx) (e : (y 0).val = 128 + (x 0).val) (e' : (y 1).val = 256 + (x 1).val) :
    vDpv (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = ((duv P D g b ws bs (row p (y 0)) (y 1) : ℝ) : EReal) := by
  rw [lanes, rd0_real m P c p h0 1 128 rfl, rd1_real m P c p h0 1 128 rfl, rd2_real m D c p h5 1 128 rfl, rd3_real m g c p h1, rd6_real0 m ws c p h3, rd6_real1 m ws c p h3, rd6_real2 m ws c p h3, rd6_real3 m ws c p h3, vDpv_real]
  exact congrArg Real.toEReal (duv_high P D g b ws bs p 1 (x 0) (x 1) (y 0) (y 1) e e')
theorem low2 (p : Fin cfg0.N) (x) (y : S512x512.Idx) (e : (y 0).val = 256 + (x 0).val) (e' : (y 1).val = (x 1).val) :
    vDpu (iota .tc S128x128 32 [1] iota_S128x128_d1_w32) (rd0 m c p 256 inb_S512x256_S128x256_256_0) (rd1 m c p 256 inb_S512x256_S128x256_256_0) (rd2 m c p 256 inb_S512x256_S128x256_256_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = ((duv P D g b ws bs (row p (y 0)) (y 1) : ℝ) : EReal) := by
  rw [lanes, rd0_real m P c p h0 2 256 rfl, rd1_real m P c p h0 2 256 rfl, rd2_real m D c p h5 2 256 rfl, rd3_real m g c p h1, rd4_real m b c p h2, rd7_real m bs c p h4, rd5_real0 m ws c p h3, rd5_real1 m ws c p h3, rd5_real2 m ws c p h3, rd5_real3 m ws c p h3, vDpu_real]
  exact congrArg Real.toEReal (duv_low P D g b ws bs p 2 (x 0) (x 1) (y 0) (y 1) e e')
theorem high2 (p : Fin cfg0.N) (x) (y : S512x512.Idx) (e : (y 0).val = 256 + (x 0).val) (e' : (y 1).val = 256 + (x 1).val) :
    vDpv (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = ((duv P D g b ws bs (row p (y 0)) (y 1) : ℝ) : EReal) := by
  rw [lanes, rd0_real m P c p h0 2 256 rfl, rd1_real m P c p h0 2 256 rfl, rd2_real m D c p h5 2 256 rfl, rd3_real m g c p h1, rd6_real0 m ws c p h3, rd6_real1 m ws c p h3, rd6_real2 m ws c p h3, rd6_real3 m ws c p h3, vDpv_real]
  exact congrArg Real.toEReal (duv_high P D g b ws bs p 2 (x 0) (x 1) (y 0) (y 1) e e')
theorem low3 (p : Fin cfg0.N) (x) (y : S512x512.Idx) (e : (y 0).val = 384 + (x 0).val) (e' : (y 1).val = (x 1).val) :
    vDpu (iota .tc S128x128 32 [1] iota_S128x128_d1_w32) (rd0 m c p 384 inb_S512x256_S128x256_384_0) (rd1 m c p 384 inb_S512x256_S128x256_384_0) (rd2 m c p 384 inb_S512x256_S128x256_384_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = ((duv P D g b ws bs (row p (y 0)) (y 1) : ℝ) : EReal) := by
  rw [lanes, rd0_real m P c p h0 3 384 rfl, rd1_real m P c p h0 3 384 rfl, rd2_real m D c p h5 3 384 rfl, rd3_real m g c p h1, rd4_real m b c p h2, rd7_real m bs c p h4, rd5_real0 m ws c p h3, rd5_real1 m ws c p h3, rd5_real2 m ws c p h3, rd5_real3 m ws c p h3, vDpu_real]
  exact congrArg Real.toEReal (duv_low P D g b ws bs p 3 (x 0) (x 1) (y 0) (y 1) e e')
theorem high3 (p : Fin cfg0.N) (x) (y : S512x512.Idx) (e : (y 0).val = 384 + (x 0).val) (e' : (y 1).val = 256 + (x 1).val) :
    vDpv (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = ((duv P D g b ws bs (row p (y 0)) (y 1) : ℝ) : EReal) := by
  rw [lanes, rd0_real m P c p h0 3 384 rfl, rd1_real m P c p h0 3 384 rfl, rd2_real m D c p h5 3 384 rfl, rd3_real m g c p h1, rd6_real0 m ws c p h3, rd6_real1 m ws c p h3, rd6_real2 m ws c p h3, rd6_real3 m ws c p h3, vDpv_real]
  exact congrArg Real.toEReal (duv_high P D g b ws bs p 3 (x 0) (x 1) (y 0) (y 1) e e')
theorem atA_duv (p : Fin cfg0.N) (h : p.val % 16 = 0) (h' : ¬1 ≤ p.val) (h'' : ¬p.val % 16 = 15) (x) : (outsAt0 m c p.val p.isLt).1 x = ((duv P D g b ws bs (row p (x 0)) (x 1) : ℝ) : EReal) := by
  rw [outsAt0_A m c p h h' h h' h h' h h' h h' h h' h h' h'']
  dsimp only
  frame_open
  rw [View.read_writes_junk_eq_canon]
  canon_tiles x h3
  case piece7 =>
    rename_i y
    show vDpu (iota .tc S128x128 32 [1] iota_S128x128_d1_w32) (rd0 m c p 0 inb_S512x256_S128x256_0_0) (rd1 m c p 0 inb_S512x256_S128x256_0_0) (rd2 m c p 0 inb_S512x256_S128x256_0_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = _
    exact low0 m P D g b ws bs c h0 h1 h2 h3 h4 h5 p x y (by omega) h31
  case piece6 =>
    rename_i y
    show vDpv (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = _
    exact high0 m P D g b ws bs c h0 h1 h2 h3 h4 h5 p x y (by omega) h31
  case piece5 =>
    rename_i y
    show vDpu (iota .tc S128x128 32 [1] iota_S128x128_d1_w32) (rd0 m c p 128 inb_S512x256_S128x256_128_0) (rd1 m c p 128 inb_S512x256_S128x256_128_0) (rd2 m c p 128 inb_S512x256_S128x256_128_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = _
    exact low1 m P D g b ws bs c h0 h1 h2 h3 h4 h5 p x y (by omega) h31
  case piece4 =>
    rename_i y
    show vDpv (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = _
    exact high1 m P D g b ws bs c h0 h1 h2 h3 h4 h5 p x y (by omega) h31
  case piece3 =>
    rename_i y
    show vDpu (iota .tc S128x128 32 [1] iota_S128x128_d1_w32) (rd0 m c p 256 inb_S512x256_S128x256_256_0) (rd1 m c p 256 inb_S512x256_S128x256_256_0) (rd2 m c p 256 inb_S512x256_S128x256_256_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = _
    exact low2 m P D g b ws bs c h0 h1 h2 h3 h4 h5 p x y (by omega) h31
  case piece2 =>
    rename_i y
    show vDpv (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = _
    exact high2 m P D g b ws bs c h0 h1 h2 h3 h4 h5 p x y (by omega) h31
  case piece1 =>
    rename_i y
    show vDpu (iota .tc S128x128 32 [1] iota_S128x128_d1_w32) (rd0 m c p 384 inb_S512x256_S128x256_384_0) (rd1 m c p 384 inb_S512x256_S128x256_384_0) (rd2 m c p 384 inb_S512x256_S128x256_384_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = _
    exact low3 m P D g b ws bs c h0 h1 h2 h3 h4 h5 p x y (by omega) h31
  case piece0 =>
    rename_i y
    show vDpv (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = _
    exact high3 m P D g b ws bs c h0 h1 h2 h3 h4 h5 p x y (by omega) h31
theorem atB_duv (p : Fin cfg0.N) (h : ¬p.val % 16 = 0) (h' : 1 ≤ p.val) (h'' : ¬p.val % 16 = 15) (x) : (outsAt0 m c p.val p.isLt).1 x = ((duv P D g b ws bs (row p (x 0)) (x 1) : ℝ) : EReal) := by
  rw [outsAt0_B m c p h h' h h' h h' h h' h h' h h' h h' h'']
  dsimp only
  frame_open
  rw [View.read_writes_junk_eq_canon]
  canon_tiles x h3
  case piece7 =>
    rename_i y
    show vDpu (iota .tc S128x128 32 [1] iota_S128x128_d1_w32) (rd0 m c p 0 inb_S512x256_S128x256_0_0) (rd1 m c p 0 inb_S512x256_S128x256_0_0) (rd2 m c p 0 inb_S512x256_S128x256_0_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = _
    exact low0 m P D g b ws bs c h0 h1 h2 h3 h4 h5 p x y (by omega) h31
  case piece6 =>
    rename_i y
    show vDpv (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = _
    exact high0 m P D g b ws bs c h0 h1 h2 h3 h4 h5 p x y (by omega) h31
  case piece5 =>
    rename_i y
    show vDpu (iota .tc S128x128 32 [1] iota_S128x128_d1_w32) (rd0 m c p 128 inb_S512x256_S128x256_128_0) (rd1 m c p 128 inb_S512x256_S128x256_128_0) (rd2 m c p 128 inb_S512x256_S128x256_128_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = _
    exact low1 m P D g b ws bs c h0 h1 h2 h3 h4 h5 p x y (by omega) h31
  case piece4 =>
    rename_i y
    show vDpv (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = _
    exact high1 m P D g b ws bs c h0 h1 h2 h3 h4 h5 p x y (by omega) h31
  case piece3 =>
    rename_i y
    show vDpu (iota .tc S128x128 32 [1] iota_S128x128_d1_w32) (rd0 m c p 256 inb_S512x256_S128x256_256_0) (rd1 m c p 256 inb_S512x256_S128x256_256_0) (rd2 m c p 256 inb_S512x256_S128x256_256_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = _
    exact low2 m P D g b ws bs c h0 h1 h2 h3 h4 h5 p x y (by omega) h31
  case piece2 =>
    rename_i y
    show vDpv (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = _
    exact high2 m P D g b ws bs c h0 h1 h2 h3 h4 h5 p x y (by omega) h31
  case piece1 =>
    rename_i y
    show vDpu (iota .tc S128x128 32 [1] iota_S128x128_d1_w32) (rd0 m c p 384 inb_S512x256_S128x256_384_0) (rd1 m c p 384 inb_S512x256_S128x256_384_0) (rd2 m c p 384 inb_S512x256_S128x256_384_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = _
    exact low3 m P D g b ws bs c h0 h1 h2 h3 h4 h5 p x y (by omega) h31
  case piece0 =>
    rename_i y
    show vDpv (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = _
    exact high3 m P D g b ws bs c h0 h1 h2 h3 h4 h5 p x y (by omega) h31
theorem atC_duv (p : Fin cfg0.N) (h : ¬p.val % 16 = 0) (h' : 1 ≤ p.val) (h'' : p.val % 16 = 15) (x) : (outsAt0 m c p.val p.isLt).1 x = ((duv P D g b ws bs (row p (x 0)) (x 1) : ℝ) : EReal) := by
  rw [outsAt0_C m c p h h' h h' h h' h h' h h' h h' h h' h'']
  dsimp only
  frame_open
  rw [View.read_writes_junk_eq_canon]
  canon_tiles x h3
  case piece7 =>
    rename_i y
    show vDpu (iota .tc S128x128 32 [1] iota_S128x128_d1_w32) (rd0 m c p 0 inb_S512x256_S128x256_0_0) (rd1 m c p 0 inb_S512x256_S128x256_0_0) (rd2 m c p 0 inb_S512x256_S128x256_0_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = _
    exact low0 m P D g b ws bs c h0 h1 h2 h3 h4 h5 p x y (by omega) h31
  case piece6 =>
    rename_i y
    show vDpv (iota .tc S128x128 32 [1] iota_S128x128_d1_w32) (rd0 m c p 0 inb_S512x256_S128x256_0_0) (rd1 m c p 0 inb_S512x256_S128x256_0_0) (rd2 m c p 0 inb_S512x256_S128x256_0_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = _
    exact high0 m P D g b ws bs c h0 h1 h2 h3 h4 h5 p x y (by omega) h31
  case piece5 =>
    rename_i y
    show vDpu (iota .tc S128x128 32 [1] iota_S128x128_d1_w32) (rd0 m c p 128 inb_S512x256_S128x256_128_0) (rd1 m c p 128 inb_S512x256_S128x256_128_0) (rd2 m c p 128 inb_S512x256_S128x256_128_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = _
    exact low1 m P D g b ws bs c h0 h1 h2 h3 h4 h5 p x y (by omega) h31
  case piece4 =>
    rename_i y
    show vDpv (iota .tc S128x128 32 [1] iota_S128x128_d1_w32) (rd0 m c p 128 inb_S512x256_S128x256_128_0) (rd1 m c p 128 inb_S512x256_S128x256_128_0) (rd2 m c p 128 inb_S512x256_S128x256_128_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = _
    exact high1 m P D g b ws bs c h0 h1 h2 h3 h4 h5 p x y (by omega) h31
  case piece3 =>
    rename_i y
    show vDpu (iota .tc S128x128 32 [1] iota_S128x128_d1_w32) (rd0 m c p 256 inb_S512x256_S128x256_256_0) (rd1 m c p 256 inb_S512x256_S128x256_256_0) (rd2 m c p 256 inb_S512x256_S128x256_256_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = _
    exact low2 m P D g b ws bs c h0 h1 h2 h3 h4 h5 p x y (by omega) h31
  case piece2 =>
    rename_i y
    show vDpv (iota .tc S128x128 32 [1] iota_S128x128_d1_w32) (rd0 m c p 256 inb_S512x256_S128x256_256_0) (rd1 m c p 256 inb_S512x256_S128x256_256_0) (rd2 m c p 256 inb_S512x256_S128x256_256_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = _
    exact high2 m P D g b ws bs c h0 h1 h2 h3 h4 h5 p x y (by omega) h31
  case piece1 =>
    rename_i y
    show vDpu (iota .tc S128x128 32 [1] iota_S128x128_d1_w32) (rd0 m c p 384 inb_S512x256_S128x256_384_0) (rd1 m c p 384 inb_S512x256_S128x256_384_0) (rd2 m c p 384 inb_S512x256_S128x256_384_0) (rd7 m c p) (rd3 m c p) (rd4 m c p) (rd5 m c p 0 inb_S4x128x128_S1x128x128_0_0_0) (rd5 m c p 1 inb_S4x128x128_S1x128x128_1_0_0) (rd5 m c p 2 inb_S4x128x128_S1x128x128_2_0_0) (rd5 m c p 3 inb_S4x128x128_S1x128x128_3_0_0) x = _
    exact low3 m P D g b ws bs c h0 h1 h2 h3 h4 h5 p x y (by omega) h31
  case piece0 =>
    rename_i y
    show vDpv (iota .tc S128x128 32 [1] iota_S128x128_d1_w32) (rd0 m c p 384 inb_S512x256_S128x256_384_0) (rd1 m c p 384 inb_S512x256_S128x256_384_0) (rd2 m c p 384 inb_S512x256_S128x256_384_0) (rd3 m c p) (rd6 m c p 0 inb_S4x128x128_S1x128x128_0_0_0) (rd6 m c p 1 inb_S4x128x128_S1x128x128_1_0_0) (rd6 m c p 2 inb_S4x128x128_S1x128x128_2_0_0) (rd6 m c p 3 inb_S4x128x128_S1x128x128_3_0_0) x = _
    exact high3 m P D g b ws bs c h0 h1 h2 h3 h4 h5 p x y (by omega) h31
/-- The last point's table of the heads' sums, from what it leaves in the running sum. -/
theorem atC_dbs (p : Fin cfg0.N) (h : ¬p.val % 16 = 0) (h' : 1 ≤ p.val) (h'' : p.val % 16 = 15) : (outsAt0 m c p.val p.isLt).2.2.1 =
    (fun S : FVec Ideal S128x256 .f32 => k0_pay2 (F := Ideal) (iota .tc S128x128 32 [1] iota_S128x128_d1_w32) S k0_pay3 (k0_pay4 (F := Ideal) (iota .tc S128x128 32 [1] iota_S128x128_d1_w32) S) (k0_pay5 (F := Ideal) S)) (outsAt0 m c p.val p.isLt).2.2.2.2.2 := by
  clear h0 h1 h2 h3 h4 h5
  rw [outsAt0_C m c p h h' h h' h h' h h' h h' h h' h h' h'']
  dsimp only
  frame_open
  rw [View.read_writes_junk_eq_canon, View.canon_cons_unit_lit' _ _ _ (by decide), View.read_writes_junk_eq_canon, View.canon_cons_unit_lit' _ _ _ (by decide)]
  exact congrArg (fun S : FVec Ideal S128x256 .f32 => k0_pay2 (F := Ideal) (iota .tc S128x128 32 [1] iota_S128x128_d1_w32) S k0_pay3 (k0_pay4 (F := Ideal) (iota .tc S128x128 32 [1] iota_S128x128_d1_w32) S) (k0_pay5 (F := Ideal) S))
    (View.readCov_cons_unit_lit' (Val := Elt Ideal) (e := .f32) (S := S128x256) scM0_0.view inb_S128x256_S128x256_0_0 inb_S128x256_S128x256_0_0 _ _ (by decide) (by decide))

end

end Cert.GmIdeal.Val

end
-- ==== Proof.GmValue.lean ====
module

public import proofs.«01_k».proof.Proof.GmTiles

@[expose] public section

/-! # The gMLP gradient's kernel: its results after the run -/

set_option maxRecDepth 16384

noncomputable section

open Idealize.ShloMosaic Idealize.ShloMosaic.TcCoe Idealize.SL.Sem
open Idealize.ShloMosaic.Pipeline (Dat)

namespace Cert.GmIdeal.Val

open Cert.GmIdeal Cert.GmIdeal.Gen Cert.Lift Cert.Std Cert.GmReal

theorem pay3_real : k0_pay3 = fun i => BitVec.ofNat 32 ((i 1).val / 64) := by
  funext i
  pointwise [k0_pay3]
  generalize (i 1) = k
  revert k
  decide +kernel

/-- A sum over one head's columns only. -/
theorem sum_head (f : Fin 256 → ℝ) (h : Fin 4) : (∑ k : Fin 256, if k.val / 64 = h.val then f k else 0) = ∑ d, f (col h d) := by
  rw [← Fin.sum_mul_add_fin 4 64 (fun k : Fin 256 => if k.val / 64 = h.val then f k else 0) rfl]
  refine (Finset.sum_eq_single h (fun s _ hs => Finset.sum_eq_zero fun d _ => if_neg fun e => hs (Fin.ext ?_)) fun hn => absurd (Finset.mem_univ h) hn).trans
    (Finset.sum_congr rfl fun d _ => if_pos ?_)
  · have e : (s.val * 64 + d.val) / 64 = h.val := e
    omega
  · show (h.val * 64 + d.val) / 64 = h.val
    omega

theorem head_eq (k : Fin 256) (h : Fin 4) (x : ℝ) : Scalar.select (IntOp.cmpi .eq (BitVec.ofNat 32 (k.val / 64)) (BitVec.ofNat 32 h.val)) (x : EReal) 0 = ((if k.val / 64 = h.val then x else 0 : ℝ) : EReal) := by
  have e : ∀ (k : Fin 256) (h : Fin 4), IntOp.cmpi .eq (BitVec.ofNat 32 (k.val / 64)) (BitVec.ofNat 32 h.val) = BitVec.ofBool (decide (k.val / 64 = h.val)) := by decide +kernel
  rw [e]
  pointwise
  exact ite_coe _ x 0

theorem lane_eq {α : Type} (k : Fin 128) (h : Fin 4) (a b : α) :
    Scalar.select (IntOp.cmpi .eq (BitVec.ofNat 32 k.val) (BitVec.ofNat 32 h.val)) a b = if k.val = h.val then a else b := by
  have e : ∀ (k : Fin 128) (h : Fin 4), IntOp.cmpi .eq (BitVec.ofNat 32 k.val) (BitVec.ofNat 32 h.val) = BitVec.ofBool (decide (k.val = h.val)) := by decide +kernel
  rw [e]
  pointwise

/-- The table of the heads' sums. -/
abbrev vTab (S : FVec Ideal S128x256 .f32) : FVec Ideal S128x128 .f32 := k0_pay2 (F := Ideal) LN S k0_pay3 (k0_pay4 (F := Ideal) LN S) (k0_pay5 (F := Ideal) S)

theorem vTab_real (M : Fin 128 → Fin 256 → ℝ) : vTab (BV M) = fun i => ((if h : (i 1).val < 4 then ∑ d, M (i 0) (col ⟨(i 1).val, h⟩ d) else 0 : ℝ) : EReal) := by
  funext i
  pointwise [k0_pay2, k0_pay4, k0_pay5, pay3_real]
  have e (h : Fin 4) : (∑ x : Fin 256, Scalar.select (IntOp.cmpi .eq (BitVec.ofNat 32 (x.val / 64)) (BitVec.ofNat 32 h.val)) ((M (i 0) x : ℝ) : EReal) 0) = ((∑ d, M (i 0) (col h d) : ℝ) : EReal) := by
    simp only [head_eq, sum_coe, sum_head]
  refine (congrArg₂ (Scalar.select _) (e 3) (congrArg₂ (Scalar.select _) (e 2) (congrArg₂ (Scalar.select _) (e 1) (congrArg₂ (Scalar.select _) (e 0) rfl)))).trans ?_
  refine (lane_eq (i 1) 3 _ _).trans ?_
  by_cases h3 : (i 1).val = 3
  · exact (if_pos h3).trans (by rw [dif_pos (by omega)]; simp only [h3]; rfl)
  refine (if_neg h3).trans ((lane_eq (i 1) 2 _ _).trans ?_)
  by_cases h2 : (i 1).val = 2
  · exact (if_pos h2).trans (by rw [dif_pos (by omega)]; simp only [h2]; rfl)
  refine (if_neg h2).trans ((lane_eq (i 1) 1 _ _).trans ?_)
  by_cases h1 : (i 1).val = 1
  · exact (if_pos h1).trans (by rw [dif_pos (by omega)]; simp only [h1]; rfl)
  refine (if_neg h1).trans ((lane_eq (i 1) 0 _ _).trans ?_)
  by_cases h0 : (i 1).val = 0
  · exact (if_pos h0).trans (by rw [dif_pos (by omega)]; simp only [h0]; rfl)
  exact (if_neg h0).trans (by rw [dif_neg (by omega)]; rfl)

variable (m : (ℓ : Loc nD τ sig) → Buf (Elt Ideal) ℓ)
variable (P : Fin 8192 → Fin 3072 → ℝ) (D : Fin 8192 → Fin 256 → ℝ) (g b : Fin 256 → ℝ) (ws : Fin 4 → Fin 128 → Fin 128 → ℝ) (bs : Fin 4 → Fin 128 → ℝ) (c : Dev nD)

theorem not_first (p : Fin cfg0.N) (h : p.val % 16 = 0) : ¬1 ≤ p.val := by have : p.val < 16 := lt_of_lt_of_eq p.isLt N_0; omega
theorem not_last (p : Fin cfg0.N) (h : p.val % 16 = 0) : ¬p.val % 16 = 15 := by omega
theorem later (p : Fin cfg0.N) (h : ¬p.val % 16 = 0) : 1 ≤ p.val := by omega

/-- The points' four chunks each are all the chunks. -/
theorem chunks (f : Fin 64 → ℝ) : (∑ p : Fin cfg0.N, ∑ q, f (ck p q)) = ∑ k, f k :=
  Fin.sum_mul_add_congr (S := 16) (n := 4) (f := f) fun _ _ _ => rfl

variable (h0 : m ((c : Thread nD τ).loc main_arg0) = GmRefIdeal.Val.XP P) (h1 : m ((c : Thread nD τ).loc main_arg1) = GmRefIdeal.Val.XG g)
  (h2 : m ((c : Thread nD τ).loc main_arg2) = GmRefIdeal.Val.XG b) (h3 : m ((c : Thread nD τ).loc main_arg3) = GmRefIdeal.Val.XW ws)
  (h4 : m ((c : Thread nD τ).loc main_arg4) = GmRefIdeal.Val.XB bs) (h5 : m ((c : Thread nD τ).loc main_arg5) = GmRefIdeal.Val.XD D)

include h0 h1 h2 h3 h4 h5

theorem last_G (j) : (outsAt0 m c t0_15.val t0_15.isLt).2.2.2.1 j = ((∑ k, dg (PU P k) (PV P k) (RO D k) ws (j 1) : ℝ) : EReal) := by
  rw [Pipeline.eq_sum_fin_of_reset_step_apply_last (fun n h => (outsAt0 m c n h).2.2.2.1) 16 (fun _ => 0) (fun p j => ((tG P D ws p (j 1) : ℝ) : EReal))
    (fun p h j => by rw [zero_add]; exact atA_G m P D g b ws bs c h0 h1 h2 h3 h4 h5 p h (not_first p h) (not_last p h) j)
    (fun p h j => by
      by_cases h' : p.val % 16 = 15
      · exact atC_G m P D g b ws bs c h0 h1 h2 h3 h4 h5 p h (later p h) h' j
      · exact atB_G m P D g b ws bs c h0 h1 h2 h3 h4 h5 p h (later p h) h' j)
    (le_of_eq N_0) t0_15 rfl j, zero_add, sum_coe]
  exact congrArg Real.toEReal (chunks (fun k => dg (PU P k) (PV P k) (RO D k) ws (j 1)))

theorem last_B (j) : (outsAt0 m c t0_15.val t0_15.isLt).2.2.2.2.1 j = ((∑ k, db (PU P k) (RO D k) ws (j 1) : ℝ) : EReal) := by
  rw [Pipeline.eq_sum_fin_of_reset_step_apply_last (fun n h => (outsAt0 m c n h).2.2.2.2.1) 16 (fun _ => 0) (fun p j => ((tB P D ws p (j 1) : ℝ) : EReal))
    (fun p h j => by rw [zero_add]; exact atA_B m P D g b ws bs c h0 h1 h2 h3 h4 h5 p h (not_first p h) (not_last p h) j)
    (fun p h j => by
      by_cases h' : p.val % 16 = 15
      · exact atC_B m P D g b ws bs c h0 h1 h2 h3 h4 h5 p h (later p h) h' j
      · exact atB_B m P D g b ws bs c h0 h1 h2 h3 h4 h5 p h (later p h) h' j)
    (le_of_eq N_0) t0_15 rfl j, zero_add, sum_coe]
  exact congrArg Real.toEReal (chunks (fun k => db (PU P k) (RO D k) ws (j 1)))

theorem last_M (j) : (outsAt0 m c t0_15.val t0_15.isLt).2.2.2.2.2 j = ((∑ k, dm (PU P k) (RO D k) (j 0) (j 1) : ℝ) : EReal) := by
  rw [Pipeline.eq_sum_fin_of_reset_step_apply_last (fun n h => (outsAt0 m c n h).2.2.2.2.2) 16 (fun _ => 0) (fun p j => ((tM P D p (j 0) (j 1) : ℝ) : EReal))
    (fun p h j => by rw [zero_add]; exact atA_M m P D g b ws bs c h0 h1 h2 h3 h4 h5 p h (not_first p h) (not_last p h) j)
    (fun p h j => by
      by_cases h' : p.val % 16 = 15
      · exact atC_M m P D g b ws bs c h0 h1 h2 h3 h4 h5 p h (later p h) h' j
      · exact atB_M m P D g b ws bs c h0 h1 h2 h3 h4 h5 p h (later p h) h' j)
    (le_of_eq N_0) t0_15 rfl j, zero_add, sum_coe]
  exact congrArg Real.toEReal (chunks (fun k => dm (PU P k) (RO D k) (j 0) (j 1)))

theorem last_W (j) : (outsAt0 m c t0_15.val t0_15.isLt).2.1 j = ((∑ k, dws (PU P k) (PV P k) (RO D k) g b (j 0) (j 1) (j 2) : ℝ) : EReal) := by
  rw [Pipeline.eq_sum_fin_of_reset_step_apply_last (fun n h => (outsAt0 m c n h).2.1) 16 (fun _ => 0) (fun p j => ((tW P D g b p (j 0) (j 1) (j 2) : ℝ) : EReal))
    (fun p h j => by rw [zero_add]; exact atA_W m P D g b ws bs c h0 h1 h2 h3 h4 h5 p h (not_first p h) (not_last p h) j)
    (fun p h j => by
      by_cases h' : p.val % 16 = 15
      · exact atC_W m P D g b ws bs c h0 h1 h2 h3 h4 h5 p h (later p h) h' j
      · exact atB_W m P D g b ws bs c h0 h1 h2 h3 h4 h5 p h (later p h) h' j)
    (le_of_eq N_0) t0_15 rfl j, zero_add, sum_coe]
  exact congrArg Real.toEReal (chunks (fun k => dws (PU P k) (PV P k) (RO D k) g b (j 0) (j 1) (j 2)))

/-- The gradient in the projection after the run. -/
theorem final8 : (dats m 0 c).arrAt 8 (cfgs 0).N = fun i : S8192x512.Idx => ((duv P D g b ws bs (i 0) (i 1) : ℝ) : EReal) := by
  refine (dats m 0 c).arrAt_eq_of_covers 8 _ (by decide +kernel) fun p hf y => ?_
  blk_simp
  rw [after0_8]
  have e : ((duv P D g b ws bs (row p (y 0)) (y 1) : ℝ) : EReal) = ((duv P D g b ws bs (((cfg0.win 8).blk p).view.emb y 0) (((cfg0.win 8).blk p).view.emb y 1) : ℝ) : EReal) := by
    have e0 : row p (y 0) = ((cfg0.win 8).blk p).view.emb y 0 := Fin.ext (by blk_simp [idx p, row])
    have e1 : y 1 = ((cfg0.win 8).blk p).view.emb y 1 := Fin.ext (by blk_simp [idx p])
    exact congrArg Real.toEReal (congrArg₂ (duv P D g b ws bs) e0 e1)
  refine Eq.trans ?_ e
  by_cases h : p.val % 16 = 0
  · exact atA_duv m P D g b ws bs c h0 h1 h2 h3 h4 h5 p h (not_first p h) (not_last p h) y
  · by_cases h' : p.val % 16 = 15
    · exact atC_duv m P D g b ws bs c h0 h1 h2 h3 h4 h5 p h (later p h) h' y
    · exact atB_duv m P D g b ws bs c h0 h1 h2 h3 h4 h5 p h (later p h) h' y

/-- The gradient in the mixing weights after the run. -/
theorem final9 : (dats m 0 c).arrAt 9 (cfgs 0).N = fun j : S4x128x128.Idx => ((∑ k, dws (PU P k) (PV P k) (RO D k) g b (j 0) (j 1) (j 2) : ℝ) : EReal) := by
  refine (dats m 0 c).arrAt_eq_of_after_last 9 t0_15 (by decide +kernel) _ fun j => ?_
  blk_simp
  rw [after0_9]
  exact last_W m P D g b ws bs c h0 h1 h2 h3 h4 h5 j

/-- The table of the gradient in the mixing biases after the run. -/
theorem final10 : (dats m 0 c).arrAt 10 (cfgs 0).N =
    fun j : S128x128.Idx => ((if h : (j 1).val < 4 then ∑ d, ∑ k, dm (PU P k) (RO D k) (j 0) (col ⟨(j 1).val, h⟩ d) else 0 : ℝ) : EReal) := by
  refine (dats m 0 c).arrAt_eq_of_after_last 10 t0_15 (by decide +kernel) _ fun j => ?_
  blk_simp
  rw [after0_10, atC_dbs m P D g b ws bs c h0 h1 h2 h3 h4 h5 t0_15 (by decide) (by decide) (by decide)]
  have e : (outsAt0 m c t0_15.val t0_15.isLt).2.2.2.2.2 = BV fun r s => ∑ k, dm (PU P k) (RO D k) r s := funext fun j => last_M m P D g b ws bs c h0 h1 h2 h3 h4 h5 j
  rw [e, lanes]
  exact congrFun (vTab_real fun r s => ∑ k, dm (PU P k) (RO D k) r s) j

/-- The gradient in the norm's gain after the run. -/
theorem final11 : (dats m 0 c).arrAt 11 (cfgs 0).N = fun j : S1x256.Idx => ((∑ k, dg (PU P k) (PV P k) (RO D k) ws (j 1) : ℝ) : EReal) := by
  refine (dats m 0 c).arrAt_eq_of_after_last 11 t0_15 (by decide +kernel) _ fun j => ?_
  blk_simp
  rw [after0_11]
  exact last_G m P D g b ws bs c h0 h1 h2 h3 h4 h5 j

/-- The gradient in the norm's bias after the run. -/
theorem final12 : (dats m 0 c).arrAt 12 (cfgs 0).N = fun j : S1x256.Idx => ((∑ k, db (PU P k) (RO D k) ws (j 1) : ℝ) : EReal) := by
  refine (dats m 0 c).arrAt_eq_of_after_last 12 t0_15 (by decide +kernel) _ fun j => ?_
  blk_simp
  rw [after0_12]
  exact last_B m P D g b ws bs c h0 h1 h2 h3 h4 h5 j

end Cert.GmIdeal.Val

end
-- ==== Proof.Gm.lean ====
module

public import proofs.«01_k».proof.Proof.GmValue
public import proofs.«01_k».proof.Defs
public import proofs.«01_k».proof.Proof.Gen.Pre_finite_gm
public import proofs.«01_k».proof.Proof.Gen.GmRefIdeal.Run
public import Idealize.ShloMosaic.Lib.KernelVsHost

@[expose] public section

/-! # The gMLP gradient: the reference's results, the precondition as real arguments, and the comparison -/

set_option maxRecDepth 16384

noncomputable section

open Idealize.ShloMosaic Idealize.ShloMosaic.TcCoe Idealize.SL.Sem

namespace Cert.GmRefIdeal.Val

open Cert.GmRefIdeal Cert.GmRefIdeal.Read Cert.Lift Cert.Std Cert.GmReal Cert.GmIdeal.Val

variable (P : Fin 8192 → Fin 3072 → ℝ) (D : Fin 8192 → Fin 256 → ℝ) (g b : Fin 256 → ℝ) (ws : Fin 4 → Fin 128 → Fin 128 → ℝ) (bs : Fin 4 → Fin 128 → ℝ)

theorem dpv_of (n : Fin 8192) (k : Fin 256) : dpv (PU P (cof n)) (PV P (cof n)) (RO D (cof n)) g ws (rof n) k =
    bwd 256 (ar P g ws D n) (gr P n) k * gel' (P n (hi k)) := by
  have e : gv (PV P (cof n)) (rof n) = gr P n := funext fun j => by rw [gv, PV, cr_of]
  rw [dpv, e, PV, cr_of]

theorem duv_lo (n : Fin 8192) (k : Fin 512) (h : k.val < 256) : duv P D g b ws bs n k =
    dpu (PU P (cof n)) (PV P (cof n)) (RO D (cof n)) g b ws bs (rof n) ⟨k.val, h⟩ := dif_pos h
theorem duv_hi (n : Fin 8192) (k : Fin 512) (h : ¬k.val < 256) : duv P D g b ws bs n k =
    bwd 256 (ar P g ws D n) (gr P n) ⟨k.val - 256, by omega⟩ * gel' (P n (hi ⟨k.val - 256, by omega⟩)) := (dif_neg h).trans (dpv_of P D g ws n _)

theorem v136_real : val_main_v136 (F := Ideal) (XP P) (XG g) (XG b) (XW ws) (XB bs) (XD D) =
    fun i => ((duv P D g b ws bs (i 0) (i 1) : ℝ) : EReal) := by
  funext i
  pointwise [val_main_v136, val_main_v135, v134_real, v123_real]
  split
  · rename_i h
    exact congrArg Real.toEReal (duv_lo P D g b ws bs (i 0) (i 1) h).symm
  · rename_i h
    exact congrArg Real.toEReal (duv_hi P D g b ws bs (i 0) (i 1) h).symm

theorem v138_real : val_main_v138 (F := Ideal) (XP P) (XD D) =
    fun j => ((if h : (j 1).val < 4 then ∑ d, ∑ k, dm (PU P k) (RO D k) (j 0) (col ⟨(j 1).val, h⟩ d) else 0 : ℝ) : EReal) := by
  have hz : val_main_call0_v0 (F := Ideal) (Shape.Idx.first Gen.h_S_) = ((0 : ℝ) : EReal) := by
    simp only [val_main_call0_v0_apply, val_main_c_apply, Ideal.scalar_sitofp_def]
    show (((0#32).toInt : ℝ) : EReal) = 0
    simp
  funext j
  by_cases h : (j 1).val < 4
  · refine (pad_apply_of_inside _ _ _ _ _ _ Gen.h_S_ j (ix2 (j 0) ⟨(j 1).val, h⟩) fun a => match a with | ⟨0, _⟩ => by simp [ix2] | ⟨1, _⟩ => by simp [ix2]).trans ?_
    rw [dif_pos h, Finset.sum_comm]
    pointwise [val_main_v137, val_main_v74, v73_real]
    rfl
  · refine (pad_apply_of_not_inside _ _ _ _ _ _ Gen.h_S_ j (1 : Fin 2) fun hh => h (by simpa using hh.2.2)).trans ?_
    rw [dif_neg h, hz]

theorem rows (f : Fin 8192 → ℝ) : (∑ n, f n) = ∑ k, ∑ q, f (cr k q) :=
  (Fin.sum_mul_add_fin 64 128 f rfl).symm

theorem v139_real : val_main_v139 (F := Ideal) (XP P) (XW ws) (XD D) = fun j => ((∑ k, dg (PU P k) (PV P k) (RO D k) ws (j 1) : ℝ) : EReal) := by
  funext j
  have e : idx_main_v139 j 0 = j 1 := Fin.ext (by have h : (j 0).val < 1 := (j 0).isLt; show (j 0).val * 256 + (j 1).val = (j 1).val; omega)
  simp only [val_main_v139_apply, v88_real, e]
  refine congrArg Real.toEReal ((rows _).trans (Finset.sum_congr rfl fun k _ => Finset.sum_congr rfl fun q _ => ?_))
  show std 256 (gr P (cr k q)) (j 1) * dvn (PU P (cof (cr k q))) (RO D (cof (cr k q))) ws (rof (cr k q)) (j 1) = _
  rw [cof_cr, rof_cr, mul_comm]
  rfl

theorem v140_real : val_main_v140 (F := Ideal) (XP P) (XW ws) (XD D) = fun j => ((∑ k, db (PU P k) (RO D k) ws (j 1) : ℝ) : EReal) := by
  funext j
  have e : idx_main_v140 j 0 = j 1 := Fin.ext (by have h : (j 0).val < 1 := (j 0).isLt; show (j 0).val * 256 + (j 1).val = (j 1).val; omega)
  simp only [val_main_v140_apply, v82_real, e]
  refine congrArg Real.toEReal ((rows _).trans (Finset.sum_congr rfl fun k _ => Finset.sum_congr rfl fun q _ => ?_))
  show dvn (PU P (cof (cr k q))) (RO D (cof (cr k q))) ws (rof (cr k q)) (j 1) = _
  rw [cof_cr, rof_cr]

end Cert.GmRefIdeal.Val

namespace Cert.GmIdeal.Val

open Cert.Lift

/-- Finite arguments are real arguments. -/
theorem pre_real (a0 : FVec Ideal GmIdeal.S8192x3072 .f32) (a1 a2 : FVec Ideal GmIdeal.S256 .f32) (a3 : FVec Ideal GmIdeal.S4x128x128 .f32)
    (a4 : FVec Ideal GmIdeal.S4x128 .f32) (a5 : FVec Ideal GmIdeal.S8192x256 .f32)
    (h : (Cert.Pre_finite_gm.fn (F := Ideal) a0 a1 a2 a3 a4 a5).1 = (fun _ => 1#1) ∧ (Cert.Pre_finite_gm.fn (F := Ideal) a0 a1 a2 a3 a4 a5).2.1 = (fun _ => 1#1)
      ∧ (Cert.Pre_finite_gm.fn (F := Ideal) a0 a1 a2 a3 a4 a5).2.2.1 = (fun _ => 1#1) ∧ (Cert.Pre_finite_gm.fn (F := Ideal) a0 a1 a2 a3 a4 a5).2.2.2.1 = (fun _ => 1#1)
      ∧ (Cert.Pre_finite_gm.fn (F := Ideal) a0 a1 a2 a3 a4 a5).2.2.2.2.1 = (fun _ => 1#1) ∧ (Cert.Pre_finite_gm.fn (F := Ideal) a0 a1 a2 a3 a4 a5).2.2.2.2.2 = (fun _ => 1#1)) :
    ∃ P g b ws bs D, a0 = GmRefIdeal.Val.XP P ∧ a1 = GmRefIdeal.Val.XG g ∧ a2 = GmRefIdeal.Val.XG b ∧ a3 = GmRefIdeal.Val.XW ws ∧ a4 = GmRefIdeal.Val.XB bs
      ∧ a5 = GmRefIdeal.Val.XD D := by
  obtain ⟨h0, h1, h2, h3, h4, h5⟩ := h
  obtain ⟨P, rfl⟩ := real_of_words a0 fun i => congrFun h0 i
  obtain ⟨g, rfl⟩ := real_of_words a1 fun i => congrFun h1 i
  obtain ⟨b, rfl⟩ := real_of_words a2 fun i => congrFun h2 i
  obtain ⟨ws, rfl⟩ := real_of_words a3 fun i => congrFun h3 i
  obtain ⟨bs, rfl⟩ := real_of_words a4 fun i => congrFun h4 i
  obtain ⟨D, rfl⟩ := real_of_words a5 fun i => congrFun h5 i
  have e1 (f : GmIdeal.S256.Idx → ℝ) : (fun i => ((f i : ℝ) : EReal)) = GmRefIdeal.Val.XG fun k => f (ix1 k) :=
    funext fun i => congrArg (fun j => ((f j : ℝ) : EReal)) (funext fun a => match a with | ⟨0, _⟩ => rfl)
  exact ⟨fun n k => P (ix2 n k), _, _, fun h p q => ws (ix3 h p q), fun h p => bs (ix2 h p), fun n k => D (ix2 n k),
    funext fun i => congrArg (fun j => ((P j : ℝ) : EReal)) (funext fun a => match a with | ⟨0, _⟩ => rfl | ⟨1, _⟩ => rfl), e1 g, e1 b,
    funext fun i => congrArg (fun j => ((ws j : ℝ) : EReal)) (funext fun a => match a with | ⟨0, _⟩ => rfl | ⟨1, _⟩ => rfl | ⟨2, _⟩ => rfl),
    funext fun i => congrArg (fun j => ((bs j : ℝ) : EReal)) (funext fun a => match a with | ⟨0, _⟩ => rfl | ⟨1, _⟩ => rfl),
    funext fun i => congrArg (fun j => ((D j : ℝ) : EReal)) (funext fun a => match a with | ⟨0, _⟩ => rfl | ⟨1, _⟩ => rfl)⟩

theorem preserves : Cert.preserves_Gm_GmIdeal :=
  ⟨IdealRules.named_const.statement GmIdeal.κ "inv_sqrt2" .f32 0x3F3504F3#32 (((Real.sqrt 2)⁻¹ : ℝ) : EReal) rfl,
    IdealRules.named_const.statement GmIdeal.κ "half_erf_slope_inv_sqrt2" .f32 0x3ECC422A#32 (((9465531 / 16777216) * (Real.sqrt 2)⁻¹ : ℝ) : EReal) rfl⟩

set_option maxHeartbeats 2000000 in
theorem algebraic : Cert.algebraic_GmIdeal_GmRefIdeal_pre_finite_gm := by
  pair_intro
  · run_from Cert.GmIdeal.Gen.run_main m g
  · choose P γ b ws bs D h0 h1 h2 h3 h4 h5 using fun c => pre_real _ _ _ _ _ _ (hpre c)
    run_from Cert.GmRefIdeal.Value.run m' g'
    all_goals
      obtain ⟨a0, a1, a2, a3, a4, a5⟩ := hagree c
    · rw [final8 m (P c) (D c) (γ c) (b c) (ws c) (bs c) c (h0 c) (h1 c) (h2 c) (h3 c) (h4 c) (h5 c), ← GmRefIdeal.Val.v136_real, ← h0 c, ← h1 c, ← h2 c, ← h3 c, ← h4 c, ← h5 c, ← a0, ← a1, ← a2, ← a3, ← a4, ← a5]
      exact GmRefIdeal.Read.val_main_v136_eq m' c
    · rw [final9 m (P c) (D c) (γ c) (b c) (ws c) (bs c) c (h0 c) (h1 c) (h2 c) (h3 c) (h4 c) (h5 c), ← GmRefIdeal.Val.v76_real, ← h0 c, ← h1 c, ← h2 c, ← h5 c, ← a0, ← a1, ← a2, ← a5]
      exact GmRefIdeal.Read.val_main_v76_eq m' c
    · rw [final10 m (P c) (D c) (γ c) (b c) (ws c) (bs c) c (h0 c) (h1 c) (h2 c) (h3 c) (h4 c) (h5 c), ← GmRefIdeal.Val.v138_real, ← h0 c, ← h5 c]
      rfl
    · rw [final11 m (P c) (D c) (γ c) (b c) (ws c) (bs c) c (h0 c) (h1 c) (h2 c) (h3 c) (h4 c) (h5 c), ← GmRefIdeal.Val.v139_real, ← h0 c, ← h3 c, ← h5 c, ← a0, ← a3, ← a5]
      exact GmRefIdeal.Read.val_main_v139_eq m' c
    · rw [final12 m (P c) (D c) (γ c) (b c) (ws c) (bs c) c (h0 c) (h1 c) (h2 c) (h3 c) (h4 c) (h5 c), ← GmRefIdeal.Val.v140_real, ← h0 c, ← h3 c, ← h5 c]
      rfl

end Cert.GmIdeal.Val

end
-- ==== Proof.RetReal.lean ====
module

public import proofs.«01_k».proof.Proof.GmReal
public import Idealize.ShloMosaic.Lib.Pointwise

@[expose] public section

/-! # Retention over the real numbers

Positions come in 64 chunks of 128 (`cr c p` is position `p` of chunk `c`), columns in 4 heads of 128. The backward
direction is the forward one on the positions in reverse. -/

noncomputable section

namespace Cert.Lift

open Idealize.ShloMosaic

theorem cos_coe (x : ℝ) : Ideal.cos (x : EReal) = ((Real.cos x : ℝ) : EReal) := Ideal.cos_coe x
theorem sin_coe (x : ℝ) : Ideal.sin (x : EReal) = ((Real.sin x : ℝ) : EReal) := Ideal.sin_coe x
theorem pow_coe (x y : ℝ) : Ideal.pow (x : EReal) (y : EReal) = ((x ^ y : ℝ) : EReal) := Ideal.pow_coe_coe x y
theorem log_coe (x : ℝ) (h : 0 < x) : Ideal.log (x : EReal) = ((Real.log x : ℝ) : EReal) := by
  rw [Ideal.log_coe, if_neg h.not_ge]
theorem zero_coe : (0 : EReal) = ((0 : ℝ) : EReal) := EReal.coe_zero.symm

/-- A choice between two values by a comparison of reals. -/
theorem select_oge {α : Type} (x y : ℝ) (a b : α) : Scalar.select (Ideal.cmp .oge (x : EReal) (y : EReal)) a b = if y ≤ x then a else b := by
  by_cases h : y ≤ x <;> simp [Scalar.select, Ideal.cmp, h]
theorem select_ogt {α : Type} (x y : ℝ) (a b : α) : Scalar.select (Ideal.cmp .ogt (x : EReal) (y : EReal)) a b = if y < x then a else b := by
  by_cases h : y < x <;> simp [Scalar.select, Ideal.cmp, h]
theorem select_olt {α : Type} (x y : ℝ) (a b : α) : Scalar.select (Ideal.cmp .olt (x : EReal) (y : EReal)) a b = if x < y then a else b := by
  by_cases h : x < y <;> simp [Scalar.select, Ideal.cmp, h]
theorem ite_coe (p : Prop) [Decidable p] (a b : ℝ) : (if p then (a : EReal) else (b : EReal)) = ((if p then a else b : ℝ) : EReal) := by
  split <;> rfl

/-- A small position number, as a float. -/
theorem sitofp_coe (n : ℕ) (h : n < 2 ^ 31) : (FloatOps.sitofp (F := Ideal) FTy.f32 (BitVec.ofNat 32 n)) = (((n : ℝ)) : EReal) := by
  have e : (BitVec.ofNat 32 n).toInt = n := by
    rw [BitVec.toInt_eq_toNat_of_lt (by rw [BitVec.toNat_ofNat, Nat.mod_eq_of_lt (by omega)]; omega), BitVec.toNat_ofNat, Nat.mod_eq_of_lt (by omega)]
  show (((BitVec.ofNat 32 n).toInt : ℝ) : EReal) = _
  rw [e]; norm_num

theorem bits_64 : Ideal.ofBits .f32 0x42800000#32 = ((64 : ℝ) : EReal) := by
  simp [Ideal.ofBits, Ideal.ieee, -EReal.coe_mul]; norm_num
theorem bits_1e4 : Ideal.ofBits .f32 0x461C4000#32 = ((10000 : ℝ) : EReal) := by
  simp [Ideal.ofBits, Ideal.ieee, -EReal.coe_mul]; norm_num
theorem bits_neg5 : Ideal.ofBits .f32 0xC0A00000#32 = ((-5 : ℝ) : EReal) := by
  simp [Ideal.ofBits, Ideal.ieee, -EReal.coe_mul, -EReal.coe_neg]; norm_num
theorem bits_ln2 : Ideal.ofBits .f32 0x3F317218#32 = ((1453635 / 2097152 : ℝ) : EReal) := by
  simp [Ideal.ofBits, Ideal.ieee, -EReal.coe_mul]; norm_num
theorem bits_scale : Ideal.ofBits .f32 0x3DB504F3#32 = ((11863283 / 134217728 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_127 : Ideal.ofBits .f32 0x42FE0000#32 = ((127 : ℝ) : EReal) := by
  simp [Ideal.ofBits, Ideal.ieee, -EReal.coe_mul]; norm_num

end Cert.Lift

namespace Cert.RetReal

open Cert.Lift Cert.GmReal

/-- Column `d` of head `h`, and the head of a column and its place in it. -/
def hc (h : Fin 4) (d : Fin 128) : Fin 512 := ⟨h.val * 128 + d.val, by omega⟩
def hh (k : Fin 512) : Fin 4 := ⟨k.val / 128, by omega⟩
def hd (k : Fin 512) : Fin 128 := ⟨k.val % 128, by omega⟩

theorem hc_of (k : Fin 512) : hc (hh k) (hd k) = k := Fin.ext (by show k.val / 128 * 128 + k.val % 128 = k.val; omega)
theorem hh_hc (h : Fin 4) (d : Fin 128) : hh (hc h d) = h := Fin.ext (by show (h.val * 128 + d.val) / 128 = h.val; omega)
theorem hd_hc (h : Fin 4) (d : Fin 128) : hd (hc h d) = d := Fin.ext (by show (h.val * 128 + d.val) % 128 = d.val; omega)

/-- The rotation's frequencies, and its table at a position. -/
def freq (j : Fin 64) : ℝ := 10000 ^ (-(j.val : ℝ) / 64)
def cs (s : Fin 8192) (j : Fin 64) : ℝ := Real.cos (s.val * freq j)
def sn (s : Fin 8192) (j : Fin 64) : ℝ := Real.sin (s.val * freq j)

/-- The scale of the keys: the exact value of its word. -/
def scale : ℝ := 11863283 / 134217728

/-- The logarithm of a head's decay. -/
def gam (h : Fin 4) : ℝ := 1 - Real.exp (1453635 / 2097152 * (-5 - h.val))
def lam (h : Fin 4) : ℝ := Real.log (gam h)
/-- The backward direction has the decays in the other order. -/
def lamR (h : Fin 4) : ℝ := lam h.rev

theorem gam_pos (h : Fin 4) : 0 < gam h := by
  rw [gam, sub_pos, Real.exp_lt_one_iff]
  have : (0 : ℝ) ≤ h.val := Nat.cast_nonneg _
  nlinarith

/-- The first and the second half of a head's columns. -/
def lo64 (j : Fin 64) : Fin 128 := ⟨j.val, by omega⟩
def hi64 (j : Fin 64) : Fin 128 := ⟨64 + j.val, by omega⟩
/-- The rotation of a head's columns by a table's angles, and its transpose. -/
def rot (x : Fin 128 → ℝ) (c s : Fin 64 → ℝ) (d : Fin 128) : ℝ :=
  if h : d.val < 64 then x (lo64 ⟨d.val, h⟩) * c ⟨d.val, h⟩ - x (hi64 ⟨d.val, h⟩) * s ⟨d.val, h⟩
  else x (lo64 ⟨d.val - 64, by omega⟩) * s ⟨d.val - 64, by omega⟩ + x (hi64 ⟨d.val - 64, by omega⟩) * c ⟨d.val - 64, by omega⟩
def rotT (y : Fin 128 → ℝ) (c s : Fin 64 → ℝ) (d : Fin 128) : ℝ :=
  if h : d.val < 64 then y (hi64 ⟨d.val, h⟩) * s ⟨d.val, h⟩ + y (lo64 ⟨d.val, h⟩) * c ⟨d.val, h⟩
  else y (hi64 ⟨d.val - 64, by omega⟩) * c ⟨d.val - 64, by omega⟩ + -y (lo64 ⟨d.val - 64, by omega⟩) * s ⟨d.val - 64, by omega⟩

theorem rotT_lo (y : Fin 128 → ℝ) (c s : Fin 64 → ℝ) (k : Fin 512) (h : k.val % 128 < 64) :
    rotT y c s (hd k) = y (hi64 ⟨k.val % 128, h⟩) * s ⟨k.val % 128, h⟩ + y (lo64 ⟨k.val % 128, h⟩) * c ⟨k.val % 128, h⟩ := dif_pos h
theorem rotT_hi (y : Fin 128 → ℝ) (c s : Fin 64 → ℝ) (k : Fin 512) (h : ¬k.val % 128 < 64) :
    rotT y c s (hd k) = y (hi64 ⟨k.val % 128 - 64, by omega⟩) * c ⟨k.val % 128 - 64, by omega⟩
      + -y (lo64 ⟨k.val % 128 - 64, by omega⟩) * s ⟨k.val % 128 - 64, by omega⟩ := dif_neg h

variable (L : Fin 4 → ℝ)

/-- The decay between two positions of a chunk, with and without the diagonal. -/
def dge (h : Fin 4) (c m : Fin 128) : ℝ :=
  if (0 : ℝ) ≤ c.val - m.val then Real.exp (L h * (if (0 : ℝ) ≤ c.val - m.val then (c.val - m.val : ℝ) else 0)) else 0
def dgt (h : Fin 4) (c m : Fin 128) : ℝ :=
  if (0 : ℝ) < c.val - m.val then Real.exp (L h * (if (0 : ℝ) < c.val - m.val then (c.val - m.val : ℝ) else 0)) else 0
/-- The weights of a chunk's keys in the state it leaves, and of its queries on the state it finds. -/
def zt (h : Fin 4) (m : Fin 128) : ℝ := Real.exp (L h * (127 - m.val))
def xi (h : Fin 4) (c : Fin 128) : ℝ := Real.exp (L h * (c.val + 1))
/-- The decay of a position's product in the state before a chunk. -/
def dec (h : Fin 4) (n : Fin 64) (s : Fin 8192) : ℝ :=
  if (0 : ℝ) ≤ 128 * n.val - 1 - s.val then Real.exp (L h * (if (0 : ℝ) ≤ 128 * n.val - 1 - s.val then (128 * n.val - 1 - s.val : ℝ) else 0)) else 0

/-- The state before a chunk, of keys and values by position, head and column. -/
def state (K V : Fin 8192 → Fin 4 → Fin 128 → ℝ) (n : Fin 64) (h : Fin 4) (d e : Fin 128) : ℝ :=
  ∑ s, V s h e * (dec L h n s * K s h d)

/-- A head's rotated columns at a position. -/
def rq (X : Fin 8192 → Fin 512 → ℝ) (s : Fin 8192) (h : Fin 4) (d : Fin 128) : ℝ := rot (fun e => X s (hc h e)) (cs s) (sn s) d
def rk (X : Fin 8192 → Fin 512 → ℝ) (s : Fin 8192) (h : Fin 4) (d : Fin 128) : ℝ := rq X s h d * scale
def rv (X : Fin 8192 → Fin 512 → ℝ) (s : Fin 8192) (h : Fin 4) (d : Fin 128) : ℝ := X s (hc h d)
/-- Positions in reverse. -/
def bk (X : Fin 8192 → Fin 4 → Fin 128 → ℝ) (s : Fin 8192) : Fin 4 → Fin 128 → ℝ := X s.rev

/-! The gradients of one direction: `Q`, `K`, `V` by position, `A` the gradient of the output, `D` the decay inside a
chunk, `z` and `x` the weights of keys and queries, `S` the states, `G` the gradients of the chunks' sums. -/

/-- An array by chunk, head and row, read by position. -/
def un (f : Fin 64 → Fin 4 → Fin 128 → Fin 128 → ℝ) (s : Fin 8192) (h : Fin 4) (d : Fin 128) : ℝ := f (cof s) h (rof s) d

section

variable (D : Fin 4 → Fin 128 → Fin 128 → ℝ) (z x : Fin 4 → Fin 128 → ℝ) (Q K V A : Fin 8192 → Fin 4 → Fin 128 → ℝ)
  (S G : Fin 64 → Fin 4 → Fin 128 → Fin 128 → ℝ)

/-- The decayed scores of a chunk, and their gradient. -/
def sco (n : Fin 64) (h : Fin 4) (c m : Fin 128) : ℝ := (∑ d, Q (cr n c) h d * K (cr n m) h d) * D h c m
def dsc (n : Fin 64) (h : Fin 4) (c m : Fin 128) : ℝ := (∑ e, A (cr n c) h e * V (cr n m) h e) * D h c m
def gq (n : Fin 64) (h : Fin 4) (c d : Fin 128) : ℝ :=
  (∑ e, A (cr n c) h e * S n h d e) * x h c + ∑ m, dsc D V A n h c m * K (cr n m) h d
def gk1 (n : Fin 64) (h : Fin 4) (m d : Fin 128) : ℝ := (∑ e, G n h d e * V (cr n m) h e) * z h m
def gk2 (n : Fin 64) (h : Fin 4) (m d : Fin 128) : ℝ := ∑ c, dsc D V A n h c m * Q (cr n c) h d
def gv1 (n : Fin 64) (h : Fin 4) (m e : Fin 128) : ℝ := ∑ d, G n h d e * (K (cr n m) h d * z h m)
def gv2 (n : Fin 64) (h : Fin 4) (m e : Fin 128) : ℝ := ∑ c, A (cr n c) h e * sco D Q K n h c m

end

end Cert.RetReal
-- ==== Proof.RetKernel.lean ====
module

public import proofs.«01_k».proof.Proof.Gen.RetMainIdeal.Value
public import proofs.«01_k».proof.Proof.RetReal
public import Idealize.ShloMosaic.Lib.Pipeline.ValueKit
public import Idealize.ShloMosaic.Lib.StableHlo.Run

@[expose] public section

/-! # The kernel of the retention's gradients, one chunk and one head at a time, over real arguments -/

set_option maxRecDepth 16384

noncomputable section

open Idealize.ShloMosaic Idealize.ShloMosaic.TcCoe Idealize.SL.Sem
open Idealize.ShloMosaic.Pipeline (Dat)

namespace Cert.RetReal

/-- A tile's gradients, of tiles. -/
def fV (q k a gf gb dmt zf zb : Fin 128 → Fin 128 → ℝ) (i j : Fin 128) : ℝ :=
  ∑ c, (∑ d, k i d * q c d) * dmt i c * a c j + zf i j * ∑ d, k i d * gf d j + zb i j * ∑ d, k i d * gb d j
def fRq (k v a sf sb dm xf xb : Fin 128 → Fin 128 → ℝ) (i j : Fin 128) : ℝ :=
  ∑ c, (∑ d, a i d * v c d) * dm i c * k c j + xf i j * ∑ d, a i d * sf j d + xb i j * ∑ d, a i d * sb j d
def fRk (q v a gf gb dmt zf zb : Fin 128 → Fin 128 → ℝ) (i j : Fin 128) : ℝ :=
  ∑ c, (∑ d, v i d * a c d) * dmt i c * q c j + ∑ d, zf i d * v i d * gf j d + ∑ d, zb i d * v i d * gb j d
/-- The other half's column. -/
def oth (j : Fin 128) : Fin 128 := ⟨(j.val + 128 - 64) % 128, Nat.mod_lt _ (by norm_num)⟩
def fRot (x co si : Fin 128 → Fin 128 → ℝ) (i j : Fin 128) : ℝ := x i j * co i j + x i (oth j) * si i (oth j)

end Cert.RetReal

namespace Cert.RetMainIdeal.Val

open Cert.RetMainIdeal Cert.RetMainIdeal.Gen Cert.Lift Cert.GmReal Cert.RetReal

/-! ## One tile, of the arrays the kernel loads -/

/-- A tile of 128 rows and 128 columns, and one with a leading axis of size one. -/
abbrev T2 := FVec Ideal S128x128 .bf16
abbrev T3 := FVec Ideal S1x128x128 .bf16
abbrev F2 := FVec Ideal S128x128 .f32
abbrev F3 := FVec Ideal S1x128x128 .f32

abbrev c2 {φ : FTy} (x : FVec Ideal S128x128 φ) : FVec Ideal S128x128 φ := shapeCast S128x128 x shapeCasts_S128x128_S128x128
abbrev c3 {φ : FTy} (x : FVec Ideal S1x128x128 φ) : FVec Ideal S128x128 φ := shapeCast S128x128 x shapeCasts_S1x128x128_S128x128
abbrev z2 : F2 := constant S128x128 .f32 0x00000000#32
/-- The product of two tiles, and of a tile with another's transpose. -/
abbrev mm (x y : T2) : F2 := matmul dot_S128x128_S128x128_S128x128_1_0_0_1_n_n none x y z2
abbrev mt (x y : T2) : F2 := matmul dot_S128x128_S128x128_S128x128_1_1_0_0_n_n none x y z2
abbrev tr (x : F2) : T2 := truncf .bf16 x bitsLt_bf16_f32
/-- The gradient through the rotation. -/
abbrev vRot (x co si : F2) : F2 := addf (mulf x (c2 co)) (dynamicRotate 1 64#32 none (mulf x (c2 si)) rotates_S128x128_d1)

/-- The gradient of the values. -/
abbrev vV (q k a : T2) (gf gb : T3) (dmt : F3) (zf zb : F2) : T2 :=
  tr (addf (addf (mm (tr (mulf (mt (c2 k) (c2 q)) (c3 dmt))) (c2 a)) (mulf (c2 zf) (mm (c2 k) (c3 gf)))) (mulf (c2 zb) (mm (c2 k) (c3 gb))))
/-- The gradient of the rotated queries, and of the queries. -/
abbrev vRq (k v a : T2) (sf sb : T3) (dm : F3) (xf xb : F2) : F2 :=
  addf (addf (mm (tr (mulf (mt (c2 a) (c2 v)) (c3 dm))) (c2 k)) (mulf (c2 xf) (mt (c2 a) (c3 sf)))) (mulf (c2 xb) (mt (c2 a) (c3 sb)))
abbrev vQ (k v a : T2) (sf sb : T3) (dm : F3) (xf xb co si : F2) : T2 := tr (vRot (vRq k v a sf sb dm xf xb) co si)
/-- The gradient of the rotated keys, and of the keys. -/
abbrev vRk (q v a : T2) (gf gb : T3) (dmt : F3) (zf zb : F2) : F2 :=
  addf (addf (mm (tr (mulf (mt (c2 v) (c2 a)) (c3 dmt))) (c2 q)) (mt (tr (mulf (c2 zf) (extf .f32 (c2 v) bitsLt_bf16_f32))) (c3 gf)))
    (mt (tr (mulf (c2 zb) (extf .f32 (c2 v) bitsLt_bf16_f32))) (c3 gb))
abbrev vK (q v a : T2) (gf gb : T3) (dmt : F3) (zf zb co si : F2) : T2 :=
  tr (mulf (vRot (vRk q v a gf gb dmt zf zb) co si) (broadcast S128x128 (Scalar.ofBits .f32 0x3DB504F3#32)))

/-! ## Over real tiles -/

abbrev B2 {φ : FTy} (x : Fin 128 → Fin 128 → ℝ) : FVec Ideal S128x128 φ := fun i => ((x (i 0) (i 1) : ℝ) : EReal)
abbrev B3 {φ : FTy} (x : Fin 128 → Fin 128 → ℝ) : FVec Ideal S1x128x128 φ := fun i => ((x (i 1) (i 2) : ℝ) : EReal)

variable (q k v a sf sb gf gb dm dmt xf xb zf zb co si : Fin 128 → Fin 128 → ℝ)

theorem vV_real : vV (B2 q) (B2 k) (B2 a) (B3 gf) (B3 gb) (B3 dmt) (B2 zf) (B2 zb) = B2 (fV q k a gf gb dmt zf zb) := by
  funext i
  pointwise
  simp only [Ideal.ofBits_zero_f32, zero_add, mul_coe, sum_coe, add_coe]
  rfl

theorem vRq_real : vRq (B2 k) (B2 v) (B2 a) (B3 sf) (B3 sb) (B3 dm) (B2 xf) (B2 xb) = B2 (fRq k v a sf sb dm xf xb) := by
  funext i
  pointwise
  simp only [Ideal.ofBits_zero_f32, zero_add, mul_coe, sum_coe, add_coe]
  rfl

theorem vRk_real : vRk (B2 q) (B2 v) (B2 a) (B3 gf) (B3 gb) (B3 dmt) (B2 zf) (B2 zb) = B2 (fRk q v a gf gb dmt zf zb) := by
  funext i
  pointwise
  simp only [Ideal.ofBits_zero_f32, zero_add, mul_coe, sum_coe, add_coe]
  rfl

theorem vRot_real (x : Fin 128 → Fin 128 → ℝ) : vRot (B2 x) (B2 co) (B2 si) = B2 (fRot x co si) := by
  funext i
  pointwise
  simp only [mul_coe, add_coe]
  rfl

theorem vQ_real : vQ (B2 k) (B2 v) (B2 a) (B3 sf) (B3 sb) (B3 dm) (B2 xf) (B2 xb) (B2 co) (B2 si) =
    B2 (fRot (fRq k v a sf sb dm xf xb) co si) := by
  rw [vQ, vRq_real, vRot_real]; rfl

theorem vK_real : vK (B2 q) (B2 v) (B2 a) (B3 gf) (B3 gb) (B3 dmt) (B2 zf) (B2 zb) (B2 co) (B2 si) =
    B2 fun i j => fRot (fRk q v a gf gb dmt zf zb) co si i j * scale := by
  rw [vK, vRk_real, vRot_real]
  funext i
  pointwise
  simp only [Ideal.ofBits_def, bits_scale, mul_coe]
  rfl

/-! ## The loads of a tile -/

/-- Real arrays of the blocks' shapes. -/
abbrev BX (X : Fin 512 → Fin 512 → ℝ) : FVec Ideal S512x512 .bf16 := fun i => ((X (i 0) (i 1) : ℝ) : EReal)
abbrev BS (X : Fin 4 → Fin 128 → Fin 512 → ℝ) : FVec Ideal S4x128x512 .bf16 := fun i => ((X (i 0) (i 1) (i 2) : ℝ) : EReal)
abbrev BD (X : Fin 4 → Fin 128 → Fin 128 → ℝ) : FVec Ideal S4x128x128 .f32 := fun i => ((X (i 0) (i 1) (i 2) : ℝ) : EReal)
abbrev BT (X : Fin 128 → Fin 512 → ℝ) : FVec Ideal S128x512 .f32 := fun i => ((X (i 0) (i 1) : ℝ) : EReal)
abbrev BC (X : Fin 512 → Fin 128 → ℝ) : FVec Ideal S512x128 .f32 := fun i => ((X (i 0) (i 1) : ℝ) : EReal)

/-- A chunk's rows among a block's. -/
def ro (c : Fin 4) (r : Fin 128) : Fin 512 := ⟨c.val * 128 + r.val, by omega⟩

theorem ldX (X : Fin 512 → Fin 512 → ℝ) (c h : Fin 4) (o p : ℕ) (ho : o = c.val * 128) (hp : p = h.val * 128) (inb) :
    View.ld (Val := Elt Ideal) (e' := .bf16) (S := S512x512) (BX X) (Rect.unit ![o, p] ![128, 128] inb) = B2 (φ := .bf16) fun r d => X (ro c r) (hc h d) := by
  subst ho hp
  funext i
  pointwise
  rfl
theorem ldS (X : Fin 4 → Fin 128 → Fin 512 → ℝ) (c h : Fin 4) (o p : ℕ) (ho : o = c.val) (hp : p = h.val * 128) (inb) :
    View.ld (Val := Elt Ideal) (e' := .bf16) (S := S4x128x512) (BS X) (Rect.unit ![o, 0, p] ![1, 128, 128] inb) = B3 (φ := .bf16) fun r d => X c r (hc h d) := by
  subst ho hp
  funext i
  pointwise
  rfl
theorem ldD (X : Fin 4 → Fin 128 → Fin 128 → ℝ) (h : Fin 4) (o : ℕ) (ho : o = h.val) (inb) :
    View.ld (Val := Elt Ideal) (e' := .f32) (S := S4x128x128) (BD X) (Rect.unit ![o, 0, 0] ![1, 128, 128] inb) = B3 (φ := .f32) (X h) := by
  subst ho
  funext i
  pointwise
  rfl
theorem ldT (X : Fin 128 → Fin 512 → ℝ) (h : Fin 4) (p : ℕ) (hp : p = h.val * 128) (inb) :
    View.ld (Val := Elt Ideal) (e' := .f32) (S := S128x512) (BT X) (Rect.unit ![0, p] ![128, 128] inb) = B2 (φ := .f32) fun r d => X r (hc h d) := by
  subst hp
  funext i
  pointwise
  rfl
theorem ldC (X : Fin 512 → Fin 128 → ℝ) (c : Fin 4) (o : ℕ) (ho : o = c.val * 128) (inb) :
    View.ld (Val := Elt Ideal) (e' := .f32) (S := S512x128) (BC X) (Rect.unit ![o, 0] ![128, 128] inb) = B2 (φ := .f32) fun r d => X (ro c r) d := by
  subst ho
  funext i
  pointwise
  rfl

end Cert.RetMainIdeal.Val

end
-- ==== Proof.RetTiles.lean ====
module

public import proofs.«01_k».proof.Proof.RetKernel

@[expose] public section

/-! # What a grid point of the retention's kernel writes, over real arguments -/

set_option maxRecDepth 16384

noncomputable section

open Idealize.ShloMosaic Idealize.ShloMosaic.TcCoe Idealize.SL.Sem

namespace Cert.RetMainIdeal.Val

open Cert.RetMainIdeal Cert.RetMainIdeal.Gen Cert.Lift Cert.GmReal Cert.RetReal

/-- The blocks a grid point reads. -/
structure Blocks where
  q : Fin 512 → Fin 512 → ℝ
  k : Fin 512 → Fin 512 → ℝ
  v : Fin 512 → Fin 512 → ℝ
  a : Fin 512 → Fin 512 → ℝ
  sf : Fin 4 → Fin 128 → Fin 512 → ℝ
  sb : Fin 4 → Fin 128 → Fin 512 → ℝ
  gf : Fin 4 → Fin 128 → Fin 512 → ℝ
  gb : Fin 4 → Fin 128 → Fin 512 → ℝ
  dm : Fin 4 → Fin 128 → Fin 128 → ℝ
  dmt : Fin 4 → Fin 128 → Fin 128 → ℝ
  xf : Fin 128 → Fin 512 → ℝ
  xb : Fin 128 → Fin 512 → ℝ
  zf : Fin 128 → Fin 512 → ℝ
  zb : Fin 128 → Fin 512 → ℝ
  co : Fin 512 → Fin 128 → ℝ
  si : Fin 512 → Fin 128 → ℝ

variable (B : Blocks)

/-- A tile's gradients. -/
def tileQ (c h : Fin 4) : Fin 128 → Fin 128 → ℝ :=
  fRot (fRq (fun r d => B.k (ro c r) (hc h d)) (fun r d => B.v (ro c r) (hc h d)) (fun r d => B.a (ro c r) (hc h d)) (fun r d => B.sf c r (hc h d)) (fun r d => B.sb c r (hc h d)) (B.dm h) (fun r d => B.xf r (hc h d)) (fun r d => B.xb r (hc h d))) (fun r d => B.co (ro c r) d) (fun r d => B.si (ro c r) d)
def tileK (c h : Fin 4) : Fin 128 → Fin 128 → ℝ :=
  fun i j => fRot (fRk (fun r d => B.q (ro c r) (hc h d)) (fun r d => B.v (ro c r) (hc h d)) (fun r d => B.a (ro c r) (hc h d)) (fun r d => B.gf c r (hc h d)) (fun r d => B.gb c r (hc h d)) (B.dmt h) (fun r d => B.zf r (hc h d)) (fun r d => B.zb r (hc h d))) (fun r d => B.co (ro c r) d) (fun r d => B.si (ro c r) d) i j * scale
def tileV (c h : Fin 4) : Fin 128 → Fin 128 → ℝ :=
  fV (fun r d => B.q (ro c r) (hc h d)) (fun r d => B.k (ro c r) (hc h d)) (fun r d => B.a (ro c r) (hc h d)) (fun r d => B.gf c r (hc h d)) (fun r d => B.gb c r (hc h d)) (B.dmt h) (fun r d => B.zf r (hc h d)) (fun r d => B.zb r (hc h d))

/-- The chunk and the row of a row of a block. -/
def cc (i : Fin 512) : Fin 4 := ⟨i.val / 128, by omega⟩
def rr (i : Fin 512) : Fin 128 := ⟨i.val % 128, by omega⟩
/-- What the point writes, by row and column. -/
def wr (i : Fin 512) (j : Fin 1536) : ℝ :=
  if h : j.val < 512 then tileQ B (cc i) (hh ⟨j.val, h⟩) (rr i) (hd ⟨j.val, h⟩)
  else if h' : j.val < 1024 then tileK B (cc i) (hh ⟨j.val - 512, by omega⟩) (rr i) (hd ⟨j.val - 512, by omega⟩)
  else tileV B (cc i) (hh ⟨j.val - 1024, by omega⟩) (rr i) (hd ⟨j.val - 1024, by omega⟩)

theorem atQ (c h : Fin 4) (r d : Fin 128) (i : Fin 512) (j : Fin 1536) (e : i.val = c.val * 128 + r.val) (e' : j.val = 0 + h.val * 128 + d.val) :
    tileQ B c h r d = wr B i j := by
  have e1 : cc i = c := Fin.ext (by show i.val / 128 = c.val; omega)
  have e2 : rr i = r := Fin.ext (by show i.val % 128 = r.val; omega)
  have e3 : hh ⟨j.val, by omega⟩ = h := Fin.ext (by show (j.val - 0) / 128 = h.val; omega)
  have e4 : hd ⟨j.val, by omega⟩ = d := Fin.ext (by show (j.val - 0) % 128 = d.val; omega)
  rw [wr, dif_pos (by omega), e1, e2, e3, e4]

theorem atK (c h : Fin 4) (r d : Fin 128) (i : Fin 512) (j : Fin 1536) (e : i.val = c.val * 128 + r.val) (e' : j.val = 512 + h.val * 128 + d.val) :
    tileK B c h r d = wr B i j := by
  have e1 : cc i = c := Fin.ext (by show i.val / 128 = c.val; omega)
  have e2 : rr i = r := Fin.ext (by show i.val % 128 = r.val; omega)
  have e3 : hh ⟨j.val - 512, by omega⟩ = h := Fin.ext (by show (j.val - 512) / 128 = h.val; omega)
  have e4 : hd ⟨j.val - 512, by omega⟩ = d := Fin.ext (by show (j.val - 512) % 128 = d.val; omega)
  rw [wr, dif_neg (by omega), dif_pos (by omega), e1, e2, e3, e4]

theorem atV (c h : Fin 4) (r d : Fin 128) (i : Fin 512) (j : Fin 1536) (e : i.val = c.val * 128 + r.val) (e' : j.val = 1024 + h.val * 128 + d.val) :
    tileV B c h r d = wr B i j := by
  have e1 : cc i = c := Fin.ext (by show i.val / 128 = c.val; omega)
  have e2 : rr i = r := Fin.ext (by show i.val % 128 = r.val; omega)
  have e3 : hh ⟨j.val - 1024, by omega⟩ = h := Fin.ext (by show (j.val - 1024) / 128 = h.val; omega)
  have e4 : hd ⟨j.val - 1024, by omega⟩ = d := Fin.ext (by show (j.val - 1024) % 128 = d.val; omega)
  rw [wr, dif_neg (by omega), dif_neg (by omega), e1, e2, e3, e4]

theorem pieceQ (c h : Fin 4) (o p q n : ℕ) (ho : o = c.val * 128) (hp : p = h.val * 128) (hq : q = c.val) (hn : n = h.val) (iC iD iS iT iX) (x : S128x128.Idx)
    (y : S512x1536.Idx) (e : (y 0).val = o + (x 0).val) (e' : (y 1).val = 0 + p + (x 1).val) :
    vQ (View.ld (Val := Elt Ideal) (e' := .bf16) (S := S512x512) (BX B.k) (Rect.unit ![o, p] ![128, 128] iX)) (View.ld (Val := Elt Ideal) (e' := .bf16) (S := S512x512) (BX B.v) (Rect.unit ![o, p] ![128, 128] iX)) (View.ld (Val := Elt Ideal) (e' := .bf16) (S := S512x512) (BX B.a) (Rect.unit ![o, p] ![128, 128] iX)) (View.ld (Val := Elt Ideal) (e' := .bf16) (S := S4x128x512) (BS B.sf) (Rect.unit ![q, 0, p] ![1, 128, 128] iS)) (View.ld (Val := Elt Ideal) (e' := .bf16) (S := S4x128x512) (BS B.sb) (Rect.unit ![q, 0, p] ![1, 128, 128] iS)) (View.ld (Val := Elt Ideal) (e' := .f32) (S := S4x128x128) (BD B.dm) (Rect.unit ![n, 0, 0] ![1, 128, 128] iD)) (View.ld (Val := Elt Ideal) (e' := .f32) (S := S128x512) (BT B.xf) (Rect.unit ![0, p] ![128, 128] iT)) (View.ld (Val := Elt Ideal) (e' := .f32) (S := S128x512) (BT B.xb) (Rect.unit ![0, p] ![128, 128] iT)) (View.ld (Val := Elt Ideal) (e' := .f32) (S := S512x128) (BC B.co) (Rect.unit ![o, 0] ![128, 128] iC)) (View.ld (Val := Elt Ideal) (e' := .f32) (S := S512x128) (BC B.si) (Rect.unit ![o, 0] ![128, 128] iC)) x
      = ((wr B (y 0) (y 1) : ℝ) : EReal) := by
  rw [ldX B.k c h o p ho hp, ldX B.v c h o p ho hp, ldX B.a c h o p ho hp, ldS B.sf c h q p hq hp, ldS B.sb c h q p hq hp, ldD B.dm h n hn, ldT B.xf h p hp, ldT B.xb h p hp, ldC B.co c o ho, ldC B.si c o ho, vQ_real]
  exact congrArg Real.toEReal (atQ B c h (x 0) (x 1) (y 0) (y 1) (by omega) (by omega))

theorem pieceK (c h : Fin 4) (o p q n : ℕ) (ho : o = c.val * 128) (hp : p = h.val * 128) (hq : q = c.val) (hn : n = h.val) (iC iD iS iT iX) (x : S128x128.Idx)
    (y : S512x1536.Idx) (e : (y 0).val = o + (x 0).val) (e' : (y 1).val = 512 + p + (x 1).val) :
    vK (View.ld (Val := Elt Ideal) (e' := .bf16) (S := S512x512) (BX B.q) (Rect.unit ![o, p] ![128, 128] iX)) (View.ld (Val := Elt Ideal) (e' := .bf16) (S := S512x512) (BX B.v) (Rect.unit ![o, p] ![128, 128] iX)) (View.ld (Val := Elt Ideal) (e' := .bf16) (S := S512x512) (BX B.a) (Rect.unit ![o, p] ![128, 128] iX)) (View.ld (Val := Elt Ideal) (e' := .bf16) (S := S4x128x512) (BS B.gf) (Rect.unit ![q, 0, p] ![1, 128, 128] iS)) (View.ld (Val := Elt Ideal) (e' := .bf16) (S := S4x128x512) (BS B.gb) (Rect.unit ![q, 0, p] ![1, 128, 128] iS)) (View.ld (Val := Elt Ideal) (e' := .f32) (S := S4x128x128) (BD B.dmt) (Rect.unit ![n, 0, 0] ![1, 128, 128] iD)) (View.ld (Val := Elt Ideal) (e' := .f32) (S := S128x512) (BT B.zf) (Rect.unit ![0, p] ![128, 128] iT)) (View.ld (Val := Elt Ideal) (e' := .f32) (S := S128x512) (BT B.zb) (Rect.unit ![0, p] ![128, 128] iT)) (View.ld (Val := Elt Ideal) (e' := .f32) (S := S512x128) (BC B.co) (Rect.unit ![o, 0] ![128, 128] iC)) (View.ld (Val := Elt Ideal) (e' := .f32) (S := S512x128) (BC B.si) (Rect.unit ![o, 0] ![128, 128] iC)) x
      = ((wr B (y 0) (y 1) : ℝ) : EReal) := by
  rw [ldX B.q c h o p ho hp, ldX B.v c h o p ho hp, ldX B.a c h o p ho hp, ldS B.gf c h q p hq hp, ldS B.gb c h q p hq hp, ldD B.dmt h n hn, ldT B.zf h p hp, ldT B.zb h p hp, ldC B.co c o ho, ldC B.si c o ho, vK_real]
  exact congrArg Real.toEReal (atK B c h (x 0) (x 1) (y 0) (y 1) (by omega) (by omega))

theorem pieceV (c h : Fin 4) (o p q n : ℕ) (ho : o = c.val * 128) (hp : p = h.val * 128) (hq : q = c.val) (hn : n = h.val) (iD iS iT iX) (x : S128x128.Idx)
    (y : S512x1536.Idx) (e : (y 0).val = o + (x 0).val) (e' : (y 1).val = 1024 + p + (x 1).val) :
    vV (View.ld (Val := Elt Ideal) (e' := .bf16) (S := S512x512) (BX B.q) (Rect.unit ![o, p] ![128, 128] iX)) (View.ld (Val := Elt Ideal) (e' := .bf16) (S := S512x512) (BX B.k) (Rect.unit ![o, p] ![128, 128] iX)) (View.ld (Val := Elt Ideal) (e' := .bf16) (S := S512x512) (BX B.a) (Rect.unit ![o, p] ![128, 128] iX)) (View.ld (Val := Elt Ideal) (e' := .bf16) (S := S4x128x512) (BS B.gf) (Rect.unit ![q, 0, p] ![1, 128, 128] iS)) (View.ld (Val := Elt Ideal) (e' := .bf16) (S := S4x128x512) (BS B.gb) (Rect.unit ![q, 0, p] ![1, 128, 128] iS)) (View.ld (Val := Elt Ideal) (e' := .f32) (S := S4x128x128) (BD B.dmt) (Rect.unit ![n, 0, 0] ![1, 128, 128] iD)) (View.ld (Val := Elt Ideal) (e' := .f32) (S := S128x512) (BT B.zf) (Rect.unit ![0, p] ![128, 128] iT)) (View.ld (Val := Elt Ideal) (e' := .f32) (S := S128x512) (BT B.zb) (Rect.unit ![0, p] ![128, 128] iT)) x
      = ((wr B (y 0) (y 1) : ℝ) : EReal) := by
  rw [ldX B.q c h o p ho hp, ldX B.k c h o p ho hp, ldX B.a c h o p ho hp, ldS B.gf c h q p hq hp, ldS B.gb c h q p hq hp, ldD B.dmt h n hn, ldT B.zf h p hp, ldT B.zb h p hp, vV_real]
  exact congrArg Real.toEReal (atV B c h (x 0) (x 1) (y 0) (y 1) (by omega) (by omega))

set_option maxHeartbeats 4000000 in
theorem out_real (y : S512x1536.Idx) : out0_16 (F := Ideal) (BX B.q) (BX B.k) (BX B.v) (BX B.a) (BS B.sf) (BS B.sb) (BS B.gf) (BS B.gb) (BD B.dm) (BD B.dmt) (BT B.xf) (BT B.xb) (BT B.zf) (BT B.zb) (BC B.co) (BC B.si) y
    = ((wr B (y 0) (y 1) : ℝ) : EReal) := by
  unfold out0_16
  canon_tiles y hy
  case piece0 =>
    rename_i z
    exact pieceV B 3 3 384 384 3 3 rfl rfl rfl rfl _ _ _ _ y z (by omega) (by omega)
  case piece1 =>
    rename_i z
    exact pieceK B 3 3 384 384 3 3 rfl rfl rfl rfl _ _ _ _ _ y z (by omega) (by omega)
  case piece2 =>
    rename_i z
    exact pieceQ B 3 3 384 384 3 3 rfl rfl rfl rfl _ _ _ _ _ y z (by omega) (by omega)
  case piece3 =>
    rename_i z
    exact pieceV B 3 2 384 256 3 2 rfl rfl rfl rfl _ _ _ _ y z (by omega) (by omega)
  case piece4 =>
    rename_i z
    exact pieceK B 3 2 384 256 3 2 rfl rfl rfl rfl _ _ _ _ _ y z (by omega) (by omega)
  case piece5 =>
    rename_i z
    exact pieceQ B 3 2 384 256 3 2 rfl rfl rfl rfl _ _ _ _ _ y z (by omega) (by omega)
  case piece6 =>
    rename_i z
    exact pieceV B 3 1 384 128 3 1 rfl rfl rfl rfl _ _ _ _ y z (by omega) (by omega)
  case piece7 =>
    rename_i z
    exact pieceK B 3 1 384 128 3 1 rfl rfl rfl rfl _ _ _ _ _ y z (by omega) (by omega)
  case piece8 =>
    rename_i z
    exact pieceQ B 3 1 384 128 3 1 rfl rfl rfl rfl _ _ _ _ _ y z (by omega) (by omega)
  case piece9 =>
    rename_i z
    exact pieceV B 3 0 384 0 3 0 rfl rfl rfl rfl _ _ _ _ y z (by omega) (by omega)
  case piece10 =>
    rename_i z
    exact pieceK B 3 0 384 0 3 0 rfl rfl rfl rfl _ _ _ _ _ y z (by omega) (by omega)
  case piece11 =>
    rename_i z
    exact pieceQ B 3 0 384 0 3 0 rfl rfl rfl rfl _ _ _ _ _ y z (by omega) (by omega)
  case piece12 =>
    rename_i z
    exact pieceV B 2 3 256 384 2 3 rfl rfl rfl rfl _ _ _ _ y z (by omega) (by omega)
  case piece13 =>
    rename_i z
    exact pieceK B 2 3 256 384 2 3 rfl rfl rfl rfl _ _ _ _ _ y z (by omega) (by omega)
  case piece14 =>
    rename_i z
    exact pieceQ B 2 3 256 384 2 3 rfl rfl rfl rfl _ _ _ _ _ y z (by omega) (by omega)
  case piece15 =>
    rename_i z
    exact pieceV B 2 2 256 256 2 2 rfl rfl rfl rfl _ _ _ _ y z (by omega) (by omega)
  case piece16 =>
    rename_i z
    exact pieceK B 2 2 256 256 2 2 rfl rfl rfl rfl _ _ _ _ _ y z (by omega) (by omega)
  case piece17 =>
    rename_i z
    exact pieceQ B 2 2 256 256 2 2 rfl rfl rfl rfl _ _ _ _ _ y z (by omega) (by omega)
  case piece18 =>
    rename_i z
    exact pieceV B 2 1 256 128 2 1 rfl rfl rfl rfl _ _ _ _ y z (by omega) (by omega)
  case piece19 =>
    rename_i z
    exact pieceK B 2 1 256 128 2 1 rfl rfl rfl rfl _ _ _ _ _ y z (by omega) (by omega)
  case piece20 =>
    rename_i z
    exact pieceQ B 2 1 256 128 2 1 rfl rfl rfl rfl _ _ _ _ _ y z (by omega) (by omega)
  case piece21 =>
    rename_i z
    exact pieceV B 2 0 256 0 2 0 rfl rfl rfl rfl _ _ _ _ y z (by omega) (by omega)
  case piece22 =>
    rename_i z
    exact pieceK B 2 0 256 0 2 0 rfl rfl rfl rfl _ _ _ _ _ y z (by omega) (by omega)
  case piece23 =>
    rename_i z
    exact pieceQ B 2 0 256 0 2 0 rfl rfl rfl rfl _ _ _ _ _ y z (by omega) (by omega)
  case piece24 =>
    rename_i z
    exact pieceV B 1 3 128 384 1 3 rfl rfl rfl rfl _ _ _ _ y z (by omega) (by omega)
  case piece25 =>
    rename_i z
    exact pieceK B 1 3 128 384 1 3 rfl rfl rfl rfl _ _ _ _ _ y z (by omega) (by omega)
  case piece26 =>
    rename_i z
    exact pieceQ B 1 3 128 384 1 3 rfl rfl rfl rfl _ _ _ _ _ y z (by omega) (by omega)
  case piece27 =>
    rename_i z
    exact pieceV B 1 2 128 256 1 2 rfl rfl rfl rfl _ _ _ _ y z (by omega) (by omega)
  case piece28 =>
    rename_i z
    exact pieceK B 1 2 128 256 1 2 rfl rfl rfl rfl _ _ _ _ _ y z (by omega) (by omega)
  case piece29 =>
    rename_i z
    exact pieceQ B 1 2 128 256 1 2 rfl rfl rfl rfl _ _ _ _ _ y z (by omega) (by omega)
  case piece30 =>
    rename_i z
    exact pieceV B 1 1 128 128 1 1 rfl rfl rfl rfl _ _ _ _ y z (by omega) (by omega)
  case piece31 =>
    rename_i z
    exact pieceK B 1 1 128 128 1 1 rfl rfl rfl rfl _ _ _ _ _ y z (by omega) (by omega)
  case piece32 =>
    rename_i z
    exact pieceQ B 1 1 128 128 1 1 rfl rfl rfl rfl _ _ _ _ _ y z (by omega) (by omega)
  case piece33 =>
    rename_i z
    exact pieceV B 1 0 128 0 1 0 rfl rfl rfl rfl _ _ _ _ y z (by omega) (by omega)
  case piece34 =>
    rename_i z
    exact pieceK B 1 0 128 0 1 0 rfl rfl rfl rfl _ _ _ _ _ y z (by omega) (by omega)
  case piece35 =>
    rename_i z
    exact pieceQ B 1 0 128 0 1 0 rfl rfl rfl rfl _ _ _ _ _ y z (by omega) (by omega)
  case piece36 =>
    rename_i z
    exact pieceV B 0 3 0 384 0 3 rfl rfl rfl rfl _ _ _ _ y z (by omega) (by omega)
  case piece37 =>
    rename_i z
    exact pieceK B 0 3 0 384 0 3 rfl rfl rfl rfl _ _ _ _ _ y z (by omega) (by omega)
  case piece38 =>
    rename_i z
    exact pieceQ B 0 3 0 384 0 3 rfl rfl rfl rfl _ _ _ _ _ y z (by omega) (by omega)
  case piece39 =>
    rename_i z
    exact pieceV B 0 2 0 256 0 2 rfl rfl rfl rfl _ _ _ _ y z (by omega) (by omega)
  case piece40 =>
    rename_i z
    exact pieceK B 0 2 0 256 0 2 rfl rfl rfl rfl _ _ _ _ _ y z (by omega) (by omega)
  case piece41 =>
    rename_i z
    exact pieceQ B 0 2 0 256 0 2 rfl rfl rfl rfl _ _ _ _ _ y z (by omega) (by omega)
  case piece42 =>
    rename_i z
    exact pieceV B 0 1 0 128 0 1 rfl rfl rfl rfl _ _ _ _ y z (by omega) (by omega)
  case piece43 =>
    rename_i z
    exact pieceK B 0 1 0 128 0 1 rfl rfl rfl rfl _ _ _ _ _ y z (by omega) (by omega)
  case piece44 =>
    rename_i z
    exact pieceQ B 0 1 0 128 0 1 rfl rfl rfl rfl _ _ _ _ _ y z (by omega) (by omega)
  case piece45 =>
    rename_i z
    exact pieceV B 0 0 0 0 0 0 rfl rfl rfl rfl _ _ _ _ y z (by omega) (by omega)
  case piece46 =>
    rename_i z
    exact pieceK B 0 0 0 0 0 0 rfl rfl rfl rfl _ _ _ _ _ y z (by omega) (by omega)
  case piece47 =>
    rename_i z
    exact pieceQ B 0 0 0 0 0 0 rfl rfl rfl rfl _ _ _ _ _ y z (by omega) (by omega)

end Cert.RetMainIdeal.Val

end
-- ==== Proof.RetMainRef.lean ====
module

public import proofs.«01_k».proof.Proof.Gen.RetMainRefIdeal.Read
public import proofs.«01_k».proof.Proof.RetReal

@[expose] public section

/-! # What the reference of the retention's gradients computes -/

set_option maxRecDepth 16384

noncomputable section

namespace Cert.RetMainRefIdeal.Val

open Cert.RetMainRefIdeal Cert.RetMainRefIdeal.Read Cert.Lift Cert.GmReal Cert.RetReal Idealize.ShloMosaic

/-! ## The tables -/

theorem zero_at (j : S_.Idx) : constant (F := Ideal) S_ .f32 0x00000000#32 j = ((0 : ℝ) : EReal) :=
  Ideal.ofBits_zero_f32.trans EReal.coe_zero.symm

theorem v5_real : val_main_v5 (F := Ideal) = fun i => ((freq (i 0) : ℝ) : EReal) := by
  funext i
  have e := sitofp_coe (i 0).val (by have := (i 0).isLt; exact lt_of_lt_of_le this (by decide))
  pointwise [val_main_v5, val_main_v4, val_main_v3, val_main_v2, val_main_v1, val_main_v0, val_main_cst, val_main_cst_0]
  simp (disch := norm_num) only [e, Ideal.ofBits_def, bits_64, bits_1e4, neg_coe, div_coe, pow_coe]
  rfl

theorem v12_real : val_main_v12 (F := Ideal) = fun i => ((cs (i 0) (i 1) : ℝ) : EReal) := by
  funext i
  have e := sitofp_coe (i 0).val (by have := (i 0).isLt; exact lt_of_lt_of_le this (by decide))
  pointwise [val_main_v12, val_main_v11, val_main_v10, val_main_v9, val_main_v8, val_main_v7, val_main_v6, v5_real]
  simp only [e, mul_coe, cos_coe]
  rfl

theorem v14_real : val_main_v14 (F := Ideal) = fun i => ((sn (i 0) (i 1) : ℝ) : EReal) := by
  funext i
  have e := sitofp_coe (i 0).val (by have := (i 0).isLt; exact lt_of_lt_of_le this (by decide))
  pointwise [val_main_v14, val_main_v11, val_main_v10, val_main_v9, val_main_v8, val_main_v7, val_main_v6, v5_real]
  simp only [e, mul_coe, sin_coe]
  rfl

theorem v23_real : val_main_v23 (F := Ideal) = fun i => ((gam (i 0) : ℝ) : EReal) := by
  funext i
  have e := sitofp_coe (i 0).val (by have := (i 0).isLt; exact lt_of_lt_of_le this (by decide))
  pointwise [val_main_v23, val_main_v22, val_main_v21, val_main_v20, val_main_v19, val_main_v18, val_main_v17, val_main_v16, val_main_cst_1, val_main_cst_2, val_main_cst_3]
  simp only [e, Ideal.ofBits_def, bits_neg5, bits_ln2, bits_one, one_coe, sub_coe, mul_coe, exp_coe]
  rfl

theorem v24_real : val_main_v24 (F := Ideal) = fun i => ((gam (Fin.rev (i 0)) : ℝ) : EReal) := by
  funext i
  pointwise [val_main_v24, v23_real]
  rfl

theorem v56_real : val_main_v56 (F := Ideal) = fun i => ((lam (i 0) : ℝ) : EReal) := by
  funext i; simp only [val_main_v56_apply, v23_real, Ideal.hostUnary_log_def]; exact log_coe _ (gam_pos _)

theorem v90_real : val_main_v90 (F := Ideal) = fun i => ((lamR (i 0) : ℝ) : EReal) := by
  funext i; simp only [val_main_v90_apply, v24_real, Ideal.hostUnary_log_def]; exact log_coe _ (gam_pos _)

theorem v79_real : val_main_v79 (F := Ideal) = fun i => ((dec lam (i 0) (i 1) (i 2) : ℝ) : EReal) := by
  funext i
  have e1 := sitofp_coe (i 1).val (lt_of_lt_of_le (i 1).isLt (by decide))
  have e2 := sitofp_coe (i 2).val (lt_of_lt_of_le (i 2).isLt (by decide))
  pointwise [val_main_call0_v0, val_main_call0_v1, val_main_call1_v0, val_main_call1_v1, val_main_call1_v2, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_cst_5, val_main_cst_6, val_main_cst_7, val_main_cst_8, val_main_cst_9, val_main_cst_10, v56_real]
  simp only [e1, e2, Ideal.ofBits_def, Ideal.ofBits_zero_f32, bits_one, one_coe, bits_128, id_eq, zero_at, zero_coe, sub_coe, mul_coe, select_oge, ite_coe, exp_coe]
  delta dec
  simp only [EReal.coe_le_coe_iff]

theorem v113_real : val_main_v113 (F := Ideal) = fun i => ((dec lamR (i 0) (i 1) (i 2) : ℝ) : EReal) := by
  funext i
  have e1 := sitofp_coe (i 1).val (lt_of_lt_of_le (i 1).isLt (by decide))
  have e2 := sitofp_coe (i 2).val (lt_of_lt_of_le (i 2).isLt (by decide))
  pointwise [val_main_call4_v0, val_main_call4_v1, val_main_call5_v0, val_main_call5_v1, val_main_call5_v2, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_cst_11, val_main_cst_12, val_main_cst_13, val_main_cst_14, val_main_cst_15, val_main_cst_16, v90_real]
  simp only [e1, e2, Ideal.ofBits_def, Ideal.ofBits_zero_f32, bits_one, one_coe, bits_128, id_eq, zero_at, zero_coe, sub_coe, mul_coe, select_oge, ite_coe, exp_coe]
  delta dec
  simp only [EReal.coe_le_coe_iff]

theorem v129_real : val_main_v129 (F := Ideal) = fun i => ((lam (i 0) : ℝ) : EReal) := v56_real

theorem v145_real : val_main_v145 (F := Ideal) = fun i => ((dge lam (i 0) (i 1) (i 2) : ℝ) : EReal) := by
  funext i
  have e1 := sitofp_coe (i 1).val (lt_of_lt_of_le (i 1).isLt (by decide))
  have e2 := sitofp_coe (i 2).val (lt_of_lt_of_le (i 2).isLt (by decide))
  pointwise [val_main_call6_v0, val_main_call6_v1, val_main_call7_v0, val_main_call7_v1, val_main_call7_v2, val_main_v128, val_main_v130, val_main_v131, val_main_v132, val_main_v133, val_main_v134, val_main_v135, val_main_v136, val_main_v137, val_main_v138, val_main_v139, val_main_v140, val_main_v141, val_main_v142, val_main_v143, val_main_v144, val_main_v145, val_main_cst_17, val_main_cst_18, val_main_cst_19, v129_real]
  simp only [e1, e2, Ideal.ofBits_def, Ideal.ofBits_zero_f32, id_eq, zero_at, zero_coe, sub_coe, mul_coe, select_oge, ite_coe, exp_coe]
  delta dge
  simp only [EReal.coe_le_coe_iff]

theorem v175_real : val_main_v175 (F := Ideal) = fun i => ((lamR (i 0) : ℝ) : EReal) := v90_real

theorem v191_real : val_main_v191 (F := Ideal) = fun i => ((dgt lamR (i 0) (i 1) (i 2) : ℝ) : EReal) := by
  funext i
  have e1 := sitofp_coe (i 1).val (lt_of_lt_of_le (i 1).isLt (by decide))
  have e2 := sitofp_coe (i 2).val (lt_of_lt_of_le (i 2).isLt (by decide))
  pointwise [val_main_call11_v0, val_main_call11_v1, val_main_call12_v0, val_main_call12_v1, val_main_call12_v2, val_main_v174, val_main_v176, val_main_v177, val_main_v178, val_main_v179, val_main_v180, val_main_v181, val_main_v182, val_main_v183, val_main_v184, val_main_v185, val_main_v186, val_main_v187, val_main_v188, val_main_v189, val_main_v190, val_main_v191, val_main_cst_21, val_main_cst_22, val_main_cst_23, v175_real]
  simp only [e1, e2, Ideal.ofBits_def, Ideal.ofBits_zero_f32, id_eq, zero_at, zero_coe, sub_coe, mul_coe, select_ogt, ite_coe, exp_coe]
  delta dgt
  simp only [EReal.coe_lt_coe_iff]

theorem v152_real : val_main_v152 (F := Ideal) = fun i => ((xi lam (i 0) (i 1) : ℝ) : EReal) := by
  funext i
  have e1 := sitofp_coe (i 1).val (lt_of_lt_of_le (i 1).isLt (by decide))
  pointwise [val_main_v128, val_main_v130, val_main_v146, val_main_v147, val_main_v148, val_main_v149, val_main_v150, val_main_v151, val_main_v152, val_main_cst_20, v129_real]
  simp only [e1, Ideal.ofBits_def, bits_one, one_coe, add_coe, mul_coe, exp_coe]
  rfl

theorem v198_real : val_main_v198 (F := Ideal) = fun i => ((xi lamR (i 0) (i 1) : ℝ) : EReal) := by
  funext i
  have e1 := sitofp_coe (i 1).val (lt_of_lt_of_le (i 1).isLt (by decide))
  pointwise [val_main_v174, val_main_v176, val_main_v192, val_main_v193, val_main_v194, val_main_v195, val_main_v196, val_main_v197, val_main_v198, val_main_cst_24, v175_real]
  simp only [e1, Ideal.ofBits_def, bits_one, one_coe, add_coe, mul_coe, exp_coe]
  rfl

theorem v217_real : val_main_v217 (F := Ideal) = fun i => ((lam (i 0) : ℝ) : EReal) := v56_real

theorem v225_real : val_main_v225 (F := Ideal) = fun i => ((zt lam (i 0) (i 1) : ℝ) : EReal) := by
  funext i
  have e1 := sitofp_coe (i 1).val (lt_of_lt_of_le (i 1).isLt (by decide))
  pointwise [val_main_v216, val_main_v218, val_main_v219, val_main_v220, val_main_v221, val_main_v222, val_main_v223, val_main_v224, val_main_v225, val_main_cst_25, v217_real]
  simp only [e1, Ideal.ofBits_def, bits_127, sub_coe, mul_coe, exp_coe]
  rfl

theorem v237_real : val_main_v237 (F := Ideal) = fun i => ((lamR (i 0) : ℝ) : EReal) := v90_real

theorem v245_real : val_main_v245 (F := Ideal) = fun i => ((zt lamR (i 0) (i 1) : ℝ) : EReal) := by
  funext i
  have e1 := sitofp_coe (i 1).val (lt_of_lt_of_le (i 1).isLt (by decide))
  pointwise [val_main_v236, val_main_v238, val_main_v239, val_main_v240, val_main_v241, val_main_v242, val_main_v243, val_main_v244, val_main_v245, val_main_cst_26, v237_real]
  simp only [e1, Ideal.ofBits_def, bits_127, sub_coe, mul_coe, exp_coe]
  rfl

/-! ## The arguments -/

variable (X0 X1 X2 X3 : Fin 8192 → Fin 512 → ℝ) (G4 G5 : Fin 64 → Fin 4 → Fin 128 → Fin 128 → ℝ)

/-- The arguments, as arrays of reals. -/
abbrev XA (X : Fin 8192 → Fin 512 → ℝ) : FVec Ideal S8192x512 .f32 := fun i => ((X (i 0) (i 1) : ℝ) : EReal)
abbrev XS (G : Fin 64 → Fin 4 → Fin 128 → Fin 128 → ℝ) : FVec Ideal S64x4x128x128 .f32 := fun i => ((G (i 0) (i 1) (i 2) (i 3) : ℝ) : EReal)

theorem v38_real : val_main_v38 (F := Ideal) (XA X0) = fun i => ((rq X0 (i 0) (i 1) (i 2) : ℝ) : EReal) := by
  funext i
  pointwise [val_main_v25, val_main_v26, val_main_v27, val_main_v28, val_main_v29, val_main_v30, val_main_v31, val_main_v32, val_main_v33, val_main_v34, val_main_v35, val_main_v36, val_main_v37, val_main_v38, val_main_v13, val_main_v15, v12_real, v14_real, XA]
  simp only [mul_coe, sub_coe, add_coe]
  show _ = ((rot (fun e => X0 (i 0) (hc (i 1) e)) (cs (i 0)) (sn (i 0)) (i 2) : ℝ) : EReal)
  unfold rot
  split <;> rfl

theorem v52_real : val_main_v52 (F := Ideal) (XA X1) = fun i => ((rq X1 (i 0) (i 1) (i 2) : ℝ) : EReal) := by
  funext i
  pointwise [val_main_v39, val_main_v40, val_main_v41, val_main_v42, val_main_v43, val_main_v44, val_main_v45, val_main_v46, val_main_v47, val_main_v48, val_main_v49, val_main_v50, val_main_v51, val_main_v52, val_main_v13, val_main_v15, v12_real, v14_real, XA]
  simp only [mul_coe, sub_coe, add_coe]
  show _ = ((rot (fun e => X1 (i 0) (hc (i 1) e)) (cs (i 0)) (sn (i 0)) (i 2) : ℝ) : EReal)
  unfold rot
  split <;> rfl

theorem v54_real : val_main_v54 (F := Ideal) (XA X1) = fun i => ((rk X1 (i 0) (i 1) (i 2) : ℝ) : EReal) := by
  funext i
  pointwise [val_main_v54, val_main_v53, val_main_cst_4, v52_real]
  simp only [Ideal.ofBits_def, bits_scale, mul_coe]
  rfl

theorem v55_real : val_main_v55 (F := Ideal) (XA X2) = fun i => ((rv X2 (i 0) (i 1) (i 2) : ℝ) : EReal) := by
  funext i
  pointwise [val_main_v55, XA]
  rfl

/-! ## The states and the chunks -/

theorem v87_real : val_main_v87 (F := Ideal) (XA X1) (XA X2) =
    fun i => ((state lam (rk X1) (rv X2) (i 0) (i 1) (i 2) (i 3) : ℝ) : EReal) := by
  funext i
  pointwise [val_main_v87]
  rw [val_main_v86_apply]
  pointwise [val_main_v80, val_main_v81, val_main_v82, val_main_v83, val_main_v84, val_main_v85, v79_real, v54_real, v55_real]
  simp only [mul_coe, sum_coe]
  rfl

theorem v88_real : val_main_v88 (F := Ideal) (XA X1) = fun i => ((bk (rk X1) (i 0) (i 1) (i 2) : ℝ) : EReal) := by
  funext i; pointwise [val_main_v88, v54_real]; rfl

theorem v89_real : val_main_v89 (F := Ideal) (XA X2) = fun i => ((bk (rv X2) (i 0) (i 1) (i 2) : ℝ) : EReal) := by
  funext i; pointwise [val_main_v89, v55_real]; rfl

theorem v121_real : val_main_v121 (F := Ideal) (XA X1) (XA X2) =
    fun i => ((state lamR (bk (rk X1)) (bk (rv X2)) (i 0) (i 1) (i 2) (i 3) : ℝ) : EReal) := by
  funext i
  pointwise [val_main_v121]
  rw [val_main_v120_apply]
  pointwise [val_main_v114, val_main_v115, val_main_v116, val_main_v117, val_main_v118, val_main_v119, v113_real, v88_real, v89_real]
  simp only [mul_coe, sum_coe]
  rfl

/-- An array by position, head and column, cut into chunks. -/
abbrev CH (X : Fin 8192 → Fin 4 → Fin 128 → ℝ) : FVec Ideal S4x64x128x128 .f32 :=
  fun i => ((X (cr (i 1) (i 2)) (i 0) (i 3) : ℝ) : EReal)

theorem v123_real : val_main_v123 (F := Ideal) (XA X0) = CH (rq X0) := by
  funext i; pointwise [val_main_v123, val_main_v122, v38_real]; rfl

theorem v125_real : val_main_v125 (F := Ideal) (XA X1) = CH (rk X1) := by
  funext i; pointwise [val_main_v125, val_main_v124, v54_real]; rfl

theorem v127_real : val_main_v127 (F := Ideal) (XA X2) = CH (rv X2) := by
  funext i; pointwise [val_main_v127, val_main_v126, v55_real]; rfl

theorem v167_real : val_main_v167 (F := Ideal) (XA X0) = CH (bk (rq X0)) := by
  funext i; pointwise [val_main_v167, val_main_v165, val_main_v166, v38_real]; rfl

theorem v170_real : val_main_v170 (F := Ideal) (XA X1) = CH (bk (rk X1)) := by
  funext i; pointwise [val_main_v170, val_main_v168, val_main_v169, v54_real]; rfl

theorem v173_real : val_main_v173 (F := Ideal) (XA X2) = CH (bk (rv X2)) := by
  funext i; pointwise [val_main_v173, val_main_v171, val_main_v172, v55_real]; rfl

theorem v213_real : val_main_v213 (F := Ideal) (XA X1) = CH (rk X1) := by
  funext i; pointwise [val_main_v213, val_main_v212, v54_real]; rfl

theorem v215_real : val_main_v215 (F := Ideal) (XA X2) = CH (rv X2) := by
  funext i; pointwise [val_main_v215, val_main_v214, v55_real]; rfl

theorem v232_real : val_main_v232 (F := Ideal) (XA X1) = CH (bk (rk X1)) := by
  funext i; pointwise [val_main_v232, val_main_v230, val_main_v231, v54_real]; rfl

theorem v235_real : val_main_v235 (F := Ideal) (XA X2) = CH (bk (rv X2)) := by
  funext i; pointwise [val_main_v235, val_main_v233, val_main_v234, v55_real]; rfl

theorem v279_real : val_main_v279 (F := Ideal) (XA X3) = CH (bk (rv X3)) := by
  funext i; pointwise [val_main_v279, val_main_v277, val_main_v278, val_main_v252, XA]; rfl

theorem v303_real : val_main_v303 (F := Ideal) (XA X3) = CH (rv X3) := by
  funext i; pointwise [val_main_v303, val_main_v302, val_main_v252, XA]; rfl

theorem v156_real : val_main_v156 (F := Ideal) (XA X0) (XA X1) =
    fun i => ((sco (dge lam) (rq X0) (rk X1) (i 1) (i 0) (i 2) (i 3) : ℝ) : EReal) := by
  funext i
  pointwise [val_main_v156, val_main_v155, val_main_v154, v145_real]
  rw [val_main_v153_apply]
  pointwise [v123_real, v125_real]
  simp only [mul_coe, sum_coe, add_coe]
  rfl

theorem v202_real : val_main_v202 (F := Ideal) (XA X0) (XA X1) =
    fun i => ((sco (dgt lamR) (bk (rq X0)) (bk (rk X1)) (i 1) (i 0) (i 2) (i 3) : ℝ) : EReal) := by
  funext i
  pointwise [val_main_v202, val_main_v201, val_main_v200, v191_real]
  rw [val_main_v199_apply]
  pointwise [v167_real, v170_real]
  simp only [mul_coe, sum_coe, add_coe]
  rfl

theorem v228_real : val_main_v228 (F := Ideal) (XA X1) =
    fun i => ((rk X1 (cr (i 1) (i 2)) (i 0) (i 3) * zt lam (i 0) (i 2) : ℝ) : EReal) := by
  funext i
  pointwise [val_main_v228, val_main_v227, val_main_v226, v213_real, v225_real]
  simp only [mul_coe, sum_coe, add_coe]

theorem v248_real : val_main_v248 (F := Ideal) (XA X1) =
    fun i => ((bk (rk X1) (cr (i 1) (i 2)) (i 0) (i 3) * zt lamR (i 0) (i 2) : ℝ) : EReal) := by
  funext i
  pointwise [val_main_v248, val_main_v247, val_main_v246, v232_real, v245_real]
  simp only [mul_coe, sum_coe, add_coe]

theorem v254_real : val_main_v254 (F := Ideal) (XA X1) (XS G5) =
    fun i => ((gv1 (zt lamR) (bk (rk X1)) G5 (i 1) (i 0) (i 2) (i 3) : ℝ) : EReal) := by
  funext i
  pointwise [val_main_v254]
  rw [val_main_v253_apply]
  pointwise [v248_real]
  simp only [mul_coe, sum_coe, add_coe]
  rfl

theorem v266_real : val_main_v266 (F := Ideal) (XA X1) (XS G4) =
    fun i => ((gv1 (zt lam) (rk X1) G4 (i 1) (i 0) (i 2) (i 3) : ℝ) : EReal) := by
  funext i
  pointwise [val_main_v266]
  rw [val_main_v265_apply]
  pointwise [v228_real]
  simp only [mul_coe, sum_coe, add_coe]
  rfl

theorem v258_real : val_main_v258 (F := Ideal) (XA X2) (XS G5) =
    fun i => ((gk1 (zt lamR) (bk (rv X2)) G5 (i 1) (i 0) (i 2) (i 3) : ℝ) : EReal) := by
  funext i
  pointwise [val_main_v258, val_main_v257, val_main_v246, val_main_v256, v245_real]
  rw [val_main_v255_apply]
  pointwise [v235_real]
  simp only [mul_coe, sum_coe, add_coe]
  rfl

theorem v270_real : val_main_v270 (F := Ideal) (XA X2) (XS G4) =
    fun i => ((gk1 (zt lam) (rv X2) G4 (i 1) (i 0) (i 2) (i 3) : ℝ) : EReal) := by
  funext i
  pointwise [val_main_v270, val_main_v269, val_main_v226, val_main_v268, v225_real]
  rw [val_main_v267_apply]
  pointwise [v215_real]
  simp only [mul_coe, sum_coe, add_coe]
  rfl

theorem v282_real : val_main_v282 (F := Ideal) (XA X1) (XA X2) (XA X3) =
    fun i => (((∑ e, bk (rv X3) (cr (i 1) (i 2)) (i 0) e * (state lamR (bk (rk X1)) (bk (rv X2))) (i 1) (i 0) (i 3) e) * xi lamR (i 0) (i 2) : ℝ) : EReal) := by
  funext i
  pointwise [val_main_v282, val_main_v281, val_main_v204, v198_real]
  rw [val_main_v280_apply]
  pointwise [v279_real, v121_real]
  simp only [mul_coe, sum_coe, add_coe]
  rfl

theorem v306_real : val_main_v306 (F := Ideal) (XA X1) (XA X2) (XA X3) =
    fun i => (((∑ e, rv X3 (cr (i 1) (i 2)) (i 0) e * (state lam (rk X1) (rv X2)) (i 1) (i 0) (i 3) e) * xi lam (i 0) (i 2) : ℝ) : EReal) := by
  funext i
  pointwise [val_main_v306, val_main_v305, val_main_v158, v152_real]
  rw [val_main_v304_apply]
  pointwise [v303_real, v87_real]
  simp only [mul_coe, sum_coe, add_coe]
  rfl

theorem v284_real : val_main_v284 (F := Ideal) (XA X0) (XA X1) (XA X3) =
    fun i => ((gv2 (dgt lamR) (bk (rq X0)) (bk (rk X1)) (bk (rv X3)) (i 1) (i 0) (i 2) (i 3) : ℝ) : EReal) := by
  funext i
  pointwise [val_main_v284]
  rw [val_main_v283_apply]
  pointwise [v279_real, v202_real]
  simp only [mul_coe, sum_coe, add_coe]
  rfl

theorem v308_real : val_main_v308 (F := Ideal) (XA X0) (XA X1) (XA X3) =
    fun i => ((gv2 (dge lam) (rq X0) (rk X1) (rv X3) (i 1) (i 0) (i 2) (i 3) : ℝ) : EReal) := by
  funext i
  pointwise [val_main_v308]
  rw [val_main_v307_apply]
  pointwise [v303_real, v156_real]
  simp only [mul_coe, sum_coe, add_coe]
  rfl

theorem v287_real : val_main_v287 (F := Ideal) (XA X2) (XA X3) =
    fun i => ((dsc (dgt lamR) (bk (rv X2)) (bk (rv X3)) (i 1) (i 0) (i 2) (i 3) : ℝ) : EReal) := by
  funext i
  pointwise [val_main_v287, val_main_v286, val_main_v200, v191_real]
  rw [val_main_v285_apply]
  pointwise [v279_real, v173_real]
  simp only [mul_coe, sum_coe, add_coe]
  rfl

theorem v311_real : val_main_v311 (F := Ideal) (XA X2) (XA X3) =
    fun i => ((dsc (dge lam) (rv X2) (rv X3) (i 1) (i 0) (i 2) (i 3) : ℝ) : EReal) := by
  funext i
  pointwise [val_main_v311, val_main_v310, val_main_v154, v145_real]
  rw [val_main_v309_apply]
  pointwise [v303_real, v127_real]
  simp only [mul_coe, sum_coe, add_coe]
  rfl

theorem v288_real : val_main_v288 (F := Ideal) (XA X0) (XA X2) (XA X3) =
    fun i => ((gk2 (dgt lamR) (bk (rq X0)) (bk (rv X2)) (bk (rv X3)) (i 1) (i 0) (i 2) (i 3) : ℝ) : EReal) := by
  funext i
  rw [val_main_v288_apply]
  pointwise [v287_real, v167_real]
  simp only [mul_coe, sum_coe, add_coe]
  rfl

theorem v312_real : val_main_v312 (F := Ideal) (XA X0) (XA X2) (XA X3) =
    fun i => ((gk2 (dge lam) (rq X0) (rv X2) (rv X3) (i 1) (i 0) (i 2) (i 3) : ℝ) : EReal) := by
  funext i
  rw [val_main_v312_apply]
  pointwise [v311_real, v123_real]
  simp only [mul_coe, sum_coe, add_coe]
  rfl

theorem v290_real : val_main_v290 (F := Ideal) (XA X1) (XA X2) (XA X3) =
    fun i => ((gq (dgt lamR) (xi lamR) (bk (rk X1)) (bk (rv X2)) (bk (rv X3)) (state lamR (bk (rk X1)) (bk (rv X2))) (i 1) (i 0) (i 2) (i 3) : ℝ) : EReal) := by
  funext i
  pointwise [val_main_v290, v282_real]
  rw [val_main_v289_apply]
  pointwise [v287_real, v170_real]
  simp only [mul_coe, sum_coe, add_coe]
  rfl

theorem v314_real : val_main_v314 (F := Ideal) (XA X1) (XA X2) (XA X3) =
    fun i => ((gq (dge lam) (xi lam) (rk X1) (rv X2) (rv X3) (state lam (rk X1) (rv X2)) (i 1) (i 0) (i 2) (i 3) : ℝ) : EReal) := by
  funext i
  pointwise [val_main_v314, v306_real]
  rw [val_main_v313_apply]
  pointwise [v311_real, v125_real]
  simp only [mul_coe, sum_coe, add_coe]
  rfl

/-! ## The gradients by position -/

/-- The gradients of queries, keys and values at a position. -/
def gQ (s : Fin 8192) (h : Fin 4) (d : Fin 128) : ℝ :=
  un (gq (dgt lamR) (xi lamR) (bk (rk X1)) (bk (rv X2)) (bk (rv X3)) (state lamR (bk (rk X1)) (bk (rv X2)))) s.rev h d
    + un (gq (dge lam) (xi lam) (rk X1) (rv X2) (rv X3) (state lam (rk X1) (rv X2))) s h d
def gK (s : Fin 8192) (h : Fin 4) (d : Fin 128) : ℝ :=
  un (gk1 (zt lamR) (bk (rv X2)) G5) s.rev h d + un (gk1 (zt lam) (rv X2) G4) s h d
    + un (gk2 (dgt lamR) (bk (rq X0)) (bk (rv X2)) (bk (rv X3))) s.rev h d + un (gk2 (dge lam) (rq X0) (rv X2) (rv X3)) s h d
def gV (s : Fin 8192) (h : Fin 4) (d : Fin 128) : ℝ :=
  un (gv1 (zt lamR) (bk (rk X1)) G5) s.rev h d + un (gv1 (zt lam) (rk X1) G4) s h d
    + un (gv2 (dgt lamR) (bk (rq X0)) (bk (rk X1)) (bk (rv X3))) s.rev h d + un (gv2 (dge lam) (rq X0) (rk X1) (rv X3)) s h d

theorem v323_real : val_main_v323 (F := Ideal) (XA X1) (XA X2) (XA X3) = fun i => ((gQ X1 X2 X3 (i 0) (i 1) (i 2) : ℝ) : EReal) := by
  funext i
  pointwise [val_main_v323, val_main_v322, val_main_v321, val_main_v301, val_main_v300, val_main_v299, v290_real, v314_real]
  simp only [add_coe]
  rfl

theorem v320_real : val_main_v320 (F := Ideal) (XA X0) (XA X2) (XA X3) (XS G4) (XS G5) =
    fun i => ((gK X0 X2 X3 G4 G5 (i 0) (i 1) (i 2) : ℝ) : EReal) := by
  funext i
  pointwise [val_main_v320, val_main_v319, val_main_v318, val_main_v298, val_main_v297, val_main_v296, val_main_v295, val_main_v276, val_main_v275,
    val_main_v274, val_main_v264, val_main_v263, val_main_v262, v258_real, v270_real, v288_real, v312_real]
  simp only [add_coe]
  rfl

theorem v317_real : val_main_v317 (F := Ideal) (XA X0) (XA X1) (XA X3) (XS G4) (XS G5) =
    fun i => ((gV X0 X1 X3 G4 G5 (i 0) (i 1) (i 2) : ℝ) : EReal) := by
  funext i
  pointwise [val_main_v317, val_main_v316, val_main_v315, val_main_v294, val_main_v293, val_main_v292, val_main_v291, val_main_v273, val_main_v272,
    val_main_v271, val_main_v261, val_main_v260, val_main_v259, v254_real, v266_real, v284_real, v308_real]
  simp only [add_coe]
  rfl

/-- The gradients of the arguments, by column. -/
def oQ (s : Fin 8192) (k : Fin 512) : ℝ := rotT (gQ X1 X2 X3 s (hh k)) (cs s) (sn s) (hd k)
def oK (s : Fin 8192) (k : Fin 512) : ℝ := rotT (fun d => gK X0 X2 X3 G4 G5 s (hh k) d * scale) (cs s) (sn s) (hd k)
def oV (s : Fin 8192) (k : Fin 512) : ℝ := gV X0 X1 X3 G4 G5 s (hh k) (hd k)

theorem v356_real : val_main_v356 (F := Ideal) (XA X1) (XA X2) (XA X3) = fun i => ((oQ X1 X2 X3 (i 0) (i 1) : ℝ) : EReal) := by
  funext i
  pointwise [val_main_v342, val_main_v343, val_main_v344, val_main_v345, val_main_v346, val_main_v347, val_main_v348, val_main_v349, val_main_v350,
    val_main_v351, val_main_v352, val_main_v353, val_main_v354, val_main_v355, val_main_v356, val_main_v13, val_main_v15, v12_real, v14_real, v323_real]
  simp only [neg_coe, mul_coe, add_coe]
  show _ = ((rotT (gQ X1 X2 X3 (i 0) (hh (i 1))) (cs (i 0)) (sn (i 0)) (hd (i 1)) : ℝ) : EReal)
  split <;> rename_i h
  · exact congrArg Real.toEReal (rotT_lo (gQ X1 X2 X3 (i 0) (hh (i 1))) (cs (i 0)) (sn (i 0)) (i 1) h).symm
  · exact congrArg Real.toEReal (rotT_hi (gQ X1 X2 X3 (i 0) (hh (i 1))) (cs (i 0)) (sn (i 0)) (i 1) h).symm

theorem v341_real : val_main_v341 (F := Ideal) (XA X0) (XA X2) (XA X3) (XS G4) (XS G5) =
    fun i => ((oK X0 X2 X3 G4 G5 (i 0) (i 1) : ℝ) : EReal) := by
  funext i
  pointwise [val_main_cst_27, val_main_v325, val_main_v326, val_main_v327, val_main_v328, val_main_v329, val_main_v330, val_main_v331, val_main_v332, val_main_v333, val_main_v334, val_main_v335,
    val_main_v336, val_main_v337, val_main_v338, val_main_v339, val_main_v340, val_main_v341, val_main_v13, val_main_v15, v12_real, v14_real, v320_real]
  simp only [Ideal.ofBits_def, bits_scale, neg_coe, mul_coe, add_coe]
  show _ = ((rotT (fun d => gK X0 X2 X3 G4 G5 (i 0) (hh (i 1)) d * scale) (cs (i 0)) (sn (i 0)) (hd (i 1)) : ℝ) : EReal)
  split <;> rename_i h
  · exact congrArg Real.toEReal (rotT_lo (fun d => gK X0 X2 X3 G4 G5 (i 0) (hh (i 1)) d * scale) (cs (i 0)) (sn (i 0)) (i 1) h).symm
  · exact congrArg Real.toEReal (rotT_hi (fun d => gK X0 X2 X3 G4 G5 (i 0) (hh (i 1)) d * scale) (cs (i 0)) (sn (i 0)) (i 1) h).symm

theorem v324_real : val_main_v324 (F := Ideal) (XA X0) (XA X1) (XA X3) (XS G4) (XS G5) =
    fun i => ((oV X0 X1 X3 G4 G5 (i 0) (i 1) : ℝ) : EReal) := by
  funext i
  pointwise [val_main_v324, v317_real]
  rfl

/-- The result, by column: the three gradients side by side. -/
def oA (s : Fin 8192) (j : Fin 1536) : ℝ :=
  if h : j.val < 512 then oQ X1 X2 X3 s ⟨j.val, h⟩
  else if h' : j.val < 1024 then oK X0 X2 X3 G4 G5 s ⟨j.val - 512, by omega⟩
  else oV X0 X1 X3 G4 G5 s ⟨j.val - 1024, by omega⟩

theorem v358_real : val_main_v358 (F := Ideal) (XA X0) (XA X1) (XA X2) (XA X3) (XS G4) (XS G5) =
    fun i => ((oA X0 X1 X2 X3 G4 G5 (i 0) (i 1) : ℝ) : EReal) := by
  funext i
  pointwise [val_main_v358, val_main_v357, v356_real, v341_real, v324_real]
  show _ = ((oA X0 X1 X2 X3 G4 G5 (i 0) (i 1) : ℝ) : EReal)
  unfold oA
  split
  · rfl
  · split <;> rename_i h h'
    · rw [dif_pos (show (i 1).val < 1024 by omega)]
    · rw [dif_neg (show ¬(i 1).val < 1024 by omega)]
      exact congrArg (fun k => ((oV X0 X1 X3 G4 G5 (i 0) k : ℝ) : EReal)) (Fin.ext (Nat.sub_sub _ 512 512))

end Cert.RetMainRefIdeal.Val
-- ==== Proof.RetHost.lean ====
module

public import proofs.«01_k».proof.Proof.RetTiles
public import proofs.«01_k».proof.Proof.RetMainRef
public import Idealize.ShloMosaic.Lib.StableHlo.RunRead

@[expose] public section

/-! # The arrays the host hands to the retention's kernel -/

set_option maxRecDepth 16384

noncomputable section

open Idealize.ShloMosaic Idealize.ShloMosaic.TcCoe Idealize.SL.Sem

namespace Cert.RetMainIdeal.Val

open Cert.RetMainIdeal Cert.RetMainIdeal.Gen Cert.Lift Cert.GmReal Cert.RetReal

variable (m : (ℓ : Loc nD τ sig) → Buf (Elt Ideal) ℓ) (c : Dev nD)

/-! ## The decays -/

/-- The decay between two positions of a chunk in the backward direction, by the positions of the forward one. -/
def dlt (L : Fin 4 → ℝ) (h : Fin 4) (c m : Fin 128) : ℝ :=
  if (c.val - m.val : ℝ) < 0 then Real.exp (L h * (if (c.val - m.val : ℝ) < 0 then -(c.val - m.val : ℝ) else 0)) else 0
def dmR (h : Fin 4) (c m : Fin 128) : ℝ := dge lam h c m + dlt lamR h c m
def xbR (h : Fin 4) (c : Fin 128) : ℝ := Real.exp (lamR h * (128 - c.val))
def zbR (h : Fin 4) (c : Fin 128) : ℝ := Real.exp (lamR h * c.val)

theorem zero_at (j : S_.Idx) : constant (F := Ideal) S_ .f32 0x00000000#32 j = ((0 : ℝ) : EReal) :=
  Ideal.ofBits_zero_f32.trans EReal.coe_zero.symm

/-- A position is its chunk's start and its place in the chunk. -/
theorem split128 (n : ℕ) (f : ℝ) : ((n / 128 : ℕ) : ℝ) * 128 * f + ((n % 128 : ℕ) : ℝ) * f = (n : ℝ) * f := by
  have h : ((128 * (n / 128) + n % 128 : ℕ) : ℝ) = (n : ℝ) := by rw [Nat.div_add_mod]
  push_cast at h
  rw [← h]; ring

theorem of_cst_7 (h₁ h₂ h₃) (v : (⟨S_, .f32⟩ : BufTy).Contents (Elt Ideal)) : StableHlo.TRef.ofBuf (T := ⟨S_, .f32⟩) (.of main_cst_7 h₁ h₂ h₃) v = v := rfl
theorem of_v70 (h₁ h₂ h₃) (v : (⟨S128x128, .i1⟩ : BufTy).Contents (Elt Ideal)) : StableHlo.TRef.ofBuf (T := ⟨S128x128, .i1⟩) (.of main_v70 h₁ h₂ h₃) v = v := rfl
theorem of_v65 (h₁ h₂ h₃) (v : (⟨S128x128, .f32⟩ : BufTy).Contents (Elt Ideal)) : StableHlo.TRef.ofBuf (T := ⟨S128x128, .f32⟩) (.of main_v65 h₁ h₂ h₃) v = v := rfl
theorem to_v71 (h₁ h₂ h₃) (v : (⟨S128x128, .f32⟩ : BufTy).Contents (Elt Ideal)) : StableHlo.TRef.toBuf (T := ⟨S128x128, .f32⟩) (.of main_v71 h₁ h₂ h₃) v = v := rfl
theorem of_cst_8 (h₁ h₂ h₃) (v : (⟨S_, .f32⟩ : BufTy).Contents (Elt Ideal)) : StableHlo.TRef.ofBuf (T := ⟨S_, .f32⟩) (.of main_cst_8 h₁ h₂ h₃) v = v := rfl
theorem of_v67 (h₁ h₂ h₃) (v : (⟨S128x128, .i1⟩ : BufTy).Contents (Elt Ideal)) : StableHlo.TRef.ofBuf (T := ⟨S128x128, .i1⟩) (.of main_v67 h₁ h₂ h₃) v = v := rfl
theorem of_v76 (h₁ h₂ h₃) (v : (⟨S4x128x128, .f32⟩ : BufTy).Contents (Elt Ideal)) : StableHlo.TRef.ofBuf (T := ⟨S4x128x128, .f32⟩) (.of main_v76 h₁ h₂ h₃) v = v := rfl
theorem to_v77 (h₁ h₂ h₃) (v : (⟨S4x128x128, .f32⟩ : BufTy).Contents (Elt Ideal)) : StableHlo.TRef.toBuf (T := ⟨S4x128x128, .f32⟩) (.of main_v77 h₁ h₂ h₃) v = v := rfl
theorem of_cst_11 (h₁ h₂ h₃) (v : (⟨S_, .f32⟩ : BufTy).Contents (Elt Ideal)) : StableHlo.TRef.ofBuf (T := ⟨S_, .f32⟩) (.of main_cst_11 h₁ h₂ h₃) v = v := rfl
theorem of_v82 (h₁ h₂ h₃) (v : (⟨S128x128, .i1⟩ : BufTy).Contents (Elt Ideal)) : StableHlo.TRef.ofBuf (T := ⟨S128x128, .i1⟩) (.of main_v82 h₁ h₂ h₃) v = v := rfl
theorem of_v83 (h₁ h₂ h₃) (v : (⟨S128x128, .f32⟩ : BufTy).Contents (Elt Ideal)) : StableHlo.TRef.ofBuf (T := ⟨S128x128, .f32⟩) (.of main_v83 h₁ h₂ h₃) v = v := rfl
theorem to_v84 (h₁ h₂ h₃) (v : (⟨S128x128, .f32⟩ : BufTy).Contents (Elt Ideal)) : StableHlo.TRef.toBuf (T := ⟨S128x128, .f32⟩) (.of main_v84 h₁ h₂ h₃) v = v := rfl
theorem of_cst_12 (h₁ h₂ h₃) (v : (⟨S_, .f32⟩ : BufTy).Contents (Elt Ideal)) : StableHlo.TRef.ofBuf (T := ⟨S_, .f32⟩) (.of main_cst_12 h₁ h₂ h₃) v = v := rfl
theorem of_v79 (h₁ h₂ h₃) (v : (⟨S128x128, .i1⟩ : BufTy).Contents (Elt Ideal)) : StableHlo.TRef.ofBuf (T := ⟨S128x128, .i1⟩) (.of main_v79 h₁ h₂ h₃) v = v := rfl
theorem of_v89 (h₁ h₂ h₃) (v : (⟨S4x128x128, .f32⟩ : BufTy).Contents (Elt Ideal)) : StableHlo.TRef.ofBuf (T := ⟨S4x128x128, .f32⟩) (.of main_v89 h₁ h₂ h₃) v = v := rfl
theorem to_v90 (h₁ h₂ h₃) (v : (⟨S4x128x128, .f32⟩ : BufTy).Contents (Elt Ideal)) : StableHlo.TRef.toBuf (T := ⟨S4x128x128, .f32⟩) (.of main_v90 h₁ h₂ h₃) v = v := rfl

theorem v102_read (i : S128x512.Idx) : V m c main_v102 i = ((xi lam (hh (i 1)) (i 0) : ℝ) : EReal) := by
  unfold V
  after_reads_simp
  have b0 : (i 0).val < 128 := (i 0).isLt
  have b1 : (i 1).val < 512 := (i 1).isLt
  pointwise
  simp (disch := omega) only [List.mem_singleton, if_true, Fin.val_rev, sitofp_coe]
  simp only [Ideal.ofBits_def, Ideal.ofBits_zero_f32, bits_neg5, bits_ln2, bits_one, one_coe, bits_128, bits_127, id_eq, zero_at, zero_coe, sub_coe, add_coe, mul_coe, neg_coe, exp_coe]
  refine (congrArg (fun z => Ideal.exp (z * _)) (log_coe _ (gam_pos (hh (i 1))))).trans ?_
  simp only [mul_coe, exp_coe]
  rfl

theorem v112_read (i : S128x512.Idx) : V m c main_v112 i = ((zt lam (hh (i 1)) (i 0) : ℝ) : EReal) := by
  unfold V
  after_reads_simp
  have b0 : (i 0).val < 128 := (i 0).isLt
  have b1 : (i 1).val < 512 := (i 1).isLt
  pointwise
  simp (disch := omega) only [List.mem_singleton, if_true, Fin.val_rev, sitofp_coe]
  simp only [Ideal.ofBits_def, Ideal.ofBits_zero_f32, bits_neg5, bits_ln2, bits_one, one_coe, bits_128, bits_127, id_eq, zero_at, zero_coe, sub_coe, add_coe, mul_coe, neg_coe, exp_coe]
  refine (congrArg (fun z => Ideal.exp (z * _)) (log_coe _ (gam_pos (hh (i 1))))).trans ?_
  simp only [mul_coe, exp_coe]
  rfl

theorem v122_read (i : S128x512.Idx) : V m c main_v122 i = ((xbR (hh (i 1)) (i 0) : ℝ) : EReal) := by
  unfold V
  after_reads_simp
  have b0 : (i 0).val < 128 := (i 0).isLt
  have b1 : (i 1).val < 512 := (i 1).isLt
  pointwise
  simp (disch := omega) only [List.mem_singleton, if_true, Fin.val_rev, sitofp_coe]
  simp only [Ideal.ofBits_def, Ideal.ofBits_zero_f32, bits_neg5, bits_ln2, bits_one, one_coe, bits_128, bits_127, id_eq, zero_at, zero_coe, sub_coe, add_coe, mul_coe, neg_coe, exp_coe]
  refine (congrArg (fun z => Ideal.exp (z * _)) (log_coe _ (gam_pos ((hh (i 1)).rev)))).trans ?_
  simp only [mul_coe, exp_coe]
  rfl

theorem v130_read (i : S128x512.Idx) : V m c main_v130 i = ((zbR (hh (i 1)) (i 0) : ℝ) : EReal) := by
  unfold V
  after_reads_simp
  have b0 : (i 0).val < 128 := (i 0).isLt
  have b1 : (i 1).val < 512 := (i 1).isLt
  pointwise
  simp (disch := omega) only [List.mem_singleton, if_true, Fin.val_rev, sitofp_coe]
  simp only [Ideal.ofBits_def, Ideal.ofBits_zero_f32, bits_neg5, bits_ln2, bits_one, one_coe, bits_128, bits_127, id_eq, zero_at, zero_coe, sub_coe, add_coe, mul_coe, neg_coe, exp_coe]
  refine (congrArg (fun z => Ideal.exp (z * _)) (log_coe _ (gam_pos ((hh (i 1)).rev)))).trans ?_
  simp only [mul_coe, exp_coe]
  rfl

theorem v91_read (i : S4x128x128.Idx) : V m c main_v91 i = ((dmR (i 0) (i 1) (i 2) : ℝ) : EReal) := by
  unfold V
  after_reads_simp
  have b0 : (i 0).val < 4 := (i 0).isLt
  have b1 : (i 1).val < 128 := (i 1).isLt
  have b2 : (i 2).val < 128 := (i 2).isLt
  simp only [StableHlo.TRef.ofBuf_toBuf, of_cst_7, of_v70, of_v65, to_v71, of_cst_8, of_v67, of_v76, to_v77, of_cst_11, of_v82, of_v83, to_v84, of_cst_12, of_v79, of_v89, to_v90]
  pointwise
  simp only [List.mem_singleton, reduceIte]
  have b3 : (Fin.rev (i 0)).val < 4 := (Fin.rev (i 0)).isLt
  have g0 : Ideal.log ((1 - Real.exp (1453635 / 2097152 * (-5 - ((i 0).val : ℝ))) : ℝ) : EReal) = ((lam (i 0) : ℝ) : EReal) := log_coe _ (gam_pos (i 0))
  have g1 : Ideal.log ((1 - Real.exp (1453635 / 2097152 * (-5 - ((Fin.rev (i 0)).val : ℝ))) : ℝ) : EReal) = ((lam (Fin.rev (i 0)) : ℝ) : EReal) := log_coe _ (gam_pos (Fin.rev (i 0)))
  have e3 : FloatOps.sitofp (F := Ideal) FTy.f32 (BitVec.ofNat 32 (Fin.rev (i 0)).val) = (((Fin.rev (i 0)).val : ℝ) : EReal) := sitofp_coe _ (by omega)
  simp (disch := omega) only [sitofp_coe]
  try simp only [e3]
  simp only [g0, ite_coe, EReal.coe_le_coe_iff, EReal.coe_lt_coe_iff, Ideal.ofBits_def, Ideal.ofBits_zero_f32, bits_neg5, bits_ln2, bits_one, one_coe, bits_128, bits_127, id_eq, zero_at, zero_coe, sub_coe, add_coe, mul_coe, neg_coe, exp_coe]
  erw [g1]
  simp only [ite_coe, Ideal.ofBits_def, Ideal.ofBits_zero_f32, bits_neg5, bits_ln2, bits_one, one_coe, bits_128, bits_127, id_eq, zero_at, zero_coe, sub_coe, add_coe, mul_coe, neg_coe, exp_coe]
  rfl

theorem v92_read (i : S4x128x128.Idx) : V m c main_v92 i = ((dmR (i 0) (i 2) (i 1) : ℝ) : EReal) := by
  unfold V
  after_reads_simp
  have b0 : (i 0).val < 4 := (i 0).isLt
  have b1 : (i 1).val < 128 := (i 1).isLt
  have b2 : (i 2).val < 128 := (i 2).isLt
  simp only [StableHlo.TRef.ofBuf_toBuf, of_cst_7, of_v70, of_v65, to_v71, of_cst_8, of_v67, of_v76, to_v77, of_cst_11, of_v82, of_v83, to_v84, of_cst_12, of_v79, of_v89, to_v90]
  pointwise
  simp only [List.mem_singleton, reduceIte]
  have b3 : (Fin.rev (i 0)).val < 4 := (Fin.rev (i 0)).isLt
  have g0 : Ideal.log ((1 - Real.exp (1453635 / 2097152 * (-5 - ((i 0).val : ℝ))) : ℝ) : EReal) = ((lam (i 0) : ℝ) : EReal) := log_coe _ (gam_pos (i 0))
  have g1 : Ideal.log ((1 - Real.exp (1453635 / 2097152 * (-5 - ((Fin.rev (i 0)).val : ℝ))) : ℝ) : EReal) = ((lam (Fin.rev (i 0)) : ℝ) : EReal) := log_coe _ (gam_pos (Fin.rev (i 0)))
  have e3 : FloatOps.sitofp (F := Ideal) FTy.f32 (BitVec.ofNat 32 (Fin.rev (i 0)).val) = (((Fin.rev (i 0)).val : ℝ) : EReal) := sitofp_coe _ (by omega)
  simp (disch := omega) only [sitofp_coe]
  try simp only [e3]
  simp only [g0, ite_coe, EReal.coe_le_coe_iff, EReal.coe_lt_coe_iff, Ideal.ofBits_def, Ideal.ofBits_zero_f32, bits_neg5, bits_ln2, bits_one, one_coe, bits_128, bits_127, id_eq, zero_at, zero_coe, sub_coe, add_coe, mul_coe, neg_coe, exp_coe]
  erw [g1]
  simp only [ite_coe, Ideal.ofBits_def, Ideal.ofBits_zero_f32, bits_neg5, bits_ln2, bits_one, one_coe, bits_128, bits_127, id_eq, zero_at, zero_coe, sub_coe, add_coe, mul_coe, neg_coe, exp_coe]
  rfl

theorem v44_read (i : S8192x128.Idx) : V m c main_v44 i = ((cs (i 0) ⟨(i 1).val % 64, Nat.mod_lt _ (by decide)⟩ : ℝ) : EReal) := by
  unfold V
  after_reads_simp
  have b0 : (i 0).val < 8192 := (i 0).isLt
  have b1 : (i 1).val < 128 := (i 1).isLt
  pointwise
  simp (disch := omega) only [List.mem_singleton, if_true, Fin.val_rev, sitofp_coe]
  simp (disch := norm_num) only [Ideal.ofBits_def, bits_64, bits_1e4, bits_128, neg_coe, div_coe, pow_coe, mul_coe, add_coe, sub_coe, cos_coe, sin_coe]
  by_cases h : (i 1).val < 64
  · have e : (⟨(i 1).val % 64, Nat.mod_lt _ (by decide)⟩ : Fin 64) = ⟨(i 1).val, h⟩ := Fin.ext (Nat.mod_eq_of_lt h)
    rw [e, dif_pos h, ← Real.cos_add, split128]
    rfl
  · have e : (⟨(i 1).val % 64, Nat.mod_lt _ (by decide)⟩ : Fin 64) = ⟨(i 1).val - 64, by omega⟩ := Fin.ext (by show (i 1).val % 64 = (i 1).val - 64; omega)
    rw [e, dif_neg h, ← Real.cos_add, split128]
    rfl

theorem v46_read (i : S8192x128.Idx) : V m c main_v46 i = ((if (i 1).val < 64 then -sn (i 0) ⟨(i 1).val % 64, Nat.mod_lt _ (by decide)⟩ else sn (i 0) ⟨(i 1).val % 64, Nat.mod_lt _ (by decide)⟩ : ℝ) : EReal) := by
  unfold V
  after_reads_simp
  have b0 : (i 0).val < 8192 := (i 0).isLt
  have b1 : (i 1).val < 128 := (i 1).isLt
  pointwise
  simp (disch := omega) only [List.mem_singleton, if_true, Fin.val_rev, sitofp_coe]
  simp (disch := norm_num) only [Ideal.ofBits_def, bits_64, bits_1e4, bits_128, neg_coe, div_coe, pow_coe, mul_coe, add_coe, sub_coe, cos_coe, sin_coe]
  by_cases h : (i 1).val < 64
  · have e : (⟨(i 1).val % 64, Nat.mod_lt _ (by decide)⟩ : Fin 64) = ⟨(i 1).val, h⟩ := Fin.ext (Nat.mod_eq_of_lt h)
    rw [e, dif_pos h, ← Real.sin_add, split128]
    exact congrArg Real.toEReal (if_pos h).symm
  · have e : (⟨(i 1).val % 64, Nat.mod_lt _ (by decide)⟩ : Fin 64) = ⟨(i 1).val - 64, by omega⟩ := Fin.ext (by show (i 1).val % 64 = (i 1).val - 64; omega)
    rw [e, dif_neg h, ← Real.sin_add, split128]
    exact congrArg Real.toEReal (if_neg h).symm

variable (X0 X1 X2 X3 : Fin 8192 → Fin 512 → ℝ) (G4 G5 : Fin 64 → Fin 4 → Fin 128 → Fin 128 → ℝ)

/-- Host arrays of states, head by head in the columns. -/
abbrev lay (S : FVec Ideal S64x4x128x128 .f32) : FVec Ideal S64x128x512 .bf16 :=
  truncf .bf16 (shapeCast S64x128x512 (transpose S64x128x4x128 [0, 2, 1, 3] S transposes_S64x4x128x128_S64x128x4x128_0_2_1_3) shapeCasts_S64x128x4x128_S64x128x512) bitsLt_bf16_f32

theorem v272_read (h1 : m ((c : Thread nD τ).loc main_arg1) = RetMainRefIdeal.Val.XA X1) (h2 : m ((c : Thread nD τ).loc main_arg2) = RetMainRefIdeal.Val.XA X2) (i : S64x128x512.Idx) :
    V m c main_v272 i = ((state lam (rk X1) (rv X2) (i 0) (hh (i 2)) (i 1) (hd (i 2)) : ℝ) : EReal) := by
  have e : (V m c main_v272 : FVec Ideal S64x128x512 .bf16) = lay (RetMainRefIdeal.Read.val_main_v87 (F := Ideal) (m ((c : Thread nD τ).loc main_arg1)) (m ((c : Thread nD τ).loc main_arg2))) := by
    unfold V
    after_reads_simp
    rfl
  rw [e, h1, h2, RetMainRefIdeal.Val.v87_real]
  pointwise
  rfl

theorem v276_read (h1 : m ((c : Thread nD τ).loc main_arg1) = RetMainRefIdeal.Val.XA X1) (h2 : m ((c : Thread nD τ).loc main_arg2) = RetMainRefIdeal.Val.XA X2) (i : S64x128x512.Idx) :
    V m c main_v276 i = ((state lamR (bk (rk X1)) (bk (rv X2)) (Fin.rev (i 0)) (hh (i 2)) (i 1) (hd (i 2)) : ℝ) : EReal) := by
  have e : (V m c main_v276 : FVec Ideal S64x128x512 .bf16) = lay (Host.reverse [0] (RetMainRefIdeal.Read.val_main_v121 (F := Ideal) (m ((c : Thread nD τ).loc main_arg1)) (m ((c : Thread nD τ).loc main_arg2)))) := by
    unfold V
    after_reads_simp
    rfl
  rw [e, h1, h2, RetMainRefIdeal.Val.v121_real]
  pointwise
  rfl

theorem v279_read (h : m ((c : Thread nD τ).loc main_arg4) = RetMainRefIdeal.Val.XS G4) (i : S64x128x512.Idx) :
    V m c main_v279 i = ((G4 (i 0) (hh (i 2)) (i 1) (hd (i 2)) : ℝ) : EReal) := by
  have e : (V m c main_v279 : FVec Ideal S64x128x512 .bf16) = lay (m ((c : Thread nD τ).loc main_arg4)) := by
    unfold V
    after_reads_simp
    rfl
  rw [e, h]
  pointwise
  rfl

theorem v283_read (h : m ((c : Thread nD τ).loc main_arg5) = RetMainRefIdeal.Val.XS G5) (i : S64x128x512.Idx) :
    V m c main_v283 i = ((G5 (Fin.rev (i 0)) (hh (i 2)) (i 1) (hd (i 2)) : ℝ) : EReal) := by
  have e : (V m c main_v283 : FVec Ideal S64x128x512 .bf16) = lay (Host.reverse [0] (m ((c : Thread nD τ).loc main_arg5) : FVec Ideal S64x4x128x128 .f32)) := by
    unfold V
    after_reads_simp
    rfl
  rw [e, h]
  pointwise
  rfl

abbrev half (X : FVec Ideal S8192x512 .f32) : FVec Ideal S8192x512 .bf16 := truncf .bf16 X bitsLt_bf16_f32
/-- Three arrays side by side. -/
abbrev beside (Q K : FVec Ideal S8192x4x128 .f32) (X : FVec Ideal S8192x512 .f32) : FVec Ideal S8192x1536 .bf16 :=
  truncf .bf16 (concatenate S8192x1536 1 [⟨S8192x512, shapeCast S8192x512 Q shapeCasts_S8192x4x128_S8192x512⟩, ⟨S8192x512, shapeCast S8192x512 K shapeCasts_S8192x4x128_S8192x512⟩, ⟨S8192x512, X⟩] concatenates_S8192x512_S8192x512_S8192x512_S8192x1536_d1) bitsLt_bf16_f32

theorem v269_read (h : m ((c : Thread nD τ).loc main_arg3) = RetMainRefIdeal.Val.XA X3) (i : S8192x512.Idx) :
    V m c main_v269 i = ((X3 (i 0) (i 1) : ℝ) : EReal) := by
  have e : (V m c main_v269 : FVec Ideal S8192x512 .bf16) = half (m ((c : Thread nD τ).loc main_arg3)) := by
    unfold V
    after_reads_simp
  rw [e, h]
  pointwise

/-- The queries, keys and values side by side. -/
def qkv (s : Fin 8192) (j : Fin 1536) : ℝ :=
  if h : j.val < 512 then rq X0 s (hh ⟨j.val, h⟩) (hd ⟨j.val, h⟩)
  else if h' : j.val < 1024 then rk X1 s (hh ⟨j.val - 512, by omega⟩) (hd ⟨j.val - 512, by omega⟩)
  else X2 s ⟨j.val - 1024, by omega⟩

theorem qkv_q (s : Fin 8192) (j : Fin 1536) (h : j.val < 512) : qkv X0 X1 X2 s j = rq X0 s (hh ⟨j.val, h⟩) (hd ⟨j.val, h⟩) := dif_pos h
theorem qkv_k (s : Fin 8192) (j : Fin 1536) (h : ¬j.val < 512) (h' : j.val < 1024) :
    qkv X0 X1 X2 s j = rk X1 s (hh ⟨j.val - 512, by omega⟩) (hd ⟨j.val - 512, by omega⟩) := (dif_neg h).trans (dif_pos h')
theorem qkv_v (s : Fin 8192) (j : Fin 1536) (h : ¬j.val < 512) (h' : ¬j.val < 1024) :
    qkv X0 X1 X2 s j = X2 s ⟨j.val - 1024, by omega⟩ := (dif_neg h).trans (dif_neg h')

theorem v268_read (h0 : m ((c : Thread nD τ).loc main_arg0) = RetMainRefIdeal.Val.XA X0) (h1 : m ((c : Thread nD τ).loc main_arg1) = RetMainRefIdeal.Val.XA X1) (h2 : m ((c : Thread nD τ).loc main_arg2) = RetMainRefIdeal.Val.XA X2) (i : S8192x1536.Idx) :
    V m c main_v268 i = ((qkv X0 X1 X2 (i 0) (i 1) : ℝ) : EReal) := by
  have e : (V m c main_v268 : FVec Ideal S8192x1536 .bf16) = beside (RetMainRefIdeal.Read.val_main_v38 (F := Ideal) (m ((c : Thread nD τ).loc main_arg0))) (RetMainRefIdeal.Read.val_main_v54 (F := Ideal) (m ((c : Thread nD τ).loc main_arg1))) (m ((c : Thread nD τ).loc main_arg2)) := by
    unfold V
    after_reads_simp
    rfl
  rw [e, h0, h1, h2, RetMainRefIdeal.Val.v38_real, RetMainRefIdeal.Val.v54_real]
  pointwise
  by_cases h : (i 1).val < 512
  · rw [dif_pos h]
    exact congrArg Real.toEReal (qkv_q X0 X1 X2 (i 0) (i 1) h).symm
  by_cases h' : (i 1).val - 512 < 512
  · rw [dif_neg h, dif_pos h']
    exact congrArg Real.toEReal (qkv_k X0 X1 X2 (i 0) (i 1) h (by omega)).symm
  · rw [dif_neg h, dif_neg h']
    refine congrArg Real.toEReal (Eq.trans (congrArg (X2 (i 0)) (Fin.ext ?_)) (qkv_v X0 X1 X2 (i 0) (i 1) h (by omega)).symm)
    show (i 1).val - 512 - 512 = (i 1).val - 1024
    omega

end Cert.RetMainIdeal.Val
-- ==== Proof.RetBlocks.lean ====
module

public import proofs.«01_k».proof.Proof.RetHost

@[expose] public section

/-! # What each point of the retention's kernel reads -/

set_option maxRecDepth 16384

noncomputable section

open Idealize.ShloMosaic Idealize.ShloMosaic.TcCoe Idealize.SL.Sem
open Idealize.ShloMosaic.Pipeline (Dat)

namespace Cert.RetMainIdeal.Val

open Cert.RetMainIdeal Cert.RetMainIdeal.Gen Cert.Lift Cert.GmReal Cert.RetReal

variable (m : (ℓ : Loc nD τ sig) → Buf (Elt Ideal) ℓ) (c : Dev nD)

theorem idx : ∀ t : Fin cfg0.N, win0_0.index t = ![t.val, 0] ∧ win0_1.index t = ![t.val, 1] ∧ win0_2.index t = ![t.val, 2]
    ∧ win0_3.index t = ![t.val, 0] ∧ win0_4.index t = ![t.val, 0, 0] ∧ win0_5.index t = ![t.val, 0, 0] ∧ win0_6.index t = ![t.val, 0, 0] ∧ win0_7.index t = ![t.val, 0, 0]
    ∧ win0_8.index t = ![0, 0, 0] ∧ win0_9.index t = ![0, 0, 0] ∧ win0_10.index t = ![0, 0] ∧ win0_11.index t = ![0, 0] ∧ win0_12.index t = ![0, 0] ∧ win0_13.index t = ![0, 0]
    ∧ win0_14.index t = ![t.val, 0] ∧ win0_15.index t = ![t.val, 0] ∧ win0_16.index t = ![t.val, 0] :=
  (by decide +kernel : ∀ t : Fin grid0.N, _)

/-- The row of the array that a point's block has at `r`, and the chunk that it has at `q`. -/
def row (t : Fin cfg0.N) (r : Fin 512) : Fin 8192 := ⟨t.val * 512 + r.val, by have h : t.val < 16 := lt_of_lt_of_eq t.isLt N_0; omega⟩
def ck (t : Fin cfg0.N) (q : Fin 4) : Fin 64 := ⟨t.val * 4 + q.val, by have h : t.val < 16 := lt_of_lt_of_eq t.isLt N_0; omega⟩

/-- The rotation's second table at a position. -/
def sn2 (s : Fin 8192) (d : Fin 128) : ℝ :=
  if d.val < 64 then -sn s ⟨d.val % 64, Nat.mod_lt _ (by decide)⟩ else sn s ⟨d.val % 64, Nat.mod_lt _ (by decide)⟩

variable (X0 X1 X2 X3 : Fin 8192 → Fin 512 → ℝ) (G4 G5 : Fin 64 → Fin 4 → Fin 128 → Fin 128 → ℝ)

/-- The blocks a point reads, of the arguments. -/
def blocks (t : Fin cfg0.N) : Blocks where
  q r k := rq X0 (row t r) (hh k) (hd k)
  k r k := rk X1 (row t r) (hh k) (hd k)
  v r k := X2 (row t r) k
  a r k := X3 (row t r) k
  sf q d k := state lam (rk X1) (rv X2) (ck t q) (hh k) d (hd k)
  sb q d k := state lamR (bk (rk X1)) (bk (rv X2)) (ck t q).rev (hh k) d (hd k)
  gf q d k := G4 (ck t q) (hh k) d (hd k)
  gb q d k := G5 (ck t q).rev (hh k) d (hd k)
  dm := dmR
  dmt h i j := dmR h j i
  xf r k := xi lam (hh k) r
  xb r k := xbR (hh k) r
  zf r k := zt lam (hh k) r
  zb r k := zbR (hh k) r
  co r d := cs (row t r) ⟨d.val % 64, Nat.mod_lt _ (by decide)⟩
  si r d := sn2 (row t r) d

/-- What the grid writes, by row and column. -/
def gr (s : Fin 8192) (j : Fin 1536) : ℝ :=
  wr (blocks X0 X1 X2 X3 G4 G5 (Fin.cast N_0.symm ⟨s.val / 512, by omega⟩)) ⟨s.val % 512, by omega⟩ j

theorem gr_row (p : Fin cfg0.N) (r : Fin 512) (j : Fin 1536) :
    gr X0 X1 X2 X3 G4 G5 (row p r) j = wr (blocks X0 X1 X2 X3 G4 G5 p) r j := by
  have h : p.val < 16 := lt_of_lt_of_eq p.isLt N_0
  have e : (Fin.cast N_0.symm ⟨(row p r).val / 512, by omega⟩ : Fin cfg0.N) = p := Fin.ext (by show (p.val * 512 + r.val) / 512 = p.val; omega)
  have e' : (⟨(row p r).val % 512, by omega⟩ : Fin 512) = r := Fin.ext (by show (p.val * 512 + r.val) % 512 = r.val; omega)
  rw [gr, e, e']

/-- Arrays of the six arguments on a device. -/
structure Args : Prop where
  h0 : m ((c : Thread nD τ).loc main_arg0) = RetMainRefIdeal.Val.XA X0
  h1 : m ((c : Thread nD τ).loc main_arg1) = RetMainRefIdeal.Val.XA X1
  h2 : m ((c : Thread nD τ).loc main_arg2) = RetMainRefIdeal.Val.XA X2
  h3 : m ((c : Thread nD τ).loc main_arg3) = RetMainRefIdeal.Val.XA X3
  h4 : m ((c : Thread nD τ).loc main_arg4) = RetMainRefIdeal.Val.XS G4
  h5 : m ((c : Thread nD τ).loc main_arg5) = RetMainRefIdeal.Val.XS G5

variable {m c X0 X1 X2 X3 G4 G5} (H : Args m c X0 X1 X2 X3 G4 G5) (p : Fin cfg0.N)

theorem at3 {n₀ n₁ n₂ : ℕ} (f : Fin n₀ → Fin n₁ → Fin n₂ → ℝ) {a a' : Fin n₀} {b b' : Fin n₁} {d d' : Fin n₂}
    (ha : a.val = a'.val) (hb : b.val = b'.val) (hd : d.val = d'.val) : ((f a b d : ℝ) : EReal) = ((f a' b' d' : ℝ) : EReal) := by
  rw [Fin.ext ha, Fin.ext hb, Fin.ext hd]
theorem at2 {n₀ n₁ : ℕ} (f : Fin n₀ → Fin n₁ → ℝ) {a a' : Fin n₀} {b b' : Fin n₁}
    (ha : a.val = a'.val) (hb : b.val = b'.val) : ((f a b : ℝ) : EReal) = ((f a' b' : ℝ) : EReal) := by
  rw [Fin.ext ha, Fin.ext hb]

include H

theorem blk0 : iblk m c 0 p = BX (blocks X0 X1 X2 X3 G4 G5 p).q := by
  funext y
  blk_simp [iblk, idx p]
  rw [v268_read m c X0 X1 X2 H.h0 H.h1 H.h2]
  have h : (y 1).val < 512 := (y 1).isLt
  refine (at2 (fun s k => qkv X0 X1 X2 s k) (a' := row p (y 0)) (b' := ⟨(y 1).val, by omega⟩) ?_ ?_).trans (congrArg Real.toEReal ?_)
  · blk_simp [idx p, row, ck]
  · blk_simp [idx p, row, ck]
  · exact qkv_q X0 X1 X2 _ _ h

theorem blk1 : iblk m c 1 p = BX (blocks X0 X1 X2 X3 G4 G5 p).k := by
  funext y
  blk_simp [iblk, idx p]
  rw [v268_read m c X0 X1 X2 H.h0 H.h1 H.h2]
  have h : (y 1).val < 512 := (y 1).isLt
  refine (at2 (fun s k => qkv X0 X1 X2 s k) (a' := row p (y 0)) (b' := ⟨512 + (y 1).val, by omega⟩) ?_ ?_).trans (congrArg Real.toEReal ?_)
  · blk_simp [idx p, row, ck]
  · blk_simp [idx p, row, ck]
  · refine (qkv_k X0 X1 X2 _ _ (by show ¬512 + (y 1).val < 512; omega) (by show 512 + (y 1).val < 1024; omega)).trans ?_
    simp only [Nat.add_sub_cancel_left]; rfl

theorem blk2 : iblk m c 2 p = BX (blocks X0 X1 X2 X3 G4 G5 p).v := by
  funext y
  blk_simp [iblk, idx p]
  rw [v268_read m c X0 X1 X2 H.h0 H.h1 H.h2]
  have h : (y 1).val < 512 := (y 1).isLt
  refine (at2 (fun s k => qkv X0 X1 X2 s k) (a' := row p (y 0)) (b' := ⟨1024 + (y 1).val, by omega⟩) ?_ ?_).trans (congrArg Real.toEReal ?_)
  · blk_simp [idx p, row, ck]
  · blk_simp [idx p, row, ck]
  · refine (qkv_v X0 X1 X2 _ _ (by show ¬1024 + (y 1).val < 512; omega) (by show ¬1024 + (y 1).val < 1024; omega)).trans ?_
    simp only [Nat.add_sub_cancel_left]; rfl

theorem blk3 : iblk m c 3 p = BX (blocks X0 X1 X2 X3 G4 G5 p).a := by
  funext y
  blk_simp [iblk, idx p]
  rw [v269_read m c X3 H.h3]
  refine at2 (fun s k => X3 s k) (a' := row p (y 0)) (b' := y 1) ?_ ?_ <;> blk_simp [idx p, row, ck]

theorem blk4 : iblk m c 4 p = BS (blocks X0 X1 X2 X3 G4 G5 p).sf := by
  funext y
  blk_simp [iblk, idx p]
  rw [v272_read m c X1 X2 H.h1 H.h2]
  refine at3 (fun q d k => state lam (rk X1) (rv X2) q (hh k) d (hd k)) (a' := ck p (y 0)) (b' := y 1) (d' := y 2) ?_ ?_ ?_ <;> blk_simp [idx p, row, ck]

theorem blk5 : iblk m c 5 p = BS (blocks X0 X1 X2 X3 G4 G5 p).sb := by
  funext y
  blk_simp [iblk, idx p]
  rw [v276_read m c X1 X2 H.h1 H.h2]
  refine at3 (fun q d k => state lamR (bk (rk X1)) (bk (rv X2)) (Fin.rev q) (hh k) d (hd k)) (a' := ck p (y 0)) (b' := y 1) (d' := y 2) ?_ ?_ ?_ <;> blk_simp [idx p, row, ck]

theorem blk6 : iblk m c 6 p = BS (blocks X0 X1 X2 X3 G4 G5 p).gf := by
  funext y
  blk_simp [iblk, idx p]
  rw [v279_read m c G4 H.h4]
  refine at3 (fun q d k => G4 q (hh k) d (hd k)) (a' := ck p (y 0)) (b' := y 1) (d' := y 2) ?_ ?_ ?_ <;> blk_simp [idx p, row, ck]

theorem blk7 : iblk m c 7 p = BS (blocks X0 X1 X2 X3 G4 G5 p).gb := by
  funext y
  blk_simp [iblk, idx p]
  rw [v283_read m c G5 H.h5]
  refine at3 (fun q d k => G5 (Fin.rev q) (hh k) d (hd k)) (a' := ck p (y 0)) (b' := y 1) (d' := y 2) ?_ ?_ ?_ <;> blk_simp [idx p, row, ck]

theorem blk8 : iblk m c 8 p = BD (blocks X0 X1 X2 X3 G4 G5 p).dm := by
  funext y
  blk_simp [iblk, idx p]
  rw [v91_read m c ]
  refine at3 (fun q d k => dmR q d k) (a' := y 0) (b' := y 1) (d' := y 2) ?_ ?_ ?_ <;> blk_simp [idx p, row, ck]

theorem blk9 : iblk m c 9 p = BD (blocks X0 X1 X2 X3 G4 G5 p).dmt := by
  funext y
  blk_simp [iblk, idx p]
  rw [v92_read m c ]
  refine at3 (fun q d k => dmR q k d) (a' := y 0) (b' := y 1) (d' := y 2) ?_ ?_ ?_ <;> blk_simp [idx p, row, ck]

theorem blk10 : iblk m c 10 p = BT (blocks X0 X1 X2 X3 G4 G5 p).xf := by
  funext y
  blk_simp [iblk, idx p]
  rw [v102_read m c ]
  refine at2 (fun s k => xi lam (hh k) s) (a' := y 0) (b' := y 1) ?_ ?_ <;> blk_simp [idx p, row, ck]

theorem blk11 : iblk m c 11 p = BT (blocks X0 X1 X2 X3 G4 G5 p).xb := by
  funext y
  blk_simp [iblk, idx p]
  rw [v122_read m c ]
  refine at2 (fun s k => xbR (hh k) s) (a' := y 0) (b' := y 1) ?_ ?_ <;> blk_simp [idx p, row, ck]

theorem blk12 : iblk m c 12 p = BT (blocks X0 X1 X2 X3 G4 G5 p).zf := by
  funext y
  blk_simp [iblk, idx p]
  rw [v112_read m c ]
  refine at2 (fun s k => zt lam (hh k) s) (a' := y 0) (b' := y 1) ?_ ?_ <;> blk_simp [idx p, row, ck]

theorem blk13 : iblk m c 13 p = BT (blocks X0 X1 X2 X3 G4 G5 p).zb := by
  funext y
  blk_simp [iblk, idx p]
  rw [v130_read m c ]
  refine at2 (fun s k => zbR (hh k) s) (a' := y 0) (b' := y 1) ?_ ?_ <;> blk_simp [idx p, row, ck]

theorem blk14 : iblk m c 14 p = BC (blocks X0 X1 X2 X3 G4 G5 p).co := by
  funext y
  blk_simp [iblk, idx p]
  rw [v44_read m c ]
  refine at2 (fun s k => cs s ⟨k.val % 64, Nat.mod_lt _ (by decide)⟩) (a' := row p (y 0)) (b' := y 1) ?_ ?_ <;> blk_simp [idx p, row, ck]

theorem blk15 : iblk m c 15 p = BC (blocks X0 X1 X2 X3 G4 G5 p).si := by
  funext y
  blk_simp [iblk, idx p]
  rw [v46_read m c ]
  refine at2 (fun s k => sn2 s k) (a' := row p (y 0)) (b' := y 1) ?_ ?_ <;> blk_simp [idx p, row, ck]

/-- The array of the gradients after the whole grid: every block is some point's. -/
theorem final16 : (dats m 0 c).arrAt 16 cfg0.N = fun i : S8192x1536.Idx => ((gr X0 X1 X2 X3 G4 G5 (i 0) (i 1) : ℝ) : EReal) := by
  refine (dats m 0 c).arrAt_eq_of_covers 16 _ (by decide +kernel) fun p hf y => ?_
  blk_simp
  rw [after0_16, blk0 H, blk1 H, blk2 H, blk3 H, blk4 H, blk5 H, blk6 H, blk7 H, blk8 H, blk9 H, blk10 H, blk11 H, blk12 H, blk13 H, blk14 H, blk15 H]
  refine (out_real (blocks X0 X1 X2 X3 G4 G5 p) y).trans ?_
  refine (congrArg Real.toEReal (gr_row X0 X1 X2 X3 G4 G5 p (y 0) (y 1))).symm.trans ?_
  refine at2 (gr X0 X1 X2 X3 G4 G5) (a := row p (y 0)) (b := y 1) ?_ ?_ <;> blk_simp [idx p, row]

end Cert.RetMainIdeal.Val
-- ==== Proof.RetMatch.lean ====
module

public import proofs.«01_k».proof.Proof.RetBlocks

@[expose] public section

/-! # The kernel's gradients of retention are the reference's, over the real numbers -/

set_option maxRecDepth 16384

noncomputable section

namespace Cert.RetMainIdeal.Val

open Cert.RetMainIdeal Cert.RetMainIdeal.Gen Cert.Lift Cert.GmReal Cert.RetReal

/-! ## Positions in reverse -/

theorem cr_rev (n : Fin 64) (m : Fin 128) : (cr n m).rev = cr n.rev m.rev := by
  refine Fin.ext ?_
  show 8192 - (n.val * 128 + m.val + 1) = (64 - (n.val + 1)) * 128 + (128 - (m.val + 1))
  omega
theorem cof_rev (s : Fin 8192) : cof s.rev = (cof s).rev := by
  refine Fin.ext ?_
  show (8192 - (s.val + 1)) / 128 = 64 - (s.val / 128 + 1)
  omega
theorem rof_rev (s : Fin 8192) : rof s.rev = (rof s).rev := by
  refine Fin.ext ?_
  show (8192 - (s.val + 1)) % 128 = 128 - (s.val % 128 + 1)
  omega
theorem bk_cr (X : Fin 8192 → Fin 4 → Fin 128 → ℝ) (n : Fin 64) (m : Fin 128) : bk X (cr n.rev m) = X (cr n m.rev) := by
  show X (cr n.rev m).rev = _
  rw [cr_rev, Fin.rev_rev]
theorem sum_rev (f : Fin 128 → ℝ) : ∑ m, f m = ∑ m, f (Fin.rev m) := (Equiv.sum_comp Fin.revPerm f).symm

theorem rev_cast (r : Fin 128) : ((Fin.rev r).val : ℝ) = 127 - r.val := by
  have h : (Fin.rev r).val + r.val = 127 := by rw [Fin.val_rev]; omega
  have h' : ((Fin.rev r).val : ℝ) + r.val = 127 := by exact_mod_cast h
  linarith
theorem xi_rev (h : Fin 4) (r : Fin 128) : xi lamR h r.rev = xbR h r := by
  rw [xi, xbR, rev_cast]; congr 2; ring
theorem zt_rev (h : Fin 4) (r : Fin 128) : zt lamR h r.rev = zbR h r := by
  rw [zt, zbR, rev_cast]; congr 2; ring
theorem dgt_rev (h : Fin 4) (r m : Fin 128) : dgt lamR h r.rev m.rev = dlt lamR h r m := by
  rw [dgt, dlt, rev_cast, rev_cast]
  have e : (127 - (r.val : ℝ) - (127 - m.val)) = -(r.val - m.val) := by ring
  rw [e]
  by_cases p : ((r.val : ℝ) - m.val) < 0
  · rw [if_pos p, if_pos p, if_pos (by linarith), if_pos (by linarith)]
  · rw [if_neg p, if_neg (by linarith)]

section

variable (Q K V A : Fin 8192 → Fin 4 → Fin 128 → ℝ) (S G : Fin 64 → Fin 4 → Fin 128 → Fin 128 → ℝ) (n : Fin 64) (h : Fin 4) (r d : Fin 128)

theorem gq_rev : gq (dgt lamR) (xi lamR) (bk K) (bk V) (bk A) S n.rev h r.rev d
    = (∑ e, A (cr n r) h e * S n.rev h d e) * xbR h r + ∑ m, (∑ e, A (cr n r) h e * V (cr n m) h e) * dlt lamR h r m * K (cr n m) h d := by
  refine congrArg₂ (· + ·) ?_ ((sum_rev _).trans ?_) <;> simp only [dsc, bk_cr, Fin.rev_rev, xi_rev, dgt_rev]
theorem gk1_rev : gk1 (zt lamR) (bk V) G n.rev h r.rev d = (∑ e, G n.rev h d e * V (cr n r) h e) * zbR h r := by
  simp only [gk1, bk_cr, Fin.rev_rev, zt_rev]
theorem gk2_rev : gk2 (dgt lamR) (bk Q) (bk V) (bk A) n.rev h r.rev d = ∑ c, (∑ e, A (cr n c) h e * V (cr n r) h e) * dlt lamR h c r * Q (cr n c) h d := by
  refine (sum_rev _).trans ?_
  simp only [dsc, bk_cr, Fin.rev_rev, dgt_rev]
theorem gv1_rev : gv1 (zt lamR) (bk K) G n.rev h r.rev d = ∑ e, G n.rev h e d * (K (cr n r) h e * zbR h r) := by
  simp only [gv1, bk_cr, Fin.rev_rev, zt_rev]
theorem gv2_rev : gv2 (dgt lamR) (bk Q) (bk K) (bk A) n.rev h r.rev d = ∑ c, A (cr n c) h d * ((∑ e, Q (cr n c) h e * K (cr n r) h e) * dlt lamR h c r) := by
  refine (sum_rev _).trans ?_
  simp only [sco, bk_cr, Fin.rev_rev, dgt_rev]

end

/-! ## A tile's gradients -/

variable (X0 X1 X2 X3 : Fin 8192 → Fin 512 → ℝ) (G4 G5 : Fin 64 → Fin 4 → Fin 128 → Fin 128 → ℝ)

abbrev gQ := RetMainRefIdeal.Val.gQ X1 X2 X3
abbrev gK := RetMainRefIdeal.Val.gK X0 X2 X3 G4 G5
abbrev gV := RetMainRefIdeal.Val.gV X0 X1 X3 G4 G5

theorem row_ro (t : Fin cfg0.N) (q : Fin 4) (r : Fin 128) : row t (ro q r) = cr (ck t q) r :=
  Fin.ext (by show t.val * 512 + (q.val * 128 + r.val) = (t.val * 4 + q.val) * 128 + r.val; omega)

theorem at_s (s : Fin 8192) (n : Fin 64) (r : Fin 128) (e : s = cr n r) : cof s = n ∧ rof s = r := by
  subst e
  exact ⟨Fin.ext (by show (n.val * 128 + r.val) / 128 = n.val; omega), Fin.ext (by show (n.val * 128 + r.val) % 128 = r.val; omega)⟩

section

variable (t : Fin cfg0.N) (q h : Fin 4) (r d : Fin 128)

theorem four {a b c d a' b' c' d' : ℝ} (h₁ : a = d') (h₂ : b = c') (h₃ : c = b') (h₄ : d = a') : a + b + c + d = a' + b' + c' + d' := by
  rw [h₁, h₂, h₃, h₄]; ring

theorem q_eq : fRq (fun r d => (blocks X0 X1 X2 X3 G4 G5 t).k (ro q r) (hc h d)) (fun r d => (blocks X0 X1 X2 X3 G4 G5 t).v (ro q r) (hc h d))
      (fun r d => (blocks X0 X1 X2 X3 G4 G5 t).a (ro q r) (hc h d)) (fun r d => (blocks X0 X1 X2 X3 G4 G5 t).sf q r (hc h d)) (fun r d => (blocks X0 X1 X2 X3 G4 G5 t).sb q r (hc h d))
      ((blocks X0 X1 X2 X3 G4 G5 t).dm h) (fun r d => (blocks X0 X1 X2 X3 G4 G5 t).xf r (hc h d)) (fun r d => (blocks X0 X1 X2 X3 G4 G5 t).xb r (hc h d)) r d
    = gQ X1 X2 X3 (cr (ck t q) r) h d := by
  obtain ⟨e1, e2⟩ := at_s _ _ _ (rfl : cr (ck t q) r = cr (ck t q) r)
  show _ = un _ _ h d + un _ _ h d
  simp only [un, cof_rev, rof_rev, e1, e2, gq_rev]
  simp only [fRq, blocks, row_ro, hh_hc, hd_hc, gq, dsc, rv, dmR]
  simp only [mul_add, add_mul, Finset.sum_add_distrib]
  ring

theorem k_eq : fRk (fun r d => (blocks X0 X1 X2 X3 G4 G5 t).q (ro q r) (hc h d)) (fun r d => (blocks X0 X1 X2 X3 G4 G5 t).v (ro q r) (hc h d))
      (fun r d => (blocks X0 X1 X2 X3 G4 G5 t).a (ro q r) (hc h d)) (fun r d => (blocks X0 X1 X2 X3 G4 G5 t).gf q r (hc h d)) (fun r d => (blocks X0 X1 X2 X3 G4 G5 t).gb q r (hc h d))
      ((blocks X0 X1 X2 X3 G4 G5 t).dmt h) (fun r d => (blocks X0 X1 X2 X3 G4 G5 t).zf r (hc h d)) (fun r d => (blocks X0 X1 X2 X3 G4 G5 t).zb r (hc h d)) r d
    = gK X0 X2 X3 G4 G5 (cr (ck t q) r) h d := by
  obtain ⟨e1, e2⟩ := at_s _ _ _ (rfl : cr (ck t q) r = cr (ck t q) r)
  show _ = un _ _ h d + un _ _ h d + un _ _ h d + un _ _ h d
  simp only [un, cof_rev, rof_rev, e1, e2, gk1_rev, gk2_rev]
  simp only [fRk, blocks, row_ro, hh_hc, hd_hc, gk1, gk2, dsc, rv, dmR]
  simp only [mul_add, add_mul, Finset.sum_add_distrib, Finset.sum_mul, Finset.mul_sum]
  refine four ?_ ?_ ?_ ?_
  · exact Finset.sum_congr rfl fun x _ => Finset.sum_congr rfl fun y _ => by ring
  · exact Finset.sum_congr rfl fun x _ => Finset.sum_congr rfl fun y _ => by ring
  · exact Finset.sum_congr rfl fun x _ => by ring
  · exact Finset.sum_congr rfl fun x _ => by ring

theorem v_eq : fV (fun r d => (blocks X0 X1 X2 X3 G4 G5 t).q (ro q r) (hc h d)) (fun r d => (blocks X0 X1 X2 X3 G4 G5 t).k (ro q r) (hc h d))
      (fun r d => (blocks X0 X1 X2 X3 G4 G5 t).a (ro q r) (hc h d)) (fun r d => (blocks X0 X1 X2 X3 G4 G5 t).gf q r (hc h d)) (fun r d => (blocks X0 X1 X2 X3 G4 G5 t).gb q r (hc h d))
      ((blocks X0 X1 X2 X3 G4 G5 t).dmt h) (fun r d => (blocks X0 X1 X2 X3 G4 G5 t).zf r (hc h d)) (fun r d => (blocks X0 X1 X2 X3 G4 G5 t).zb r (hc h d)) r d
    = gV X0 X1 X3 G4 G5 (cr (ck t q) r) h d := by
  obtain ⟨e1, e2⟩ := at_s _ _ _ (rfl : cr (ck t q) r = cr (ck t q) r)
  show _ = un _ _ h d + un _ _ h d + un _ _ h d + un _ _ h d
  simp only [un, cof_rev, rof_rev, e1, e2, gv1_rev, gv2_rev]
  simp only [fV, blocks, row_ro, hh_hc, hd_hc, gv1, gv2, sco, rv, dmR]
  simp only [mul_add, add_mul, Finset.sum_add_distrib, Finset.sum_mul, Finset.mul_sum]
  refine four ?_ ?_ ?_ ?_
  · exact Finset.sum_congr rfl fun x _ => Finset.sum_congr rfl fun y _ => by ring
  · exact Finset.sum_congr rfl fun x _ => Finset.sum_congr rfl fun y _ => by ring
  · exact Finset.sum_congr rfl fun x _ => by ring
  · exact Finset.sum_congr rfl fun x _ => by ring

end

/-- The rotation by the two tables is the transposed rotation. -/
theorem fRot_eq (y : Fin 128 → ℝ) (s : Fin 8192) (d : Fin 128) :
    y d * cs s ⟨d.val % 64, Nat.mod_lt _ (by decide)⟩ + y (oth d) * sn2 s (oth d) = rotT y (cs s) (sn s) d := by
  by_cases p : d.val < 64
  · have e : (oth d).val = 64 + d.val := by show (d.val + 128 - 64) % 128 = 64 + d.val; omega
    have e1 : oth d = hi64 ⟨d.val, p⟩ := Fin.ext e
    have e2 : (⟨(oth d).val % 64, Nat.mod_lt _ (by decide)⟩ : Fin 64) = ⟨d.val, p⟩ := Fin.ext (by show (oth d).val % 64 = d.val; omega)
    have e3 : (⟨d.val % 64, Nat.mod_lt _ (by decide)⟩ : Fin 64) = ⟨d.val, p⟩ := Fin.ext (by show d.val % 64 = d.val; omega)
    rw [sn2, if_neg (by omega), rotT, dif_pos p, e2, e3, e1]
    exact add_comm _ _
  · have e : (oth d).val = d.val - 64 := by show (d.val + 128 - 64) % 128 = d.val - 64; omega
    have e0 : d = hi64 ⟨d.val - 64, by omega⟩ := Fin.ext (by show d.val = 64 + (d.val - 64); omega)
    have e1 : oth d = lo64 ⟨d.val - 64, by omega⟩ := Fin.ext e
    have e2 : (⟨(oth d).val % 64, Nat.mod_lt _ (by decide)⟩ : Fin 64) = ⟨d.val - 64, by omega⟩ := Fin.ext (by show (oth d).val % 64 = d.val - 64; omega)
    have e3 : (⟨d.val % 64, Nat.mod_lt _ (by decide)⟩ : Fin 64) = ⟨d.val - 64, by omega⟩ := Fin.ext (by show d.val % 64 = d.val - 64; omega)
    rw [sn2, if_pos (by omega), rotT, dif_neg p, e2, e3, ← e1, ← e0]
    ring

theorem tileQ_eq (t : Fin cfg0.N) (q h : Fin 4) (r d : Fin 128) :
    tileQ (blocks X0 X1 X2 X3 G4 G5 t) q h r d = rotT (gQ X1 X2 X3 (cr (ck t q) r) h) (cs (cr (ck t q) r)) (sn (cr (ck t q) r)) d := by
  rw [← fRot_eq, ← row_ro]
  refine congrArg₂ (· + ·) (congrArg (· * _) ?_) (congrArg (· * _) ?_) <;> rw [row_ro] <;> exact q_eq ..

theorem tileK_eq (t : Fin cfg0.N) (q h : Fin 4) (r d : Fin 128) :
    tileK (blocks X0 X1 X2 X3 G4 G5 t) q h r d
      = rotT (fun e => gK X0 X2 X3 G4 G5 (cr (ck t q) r) h e * scale) (cs (cr (ck t q) r)) (sn (cr (ck t q) r)) d := by
  have e : tileK (blocks X0 X1 X2 X3 G4 G5 t) q h r d = (gK X0 X2 X3 G4 G5 (cr (ck t q) r) h d * cs (cr (ck t q) r) ⟨d.val % 64, Nat.mod_lt _ (by decide)⟩
      + gK X0 X2 X3 G4 G5 (cr (ck t q) r) h (oth d) * sn2 (cr (ck t q) r) (oth d)) * scale := by
    rw [← row_ro]
    refine congrArg (· * scale) (congrArg₂ (· + ·) (congrArg (· * _) ?_) (congrArg (· * _) ?_)) <;> rw [row_ro] <;> exact k_eq ..
  rw [e, ← fRot_eq]
  ring

theorem tileV_eq (t : Fin cfg0.N) (q h : Fin 4) (r d : Fin 128) :
    tileV (blocks X0 X1 X2 X3 G4 G5 t) q h r d = gV X0 X1 X3 G4 G5 (cr (ck t q) r) h d := v_eq ..

/-- The kernel's gradients are the reference's. -/
theorem gr_eq (s : Fin 8192) (j : Fin 1536) : gr X0 X1 X2 X3 G4 G5 s j = RetMainRefIdeal.Val.oA X0 X1 X2 X3 G4 G5 s j := by
  have e (t : Fin cfg0.N) (i : Fin 512) (ht : t.val = s.val / 512) (hi : i.val = s.val % 512) : cr (ck t (cc i)) (rr i) = s :=
    Fin.ext (by show (t.val * 4 + i.val / 128) * 128 + i.val % 128 = s.val; omega)
  have e' := e (Fin.cast N_0.symm ⟨s.val / 512, by omega⟩) ⟨s.val % 512, by omega⟩ rfl rfl
  by_cases h : j.val < 512
  · refine (dif_pos h).trans ?_
    rw [tileQ_eq, e']
    unfold RetMainRefIdeal.Val.oA
    rw [dif_pos h]
    rfl
  by_cases h' : j.val < 1024
  · refine ((dif_neg h).trans (dif_pos h')).trans ?_
    rw [tileK_eq, e']
    unfold RetMainRefIdeal.Val.oA
    rw [dif_neg h, dif_pos h']
    rfl
  · refine ((dif_neg h).trans (dif_neg h')).trans ?_
    rw [tileV_eq, e']
    unfold RetMainRefIdeal.Val.oA
    rw [dif_neg h, dif_neg h']
    rfl

end Cert.RetMainIdeal.Val
-- ==== Proof.RetMain.lean ====
module

public import proofs.«01_k».proof.Defs
public import proofs.«01_k».proof.Proof.RetMatch
public import proofs.«01_k».proof.Proof.Gen.Pre_finite_retmain
public import Idealize.ShloMosaic.Lib.KernelVsHost
public import proofs.«01_k».proof.Proof.Gen.RetMainIdeal.Value
public import proofs.«01_k».proof.Proof.Gen.RetMainRefIdeal.Run

@[expose] public section

/-! # The retention's gradients: kernel and reference agree -/

set_option maxRecDepth 16384

noncomputable section

open Idealize.ShloMosaic Idealize.ShloMosaic.TcCoe Idealize.SL.Sem

namespace Cert.RetMainIdeal.Val

open Cert.Lift

/-- Finite arguments are real arguments. -/
theorem pre_real (a0 a1 a2 a3 : FVec Ideal RetMainIdeal.S8192x512 .f32) (a4 a5 : FVec Ideal RetMainIdeal.S64x4x128x128 .f32)
    (h : (Cert.Pre_finite_retmain.fn (F := Ideal) a0 a1 a2 a3 a4 a5).1 = (fun _ => 1#1) ∧ (Cert.Pre_finite_retmain.fn (F := Ideal) a0 a1 a2 a3 a4 a5).2.1 = (fun _ => 1#1)
      ∧ (Cert.Pre_finite_retmain.fn (F := Ideal) a0 a1 a2 a3 a4 a5).2.2.1 = (fun _ => 1#1) ∧ (Cert.Pre_finite_retmain.fn (F := Ideal) a0 a1 a2 a3 a4 a5).2.2.2.1 = (fun _ => 1#1)
      ∧ (Cert.Pre_finite_retmain.fn (F := Ideal) a0 a1 a2 a3 a4 a5).2.2.2.2.1 = (fun _ => 1#1) ∧ (Cert.Pre_finite_retmain.fn (F := Ideal) a0 a1 a2 a3 a4 a5).2.2.2.2.2 = (fun _ => 1#1)) :
    ∃ X0 X1 X2 X3 G4 G5, a0 = RetMainRefIdeal.Val.XA X0 ∧ a1 = RetMainRefIdeal.Val.XA X1 ∧ a2 = RetMainRefIdeal.Val.XA X2 ∧ a3 = RetMainRefIdeal.Val.XA X3
      ∧ a4 = RetMainRefIdeal.Val.XS G4 ∧ a5 = RetMainRefIdeal.Val.XS G5 := by
  obtain ⟨h0, h1, h2, h3, h4, h5⟩ := h
  obtain ⟨X0, rfl⟩ := real_of_words a0 fun i => congrFun h0 i
  obtain ⟨X1, rfl⟩ := real_of_words a1 fun i => congrFun h1 i
  obtain ⟨X2, rfl⟩ := real_of_words a2 fun i => congrFun h2 i
  obtain ⟨X3, rfl⟩ := real_of_words a3 fun i => congrFun h3 i
  obtain ⟨G4, rfl⟩ := real_of_words a4 fun i => congrFun h4 i
  obtain ⟨G5, rfl⟩ := real_of_words a5 fun i => congrFun h5 i
  have e (f : RetMainIdeal.S8192x512.Idx → ℝ) : (fun i => ((f i : ℝ) : EReal)) = RetMainRefIdeal.Val.XA fun n k => f (ix2 n k) :=
    funext fun i => congrArg (fun j => ((f j : ℝ) : EReal)) (funext fun a => match a with | ⟨0, _⟩ => rfl | ⟨1, _⟩ => rfl)
  have e' (f : RetMainIdeal.S64x4x128x128.Idx → ℝ) : (fun i => ((f i : ℝ) : EReal)) = RetMainRefIdeal.Val.XS fun n h k l => f (ix4 n h k l) :=
    funext fun i => congrArg (fun j => ((f j : ℝ) : EReal)) (funext fun a => match a with | ⟨0, _⟩ => rfl | ⟨1, _⟩ => rfl | ⟨2, _⟩ => rfl | ⟨3, _⟩ => rfl)
  exact ⟨_, _, _, _, _, _, e X0, e X1, e X2, e X3, e' G4, e' G5⟩

theorem gr_real (X0 X1 X2 X3 : Fin 8192 → Fin 512 → ℝ) (G4 G5 : Fin 64 → Fin 4 → Fin 128 → Fin 128 → ℝ) :
    (fun i : RetMainIdeal.S8192x1536.Idx => ((gr X0 X1 X2 X3 G4 G5 (i 0) (i 1) : ℝ) : EReal)) = RetMainRefIdeal.Read.val_main_v358 (F := Ideal)
      (RetMainRefIdeal.Val.XA X0) (RetMainRefIdeal.Val.XA X1) (RetMainRefIdeal.Val.XA X2) (RetMainRefIdeal.Val.XA X3)
      (RetMainRefIdeal.Val.XS G4) (RetMainRefIdeal.Val.XS G5) := by
  rw [RetMainRefIdeal.Val.v358_real]
  funext i
  exact congrArg Real.toEReal (gr_eq X0 X1 X2 X3 G4 G5 (i 0) (i 1))

set_option maxHeartbeats 2000000 in
theorem algebraic : Cert.algebraic_RetMainIdeal_RetMainRefIdeal_pre_finite_retmain := by
  pair_intro
  · exact Cert.RetMainIdeal.Value.run_blocks m g
  · choose X0 X1 X2 X3 G4 G5 h0 h1 h2 h3 h4 h5 using fun c => pre_real _ _ _ _ _ _ (hpre c)
    run_from Cert.RetMainRefIdeal.Value.run m' g'
    obtain ⟨a0, a1, a2, a3, a4, a5⟩ := hagree c
    rw [final16 ⟨h0 c, h1 c, h2 c, h3 c, h4 c, h5 c⟩]
    rw [gr_real, ← h0 c, ← h1 c, ← h2 c, ← h3 c, ← h4 c, ← h5 c, ← a0, ← a1, ← a2, ← a3, ← a4, ← a5]
    exact RetMainRefIdeal.Read.val_main_v358_eq (StableHlo.launchContents m' c)

end Cert.RetMainIdeal.Val

end
-- ==== Proof.CarryKernel.lean ====
module

public import proofs.«01_k».proof.Proof.RetReal
public import proofs.«01_k».proof.Proof.Gen.RetCarryIdeal.Value
public import Idealize.ShloMosaic.Lib.Pipeline.ValueKit

@[expose] public section

/-! # One chunk of the carried states' kernel -/

set_option maxRecDepth 16384

noncomputable section

open Idealize.ShloMosaic Idealize.ShloMosaic.TcCoe Idealize.SL.Sem
open Idealize.ShloMosaic.Pipeline (Dat)

namespace Cert.RetCarryIdeal.Val

open Cert.RetCarryIdeal Cert.RetCarryIdeal.Gen Cert.Lift Cert.GmReal Cert.RetReal

/-- Arrays of a chunk's rows or of a state, and of a row of decays. -/
abbrev VF (f : Fin 128 → Fin 512 → ℝ) : FVec Ideal S128x512 .f32 := fun i => ((f (i 0) (i 1) : ℝ) : EReal)
abbrev VB (f : Fin 128 → Fin 512 → ℝ) : FVec Ideal S128x512 .bf16 := fun i => ((f (i 0) (i 1) : ℝ) : EReal)
abbrev VG (f : Fin 512 → ℝ) : FVec Ideal S1x512 .f32 := fun i => ((f (i 1) : ℝ) : EReal)

/-- The state after a chunk: the decayed state before it and the weighted products of the chunk's rows, per head. -/
abbrev stp (sc : FVec Ideal S128x512 .f32) (g : FVec Ideal S1x512 .f32) (l r : FVec Ideal S128x512 .bf16) (acc : FVec Ideal S128x512 .f32) : FVec Ideal S128x512 .f32 :=
  k0_pay13 (F := Ideal) (k0_pay5 (F := Ideal) acc g) (k0_pay8 (F := Ideal) sc l r) (k0_pay9 (F := Ideal) sc l r) (k0_pay10 (F := Ideal) sc l r)
    (k0_pay11 (F := Ideal) r) (k0_pay12 (F := Ideal) sc l) (constant S128x128 .f32 0x00000000#32)

def stR (sc : Fin 128 → Fin 512 → ℝ) (g : Fin 512 → ℝ) (l r acc : Fin 128 → Fin 512 → ℝ) (d : Fin 128) (k : Fin 512) : ℝ :=
  acc d k * g k + ∑ i, l i (hc (hh k) d) * sc i (hc (hh k) d) * r i k

theorem stp_real (sc : Fin 128 → Fin 512 → ℝ) (g : Fin 512 → ℝ) (l r acc : Fin 128 → Fin 512 → ℝ) :
    stp (VF sc) (VG g) (VB l) (VB r) (VF acc) = VF (stR sc g l r acc) := by
  funext i
  have b1 : (i 1).val < 512 := (i 1).isLt
  pointwise [stp, k0_pay13, k0_pay5, k0_pay6, k0_pay7, k0_pay8, k0_pay9, k0_pay10, k0_pay11, k0_pay12, VF, VB, VG]
  simp only [mul_coe, sum_coe]
  show _ = ((acc (i 0) (i 1) * g (i 1) + ∑ k, l k (hc (hh (i 1)) (i 0)) * sc k (hc (hh (i 1)) (i 0)) * r k (i 1) : ℝ) : EReal)
  rw [← add_coe]
  refine congrArg _ ?_
  have at_ (f : ℕ) (k : Fin 512) (hf : f + (i 0).val < 512) (hk : k.val = (i 1).val) (q : f = (i 1).val / 128 * 128) :
      ((∑ x, l x ⟨f + (i 0).val, hf⟩ * sc x ⟨f + (i 0).val, hf⟩ * r x k : ℝ) : EReal)
        = ((∑ x, l x (hc (hh (i 1)) (i 0)) * sc x (hc (hh (i 1)) (i 0)) * r x (i 1) : ℝ) : EReal) := by
    have e : (⟨f + (i 0).val, hf⟩ : Fin 512) = hc (hh (i 1)) (i 0) := Fin.ext (by show f + (i 0).val = (i 1).val / 128 * 128 + (i 0).val; rw [q])
    rw [e, (Fin.ext hk : k = i 1)]
  have b0 : (i 0).val < 128 := (i 0).isLt
  split
  · have e := at_ 0 (i 1) (by omega) rfl (by omega)
    simpa only [Nat.zero_add] using e
  split
  · exact at_ 128 ⟨128 + ((i 1).val - 128), by omega⟩ (by omega) (by show 128 + ((i 1).val - 128) = (i 1).val; omega) (by omega)
  split
  · exact at_ 256 ⟨256 + ((i 1).val - 128 - 128), by omega⟩ (by omega) (by show 256 + ((i 1).val - 128 - 128) = (i 1).val; omega) (by omega)
  · exact at_ 384 ⟨384 + ((i 1).val - 128 - 128 - 128), by omega⟩ (by omega) (by show 384 + ((i 1).val - 128 - 128 - 128) = (i 1).val; omega) (by omega)

/-- A state as an output's block holds it. -/
theorem out_real (a : Fin 128 → Fin 512 → ℝ) (x : S1x128x512.Idx) : k0_pay4 (F := Ideal) (VF a) x = ((a (x 1) (x 2) : ℝ) : EReal) := by
  have b : (x 0).val < 1 := (x 0).isLt
  pointwise [k0_pay4, VF]

theorem zero2 : k0_pay2 (F := Ideal) = VF fun _ _ => 0 := by
  funext i; pointwise [k0_pay2, VF]; exact EReal.coe_zero.symm
theorem zero3 : k0_pay3 (F := Ideal) = VF fun _ _ => 0 := zero2

end Cert.RetCarryIdeal.Val
-- ==== Proof.CarryRef.lean ====
module

public import proofs.«01_k».proof.Proof.Gen.RetCarryRefIdeal.Read
public import proofs.«01_k».proof.Proof.RetMainRef

@[expose] public section

/-! # The gradients of the retention's states, and what their reference computes -/

set_option maxRecDepth 16384

noncomputable section

namespace Cert.RetReal

open Cert.Lift Cert.GmReal

/-- The decay between two chunks. -/
def lag (L : Fin 4 → ℝ) (h : Fin 4) (n m : Fin 64) : ℝ :=
  if (0 : ℝ) ≤ n.val - 1 - m.val then Real.exp (L h * (128 * (if (0 : ℝ) ≤ n.val - 1 - m.val then (n.val - 1 - m.val : ℝ) else 0))) else 0
/-- A chunk's own contribution to the gradient of the state before it, and the gradient of a chunk's sum. -/
def own (x : Fin 4 → Fin 128 → ℝ) (Q A : Fin 8192 → Fin 4 → Fin 128 → ℝ) (n : Fin 64) (h : Fin 4) (d e : Fin 128) : ℝ :=
  ∑ c, A (cr n c) h e * (Q (cr n c) h d * x h c)
def carry (L : Fin 4 → ℝ) (x : Fin 4 → Fin 128 → ℝ) (Q A : Fin 8192 → Fin 4 → Fin 128 → ℝ) (m : Fin 64) (h : Fin 4) (d e : Fin 128) : ℝ :=
  ∑ n, own x Q A n h d e * lag L h n m

/-- A decayed running sum. -/
def scan (g : ℝ) (u : ℕ → ℝ) : ℕ → ℝ
  | 0 => 0
  | k + 1 => scan g u k * g + u k

theorem scan_eq (l : ℝ) (u : ℕ → ℝ) (n : ℕ) (hn : n ≤ 64) :
    scan (Real.exp (128 * l)) u n = ∑ a : Fin 64, if a.val < n then u a.val * Real.exp (l * (128 * ((n : ℝ) - 1 - a.val))) else 0 := by
  induction n with
  | zero => simp [scan]
  | succ n ih =>
    have e : ∀ a : Fin 64, (if a.val < n + 1 then u a.val * Real.exp (l * (128 * (((n + 1 : ℕ) : ℝ) - 1 - a.val))) else 0)
        = (if a.val < n then u a.val * Real.exp (l * (128 * ((n : ℝ) - 1 - a.val))) else 0) * Real.exp (128 * l)
          + (if a = ⟨n, by omega⟩ then u n else 0) := by
      intro a
      by_cases h1 : a.val < n
      · have h2 : ¬a = (⟨n, by omega⟩ : Fin 64) := fun q => by have := congrArg Fin.val q; simp only at this; omega
        rw [if_pos (by omega), if_pos h1, if_neg h2, add_zero, mul_assoc, ← Real.exp_add]
        congr 2; push_cast; ring
      · by_cases h2 : a.val = n
        · rw [if_pos (by omega), if_neg h1, if_pos (Fin.ext h2), h2]
          push_cast; simp
        · rw [if_neg (by omega), if_neg h1, if_neg (fun q => h2 (congrArg Fin.val q))]; simp
    rw [Finset.sum_congr rfl fun a _ => e a, Finset.sum_add_distrib, ← Finset.sum_mul, ← ih (by omega)]
    simp [scan]

/-- The running sum over the chunks after `m`, from the last one. -/
theorem scan_suf (L : Fin 4 → ℝ) (h : Fin 4) (u : ℕ → ℝ) (v : Fin 64 → ℝ) (hv : ∀ a : Fin 64, u a.val = v a.rev) (m : Fin 64) :
    scan (Real.exp (128 * L h)) u m.rev.val = ∑ n, v n * lag L h n m := by
  rw [scan_eq _ _ _ (by omega), ← Equiv.sum_comp Fin.revPerm (fun n => v n * lag L h n m)]
  refine Finset.sum_congr rfl fun a _ => ?_
  have ea : ((Fin.rev a).val : ℝ) = 63 - a.val := by
    rw [Fin.val_rev, Nat.cast_sub (by omega)]; push_cast; ring
  have em : ((Fin.rev m).val : ℝ) = 63 - m.val := by
    rw [Fin.val_rev, Nat.cast_sub (by omega)]; push_cast; ring
  show _ = v (Fin.rev a) * lag L h (Fin.rev a) m
  rw [hv a, lag, ea, em]
  by_cases q : a.val < (Fin.rev m).val
  · have q' : (0 : ℝ) ≤ 63 - (a.val : ℝ) - 1 - m.val := by
      have : (a.val : ℝ) + 1 ≤ (Fin.rev m).val := by exact_mod_cast q
      rw [em] at this; linarith
    rw [if_pos q, if_pos q', if_pos q']
    congr 3; ring
  · have q' : ¬(0 : ℝ) ≤ 63 - (a.val : ℝ) - 1 - m.val := by
      have : ((Fin.rev m).val : ℝ) ≤ a.val := by exact_mod_cast (Nat.le_of_not_lt q)
      rw [em] at this; intro z; linarith
    rw [if_neg q, if_neg q', mul_zero]

end Cert.RetReal

namespace Cert.RetCarryRefIdeal.Val

open Cert.RetCarryRefIdeal Cert.RetCarryRefIdeal.Read Cert.Lift Cert.GmReal Cert.RetReal Idealize.ShloMosaic
open Cert.RetMainRefIdeal.Val (XA CH zero_at)

theorem v43_real : val_main_v43 (F := Ideal) = fun i => ((lam (i 0) : ℝ) : EReal) := Cert.RetMainRefIdeal.Val.v56_real
theorem v55_real : val_main_v55 (F := Ideal) = fun i => ((lam (i 0) : ℝ) : EReal) := Cert.RetMainRefIdeal.Val.v56_real
theorem v86_real : val_main_v86 (F := Ideal) = fun i => ((lamR (i 0) : ℝ) : EReal) := Cert.RetMainRefIdeal.Val.v90_real
theorem v98_real : val_main_v98 (F := Ideal) = fun i => ((lamR (i 0) : ℝ) : EReal) := Cert.RetMainRefIdeal.Val.v90_real
theorem v51_real : val_main_v51 (F := Ideal) = fun i => ((xi lam (i 0) (i 1) : ℝ) : EReal) := Cert.RetMainRefIdeal.Val.v152_real
theorem v94_real : val_main_v94 (F := Ideal) = fun i => ((xi lamR (i 0) (i 1) : ℝ) : EReal) := Cert.RetMainRefIdeal.Val.v198_real

theorem v77_real : val_main_v77 (F := Ideal) = fun i => ((lag lam (i 0) (i 1) (i 2) : ℝ) : EReal) := by
  funext i
  have e1 := sitofp_coe (i 1).val (lt_of_lt_of_le (i 1).isLt (by decide))
  have e2 := sitofp_coe (i 2).val (lt_of_lt_of_le (i 2).isLt (by decide))
  pointwise [val_main_call0_v0, val_main_call0_v1, val_main_call1_v0, val_main_call1_v1, val_main_call1_v2, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_cst_6, val_main_cst_7, val_main_cst_8, val_main_cst_9, val_main_cst_10, val_main_cst_11, v55_real]
  simp only [e1, e2, Ideal.ofBits_def, Ideal.ofBits_zero_f32, bits_one, one_coe, bits_128, id_eq, zero_at, zero_coe, sub_coe, mul_coe, select_oge, ite_coe, exp_coe]
  delta lag
  simp only [EReal.coe_le_coe_iff]

theorem v120_real : val_main_v120 (F := Ideal) = fun i => ((lag lamR (i 0) (i 1) (i 2) : ℝ) : EReal) := by
  funext i
  have e1 := sitofp_coe (i 1).val (lt_of_lt_of_le (i 1).isLt (by decide))
  have e2 := sitofp_coe (i 2).val (lt_of_lt_of_le (i 2).isLt (by decide))
  pointwise [val_main_call3_v0, val_main_call3_v1, val_main_call4_v0, val_main_call4_v1, val_main_call4_v2, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_cst_13, val_main_cst_14, val_main_cst_15, val_main_cst_16, val_main_cst_17, val_main_cst_18, v98_real]
  simp only [e1, e2, Ideal.ofBits_def, Ideal.ofBits_zero_f32, bits_one, one_coe, bits_128, id_eq, zero_at, zero_coe, sub_coe, mul_coe, select_oge, ite_coe, exp_coe]
  delta lag
  simp only [EReal.coe_le_coe_iff]

variable (X0 X1 : Fin 8192 → Fin 512 → ℝ)

theorem v38_real : val_main_v38 (F := Ideal) (XA X0) = fun i => ((rq X0 (i 0) (i 1) (i 2) : ℝ) : EReal) := Cert.RetMainRefIdeal.Val.v38_real X0

theorem v42_real : val_main_v42 (F := Ideal) (XA X0) = CH (rq X0) := by
  funext i; pointwise [val_main_v42, val_main_v41, v38_real]; rfl
theorem v85_real : val_main_v85 (F := Ideal) (XA X0) = CH (bk (rq X0)) := by
  funext i; pointwise [val_main_v85, val_main_v84, val_main_v83, v38_real]; rfl
theorem v139_real : val_main_v139 (F := Ideal) (XA X1) = CH (rv X1) := by
  funext i; pointwise [val_main_v139, val_main_v138, val_main_v129, XA]; rfl
theorem v132_real : val_main_v132 (F := Ideal) (XA X1) = CH (bk (rv X1)) := by
  funext i; pointwise [val_main_v132, val_main_v131, val_main_v130, val_main_v129, XA]; rfl

theorem v54_real : val_main_v54 (F := Ideal) (XA X0) = fun i => ((rq X0 (cr (i 1) (i 2)) (i 0) (i 3) * xi lam (i 0) (i 2) : ℝ) : EReal) := by
  funext i; pointwise [val_main_v54, val_main_v53, val_main_v52, v42_real, v51_real, CH]; simp only [mul_coe]
theorem v97_real : val_main_v97 (F := Ideal) (XA X0) = fun i => ((bk (rq X0) (cr (i 1) (i 2)) (i 0) (i 3) * xi lamR (i 0) (i 2) : ℝ) : EReal) := by
  funext i; pointwise [val_main_v97, val_main_v96, val_main_v95, v85_real, v94_real, CH]; simp only [mul_coe]

theorem v134_real : val_main_v134 (F := Ideal) (XA X0) (XA X1) = fun i => ((own (xi lamR) (bk (rq X0)) (bk (rv X1)) (i 0) (i 1) (i 2) (i 3) : ℝ) : EReal) := by
  funext i
  pointwise [val_main_v134]
  rw [val_main_v133_apply]
  pointwise [v132_real, v97_real, CH]
  simp only [mul_coe, sum_coe]
  rfl
theorem v141_real : val_main_v141 (F := Ideal) (XA X0) (XA X1) = fun i => ((own (xi lam) (rq X0) (rv X1) (i 0) (i 1) (i 2) (i 3) : ℝ) : EReal) := by
  funext i
  pointwise [val_main_v141]
  rw [val_main_v140_apply]
  pointwise [v139_real, v54_real, CH]
  simp only [mul_coe, sum_coe]
  rfl
theorem v137_real : val_main_v137 (F := Ideal) (XA X0) (XA X1) = fun i => ((carry lamR (xi lamR) (bk (rq X0)) (bk (rv X1)) (i 0) (i 1) (i 2) (i 3) : ℝ) : EReal) := by
  funext i
  pointwise [val_main_v137]
  rw [val_main_v136_apply]
  pointwise [val_main_v135, v134_real, v120_real]
  simp only [mul_coe, sum_coe]
  rfl
theorem v144_real : val_main_v144 (F := Ideal) (XA X0) (XA X1) = fun i => ((carry lam (xi lam) (rq X0) (rv X1) (i 0) (i 1) (i 2) (i 3) : ℝ) : EReal) := by
  funext i
  pointwise [val_main_v144]
  rw [val_main_v143_apply]
  pointwise [val_main_v142, v141_real, v77_real]
  simp only [mul_coe, sum_coe]
  rfl

/-- The two results. -/
theorem v148_real : val_main_v148 (F := Ideal) (XA X0) (XA X1) = fun i => ((carry lamR (xi lamR) (bk (rq X0)) (bk (rv X1)) (Fin.rev (i 0)) (hh (i 2)) (i 1) (hd (i 2)) : ℝ) : EReal) := by
  funext i
  pointwise [val_main_v148, val_main_v147, val_main_v146, val_main_v145, v137_real]
  rfl
theorem v151_real : val_main_v151 (F := Ideal) (XA X0) (XA X1) = fun i => ((carry lam (xi lam) (rq X0) (rv X1) (i 0) (hh (i 2)) (i 1) (hd (i 2)) : ℝ) : EReal) := by
  funext i
  pointwise [val_main_v151, val_main_v150, val_main_v149, v144_real]
  rfl

end Cert.RetCarryRefIdeal.Val
-- ==== Proof.CarryHost.lean ====
module

public import proofs.«01_k».proof.Proof.CarryPoints
public import proofs.«01_k».proof.Proof.CarryRef
public import Idealize.ShloMosaic.Lib.StableHlo.RunRead

@[expose] public section

/-! # What each point of the carried states' kernel reads -/

set_option maxRecDepth 16384

noncomputable section

open Idealize.ShloMosaic Idealize.ShloMosaic.TcCoe Idealize.SL.Sem
open Idealize.ShloMosaic.Pipeline (Dat)

namespace Cert.RetCarryIdeal.Val

open Cert.RetCarryIdeal Cert.RetCarryIdeal.Gen Cert.Lift Cert.GmReal Cert.RetReal
open Cert.RetMainRefIdeal.Val (XA zero_at)

variable (m : (ℓ : Loc nD τ sig) → Buf (Elt Ideal) ℓ) (c : Dev nD)

/-- The weights of the backward direction, by the positions of the forward one. -/
def xb (h : Fin 4) (c : Fin 128) : ℝ := Real.exp (lamR h * (128 - c.val))

theorem v102_read (i : S128x512.Idx) : V m c main_v102 i = ((xi lam (hh (i 1)) (i 0) : ℝ) : EReal) := by
  unfold V
  after_reads_simp
  have b0 : (i 0).val < 128 := (i 0).isLt
  have b1 : (i 1).val < 512 := (i 1).isLt
  pointwise
  simp (disch := omega) only [List.mem_singleton, if_true, Fin.val_rev, sitofp_coe]
  simp only [Ideal.ofBits_def, Ideal.ofBits_zero_f32, bits_neg5, bits_ln2, bits_one, one_coe, bits_128, id_eq, zero_at, zero_coe, sub_coe, add_coe, mul_coe, neg_coe, exp_coe]
  refine (congrArg (fun z => Ideal.exp (z * _)) (log_coe _ (gam_pos (hh (i 1))))).trans ?_
  simp only [mul_coe, exp_coe]
  rfl

theorem v122_read (i : S128x512.Idx) : V m c main_v122 i = ((xb (hh (i 1)) (i 0) : ℝ) : EReal) := by
  unfold V
  after_reads_simp
  have b0 : (i 0).val < 128 := (i 0).isLt
  have b1 : (i 1).val < 512 := (i 1).isLt
  pointwise
  simp (disch := omega) only [List.mem_singleton, if_true, Fin.val_rev, sitofp_coe]
  simp only [Ideal.ofBits_def, Ideal.ofBits_zero_f32, bits_neg5, bits_ln2, bits_one, one_coe, bits_128, id_eq, zero_at, zero_coe, sub_coe, add_coe, mul_coe, neg_coe, exp_coe]
  refine (congrArg (fun z => Ideal.exp (z * _)) (log_coe _ (gam_pos ((hh (i 1)).rev)))).trans ?_
  simp only [mul_coe, exp_coe]
  rfl

theorem v136_read (i : S1x512.Idx) : V m c main_v136 i = ((Real.exp (128 * lam (hh (i 1))) : ℝ) : EReal) := by
  unfold V
  after_reads_simp
  have b0 : (i 0).val < 1 := (i 0).isLt
  have b1 : (i 1).val < 512 := (i 1).isLt
  pointwise
  simp (disch := omega) only [List.mem_singleton, if_true, Fin.val_rev, sitofp_coe]
  simp only [Ideal.ofBits_def, Ideal.ofBits_zero_f32, bits_neg5, bits_ln2, bits_one, one_coe, bits_128, id_eq, zero_at, zero_coe, sub_coe, add_coe, mul_coe, neg_coe, exp_coe]
  refine (congrArg (fun z => Ideal.exp (z * _)) (log_coe _ (gam_pos (hh (i 1))))).trans ?_
  simp only [mul_coe, exp_coe, mul_comm]
  rfl

theorem v142_read (i : S1x512.Idx) : V m c main_v142 i = ((Real.exp (128 * lamR (hh (i 1))) : ℝ) : EReal) := by
  unfold V
  after_reads_simp
  have b0 : (i 0).val < 1 := (i 0).isLt
  have b1 : (i 1).val < 512 := (i 1).isLt
  pointwise
  simp (disch := omega) only [List.mem_singleton, if_true, Fin.val_rev, sitofp_coe]
  simp only [Ideal.ofBits_def, Ideal.ofBits_zero_f32, bits_neg5, bits_ln2, bits_one, one_coe, bits_128, id_eq, zero_at, zero_coe, sub_coe, add_coe, mul_coe, neg_coe, exp_coe]
  refine (congrArg (fun z => Ideal.exp (z * _)) (log_coe _ (gam_pos ((hh (i 1)).rev)))).trans ?_
  simp only [mul_coe, exp_coe, mul_comm]
  rfl

variable (X0 X1 : Fin 8192 → Fin 512 → ℝ)

/-- An array of positions, heads and columns as the kernel's argument. -/
abbrev rows (v : FVec Ideal S8192x4x128 .f32) : FVec Ideal S8192x512 .bf16 :=
  truncf .bf16 (shapeCast S8192x512 v shapeCasts_S8192x4x128_S8192x512) bitsLt_bf16_f32

theorem v174_read (h0 : m ((c : Thread nD τ).loc main_arg0) = XA X0) (i : S8192x512.Idx) :
    V m c main_v174 i = ((rq X0 (i 0) (hh (i 1)) (hd (i 1)) : ℝ) : EReal) := by
  have e : (V m c main_v174 : FVec Ideal S8192x512 .bf16) = rows (RetMainRefIdeal.Read.val_main_v38 (F := Ideal) (m ((c : Thread nD τ).loc main_arg0))) := by
    unfold V
    after_reads_simp
    rfl
  rw [e, h0, RetMainRefIdeal.Val.v38_real]
  pointwise
  rfl

/-- An array as the kernel's argument. -/
abbrev half (v : FVec Ideal S8192x512 .f32) : FVec Ideal S8192x512 .bf16 := truncf .bf16 v bitsLt_bf16_f32

theorem v175_read (h1 : m ((c : Thread nD τ).loc main_arg1) = XA X1) (i : S8192x512.Idx) :
    V m c main_v175 i = ((X1 (i 0) (i 1) : ℝ) : EReal) := by
  have e : (V m c main_v175 : FVec Ideal S8192x512 .bf16) = half (m ((c : Thread nD τ).loc main_arg1)) := by
    unfold V
    after_reads_simp
  rw [e, h1]
  pointwise

theorem idx : ∀ t : Fin cfg0.N, win0_0.index t = ![0, 0] ∧ win0_1.index t = ![0, 0] ∧ win0_2.index t = ![0, 0] ∧ win0_3.index t = ![0, 0]
    ∧ win0_4.index t = ![t.val, 0] ∧ win0_5.index t = ![t.val, 0] ∧ win0_6.index t = ![7 - t.val, 0] ∧ win0_7.index t = ![7 - t.val, 0]
    ∧ win0_8.index t = ![t.val, 0, 0] ∧ win0_9.index t = ![7 - t.val, 0, 0] :=
  (by decide +kernel : ∀ t : Fin grid0.N, _)

/-- The row of the array that a point's block has at `r`, in the forward and in the backward order of the blocks. -/
def row (t : Fin cfg0.N) (r : Fin 1024) : Fin 8192 := ⟨t.val * 1024 + r.val, by have h : t.val < 8 := lt_of_lt_of_eq t.isLt N_0; omega⟩
def rowR (t : Fin cfg0.N) (r : Fin 1024) : Fin 8192 := ⟨(7 - t.val) * 1024 + r.val, by omega⟩

theorem at2 {n₀ n₁ : ℕ} (f : Fin n₀ → Fin n₁ → ℝ) {a a' : Fin n₀} {b b' : Fin n₁}
    (ha : a.val = a'.val) (hb : b.val = b'.val) : ((f a b : ℝ) : EReal) = ((f a' b' : ℝ) : EReal) := by
  rw [Fin.ext ha, Fin.ext hb]

/-- A block of rows. -/
abbrev BB (f : Fin 1024 → Fin 512 → ℝ) : FVec Ideal S1024x512 .bf16 := fun i => ((f (i 0) (i 1) : ℝ) : EReal)

variable (p : Fin cfg0.N)

theorem blk0 : iblk m c 0 p = VF fun r k => xb (hh k) r := by
  funext y
  blk_simp [iblk, idx p]
  rw [v122_read m c]
  refine at2 (fun s k => xb (hh k) s) (a' := y 0) (b' := y 1) ?_ ?_ <;> blk_simp [idx p]
theorem blk1 : iblk m c 1 p = VF fun r k => xi lam (hh k) r := by
  funext y
  blk_simp [iblk, idx p]
  rw [v102_read m c]
  refine at2 (fun s k => xi lam (hh k) s) (a' := y 0) (b' := y 1) ?_ ?_ <;> blk_simp [idx p]
theorem blk2 : iblk m c 2 p = VG fun k => Real.exp (128 * lamR (hh k)) := by
  funext y
  blk_simp [iblk, idx p]
  rw [v142_read m c]
  refine at2 (fun _ k => Real.exp (128 * lamR (hh k))) (a := y 0) (a' := y 0) (b' := y 1) ?_ ?_ <;> blk_simp [idx p]
theorem blk3 : iblk m c 3 p = VG fun k => Real.exp (128 * lam (hh k)) := by
  funext y
  blk_simp [iblk, idx p]
  rw [v136_read m c]
  refine at2 (fun _ k => Real.exp (128 * lam (hh k))) (a := y 0) (a' := y 0) (b' := y 1) ?_ ?_ <;> blk_simp [idx p]
theorem blk4 (h0 : m ((c : Thread nD τ).loc main_arg0) = XA X0) : iblk m c 4 p = BB fun r k => rq X0 (row p r) (hh k) (hd k) := by
  funext y
  blk_simp [iblk, idx p]
  rw [v174_read m c X0 h0]
  refine at2 (fun s k => rq X0 s (hh k) (hd k)) (a' := row p (y 0)) (b' := y 1) ?_ ?_ <;> blk_simp [idx p, row]
theorem blk5 (h1 : m ((c : Thread nD τ).loc main_arg1) = XA X1) : iblk m c 5 p = BB fun r k => X1 (row p r) k := by
  funext y
  blk_simp [iblk, idx p]
  rw [v175_read m c X1 h1]
  refine at2 (fun s k => X1 s k) (a' := row p (y 0)) (b' := y 1) ?_ ?_ <;> blk_simp [idx p, row]
theorem blk6 (h0 : m ((c : Thread nD τ).loc main_arg0) = XA X0) : iblk m c 6 p = BB fun r k => rq X0 (rowR p r) (hh k) (hd k) := by
  funext y
  blk_simp [iblk, idx p]
  rw [v174_read m c X0 h0]
  refine at2 (fun s k => rq X0 s (hh k) (hd k)) (a' := rowR p (y 0)) (b' := y 1) ?_ ?_ <;> blk_simp [idx p, rowR]
theorem blk7 (h1 : m ((c : Thread nD τ).loc main_arg1) = XA X1) : iblk m c 7 p = BB fun r k => X1 (rowR p r) k := by
  funext y
  blk_simp [iblk, idx p]
  rw [v175_read m c X1 h1]
  refine at2 (fun s k => X1 s k) (a' := rowR p (y 0)) (b' := y 1) ?_ ?_ <;> blk_simp [idx p, rowR]

/-- A chunk's rows, as loaded from a block. -/
theorem ld_rows (f : Fin 8192 → Fin 512 → ℝ) (e : Fin 1024 → Fin 8192) (n : Fin 64) (o : ℕ) (inb) (h : ∀ (r : Fin 128) (hr : o + r.val < 1024), e ⟨o + r.val, hr⟩ = cr n r) :
    View.ld (Val := Elt Ideal) (e' := .bf16) (S := S1024x512) (BB fun r k => f (e r) k) (Rect.unit ![o, 0] ![128, 512] inb) = VB fun r k => f (cr n r) k := by
  funext y
  have b : o + 128 ≤ 1024 := inb 0
  pointwise
  exact congrArg (fun s => ((f s (y 1) : ℝ) : EReal)) (h (y 0) _)

theorem rd4_real (h0 : m ((c : Thread nD τ).loc main_arg0) = XA X0) (n : Fin 64) (o : ℕ) (inb) (ho : p.val * 1024 + o = n.val * 128) :
    rd4 m c p o inb = VB fun r k => rq X0 (cr n r) (hh k) (hd k) := by
  show View.ld (View.read (Elt Ideal) (ms0_4 p).view ((hs0_4 p).unread (iblk m c 4 p))) (Rect.unit ![o, 0] ![128, 512] inb) = _
  rw [Memref.IsWhole.read_unread, blk4 m c X0 p h0]
  exact ld_rows (fun s k => rq X0 s (hh k) (hd k)) (row p) n o inb fun r hr => Fin.ext (by show p.val * 1024 + (o + r.val) = n.val * 128 + r.val; omega)
theorem rd5_real (h1 : m ((c : Thread nD τ).loc main_arg1) = XA X1) (n : Fin 64) (o : ℕ) (inb) (ho : p.val * 1024 + o = n.val * 128) :
    rd5 m c p o inb = VB fun r k => X1 (cr n r) k := by
  show View.ld (View.read (Elt Ideal) (ms0_5 p).view ((hs0_5 p).unread (iblk m c 5 p))) (Rect.unit ![o, 0] ![128, 512] inb) = _
  rw [Memref.IsWhole.read_unread, blk5 m c X1 p h1]
  exact ld_rows (fun s k => X1 s k) (row p) n o inb fun r hr => Fin.ext (by show p.val * 1024 + (o + r.val) = n.val * 128 + r.val; omega)
theorem rd6_real (h0 : m ((c : Thread nD τ).loc main_arg0) = XA X0) (n : Fin 64) (o : ℕ) (inb) (ho : (7 - p.val) * 1024 + o = n.val * 128) :
    rd6 m c p o inb = VB fun r k => rq X0 (cr n r) (hh k) (hd k) := by
  show View.ld (View.read (Elt Ideal) (ms0_6 p).view ((hs0_6 p).unread (iblk m c 6 p))) (Rect.unit ![o, 0] ![128, 512] inb) = _
  rw [Memref.IsWhole.read_unread, blk6 m c X0 p h0]
  exact ld_rows (fun s k => rq X0 s (hh k) (hd k)) (rowR p) n o inb fun r hr => Fin.ext (by show (7 - p.val) * 1024 + (o + r.val) = n.val * 128 + r.val; omega)
theorem rd7_real (h1 : m ((c : Thread nD τ).loc main_arg1) = XA X1) (n : Fin 64) (o : ℕ) (inb) (ho : (7 - p.val) * 1024 + o = n.val * 128) :
    rd7 m c p o inb = VB fun r k => X1 (cr n r) k := by
  show View.ld (View.read (Elt Ideal) (ms0_7 p).view ((hs0_7 p).unread (iblk m c 7 p))) (Rect.unit ![o, 0] ![128, 512] inb) = _
  rw [Memref.IsWhole.read_unread, blk7 m c X1 p h1]
  exact ld_rows (fun s k => X1 s k) (rowR p) n o inb fun r hr => Fin.ext (by show (7 - p.val) * 1024 + (o + r.val) = n.val * 128 + r.val; omega)
theorem rd0_real : rd0 m c p = VF fun r k => xb (hh k) r := by
  show View.ld (View.read (Elt Ideal) (ms0_0 p).view ((hs0_0 p).unread (iblk m c 0 p))) (Rect.unit ![0, 0] ![128, 512] inb_S128x512_S128x512_0_0) = _
  rw [Memref.IsWhole.read_unread, blk0]
  exact View.ld_unit_lit' (Val := Elt Ideal) (e := .f32) (S := S128x512) inb_S128x512_S128x512_0_0 _ (by decide)
theorem rd1_real : rd1 m c p = VF fun r k => xi lam (hh k) r := by
  show View.ld (View.read (Elt Ideal) (ms0_1 p).view ((hs0_1 p).unread (iblk m c 1 p))) (Rect.unit ![0, 0] ![128, 512] inb_S128x512_S128x512_0_0) = _
  rw [Memref.IsWhole.read_unread, blk1]
  exact View.ld_unit_lit' (Val := Elt Ideal) (e := .f32) (S := S128x512) inb_S128x512_S128x512_0_0 _ (by decide)
theorem rd2_real : rd2 m c p = VG fun k => Real.exp (128 * lamR (hh k)) := by
  show View.ld (View.read (Elt Ideal) (ms0_2 p).view ((hs0_2 p).unread (iblk m c 2 p))) (Rect.unit ![0, 0] ![1, 512] inb_S1x512_S1x512_0_0) = _
  rw [Memref.IsWhole.read_unread, blk2]
  exact View.ld_unit_lit' (Val := Elt Ideal) (e := .f32) (S := S1x512) inb_S1x512_S1x512_0_0 _ (by decide)
theorem rd3_real : rd3 m c p = VG fun k => Real.exp (128 * lam (hh k)) := by
  show View.ld (View.read (Elt Ideal) (ms0_3 p).view ((hs0_3 p).unread (iblk m c 3 p))) (Rect.unit ![0, 0] ![1, 512] inb_S1x512_S1x512_0_0) = _
  rw [Memref.IsWhole.read_unread, blk3]
  exact View.ld_unit_lit' (Val := Elt Ideal) (e := .f32) (S := S1x512) inb_S1x512_S1x512_0_0 _ (by decide)

end Cert.RetCarryIdeal.Val
-- ==== Proof.CarryGrid.lean ====
module

public import proofs.«01_k».proof.Proof.CarryHost

@[expose] public section

/-! # The carried states over the whole grid -/

set_option maxRecDepth 16384

noncomputable section

open Idealize.ShloMosaic Idealize.ShloMosaic.TcCoe Idealize.SL.Sem
open Idealize.ShloMosaic.Pipeline (Dat)

namespace Cert.RetCarryIdeal.Val

open Cert.RetCarryIdeal Cert.RetCarryIdeal.Gen Cert.Lift Cert.GmReal Cert.RetReal
open Cert.RetMainRefIdeal.Val (XA)

variable (m : (ℓ : Loc nD τ sig) → Buf (Elt Ideal) ℓ) (c : Dev nD) (X0 X1 : Fin 8192 → Fin 512 → ℝ)

/-- A chunk's contribution to a state, with a table of weights. -/
def upd (x : Fin 4 → Fin 128 → ℝ) (n : Fin 64) (d : Fin 128) (k : Fin 512) : ℝ :=
  ∑ i, rq X0 (cr n i) (hh k) d * x (hh k) i * X1 (cr n i) k

/-- The state before a number of chunks, from the first on, and from the last on. -/
def pre (n : ℕ) (d : Fin 128) (k : Fin 512) : ℝ :=
  scan (Real.exp (128 * lamR (hh k))) (fun a => upd X0 X1 xb ⟨a % 64, Nat.mod_lt _ (by decide)⟩ d k) n
def suf (n : ℕ) (d : Fin 128) (k : Fin 512) : ℝ :=
  scan (Real.exp (128 * lam (hh k))) (fun a => upd X0 X1 (xi lam) (Fin.rev ⟨a % 64, Nat.mod_lt _ (by decide)⟩) d k) n

variable {m c X0 X1} (h0 : m ((c : Thread nD τ).loc main_arg0) = XA X0) (h1 : m ((c : Thread nD τ).loc main_arg1) = XA X1) (p : Fin cfg0.N)

include h0 h1

theorem step0 (j o : ℕ) (inb) (ho : o = 128 * j) : st0 m c p o inb (VF (pre X0 X1 (8 * p.val + j))) = VF (pre X0 X1 (8 * p.val + (j + 1))) := by
  have hp : p.val < 8 := lt_of_lt_of_eq p.isLt N_0
  have b : o + 128 ≤ 1024 := inb 0
  have e : ((⟨(8 * p.val + j) % 64, Nat.mod_lt _ (by decide)⟩ : Fin 64)).val = 8 * p.val + j := Nat.mod_eq_of_lt (by omega)
  rw [st0, rd0_real, rd2_real, rd4_real m c X0 p h0 ⟨(8 * p.val + j) % 64, Nat.mod_lt _ (by decide)⟩ o inb (by rw [e]; omega),
    rd5_real m c X1 p h1 ⟨(8 * p.val + j) % 64, Nat.mod_lt _ (by decide)⟩ o inb (by rw [e]; omega), stp_real]
  refine congrArg VF (funext fun d => funext fun k => ?_)
  show pre X0 X1 (8 * p.val + j) d k * Real.exp (128 * lamR (hh k)) + _ = pre X0 X1 (8 * p.val + j) d k * Real.exp (128 * lamR (hh k)) + _
  refine congrArg _ (Finset.sum_congr rfl fun i _ => ?_)
  simp only [hh_hc, hd_hc]
  rfl

theorem step1 (j o : ℕ) (inb) (ho : o = 128 * (7 - j)) (hj : j < 8) : st1 m c p o inb (VF (suf X0 X1 (8 * p.val + j))) = VF (suf X0 X1 (8 * p.val + (j + 1))) := by
  have hp : p.val < 8 := lt_of_lt_of_eq p.isLt N_0
  have e : (Fin.rev (⟨(8 * p.val + j) % 64, Nat.mod_lt _ (by decide)⟩ : Fin 64)).val = 63 - (8 * p.val + j) := by
    rw [Fin.val_rev]; show 64 - ((8 * p.val + j) % 64 + 1) = _; omega
  rw [st1, rd1_real, rd3_real, rd6_real m c X0 p h0 (Fin.rev ⟨(8 * p.val + j) % 64, Nat.mod_lt _ (by decide)⟩) o inb (by rw [e]; omega),
    rd7_real m c X1 p h1 (Fin.rev ⟨(8 * p.val + j) % 64, Nat.mod_lt _ (by decide)⟩) o inb (by rw [e]; omega), stp_real]
  refine congrArg VF (funext fun d => funext fun k => ?_)
  show suf X0 X1 (8 * p.val + j) d k * Real.exp (128 * lam (hh k)) + _ = suf X0 X1 (8 * p.val + j) d k * Real.exp (128 * lam (hh k)) + _
  refine congrArg _ (Finset.sum_congr rfl fun i _ => ?_)
  simp only [hh_hc, hd_hc]
  rfl

/-- The states each point leaves to the next. -/
theorem left0 : ∀ (n : ℕ) (hn : n < cfg0.N), (outsAt0 m c n hn).2.2.1 = VF (pre X0 X1 (8 * n + 8)) := by
  intro n
  induction n with
  | zero => exact fun hn => atA_s0 (p := ⟨0, hn⟩) (fun j => pre X0 X1 (8 * 0 + j)) (fun j o inb ho => step0 h0 h1 ⟨0, hn⟩ j o inb ho) (Nat.zero_mod 8) rfl
  | succ n ih =>
    intro hn
    have hN : n + 1 < 8 := lt_of_lt_of_eq hn N_0
    exact atB_s0 (p := ⟨n + 1, hn⟩) (fun j => pre X0 X1 (8 * (n + 1) + j)) (fun j o inb ho => step0 h0 h1 ⟨n + 1, hn⟩ j o inb ho)
      (by show ¬(n + 1) % 8 = 0; omega) (ih _)
theorem left1 : ∀ (n : ℕ) (hn : n < cfg0.N), (outsAt0 m c n hn).2.2.2 = VF (suf X0 X1 (8 * n + 8)) := by
  intro n
  induction n with
  | zero => exact fun hn => atA_s1 (p := ⟨0, hn⟩) (fun j => suf X0 X1 (8 * 0 + j)) (fun j o inb ho hj => step1 h0 h1 ⟨0, hn⟩ j o inb ho hj) (Nat.zero_mod 8) rfl
  | succ n ih =>
    intro hn
    have hN : n + 1 < 8 := lt_of_lt_of_eq hn N_0
    exact atB_s1 (p := ⟨n + 1, hn⟩) (fun j => suf X0 X1 (8 * (n + 1) + j)) (fun j o inb ho hj => step1 h0 h1 ⟨n + 1, hn⟩ j o inb ho hj)
      (by show ¬(n + 1) % 8 = 0; omega) (ih _)

/-- What each point writes. -/
theorem out8 : (outsAt0 m c p.val p.isLt).1 = fun x => ((pre X0 X1 (8 * p.val + (x 0).val) (x 1) (x 2) : ℝ) : EReal) := by
  have hp : p.val < 8 := lt_of_lt_of_eq p.isLt N_0
  by_cases h : p.val % 8 = 0
  · have z : p.val = 0 := by omega
    exact atA_8 (p := p) (fun j => pre X0 X1 (8 * p.val + j)) (fun j o inb ho => step0 h0 h1 p j o inb ho) h (by rw [z]; rfl)
  · refine atB_8 (p := p) (fun j => pre X0 X1 (8 * p.val + j)) (fun j o inb ho => step0 h0 h1 p j o inb ho) h ?_
    rw [left0 h0 h1, show 8 * (p.val - 1) + 8 = 8 * p.val + 0 by omega]
theorem out9 : (outsAt0 m c p.val p.isLt).2.1 = fun x => ((suf X0 X1 (8 * p.val + (7 - (x 0).val)) (x 1) (x 2) : ℝ) : EReal) := by
  have hp : p.val < 8 := lt_of_lt_of_eq p.isLt N_0
  by_cases h : p.val % 8 = 0
  · have z : p.val = 0 := by omega
    exact atA_9 (p := p) (fun j => suf X0 X1 (8 * p.val + j)) (fun j o inb ho hj => step1 h0 h1 p j o inb ho hj) h (by rw [z]; rfl)
  · refine atB_9 (p := p) (fun j => suf X0 X1 (8 * p.val + j)) (fun j o inb ho hj => step1 h0 h1 p j o inb ho hj) h ?_
    rw [left1 h0 h1, show 8 * (p.val - 1) + 8 = 8 * p.val + 0 by omega]

omit h0 h1 in
theorem at3 (f : ℕ → Fin 128 → Fin 512 → ℝ) {n n' : ℕ} {a a' : Fin 128} {b b' : Fin 512}
    (hn : n = n') (ha : a.val = a'.val) (hb : b.val = b'.val) : ((f n a b : ℝ) : EReal) = ((f n' a' b' : ℝ) : EReal) := by
  rw [hn, Fin.ext ha, Fin.ext hb]

/-- The two arrays after the whole grid: every block is some point's. -/
theorem final8 : (dats m 0 c).arrAt 8 cfg0.N = fun i : S64x128x512.Idx => ((pre X0 X1 (i 0).val (i 1) (i 2) : ℝ) : EReal) := by
  refine (dats m 0 c).arrAt_eq_of_covers 8 _ (by decide +kernel) fun p hf y => ?_
  have hp : p.val < 8 := lt_of_lt_of_eq p.isLt N_0
  have hy : (y 0).val < 8 := (y 0).isLt
  blk_simp
  refine (congrFun (out8 h0 h1 p) y).trans ?_
  refine at3 (pre X0 X1) (a := y 1) (b := y 2) ?_ ?_ ?_ <;> blk_simp [idx p] <;> omega
theorem final9 : (dats m 0 c).arrAt 9 cfg0.N = fun i : S64x128x512.Idx => ((suf X0 X1 (63 - (i 0).val) (i 1) (i 2) : ℝ) : EReal) := by
  refine (dats m 0 c).arrAt_eq_of_covers 9 _ (by decide +kernel) fun p hf y => ?_
  have hp : p.val < 8 := lt_of_lt_of_eq p.isLt N_0
  have hy : (y 0).val < 8 := (y 0).isLt
  blk_simp
  refine (congrFun (out9 h0 h1 p) y).trans ?_
  refine at3 (suf X0 X1) (a := y 1) (b := y 2) ?_ ?_ ?_ <;> blk_simp [idx p] <;> omega

omit h0 h1

/-- The running sums in closed form. -/
theorem pre_eq (n : Fin 64) (d : Fin 128) (k : Fin 512) :
    pre X0 X1 n.val d k = carry lamR (xi lamR) (bk (rq X0)) (bk (rv X1)) n.rev (hh k) d (hd k) := by
  have e := scan_suf lamR (hh k) (fun a => upd X0 X1 xb ⟨a % 64, Nat.mod_lt _ (by decide)⟩ d k)
    (fun n => own (xi lamR) (bk (rq X0)) (bk (rv X1)) n (hh k) d (hd k)) (fun a => ?_) n.rev
  · rw [Fin.rev_rev] at e; exact e
  · have ea : (⟨a.val % 64, Nat.mod_lt _ (by decide)⟩ : Fin 64) = a := Fin.ext (Nat.mod_eq_of_lt a.isLt)
    show upd X0 X1 xb (⟨a.val % 64, Nat.mod_lt _ (by decide)⟩ : Fin 64) d k = _
    rw [ea, upd, own, ← Equiv.sum_comp Fin.revPerm]
    refine Finset.sum_congr rfl fun i _ => ?_
    have er : (cr a.rev i).rev = cr a i.rev := Fin.ext (by rw [Fin.val_rev]; show 8192 - (a.rev.val * 128 + i.val + 1) = a.val * 128 + i.rev.val; rw [Fin.val_rev, Fin.val_rev]; omega)
    show rq X0 (cr a i.rev) (hh k) d * xb (hh k) i.rev * X1 (cr a i.rev) k = rv X1 (cr a.rev i).rev (hh k) (hd k) * (rq X0 (cr a.rev i).rev (hh k) d * xi lamR (hh k) i)
    have ex : xb (hh k) i.rev = xi lamR (hh k) i := by
      rw [xb, xi, Fin.val_rev, Nat.cast_sub (by omega)]; congr 2; push_cast; ring
    rw [er, rv, hc_of, ex]; ring
theorem suf_eq (n : Fin 64) (d : Fin 128) (k : Fin 512) :
    suf X0 X1 (63 - n.val) d k = carry lam (xi lam) (rq X0) (rv X1) n (hh k) d (hd k) := by
  have e := scan_suf lam (hh k) (fun a => upd X0 X1 (xi lam) (Fin.rev ⟨a % 64, Nat.mod_lt _ (by decide)⟩) d k)
    (fun n => own (xi lam) (rq X0) (rv X1) n (hh k) d (hd k)) (fun a => ?_) n
  · rw [Fin.val_rev, show 64 - (n.val + 1) = 63 - n.val by omega] at e; exact e
  · have ea : (⟨a.val % 64, Nat.mod_lt _ (by decide)⟩ : Fin 64) = a := Fin.ext (Nat.mod_eq_of_lt a.isLt)
    show upd X0 X1 (xi lam) (Fin.rev (⟨a.val % 64, Nat.mod_lt _ (by decide)⟩ : Fin 64)) d k = _
    rw [ea, upd, own]
    refine Finset.sum_congr rfl fun i _ => ?_
    rw [rv, hc_of]; ring

end Cert.RetCarryIdeal.Val
-- ==== Proof.RetCarry.lean ====
module

public import proofs.«01_k».proof.Defs
public import proofs.«01_k».proof.Proof.CarryGrid
public import proofs.«01_k».proof.Proof.Gen.Pre_finite_retcarry
public import Idealize.ShloMosaic.Lib.KernelVsHost
public import proofs.«01_k».proof.Proof.Gen.RetCarryIdeal.Value
public import proofs.«01_k».proof.Proof.Gen.RetCarryRefIdeal.Run

@[expose] public section

/-! # The gradients of the retention's states: kernel and reference agree -/

set_option maxRecDepth 16384

noncomputable section

open Idealize.ShloMosaic Idealize.ShloMosaic.TcCoe Idealize.SL.Sem

namespace Cert.RetCarryIdeal.Val

open Cert.Lift Cert.RetReal
open Cert.RetMainRefIdeal.Val (XA)

/-- Finite arguments are real arguments. -/
theorem pre_real (a0 a1 : FVec Ideal RetCarryIdeal.S8192x512 .f32)
    (h : (Cert.Pre_finite_retcarry.fn (F := Ideal) a0 a1).1 = (fun _ => 1#1) ∧ (Cert.Pre_finite_retcarry.fn (F := Ideal) a0 a1).2 = (fun _ => 1#1)) :
    ∃ X0 X1, a0 = XA X0 ∧ a1 = XA X1 := by
  obtain ⟨h0, h1⟩ := h
  obtain ⟨X0, rfl⟩ := real_of_words a0 fun i => congrFun h0 i
  obtain ⟨X1, rfl⟩ := real_of_words a1 fun i => congrFun h1 i
  have e (f : RetCarryIdeal.S8192x512.Idx → ℝ) : (fun i => ((f i : ℝ) : EReal)) = XA fun n k => f (ix2 n k) :=
    funext fun i => congrArg (fun j => ((f j : ℝ) : EReal)) (funext fun a => match a with | ⟨0, _⟩ => rfl | ⟨1, _⟩ => rfl)
  exact ⟨_, _, e X0, e X1⟩

variable (X0 X1 : Fin 8192 → Fin 512 → ℝ)

theorem pre_array : (fun i : RetCarryIdeal.S64x128x512.Idx => ((pre X0 X1 (i 0).val (i 1) (i 2) : ℝ) : EReal))
    = RetCarryRefIdeal.Read.val_main_v148 (F := Ideal) (XA X0) (XA X1) := by
  rw [RetCarryRefIdeal.Val.v148_real]
  funext i
  exact congrArg Real.toEReal (pre_eq (i 0) (i 1) (i 2))
theorem suf_array : (fun i : RetCarryIdeal.S64x128x512.Idx => ((suf X0 X1 (63 - (i 0).val) (i 1) (i 2) : ℝ) : EReal))
    = RetCarryRefIdeal.Read.val_main_v151 (F := Ideal) (XA X0) (XA X1) := by
  rw [RetCarryRefIdeal.Val.v151_real]
  funext i
  exact congrArg Real.toEReal (suf_eq (i 0) (i 1) (i 2))

set_option maxHeartbeats 2000000 in
theorem algebraic : Cert.algebraic_RetCarryIdeal_RetCarryRefIdeal_pre_finite_retcarry := by
  pair_intro
  · exact Cert.RetCarryIdeal.Value.run_blocks m g
  · choose X0 X1 h0 h1 using fun c => pre_real _ _ (hpre c)
    run_from Cert.RetCarryRefIdeal.Value.run m' g'
    all_goals obtain ⟨a0, a1⟩ := hagree c
    · rw [final8 (h0 c) (h1 c), pre_array, ← h0 c, ← h1 c, ← a0, ← a1]
      exact RetCarryRefIdeal.Read.val_main_v148_eq (StableHlo.launchContents m' c)
    · rw [final9 (h0 c) (h1 c), suf_array, ← h0 c, ← h1 c, ← a0, ← a1]
      exact RetCarryRefIdeal.Read.val_main_v151_eq (StableHlo.launchContents m' c)

end Cert.RetCarryIdeal.Val

end
-- ==== Proof.SwigluRef.lean ====
module

public import proofs.«01_k».proof.Proof.Gen.SwigluRefIdeal.Read
public import proofs.«01_k».proof.Proof.Gen.SwigluWRefIdeal.Read
public import proofs.«01_k».proof.Proof.GmReal
public import Idealize.ShloMosaic.Lib.Pipeline.ValueKit

@[expose] public section

/-! # What the references of the swiglu's gradients compute -/

set_option maxRecDepth 16384

noncomputable section

namespace Cert.SwigluReal

open Cert.Lift Idealize.ShloMosaic

/-- The logistic function. -/
def lgs (z : ℝ) : ℝ := 1 / (1 + Real.exp (-z))

theorem lgs_coe (z : ℝ) : Ideal.div ((1 : ℝ) : EReal) (((1 : ℝ) : EReal) + Ideal.exp ((-z : ℝ) : EReal)) = ((lgs z : ℝ) : EReal) := by
  rw [Ideal.exp_coe, add_coe, div_coe _ _ (by positivity), lgs]

/-- The columns that hold the gate and the columns that hold the other factor. -/
def lo (k : Fin 2816) : Fin 5632 := ⟨k.val, by omega⟩
def hi (k : Fin 2816) : Fin 5632 := ⟨2816 + k.val, by omega⟩

variable (f : Fin 5632 → ℝ) (w : Fin 2816 → Fin 1024 → ℝ) (y : Fin 1024 → ℝ)

/-- The activation of a row, and the gradient in it. -/
def act (k : Fin 2816) : ℝ := f (lo k) * lgs (f (lo k)) * f (hi k)
def dact (k : Fin 2816) : ℝ := ∑ d, y d * w k d

/-- The gradients in the gate and in the other factor. -/
def dgate (k : Fin 2816) : ℝ := dact w y k * f (hi k) * (lgs (f (lo k)) + f (lo k) * lgs (f (lo k)) - f (lo k) * lgs (f (lo k)) * lgs (f (lo k)))
def dup (k : Fin 2816) : ℝ := dact w y k * (f (lo k) * lgs (f (lo k)))

/-- The gradient in a row. -/
def dff (j : Fin 5632) : ℝ := if h : j.val < 2816 then dgate f w y ⟨j.val, h⟩ else dup f w y ⟨j.val - 2816, by omega⟩

theorem dff_lo {k : Fin 2816} {j : Fin 5632} (e : j.val = k.val) : dff f w y j = dgate f w y k := by
  have h : j.val < 2816 := by omega
  rw [dff, dif_pos h]
  exact congrArg _ (Fin.ext e)
theorem dff_hi {k : Fin 2816} {j : Fin 5632} (e : j.val = 2816 + k.val) : dff f w y j = dup f w y k := by
  have h : ¬j.val < 2816 := by omega
  rw [dff, dif_neg h]
  exact congrArg _ (Fin.ext (by show j.val - 2816 = k.val; omega))

end Cert.SwigluReal

namespace Cert.SwigluRefIdeal.Val

open Cert.SwigluRefIdeal Cert.SwigluRefIdeal.Read Cert.Lift Cert.SwigluReal Idealize.ShloMosaic

variable (f : Fin 8192 → Fin 5632 → ℝ) (w : Fin 2816 → Fin 1024 → ℝ) (y : Fin 8192 → Fin 1024 → ℝ)

/-- The arguments, as arrays of reals. -/
abbrev XF : FVec Ideal S8192x5632 .f32 := fun i => ((f (i 0) (i 1) : ℝ) : EReal)
abbrev XW : FVec Ideal S2816x1024 .f32 := fun i => ((w (i 0) (i 1) : ℝ) : EReal)
abbrev XY : FVec Ideal S8192x1024 .f32 := fun i => ((y (i 0) (i 1) : ℝ) : EReal)
/-- An array of the hidden width. -/
abbrev H (g : Fin 8192 → Fin 2816 → ℝ) : FVec Ideal S8192x2816 .f32 := fun i => ((g (i 0) (i 1) : ℝ) : EReal)

theorem v0_real : val_main_v0 (F := Ideal) (XF f) = H fun n k => f n (lo k) := by
  funext i; simp only [val_main_v0_apply, XF]; rfl

theorem v1_real : val_main_v1 (F := Ideal) (XF f) = H fun n k => f n (hi k) := by
  funext i; simp only [val_main_v1_apply, XF]; rfl

theorem v2_2_real : val_main_v2_2 (F := Ideal) (XF f) = H fun n k => lgs (f n (lo k)) := by
  funext i
  pointwise [val_main_v2_2, val_main_call0_v4, val_main_call0_cst_0, val_main_call0_v3, val_main_call0_v2, val_main_call0_cst, val_main_call0_v1, val_main_call0_v0, v0_real]
  simp only [one_coe, neg_coe]
  exact lgs_coe _

theorem v2_0_real : val_main_v2_0 (F := Ideal) (XF f) = H fun n k => f n (lo k) * lgs (f n (lo k)) := by
  funext i
  pointwise [val_main_v2_0, v0_real, v2_2_real]
  simp only [mul_coe]

theorem v3_real : val_main_v3 (F := Ideal) (XF f) = H fun n k => act (f n) k := by
  funext i
  pointwise [val_main_v3, v1_real, v2_0_real]
  simp only [mul_coe]
  rfl

theorem v2_1_real : val_main_v2_1 (F := Ideal) (XF f) = H fun n k => lgs (f n (lo k)) * (1 - lgs (f n (lo k))) := by
  funext i
  pointwise [val_main_v2_1, val_main_call0_v7, val_main_call0_v6, val_main_call0_cst_1, v2_2_real]
  simp only [one_coe, mul_coe, sub_coe]

theorem v7_real : val_main_v7 (F := Ideal) (XW w) (XY y) = H fun n k => dact w (y n) k := by
  funext i
  rw [val_main_v7_apply]
  pointwise
  simp only [mul_coe, sum_coe]
  rfl

theorem v8_real : val_main_v8 (F := Ideal) (XF f) (XW w) (XY y) = H fun n k => dup (f n) w (y n) k := by
  funext i
  pointwise [val_main_v8, v2_0_real, v7_real]
  simp only [mul_coe]
  exact congrArg Real.toEReal (mul_comm _ _)

theorem v10_real : val_main_v10 (F := Ideal) (XF f) (XW w) (XY y) = H fun n k => dgate (f n) w (y n) k := by
  funext i
  pointwise [val_main_v10, val_main_call1_v2, val_main_call1_v1, val_main_call1_v0, val_main_v9, v0_real, v1_real, v2_1_real, v2_2_real, v7_real]
  simp only [mul_coe, add_coe]
  exact congrArg Real.toEReal (show _ = dgate (f (i 0)) w (y (i 0)) (i 1) by unfold dgate; ring)

theorem v12_real : val_main_v12 (F := Ideal) (XF f) (XW w) (XY y) = fun i => ((dff (f (i 0)) w (y (i 0)) (i 1) : ℝ) : EReal) := by
  funext i
  pointwise [val_main_v12, val_main_v11, v8_real, v10_real]
  by_cases h : (i 1).val < 2816
  · simp only [dff, h, dif_pos]; rfl
  · simp only [dff, h, dif_neg, not_false_eq_true]; rfl

end Cert.SwigluRefIdeal.Val

namespace Cert.SwigluWRefIdeal.Val

open Cert.SwigluWRefIdeal Cert.SwigluWRefIdeal.Read Cert.Lift Cert.SwigluReal Idealize.ShloMosaic
open Cert.SwigluRefIdeal.Val (XF XW XY H)

variable (f : Fin 8192 → Fin 5632 → ℝ) (w : Fin 2816 → Fin 1024 → ℝ) (y : Fin 8192 → Fin 1024 → ℝ)

theorem v3_real : val_main_v3 (F := Ideal) (XF f) = H fun n k => act (f n) k := SwigluRefIdeal.Val.v3_real f

theorem v12_real : val_main_v12 (F := Ideal) (XF f) (XY y) = fun i => ((∑ n, act (f n) (i 0) * y n (i 1) : ℝ) : EReal) := by
  funext i
  pointwise [val_main_v12, val_main_v6]
  rw [val_main_v5_apply]
  pointwise [v3_real]
  simp only [mul_coe, sum_coe]
  exact congrArg Real.toEReal (Finset.sum_congr rfl fun n _ => mul_comm _ _)

end Cert.SwigluWRefIdeal.Val

end
-- ==== Proof.SwigluKernel.lean ====
module

public import proofs.«01_k».proof.Proof.Gen.SwigluIdeal.Value
public import proofs.«01_k».proof.Proof.SwigluRef
public import Idealize.ShloMosaic.Lib.StableHlo.Run

@[expose] public section

/-! # The gradient in the swiglu's argument, as the kernel computes it -/

set_option maxRecDepth 16384

noncomputable section

open Idealize.ShloMosaic Idealize.ShloMosaic.TcCoe Idealize.SL.Sem
open Idealize.ShloMosaic.Pipeline (Dat)

namespace Cert.SwigluIdeal.Val

open Cert.SwigluIdeal Cert.SwigluIdeal.Gen Cert.Lift Cert.SwigluReal
open Cert.SwigluRefIdeal.Val (XF XW XY)

section payloads

variable (f : Fin 512 → Fin 5632 → ℝ) (w : Fin 2816 → Fin 1024 → ℝ) (y : Fin 512 → Fin 1024 → ℝ)

/-- A block of rows of the three widths, and the weights. -/
abbrev BF : FVec Ideal S512x5632 .bf16 := fun i => ((f (i 0) (i 1) : ℝ) : EReal)
abbrev BY : FVec Ideal S512x1024 .f32 := fun i => ((y (i 0) (i 1) : ℝ) : EReal)
abbrev BW : FVec Ideal S2816x1024 .bf16 := fun i => ((w (i 0) (i 1) : ℝ) : EReal)
abbrev BH (g : Fin 512 → Fin 2816 → ℝ) : FVec Ideal S512x2816 .bf16 := fun i => ((g (i 0) (i 1) : ℝ) : EReal)
abbrev BC (g : Fin 512 → Fin 2816 → ℝ) : FVec Ideal S512x2816 .f32 := fun i => ((g (i 0) (i 1) : ℝ) : EReal)

theorem ld_w : View.ld (Val := Elt Ideal) (e' := .bf16) (S := S2816x1024) (BW w) r0_1 = BW w := View.ld_unit_lit' _ _ (by decide)
theorem ld_y : View.ld (Val := Elt Ideal) (e' := .f32) (S := S512x1024) (BY y) r0_0 = BY y := View.ld_unit_lit' _ _ (by decide)
theorem ld_lo : View.ld (Val := Elt Ideal) (e' := .bf16) (S := S512x5632) (BF f) r0_2 = BH fun n k => f n (lo k) := by
  funext i
  unfold r0_2
  pointwise
  rfl
theorem ld_hi : View.ld (Val := Elt Ideal) (e' := .bf16) (S := S512x5632) (BF f) r0_3 = BH fun n k => f n (hi k) := by
  funext i
  unfold r0_3
  pointwise
  rfl

variable (g u : Fin 512 → Fin 2816 → ℝ)

theorem pay1_real : k0_pay1 (F := Ideal) (BY y) (BW w) = BC fun n k => dact w (y n) k := by
  funext i
  pointwise [k0_pay1]
  simp only [mul_coe, sum_coe]
  rfl

theorem pay3_real : k0_pay3 (F := Ideal) (BH g) = BC fun n k => lgs (g n k) := by
  funext i
  pointwise [k0_pay3, k0_pay2]
  simp only [zero_sub, one_coe, neg_coe]
  exact lgs_coe _

theorem pay4_real : k0_pay4 (F := Ideal) (BH g) = BC fun n k => g n k * lgs (g n k) := by
  funext i
  pointwise [k0_pay4, k0_pay2, pay3_real]
  simp only [mul_coe]

theorem pay5_real : k0_pay5 (F := Ideal) (BY y) (BW w) (BH fun n k => f n (lo k)) (BH fun n k => f n (hi k)) = BH fun n k => dgate (f n) w (y n) k := by
  funext i
  pointwise [k0_pay5, pay1_real, pay3_real, pay4_real]
  simp only [mul_coe, add_coe, sub_coe]
  rfl

theorem pay6_real : k0_pay6 (F := Ideal) (BY y) (BW w) (BH fun n k => f n (lo k)) = BH fun n k => dup (f n) w (y n) k := by
  funext i
  pointwise [k0_pay6, pay1_real, pay4_real]
  simp only [mul_coe]
  rfl

theorem at_lo {n n' : Fin 512} {k : Fin 2816} {j : Fin 5632} (e : n'.val = n.val) (e' : j.val = k.val) :
    ((dgate (f n) w (y n) k : ℝ) : EReal) = ((dff (f n') w (y n') j : ℝ) : EReal) := by
  obtain rfl := Fin.ext e
  rw [dff_lo _ _ _ e']
theorem at_hi {n n' : Fin 512} {k : Fin 2816} {j : Fin 5632} (e : n'.val = n.val) (e' : j.val = 2816 + k.val) :
    ((dup (f n) w (y n) k : ℝ) : EReal) = ((dff (f n') w (y n') j : ℝ) : EReal) := by
  obtain rfl := Fin.ext e
  rw [dff_hi _ _ _ e']

/-- What a point writes. -/
theorem out_real : out0_3 (F := Ideal) (BY y) (BW w) (BF f) = BF fun n j => dff (f n) w (y n) j := by
  funext x
  rw [out0_3, ld_w, ld_y, ld_lo, ld_hi, pay5_real, pay6_real]
  unfold r0_2 r0_3
  canon_tiles x
  case piece0 =>
    exact at_hi f w y h0 h1
  case piece1 =>
    exact at_lo f w y h0 h1

end payloads

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The row of the array that a point's block has at `r`. -/
def row (t : Fin cfg0.N) (r : Fin 512) : Fin 8192 := ⟨t.val * 512 + r.val, by have h : t.val < 16 := lt_of_lt_of_eq t.isLt N_0; omega⟩

variable {m} {f : Fin 8192 → Fin 5632 → ℝ} {w : Fin 2816 → Fin 1024 → ℝ} {y : Fin 8192 → Fin 1024 → ℝ} {c : Dev nD}

theorem blk0 (hy : m ((c : Thread nD τ).loc main_arg2) = XY y) (p : Fin cfg0.N) : iblk m c 0 p = BY fun r => y (row p r) := by
  funext z
  blk_simp [iblk, idx p]
  entry_read
  rw [hy]
  refine congrArg Real.toEReal (congrArg₂ y (Fin.ext ?_) (Fin.ext ?_)) <;> blk_simp [idx p, row]

theorem blk1 (hw : m ((c : Thread nD τ).loc main_arg1) = XW w) (p : Fin cfg0.N) : iblk m c 1 p = BW w := by
  funext z
  blk_simp [iblk, idx p]
  entry_read
  rw [hw]
  pointwise
  refine congrArg Real.toEReal (congrArg₂ w (Fin.ext ?_) (Fin.ext ?_)) <;> blk_simp [idx p]

theorem blk2 (hf : m ((c : Thread nD τ).loc main_arg0) = XF f) (p : Fin cfg0.N) : iblk m c 2 p = BF fun r => f (row p r) := by
  funext z
  blk_simp [iblk, idx p]
  entry_read
  rw [hf]
  pointwise
  refine congrArg Real.toEReal (congrArg₂ f (Fin.ext ?_) (Fin.ext ?_)) <;> blk_simp [idx p, row]

/-- The gradient after the run. -/
theorem final3 (hf : m ((c : Thread nD τ).loc main_arg0) = XF f) (hw : m ((c : Thread nD τ).loc main_arg1) = XW w) (hy : m ((c : Thread nD τ).loc main_arg2) = XY y) :
    (dats m 0 c).arrAt 3 (cfgs 0).N = fun i : S8192x5632.Idx => ((dff (f (i 0)) w (y (i 0)) (i 1) : ℝ) : EReal) := by
  refine (dats m 0 c).arrAt_eq_of_covers 3 _ (by decide +kernel) fun p _ z => ?_
  blk_simp
  rw [after0_3, blk0 hy p, blk1 hw p, blk2 hf p, out_real]
  have e0 : row p (z 0) = ((cfg0.win 3).blk p).view.emb z 0 := Fin.ext (by blk_simp [idx p, row])
  have e1 : z 1 = ((cfg0.win 3).blk p).view.emb z 1 := Fin.ext (by blk_simp [idx p])
  exact congrArg Real.toEReal (congrArg₂ (fun r k => dff (f r) w (y r) k) e0 e1)

end Cert.SwigluIdeal.Val

end
-- ==== Proof.Swiglu.lean ====
module

public import proofs.«01_k».proof.Defs
public import proofs.«01_k».proof.Proof.SwigluKernel
public import proofs.«01_k».proof.Proof.Gen.Pre_finite_swiglu
public import Idealize.ShloMosaic.Lib.KernelVsHost
public import proofs.«01_k».proof.Proof.Gen.SwigluRefIdeal.Run

@[expose] public section

/-! # The gradient in the swiglu's argument: kernel and reference agree -/

set_option maxRecDepth 16384

noncomputable section

open Idealize.ShloMosaic Idealize.ShloMosaic.TcCoe Idealize.SL.Sem

namespace Cert.SwigluIdeal.Val

open Cert.Lift
open Cert.SwigluRefIdeal.Val (XF XW XY)

/-- Finite arguments are real arguments. -/
theorem real_args (a0 : FVec Ideal SwigluIdeal.S8192x5632 .f32) (a1 : FVec Ideal SwigluIdeal.S2816x1024 .f32) (a2 : FVec Ideal SwigluIdeal.S8192x1024 .f32)
    (h0 : ∀ i, Ideal.cmp .olt (max (a0 i) (-a0 i)) (Ideal.ofBits .f32 0x7F800000#32) = 1#1)
    (h1 : ∀ i, Ideal.cmp .olt (max (a1 i) (-a1 i)) (Ideal.ofBits .f32 0x7F800000#32) = 1#1)
    (h2 : ∀ i, Ideal.cmp .olt (max (a2 i) (-a2 i)) (Ideal.ofBits .f32 0x7F800000#32) = 1#1) :
    ∃ f w y, a0 = XF f ∧ a1 = XW w ∧ a2 = XY y := by
  obtain ⟨X0, rfl⟩ := real_of_words a0 h0
  obtain ⟨X1, rfl⟩ := real_of_words a1 h1
  obtain ⟨X2, rfl⟩ := real_of_words a2 h2
  exact ⟨fun n k => X0 (ix2 n k), fun n k => X1 (ix2 n k), fun n k => X2 (ix2 n k),
    funext fun i => congrArg (fun j => ((X0 j : ℝ) : EReal)) (funext fun a => match a with | ⟨0, _⟩ => rfl | ⟨1, _⟩ => rfl),
    funext fun i => congrArg (fun j => ((X1 j : ℝ) : EReal)) (funext fun a => match a with | ⟨0, _⟩ => rfl | ⟨1, _⟩ => rfl),
    funext fun i => congrArg (fun j => ((X2 j : ℝ) : EReal)) (funext fun a => match a with | ⟨0, _⟩ => rfl | ⟨1, _⟩ => rfl)⟩

theorem pre_real (a0 : FVec Ideal SwigluIdeal.S8192x5632 .f32) (a1 : FVec Ideal SwigluIdeal.S2816x1024 .f32) (a2 : FVec Ideal SwigluIdeal.S8192x1024 .f32)
    (h : (Cert.Pre_finite_swiglu.fn (F := Ideal) a0 a1 a2).1 = (fun _ => 1#1) ∧ (Cert.Pre_finite_swiglu.fn (F := Ideal) a0 a1 a2).2.1 = (fun _ => 1#1)
      ∧ (Cert.Pre_finite_swiglu.fn (F := Ideal) a0 a1 a2).2.2 = (fun _ => 1#1)) :
    ∃ f w y, a0 = XF f ∧ a1 = XW w ∧ a2 = XY y := real_args a0 a1 a2 (fun i => congrFun h.1 i) (fun i => congrFun h.2.1 i) (fun i => congrFun h.2.2 i)

theorem algebraic : Cert.algebraic_SwigluIdeal_SwigluRefIdeal_pre_finite_swiglu := by
  pair_intro
  · exact Cert.SwigluIdeal.Value.run_blocks m g
  · choose f w y h0 h1 h2 using fun c => pre_real _ _ _ (hpre c)
    run_from Cert.SwigluRefIdeal.Value.run m' g'
    obtain ⟨a0, a1, a2⟩ := hagree c
    rw [final3 (h0 c) (h1 c) (h2 c), ← SwigluRefIdeal.Val.v12_real, ← h0 c, ← h1 c, ← h2 c, ← a0, ← a1, ← a2]
    exact SwigluRefIdeal.Read.val_main_v12_eq _ _ _

end Cert.SwigluIdeal.Val

end
-- ==== Proof.SwigluWKernel.lean ====
module

public import proofs.«01_k».proof.Proof.Gen.SwigluWIdeal.Value
public import proofs.«01_k».proof.Proof.SwigluRef
public import Idealize.ShloMosaic.Lib.StableHlo.Run

@[expose] public section

/-! # The gradient in the second product's weights, as the kernel computes it -/

set_option maxRecDepth 16384

noncomputable section

open Idealize.ShloMosaic Idealize.ShloMosaic.TcCoe Idealize.SL.Sem
open Idealize.ShloMosaic.Pipeline (Dat)

namespace Cert.SwigluWIdeal.Val

open Cert.SwigluWIdeal Cert.SwigluWIdeal.Gen Cert.Lift Cert.SwigluReal
open Cert.SwigluRefIdeal.Val (XF XW XY)

section payloads

variable (f : Fin 512 → Fin 5632 → ℝ) (y : Fin 512 → Fin 1024 → ℝ)

/-- A block of rows of the two widths. -/
abbrev BF : FVec Ideal S512x5632 .bf16 := fun i => ((f (i 0) (i 1) : ℝ) : EReal)
abbrev BY : FVec Ideal S512x1024 .f32 := fun i => ((y (i 0) (i 1) : ℝ) : EReal)

theorem pay1_zero (i) : k0_pay1 (F := Ideal) i = 0 := by
  pointwise [k0_pay1]

theorem pay2_real (a : Vec Ideal S2816x1024 .f32) (i) :
    k0_pay2 (F := Ideal) a (BF f) (BY y) i = a i + ((∑ n, act (f n) (i 0) * y n (i 1) : ℝ) : EReal) := by
  pointwise [k0_pay2]
  simp only [zero_sub, one_coe, neg_coe, lgs_coe, mul_coe, sum_coe]
  rfl

theorem pay3_apply (a : Vec Ideal S2816x1024 .f32) (i) : k0_pay3 (F := Ideal) a i = a i := by
  pointwise [k0_pay3]

end payloads

variable (m : (ℓ : Loc nD τ sig) → Buf (Elt Ideal) ℓ)

theorem idx : ∀ t : Fin cfg0.N, win0_0.index t = ![t.val, 0] ∧ win0_1.index t = ![t.val, 0] ∧ win0_2.index t = ![0, 0] :=
  (by decide +kernel : ∀ t : Fin grid0.N, _)

/-- The row of the array that a point's block has at `r`. -/
def row (t : Fin cfg0.N) (r : Fin 512) : Fin 8192 := ⟨t.val * 512 + r.val, by have h : t.val < 16 := lt_of_lt_of_eq t.isLt N_0; omega⟩

variable {m} {f : Fin 8192 → Fin 5632 → ℝ} {y : Fin 8192 → Fin 1024 → ℝ} {c : Dev nD}

theorem blk0 (hf : m ((c : Thread nD τ).loc main_arg0) = XF f) (p : Fin cfg0.N) : iblk m c 0 p = BF fun r => f (row p r) := by
  funext z
  blk_simp [iblk, idx p]
  entry_read
  rw [hf]
  pointwise
  refine congrArg Real.toEReal (congrArg₂ f (Fin.ext ?_) (Fin.ext ?_)) <;> blk_simp [idx p, row]

theorem blk1 (hy : m ((c : Thread nD τ).loc main_arg2) = XY y) (p : Fin cfg0.N) : iblk m c 1 p = BY fun r => y (row p r) := by
  funext z
  blk_simp [iblk, idx p]
  entry_read
  rw [hy]
  refine congrArg Real.toEReal (congrArg₂ y (Fin.ext ?_) (Fin.ext ?_)) <;> blk_simp [idx p, row]

/-- The gradient after the run. -/
theorem final2 (hf : m ((c : Thread nD τ).loc main_arg0) = XF f) (hy : m ((c : Thread nD τ).loc main_arg2) = XY y) :
    (dats m 0 c).arrAt 2 (cfgs 0).N = fun i : S2816x1024.Idx => ((∑ n, act (f n) (i 0) * y n (i 1) : ℝ) : EReal) := by
  refine (dats m 0 c).arrAt_eq_of_after_last 2 t0_15 (by decide +kernel) _ fun j => ?_
  blk_simp
  have e : (outsAt0 m c t0_15.val t0_15.isLt).1 j = (outsAt0 m c t0_15.val t0_15.isLt).2 j := by
    rw [outsAt0_C m c t0_15 (by decide) rfl]
    frame_out
    exact pay3_apply _ _
  rw [after0_2, e, Pipeline.eq_sum_fin_of_reset_step_apply_last (fun n h => (outsAt0 m c n h).2) 16 (fun _ => 0)
    (fun p j => ((∑ r, act (f (row p r)) (j 0) * y (row p r) (j 1) : ℝ) : EReal))
    (fun p h j => by
      rw [outsAt0_A m c p h (by omega)]; frame_out
      rw [blk0 hf p, blk1 hy p, pay2_real, pay1_zero])
    (fun p h j => by
      by_cases h' : p.val % 16 = 15
      · rw [outsAt0_C m c p h h']; frame_out
        rw [blk0 hf p, blk1 hy p, pay2_real]
        exact congrArg (· + _) (congrFun (Memref.IsWhole.read_unread _ _) j)
      · rw [outsAt0_B m c p h h']; frame_out
        rw [blk0 hf p, blk1 hy p, pay2_real]
        exact congrArg (· + _) (congrFun (Memref.IsWhole.read_unread _ _) j))
    (le_of_eq N_0) t0_15 rfl j, zero_add, sum_coe]
  exact congrArg Real.toEReal (Fin.sum_mul_add_congr (S := 16) (n := 512) (f := fun n => act (f n) (j 0) * y n (j 1)) fun _ _ _ => rfl)

end Cert.SwigluWIdeal.Val

end
-- ==== Proof.SwigluW.lean ====
module

public import proofs.«01_k».proof.Defs
public import proofs.«01_k».proof.Proof.Swiglu
public import proofs.«01_k».proof.Proof.SwigluWKernel
public import proofs.«01_k».proof.Proof.Gen.Pre_finite_swigluw
public import Idealize.ShloMosaic.Lib.KernelVsHost
public import proofs.«01_k».proof.Proof.Gen.SwigluWRefIdeal.Run

@[expose] public section

/-! # The gradient in the second product's weights: kernel and reference agree -/

set_option maxRecDepth 16384

noncomputable section

open Idealize.ShloMosaic Idealize.ShloMosaic.TcCoe Idealize.SL.Sem

namespace Cert.SwigluWIdeal.Val

open Cert.Lift
open Cert.SwigluRefIdeal.Val (XF XW XY)

/-- Finite arguments are real arguments. -/
theorem pre_real (a0 : FVec Ideal SwigluWIdeal.S8192x5632 .f32) (a1 : FVec Ideal SwigluWIdeal.S2816x1024 .f32) (a2 : FVec Ideal SwigluWIdeal.S8192x1024 .f32)
    (h : (Cert.Pre_finite_swigluw.fn (F := Ideal) a0 a1 a2).1 = (fun _ => 1#1) ∧ (Cert.Pre_finite_swigluw.fn (F := Ideal) a0 a1 a2).2.1 = (fun _ => 1#1)
      ∧ (Cert.Pre_finite_swigluw.fn (F := Ideal) a0 a1 a2).2.2 = (fun _ => 1#1)) :
    ∃ f w y, a0 = XF f ∧ a1 = XW w ∧ a2 = XY y := SwigluIdeal.Val.real_args a0 a1 a2 (fun i => congrFun h.1 i) (fun i => congrFun h.2.1 i) (fun i => congrFun h.2.2 i)

theorem algebraic : Cert.algebraic_SwigluWIdeal_SwigluWRefIdeal_pre_finite_swigluw := by
  pair_intro
  · exact Cert.SwigluWIdeal.Value.run_blocks m g
  · choose f w y h0 h1 h2 using fun c => pre_real _ _ _ (hpre c)
    run_from Cert.SwigluWRefIdeal.Value.run m' g'
    obtain ⟨a0, a1, a2⟩ := hagree c
    rw [final2 (h0 c) (h2 c), ← SwigluWRefIdeal.Val.v12_real, ← h0 c, ← h2 c, ← a0, ← a2]
    exact SwigluWRefIdeal.Read.val_main_v12_eq _ _

end Cert.SwigluWIdeal.Val

end
-- ==== Proof.NormRef.lean ====
module

public import proofs.«01_k».proof.Proof.Gen.FfnInRefIdeal.Read
public import proofs.«01_k».proof.Proof.Gen.InProjRefIdeal.Read
public import proofs.«01_k».proof.Proof.LossRef
public import Idealize.ShloMosaic.Lib.Pipeline.ValueKit

@[expose] public section

/-! # What the references of the rmsnorm's gradients compute -/

set_option maxRecDepth 16384

noncomputable section

namespace Cert.NormReal

open Cert.Lift Cert.LossReal

variable (v g d : Fin 1024 → ℝ)

/-- The gradient in a row, from the gradient in the normed, scaled row. -/
def rdx (k : Fin 1024) : ℝ := rinv v * (d k * g k) - v k * (rinv v * rinv v * rinv v) * ((∑ j, d j * g j * v j) / 1024)

/-- Half of the gradient in the mean square comes from each factor of the square. -/
theorem rdx_eq (k : Fin 1024) :
    rdx v g d k = d k * g k * rinv v
      + v k * ((∑ j, v j * (d j * g j)) * (-(1 / 2) * (rinv v / ((∑ k, v k * v k) / 1024 + eps))) / 1024)
      + (∑ j, v j * (d j * g j)) * (-(1 / 2) * (rinv v / ((∑ k, v k * v k) / 1024 + eps))) / 1024 * v k := by
  have hs : ∑ j, d j * g j * v j = ∑ j, v j * (d j * g j) := Finset.sum_congr rfl fun j _ => mul_comm _ _
  rw [rdx, rinv_sq, hs]
  ring

theorem add_rdx (a : ℝ) (k : Fin 1024) :
    a + d k * g k * rinv v
      + v k * ((∑ j, v j * (d j * g j)) * (-(1 / 2) * (rinv v / ((∑ k, v k * v k) / 1024 + eps))) / 1024)
      + (∑ j, v j * (d j * g j)) * (-(1 / 2) * (rinv v / ((∑ k, v k * v k) / 1024 + eps))) / 1024 * v k = a + rdx v g d k := by
  rw [rdx_eq]
  ring

/-- A column by its number. -/
def at_ (n : ℕ) [NeZero n] (j : ℕ) : Fin n := ⟨j % n, Nat.mod_lt _ (NeZero.pos n)⟩

theorem at_val {n : ℕ} [NeZero n] (j : Fin n) : at_ n j.val = j := Fin.ext (Nat.mod_eq_of_lt j.isLt)
theorem at_mk {n : ℕ} [NeZero n] (j : ℕ) (h : j < n) : at_ n j = ⟨j, h⟩ := Fin.ext (Nat.mod_eq_of_lt h)

/-- A sum over the columns, split. -/
theorem sum_split (a b : ℕ) (f : ℕ → ℝ) : ∑ i : Fin (a + b), f i.val = (∑ i : Fin a, f i.val) + ∑ i : Fin b, f (a + i.val) := Fin.sum_univ_add _

/-- A row of the gradient of a product of rows. -/
def dot {n : ℕ} (d : Fin n → ℝ) (w : Fin 1024 → Fin n → ℝ) (k : Fin 1024) : ℝ := ∑ j, d j * w k j

/-- Four arrays of rows side by side. -/
def cat (a : Fin 512 → ℝ) (b : Fin 1536 → ℝ) (c d : Fin 512 → ℝ) (j : Fin 3072) : ℝ :=
  if h : j.val < 512 then a ⟨j.val, h⟩ else if h : j.val - 512 < 1536 then b ⟨j.val - 512, h⟩
  else if h : j.val - 512 - 1536 < 512 then c ⟨j.val - 512 - 1536, h⟩ else d ⟨j.val - 512 - 1536 - 512, by omega⟩

end Cert.NormReal

namespace Cert.FfnInRefIdeal.Val

open Cert.FfnInRefIdeal Cert.FfnInRefIdeal.Read Cert.Lift Cert.LossReal Cert.NormReal Idealize.ShloMosaic

variable (x r : Fin 8192 → Fin 1024 → ℝ) (g : Fin 1024 → ℝ) (w : Fin 1024 → Fin 5632 → ℝ) (d : Fin 8192 → Fin 5632 → ℝ)

/-- The arguments, as arrays of reals. -/
abbrev XX : FVec Ideal S8192x1024 .f32 := fun i => ((x (i 0) (i 1) : ℝ) : EReal)
abbrev XG : FVec Ideal S1x1024 .f32 := fun i => ((g (i 1) : ℝ) : EReal)
abbrev XW : FVec Ideal S1024x5632 .f32 := fun i => ((w (i 0) (i 1) : ℝ) : EReal)
abbrev XD : FVec Ideal S8192x5632 .f32 := fun i => ((d (i 0) (i 1) : ℝ) : EReal)
/-- A column of reals. -/
abbrev C (f : Fin 8192 → ℝ) : FVec Ideal S8192x1 .f32 := fun i => ((f (i 0) : ℝ) : EReal)

theorem v6_real : val_main_v6 (F := Ideal) (XX x) = C fun n => (∑ k, x n k * x n k) / 1024 + eps := by
  funext i
  pointwise [val_main_v6, val_main_v5, val_main_cst_1, val_main_v4, val_main_v3, val_main_cst_0, val_main_v2, val_main_v1, val_main_cst, val_main_v0]
  simp (disch := norm_num) only [bits_eps, bits_1024, mul_coe, sum_coe, div_coe, add_coe]
  rfl

theorem v7_real : val_main_v7 (F := Ideal) (XX x) = C fun n => rinv (x n) := by
  funext i
  pointwise [val_main_v7, v6_real]
  exact rsqrt_coe _ (ms_pos _)

theorem v10_real : val_main_v10 (F := Ideal) (XX x) = C fun n => -(1 / 2) * (rinv (x n) / ((∑ k, x n k * x n k) / 1024 + eps)) := by
  funext i
  pointwise [val_main_v10, val_main_v9, val_main_cst_2, val_main_v8, v6_real, v7_real]
  simp only [bits_neg_half, div_coe _ _ (ms_pos _).ne', mul_coe]

theorem v12_real : val_main_v12 (F := Ideal) (XX x) = XX fun n k => x n k * rinv (x n) := by
  funext i
  pointwise [val_main_v12, val_main_v11, v7_real]
  simp only [mul_coe]
  rfl

theorem v16_real : val_main_v16 (F := Ideal) (XW w) (XD d) = XX fun n => dot (d n) w := by
  funext i
  rw [val_main_v16_apply]
  pointwise
  simp only [mul_coe, sum_coe]
  rfl

theorem v19_real : val_main_v19 (F := Ideal) (XX x) (XW w) (XD d) = XG fun k => ∑ n, dot (d n) w k * x n k * rinv (x n) := by
  funext i
  pointwise [val_main_v19, val_main_v18, val_main_cst_3, val_main_v17, v12_real, v16_real]
  simp only [mul_coe, sum_coe]
  exact congrArg Real.toEReal (Finset.sum_congr rfl fun n _ => (mul_comm _ _).trans (mul_assoc _ _ _).symm)

theorem v21_real : val_main_v21 (F := Ideal) (XG g) (XW w) (XD d) = XX fun n k => dot (d n) w k * g k := by
  funext i
  pointwise [val_main_v21, val_main_v20, v16_real]
  simp only [mul_coe]
  rfl

theorem v32_real : val_main_v32 (F := Ideal) (XX x) (XG g) (XW w) (XD d) =
    XX fun n k => (∑ j, x n j * (dot (d n) w j * g j)) * (-(1 / 2) * (rinv (x n) / ((∑ k, x n k * x n k) / 1024 + eps))) / 1024 := by
  funext i
  pointwise [val_main_v32, val_main_v31, val_main_cst_6, val_main_v30, val_main_v29, val_main_cst_5, val_main_v28, val_main_v24, val_main_v23, val_main_cst_4, val_main_v22, v21_real, v10_real]
  simp (disch := norm_num) only [bits_1024, mul_coe, sum_coe, div_coe, Finset.univ_unique, Finset.sum_singleton]
  rfl

theorem v36_real : val_main_v36 (F := Ideal) (XX x) (XG g) (XW w) (XD d) (XX r) = XX fun n k => r n k + rdx (x n) g (dot (d n) w) k := by
  funext i
  pointwise [val_main_v36, val_main_v35, val_main_v34, val_main_v33, val_main_v27, val_main_v26, val_main_v25, v7_real, v21_real, v32_real]
  simp only [mul_coe, add_coe]
  exact congrArg Real.toEReal (add_rdx (x (i 0)) g (dot (d (i 0)) w) (r (i 0) (i 1)) (i 1))

end Cert.FfnInRefIdeal.Val

namespace Cert.InProjRefIdeal.Val

open Cert.InProjRefIdeal Cert.InProjRefIdeal.Read Cert.Lift Cert.LossReal Cert.NormReal Idealize.ShloMosaic Cert.FfnInRefIdeal.Val

variable (x r : Fin 8192 → Fin 1024 → ℝ) (g : Fin 1024 → ℝ) (w : Fin 1024 → Fin 3072 → ℝ) (p : Fin 8192 → Fin 512 → ℝ) (q : Fin 8192 → Fin 1536 → ℝ)
  (s t : Fin 8192 → Fin 512 → ℝ)

/-- The arguments, as arrays of reals. -/
abbrev ZW : FVec Ideal S1024x3072 .f32 := fun i => ((w (i 0) (i 1) : ℝ) : EReal)
abbrev ZA : FVec Ideal S8192x512 .f32 := fun i => ((p (i 0) (i 1) : ℝ) : EReal)
abbrev ZQ : FVec Ideal S8192x1536 .f32 := fun i => ((q (i 0) (i 1) : ℝ) : EReal)
/-- A row of the gradient in the normed, scaled row. -/
abbrev row (n : Fin 8192) : Fin 1024 → ℝ := dot (cat (p n) (q n) (s n) (t n)) w

theorem v6_real : val_main_v6 (F := Ideal) (XX x) = C fun n => (∑ k, x n k * x n k) / 1024 + eps := Cert.FfnInRefIdeal.Val.v6_real x
theorem v7_real : val_main_v7 (F := Ideal) (XX x) = C fun n => rinv (x n) := Cert.FfnInRefIdeal.Val.v7_real x
theorem v10_real : val_main_v10 (F := Ideal) (XX x) = C fun n => -(1 / 2) * (rinv (x n) / ((∑ k, x n k * x n k) / 1024 + eps)) := Cert.FfnInRefIdeal.Val.v10_real x
theorem v12_real : val_main_v12 (F := Ideal) (XX x) = XX fun n k => x n k * rinv (x n) := Cert.FfnInRefIdeal.Val.v12_real x

theorem v16_real : val_main_v16 (F := Ideal) (ZA p) (ZQ q) (ZA s) (ZA t) = fun i => ((cat (p (i 0)) (q (i 0)) (s (i 0)) (t (i 0)) (i 1) : ℝ) : EReal) := by
  funext i
  pointwise [val_main_v16]
  unfold cat
  split_ifs <;> rfl

theorem v17_real : val_main_v17 (F := Ideal) (ZW w) (ZA p) (ZQ q) (ZA s) (ZA t) = XX (row w p q s t) := by
  funext i
  rw [val_main_v17_apply]
  pointwise [v16_real]
  simp only [mul_coe, sum_coe]
  rfl

theorem v20_real : val_main_v20 (F := Ideal) (XX x) (ZW w) (ZA p) (ZQ q) (ZA s) (ZA t) = XG fun k => ∑ n, row w p q s t n k * x n k * rinv (x n) := by
  funext i
  pointwise [val_main_v20, val_main_v19, val_main_cst_3, val_main_v18, v12_real, v17_real]
  simp only [mul_coe, sum_coe]
  exact congrArg Real.toEReal (Finset.sum_congr rfl fun n _ => (mul_comm _ _).trans (mul_assoc _ _ _).symm)

theorem v22_real : val_main_v22 (F := Ideal) (XG g) (ZW w) (ZA p) (ZQ q) (ZA s) (ZA t) = XX fun n k => row w p q s t n k * g k := by
  funext i
  pointwise [val_main_v22, val_main_v21, v17_real]
  simp only [mul_coe]
  rfl

theorem v33_real : val_main_v33 (F := Ideal) (XX x) (XG g) (ZW w) (ZA p) (ZQ q) (ZA s) (ZA t) =
    XX fun n k => (∑ j, x n j * (row w p q s t n j * g j)) * (-(1 / 2) * (rinv (x n) / ((∑ k, x n k * x n k) / 1024 + eps))) / 1024 := by
  funext i
  pointwise [val_main_v33, val_main_v32, val_main_cst_6, val_main_v31, val_main_v30, val_main_cst_5, val_main_v29, val_main_v25, val_main_v24, val_main_cst_4, val_main_v23, v22_real, v10_real]
  simp (disch := norm_num) only [bits_1024, mul_coe, sum_coe, div_coe, Finset.univ_unique, Finset.sum_singleton]
  rfl

theorem v37_real : val_main_v37 (F := Ideal) (XX x) (XG g) (ZW w) (ZA p) (ZQ q) (ZA s) (ZA t) (XX r) = XX fun n k => r n k + rdx (x n) g (row w p q s t n) k := by
  funext i
  pointwise [val_main_v37, val_main_v36, val_main_v35, val_main_v34, val_main_v28, val_main_v27, val_main_v26, v7_real, v22_real, v33_real]
  simp only [mul_coe, add_coe]
  exact congrArg Real.toEReal (add_rdx (x (i 0)) g (row w p q s t (i 0)) (r (i 0) (i 1)) (i 1))

end Cert.InProjRefIdeal.Val

end
-- ==== Proof.NormKernel.lean ====
module

public import proofs.«01_k».proof.Proof.Gen.FfnInIdeal.Value
public import proofs.«01_k».proof.Proof.NormRef
public import Idealize.ShloMosaic.Lib.Pipeline.ValueKit
public import Idealize.ShloMosaic.Lib.StableHlo.Run

@[expose] public section

/-! # The gradients of the feed-forward layer's input projection and rmsnorm, as the kernel computes them, over real arguments -/

set_option maxRecDepth 16384

noncomputable section

open Idealize.ShloMosaic Idealize.ShloMosaic.TcCoe Idealize.SL.Sem
open Idealize.ShloMosaic.Pipeline (Dat)

namespace Cert.FfnInIdeal.Val

open Cert.FfnInIdeal Cert.FfnInIdeal.Gen Cert.Lift Cert.LossReal Cert.NormReal
open Cert.FfnInRefIdeal.Val (XX XG XW XD)

section payloads

variable (v e r : Fin 512 → Fin 1024 → ℝ) (g : Fin 1024 → ℝ) (w : Fin 1024 → Fin 5632 → ℝ) (d : Fin 512 → Fin 5632 → ℝ)

/-- A block of rows of reals, one row, one column. -/
abbrev B (v : Fin 512 → Fin 1024 → ℝ) : FVec Ideal S512x1024 .f32 := fun i => ((v (i 0) (i 1) : ℝ) : EReal)
abbrev R (g : Fin 1024 → ℝ) : FVec Ideal S1x1024 .f32 := fun i => ((g (i 1) : ℝ) : EReal)
/-- A block of rows of the product's gradient, and the weights in four shards. -/
abbrev BD : FVec Ideal S512x5632 .bf16 := fun i => ((d (i 0) (i 1) : ℝ) : EReal)
abbrev BW : FVec Ideal S4x1024x1408 .bf16 := fun i => ((w (i 1) (at_ 5632 ((i 0).val * 1408 + (i 2).val)) : ℝ) : EReal)
/-- The columns of a shard of each. -/
abbrev PD (o : ℕ) : FVec Ideal S512x1408 .bf16 := fun i => ((d (i 0) (at_ 5632 (o + (i 1).val)) : ℝ) : EReal)
abbrev PW (o : ℕ) : FVec Ideal S1x1024x1408 .bf16 := fun i => ((w (i 1) (at_ 5632 (o + (i 2).val)) : ℝ) : EReal)

theorem dot_split (d : Fin 5632 → ℝ) (k : Fin 1024) :
    dot d w k = (∑ c : Fin 1408, d (at_ 5632 (0 + c.val)) * w k (at_ 5632 (0 + c.val))) + (∑ c : Fin 1408, d (at_ 5632 (1408 + c.val)) * w k (at_ 5632 (1408 + c.val)))
      + (∑ c : Fin 1408, d (at_ 5632 (2816 + c.val)) * w k (at_ 5632 (2816 + c.val))) + ∑ c : Fin 1408, d (at_ 5632 (4224 + c.val)) * w k (at_ 5632 (4224 + c.val)) := by
  have h : dot d w k = ∑ j : Fin (1408 + 1408 + 1408 + 1408), d (at_ 5632 j.val) * w k (at_ 5632 j.val) :=
    Finset.sum_congr rfl fun j _ => by rw [at_val]
  rw [h, sum_split (1408 + 1408 + 1408) 1408 fun j => d (at_ 5632 j) * w k (at_ 5632 j), sum_split (1408 + 1408) 1408 fun j => d (at_ 5632 j) * w k (at_ 5632 j),
    sum_split 1408 1408 fun j => d (at_ 5632 j) * w k (at_ 5632 j)]
  simp only [zero_add, Nat.reduceAdd]

theorem pay5_real : k0_pay5 (F := Ideal) (PD d 0) (PW w 0) (PD d 1408) (PW w 1408) (PD d 2816) (PW w 2816) (PD d 4224) (PW w 4224) = B fun r => dot (d r) w := by
  funext i
  pointwise [k0_pay5]
  simp only [mul_coe, sum_coe, add_coe, zero_add]
  exact congrArg Real.toEReal (dot_split w (d (i 0)) (i 1)).symm

theorem ldD (o : ℕ) (h) : View.ld (Val := Elt Ideal) (e' := .bf16) (S := S512x5632) (BD d) (Rect.unit ![0, o] ![512, 1408] h) = PD d o := by
  funext i
  have hi : o + (i 1).val < 5632 := lt_of_lt_of_le (Nat.add_lt_add_left (i 1).isLt o) (h 1)
  refine congrArg Real.toEReal (congrArg₂ d (Fin.ext ?_) ((at_mk _ hi).symm ▸ Fin.ext ?_)) <;> pointwise

theorem ldW (s : ℕ) (h) : View.ld (Val := Elt Ideal) (e' := .bf16) (S := S4x1024x1408) (BW w) (Rect.unit ![s, 0, 0] ![1, 1024, 1408] h) = PW w (s * 1408) := by
  funext i
  have h0 : (i 0).val = 0 := Nat.lt_one_iff.mp (i 0).isLt
  refine congrArg Real.toEReal (congrArg₂ w (Fin.ext ?_) (congrArg (at_ 5632) ?_)) <;> pointwise

/-- The gradient in the normed, scaled rows, from the blocks as the kernel loads them. -/
theorem pay5_ld (h0 h1 h2 h3 k0 k1 k2 k3) : k0_pay5 (F := Ideal)
    (View.ld (Val := Elt Ideal) (e' := .bf16) (S := S512x5632) (BD d) (Rect.unit ![0, 0] ![512, 1408] h0))
    (View.ld (Val := Elt Ideal) (e' := .bf16) (S := S4x1024x1408) (BW w) (Rect.unit ![0, 0, 0] ![1, 1024, 1408] k0))
    (View.ld (Val := Elt Ideal) (e' := .bf16) (S := S512x5632) (BD d) (Rect.unit ![0, 1408] ![512, 1408] h1))
    (View.ld (Val := Elt Ideal) (e' := .bf16) (S := S4x1024x1408) (BW w) (Rect.unit ![1, 0, 0] ![1, 1024, 1408] k1))
    (View.ld (Val := Elt Ideal) (e' := .bf16) (S := S512x5632) (BD d) (Rect.unit ![0, 2816] ![512, 1408] h2))
    (View.ld (Val := Elt Ideal) (e' := .bf16) (S := S4x1024x1408) (BW w) (Rect.unit ![2, 0, 0] ![1, 1024, 1408] k2))
    (View.ld (Val := Elt Ideal) (e' := .bf16) (S := S512x5632) (BD d) (Rect.unit ![0, 4224] ![512, 1408] h3))
    (View.ld (Val := Elt Ideal) (e' := .bf16) (S := S4x1024x1408) (BW w) (Rect.unit ![3, 0, 0] ![1, 1024, 1408] k3)) = B fun r => dot (d r) w := by
  rw [ldD, ldD, ldD, ldD, ldW, ldW, ldW, ldW]
  exact pay5_real w d

theorem pay1_real : k0_pay1 (F := Ideal) (k0_pay6 (B v)) k0_pay7 = fun i => ((rinv (v (i 0)) : ℝ) : EReal) := by
  funext i
  pointwise [k0_pay1, k0_pay6, k0_pay7]
  simp (disch := norm_num) only [bits_1024, bits_eps, mul_coe, sum_coe, div_coe, add_coe, rinv]
  exact rsqrt_coe _ (ms_pos (v (i 0)))

theorem pay2_real : k0_pay2 (F := Ideal) (B e) (B v) (k0_pay6 (B v)) k0_pay7 (R g) (B r) = B fun n k => r n k + rdx (v n) g (e n) k := by
  funext i
  pointwise [k0_pay2, pay1_real]
  simp (disch := norm_num) only [bits_1024, mul_coe, sum_coe, div_coe, sub_coe, add_coe, rdx]
  rfl

theorem pay3_real : k0_pay3 (F := Ideal) (B e) (B v) (k0_pay6 (B v)) k0_pay7 = R fun k => ∑ n, e n k * v n k * rinv (v n) := by
  funext i
  pointwise [k0_pay3, pay1_real]
  simp only [mul_coe, sum_coe]
  rfl

theorem pay4_apply (a : Vec Ideal S1x1024 .f32) (i) : k0_pay4 (F := Ideal) (B e) (B v) (k0_pay6 (B v)) k0_pay7 a i = a i + k0_pay3 (B e) (B v) (k0_pay6 (B v)) k0_pay7 i := by
  pointwise [k0_pay4]

end payloads

variable (m : (ℓ : Loc nD τ sig) → Buf (Elt Ideal) ℓ)

theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The row of the array that a point's block has at `r`. -/
def row (t : Fin cfg0.N) (r : Fin 512) : Fin 8192 := ⟨t.val * 512 + r.val, by have := t.isLt; have h : t.val < 16 := lt_of_lt_of_eq t.isLt N_0; omega⟩

variable (x r : Fin 8192 → Fin 1024 → ℝ) (g : Fin 1024 → ℝ) (w : Fin 1024 → Fin 5632 → ℝ) (d : Fin 8192 → Fin 5632 → ℝ) (c : Dev nD)

theorem blk0 (hd : m ((c : Thread nD τ).loc main_arg3) = XD d) (p : Fin cfg0.N) : iblk m c 0 p = BD fun r => d (row p r) := by
  funext y
  blk_simp [iblk, idx p]
  entry_read
  rw [hd]
  pointwise
  refine congrArg Real.toEReal (congrArg₂ d (Fin.ext ?_) (Fin.ext ?_)) <;> blk_simp [idx p, row]

theorem blk1 (hw : m ((c : Thread nD τ).loc main_arg2) = XW w) (p : Fin cfg0.N) : iblk m c 1 p = BW w := by
  funext y
  blk_simp [iblk, idx p]
  entry_read
  rw [hw]
  pointwise
  refine congrArg Real.toEReal (congrArg₂ w (Fin.ext ?_) (Fin.ext ?_)) <;> blk_simp [idx p, row, at_]
  exact (Nat.mod_eq_of_lt (by have h0 : (y 0).val < 4 := (y 0).isLt; have h2 : (y 2).val < 1408 := (y 2).isLt; omega)).symm

theorem blk2 (hx : m ((c : Thread nD τ).loc main_arg0) = XX x) (p : Fin cfg0.N) : iblk m c 2 p = B fun r => x (row p r) := by
  funext y
  blk_simp [iblk, idx p]
  entry_read
  rw [hx]
  refine congrArg Real.toEReal (congrArg₂ x (Fin.ext ?_) (Fin.ext ?_)) <;> blk_simp [idx p, row]

theorem blk3 (hg : m ((c : Thread nD τ).loc main_arg1) = XG g) (p : Fin cfg0.N) : iblk m c 3 p = R g := by
  funext y
  blk_simp [iblk, idx p]
  entry_read
  rw [hg]
  refine congrArg Real.toEReal (congrArg g (Fin.ext ?_)) <;> blk_simp [idx p]

theorem blk4 (hr : m ((c : Thread nD τ).loc main_arg4) = XX r) (p : Fin cfg0.N) : iblk m c 4 p = B fun n => r (row p n) := by
  funext y
  blk_simp [iblk, idx p]
  entry_read
  rw [hr]
  refine congrArg Real.toEReal (congrArg₂ r (Fin.ext ?_) (Fin.ext ?_)) <;> blk_simp [idx p, row]

section final

variable (hx : m ((c : Thread nD τ).loc main_arg0) = XX x) (hg : m ((c : Thread nD τ).loc main_arg1) = XG g) (hw : m ((c : Thread nD τ).loc main_arg2) = XW w)
  (hd : m ((c : Thread nD τ).loc main_arg3) = XD d) (hr : m ((c : Thread nD τ).loc main_arg4) = XX r)

include hx hg hw hd hr

/-- The gradient in the rows after the run. -/
theorem final5 : (dats m 0 c).arrAt 5 (cfgs 0).N = XX fun n k => r n k + rdx (x n) g (dot (d n) w) k := by
  refine (dats m 0 c).arrAt_eq_of_covers 5 _ (by decide +kernel) fun p hf y => ?_
  blk_simp
  rw [after0_5]
  have e : (B fun n k => r (row p n) k + rdx (x (row p n)) g (dot (d (row p n)) w) k) y =
      XX (fun n k => r n k + rdx (x n) g (dot (d n) w) k) (((cfg0.win 5).blk p).view.emb y) := by
    have e0 : row p (y 0) = ((cfg0.win 5).blk p).view.emb y 0 := Fin.ext (by blk_simp [idx p, row])
    have e1 : y 1 = ((cfg0.win 5).blk p).view.emb y 1 := Fin.ext (by blk_simp [idx p])
    exact congrArg Real.toEReal (congrArg₂ (fun n k => r n k + rdx (x n) g (dot (d n) w) k) e0 e1)
  refine Eq.trans ?_ e
  by_cases h : p.val % 16 = 0
  · have h1 : ¬1 ≤ p.val := by have : p.val < 16 := lt_of_lt_of_eq p.isLt N_0; omega
    rw [outsAt0_A m c p h h1]
    frame_out
    rw [blk0 m d c hd p, blk1 m w c hw p, blk2 m x c hx p, blk3 m g c hg p, blk4 m r c hr p, pay5_ld, pay2_real]
  · have h2 : 1 ≤ p.val := by omega
    rw [outsAt0_B m c p h h2]
    frame_out
    rw [blk0 m d c hd p, blk1 m w c hw p, blk2 m x c hx p, blk3 m g c hg p, blk4 m r c hr p, pay5_ld, pay2_real]

/-- The gradient in the gain after the run. -/
theorem final6 : (dats m 0 c).arrAt 6 (cfgs 0).N = XG fun k => ∑ n, dot (d n) w k * x n k * rinv (x n) := by
  refine (dats m 0 c).arrAt_eq_of_after_last 6 t0_15 (by decide +kernel) _ fun j => ?_
  blk_simp
  have h1 : ∀ p : Fin cfg0.N, p.val % 16 = 0 → ¬1 ≤ p.val := fun p h => by have : p.val < 16 := lt_of_lt_of_eq p.isLt N_0; omega
  rw [after0_6, Pipeline.eq_sum_fin_of_reset_step_apply_last (fun n h => (outsAt0 m c n h).2) 16 (fun _ => 0)
    (fun p j => ((∑ n, dot (d (row p n)) w (j 1) * x (row p n) (j 1) * rinv (x (row p n)) : ℝ) : EReal))
    (fun p h j => by
      rw [outsAt0_A m c p h (h1 p h)]; frame_out
      rw [blk0 m d c hd p, blk1 m w c hw p, blk2 m x c hx p, pay5_ld, pay3_real, zero_add])
    (fun p h j => by
      have h2 : 1 ≤ p.val := by omega
      rw [outsAt0_B m c p h h2]; frame_out
      rw [blk0 m d c hd p, blk1 m w c hw p, blk2 m x c hx p, pay5_ld, pay4_apply, pay3_real])
    (le_of_eq N_0) t0_15 rfl j, zero_add, sum_coe]
  exact congrArg Real.toEReal (Fin.sum_mul_add_congr (S := 16) (n := 512) (f := fun n => dot (d n) w (j 1) * x n (j 1) * rinv (x n)) fun _ _ _ => rfl)

end final

end Cert.FfnInIdeal.Val
-- ==== Proof.FfnIn.lean ====
module

public import proofs.«01_k».proof.Defs
public import proofs.«01_k».proof.Proof.NormKernel
public import proofs.«01_k».proof.Proof.Gen.Pre_finite_ffnin
public import Idealize.ShloMosaic.Lib.KernelVsHost

@[expose] public section

/-! # The gradients of the feed-forward layer's rmsnorm: kernel and reference agree -/

set_option maxRecDepth 16384

noncomputable section

open Idealize.ShloMosaic Idealize.ShloMosaic.TcCoe Idealize.SL.Sem

namespace Cert.FfnInIdeal.Val

open Cert.Lift
open Cert.FfnInRefIdeal.Val (XX XG XW XD)

/-- A finite matrix is a matrix of reals. -/
theorem real_matrix {p q : ℕ} (a : FVec Ideal ⟨2, ![p, q]⟩ .f32) (h : ∀ i, Ideal.cmp .olt (max (a i) (-a i)) (Ideal.ofBits .f32 0x7F800000#32) = 1#1) :
    ∃ f : Fin p → Fin q → ℝ, a = fun i => ((f (i 0) (i 1) : ℝ) : EReal) := by
  obtain ⟨X, rfl⟩ := real_of_words a h
  exact ⟨fun n k => X (ix2 n k), funext fun i => congrArg (fun j => ((X j : ℝ) : EReal)) (funext fun a => match a with | ⟨0, _⟩ => rfl | ⟨1, _⟩ => rfl)⟩

/-- A finite row is a row of reals. -/
theorem real_row {q : ℕ} (a : FVec Ideal ⟨2, ![1, q]⟩ .f32) (h : ∀ i, Ideal.cmp .olt (max (a i) (-a i)) (Ideal.ofBits .f32 0x7F800000#32) = 1#1) :
    ∃ f : Fin q → ℝ, a = fun i => ((f (i 1) : ℝ) : EReal) := by
  obtain ⟨f, rfl⟩ := real_matrix a h
  exact ⟨f 0, funext fun i => congrArg (fun j => ((f j (i 1) : ℝ) : EReal)) (Subsingleton.elim (α := Fin 1) _ _)⟩

theorem pre_real (a0 : FVec Ideal FfnInIdeal.S8192x1024 .f32) (a1 : FVec Ideal FfnInIdeal.S1x1024 .f32) (a2 : FVec Ideal FfnInIdeal.S1024x5632 .f32)
    (a3 : FVec Ideal FfnInIdeal.S8192x5632 .f32) (a4 : FVec Ideal FfnInIdeal.S8192x1024 .f32)
    (h : (Cert.Pre_finite_ffnin.fn (F := Ideal) a0 a1 a2 a3 a4).1 = (fun _ => 1#1) ∧ (Cert.Pre_finite_ffnin.fn (F := Ideal) a0 a1 a2 a3 a4).2.1 = (fun _ => 1#1)
      ∧ (Cert.Pre_finite_ffnin.fn (F := Ideal) a0 a1 a2 a3 a4).2.2.1 = (fun _ => 1#1) ∧ (Cert.Pre_finite_ffnin.fn (F := Ideal) a0 a1 a2 a3 a4).2.2.2.1 = (fun _ => 1#1)
      ∧ (Cert.Pre_finite_ffnin.fn (F := Ideal) a0 a1 a2 a3 a4).2.2.2.2 = (fun _ => 1#1)) :
    ∃ x g w d r, a0 = XX x ∧ a1 = XG g ∧ a2 = XW w ∧ a3 = XD d ∧ a4 = XX r := by
  obtain ⟨x, hx⟩ := real_matrix a0 fun i => congrFun h.1 i
  obtain ⟨g, hg⟩ := real_row a1 fun i => congrFun h.2.1 i
  obtain ⟨w, hw⟩ := real_matrix a2 fun i => congrFun h.2.2.1 i
  obtain ⟨d, hd⟩ := real_matrix a3 fun i => congrFun h.2.2.2.1 i
  obtain ⟨r, hr⟩ := real_matrix a4 fun i => congrFun h.2.2.2.2 i
  exact ⟨x, g, w, d, r, hx, hg, hw, hd, hr⟩

theorem algebraic : Cert.algebraic_FfnInIdeal_FfnInRefIdeal_pre_finite_ffnin := by
  pair_intro
  · exact Cert.FfnInIdeal.Value.run_blocks m g
  · choose x γ w d r h0 h1 h2 h3 h4 using fun c => pre_real _ _ _ _ _ (hpre c)
    refine θ_run_mono (Cert.FfnInRefIdeal.Value.run m' g') fun z hz c => ?_
    obtain ⟨a0, a1, a2, a3, a4⟩ := hagree c
    refine ⟨(hz c).1.trans ?_, (hz c).2.1.trans ?_, (hz c).2.2⟩
    · rw [final5 m (x c) (r c) (γ c) (w c) (d c) c (h0 c) (h1 c) (h2 c) (h3 c) (h4 c), ← FfnInRefIdeal.Val.v36_real, ← h0 c, ← h1 c, ← h2 c, ← h3 c, ← h4 c,
        ← a0, ← a1, ← a2, ← a3, ← a4]
      exact FfnInRefIdeal.Read.val_main_v36_eq m' c
    · rw [final6 m (x c) (r c) (γ c) (w c) (d c) c (h0 c) (h1 c) (h2 c) (h3 c) (h4 c), ← FfnInRefIdeal.Val.v19_real, ← h0 c, ← h2 c, ← h3 c, ← a0, ← a2, ← a3]
      exact FfnInRefIdeal.Read.val_main_v19_eq _ _ _

end Cert.FfnInIdeal.Val

end
-- ==== Proof.ProjKernel.lean ====
module

public import proofs.«01_k».proof.Proof.Gen.InProjIdeal.Value
public import proofs.«01_k».proof.Proof.NormRef
public import Idealize.ShloMosaic.Lib.Pipeline.ValueKit
public import Idealize.ShloMosaic.Lib.StableHlo.Run

@[expose] public section

/-! # The gradients of the mixers' input projection and rmsnorm, as the kernel computes them, over real arguments -/

set_option maxRecDepth 16384

noncomputable section

open Idealize.ShloMosaic Idealize.ShloMosaic.TcCoe Idealize.SL.Sem
open Idealize.ShloMosaic.Pipeline (Dat)

namespace Cert.InProjIdeal.Val

open Cert.InProjIdeal Cert.InProjIdeal.Gen Cert.Lift Cert.LossReal Cert.NormReal
open Cert.FfnInRefIdeal.Val (XX XG)
open Cert.InProjRefIdeal.Val (ZW ZA ZQ)

section payloads

variable (v e r : Fin 512 → Fin 1024 → ℝ) (g : Fin 1024 → ℝ) (w : Fin 1024 → Fin 3072 → ℝ) (d : Fin 512 → Fin 3072 → ℝ)
  (p s t : Fin 512 → Fin 512 → ℝ) (q : Fin 512 → Fin 1536 → ℝ)

/-- A block of rows of reals, one row. -/
abbrev B (v : Fin 512 → Fin 1024 → ℝ) : FVec Ideal S512x1024 .f32 := fun i => ((v (i 0) (i 1) : ℝ) : EReal)
abbrev R (g : Fin 1024 → ℝ) : FVec Ideal S1x1024 .f32 := fun i => ((g (i 1) : ℝ) : EReal)
/-- Blocks of rows of the parts of the product's gradient, and the weights in four shards. -/
abbrev BA : FVec Ideal S512x512 .bf16 := fun i => ((p (i 0) (i 1) : ℝ) : EReal)
abbrev BQ : FVec Ideal S512x1536 .bf16 := fun i => ((q (i 0) (i 1) : ℝ) : EReal)
abbrev BW : FVec Ideal S4x1024x768 .bf16 := fun i => ((w (i 1) (at_ 3072 ((i 0).val * 768 + (i 2).val)) : ℝ) : EReal)
/-- `n` columns of each, from one on. -/
abbrev PD (n o : ℕ) : FVec Ideal ⟨2, ![512, n]⟩ .bf16 := fun i => ((d (i 0) (at_ 3072 (o + (i 1).val)) : ℝ) : EReal)
abbrev PW (n o : ℕ) : FVec Ideal ⟨3, ![1, 1024, n]⟩ .bf16 := fun i => ((w (i 1) (at_ 3072 (o + (i 2).val)) : ℝ) : EReal)
/-- The product's gradient's rows, of their parts. -/
abbrev D : Fin 512 → Fin 3072 → ℝ := fun r => cat (p r) (q r) (s r) (t r)

/-- What some of the columns add to the product. -/
abbrev part (d : Fin 3072 → ℝ) (k : Fin 1024) (n o : ℕ) : ℝ := ∑ c : Fin n, d (at_ 3072 (o + c.val)) * w k (at_ 3072 (o + c.val))

theorem dot_split (d : Fin 3072 → ℝ) (k : Fin 1024) : dot d w k = part w d k 512 0 + part w d k 256 512 + part w d k 768 768 + part w d k 512 1536
    + part w d k 256 2048 + part w d k 256 2304 + part w d k 512 2560 := by
  have h : dot d w k = ∑ j : Fin (512 + 256 + 768 + 512 + 256 + 256 + 512), d (at_ 3072 j.val) * w k (at_ 3072 j.val) :=
    Finset.sum_congr rfl fun j _ => by rw [at_val]
  rw [h]
  iterate 6 rw [sum_split _ _ fun j => d (at_ 3072 j) * w k (at_ 3072 j)]
  simp only [part, zero_add, Nat.reduceAdd]

theorem pay7_real : k0_pay7 (F := Ideal) (k0_pay4 (PD d 512 0) (PW w 512 0) (PD d 256 512) (PW w 256 512) (PD d 768 768) (PW w 768 768) (PD d 512 1536) (PW w 512 1536))
    (k0_pay5 (PD d 256 2048)) (k0_pay6 (PW w 256 2048)) (PD d 256 2304) (PW w 256 2304) (PD d 512 2560) (PW w 512 2560) = B fun r => dot (d r) w := by
  funext i
  pointwise [k0_pay7, k0_pay4, k0_pay5, k0_pay6]
  simp only [mul_coe, sum_coe, add_coe, zero_add]
  exact congrArg Real.toEReal ((dot_split w (d (i 0)) (i 1)).trans (by simp only [part, zero_add]; rfl)).symm

theorem cat_p (a : Fin 512 → ℝ) (b : Fin 1536 → ℝ) (c d : Fin 512 → ℝ) (j : ℕ) (h : j < 512) : cat a b c d (at_ 3072 (0 + j)) = a ⟨j, h⟩ := by
  rw [at_mk _ (by omega), cat, dif_pos (show 0 + j < 512 by omega)]
  exact congrArg a (Fin.ext (by simp only; omega))
theorem cat_q (a : Fin 512 → ℝ) (b : Fin 1536 → ℝ) (c d : Fin 512 → ℝ) (j : ℕ) (h : j < 1536) : cat a b c d (at_ 3072 (512 + j)) = b ⟨j, h⟩ := by
  rw [at_mk _ (by omega), cat, dif_neg (show ¬512 + j < 512 by omega), dif_pos (show 512 + j - 512 < 1536 by omega)]
  exact congrArg b (Fin.ext (by simp only; omega))
theorem cat_s (a : Fin 512 → ℝ) (b : Fin 1536 → ℝ) (c d : Fin 512 → ℝ) (j : ℕ) (h : j < 512) : cat a b c d (at_ 3072 (2048 + j)) = c ⟨j, h⟩ := by
  rw [at_mk _ (by omega), cat, dif_neg (show ¬2048 + j < 512 by omega), dif_neg (show ¬2048 + j - 512 < 1536 by omega), dif_pos (show 2048 + j - 512 - 1536 < 512 by omega)]
  exact congrArg c (Fin.ext (by simp only; omega))
theorem cat_t (a : Fin 512 → ℝ) (b : Fin 1536 → ℝ) (c d : Fin 512 → ℝ) (j : ℕ) (h : j < 512) : cat a b c d (at_ 3072 (2560 + j)) = d ⟨j, h⟩ := by
  rw [at_mk _ (by omega), cat, dif_neg (show ¬2560 + j < 512 by omega), dif_neg (show ¬2560 + j - 512 < 1536 by omega),
    dif_neg (show ¬2560 + j - 512 - 1536 < 512 by omega)]
  exact congrArg d (Fin.ext (by simp only; omega))

theorem ldQ (n o : ℕ) (h) : View.ld (Val := Elt Ideal) (e' := .bf16) (S := S512x1536) (BQ q) (Rect.unit ![0, o] ![512, n] h) = PD (D p s t q) n (512 + o) := by
  funext i
  have hi : o + (i 1).val < 1536 := lt_of_lt_of_le (Nat.add_lt_add_left (i 1).isLt o) (h 1)
  refine congrArg Real.toEReal (Eq.trans ?_ (congrArg (fun j => D p s t q (i 0) (at_ 3072 j)) (Nat.add_assoc 512 o (i 1).val)).symm)
  refine Eq.trans ?_ (cat_q _ _ _ _ _ hi).symm
  refine congrArg₂ q (Fin.ext ?_) (Fin.ext ?_) <;> pointwise

theorem ldS (n o : ℕ) (h) : View.ld (Val := Elt Ideal) (e' := .bf16) (S := S512x512) (BA s) (Rect.unit ![0, o] ![512, n] h) = PD (D p s t q) n (2048 + o) := by
  funext i
  have hi : o + (i 1).val < 512 := lt_of_lt_of_le (Nat.add_lt_add_left (i 1).isLt o) (h 1)
  refine congrArg Real.toEReal (Eq.trans ?_ (congrArg (fun j => D p s t q (i 0) (at_ 3072 j)) (Nat.add_assoc 2048 o (i 1).val)).symm)
  refine Eq.trans ?_ (cat_s _ _ _ _ _ hi).symm
  refine congrArg₂ s (Fin.ext ?_) (Fin.ext ?_) <;> pointwise

theorem ldW (n o s : ℕ) (h) : View.ld (Val := Elt Ideal) (e' := .bf16) (S := S4x1024x768) (BW w) (Rect.unit ![s, 0, o] ![1, 1024, n] h) = PW w n (s * 768 + o) := by
  funext i
  have h0 : (i 0).val = 0 := Nat.lt_one_iff.mp (i 0).isLt
  refine congrArg Real.toEReal (congrArg₂ w (Fin.ext ?_) (congrArg (at_ 3072) ?_)) <;> pointwise
  exact (Nat.add_assoc _ _ _).symm

/-- The gradient in the normed, scaled rows, from the blocks as the kernel loads them. -/
theorem pay7_ld (h1 h2 h3 h4 h5 k0 k1 k2 k3 k4 k5 k6) : k0_pay7 (F := Ideal)
    (k0_pay4 (BA p)
      (View.ld (Val := Elt Ideal) (e' := .bf16) (S := S4x1024x768) (BW w) (Rect.unit ![0, 0, 0] ![1, 1024, 512] k0))
      (View.ld (Val := Elt Ideal) (e' := .bf16) (S := S512x1536) (BQ q) (Rect.unit ![0, 0] ![512, 256] h1))
      (View.ld (Val := Elt Ideal) (e' := .bf16) (S := S4x1024x768) (BW w) (Rect.unit ![0, 0, 512] ![1, 1024, 256] k1))
      (View.ld (Val := Elt Ideal) (e' := .bf16) (S := S512x1536) (BQ q) (Rect.unit ![0, 256] ![512, 768] h2))
      (View.ld (Val := Elt Ideal) (e' := .bf16) (S := S4x1024x768) (BW w) (Rect.unit ![1, 0, 0] ![1, 1024, 768] k2))
      (View.ld (Val := Elt Ideal) (e' := .bf16) (S := S512x1536) (BQ q) (Rect.unit ![0, 1024] ![512, 512] h3))
      (View.ld (Val := Elt Ideal) (e' := .bf16) (S := S4x1024x768) (BW w) (Rect.unit ![2, 0, 0] ![1, 1024, 512] k3)))
    (k0_pay5 (View.ld (Val := Elt Ideal) (e' := .bf16) (S := S512x512) (BA s) (Rect.unit ![0, 0] ![512, 256] h4)))
    (k0_pay6 (View.ld (Val := Elt Ideal) (e' := .bf16) (S := S4x1024x768) (BW w) (Rect.unit ![2, 0, 512] ![1, 1024, 256] k4)))
    (View.ld (Val := Elt Ideal) (e' := .bf16) (S := S512x512) (BA s) (Rect.unit ![0, 256] ![512, 256] h5))
    (View.ld (Val := Elt Ideal) (e' := .bf16) (S := S4x1024x768) (BW w) (Rect.unit ![3, 0, 0] ![1, 1024, 256] k5))
    (BA t)
    (View.ld (Val := Elt Ideal) (e' := .bf16) (S := S4x1024x768) (BW w) (Rect.unit ![3, 0, 256] ![1, 1024, 512] k6)) = B fun r => dot (D p s t q r) w := by
  have hp : BA p = PD (D p s t q) 512 0 := funext fun i => congrArg Real.toEReal (cat_p _ _ _ _ _ (i 1).isLt).symm
  have ht : BA t = PD (D p s t q) 512 2560 := funext fun i => congrArg Real.toEReal (cat_t _ _ _ _ _ (i 1).isLt).symm
  rw [hp, ht, ldQ p s t q, ldQ p s t q, ldQ p s t q, ldS p s t q, ldS p s t q, ldW, ldW, ldW, ldW, ldW, ldW, ldW]
  exact pay7_real w (D p s t q)

theorem pay8_real : k0_pay8 (F := Ideal) (B v) = fun i => ((rinv (v (i 0)) : ℝ) : EReal) := by
  funext i
  pointwise [k0_pay8]
  simp (disch := norm_num) only [bits_1024, bits_eps, mul_coe, sum_coe, div_coe, add_coe, rinv]
  exact rsqrt_coe _ (ms_pos (v (i 0)))

section dh

variable {v24 : FVec Ideal S512x1024 .f32} {v26 : FVec Ideal S512x256 .bf16} {v28 : FVec Ideal S1024x256 .bf16} {v31 : Vec Ideal S512x256 .bf16}
  {v33 : Vec Ideal S1x1024x256 .bf16} {v37 : Vec Ideal S512x512 .bf16} {v39 : Vec Ideal S1x1024x512 .bf16} (h : k0_pay7 v24 v26 v28 v31 v33 v37 v39 = B e)
include h

theorem pay9_real : k0_pay9 v24 v26 v28 v31 v33 v37 v39 (R g) = B fun n k => e n k * g k := by
  funext i
  pointwise [k0_pay9, h]
  simp only [mul_coe]
  rfl

theorem pay1_real : k0_pay1 (F := Ideal) (k0_pay10 v24 v26 v28 v31 v33 v37 v39 (B v) (R g)) (k0_pay11 (B v)) (k0_pay12 v24 v26 v28 v31 v33 v37 v39 (B v) (R g)) (B r) =
    B fun n k => r n k + rdx (v n) g (e n) k := by
  funext i
  pointwise [k0_pay1, k0_pay10, k0_pay11, k0_pay12, pay8_real, pay9_real e g h]
  simp (disch := norm_num) only [bits_1024, mul_coe, sum_coe, div_coe, sub_coe, add_coe, rdx]
  rfl

end dh

theorem pay2_real : k0_pay2 (F := Ideal) (B e) (B v) (k0_pay8 (B v)) = R fun k => ∑ n, e n k * v n k * rinv (v n) := by
  funext i
  pointwise [k0_pay2, pay8_real]
  simp only [mul_coe, sum_coe]
  rfl

theorem pay3_apply (a : Vec Ideal S1x1024 .f32) (i) : k0_pay3 (B e) (B v) (k0_pay8 (B v)) a i = a i + k0_pay2 (B e) (B v) (k0_pay8 (B v)) i := by
  pointwise [k0_pay3]

end payloads

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![0, 0, 0] ∧ win0_5.index t = ![t.val, 0] ∧ win0_6.index t = ![0, 0] ∧ win0_7.index t = ![t.val, 0] ∧ win0_8.index t = ![t.val, 0]
    ∧ win0_9.index t = ![0, 0] :=
  (by decide +kernel : ∀ t : Fin grid0.N, _)

/-- The row of the array that a point's block has at `r`. -/
def row (t : Fin cfg0.N) (r : Fin 512) : Fin 8192 := ⟨t.val * 512 + r.val, by have := t.isLt; have h : t.val < 16 := lt_of_lt_of_eq t.isLt N_0; omega⟩

variable {x r : Fin 8192 → Fin 1024 → ℝ} {g : Fin 1024 → ℝ} {w : Fin 1024 → Fin 3072 → ℝ} {p s t : Fin 8192 → Fin 512 → ℝ} {q : Fin 8192 → Fin 1536 → ℝ} {c : Dev nD}

theorem blk0 (h : m ((c : Thread nD τ).loc main_arg3) = ZA p) (z : Fin cfg0.N) : iblk m c 0 z = BA fun n => p (row z n) := by
  funext y
  blk_simp [iblk, idx z]
  entry_read
  rw [h]
  pointwise
  refine congrArg Real.toEReal (congrArg₂ p (Fin.ext ?_) (Fin.ext ?_)) <;> blk_simp [idx z, row]

theorem blk1 (h : m ((c : Thread nD τ).loc main_arg4) = ZQ q) (z : Fin cfg0.N) : iblk m c 1 z = BQ fun n => q (row z n) := by
  funext y
  blk_simp [iblk, idx z]
  entry_read
  rw [h]
  pointwise
  refine congrArg Real.toEReal (congrArg₂ q (Fin.ext ?_) (Fin.ext ?_)) <;> blk_simp [idx z, row]

theorem blk2 (h : m ((c : Thread nD τ).loc main_arg5) = ZA s) (z : Fin cfg0.N) : iblk m c 2 z = BA fun n => s (row z n) := by
  funext y
  blk_simp [iblk, idx z]
  entry_read
  rw [h]
  pointwise
  refine congrArg Real.toEReal (congrArg₂ s (Fin.ext ?_) (Fin.ext ?_)) <;> blk_simp [idx z, row]

theorem blk3 (h : m ((c : Thread nD τ).loc main_arg6) = ZA t) (z : Fin cfg0.N) : iblk m c 3 z = BA fun n => t (row z n) := by
  funext y
  blk_simp [iblk, idx z]
  entry_read
  rw [h]
  pointwise
  refine congrArg Real.toEReal (congrArg₂ t (Fin.ext ?_) (Fin.ext ?_)) <;> blk_simp [idx z, row]

theorem blk5 (h : m ((c : Thread nD τ).loc main_arg0) = XX x) (z : Fin cfg0.N) : iblk m c 5 z = B fun n => x (row z n) := by
  funext y
  blk_simp [iblk, idx z]
  entry_read
  rw [h]
  refine congrArg Real.toEReal (congrArg₂ x (Fin.ext ?_) (Fin.ext ?_)) <;> blk_simp [idx z, row]

theorem blk7 (h : m ((c : Thread nD τ).loc main_arg7) = XX r) (z : Fin cfg0.N) : iblk m c 7 z = B fun n => r (row z n) := by
  funext y
  blk_simp [iblk, idx z]
  entry_read
  rw [h]
  refine congrArg Real.toEReal (congrArg₂ r (Fin.ext ?_) (Fin.ext ?_)) <;> blk_simp [idx z, row]

theorem blk4 (h : m ((c : Thread nD τ).loc main_arg2) = ZW w) (z : Fin cfg0.N) : iblk m c 4 z = BW w := by
  funext y
  blk_simp [iblk, idx z]
  entry_read
  rw [h]
  pointwise
  refine congrArg Real.toEReal (congrArg₂ w (Fin.ext ?_) (Fin.ext ?_)) <;> blk_simp [idx z, row, at_]
  exact (Nat.mod_eq_of_lt (by have h0 : (y 0).val < 4 := (y 0).isLt; have h2 : (y 2).val < 768 := (y 2).isLt; omega)).symm

theorem blk6 (h : m ((c : Thread nD τ).loc main_arg1) = XG g) (z : Fin cfg0.N) : iblk m c 6 z = R g := by
  funext y
  blk_simp [iblk, idx z]
  entry_read
  rw [h]
  refine congrArg Real.toEReal (congrArg g (Fin.ext ?_)) <;> blk_simp [idx z]

section final

variable (hx : m ((c : Thread nD τ).loc main_arg0) = XX x) (hg : m ((c : Thread nD τ).loc main_arg1) = XG g) (hw : m ((c : Thread nD τ).loc main_arg2) = ZW w)
  (hp : m ((c : Thread nD τ).loc main_arg3) = ZA p) (hq : m ((c : Thread nD τ).loc main_arg4) = ZQ q) (hs : m ((c : Thread nD τ).loc main_arg5) = ZA s)
  (ht : m ((c : Thread nD τ).loc main_arg6) = ZA t) (hr : m ((c : Thread nD τ).loc main_arg7) = XX r)

include hx hg hw hp hq hs ht hr

/-- The gradient in the rows after the run. -/
theorem final8 : (dats m 0 c).arrAt 8 (cfgs 0).N = XX fun n k => r n k + rdx (x n) g (InProjRefIdeal.Val.row w p q s t n) k := by
  refine (dats m 0 c).arrAt_eq_of_covers 8 _ (by decide +kernel) fun z hf y => ?_
  blk_simp
  rw [after0_8]
  have e : (B fun n k => r (row z n) k + rdx (x (row z n)) g (InProjRefIdeal.Val.row w p q s t (row z n)) k) y =
      XX (fun n k => r n k + rdx (x n) g (InProjRefIdeal.Val.row w p q s t n) k) (((cfg0.win 8).blk z).view.emb y) := by
    have e0 : row z (y 0) = ((cfg0.win 8).blk z).view.emb y 0 := Fin.ext (by blk_simp [idx z, row])
    have e1 : y 1 = ((cfg0.win 8).blk z).view.emb y 1 := Fin.ext (by blk_simp [idx z])
    exact congrArg Real.toEReal (congrArg₂ (fun n k => r n k + rdx (x n) g (InProjRefIdeal.Val.row w p q s t n) k) e0 e1)
  refine Eq.trans ?_ e
  by_cases h : z.val % 16 = 0
  · have h1 : ¬1 ≤ z.val := by have : z.val < 16 := lt_of_lt_of_eq z.isLt N_0; omega
    rw [outsAt0_A m c z h h1]
    frame_out
    rw [blk0 m hp z, blk1 m hq z, blk2 m hs z, blk3 m ht z, blk4 m hw z, blk5 m hx z, blk6 m hg z, blk7 m hr z]
    exact congrFun (pay1_real _ _ _ _ (pay7_ld ..)) y
  · have h2 : 1 ≤ z.val := by omega
    rw [outsAt0_B m c z h h2]
    frame_out
    rw [blk0 m hp z, blk1 m hq z, blk2 m hs z, blk3 m ht z, blk4 m hw z, blk5 m hx z, blk6 m hg z, blk7 m hr z]
    exact congrFun (pay1_real _ _ _ _ (pay7_ld ..)) y

/-- The gradient in the gain after the run. -/
theorem final9 : (dats m 0 c).arrAt 9 (cfgs 0).N = XG fun k => ∑ n, InProjRefIdeal.Val.row w p q s t n k * x n k * rinv (x n) := by
  refine (dats m 0 c).arrAt_eq_of_after_last 9 t0_15 (by decide +kernel) _ fun j => ?_
  blk_simp
  have h1 : ∀ z : Fin cfg0.N, z.val % 16 = 0 → ¬1 ≤ z.val := fun z h => by have : z.val < 16 := lt_of_lt_of_eq z.isLt N_0; omega
  rw [after0_9, Pipeline.eq_sum_fin_of_reset_step_apply_last (fun n h => (outsAt0 m c n h).2) 16 (fun _ => 0)
    (fun z j => ((∑ n, InProjRefIdeal.Val.row w p q s t (row z n) (j 1) * x (row z n) (j 1) * rinv (x (row z n)) : ℝ) : EReal))
    (fun z h j => by
      rw [outsAt0_A m c z h (h1 z h)]; frame_out
      rw [blk0 m hp z, blk1 m hq z, blk2 m hs z, blk3 m ht z, blk4 m hw z, blk5 m hx z, pay7_ld, pay2_real, zero_add])
    (fun z h j => by
      have h2 : 1 ≤ z.val := by omega
      rw [outsAt0_B m c z h h2]; frame_out
      rw [blk0 m hp z, blk1 m hq z, blk2 m hs z, blk3 m ht z, blk4 m hw z, blk5 m hx z, pay7_ld, pay3_apply, pay2_real])
    (le_of_eq N_0) t0_15 rfl j, zero_add, sum_coe]
  exact congrArg Real.toEReal (Fin.sum_mul_add_congr (S := 16) (n := 512)
    (f := fun n => InProjRefIdeal.Val.row w p q s t n (j 1) * x n (j 1) * rinv (x n)) fun _ _ _ => rfl)

end final

end Cert.InProjIdeal.Val
-- ==== Proof.InProj.lean ====
module

public import proofs.«01_k».proof.Defs
public import proofs.«01_k».proof.Proof.ProjKernel
public import proofs.«01_k».proof.Proof.FfnIn
public import proofs.«01_k».proof.Proof.Gen.Pre_finite_inproj

@[expose] public section

/-! # The gradients of the mixers' input projection's rmsnorm: kernel and reference agree -/

set_option maxRecDepth 16384

noncomputable section

open Idealize.ShloMosaic Idealize.ShloMosaic.TcCoe Idealize.SL.Sem

namespace Cert.InProjIdeal.Val

open Cert.Lift
open Cert.FfnInIdeal.Val (real_matrix real_row)

theorem algebraic : Cert.algebraic_InProjIdeal_InProjRefIdeal_pre_finite_inproj := by
  pair_intro
  · exact Cert.InProjIdeal.Value.run_blocks m g
  · choose x hx using fun c => real_matrix _ fun i => congrFun (hpre c).1 i
    choose γ hg using fun c => real_row _ fun i => congrFun (hpre c).2.1 i
    choose w hw using fun c => real_matrix _ fun i => congrFun (hpre c).2.2.1 i
    choose p hp using fun c => real_matrix _ fun i => congrFun (hpre c).2.2.2.1 i
    choose q hq using fun c => real_matrix _ fun i => congrFun (hpre c).2.2.2.2.1 i
    choose s hs using fun c => real_matrix _ fun i => congrFun (hpre c).2.2.2.2.2.1 i
    choose t ht using fun c => real_matrix _ fun i => congrFun (hpre c).2.2.2.2.2.2.1 i
    choose r hr using fun c => real_matrix _ fun i => congrFun (hpre c).2.2.2.2.2.2.2 i
    refine θ_run_mono (Cert.InProjRefIdeal.Value.run m' g') fun z hz c => ?_
    obtain ⟨a0, a1, a2, a3, a4, a5, a6, a7⟩ := hagree c
    refine ⟨(hz c).1.trans ?_, (hz c).2.1.trans ?_, (hz c).2.2⟩
    · rw [final8 m (hx c) (hg c) (hw c) (hp c) (hq c) (hs c) (ht c) (hr c), ← InProjRefIdeal.Val.v37_real]
      refine (InProjRefIdeal.Read.val_main_v37_eq m' c).trans ?_
      rw [a0, a1, a2, a3, a4, a5, a6, a7, hx c, hg c, hw c, hp c, hq c, hs c, ht c, hr c]
    · rw [final9 m (hx c) (hg c) (hw c) (hp c) (hq c) (hs c) (ht c) (hr c), ← InProjRefIdeal.Val.v20_real]
      refine (InProjRefIdeal.Read.val_main_v20_eq _ _ _ _ _ _).trans ?_
      rw [a0, a2, a3, a4, a5, a6, hx c, hw c, hp c, hq c, hs c, ht c]

end Cert.InProjIdeal.Val

end
-- ==== Proof.OutRef.lean ====
module

public import proofs.«01_k».proof.Proof.Gen.OutProjRefIdeal.Read
public import proofs.«01_k».proof.Proof.SwigluRef
public import Idealize.ShloMosaic.Lib.Pipeline.ValueKit

@[expose] public section

/-! # What the reference of the mixers' output projection's gradients computes -/

set_option maxRecDepth 16384

noncomputable section

namespace Cert.OutReal

open Cert.Lift Cert.SwigluReal Cert.Std

/-- The column of a head's channel; a column's head and channel. -/
def col (h : Fin 4) (k : Fin 128) : Fin 512 := ⟨h.val * 128 + k.val, by omega⟩
def hd (j : Fin 512) : Fin 4 := ⟨j.val / 128, by omega⟩
def ch (j : Fin 512) : Fin 128 := ⟨j.val % 128, by omega⟩

theorem col_hd (j : Fin 512) : col (hd j) (ch j) = j := Fin.ext (Nat.div_add_mod' j.val 128)
theorem hd_col (h : Fin 4) (k : Fin 128) : hd (col h k) = h := Fin.ext (by simp only [hd, col]; omega)
theorem ch_col (h : Fin 4) (k : Fin 128) : ch (col h k) = k := Fin.ext (by simp only [ch, col]; omega)

/-- The columns of the gated and of the convolved mixer. -/
def lft (j : Fin 256) : Fin 1024 := ⟨j.val, by omega⟩
def rgt (j : Fin 256) : Fin 1024 := ⟨768 + j.val, by omega⟩

variable (a g : Fin 512 → ℝ) (w : Fin 1024 → Fin 1024 → ℝ) (y : Fin 1024 → ℝ)

/-- The gradient in a row before the projection. -/
def dyw (j : Fin 1024) : ℝ := ∑ k, y k * w j k
/-- Its part in the retention's columns. -/
def dr (j : Fin 512) : ℝ := dyw w y ⟨256 + j.val, by omega⟩
/-- A head's channels of a row. -/
def head (h : Fin 4) (k : Fin 128) : ℝ := a (col h k)
/-- The gradient in a row's standardized heads. -/
def dst (h : Fin 4) (k : Fin 128) : ℝ := dr w y (col h k) * (g (col h k) * lgs (g (col h k)))
/-- The gradient in a head of the row. -/
def da (h : Fin 4) (k : Fin 128) : ℝ := bwd 128 (dst g w y h) (head a h) k
/-- The gradient in a head's gate. -/
def dg (h : Fin 4) (k : Fin 128) : ℝ :=
  dr w y (col h k) * std 128 (head a h) k * (lgs (g (col h k)) * (1 + g (col h k) * (1 - lgs (g (col h k)))))

theorem dg_eq (j : Fin 512) : dg a g w y (hd j) (ch j) =
    std 128 (head a (hd j)) (ch j) * dr w y j * lgs (g j) + g j * (std 128 (head a (hd j)) (ch j) * dr w y j) * (lgs (g j) * (1 - lgs (g j))) := by
  rw [dg, col_hd]; ring

end Cert.OutReal

namespace Cert.Lift

open Idealize.ShloMosaic

theorem bits_128 : Ideal.ofBits .f32 0x43000000#32 = ((128 : ℝ) : EReal) := by
  simp [Ideal.ofBits, Ideal.ieee, -EReal.coe_mul]; norm_num

end Cert.Lift

namespace Cert.OutProjRefIdeal.Val

open Cert.OutProjRefIdeal Cert.OutProjRefIdeal.Read Cert.Lift Cert.SwigluReal Cert.Std Cert.OutReal Idealize.ShloMosaic

variable (a : Fin 8192 → Fin 512 → ℝ) (p : Fin 8192 → Fin 3072 → ℝ) (w : Fin 1024 → Fin 1024 → ℝ) (y : Fin 8192 → Fin 1024 → ℝ)

/-- The arguments, as arrays of reals. -/
abbrev XA : FVec Ideal S8192x512 .f32 := fun i => ((a (i 0) (i 1) : ℝ) : EReal)
abbrev XP : FVec Ideal S8192x3072 .f32 := fun i => ((p (i 0) (i 1) : ℝ) : EReal)
abbrev XW : FVec Ideal S1024x1024 .f32 := fun i => ((w (i 0) (i 1) : ℝ) : EReal)
abbrev XY : FVec Ideal S8192x1024 .f32 := fun i => ((y (i 0) (i 1) : ℝ) : EReal)
/-- Heads of rows, and a number for each. -/
abbrev T (f : Fin 8192 → Fin 4 → Fin 128 → ℝ) : FVec Ideal S8192x4x128 .f32 := fun i => ((f (i 0) (i 1) (i 2) : ℝ) : EReal)
abbrev U (f : Fin 8192 → Fin 4 → ℝ) : FVec Ideal S8192x4x1 .f32 := fun i => ((f (i 0) (i 1) : ℝ) : EReal)
/-- The gate's columns. -/
abbrev gt (n : Fin 8192) (j : Fin 512) : ℝ := p n ⟨2048 + j.val, by omega⟩

theorem v0_real : val_main_v0 (F := Ideal) (XP p) = XA (gt p) := by
  funext i
  pointwise [val_main_v0]
  rfl

theorem v1_real : val_main_v1 (F := Ideal) (XA a) = T fun n => head (a n) := by
  funext i
  pointwise [val_main_v1]
  rfl

theorem v5_real : val_main_v5 (F := Ideal) (XA a) = U fun n h => (∑ k, head (a n) h k) / 128 := by
  funext i
  pointwise [val_main_v5, val_main_v4, val_main_v3, val_main_v2, val_main_cst, val_main_cst_0, v1_real]
  simp (disch := norm_num) only [bits_128, sum_coe, div_coe]
  rfl

theorem v7_real : val_main_v7 (F := Ideal) (XA a) = T fun n h => cen 128 (head (a n) h) := by
  funext i
  pointwise [val_main_v7, val_main_v6, v1_real, v5_real]
  simp only [sub_coe]
  rfl

theorem v16_real : val_main_v16 (F := Ideal) (XA a) = T fun n h => cen 128 (head (a n) h) := v7_real a

theorem v18_real : val_main_v18 (F := Ideal) (XA a) = U fun n h => var 128 (head (a n) h) := by
  funext i
  pointwise [val_main_v18, val_main_v17, val_main_cst_4, val_main_v14, val_main_v13, val_main_cst_3, val_main_v12, val_main_v11, val_main_cst_2, val_main_v8, v7_real]
  simp (disch := norm_num) only [bits_128, bits_eps, mul_coe, sum_coe, div_coe, add_coe]
  rfl

theorem v19_real : val_main_v19 (F := Ideal) (XA a) = U fun n h => rs 128 (head (a n) h) := by
  funext i
  pointwise [val_main_v19, v18_real]
  exact rsqrt_coe _ (var_pos 128 _ (by norm_num))

theorem v22_real : val_main_v22 (F := Ideal) (XA a) = U fun n h => -(1 / 2) * (rs 128 (head (a n) h) / var 128 (head (a n) h)) := by
  funext i
  pointwise [val_main_v22, val_main_v21, val_main_cst_5, val_main_v20, v18_real, v19_real]
  simp only [bits_neg_half, div_coe _ _ (var_pos 128 _ (by norm_num : (0 : ℝ) < 128)).ne', mul_coe]

theorem v25_real : val_main_v25 (F := Ideal) (XA a) = XA fun n j => std 128 (head (a n) (hd j)) (ch j) := by
  funext i
  pointwise [val_main_v25, val_main_v24, val_main_v23, v16_real, v19_real]
  simp only [mul_coe]
  rfl

theorem s_real : val_main_v26_2 (F := Ideal) (XP p) = XA fun n j => lgs (gt p n j) := by
  funext i
  pointwise [val_main_v26_2, val_main_call0_v4, val_main_call0_cst_0, val_main_call0_v3, val_main_call0_v2, val_main_call0_cst, val_main_call0_v1, val_main_call0_v0, v0_real]
  simp only [one_coe, neg_coe]
  exact lgs_coe _

theorem v30_real : val_main_v30 (F := Ideal) (XW w) (XY y) = XY fun n => dyw w (y n) := by
  funext i
  rw [val_main_v30_apply]
  pointwise
  simp only [mul_coe, sum_coe]
  rfl

theorem v32_real : val_main_v32 (F := Ideal) (XW w) (XY y) = XA fun n => dr w (y n) := by
  funext i
  pointwise [val_main_v32, v30_real]
  rfl

theorem v36_real : val_main_v36 (F := Ideal) (XA a) (XP p) (XW w) (XY y) = XA fun n j => dg (a n) (gt p n) w (y n) (hd j) (ch j) := by
  funext i
  pointwise [val_main_v36, val_main_call1_v2, val_main_call1_v1, val_main_call1_v0, val_main_v26_1, val_main_call0_v7, val_main_call0_v6, val_main_call0_cst_1,
    val_main_v34, v0_real, s_real, v25_real, v32_real]
  simp only [one_coe, mul_coe, sub_coe, add_coe]
  refine congrArg Real.toEReal ((dg_eq (a (i 0)) (gt p (i 0)) w (y (i 0)) (i 1)).symm)

theorem v37_real : val_main_v37 (F := Ideal) (XP p) (XW w) (XY y) = T fun n => dst (gt p n) w (y n) := by
  funext i
  pointwise [val_main_v37, val_main_v35, val_main_v26_0, v0_real, s_real, v32_real]
  simp only [mul_coe]
  rfl

theorem v31_real : val_main_v31 (F := Ideal) (XW w) (XY y) = fun i => ((dyw w (y (i 0)) (lft (i 1)) : ℝ) : EReal) := by
  funext i
  pointwise [val_main_v31, v30_real]
  rfl

theorem v33_real : val_main_v33 (F := Ideal) (XW w) (XY y) = fun i => ((dyw w (y (i 0)) (rgt (i 1)) : ℝ) : EReal) := by
  funext i
  pointwise [val_main_v33, v30_real]
  rfl

/-- The gradient in the standardized heads, times the reciprocal of the deviation; and the part that comes through the deviation. -/
abbrev D (n : Fin 8192) (h : Fin 4) : Fin 128 → ℝ := dst (gt p n) w (y n) h
abbrev tr (n : Fin 8192) (h : Fin 4) (k : Fin 128) : ℝ :=
  (∑ j, cen 128 (head (a n) h) j * D p w y n h j) * (-(1 / 2) * (rs 128 (head (a n) h) / var 128 (head (a n) h))) / 128 * (2 * cen 128 (head (a n) h) k)

theorem v42_real : val_main_v42 (F := Ideal) (XA a) (XP p) (XW w) (XY y) = T fun n h k => D p w y n h k * rs 128 (head (a n) h) := by
  funext i
  pointwise [val_main_v42, val_main_v41, v37_real, v19_real]
  simp only [mul_coe]
  rfl

theorem v48_real : val_main_v48 (F := Ideal) (XA a) (XP p) (XW w) (XY y) = U fun n h =>
    (∑ j, cen 128 (head (a n) h) j * D p w y n h j) * (-(1 / 2) * (rs 128 (head (a n) h) / var 128 (head (a n) h))) / 128 := by
  funext i
  pointwise [val_main_v48, val_main_v47, val_main_cst_8, val_main_v43, val_main_v40, val_main_v39, val_main_cst_6, val_main_v38, v16_real, v37_real, v22_real]
  simp (disch := norm_num) only [bits_128, mul_coe, sum_coe, div_coe]
  rfl

theorem v51_real : val_main_v51 (F := Ideal) (XA a) (XP p) (XW w) (XY y) = T fun n h k => tr a p w y n h k := by
  funext i
  pointwise [val_main_v51, val_main_v50, val_main_v49, val_main_cst_9, v48_real, val_main_v10, val_main_v9, val_main_cst_1, v7_real]
  simp only [Finset.univ_unique, Finset.sum_singleton, bits_two, mul_coe]
  rfl

theorem v58_real : val_main_v58 (F := Ideal) (XA a) (XP p) (XW w) (XY y) = U fun n h =>
    (∑ j, -(D p w y n h j * rs 128 (head (a n) h)) + ∑ j, -tr a p w y n h j) / 128 := by
  funext i
  pointwise [val_main_v58, val_main_v57, val_main_cst_11, val_main_v56, val_main_v54, val_main_v53, val_main_cst_10, val_main_v52, val_main_v46, val_main_v45,
    val_main_cst_7, val_main_v44, v42_real, v51_real]
  simp (disch := norm_num) only [bits_128, neg_coe, sum_coe, add_coe, div_coe]
  rfl

theorem v61_real : val_main_v61 (F := Ideal) (XA a) (XP p) (XW w) (XY y) = T fun n => da (a n) (gt p n) w (y n) := by
  funext i
  pointwise [val_main_v61, val_main_v60, val_main_v59, val_main_cst_12, val_main_v55, v42_real, v51_real, v58_real]
  simp only [Finset.univ_unique, Finset.sum_singleton, add_coe]
  exact congrArg Real.toEReal (bwd_eq 128 (D p w y (i 0) (i 1)) (head (a (i 0)) (i 1)) (by norm_num) (by norm_num) (i 2))

theorem v63_real : val_main_v63 (F := Ideal) (XA a) (XP p) (XW w) (XY y) = fun i => ((da (a (i 0)) (gt p (i 0)) w (y (i 0)) (hd (i 1)) (ch (i 1)) : ℝ) : EReal) := by
  funext i
  pointwise [val_main_v63, val_main_v62, v61_real]
  rfl

theorem v64_real : val_main_v64 (F := Ideal) (XA a) (XP p) (XW w) (XY y) = fun i => ((dg (a (i 0)) (gt p (i 0)) w (y (i 0)) (hd (i 1)) (ch (i 1)) : ℝ) : EReal) := by
  funext i
  pointwise [val_main_v64, v36_real]

end Cert.OutProjRefIdeal.Val

end
-- ==== Proof.OutKernel.lean ====
module

public import proofs.«01_k».proof.Proof.Gen.OutProjIdeal.Value
public import proofs.«01_k».proof.Proof.OutRef
public import Idealize.ShloMosaic.Lib.StableHlo.Run

@[expose] public section

/-! # The gradients before the mixers' output projection, as the kernel computes them -/

set_option maxRecDepth 16384

noncomputable section

open Idealize.ShloMosaic Idealize.ShloMosaic.TcCoe Idealize.SL.Sem
open Idealize.ShloMosaic.Pipeline (Dat)

namespace Cert.OutProjIdeal.Val

open Cert.OutProjIdeal Cert.OutProjIdeal.Gen Cert.Lift Cert.SwigluReal Cert.Std Cert.OutReal
open Cert.OutProjRefIdeal.Val (XA XP XW XY gt)

section heads

variable {F : FTy → Type} [FloatOps F] (y : Vec F S512x1024 .f32) (w : Vec F S128x1024 .bf16) (a g : Vec F S512x128 .f32)

/-- What is written for one head; the four heads are the same function. -/
abbrev daB : FVec F S512x128 .bf16 := k0_pay12 (k0_pay5 y w) (k0_pay7 a) (k0_pay8 a) g k0_pay9
abbrev dgB : FVec F S512x128 .bf16 := k0_pay11 (k0_pay5 y w) (k0_pay8 a) g k0_pay9

theorem da1 : k0_pay22 (k0_pay15 a) (k0_pay16 a) (k0_pay20 (k0_pay13 (k0_pay2 y) w) g) (k0_pay21 (k0_pay13 (k0_pay2 y) w) a g) = daB y w a g := rfl
theorem da2 : k0_pay30 (k0_pay23 (k0_pay2 y) w) (k0_pay25 a) (k0_pay26 a) g (k0_pay27 g) = daB y w a g := rfl
theorem da3 : k0_pay1 (k0_pay38 (k0_pay31 (k0_pay2 y) w) (k0_pay32 a) (k0_pay33 a) g) = daB y w a g := rfl
theorem dg1 : k0_pay18 (k0_pay13 (k0_pay2 y) w) a g = dgB y w a g := rfl
theorem dg2 : k0_pay29 g (k0_pay27 g) (k0_pay28 (k0_pay2 y) w a) (Scalar.ofBits .f32 0x3F800000#32) = dgB y w a g := rfl
theorem dg3 : k0_pay37 (k0_pay31 (k0_pay2 y) w) (k0_pay32 a) (k0_pay33 a) g = dgB y w a g := rfl

end heads

section payloads

variable (a g : Fin 512 → Fin 512 → ℝ) (w : Fin 1024 → Fin 1024 → ℝ) (y : Fin 512 → Fin 1024 → ℝ)

/-- Blocks of rows, the weights, and one head's part of each. -/
abbrev BA : FVec Ideal S512x512 .f32 := fun i => ((a (i 0) (i 1) : ℝ) : EReal)
abbrev BY : FVec Ideal S512x1024 .f32 := fun i => ((y (i 0) (i 1) : ℝ) : EReal)
abbrev BW : FVec Ideal S1024x1024 .bf16 := fun i => ((w (i 0) (i 1) : ℝ) : EReal)
abbrev BH (f : Fin 512 → Fin 128 → ℝ) : FVec Ideal S512x128 .f32 := fun i => ((f (i 0) (i 1) : ℝ) : EReal)
abbrev B1 (f : Fin 512 → ℝ) : FVec Ideal S512x1 .f32 := fun i => ((f (i 0) : ℝ) : EReal)
abbrev BO (f : Fin 512 → Fin 512 → ℝ) : FVec Ideal S512x512 .bf16 := fun i => ((f (i 0) (i 1) : ℝ) : EReal)
abbrev BT (f : Fin 512 → Fin 256 → ℝ) : FVec Ideal S512x256 .f32 := fun i => ((f (i 0) (i 1) : ℝ) : EReal)
abbrev WH (h : Fin 4) : FVec Ideal S128x1024 .bf16 := fun i => ((w ⟨256 + (col h (i 0)).val, by omega⟩ (i 1) : ℝ) : EReal)
abbrev WT (c : Fin 256 → Fin 1024) : FVec Ideal S256x1024 .bf16 := fun i => ((w (c (i 0)) (i 1) : ℝ) : EReal)

theorem ld_y : View.ld (Val := Elt Ideal) (e' := .f32) (S := S512x1024) (BY y) r0_0 = BY y := View.ld_unit_lit' _ _ (by decide)
theorem ld_lft : View.ld (Val := Elt Ideal) (e' := .bf16) (S := S1024x1024) (BW w) r0_1 = WT w lft := by
  funext i
  unfold r0_1
  pointwise
  rfl
theorem ld_rgt : View.ld (Val := Elt Ideal) (e' := .bf16) (S := S1024x1024) (BW w) r0_3 = WT w rgt := by
  funext i
  unfold r0_3
  pointwise
  rfl

theorem ldW (h : Fin 4) (o : ℕ) (e : o = 256 + h.val * 128) (inb : ∀ d, (![o, 0] : Fin 2 → ℕ) d + S128x1024.size d ≤ S1024x1024.size d) :
    View.ld (Val := Elt Ideal) (e' := .bf16) (S := S1024x1024) (BW w) (Rect.unit (s := S1024x1024) ![o, 0] S128x1024.size inb) = WH w h := by
  subst e
  funext i
  pointwise
  refine congrArg Real.toEReal (congrArg₂ w (Fin.ext ?_) (Fin.ext ?_))
  · simp [col]; omega
  · simp

theorem ldH (h : Fin 4) (o : ℕ) (e : o = h.val * 128) (inb : ∀ d, (![0, o] : Fin 2 → ℕ) d + S512x128.size d ≤ S512x512.size d) :
    View.ld (Val := Elt Ideal) (e' := .f32) (S := S512x512) (BA a) (Rect.unit (s := S512x512) ![0, o] S512x128.size inb) = BH fun n => head (a n) h := by
  subst e
  funext i
  pointwise
  refine congrArg Real.toEReal (congrArg₂ a (Fin.ext ?_) (Fin.ext ?_))
  · simp
  · simp [col]

variable (h : Fin 4)

theorem pay5_real : k0_pay5 (F := Ideal) (BY y) (WH w h) = BH fun n k => dr w (y n) (col h k) := by
  funext i
  pointwise [k0_pay5, k0_pay2]
  simp only [mul_coe, sum_coe]
  rfl

theorem pay6_real : k0_pay6 (F := Ideal) (BH fun n => head (a n) h) = BH fun n => cen 128 (head (a n) h) := by
  funext i
  pointwise [k0_pay6]
  simp (disch := norm_num) only [bits_128, sum_coe, div_coe, sub_coe]
  rfl

theorem pay7_real : k0_pay7 (F := Ideal) (BH fun n => head (a n) h) = B1 fun n => rs 128 (head (a n) h) := by
  funext i
  pointwise [k0_pay7, pay6_real]
  simp (disch := norm_num) only [bits_128, bits_eps, mul_coe, sum_coe, div_coe, add_coe]
  exact rsqrt_coe _ (var_pos 128 _ (by norm_num))

theorem pay8_real : k0_pay8 (F := Ideal) (BH fun n => head (a n) h) = BH fun n => std 128 (head (a n) h) := by
  funext i
  pointwise [k0_pay8, pay6_real, pay7_real]
  simp only [mul_coe]
  rfl

theorem pay10_real (f : Fin 512 → Fin 128 → ℝ) : k0_pay10 (F := Ideal) (BH f) k0_pay9 = BH fun n k => lgs (f n k) := by
  funext i
  pointwise [k0_pay10, k0_pay9]
  simp only [zero_sub, one_coe, neg_coe]
  exact lgs_coe _

theorem dgB_real : dgB (F := Ideal) (BY y) (WH w h) (BH fun n => head (a n) h) (BH fun n => head (g n) h) =
    fun i => ((dg (a (i 0)) (g (i 0)) w (y (i 0)) h (i 1) : ℝ) : EReal) := by
  funext i
  pointwise [dgB, k0_pay11, pay5_real, pay8_real, pay10_real]
  simp only [one_coe, mul_coe, sub_coe, add_coe]
  rfl

theorem daB_real : daB (F := Ideal) (BY y) (WH w h) (BH fun n => head (a n) h) (BH fun n => head (g n) h) =
    fun i => ((da (a (i 0)) (g (i 0)) w (y (i 0)) h (i 1) : ℝ) : EReal) := by
  funext i
  pointwise [daB, k0_pay12, pay5_real, pay7_real, pay8_real, pay10_real]
  simp (disch := norm_num) only [bits_128, mul_coe, sum_coe, div_coe, sub_coe]
  rfl

theorem pay3_real (c : Fin 256 → Fin 1024) : k0_pay3 (F := Ideal) (BY y) (WT w c) = BT fun n k => dyw w (y n) (c k) := by
  funext i
  pointwise [k0_pay3, k0_pay2]
  simp only [mul_coe, sum_coe]
  rfl

theorem pay4_real (c : Fin 256 → Fin 1024) : k0_pay4 (F := Ideal) (BY y) (WT w c) = BT fun n k => dyw w (y n) (c k) := pay3_real w y c

theorem at_h (f : Fin 512 → Fin 4 → Fin 128 → ℝ) (h : Fin 4) {n n' : Fin 512} {k : Fin 128} {j : Fin 512} {o : ℕ} (ho : o = h.val * 128) (e : n'.val = n.val)
    (e' : j.val = o + k.val) : ((f n h k : ℝ) : EReal) = ((f n' (hd j) (ch j) : ℝ) : EReal) := by
  obtain rfl := Fin.ext e
  obtain rfl : j = col h k := Fin.ext (e'.trans (congrArg (· + k.val) ho))
  rw [hd_col, ch_col]

/-- What a point writes. -/
theorem out4_real : out0_4 (F := Ideal) (BY y) (BW w) (BA a) (BA g) = BT fun n k => dyw w (y n) (lft k) := by
  rw [out0_4, ld_y, ld_lft, pay3_real]
  exact View.canon_unit_zero (funext fun d => by fin_cases d <;> rfl) _ _
theorem out7_real : out0_7 (F := Ideal) (BY y) (BW w) (BA a) (BA g) = BT fun n k => dyw w (y n) (rgt k) := by
  rw [out0_7, ld_y, ld_rgt, pay4_real]
  exact View.canon_unit_zero (funext fun d => by fin_cases d <;> rfl) _ _

theorem out5_real : out0_5 (F := Ideal) (BY y) (BW w) (BA a) (BA g) = BO fun n j => da (a n) (g n) w (y n) (hd j) (ch j) := by
  funext x
  unfold_out out0_5
  unfold r0_4 r0_5 r0_6 r0_7 r0_8 r0_9 r0_10 r0_11
  simp only [ld_y, ldW w 0 256 rfl, ldW w 1 384 rfl, ldW w 2 512 rfl, ldW w 3 640 rfl, ldH a 0 0 rfl, ldH a 1 128 rfl, ldH a 2 256 rfl, ldH a 3 384 rfl,
    ldH g 0 0 rfl, ldH g 1 128 rfl, ldH g 2 256 rfl, ldH g 3 384 rfl, da1, da2, da3, daB_real]
  canon_tiles x
  case piece0 => exact at_h (fun n => da (a n) (g n) w (y n)) 3 (o := 384) rfl h0 h1
  case piece1 => exact at_h (fun n => da (a n) (g n) w (y n)) 2 (o := 256) rfl h0 h1
  case piece2 => exact at_h (fun n => da (a n) (g n) w (y n)) 1 (o := 128) rfl h0 h1
  case piece3 => exact at_h (fun n => da (a n) (g n) w (y n)) 0 (o := 0) rfl h0 (h1.trans (Nat.zero_add _).symm)

theorem out6_real : out0_6 (F := Ideal) (BY y) (BW w) (BA a) (BA g) = BO fun n j => dg (a n) (g n) w (y n) (hd j) (ch j) := by
  funext x
  unfold_out out0_6
  unfold r0_4 r0_5 r0_6 r0_7 r0_8 r0_9 r0_10 r0_11
  simp only [ld_y, ldW w 0 256 rfl, ldW w 1 384 rfl, ldW w 2 512 rfl, ldW w 3 640 rfl, ldH a 0 0 rfl, ldH a 1 128 rfl, ldH a 2 256 rfl, ldH a 3 384 rfl,
    ldH g 0 0 rfl, ldH g 1 128 rfl, ldH g 2 256 rfl, ldH g 3 384 rfl, dg1, dg2, dg3, dgB_real]
  canon_tiles x
  case piece0 => exact at_h (fun n => dg (a n) (g n) w (y n)) 3 (o := 384) rfl h0 h1
  case piece1 => exact at_h (fun n => dg (a n) (g n) w (y n)) 2 (o := 256) rfl h0 h1
  case piece2 => exact at_h (fun n => dg (a n) (g n) w (y n)) 1 (o := 128) rfl h0 h1
  case piece3 => exact at_h (fun n => dg (a n) (g n) w (y n)) 0 (o := 0) rfl h0 (h1.trans (Nat.zero_add _).symm)

end payloads

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 4] ∧
    win0_4.index t = ![t.val, 0] ∧ win0_5.index t = ![t.val, 0] ∧ win0_6.index t = ![t.val, 0] ∧ win0_7.index t = ![t.val, 0] :=
  (by decide +kernel : ∀ t : Fin grid0.N, _)

/-- The row of the array that a point's block has at `r`. -/
def row (t : Fin cfg0.N) (r : Fin 512) : Fin 8192 := ⟨t.val * 512 + r.val, by have h : t.val < 16 := lt_of_lt_of_eq t.isLt N_0; omega⟩

variable {m} {a : Fin 8192 → Fin 512 → ℝ} {p : Fin 8192 → Fin 3072 → ℝ} {w : Fin 1024 → Fin 1024 → ℝ} {y : Fin 8192 → Fin 1024 → ℝ} {c : Dev nD}

theorem blk0 (hy : m ((c : Thread nD τ).loc main_arg5) = XY y) (t : Fin cfg0.N) : iblk m c 0 t = BY fun r => y (row t r) := by
  funext z
  blk_simp [iblk, idx t]
  entry_read
  rw [hy]
  refine congrArg Real.toEReal (congrArg₂ y (Fin.ext ?_) (Fin.ext ?_)) <;> blk_simp [idx t, row]

theorem blk1 (hw : m ((c : Thread nD τ).loc main_arg4) = XW w) (t : Fin cfg0.N) : iblk m c 1 t = BW w := by
  funext z
  blk_simp [iblk, idx t]
  entry_read
  rw [hw]
  pointwise
  refine congrArg Real.toEReal (congrArg₂ w (Fin.ext ?_) (Fin.ext ?_)) <;> blk_simp [idx t]

theorem blk2 (ha : m ((c : Thread nD τ).loc main_arg1) = XA a) (t : Fin cfg0.N) : iblk m c 2 t = BA fun r => a (row t r) := by
  funext z
  blk_simp [iblk, idx t]
  entry_read
  rw [ha]
  refine congrArg Real.toEReal (congrArg₂ a (Fin.ext ?_) (Fin.ext ?_)) <;> blk_simp [idx t, row]

theorem blk3 (hp : m ((c : Thread nD τ).loc main_arg2) = XP p) (t : Fin cfg0.N) : iblk m c 3 t = BA fun r => gt p (row t r) := by
  funext z
  blk_simp [iblk, idx t]
  entry_read
  rw [hp]
  refine congrArg Real.toEReal (congrArg₂ p (Fin.ext ?_) (Fin.ext ?_)) <;> blk_simp [idx t, row, gt]

variable (ha : m ((c : Thread nD τ).loc main_arg1) = XA a) (hp : m ((c : Thread nD τ).loc main_arg2) = XP p)
  (hw : m ((c : Thread nD τ).loc main_arg4) = XW w) (hy : m ((c : Thread nD τ).loc main_arg5) = XY y)
include ha hp hw hy

/-- The gradients after the run. -/
theorem final4 : (dats m 0 c).arrAt 4 (cfgs 0).N = fun i : S8192x256.Idx => ((dyw w (y (i 0)) (lft (i 1)) : ℝ) : EReal) := by
  refine (dats m 0 c).arrAt_eq_of_covers 4 _ (by decide +kernel) fun t _ z => ?_
  blk_simp
  rw [after0_4, blk0 hy t, blk1 hw t, blk2 ha t, blk3 hp t, out4_real]
  have e0 : row t (z 0) = ((cfg0.win 4).blk t).view.emb z 0 := Fin.ext (by blk_simp [idx t, row])
  have e1 : z 1 = ((cfg0.win 4).blk t).view.emb z 1 := Fin.ext (by blk_simp [idx t])
  exact congrArg Real.toEReal (congrArg₂ (fun r k => dyw w (y r) (lft k)) e0 e1)

theorem final7 : (dats m 0 c).arrAt 7 (cfgs 0).N = fun i : S8192x256.Idx => ((dyw w (y (i 0)) (rgt (i 1)) : ℝ) : EReal) := by
  refine (dats m 0 c).arrAt_eq_of_covers 7 _ (by decide +kernel) fun t _ z => ?_
  blk_simp
  rw [after0_7, blk0 hy t, blk1 hw t, blk2 ha t, blk3 hp t, out7_real]
  have e0 : row t (z 0) = ((cfg0.win 7).blk t).view.emb z 0 := Fin.ext (by blk_simp [idx t, row])
  have e1 : z 1 = ((cfg0.win 7).blk t).view.emb z 1 := Fin.ext (by blk_simp [idx t])
  exact congrArg Real.toEReal (congrArg₂ (fun r k => dyw w (y r) (rgt k)) e0 e1)

theorem final5 : (dats m 0 c).arrAt 5 (cfgs 0).N = fun i : S8192x512.Idx => ((da (a (i 0)) (gt p (i 0)) w (y (i 0)) (hd (i 1)) (ch (i 1)) : ℝ) : EReal) := by
  refine (dats m 0 c).arrAt_eq_of_covers 5 _ (by decide +kernel) fun t _ z => ?_
  blk_simp
  rw [after0_5, blk0 hy t, blk1 hw t, blk2 ha t, blk3 hp t, out5_real]
  have e0 : row t (z 0) = ((cfg0.win 5).blk t).view.emb z 0 := Fin.ext (by blk_simp [idx t, row])
  have e1 : z 1 = ((cfg0.win 5).blk t).view.emb z 1 := Fin.ext (by blk_simp [idx t])
  exact congrArg Real.toEReal (congrArg₂ (fun r k => da (a r) (gt p r) w (y r) (hd k) (ch k)) e0 e1)

theorem final6 : (dats m 0 c).arrAt 6 (cfgs 0).N = fun i : S8192x512.Idx => ((dg (a (i 0)) (gt p (i 0)) w (y (i 0)) (hd (i 1)) (ch (i 1)) : ℝ) : EReal) := by
  refine (dats m 0 c).arrAt_eq_of_covers 6 _ (by decide +kernel) fun t _ z => ?_
  blk_simp
  rw [after0_6, blk0 hy t, blk1 hw t, blk2 ha t, blk3 hp t, out6_real]
  have e0 : row t (z 0) = ((cfg0.win 6).blk t).view.emb z 0 := Fin.ext (by blk_simp [idx t, row])
  have e1 : z 1 = ((cfg0.win 6).blk t).view.emb z 1 := Fin.ext (by blk_simp [idx t])
  exact congrArg Real.toEReal (congrArg₂ (fun r k => dg (a r) (gt p r) w (y r) (hd k) (ch k)) e0 e1)

end Cert.OutProjIdeal.Val

end
-- ==== Proof.OutProj.lean ====
module

public import proofs.«01_k».proof.Defs
public import proofs.«01_k».proof.Proof.OutKernel
public import proofs.«01_k».proof.Proof.FfnIn
public import proofs.«01_k».proof.Proof.Gen.Pre_finite_outproj

@[expose] public section

/-! # The gradients before the mixers' output projection: kernel and reference agree -/

set_option maxRecDepth 16384

noncomputable section

open Idealize.ShloMosaic Idealize.ShloMosaic.TcCoe Idealize.SL.Sem

namespace Cert.OutProjIdeal.Val

open Cert.Lift
open Cert.FfnInIdeal.Val (real_matrix)

theorem algebraic : Cert.algebraic_OutProjIdeal_OutProjRefIdeal_pre_finite_outproj := by
  pair_intro
  · exact Cert.OutProjIdeal.Value.run_blocks m g
  · choose a ha using fun c => real_matrix _ fun i => congrFun (hpre c).2.1 i
    choose p hp using fun c => real_matrix _ fun i => congrFun (hpre c).2.2.1 i
    choose w hw using fun c => real_matrix _ fun i => congrFun (hpre c).2.2.2.2.1 i
    choose y hy using fun c => real_matrix _ fun i => congrFun (hpre c).2.2.2.2.2 i
    refine θ_run_mono (Cert.OutProjRefIdeal.Value.run m' g') fun z hz c => ?_
    obtain ⟨a0, a1, a2, a3, a4, a5⟩ := hagree c
    refine ⟨(hz c).1.trans ?_, (hz c).2.1.trans ?_, (hz c).2.2.1.trans ?_, (hz c).2.2.2.1.trans ?_, (hz c).2.2.2.2⟩
    · rw [final4 (ha c) (hp c) (hw c) (hy c), ← OutProjRefIdeal.Val.v31_real]
      refine (OutProjRefIdeal.Read.val_main_v31_eq _ _).trans ?_
      rw [a4, a5, hw c, hy c]
    · rw [final5 (ha c) (hp c) (hw c) (hy c), ← OutProjRefIdeal.Val.v63_real]
      refine (OutProjRefIdeal.Read.val_main_v63_eq m' c).trans ?_
      rw [a1, a2, a4, a5, ha c, hp c, hw c, hy c]
    · rw [final6 (ha c) (hp c) (hw c) (hy c), ← OutProjRefIdeal.Val.v64_real]
      refine (OutProjRefIdeal.Read.val_main_v64_eq m' c).trans ?_
      rw [a1, a2, a4, a5, ha c, hp c, hw c, hy c]
    · rw [final7 (ha c) (hp c) (hw c) (hy c), ← OutProjRefIdeal.Val.v33_real]
      refine (OutProjRefIdeal.Read.val_main_v33_eq _ _).trans ?_
      rw [a4, a5, hw c, hy c]

end Cert.OutProjIdeal.Val

end
-- ==== Proof.RetOutRef.lean ====
module

public import proofs.«01_k».proof.Proof.Gen.RetOutRefIdeal.Read
public import proofs.«01_k».proof.Proof.RetMainRef
public import proofs.«01_k».proof.Proof.OutRef

@[expose] public section

/-! # What the reference of the retention's output and of its gated output computes

The reference's lines up to the decayed scores are those of the retention's gradients, so their values are taken from there. -/

set_option maxRecDepth 16384

noncomputable section

namespace Cert.RetReal

open Cert.Lift Cert.GmReal Cert.Std Cert.SwigluReal

section

variable (D : Fin 4 → Fin 128 → Fin 128 → ℝ) (x : Fin 4 → Fin 128 → ℝ) (Q K V : Fin 8192 → Fin 4 → Fin 128 → ℝ)
  (S : Fin 64 → Fin 4 → Fin 128 → Fin 128 → ℝ)

/-- One direction's output at a row of a chunk. -/
def od (n : Fin 64) (h : Fin 4) (r e : Fin 128) : ℝ :=
  ∑ m, sco D Q K n h r m * V (cr n m) h e + ∑ d, Q (cr n r) h d * x h r * S n h d e

end

variable (X0 X1 X2 : Fin 8192 → Fin 512 → ℝ) (P : Fin 8192 → Fin 3072 → ℝ)

/-- The output of one direction and of the other, and of both. -/
def oFw : Fin 64 → Fin 4 → Fin 128 → Fin 128 → ℝ :=
  od (dge lam) (xi lam) (rq X0) (rk X1) (rv X2) (state lam (rk X1) (rv X2))
def oBw : Fin 64 → Fin 4 → Fin 128 → Fin 128 → ℝ :=
  od (dgt lamR) (xi lamR) (bk (rq X0)) (bk (rk X1)) (bk (rv X2)) (state lamR (bk (rk X1)) (bk (rv X2)))
def outR (s : Fin 8192) (h : Fin 4) (e : Fin 128) : ℝ := un (oFw X0 X1 X2) s h e + un (oBw X0 X1 X2) s.rev h e
/-- The gate's columns. -/
def gate (s : Fin 8192) (j : Fin 512) : ℝ := P s ⟨2048 + j.val, by omega⟩
/-- The gated output of a head. -/
def yR (s : Fin 8192) (j : Fin 512) : ℝ := std 128 (outR X0 X1 X2 s (hh j)) (hd j) * (gate P s j * lgs (gate P s j))

end Cert.RetReal

namespace Cert.RetOutRefIdeal.Val

open Cert.RetOutRefIdeal Cert.RetOutRefIdeal.Read Cert.Lift Cert.GmReal Cert.RetReal Cert.Std Cert.SwigluReal Idealize.ShloMosaic
open Cert.RetMainRefIdeal.Val (XA CH)

variable (X0 X1 X2 : Fin 8192 → Fin 512 → ℝ) (P : Fin 8192 → Fin 3072 → ℝ)

abbrev XP (X : Fin 8192 → Fin 3072 → ℝ) : FVec Ideal S8192x3072 .f32 := fun i => ((X (i 0) (i 1) : ℝ) : EReal)
/-- Chunks, heads of rows, and a number for each head. -/
abbrev C4 (f : Fin 64 → Fin 4 → Fin 128 → Fin 128 → ℝ) : FVec Ideal S4x64x128x128 .f32 := fun i => ((f (i 1) (i 0) (i 2) (i 3) : ℝ) : EReal)
abbrev T (f : Fin 8192 → Fin 4 → Fin 128 → ℝ) : FVec Ideal S8192x4x128 .f32 := fun i => ((f (i 0) (i 1) (i 2) : ℝ) : EReal)
abbrev U (f : Fin 8192 → Fin 4 → ℝ) : FVec Ideal S8192x4x1 .f32 := fun i => ((f (i 0) (i 1) : ℝ) : EReal)

theorem v156_real : val_main_v156 (F := Ideal) (XA X0) (XA X1) = C4 (sco (dge lam) (rq X0) (rk X1)) :=
  RetMainRefIdeal.Val.v156_real X0 X1
theorem v202_real : val_main_v202 (F := Ideal) (XA X0) (XA X1) = C4 (sco (dgt lamR) (bk (rq X0)) (bk (rk X1))) :=
  RetMainRefIdeal.Val.v202_real X0 X1
theorem v127_real : val_main_v127 (F := Ideal) (XA X2) = CH (rv X2) := RetMainRefIdeal.Val.v127_real X2
theorem v173_real : val_main_v173 (F := Ideal) (XA X2) = CH (bk (rv X2)) := RetMainRefIdeal.Val.v173_real X2
theorem v123_real : val_main_v123 (F := Ideal) (XA X0) = CH (rq X0) := RetMainRefIdeal.Val.v123_real X0
theorem v167_real : val_main_v167 (F := Ideal) (XA X0) = CH (bk (rq X0)) := RetMainRefIdeal.Val.v167_real X0
theorem v152_real : val_main_v152 (F := Ideal) = fun i => ((xi lam (i 0) (i 1) : ℝ) : EReal) := RetMainRefIdeal.Val.v152_real
theorem v198_real : val_main_v198 (F := Ideal) = fun i => ((xi lamR (i 0) (i 1) : ℝ) : EReal) := RetMainRefIdeal.Val.v198_real
theorem v87_real : val_main_v87 (F := Ideal) (XA X1) (XA X2) =
    fun i => ((state lam (rk X1) (rv X2) (i 0) (i 1) (i 2) (i 3) : ℝ) : EReal) := RetMainRefIdeal.Val.v87_real X1 X2
theorem v121_real : val_main_v121 (F := Ideal) (XA X1) (XA X2) =
    fun i => ((state lamR (bk (rk X1)) (bk (rv X2)) (i 0) (i 1) (i 2) (i 3) : ℝ) : EReal) := RetMainRefIdeal.Val.v121_real X1 X2

theorem v162_real : val_main_v162 (F := Ideal) (XA X0) (XA X1) (XA X2) = C4 (oFw X0 X1 X2) := by
  funext i
  pointwise [val_main_v162]
  rw [val_main_v157_apply, val_main_v161_apply]
  pointwise [val_main_v160, val_main_v159, val_main_v158, v156_real, v127_real, v123_real, v152_real, v87_real]
  simp only [mul_coe, sum_coe, add_coe]
  rfl

theorem v208_real : val_main_v208 (F := Ideal) (XA X0) (XA X1) (XA X2) = C4 (oBw X0 X1 X2) := by
  funext i
  pointwise [val_main_v208]
  rw [val_main_v203_apply, val_main_v207_apply]
  pointwise [val_main_v206, val_main_v205, val_main_v204, v202_real, v173_real, v167_real, v198_real, v121_real]
  simp only [mul_coe, sum_coe, add_coe]
  rfl

theorem v212_real : val_main_v212 (F := Ideal) (XA X0) (XA X1) (XA X2) = T (outR X0 X1 X2) := by
  funext i
  pointwise [val_main_v212, val_main_v164, val_main_v163, val_main_v211, val_main_v210, val_main_v209, v162_real, v208_real]
  simp only [add_coe]
  rfl

theorem v217_real : val_main_v217 (F := Ideal) (XA X0) (XA X1) (XA X2) = U fun n h => (∑ k, outR X0 X1 X2 n h k) / 128 := by
  funext i
  pointwise [val_main_v217, val_main_v216, val_main_v215, val_main_v214, val_main_cst_25, val_main_cst_26, v212_real]
  simp (disch := norm_num) only [bits_128, sum_coe, div_coe]
  rfl

theorem v219_real : val_main_v219 (F := Ideal) (XA X0) (XA X1) (XA X2) = T fun n h => cen 128 (outR X0 X1 X2 n h) := by
  funext i
  pointwise [val_main_v219, val_main_v218, v212_real, v217_real]
  simp only [sub_coe]
  rfl

theorem v226_real : val_main_v226 (F := Ideal) (XA X0) (XA X1) (XA X2) = T fun n h => cen 128 (outR X0 X1 X2 n h) := v219_real X0 X1 X2

theorem v229_real : val_main_v229 (F := Ideal) (XA X0) (XA X1) (XA X2) = U fun n h => rs 128 (outR X0 X1 X2 n h) := by
  funext i
  pointwise [val_main_v229, val_main_v228, val_main_v227, val_main_cst_29, val_main_v224, val_main_v223, val_main_cst_28, val_main_v222, val_main_v221,
    val_main_cst_27, val_main_v220, v219_real]
  simp (disch := norm_num) only [bits_128, bits_eps, mul_coe, sum_coe, div_coe, add_coe]
  exact rsqrt_coe _ (var_pos 128 _ (by norm_num))

theorem v232_real : val_main_v232 (F := Ideal) (XA X0) (XA X1) (XA X2) = XA fun n j => std 128 (outR X0 X1 X2 n (hh j)) (hd j) := by
  funext i
  pointwise [val_main_v232, val_main_v231, val_main_v230, v226_real, v229_real]
  simp only [mul_coe]
  rfl

theorem v213_real : val_main_v213 (F := Ideal) (XP P) = XA (gate P) := by
  funext i
  pointwise [val_main_v213]
  rfl

theorem v233_real : val_main_v233 (F := Ideal) (XP P) = XA fun n j => gate P n j * lgs (gate P n j) := by
  have e : val_main_call14_v5 (F := Ideal) (XP P) = XA fun n j => lgs (gate P n j) := by
    funext i
    pointwise [val_main_call14_v5, val_main_call14_v4, val_main_call14_cst_0, val_main_call14_v3, val_main_call14_v2, val_main_call14_cst, val_main_call14_v1, val_main_call14_v0, v213_real]
    simp only [one_coe, neg_coe]
    exact lgs_coe _
  funext i
  pointwise [val_main_v233, v213_real, e]
  simp only [mul_coe]

theorem v235_real : val_main_v235 (F := Ideal) (XA X0) (XA X1) (XA X2) = XA fun n j => outR X0 X1 X2 n (hh j) (hd j) := by
  funext i
  pointwise [val_main_v235, v212_real]
  rfl

theorem v236_real : val_main_v236 (F := Ideal) (XA X0) (XA X1) (XA X2) (XP P) = fun i => ((yR X0 X1 X2 P (i 0) (i 1) : ℝ) : EReal) := by
  funext i
  pointwise [val_main_v236, val_main_v234, v232_real, v233_real]
  simp only [mul_coe]
  rfl

end Cert.RetOutRefIdeal.Val

end
-- ==== Proof.RetOutKernel.lean ====
module

public import proofs.«01_k».proof.Proof.Gen.RetOutIdeal.Value
public import proofs.«01_k».proof.Proof.RetTiles
public import proofs.«01_k».proof.Proof.RetOutRef

@[expose] public section

/-! # The kernel of the retention's output, one chunk and one head at a time, over real arguments -/

set_option maxRecDepth 16384

noncomputable section

open Idealize.ShloMosaic Idealize.ShloMosaic.TcCoe Idealize.SL.Sem
open Idealize.ShloMosaic.Pipeline (Dat)

namespace Cert.RetReal

open Cert.Std Cert.SwigluReal

/-- A tile's output, of tiles, and its gated output. -/
def fO (q k dm v xf sf xb sb : Fin 128 → Fin 128 → ℝ) (i j : Fin 128) : ℝ :=
  ∑ c, (∑ d, q i d * k c d) * dm i c * v c j + ∑ d, q i d * xf i d * sf d j + ∑ d, q i d * xb i d * sb d j
def fY (a g : Fin 128 → Fin 128 → ℝ) (i j : Fin 128) : ℝ := std 128 (a i) j * (g i j * lgs (g i j))

end Cert.RetReal

namespace Cert.RetOutIdeal.Val

open Cert.RetOutIdeal Cert.RetOutIdeal.Gen Cert.Lift Cert.GmReal Cert.RetReal Cert.Std Cert.SwigluReal
open Cert.RetMainIdeal.Val (B2 B3 BX BS BD BT ro cc rr ldX ldS ldD ldT)

/-! ## One tile, of the arrays the kernel loads -/

/-- Tiles in the two precisions, and with a leading axis of size one. -/
abbrev H2 (x : Fin 128 → Fin 128 → ℝ) : FVec Ideal S128x128 .bf16 := B2 x
abbrev F2 (x : Fin 128 → Fin 128 → ℝ) : FVec Ideal S128x128 .f32 := B2 x
abbrev H3 (x : Fin 128 → Fin 128 → ℝ) : FVec Ideal S1x128x128 .bf16 := B3 x
abbrev F3 (x : Fin 128 → Fin 128 → ℝ) : FVec Ideal S1x128x128 .f32 := B3 x

variable (q k dm v xf sf xb sb : Fin 128 → Fin 128 → ℝ)

theorem pay2_real : k0_pay2 (F := Ideal) (H2 q) (H2 k) (F3 dm) (H2 v) (F2 xf) (H3 sf) (F2 xb) (H3 sb) = B2 (fO q k dm v xf sf xb sb) := by
  funext i
  pointwise [k0_pay2]
  simp only [Ideal.ofBits_zero_f32, zero_add, mul_coe, sum_coe, add_coe]
  rfl

abbrev B1 (x : Fin 128 → ℝ) : FVec Ideal S128x1 .f32 := fun i => ((x (i 0) : ℝ) : EReal)

theorem pay3_real : k0_pay3 (F := Ideal) (H2 q) (H2 k) (F3 dm) (H2 v) (F2 xf) (H3 sf) (F2 xb) (H3 sb)
    = fun i => ((∑ j, fO q k dm v xf sf xb sb (i 0) j : ℝ) : EReal) := by
  funext i
  pointwise [k0_pay3, pay2_real]
  simp only [sum_coe]
  rfl

theorem pay4_real (a g : Fin 128 → Fin 128 → ℝ) : k0_pay4 (F := Ideal) (F2 a) (fun i => ((∑ j, a (i 0) j : ℝ) : EReal)) (F2 g) = B2 (fY a g) := by
  funext i
  pointwise [k0_pay4]
  simp (disch := norm_num) only [zero_sub, one_coe, neg_coe, bits_128, bits_eps, mul_coe, sum_coe, div_coe, sub_coe, add_coe, lgs_coe]
  refine (congrArg (fun z => ((a (i 0) (i 1) - (∑ x, a (i 0) x) / 128 : ℝ) : EReal) * z * _) (rsqrt_coe _ (var_pos 128 (a (i 0)) (by norm_num)))).trans ?_
  simp only [mul_coe]
  rfl

/-- What is written for a tile. -/
abbrev vO (q k : Vec Ideal S128x128 .bf16) (dm : Vec Ideal S1x128x128 .f32) (v : Vec Ideal S128x128 .bf16) (xf : Vec Ideal S128x128 .f32) (sf : Vec Ideal S1x128x128 .bf16)
    (xb : Vec Ideal S128x128 .f32) (sb : Vec Ideal S1x128x128 .bf16) : FVec Ideal S128x128 .f32 := k0_pay2 q k dm v xf sf xb sb
abbrev vY (q k : Vec Ideal S128x128 .bf16) (dm : Vec Ideal S1x128x128 .f32) (v : Vec Ideal S128x128 .bf16) (xf : Vec Ideal S128x128 .f32) (sf : Vec Ideal S1x128x128 .bf16)
    (xb : Vec Ideal S128x128 .f32) (sb : Vec Ideal S1x128x128 .bf16) (g : Vec Ideal S128x128 .f32) : FVec Ideal S128x128 .bf16 :=
  k0_pay4 (k0_pay2 q k dm v xf sf xb sb) (k0_pay3 q k dm v xf sf xb sb) g

theorem vY_real (g : Fin 128 → Fin 128 → ℝ) : vY (H2 q) (H2 k) (F3 dm) (H2 v) (F2 xf) (H3 sf) (F2 xb) (H3 sb) (F2 g) = B2 (fY (fO q k dm v xf sf xb sb) g) := by
  rw [vY, pay2_real, pay3_real, pay4_real]

/-! ## The blocks a grid point reads, and what it writes -/

structure Blocks where
  q : Fin 512 → Fin 512 → ℝ
  k : Fin 512 → Fin 512 → ℝ
  v : Fin 512 → Fin 512 → ℝ
  g : Fin 512 → Fin 512 → ℝ
  sf : Fin 4 → Fin 128 → Fin 512 → ℝ
  sb : Fin 4 → Fin 128 → Fin 512 → ℝ
  dm : Fin 4 → Fin 128 → Fin 128 → ℝ
  xf : Fin 128 → Fin 512 → ℝ
  xb : Fin 128 → Fin 512 → ℝ

variable (B : Blocks)

/-- A tile's output and its gated output. -/
def tileO (c h : Fin 4) : Fin 128 → Fin 128 → ℝ :=
  fO (fun r d => B.q (ro c r) (hc h d)) (fun r d => B.k (ro c r) (hc h d)) (B.dm h) (fun r d => B.v (ro c r) (hc h d)) (fun r d => B.xf r (hc h d))
    (fun r d => B.sf c r (hc h d)) (fun r d => B.xb r (hc h d)) (fun r d => B.sb c r (hc h d))
def tileY (c h : Fin 4) : Fin 128 → Fin 128 → ℝ := fY (tileO B c h) fun r d => B.g (ro c r) (hc h d)

/-- A block of tiles, by row and column. -/
def wr (f : Fin 4 → Fin 4 → Fin 128 → Fin 128 → ℝ) (i j : Fin 512) : ℝ := f (cc i) (hh j) (rr i) (hd j)

theorem at_tile (f : Fin 4 → Fin 4 → Fin 128 → Fin 128 → ℝ) (c h : Fin 4) (r d : Fin 128) (i j : Fin 512) (e : i.val = c.val * 128 + r.val) (e' : j.val = h.val * 128 + d.val) :
    f c h r d = wr f i j := by
  have e1 : cc i = c := Fin.ext (by show i.val / 128 = c.val; omega)
  have e2 : rr i = r := Fin.ext (by show i.val % 128 = r.val; omega)
  have e3 : hh j = h := Fin.ext (by show j.val / 128 = h.val; omega)
  have e4 : hd j = d := Fin.ext (by show j.val % 128 = d.val; omega)
  rw [wr, e1, e2, e3, e4]

/-- The gate's block, in its own precision. -/
abbrev BG (X : Fin 512 → Fin 512 → ℝ) : FVec Ideal S512x512 .f32 := fun i => ((X (i 0) (i 1) : ℝ) : EReal)

theorem ldG (X : Fin 512 → Fin 512 → ℝ) (c h : Fin 4) (o p : ℕ) (ho : o = c.val * 128) (hp : p = h.val * 128) (inb) :
    View.ld (Val := Elt Ideal) (e' := .f32) (S := S512x512) (BG X) (Rect.unit ![o, p] ![128, 128] inb) = B2 (φ := .f32) fun r d => X (ro c r) (hc h d) := by
  subst ho hp
  funext i
  pointwise
  rfl

abbrev lX (X : Fin 512 → Fin 512 → ℝ) (o p : ℕ) (inb : ∀ a : Fin S512x512.rank, ![o, p] a + ![128, 128] a ≤ S512x512.size a) : Vec Ideal S128x128 .bf16 := View.ld (Val := Elt Ideal) (e' := .bf16) (S := S512x512) (BX X) (Rect.unit ![o, p] ![128, 128] inb)
abbrev lG (X : Fin 512 → Fin 512 → ℝ) (o p : ℕ) (inb : ∀ a : Fin S512x512.rank, ![o, p] a + ![128, 128] a ≤ S512x512.size a) : Vec Ideal S128x128 .f32 := View.ld (Val := Elt Ideal) (e' := .f32) (S := S512x512) (BG X) (Rect.unit ![o, p] ![128, 128] inb)
abbrev lS (X : Fin 4 → Fin 128 → Fin 512 → ℝ) (c p : ℕ) (inb : ∀ a : Fin S4x128x512.rank, ![c, 0, p] a + ![1, 128, 128] a ≤ S4x128x512.size a) : Vec Ideal S1x128x128 .bf16 := View.ld (Val := Elt Ideal) (e' := .bf16) (S := S4x128x512) (BS X) (Rect.unit ![c, 0, p] ![1, 128, 128] inb)
abbrev lD (X : Fin 4 → Fin 128 → Fin 128 → ℝ) (h : ℕ) (inb : ∀ a : Fin S4x128x128.rank, ![h, 0, 0] a + ![1, 128, 128] a ≤ S4x128x128.size a) : Vec Ideal S1x128x128 .f32 := View.ld (Val := Elt Ideal) (e' := .f32) (S := S4x128x128) (BD X) (Rect.unit ![h, 0, 0] ![1, 128, 128] inb)
abbrev lT (X : Fin 128 → Fin 512 → ℝ) (p : ℕ) (inb : ∀ a : Fin S128x512.rank, ![0, p] a + ![128, 128] a ≤ S128x512.size a) : Vec Ideal S128x128 .f32 := View.ld (Val := Elt Ideal) (e' := .f32) (S := S128x512) (BT X) (Rect.unit ![0, p] ![128, 128] inb)

section loads

variable (c h : Fin 4) {o p n l : ℕ} (ho : o = c.val * 128) (hp : p = h.val * 128) (hn : n = c.val) (hl : l = h.val)

include ho hp in
theorem lX_eq (X : Fin 512 → Fin 512 → ℝ) (inb) : lX X o p inb = H2 fun r d => X (ro c r) (hc h d) := ldX X c h o p ho hp inb
include ho hp in
theorem lG_eq (X : Fin 512 → Fin 512 → ℝ) (inb) : lG X o p inb = F2 fun r d => X (ro c r) (hc h d) := ldG X c h o p ho hp inb
include hn hp in
theorem lS_eq (X : Fin 4 → Fin 128 → Fin 512 → ℝ) (inb) : lS X n p inb = H3 fun r d => X c r (hc h d) := ldS X c h n p hn hp inb
include hl in
theorem lD_eq (X : Fin 4 → Fin 128 → Fin 128 → ℝ) (inb) : lD X l inb = F3 (X h) := ldD X h l hl inb
include hp in
theorem lT_eq (X : Fin 128 → Fin 512 → ℝ) (inb) : lT X p inb = F2 fun r d => X r (hc h d) := ldT X h p hp inb

end loads

theorem pieceO (c h : Fin 4) (o p n l : ℕ) (ho : o = c.val * 128) (hp : p = h.val * 128) (hn : n = c.val) (hl : l = h.val) (iX iS iD iT) (x : S128x128.Idx)
    (y : S512x512.Idx) (e : (y 0).val = o + (x 0).val) (e' : (y 1).val = p + (x 1).val) :
    vO (lX B.q o p iX) (lX B.k o p iX) (lD B.dm l iD) (lX B.v o p iX) (lT B.xf p iT) (lS B.sf n p iS) (lT B.xb p iT) (lS B.sb n p iS) x
      = ((wr (tileO B) (y 0) (y 1) : ℝ) : EReal) := by
  rw [lX_eq c h ho hp, lX_eq c h ho hp, lX_eq c h ho hp, lS_eq c h hp hn, lS_eq c h hp hn, lD_eq h hl, lT_eq h hp, lT_eq h hp, vO, pay2_real]
  exact congrArg Real.toEReal (at_tile (tileO B) c h (x 0) (x 1) (y 0) (y 1) (by omega) (by omega))

theorem pieceY (c h : Fin 4) (o p n l : ℕ) (ho : o = c.val * 128) (hp : p = h.val * 128) (hn : n = c.val) (hl : l = h.val) (iX iS iD iT) (x : S128x128.Idx)
    (y : S512x512.Idx) (e : (y 0).val = o + (x 0).val) (e' : (y 1).val = p + (x 1).val) :
    vY (lX B.q o p iX) (lX B.k o p iX) (lD B.dm l iD) (lX B.v o p iX) (lT B.xf p iT) (lS B.sf n p iS) (lT B.xb p iT) (lS B.sb n p iS) (lG B.g o p iX) x
      = ((wr (tileY B) (y 0) (y 1) : ℝ) : EReal) := by
  rw [lX_eq c h ho hp, lX_eq c h ho hp, lX_eq c h ho hp, lS_eq c h hp hn, lS_eq c h hp hn, lD_eq h hl, lT_eq h hp, lT_eq h hp, lG_eq c h ho hp, vY_real]
  exact congrArg Real.toEReal (at_tile (tileY B) c h (x 0) (x 1) (y 0) (y 1) (by omega) (by omega))

set_option maxHeartbeats 4000000 in
theorem outO_real (y : S512x512.Idx) : out0_9 (F := Ideal) (BX B.q) (BX B.k) (BX B.v) (BG B.g) (BS B.sf) (BS B.sb) (BD B.dm) (BT B.xf) (BT B.xb) y
    = ((wr (tileO B) (y 0) (y 1) : ℝ) : EReal) := by
  unfold out0_9
  canon_tiles y hy
  case piece0 =>
    rename_i z
    exact pieceO B 3 3 384 384 3 3 rfl rfl rfl rfl _ _ _ _ y z (by omega) (by omega)
  case piece1 =>
    rename_i z
    exact pieceO B 3 2 384 256 3 2 rfl rfl rfl rfl _ _ _ _ y z (by omega) (by omega)
  case piece2 =>
    rename_i z
    exact pieceO B 3 1 384 128 3 1 rfl rfl rfl rfl _ _ _ _ y z (by omega) (by omega)
  case piece3 =>
    rename_i z
    exact pieceO B 3 0 384 0 3 0 rfl rfl rfl rfl _ _ _ _ y z (by omega) (by omega)
  case piece4 =>
    rename_i z
    exact pieceO B 2 3 256 384 2 3 rfl rfl rfl rfl _ _ _ _ y z (by omega) (by omega)
  case piece5 =>
    rename_i z
    exact pieceO B 2 2 256 256 2 2 rfl rfl rfl rfl _ _ _ _ y z (by omega) (by omega)
  case piece6 =>
    rename_i z
    exact pieceO B 2 1 256 128 2 1 rfl rfl rfl rfl _ _ _ _ y z (by omega) (by omega)
  case piece7 =>
    rename_i z
    exact pieceO B 2 0 256 0 2 0 rfl rfl rfl rfl _ _ _ _ y z (by omega) (by omega)
  case piece8 =>
    rename_i z
    exact pieceO B 1 3 128 384 1 3 rfl rfl rfl rfl _ _ _ _ y z (by omega) (by omega)
  case piece9 =>
    rename_i z
    exact pieceO B 1 2 128 256 1 2 rfl rfl rfl rfl _ _ _ _ y z (by omega) (by omega)
  case piece10 =>
    rename_i z
    exact pieceO B 1 1 128 128 1 1 rfl rfl rfl rfl _ _ _ _ y z (by omega) (by omega)
  case piece11 =>
    rename_i z
    exact pieceO B 1 0 128 0 1 0 rfl rfl rfl rfl _ _ _ _ y z (by omega) (by omega)
  case piece12 =>
    rename_i z
    exact pieceO B 0 3 0 384 0 3 rfl rfl rfl rfl _ _ _ _ y z (by omega) (by omega)
  case piece13 =>
    rename_i z
    exact pieceO B 0 2 0 256 0 2 rfl rfl rfl rfl _ _ _ _ y z (by omega) (by omega)
  case piece14 =>
    rename_i z
    exact pieceO B 0 1 0 128 0 1 rfl rfl rfl rfl _ _ _ _ y z (by omega) (by omega)
  case piece15 =>
    rename_i z
    exact pieceO B 0 0 0 0 0 0 rfl rfl rfl rfl _ _ _ _ y z (by omega) (by omega)

set_option maxHeartbeats 4000000 in
theorem outY_real (y : S512x512.Idx) : out0_10 (F := Ideal) (BX B.q) (BX B.k) (BX B.v) (BG B.g) (BS B.sf) (BS B.sb) (BD B.dm) (BT B.xf) (BT B.xb) y
    = ((wr (tileY B) (y 0) (y 1) : ℝ) : EReal) := by
  unfold out0_10
  canon_tiles y hy
  case piece0 =>
    rename_i z
    exact pieceY B 3 3 384 384 3 3 rfl rfl rfl rfl _ _ _ _ y z (by omega) (by omega)
  case piece1 =>
    rename_i z
    exact pieceY B 3 2 384 256 3 2 rfl rfl rfl rfl _ _ _ _ y z (by omega) (by omega)
  case piece2 =>
    rename_i z
    exact pieceY B 3 1 384 128 3 1 rfl rfl rfl rfl _ _ _ _ y z (by omega) (by omega)
  case piece3 =>
    rename_i z
    exact pieceY B 3 0 384 0 3 0 rfl rfl rfl rfl _ _ _ _ y z (by omega) (by omega)
  case piece4 =>
    rename_i z
    exact pieceY B 2 3 256 384 2 3 rfl rfl rfl rfl _ _ _ _ y z (by omega) (by omega)
  case piece5 =>
    rename_i z
    exact pieceY B 2 2 256 256 2 2 rfl rfl rfl rfl _ _ _ _ y z (by omega) (by omega)
  case piece6 =>
    rename_i z
    exact pieceY B 2 1 256 128 2 1 rfl rfl rfl rfl _ _ _ _ y z (by omega) (by omega)
  case piece7 =>
    rename_i z
    exact pieceY B 2 0 256 0 2 0 rfl rfl rfl rfl _ _ _ _ y z (by omega) (by omega)
  case piece8 =>
    rename_i z
    exact pieceY B 1 3 128 384 1 3 rfl rfl rfl rfl _ _ _ _ y z (by omega) (by omega)
  case piece9 =>
    rename_i z
    exact pieceY B 1 2 128 256 1 2 rfl rfl rfl rfl _ _ _ _ y z (by omega) (by omega)
  case piece10 =>
    rename_i z
    exact pieceY B 1 1 128 128 1 1 rfl rfl rfl rfl _ _ _ _ y z (by omega) (by omega)
  case piece11 =>
    rename_i z
    exact pieceY B 1 0 128 0 1 0 rfl rfl rfl rfl _ _ _ _ y z (by omega) (by omega)
  case piece12 =>
    rename_i z
    exact pieceY B 0 3 0 384 0 3 rfl rfl rfl rfl _ _ _ _ y z (by omega) (by omega)
  case piece13 =>
    rename_i z
    exact pieceY B 0 2 0 256 0 2 rfl rfl rfl rfl _ _ _ _ y z (by omega) (by omega)
  case piece14 =>
    rename_i z
    exact pieceY B 0 1 0 128 0 1 rfl rfl rfl rfl _ _ _ _ y z (by omega) (by omega)
  case piece15 =>
    rename_i z
    exact pieceY B 0 0 0 0 0 0 rfl rfl rfl rfl _ _ _ _ y z (by omega) (by omega)

end Cert.RetOutIdeal.Val

end
-- ==== Proof.RetOutBlocks.lean ====
module

public import proofs.«01_k».proof.Proof.RetOutKernel
public import proofs.«01_k».proof.Proof.RetMatch
public import Idealize.ShloMosaic.Lib.StableHlo.RunRead

@[expose] public section

/-! # What each point of the retention's forward kernel reads, and what the whole grid writes -/

set_option maxRecDepth 16384

noncomputable section

open Idealize.ShloMosaic Idealize.ShloMosaic.TcCoe Idealize.SL.Sem
open Idealize.ShloMosaic.Pipeline (Dat)

namespace Cert.RetOutIdeal.Val

open Cert.RetOutIdeal Cert.RetOutIdeal.Gen Cert.Lift Cert.GmReal Cert.RetReal Cert.Std Cert.SwigluReal
open Cert.RetMainIdeal.Val (dlt dmR xbR zero_at qkv qkv_q qkv_k qkv_v at2 at3 at_s cr_rev cof_rev rof_rev bk_cr sum_rev xi_rev dgt_rev BX BS BD BT ro cc rr)

variable (m : (ℓ : Loc nD τ sig) → Buf (Elt Ideal) ℓ) (c : Dev nD)

theorem of_cst_7 (h₁ h₂ h₃) (v : (⟨S_, .f32⟩ : BufTy).Contents (Elt Ideal)) : StableHlo.TRef.ofBuf (T := ⟨S_, .f32⟩) (.of main_cst_7 h₁ h₂ h₃) v = v := rfl
theorem of_v70 (h₁ h₂ h₃) (v : (⟨S128x128, .i1⟩ : BufTy).Contents (Elt Ideal)) : StableHlo.TRef.ofBuf (T := ⟨S128x128, .i1⟩) (.of main_v70 h₁ h₂ h₃) v = v := rfl
theorem of_v65 (h₁ h₂ h₃) (v : (⟨S128x128, .f32⟩ : BufTy).Contents (Elt Ideal)) : StableHlo.TRef.ofBuf (T := ⟨S128x128, .f32⟩) (.of main_v65 h₁ h₂ h₃) v = v := rfl
theorem to_v71 (h₁ h₂ h₃) (v : (⟨S128x128, .f32⟩ : BufTy).Contents (Elt Ideal)) : StableHlo.TRef.toBuf (T := ⟨S128x128, .f32⟩) (.of main_v71 h₁ h₂ h₃) v = v := rfl
theorem of_cst_8 (h₁ h₂ h₃) (v : (⟨S_, .f32⟩ : BufTy).Contents (Elt Ideal)) : StableHlo.TRef.ofBuf (T := ⟨S_, .f32⟩) (.of main_cst_8 h₁ h₂ h₃) v = v := rfl
theorem of_v67 (h₁ h₂ h₃) (v : (⟨S128x128, .i1⟩ : BufTy).Contents (Elt Ideal)) : StableHlo.TRef.ofBuf (T := ⟨S128x128, .i1⟩) (.of main_v67 h₁ h₂ h₃) v = v := rfl
theorem of_v76 (h₁ h₂ h₃) (v : (⟨S4x128x128, .f32⟩ : BufTy).Contents (Elt Ideal)) : StableHlo.TRef.ofBuf (T := ⟨S4x128x128, .f32⟩) (.of main_v76 h₁ h₂ h₃) v = v := rfl
theorem to_v77 (h₁ h₂ h₃) (v : (⟨S4x128x128, .f32⟩ : BufTy).Contents (Elt Ideal)) : StableHlo.TRef.toBuf (T := ⟨S4x128x128, .f32⟩) (.of main_v77 h₁ h₂ h₃) v = v := rfl
theorem of_cst_11 (h₁ h₂ h₃) (v : (⟨S_, .f32⟩ : BufTy).Contents (Elt Ideal)) : StableHlo.TRef.ofBuf (T := ⟨S_, .f32⟩) (.of main_cst_11 h₁ h₂ h₃) v = v := rfl
theorem of_v82 (h₁ h₂ h₃) (v : (⟨S128x128, .i1⟩ : BufTy).Contents (Elt Ideal)) : StableHlo.TRef.ofBuf (T := ⟨S128x128, .i1⟩) (.of main_v82 h₁ h₂ h₃) v = v := rfl
theorem of_v83 (h₁ h₂ h₃) (v : (⟨S128x128, .f32⟩ : BufTy).Contents (Elt Ideal)) : StableHlo.TRef.ofBuf (T := ⟨S128x128, .f32⟩) (.of main_v83 h₁ h₂ h₃) v = v := rfl
theorem to_v84 (h₁ h₂ h₃) (v : (⟨S128x128, .f32⟩ : BufTy).Contents (Elt Ideal)) : StableHlo.TRef.toBuf (T := ⟨S128x128, .f32⟩) (.of main_v84 h₁ h₂ h₃) v = v := rfl
theorem of_cst_12 (h₁ h₂ h₃) (v : (⟨S_, .f32⟩ : BufTy).Contents (Elt Ideal)) : StableHlo.TRef.ofBuf (T := ⟨S_, .f32⟩) (.of main_cst_12 h₁ h₂ h₃) v = v := rfl
theorem of_v79 (h₁ h₂ h₃) (v : (⟨S128x128, .i1⟩ : BufTy).Contents (Elt Ideal)) : StableHlo.TRef.ofBuf (T := ⟨S128x128, .i1⟩) (.of main_v79 h₁ h₂ h₃) v = v := rfl
theorem of_v89 (h₁ h₂ h₃) (v : (⟨S4x128x128, .f32⟩ : BufTy).Contents (Elt Ideal)) : StableHlo.TRef.ofBuf (T := ⟨S4x128x128, .f32⟩) (.of main_v89 h₁ h₂ h₃) v = v := rfl
theorem to_v90 (h₁ h₂ h₃) (v : (⟨S4x128x128, .f32⟩ : BufTy).Contents (Elt Ideal)) : StableHlo.TRef.toBuf (T := ⟨S4x128x128, .f32⟩) (.of main_v90 h₁ h₂ h₃) v = v := rfl

theorem v102_read (i : S128x512.Idx) : V m c main_v102 i = ((xi lam (hh (i 1)) (i 0) : ℝ) : EReal) := by
  unfold V
  after_reads_simp
  have b0 : (i 0).val < 128 := (i 0).isLt
  have b1 : (i 1).val < 512 := (i 1).isLt
  pointwise
  simp (disch := omega) only [List.mem_singleton, if_true, Fin.val_rev, sitofp_coe]
  simp only [Ideal.ofBits_def, Ideal.ofBits_zero_f32, bits_neg5, bits_ln2, bits_one, one_coe, bits_128, bits_127, id_eq, zero_at, zero_coe, sub_coe, add_coe, mul_coe, neg_coe, exp_coe]
  refine (congrArg (fun z => Ideal.exp (z * _)) (log_coe _ (gam_pos (hh (i 1))))).trans ?_
  simp only [mul_coe, exp_coe]
  rfl

theorem v122_read (i : S128x512.Idx) : V m c main_v122 i = ((xbR (hh (i 1)) (i 0) : ℝ) : EReal) := by
  unfold V
  after_reads_simp
  have b0 : (i 0).val < 128 := (i 0).isLt
  have b1 : (i 1).val < 512 := (i 1).isLt
  pointwise
  simp (disch := omega) only [List.mem_singleton, if_true, Fin.val_rev, sitofp_coe]
  simp only [Ideal.ofBits_def, Ideal.ofBits_zero_f32, bits_neg5, bits_ln2, bits_one, one_coe, bits_128, bits_127, id_eq, zero_at, zero_coe, sub_coe, add_coe, mul_coe, neg_coe, exp_coe]
  refine (congrArg (fun z => Ideal.exp (z * _)) (log_coe _ (gam_pos ((hh (i 1)).rev)))).trans ?_
  simp only [mul_coe, exp_coe]
  rfl

theorem v91_read (i : S4x128x128.Idx) : V m c main_v91 i = ((dmR (i 0) (i 1) (i 2) : ℝ) : EReal) := by
  unfold V
  after_reads_simp
  have b0 : (i 0).val < 4 := (i 0).isLt
  have b1 : (i 1).val < 128 := (i 1).isLt
  have b2 : (i 2).val < 128 := (i 2).isLt
  simp only [StableHlo.TRef.ofBuf_toBuf, of_cst_7, of_v70, of_v65, to_v71, of_cst_8, of_v67, of_v76, to_v77, of_cst_11, of_v82, of_v83, to_v84, of_cst_12, of_v79, of_v89, to_v90]
  pointwise
  simp only [List.mem_singleton, reduceIte]
  have b3 : (Fin.rev (i 0)).val < 4 := (Fin.rev (i 0)).isLt
  have g0 : Ideal.log ((1 - Real.exp (1453635 / 2097152 * (-5 - ((i 0).val : ℝ))) : ℝ) : EReal) = ((lam (i 0) : ℝ) : EReal) := log_coe _ (gam_pos (i 0))
  have g1 : Ideal.log ((1 - Real.exp (1453635 / 2097152 * (-5 - ((Fin.rev (i 0)).val : ℝ))) : ℝ) : EReal) = ((lam (Fin.rev (i 0)) : ℝ) : EReal) := log_coe _ (gam_pos (Fin.rev (i 0)))
  have e3 : FloatOps.sitofp (F := Ideal) FTy.f32 (BitVec.ofNat 32 (Fin.rev (i 0)).val) = (((Fin.rev (i 0)).val : ℝ) : EReal) := sitofp_coe _ (by omega)
  simp (disch := omega) only [sitofp_coe]
  try simp only [e3]
  simp only [g0, ite_coe, EReal.coe_le_coe_iff, EReal.coe_lt_coe_iff, Ideal.ofBits_def, Ideal.ofBits_zero_f32, bits_neg5, bits_ln2, bits_one, one_coe, bits_128, bits_127, id_eq, zero_at, zero_coe, sub_coe, add_coe, mul_coe, neg_coe, exp_coe]
  erw [g1]
  simp only [ite_coe, Ideal.ofBits_def, Ideal.ofBits_zero_f32, bits_neg5, bits_ln2, bits_one, one_coe, bits_128, bits_127, id_eq, zero_at, zero_coe, sub_coe, add_coe, mul_coe, neg_coe, exp_coe]
  rfl

variable (X0 X1 X2 : Fin 8192 → Fin 512 → ℝ) (P : Fin 8192 → Fin 3072 → ℝ)

/-- Host arrays of states, head by head in the columns. -/
abbrev lay (S : FVec Ideal S64x4x128x128 .f32) : FVec Ideal S64x128x512 .bf16 :=
  truncf .bf16 (shapeCast S64x128x512 (transpose S64x128x4x128 [0, 2, 1, 3] S transposes_S64x4x128x128_S64x128x4x128_0_2_1_3) shapeCasts_S64x128x4x128_S64x128x512) bitsLt_bf16_f32

theorem v271_read (h1 : m ((c : Thread nD τ).loc main_arg1) = RetMainRefIdeal.Val.XA X1) (h2 : m ((c : Thread nD τ).loc main_arg2) = RetMainRefIdeal.Val.XA X2) (i : S64x128x512.Idx) :
    V m c main_v271 i = ((state lam (rk X1) (rv X2) (i 0) (hh (i 2)) (i 1) (hd (i 2)) : ℝ) : EReal) := by
  have e : (V m c main_v271 : FVec Ideal S64x128x512 .bf16) = lay (RetMainRefIdeal.Read.val_main_v87 (F := Ideal) (m ((c : Thread nD τ).loc main_arg1)) (m ((c : Thread nD τ).loc main_arg2))) := by
    unfold V
    after_reads_simp
    rfl
  rw [e, h1, h2, RetMainRefIdeal.Val.v87_real]
  pointwise
  rfl

theorem v275_read (h1 : m ((c : Thread nD τ).loc main_arg1) = RetMainRefIdeal.Val.XA X1) (h2 : m ((c : Thread nD τ).loc main_arg2) = RetMainRefIdeal.Val.XA X2) (i : S64x128x512.Idx) :
    V m c main_v275 i = ((state lamR (bk (rk X1)) (bk (rv X2)) (Fin.rev (i 0)) (hh (i 2)) (i 1) (hd (i 2)) : ℝ) : EReal) := by
  have e : (V m c main_v275 : FVec Ideal S64x128x512 .bf16) = lay (Host.reverse [0] (RetMainRefIdeal.Read.val_main_v121 (F := Ideal) (m ((c : Thread nD τ).loc main_arg1)) (m ((c : Thread nD τ).loc main_arg2)))) := by
    unfold V
    after_reads_simp
    rfl
  rw [e, h1, h2, RetMainRefIdeal.Val.v121_real]
  pointwise
  rfl

/-- Three arrays side by side. -/
abbrev beside (Q K : FVec Ideal S8192x4x128 .f32) (X : FVec Ideal S8192x512 .f32) : FVec Ideal S8192x1536 .bf16 :=
  truncf .bf16 (concatenate S8192x1536 1 [⟨S8192x512, shapeCast S8192x512 Q shapeCasts_S8192x4x128_S8192x512⟩, ⟨S8192x512, shapeCast S8192x512 K shapeCasts_S8192x4x128_S8192x512⟩, ⟨S8192x512, X⟩] concatenates_S8192x512_S8192x512_S8192x512_S8192x1536_d1) bitsLt_bf16_f32

theorem v268_read (h0 : m ((c : Thread nD τ).loc main_arg0) = RetMainRefIdeal.Val.XA X0) (h1 : m ((c : Thread nD τ).loc main_arg1) = RetMainRefIdeal.Val.XA X1) (h2 : m ((c : Thread nD τ).loc main_arg2) = RetMainRefIdeal.Val.XA X2) (i : S8192x1536.Idx) :
    V m c main_v268 i = ((qkv X0 X1 X2 (i 0) (i 1) : ℝ) : EReal) := by
  have e : (V m c main_v268 : FVec Ideal S8192x1536 .bf16) = beside (RetMainRefIdeal.Read.val_main_v38 (F := Ideal) (m ((c : Thread nD τ).loc main_arg0))) (RetMainRefIdeal.Read.val_main_v54 (F := Ideal) (m ((c : Thread nD τ).loc main_arg1))) (m ((c : Thread nD τ).loc main_arg2)) := by
    unfold V
    after_reads_simp
    rfl
  rw [e, h0, h1, h2, RetMainRefIdeal.Val.v38_real, RetMainRefIdeal.Val.v54_real]
  pointwise
  by_cases h : (i 1).val < 512
  · rw [dif_pos h]
    exact congrArg Real.toEReal (qkv_q X0 X1 X2 (i 0) (i 1) h).symm
  by_cases h' : (i 1).val - 512 < 512
  · rw [dif_neg h, dif_pos h']
    exact congrArg Real.toEReal (qkv_k X0 X1 X2 (i 0) (i 1) h (by omega)).symm
  · rw [dif_neg h, dif_neg h']
    refine congrArg Real.toEReal (Eq.trans (congrArg (X2 (i 0)) (Fin.ext ?_)) (qkv_v X0 X1 X2 (i 0) (i 1) h (by omega)).symm)
    show (i 1).val - 512 - 512 = (i 1).val - 1024
    omega

/-! ## The blocks -/

theorem idx : ∀ t : Fin cfg0.N, win0_0.index t = ![t.val, 0] ∧ win0_1.index t = ![t.val, 1] ∧ win0_2.index t = ![t.val, 2]
    ∧ win0_3.index t = ![t.val, 4] ∧ win0_4.index t = ![t.val, 0, 0] ∧ win0_5.index t = ![t.val, 0, 0] ∧ win0_6.index t = ![0, 0, 0]
    ∧ win0_7.index t = ![0, 0] ∧ win0_8.index t = ![0, 0] ∧ win0_9.index t = ![t.val, 0] ∧ win0_10.index t = ![t.val, 0] :=
  (by decide +kernel : ∀ t : Fin grid0.N, _)

/-- The row of the array that a point's block has at `r`, and the chunk that it has at `q`. -/
def row (t : Fin cfg0.N) (r : Fin 512) : Fin 8192 := ⟨t.val * 512 + r.val, by have h : t.val < 16 := lt_of_lt_of_eq t.isLt N_0; omega⟩
def ck (t : Fin cfg0.N) (q : Fin 4) : Fin 64 := ⟨t.val * 4 + q.val, by have h : t.val < 16 := lt_of_lt_of_eq t.isLt N_0; omega⟩

theorem row_ro (t : Fin cfg0.N) (q : Fin 4) (r : Fin 128) : row t (ro q r) = cr (ck t q) r :=
  Fin.ext (by show t.val * 512 + (q.val * 128 + r.val) = (t.val * 4 + q.val) * 128 + r.val; omega)

/-- The blocks a point reads, of the arguments. -/
def blocks (t : Fin cfg0.N) : Blocks where
  q r k := rq X0 (row t r) (hh k) (hd k)
  k r k := rk X1 (row t r) (hh k) (hd k)
  v r k := X2 (row t r) k
  g r k := gate P (row t r) k
  sf q d k := state lam (rk X1) (rv X2) (ck t q) (hh k) d (hd k)
  sb q d k := state lamR (bk (rk X1)) (bk (rv X2)) (ck t q).rev (hh k) d (hd k)
  dm := dmR
  xf r k := xi lam (hh k) r
  xb r k := xbR (hh k) r

/-- What the grid writes, by row and column, of the tiles the points write. -/
def gr (f : Fin cfg0.N → Fin 4 → Fin 4 → Fin 128 → Fin 128 → ℝ) (s : Fin 8192) (j : Fin 512) : ℝ :=
  wr (f (Fin.cast N_0.symm ⟨s.val / 512, by omega⟩)) ⟨s.val % 512, by omega⟩ j

theorem gr_row (f : Fin cfg0.N → Fin 4 → Fin 4 → Fin 128 → Fin 128 → ℝ) (p : Fin cfg0.N) (r j : Fin 512) : gr f (row p r) j = wr (f p) r j := by
  have h : p.val < 16 := lt_of_lt_of_eq p.isLt N_0
  have e : (Fin.cast N_0.symm ⟨(row p r).val / 512, by omega⟩ : Fin cfg0.N) = p := Fin.ext (by show (p.val * 512 + r.val) / 512 = p.val; omega)
  have e' : (⟨(row p r).val % 512, by omega⟩ : Fin 512) = r := Fin.ext (by show (p.val * 512 + r.val) % 512 = r.val; omega)
  rw [gr, e, e']

/-- Arrays of the four arguments on a device. -/
structure Args : Prop where
  h0 : m ((c : Thread nD τ).loc main_arg0) = RetMainRefIdeal.Val.XA X0
  h1 : m ((c : Thread nD τ).loc main_arg1) = RetMainRefIdeal.Val.XA X1
  h2 : m ((c : Thread nD τ).loc main_arg2) = RetMainRefIdeal.Val.XA X2
  h3 : m ((c : Thread nD τ).loc main_arg3) = RetOutRefIdeal.Val.XP P

variable {m c X0 X1 X2 P} (H : Args m c X0 X1 X2 P) (p : Fin cfg0.N)

include H

theorem blk0 : iblk m c 0 p = BX (blocks X0 X1 X2 P p).q := by
  funext y
  blk_simp [iblk, idx p]
  rw [v268_read m c X0 X1 X2 H.h0 H.h1 H.h2]
  have h : (y 1).val < 512 := (y 1).isLt
  refine (at2 (fun s k => qkv X0 X1 X2 s k) (a' := row p (y 0)) (b' := ⟨(y 1).val, by omega⟩) ?_ ?_).trans (congrArg Real.toEReal ?_)
  · blk_simp [idx p, row, ck]
  · blk_simp [idx p, row, ck]
  · exact qkv_q X0 X1 X2 _ _ h

theorem blk1 : iblk m c 1 p = BX (blocks X0 X1 X2 P p).k := by
  funext y
  blk_simp [iblk, idx p]
  rw [v268_read m c X0 X1 X2 H.h0 H.h1 H.h2]
  have h : (y 1).val < 512 := (y 1).isLt
  refine (at2 (fun s k => qkv X0 X1 X2 s k) (a' := row p (y 0)) (b' := ⟨512 + (y 1).val, by omega⟩) ?_ ?_).trans (congrArg Real.toEReal ?_)
  · blk_simp [idx p, row, ck]
  · blk_simp [idx p, row, ck]
  · refine (qkv_k X0 X1 X2 _ _ (by show ¬512 + (y 1).val < 512; omega) (by show 512 + (y 1).val < 1024; omega)).trans ?_
    simp only [Nat.add_sub_cancel_left]; rfl

theorem blk2 : iblk m c 2 p = BX (blocks X0 X1 X2 P p).v := by
  funext y
  blk_simp [iblk, idx p]
  rw [v268_read m c X0 X1 X2 H.h0 H.h1 H.h2]
  have h : (y 1).val < 512 := (y 1).isLt
  refine (at2 (fun s k => qkv X0 X1 X2 s k) (a' := row p (y 0)) (b' := ⟨1024 + (y 1).val, by omega⟩) ?_ ?_).trans (congrArg Real.toEReal ?_)
  · blk_simp [idx p, row, ck]
  · blk_simp [idx p, row, ck]
  · refine (qkv_v X0 X1 X2 _ _ (by show ¬1024 + (y 1).val < 512; omega) (by show ¬1024 + (y 1).val < 1024; omega)).trans ?_
    simp only [Nat.add_sub_cancel_left]; rfl

theorem blk3 : iblk m c 3 p = BG (blocks X0 X1 X2 P p).g := by
  funext y
  blk_simp [iblk, idx p]
  rw [V_main_arg3 m c, H.h3]
  have h : (y 1).val < 512 := (y 1).isLt
  refine at2 P (a' := row p (y 0)) (b' := ⟨2048 + (y 1).val, by omega⟩) ?_ ?_ <;> blk_simp [idx p, row]

theorem blk4 : iblk m c 4 p = BS (blocks X0 X1 X2 P p).sf := by
  funext y
  blk_simp [iblk, idx p]
  rw [v271_read m c X1 X2 H.h1 H.h2]
  refine at3 (fun q d k => state lam (rk X1) (rv X2) q (hh k) d (hd k)) (a' := ck p (y 0)) (b' := y 1) (d' := y 2) ?_ ?_ ?_ <;> blk_simp [idx p, row, ck]

theorem blk5 : iblk m c 5 p = BS (blocks X0 X1 X2 P p).sb := by
  funext y
  blk_simp [iblk, idx p]
  rw [v275_read m c X1 X2 H.h1 H.h2]
  refine at3 (fun q d k => state lamR (bk (rk X1)) (bk (rv X2)) (Fin.rev q) (hh k) d (hd k)) (a' := ck p (y 0)) (b' := y 1) (d' := y 2) ?_ ?_ ?_ <;> blk_simp [idx p, row, ck]

theorem blk6 : iblk m c 6 p = BD (blocks X0 X1 X2 P p).dm := by
  funext y
  blk_simp [iblk, idx p]
  rw [v91_read m c ]
  refine at3 (fun q d k => dmR q d k) (a' := y 0) (b' := y 1) (d' := y 2) ?_ ?_ ?_ <;> blk_simp [idx p, row, ck]

theorem blk7 : iblk m c 7 p = BT (blocks X0 X1 X2 P p).xf := by
  funext y
  blk_simp [iblk, idx p]
  rw [v102_read m c ]
  refine at2 (fun s k => xi lam (hh k) s) (a' := y 0) (b' := y 1) ?_ ?_ <;> blk_simp [idx p, row, ck]

theorem blk8 : iblk m c 8 p = BT (blocks X0 X1 X2 P p).xb := by
  funext y
  blk_simp [iblk, idx p]
  rw [v122_read m c ]
  refine at2 (fun s k => xbR (hh k) s) (a' := y 0) (b' := y 1) ?_ ?_ <;> blk_simp [idx p, row, ck]

theorem final9 : (dats m 0 c).arrAt 9 cfg0.N = fun i : S8192x512.Idx => ((gr (fun t => tileO (blocks X0 X1 X2 P t)) (i 0) (i 1) : ℝ) : EReal) := by
  refine (dats m 0 c).arrAt_eq_of_covers 9 _ (by decide +kernel) fun p hf y => ?_
  blk_simp
  rw [after0_9, blk0 H, blk1 H, blk2 H, blk3 H, blk4 H, blk5 H, blk6 H, blk7 H, blk8 H]
  refine (outO_real (blocks X0 X1 X2 P p) y).trans ?_
  refine (congrArg Real.toEReal (gr_row (fun t => tileO (blocks X0 X1 X2 P t)) p (y 0) (y 1))).symm.trans ?_
  refine at2 (gr fun t => tileO (blocks X0 X1 X2 P t)) (a := row p (y 0)) (b := y 1) ?_ ?_ <;> blk_simp [idx p, row]

theorem final10 : (dats m 0 c).arrAt 10 cfg0.N = fun i : S8192x512.Idx => ((gr (fun t => tileY (blocks X0 X1 X2 P t)) (i 0) (i 1) : ℝ) : EReal) := by
  refine (dats m 0 c).arrAt_eq_of_covers 10 _ (by decide +kernel) fun p hf y => ?_
  blk_simp
  rw [after0_10, blk0 H, blk1 H, blk2 H, blk3 H, blk4 H, blk5 H, blk6 H, blk7 H, blk8 H]
  refine (outY_real (blocks X0 X1 X2 P p) y).trans ?_
  refine (congrArg Real.toEReal (gr_row (fun t => tileY (blocks X0 X1 X2 P t)) p (y 0) (y 1))).symm.trans ?_
  refine at2 (gr fun t => tileY (blocks X0 X1 X2 P t)) (a := row p (y 0)) (b := y 1) ?_ ?_ <;> blk_simp [idx p, row]

omit H

/-! ## The output is the reference's -/

theorem od_rev (Q K V : Fin 8192 → Fin 4 → Fin 128 → ℝ) (S : Fin 64 → Fin 4 → Fin 128 → Fin 128 → ℝ) (n : Fin 64) (h : Fin 4) (r e : Fin 128) :
    od (dgt lamR) (xi lamR) (bk Q) (bk K) (bk V) S n.rev h r.rev e
      = ∑ m, (∑ d, Q (cr n r) h d * K (cr n m) h d) * dlt lamR h r m * V (cr n m) h e + ∑ d, Q (cr n r) h d * xbR h r * S n.rev h d e := by
  refine congrArg₂ (· + ·) ((sum_rev _).trans ?_) ?_ <;> simp only [sco, bk_cr, Fin.rev_rev, xi_rev, dgt_rev]

variable (X0 X1 X2 P)

theorem tileO_eq (t : Fin cfg0.N) (q h : Fin 4) (r d : Fin 128) :
    tileO (blocks X0 X1 X2 P t) q h r d = outR X0 X1 X2 (cr (ck t q) r) h d := by
  obtain ⟨e1, e2⟩ := at_s _ _ _ (rfl : cr (ck t q) r = cr (ck t q) r)
  simp only [outR, un, cof_rev, rof_rev, e1, e2, oBw, od_rev]
  simp only [tileO, fO, blocks, row_ro, hh_hc, hd_hc, oFw, od, sco, rv, dmR]
  simp only [mul_add, add_mul, Finset.sum_add_distrib]
  ring

theorem tileY_eq (t : Fin cfg0.N) (q h : Fin 4) (r d : Fin 128) :
    tileY (blocks X0 X1 X2 P t) q h r d = yR X0 X1 X2 P (cr (ck t q) r) (hc h d) := by
  have e : tileO (blocks X0 X1 X2 P t) q h r = outR X0 X1 X2 (cr (ck t q) r) h := funext (tileO_eq X0 X1 X2 P t q h r)
  rw [tileY, fY, e, yR, hh_hc, hd_hc, ← row_ro]
  rfl

theorem gr_of (f : Fin cfg0.N → Fin 4 → Fin 4 → Fin 128 → Fin 128 → ℝ) (g : Fin 8192 → Fin 512 → ℝ) (h : ∀ t q h r d, f t q h r d = g (cr (ck t q) r) (hc h d))
    (s : Fin 8192) (j : Fin 512) : gr f s j = g s j := by
  refine (h _ _ _ _ _).trans ?_
  rw [hc_of]
  exact congrArg (g · j) (Fin.ext (by show (s.val / 512 * 4 + s.val % 512 / 128) * 128 + s.val % 512 % 128 = s.val; omega))

theorem grO (s : Fin 8192) (j : Fin 512) : gr (fun t => tileO (blocks X0 X1 X2 P t)) s j = outR X0 X1 X2 s (hh j) (hd j) :=
  gr_of _ (fun s j => outR X0 X1 X2 s (hh j) (hd j)) (fun t q h r d => (tileO_eq X0 X1 X2 P t q h r d).trans (by rw [hh_hc, hd_hc])) s j
theorem grY (s : Fin 8192) (j : Fin 512) : gr (fun t => tileY (blocks X0 X1 X2 P t)) s j = yR X0 X1 X2 P s j :=
  gr_of _ (yR X0 X1 X2 P) (tileY_eq X0 X1 X2 P) s j

end Cert.RetOutIdeal.Val

end
-- ==== Proof.RetOut.lean ====
module

public import proofs.«01_k».proof.Defs
public import proofs.«01_k».proof.Proof.RetOutBlocks
public import proofs.«01_k».proof.Proof.Gen.Pre_finite_retout
public import Idealize.ShloMosaic.Lib.KernelVsHost
public import proofs.«01_k».proof.Proof.Gen.RetOutIdeal.Value
public import proofs.«01_k».proof.Proof.Gen.RetOutRefIdeal.Run
public import proofs.«01_k».proof.Proof.FfnIn

@[expose] public section

/-! # The retention's output: kernel and reference agree -/

set_option maxRecDepth 16384

noncomputable section

open Idealize.ShloMosaic Idealize.ShloMosaic.TcCoe Idealize.SL.Sem

namespace Cert.RetOutIdeal.Val

open Cert.Lift Cert.FfnInIdeal.Val

set_option maxHeartbeats 2000000 in
theorem algebraic : Cert.algebraic_RetOutIdeal_RetOutRefIdeal_pre_finite_retout := by
  pair_intro
  · exact Cert.RetOutIdeal.Value.run_blocks m g
  · choose x0 h0 using fun c => real_matrix _ fun i => congrFun (hpre c).1 i
    choose x1 h1 using fun c => real_matrix _ fun i => congrFun (hpre c).2.1 i
    choose x2 h2 using fun c => real_matrix _ fun i => congrFun (hpre c).2.2.1 i
    choose P h3 using fun c => real_matrix _ fun i => congrFun (hpre c).2.2.2 i
    refine θ_run_mono (Cert.RetOutRefIdeal.Value.run m' g') fun z hz c => ?_
    obtain ⟨a0, a1, a2, a3⟩ := hagree c
    have H : Args m c (x0 c) (x1 c) (x2 c) (P c) := ⟨h0 c, h1 c, h2 c, h3 c⟩
    refine ⟨(hz c).1.trans ?_, (hz c).2.1.trans ?_, (hz c).2.2⟩
    · rw [final9 H]
      refine Eq.trans (b := Cert.RetOutRefIdeal.Read.val_main_v235 (F := Ideal) (m' ((c.tc : Thread Cert.RetOutRefIdeal.nD Cert.RetOutRefIdeal.τ).loc Cert.RetOutRefIdeal.main_arg0)) (m' ((c.tc : Thread Cert.RetOutRefIdeal.nD Cert.RetOutRefIdeal.τ).loc Cert.RetOutRefIdeal.main_arg1)) (m' ((c.tc : Thread Cert.RetOutRefIdeal.nD Cert.RetOutRefIdeal.τ).loc Cert.RetOutRefIdeal.main_arg2)))
        (Cert.RetOutRefIdeal.Read.val_main_v235_eq (StableHlo.launchContents m' c)) ?_
      rw [a0, a1, a2, h0 c, h1 c, h2 c]
      refine (Cert.RetOutRefIdeal.Val.v235_real (x0 c) (x1 c) (x2 c)).trans (funext fun i => congrArg Real.toEReal ?_)
      exact (grO (x0 c) (x1 c) (x2 c) (P c) (i 0) (i 1)).symm
    · rw [final10 H]
      refine Eq.trans (b := Cert.RetOutRefIdeal.Read.val_main_v236 (F := Ideal) (m' ((c.tc : Thread Cert.RetOutRefIdeal.nD Cert.RetOutRefIdeal.τ).loc Cert.RetOutRefIdeal.main_arg0)) (m' ((c.tc : Thread Cert.RetOutRefIdeal.nD Cert.RetOutRefIdeal.τ).loc Cert.RetOutRefIdeal.main_arg1)) (m' ((c.tc : Thread Cert.RetOutRefIdeal.nD Cert.RetOutRefIdeal.τ).loc Cert.RetOutRefIdeal.main_arg2)) (m' ((c.tc : Thread Cert.RetOutRefIdeal.nD Cert.RetOutRefIdeal.τ).loc Cert.RetOutRefIdeal.main_arg3)))
        (Cert.RetOutRefIdeal.Read.val_main_v236_eq (StableHlo.launchContents m' c)) ?_
      rw [a0, a1, a2, a3, h0 c, h1 c, h2 c, h3 c]
      refine (Cert.RetOutRefIdeal.Val.v236_real (x0 c) (x1 c) (x2 c) (P c)).trans (funext fun i => congrArg Real.toEReal ?_)
      exact (grY (x0 c) (x1 c) (x2 c) (P c) (i 0) (i 1)).symm

end Cert.RetOutIdeal.Val

end
-- ==== Proof.GmFwdRef.lean ====
module

public import proofs.«01_k».proof.Proof.Gen.GmFwdRefIdeal.Read
public import proofs.«01_k».proof.Proof.GmRef

@[expose] public section

/-! # What the reference of the gating's forward call computes -/

set_option maxRecDepth 16384

noncomputable section

namespace Cert.GmFwdRefIdeal.Val

open Cert.GmFwdRefIdeal Cert.GmFwdRefIdeal.Read Cert.Lift Cert.Std Cert.GmReal Idealize.ShloMosaic
open Cert.GmRefIdeal.Val (XP XG XW XB)

variable (P : Fin 8192 → Fin 3072 → ℝ) (g b : Fin 256 → ℝ) (ws : Fin 4 → Fin 128 → Fin 128 → ℝ) (bs : Fin 4 → Fin 128 → ℝ)

/-- The gated mixture at a row and a column. -/
def gm (n : Fin 8192) (k : Fin 256) : ℝ := gel (PU P (cof n) (rof n) k) * mix (PV P (cof n)) g b ws bs (rof n) k

theorem v50_real : val_main_v50 (F := Ideal) (XP P) (XG g) (XG b) (XW ws) (XB bs) =
    fun i => ((mix (PV P (i 0)) g b ws bs (i 1) (col (i 2) (i 3)) : ℝ) : EReal) :=
  GmRefIdeal.Val.v61_real P g b ws bs

theorem v51_real : val_main_v51 (F := Ideal) (XP P) = fun i => ((gel (PU P (i 0) (i 1) (col (i 2) (i 3))) : ℝ) : EReal) :=
  GmRefIdeal.Val.v62_real P

theorem v52_real : val_main_v52 (F := Ideal) (XP P) (XG g) (XG b) (XW ws) (XB bs) =
    fun i => ((gel (PU P (i 0) (i 1) (col (i 2) (i 3))) * mix (PV P (i 0)) g b ws bs (i 1) (col (i 2) (i 3)) : ℝ) : EReal) := by
  funext i
  simp only [val_main_v52_apply, v50_real, v51_real, Ideal.mulf_def, mul_coe]

theorem v54_real : val_main_v54 (F := Ideal) (XP P) (XG g) (XG b) (XW ws) (XB bs) = fun i => ((gm P g b ws bs (i 0) (i 1) : ℝ) : EReal) := by
  funext i
  pointwise [val_main_v54, val_main_v53, v52_real]
  exact congrArg Real.toEReal (by rw [col_divmod (i 1)]; rfl)

end Cert.GmFwdRefIdeal.Val

end
-- ==== Proof.GmFwdKernel.lean ====
module

public import proofs.«01_k».proof.Proof.Gen.GmFwdIdeal.Value
public import proofs.«01_k».proof.Proof.GmBlocks
public import proofs.«01_k».proof.Proof.GmFwdRef
public import Idealize.ShloMosaic.Lib.Pipeline.ValueKit

@[expose] public section

/-! # The kernel of the gating's forward call: a chunk over real arguments, the blocks it reads, and what the grid writes -/

set_option maxRecDepth 16384

noncomputable section

open Idealize.ShloMosaic Idealize.ShloMosaic.TcCoe Idealize.SL.Sem
open Idealize.ShloMosaic.Pipeline (Dat)

namespace Cert.GmFwdIdeal.Val

open Cert.GmFwdIdeal Cert.GmFwdIdeal.Gen Cert.Lift Cert.Std Cert.GmReal
open Cert.GmIdeal.Val (BV BH BR BW BT LN lane_lt ite_coe cl ch quarter mx PUr PVr lanes ws_congr)

theorem named_s : (Named.named (F := Ideal) (φ := .f32) κ "inv_sqrt2" 0x3F3504F3#32 : EReal) = (((Real.sqrt 2)⁻¹ : ℝ) : EReal) :=
  IdealRules.named_const.ideal_named_scalar _ _ _ _ rfl

variable (pu pv : Fin 128 → Fin 256 → ℝ) (g b : Fin 256 → ℝ) (ws : Fin 4 → Fin 128 → Fin 128 → ℝ) (bs : Fin 4 → Fin 128 → ℝ)

theorem pay1_real : k0_pay1 (F := Ideal) (BV pu) = BV fun r k => gel (pu r k) := by
  funext i
  pointwise [k0_pay1]
  simp only [named_s, bits_half, Ideal.erf_def, one_coe, erf_coe, mul_coe, add_coe]
  rfl

theorem pay2_real : k0_pay2 (F := Ideal) (BV pv) (BR g) = BV fun r k => std 256 (gv pv r) k * g k := by
  funext i
  pointwise [k0_pay2]
  simp (disch := norm_num) only [named_s, bits_half, bits_256, bits_eps, Ideal.erf_def, one_coe, erf_coe, mul_coe, add_coe, sum_coe, div_coe, sub_coe]
  refine (congrArg (fun z => _ * z * _) (rsqrt_coe _ (var_pos 256 (gv pv (i 0)) (by norm_num)))).trans ?_
  simp only [mul_coe]
  rfl

/-- A chunk's result. -/
abbrev chunk (u v bias : FVec Ideal S128x256 .f32) (g b : FVec Ideal S1x256 .f32) (w0 w1 w2 w3 : FVec Ideal S1x128x128 .f32) : FVec Ideal S128x256 .bf16 :=
  k0_pay4 (F := Ideal) (k0_pay1 (F := Ideal) u) (k0_pay2 (F := Ideal) v g) (k0_pay3 (F := Ideal) b) bias w0 w1 w2 w3

theorem chunk_real : chunk (BV pu) (BV pv) (BV fun p k => bs (hof k) p) (BR g) (BR b) (BW (ws 0)) (BW (ws 1)) (BW (ws 2)) (BW (ws 3)) =
    fun i => ((gel (pu (i 0) (i 1)) * mix pv g b ws bs (i 0) (i 1) : ℝ) : EReal) := by
  funext i
  pointwise [k0_pay4, pay1_real, pay2_real, k0_pay3, lanes]
  simp only [mul_coe, add_coe, sum_coe]
  have L (k : Fin 128) (x y : ℝ) : Scalar.select (IntOp.cmpi .slt (BitVec.ofNat 32 k.val) 64#32) (x : EReal) (y : EReal) = ((if k.val < 64 then x else y : ℝ) : EReal) :=
    (lane_lt k _ _).trans (ite_coe _ _ _)
  have e : ∀ h1 : ¬(i 1).val < 128 → (i 1).val - 128 < 128, _ := fun h1 => quarter (fun h k => mx pv g b ws h (i 0) k) (i 1) h1
  have h1 : ¬(i 1).val < 128 → (i 1).val - 128 < 128 := fun _ => by have := (i 1).isLt; show (i 1).val - 128 < 128; have h : (i 1).val < 256 := this; omega
  have e := e h1
  refine (congrArg (fun z => BV (fun r k => gel (pu r k)) i * (z + BV (fun p k => bs (hof k) p) i)) (Eq.trans ?_ e)).trans ?_
  · by_cases h : (i 1).val < 128
    · rw [dif_pos h, dif_pos h]
      exact L ⟨(i 1).val, h⟩ _ _
    · rw [dif_neg h, dif_neg h]
      exact L ⟨(i 1).val - 128, h1 h⟩ _ _
  · simp only [mul_coe, add_coe]
    rfl

/-- The row of the array that a point's block has at `r`. -/
def row (t : Fin cfg0.N) (r : Fin 512) : Fin 8192 := ⟨t.val * 512 + r.val, by have h : t.val < 16 := lt_of_lt_of_eq t.isLt N_0; omega⟩

/-- A point's block of an array of 256 columns. -/
def BB (t : Fin cfg0.N) (v : Fin 8192 → Fin 256 → ℝ) : FVec Ideal S512x256 .f32 := fun i => ((v (row t (i 0)) (i 1) : ℝ) : EReal)

/-- The chunk that a point's block has at `q`. -/
def ck (t : Fin cfg0.N) (q : Fin 4) : Fin 64 := ⟨t.val * 4 + q.val, by have h : t.val < 16 := lt_of_lt_of_eq t.isLt N_0; omega⟩

theorem row_ck (t : Fin cfg0.N) (q : Fin 4) (o : ℕ) (ho : o = q.val * 128) (r : Fin 128) (h) : row t ⟨o + r.val, h⟩ = cr (ck t q) r :=
  Fin.ext (by show t.val * 512 + (o + r.val) = (t.val * 4 + q.val) * 128 + r.val; omega)

theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0] ∧ win0_6.index t = ![t.val, 0] :=
  (by decide +kernel : ∀ t : Fin grid0.N, _)

theorem ld_rows (t : Fin cfg0.N) (v : Fin 8192 → Fin 256 → ℝ) (q : Fin 4) (o : ℕ) (ho : o = q.val * 128) (inb) :
    View.ld (Val := Elt Ideal) (e' := .f32) (S := S512x256) (BB t v) (Rect.unit ![o, 0] ![128, 256] inb) = BV (RO v (ck t q)) := by
  funext y
  pointwise
  exact congrArg (fun n => ((v n (y 1) : ℝ) : EReal)) (row_ck t q o ho (y 0) _)

theorem ld_heads (w : Fin 4 → Fin 128 → Fin 128 → ℝ) (q : Fin 4) (o : ℕ) (ho : o = q.val) (inb) :
    View.ld (Val := Elt Ideal) (e' := .f32) (S := S4x128x128) (BT w) (Rect.unit ![o, 0, 0] ![1, 128, 128] inb) = BW (w q) := by
  subst ho
  funext y
  pointwise
  rfl

theorem ld_row (v : Fin 256 → ℝ) (inb) : View.ld (Val := Elt Ideal) (e' := .f32) (S := S1x256) (BR v) (Rect.unit ![0, 0] ![1, 256] inb) = BR v := by
  funext y
  pointwise
  rfl

theorem ld_bias (v : Fin 128 → Fin 256 → ℝ) (inb) : View.ld (Val := Elt Ideal) (e' := .f32) (S := S128x256) (BV v) (Rect.unit ![0, 0] ![128, 256] inb) = BV v := by
  funext y
  pointwise

variable (m : (ℓ : Loc nD τ sig) → Buf (Elt Ideal) ℓ) (c : Dev nD) (P : Fin 8192 → Fin 3072 → ℝ)

/-- Arrays of the five arguments on a device. -/
structure Args : Prop where
  h0 : m ((c : Thread nD τ).loc main_arg0) = GmRefIdeal.Val.XP P
  h1 : m ((c : Thread nD τ).loc main_arg1) = GmRefIdeal.Val.XG g
  h2 : m ((c : Thread nD τ).loc main_arg2) = GmRefIdeal.Val.XG b
  h3 : m ((c : Thread nD τ).loc main_arg3) = GmRefIdeal.Val.XW ws
  h4 : m ((c : Thread nD τ).loc main_arg4) = GmRefIdeal.Val.XB bs

variable {g b ws bs m c P} (H : Args g b ws bs m c P) (p : Fin cfg0.N)

include H

theorem blk0 : iblk m c 0 p = BB p (PUr P) := by
  funext y
  blk_simp [iblk, idx p]
  entry_read
  rw [H.h0]
  pointwise
  refine congrArg Real.toEReal (congrArg₂ P (Fin.ext ?_) (Fin.ext ?_)) <;> blk_simp [idx p, row, lo]

theorem blk1 : iblk m c 1 p = BB p (PVr P) := by
  funext y
  blk_simp [iblk, idx p]
  entry_read
  rw [H.h0]
  pointwise
  refine congrArg Real.toEReal (congrArg₂ P (Fin.ext ?_) (Fin.ext ?_)) <;> blk_simp [idx p, row, hi]

theorem blk2 : iblk m c 2 p = BR g := by
  funext y
  blk_simp [iblk, idx p]
  entry_read
  rw [H.h1]
  pointwise
  refine congrArg Real.toEReal (congrArg g (Fin.ext ?_)); blk_simp [idx p]

theorem blk3 : iblk m c 3 p = BR b := by
  funext y
  blk_simp [iblk, idx p]
  entry_read
  rw [H.h2]
  pointwise
  refine congrArg Real.toEReal (congrArg b (Fin.ext ?_)); blk_simp [idx p]

theorem blk4 : iblk m c 4 p = BT ws := by
  funext y
  blk_simp [iblk, idx p]
  entry_read
  rw [H.h3]
  refine ws_congr ws ?_ ?_ ?_ <;> blk_simp [idx p]

theorem blk5 : iblk m c 5 p = BV fun p k => bs (hof k) p := by
  funext y
  blk_simp [iblk, idx p]
  entry_read
  rw [H.h4]
  pointwise
  refine congrArg Real.toEReal (congrArg₂ bs (Fin.ext ?_) (Fin.ext ?_)) <;> blk_simp [idx p, hof]

omit H in
/-- One chunk of a point's result, at an index of the point's block. -/
theorem piece (q : Fin 4) (o : ℕ) (ho : o = q.val * 128) (i0 i1 i2 i3 i4 i5 i6 i7 i8) (x : S128x256.Idx) (y : S512x256.Idx)
    (e0 : (y 0).val = o + (x 0).val) (e1 : (y 1).val = (x 1).val) :
    chunk (View.ld (Val := Elt Ideal) (e' := .f32) (S := S512x256) (BB p (PUr P)) (Rect.unit ![o, 0] ![128, 256] i0))
      (View.ld (Val := Elt Ideal) (e' := .f32) (S := S512x256) (BB p (PVr P)) (Rect.unit ![o, 0] ![128, 256] i1))
      (View.ld (Val := Elt Ideal) (e' := .f32) (S := S128x256) (BV fun p k => bs (hof k) p) (Rect.unit ![0, 0] ![128, 256] i2))
      (View.ld (Val := Elt Ideal) (e' := .f32) (S := S1x256) (BR g) (Rect.unit ![0, 0] ![1, 256] i3))
      (View.ld (Val := Elt Ideal) (e' := .f32) (S := S1x256) (BR b) (Rect.unit ![0, 0] ![1, 256] i4))
      (View.ld (Val := Elt Ideal) (e' := .f32) (S := S4x128x128) (BT ws) (Rect.unit ![0, 0, 0] ![1, 128, 128] i5))
      (View.ld (Val := Elt Ideal) (e' := .f32) (S := S4x128x128) (BT ws) (Rect.unit ![1, 0, 0] ![1, 128, 128] i6))
      (View.ld (Val := Elt Ideal) (e' := .f32) (S := S4x128x128) (BT ws) (Rect.unit ![2, 0, 0] ![1, 128, 128] i7))
      (View.ld (Val := Elt Ideal) (e' := .f32) (S := S4x128x128) (BT ws) (Rect.unit ![3, 0, 0] ![1, 128, 128] i8)) x =
      ((GmFwdRefIdeal.Val.gm P g b ws bs (row p (y 0)) (y 1) : ℝ) : EReal) := by
  rw [ld_rows p _ q o ho, ld_rows p _ q o ho, ld_bias, ld_row, ld_row, ld_heads ws 0 0 rfl, ld_heads ws 1 1 rfl, ld_heads ws 2 2 rfl, ld_heads ws 3 3 rfl, chunk_real]
  have hx : (x 0).val < 128 := (x 0).isLt
  have hp : p.val < 16 := lt_of_lt_of_eq p.isLt N_0
  have a : cof (row p (y 0)) = ck p q := Fin.ext (by show (p.val * 512 + (y 0).val) / 128 = p.val * 4 + q.val; omega)
  have a' : rof (row p (y 0)) = x 0 := Fin.ext (by show (p.val * 512 + (y 0).val) % 128 = (x 0).val; omega)
  have a'' : (y 1 : Fin 256) = x 1 := Fin.ext e1
  unfold GmFwdRefIdeal.Val.gm
  rw [a, a', a'']
  rfl

theorem out_real (y : S512x256.Idx) : out0_6 (F := Ideal) (BB p (PUr P)) (BB p (PVr P)) (BR g) (BR b) (BT ws) (BV fun p k => bs (hof k) p) y =
    ((GmFwdRefIdeal.Val.gm P g b ws bs (row p (y 0)) (y 1) : ℝ) : EReal) := by
  unfold out0_6
  canon_tiles y hy
  case piece0 => rename_i z; exact piece p 3 384 rfl _ _ _ _ _ _ _ _ _ y z (by omega) (by omega)
  case piece1 => rename_i z; exact piece p 2 256 rfl _ _ _ _ _ _ _ _ _ y z (by omega) (by omega)
  case piece2 => rename_i z; exact piece p 1 128 rfl _ _ _ _ _ _ _ _ _ y z (by omega) (by omega)
  case piece3 => rename_i z; exact piece p 0 0 rfl _ _ _ _ _ _ _ _ _ y z (by omega) (by omega)

theorem final6 : (dats m 0 c).arrAt 6 cfg0.N = fun i : S8192x256.Idx => ((GmFwdRefIdeal.Val.gm P g b ws bs (i 0) (i 1) : ℝ) : EReal) := by
  refine (dats m 0 c).arrAt_eq_of_covers 6 _ (by decide +kernel) fun p hf y => ?_
  blk_simp
  rw [after0_6, blk0 H, blk1 H, blk2 H, blk3 H, blk4 H, blk5 H]
  refine (out_real H p y).trans ?_
  refine congrArg Real.toEReal (congrArg₂ (GmFwdRefIdeal.Val.gm P g b ws bs) (Fin.ext ?_) (Fin.ext ?_)) <;> blk_simp [idx p, row]

end Cert.GmFwdIdeal.Val

end
-- ==== Proof.GmFwd.lean ====
module

public import proofs.«01_k».proof.Defs
public import proofs.«01_k».proof.Proof.GmFwdKernel
public import proofs.«01_k».proof.Proof.Gen.Pre_finite_gmfwd
public import Idealize.ShloMosaic.Lib.KernelVsHost
public import proofs.«01_k».proof.Proof.Gen.GmFwdRefIdeal.Run

@[expose] public section

/-! # The gating's forward call: kernel and reference agree -/

set_option maxRecDepth 16384

noncomputable section

open Idealize.ShloMosaic Idealize.ShloMosaic.TcCoe Idealize.SL.Sem

namespace Cert.GmFwdIdeal.Val

open Cert.Lift

theorem preserves : Cert.preserves_GmFwd_GmFwdIdeal :=
  IdealRules.named_const.statement GmFwdIdeal.κ "inv_sqrt2" .f32 0x3F3504F3#32 (((Real.sqrt 2)⁻¹ : ℝ) : EReal) rfl

/-- Finite arguments are real arguments. -/
theorem pre_real (a0 : FVec Ideal GmFwdIdeal.S8192x3072 .f32) (a1 a2 : FVec Ideal GmFwdIdeal.S256 .f32) (a3 : FVec Ideal GmFwdIdeal.S4x128x128 .f32)
    (a4 : FVec Ideal GmFwdIdeal.S4x128 .f32)
    (h : (Cert.Pre_finite_gmfwd.fn (F := Ideal) a0 a1 a2 a3 a4).1 = (fun _ => 1#1) ∧ (Cert.Pre_finite_gmfwd.fn (F := Ideal) a0 a1 a2 a3 a4).2.1 = (fun _ => 1#1)
      ∧ (Cert.Pre_finite_gmfwd.fn (F := Ideal) a0 a1 a2 a3 a4).2.2.1 = (fun _ => 1#1) ∧ (Cert.Pre_finite_gmfwd.fn (F := Ideal) a0 a1 a2 a3 a4).2.2.2.1 = (fun _ => 1#1)
      ∧ (Cert.Pre_finite_gmfwd.fn (F := Ideal) a0 a1 a2 a3 a4).2.2.2.2 = (fun _ => 1#1)) :
    ∃ P g b ws bs, a0 = GmRefIdeal.Val.XP P ∧ a1 = GmRefIdeal.Val.XG g ∧ a2 = GmRefIdeal.Val.XG b ∧ a3 = GmRefIdeal.Val.XW ws ∧ a4 = GmRefIdeal.Val.XB bs := by
  obtain ⟨h0, h1, h2, h3, h4⟩ := h
  obtain ⟨P, rfl⟩ := real_of_words a0 fun i => congrFun h0 i
  obtain ⟨g, rfl⟩ := real_of_words a1 fun i => congrFun h1 i
  obtain ⟨b, rfl⟩ := real_of_words a2 fun i => congrFun h2 i
  obtain ⟨ws, rfl⟩ := real_of_words a3 fun i => congrFun h3 i
  obtain ⟨bs, rfl⟩ := real_of_words a4 fun i => congrFun h4 i
  have e1 (f : GmIdeal.S256.Idx → ℝ) : (fun i => ((f i : ℝ) : EReal)) = GmRefIdeal.Val.XG fun k => f (ix1 k) :=
    funext fun i => congrArg (fun j => ((f j : ℝ) : EReal)) (funext fun a => match a with | ⟨0, _⟩ => rfl)
  exact ⟨fun n k => P (ix2 n k), _, _, fun h p q => ws (ix3 h p q), fun h p => bs (ix2 h p),
    funext fun i => congrArg (fun j => ((P j : ℝ) : EReal)) (funext fun a => match a with | ⟨0, _⟩ => rfl | ⟨1, _⟩ => rfl), e1 g, e1 b,
    funext fun i => congrArg (fun j => ((ws j : ℝ) : EReal)) (funext fun a => match a with | ⟨0, _⟩ => rfl | ⟨1, _⟩ => rfl | ⟨2, _⟩ => rfl),
    funext fun i => congrArg (fun j => ((bs j : ℝ) : EReal)) (funext fun a => match a with | ⟨0, _⟩ => rfl | ⟨1, _⟩ => rfl)⟩

set_option maxHeartbeats 2000000 in
theorem algebraic : Cert.algebraic_GmFwdIdeal_GmFwdRefIdeal_pre_finite_gmfwd := by
  pair_intro
  · exact Cert.GmFwdIdeal.Value.run_blocks m g
  · choose P γ b ws bs h0 h1 h2 h3 h4 using fun c => pre_real _ _ _ _ _ (hpre c)
    refine θ_run_mono (Cert.GmFwdRefIdeal.Value.run m' g') fun z hz c => ?_
    obtain ⟨a0, a1, a2, a3, a4⟩ := hagree c
    have H : Args (γ c) (b c) (ws c) (bs c) m c (P c) := ⟨h0 c, h1 c, h2 c, h3 c, h4 c⟩
    refine ⟨(hz c).1.trans ?_, (hz c).2⟩
    rw [final6 H]
    refine (Cert.GmFwdRefIdeal.Read.val_main_v54_eq m' c).trans ?_
    rw [a0, a1, a2, a3, a4, h0 c, h1 c, h2 c, h3 c, h4 c]
    exact Cert.GmFwdRefIdeal.Val.v54_real (P c) (γ c) (b c) (ws c) (bs c)

end Cert.GmFwdIdeal.Val

end
-- ==== Proof.StatePoints.lean ====
module

public import proofs.«01_k».proof.Proof.CarryKernel
public import proofs.«01_k».proof.Proof.Gen.RetStateIdeal.Value

@[expose] public section

/-! # The forward states' kernel: a chunk, and what each point leaves

The body is the one of the states' gradients. A point carries the state through its eight chunks and writes the state
before (or after) each of them. -/

set_option maxRecDepth 16384

noncomputable section

open Idealize.ShloMosaic Idealize.ShloMosaic.TcCoe Idealize.SL.Sem
open Idealize.ShloMosaic.Pipeline (Dat)

namespace Cert.RetStateIdeal.Val

open Cert.RetStateIdeal Cert.RetStateIdeal.Gen Cert.Lift Cert.GmReal Cert.RetReal
open Cert.RetCarryIdeal.Val (VF VB VG stR)

/-- The state after a chunk. -/
abbrev stp (sc : FVec Ideal S128x512 .f32) (g : FVec Ideal S1x512 .f32) (l r : FVec Ideal S128x512 .bf16) (acc : FVec Ideal S128x512 .f32) : FVec Ideal S128x512 .f32 :=
  k0_pay13 (F := Ideal) (k0_pay5 (F := Ideal) acc g) (k0_pay8 (F := Ideal) sc l r) (k0_pay9 (F := Ideal) sc l r) (k0_pay10 (F := Ideal) sc l r)
    (k0_pay11 (F := Ideal) r) (k0_pay12 (F := Ideal) sc l) (constant S128x128 .f32 0x00000000#32)

theorem stp_real (sc : Fin 128 → Fin 512 → ℝ) (g : Fin 512 → ℝ) (l r acc : Fin 128 → Fin 512 → ℝ) :
    stp (VF sc) (VG g) (VB l) (VB r) (VF acc) = VF (stR sc g l r acc) := Cert.RetCarryIdeal.Val.stp_real sc g l r acc
theorem out_real (a : Fin 128 → Fin 512 → ℝ) (x : S1x128x512.Idx) : k0_pay4 (F := Ideal) (VF a) x = ((a (x 1) (x 2) : ℝ) : EReal) :=
  Cert.RetCarryIdeal.Val.out_real a x
theorem zero2 : k0_pay2 (F := Ideal) = VF fun _ _ => 0 := Cert.RetCarryIdeal.Val.zero2

variable (m : (ℓ : Loc nD τ sig) → Buf (Elt Ideal) ℓ) (c : Dev nD) (p : Fin cfg0.N)

/-- A point's blocks as the kernel's loads read them. -/
abbrev rd0 : FVec Ideal S128x512 .f32 := View.readAt (Elt Ideal) (ms0_0 p).view (Rect.unit ![0, 0] S128x512.size inb_S128x512_S128x512_0_0).toLoadRect ((hs0_0 p).unread (iblk m c 0 p))
abbrev rd1 : FVec Ideal S128x512 .f32 := View.readAt (Elt Ideal) (ms0_1 p).view (Rect.unit ![0, 0] S128x512.size inb_S128x512_S128x512_0_0).toLoadRect ((hs0_1 p).unread (iblk m c 1 p))
abbrev rd2 : FVec Ideal S1x512 .f32 := View.readAt (Elt Ideal) (ms0_2 p).view (Rect.unit ![0, 0] S1x512.size inb_S1x512_S1x512_0_0).toLoadRect ((hs0_2 p).unread (iblk m c 2 p))
abbrev rd3 : FVec Ideal S1x512 .f32 := View.readAt (Elt Ideal) (ms0_3 p).view (Rect.unit ![0, 0] S1x512.size inb_S1x512_S1x512_0_0).toLoadRect ((hs0_3 p).unread (iblk m c 3 p))
abbrev rd4 (o : ℕ) (inb : ∀ a, (![o, 0] : Fin S1024x512.rank → ℕ) a + S128x512.size a ≤ S1024x512.size a) : FVec Ideal S128x512 .bf16 := View.readAt (Elt Ideal) (ms0_4 p).view (Rect.unit (s := S1024x512) ![o, 0] ![128, 512] inb).toLoadRect ((hs0_4 p).unread (iblk m c 4 p))
abbrev rd5 (o : ℕ) (inb : ∀ a, (![o, 0] : Fin S1024x512.rank → ℕ) a + S128x512.size a ≤ S1024x512.size a) : FVec Ideal S128x512 .bf16 := View.readAt (Elt Ideal) (ms0_5 p).view (Rect.unit (s := S1024x512) ![o, 0] ![128, 512] inb).toLoadRect ((hs0_5 p).unread (iblk m c 5 p))
abbrev rd6 (o : ℕ) (inb : ∀ a, (![o, 0] : Fin S1024x512.rank → ℕ) a + S128x512.size a ≤ S1024x512.size a) : FVec Ideal S128x512 .bf16 := View.readAt (Elt Ideal) (ms0_6 p).view (Rect.unit (s := S1024x512) ![o, 0] ![128, 512] inb).toLoadRect ((hs0_6 p).unread (iblk m c 6 p))
abbrev rd7 (o : ℕ) (inb : ∀ a, (![o, 0] : Fin S1024x512.rank → ℕ) a + S128x512.size a ≤ S1024x512.size a) : FVec Ideal S128x512 .bf16 := View.readAt (Elt Ideal) (ms0_7 p).view (Rect.unit (s := S1024x512) ![o, 0] ![128, 512] inb).toLoadRect ((hs0_7 p).unread (iblk m c 7 p))

/-- One chunk of each direction. -/
abbrev st0 (o : ℕ) (inb : ∀ a, (![o, 0] : Fin S1024x512.rank → ℕ) a + S128x512.size a ≤ S1024x512.size a) (S : FVec Ideal S128x512 .f32) : FVec Ideal S128x512 .f32 :=
  stp (rd0 m c p) (rd2 m c p) (rd4 m c p o inb) (rd5 m c p o inb) S
abbrev st1 (o : ℕ) (inb : ∀ a, (![o, 0] : Fin S1024x512.rank → ℕ) a + S128x512.size a ≤ S1024x512.size a) (S : FVec Ideal S128x512 .f32) : FVec Ideal S128x512 .f32 :=
  stp (rd1 m c p) (rd3 m c p) (rd6 m c p o inb) (rd7 m c p o inb) S

/-- A load of the carried state after a store of it, and of the one the point before left. -/
theorem rcv0 (w : FVec Ideal S128x512 .f32) (L : List (View.Piece (Elt Ideal) S128x512 .f32)) :
    scM0_0.view.readCov (Val := Elt Ideal) ((⟨Rect.unit ![0, 0] S128x512.size inb_S128x512_S128x512_0_0, w⟩ : View.Piece (Elt Ideal) S128x512 .f32) :: L)
      (Rect.unit ![0, 0] S128x512.size inb_S128x512_S128x512_0_0).toLoadRect = w :=
  View.readCov_cons_unit_lit' (Val := Elt Ideal) (e := .f32) (S := S128x512) scM0_0.view inb_S128x512_S128x512_0_0 inb_S128x512_S128x512_0_0 _ _ (by decide) (by decide)
theorem prev0 (hw : (scM0_0).IsWhole) (v : FVec Ideal S128x512 .f32) :
    View.readAt (Elt Ideal) scM0_0.view (Rect.unit ![0, 0] S128x512.size inb_S128x512_S128x512_0_0).toLoadRect (hw.unread v) = v := by
  show View.ld (View.read (Elt Ideal) scM0_0.view (hw.unread v)) (Rect.unit ![0, 0] S128x512.size inb_S128x512_S128x512_0_0) = v
  rw [Memref.IsWhole.read_unread]
  exact View.ld_unit_lit' (Val := Elt Ideal) (e := .f32) (S := S128x512) inb_S128x512_S128x512_0_0 _ (by decide)
theorem rcv1 (w : FVec Ideal S128x512 .f32) (L : List (View.Piece (Elt Ideal) S128x512 .f32)) :
    scM0_1.view.readCov (Val := Elt Ideal) ((⟨Rect.unit ![0, 0] S128x512.size inb_S128x512_S128x512_0_0, w⟩ : View.Piece (Elt Ideal) S128x512 .f32) :: L)
      (Rect.unit ![0, 0] S128x512.size inb_S128x512_S128x512_0_0).toLoadRect = w :=
  View.readCov_cons_unit_lit' (Val := Elt Ideal) (e := .f32) (S := S128x512) scM0_1.view inb_S128x512_S128x512_0_0 inb_S128x512_S128x512_0_0 _ _ (by decide) (by decide)
theorem prev1 (hw : (scM0_1).IsWhole) (v : FVec Ideal S128x512 .f32) :
    View.readAt (Elt Ideal) scM0_1.view (Rect.unit ![0, 0] S128x512.size inb_S128x512_S128x512_0_0).toLoadRect (hw.unread v) = v := by
  show View.ld (View.read (Elt Ideal) scM0_1.view (hw.unread v)) (Rect.unit ![0, 0] S128x512.size inb_S128x512_S128x512_0_0) = v
  rw [Memref.IsWhole.read_unread]
  exact View.ld_unit_lit' (Val := Elt Ideal) (e := .f32) (S := S128x512) inb_S128x512_S128x512_0_0 _ (by decide)

variable {m c p} (P : ℕ → Fin 128 → Fin 512 → ℝ)

/-- An entry of a state at an index of the block. -/
theorem at_piece {n : ℕ} (x : S8x128x512.Idx) (y : S1x128x512.Idx) (h0 : (x 0).val = n + (y 0).val) (b : (y 0).val < 1) (h1 : (x 1).val = (y 1).val) (h2 : (x 2).val = (y 2).val)
    (f : ℕ → ℕ) : ((P (f n) (y 1) (y 2) : ℝ) : EReal) = ((P (f (x 0).val) (x 1) (x 2) : ℝ) : EReal) := by
  rw [show (x 0).val = n by omega, show x 1 = y 1 from Fin.ext h1, show x 2 = y 2 from Fin.ext h2]

section

variable {P} (hP : ∀ (j o : ℕ) (inb), o = 128 * j → st0 m c p o inb (VF (P j)) = VF (P (j + 1)))

include hP

/-- The state loaded after a chunk. -/
theorem nx0 {j o : ℕ} (inb : ∀ a, (![o, 0] : Fin S1024x512.rank → ℕ) a + S128x512.size a ≤ S1024x512.size a) (ho : o = 128 * j) {S : FVec Ideal S128x512 .f32} (hS : S = VF (P j)) {L : List (View.Piece (Elt Ideal) S128x512 .f32)} :
    scM0_0.view.readCov (Val := Elt Ideal) ((⟨Rect.unit ![0, 0] S128x512.size inb_S128x512_S128x512_0_0, st0 m c p o inb S⟩ : View.Piece (Elt Ideal) S128x512 .f32) :: L)
      (Rect.unit ![0, 0] S128x512.size inb_S128x512_S128x512_0_0).toLoadRect = VF (P (j + 1)) := by
  subst hS
  exact (rcv0 _ _).trans (hP j o inb ho)

variable (P)

set_option maxHeartbeats 2000000 in
theorem atB_8 (h : ¬p.val % 8 = 0) (h0 : (outsAt0 m c (p.val - 1) (Nat.lt_of_le_of_lt (Nat.sub_le _ _) p.isLt)).2.2.1 = VF (P 0)) : (outsAt0 m c p.val p.isLt).1 = fun x => ((P ((x 0).val) (x 1) (x 2) : ℝ) : EReal) := by
  funext x
  rw [outsAt0_B m c p h]
  dsimp only
  frame_open
  rw [View.read_writes_junk_eq_canon]
  canon_tiles x h3
  case piece0 =>
    refine (congrArg (fun S : FVec Ideal S128x512 .f32 => k0_pay4 (F := Ideal) S x) (nx0 hP inb_S1024x512_S128x512_768_0 rfl (nx0 hP inb_S1024x512_S128x512_640_0 rfl (nx0 hP inb_S1024x512_S128x512_512_0 rfl (nx0 hP inb_S1024x512_S128x512_384_0 rfl (nx0 hP inb_S1024x512_S128x512_256_0 rfl (nx0 hP inb_S1024x512_S128x512_128_0 rfl (nx0 hP inb_S1024x512_S128x512_0_0 rfl ((prev0 _ _).trans h0))))))))).trans ((out_real _ _).trans ?_)
    exact at_piece P (n := 7) _ _ (by omega) x0_lt h31 h32 (fun n => n)
  case piece1 =>
    refine (congrArg (fun S : FVec Ideal S128x512 .f32 => k0_pay4 (F := Ideal) S x) (nx0 hP inb_S1024x512_S128x512_640_0 rfl (nx0 hP inb_S1024x512_S128x512_512_0 rfl (nx0 hP inb_S1024x512_S128x512_384_0 rfl (nx0 hP inb_S1024x512_S128x512_256_0 rfl (nx0 hP inb_S1024x512_S128x512_128_0 rfl (nx0 hP inb_S1024x512_S128x512_0_0 rfl ((prev0 _ _).trans h0)))))))).trans ((out_real _ _).trans ?_)
    exact at_piece P (n := 6) _ _ (by omega) x0_lt h31 h32 (fun n => n)
  case piece2 =>
    refine (congrArg (fun S : FVec Ideal S128x512 .f32 => k0_pay4 (F := Ideal) S x) (nx0 hP inb_S1024x512_S128x512_512_0 rfl (nx0 hP inb_S1024x512_S128x512_384_0 rfl (nx0 hP inb_S1024x512_S128x512_256_0 rfl (nx0 hP inb_S1024x512_S128x512_128_0 rfl (nx0 hP inb_S1024x512_S128x512_0_0 rfl ((prev0 _ _).trans h0))))))).trans ((out_real _ _).trans ?_)
    exact at_piece P (n := 5) _ _ (by omega) x0_lt h31 h32 (fun n => n)
  case piece3 =>
    refine (congrArg (fun S : FVec Ideal S128x512 .f32 => k0_pay4 (F := Ideal) S x) (nx0 hP inb_S1024x512_S128x512_384_0 rfl (nx0 hP inb_S1024x512_S128x512_256_0 rfl (nx0 hP inb_S1024x512_S128x512_128_0 rfl (nx0 hP inb_S1024x512_S128x512_0_0 rfl ((prev0 _ _).trans h0)))))).trans ((out_real _ _).trans ?_)
    exact at_piece P (n := 4) _ _ (by omega) x0_lt h31 h32 (fun n => n)
  case piece4 =>
    refine (congrArg (fun S : FVec Ideal S128x512 .f32 => k0_pay4 (F := Ideal) S x) (nx0 hP inb_S1024x512_S128x512_256_0 rfl (nx0 hP inb_S1024x512_S128x512_128_0 rfl (nx0 hP inb_S1024x512_S128x512_0_0 rfl ((prev0 _ _).trans h0))))).trans ((out_real _ _).trans ?_)
    exact at_piece P (n := 3) _ _ (by omega) x0_lt h31 h32 (fun n => n)
  case piece5 =>
    refine (congrArg (fun S : FVec Ideal S128x512 .f32 => k0_pay4 (F := Ideal) S x) (nx0 hP inb_S1024x512_S128x512_128_0 rfl (nx0 hP inb_S1024x512_S128x512_0_0 rfl ((prev0 _ _).trans h0)))).trans ((out_real _ _).trans ?_)
    exact at_piece P (n := 2) _ _ (by omega) x0_lt h31 h32 (fun n => n)
  case piece6 =>
    refine (congrArg (fun S : FVec Ideal S128x512 .f32 => k0_pay4 (F := Ideal) S x) (nx0 hP inb_S1024x512_S128x512_0_0 rfl ((prev0 _ _).trans h0))).trans ((out_real _ _).trans ?_)
    exact at_piece P (n := 1) _ _ (by omega) x0_lt h31 h32 (fun n => n)
  case piece7 =>
    refine (congrArg (fun S : FVec Ideal S128x512 .f32 => k0_pay4 (F := Ideal) S x) ((prev0 _ _).trans h0)).trans ((out_real _ _).trans ?_)
    exact at_piece P (n := 0) _ _ (by omega) x0_lt h31 h32 (fun n => n)
set_option maxHeartbeats 2000000 in
theorem atB_s0 (h : ¬p.val % 8 = 0) (h0 : (outsAt0 m c (p.val - 1) (Nat.lt_of_le_of_lt (Nat.sub_le _ _) p.isLt)).2.2.1 = VF (P 0)) : (outsAt0 m c p.val p.isLt).2.2.1 = VF (P 8) := by
  rw [outsAt0_B m c p h]
  dsimp only
  frame_open
  rw [View.read_writes_junk_eq_canon, View.canon_cons_unit_lit' _ _ _ (by decide)]
  exact (congrArg (st0 m c p 896 inb_S1024x512_S128x512_896_0) (nx0 hP inb_S1024x512_S128x512_768_0 rfl (nx0 hP inb_S1024x512_S128x512_640_0 rfl (nx0 hP inb_S1024x512_S128x512_512_0 rfl (nx0 hP inb_S1024x512_S128x512_384_0 rfl (nx0 hP inb_S1024x512_S128x512_256_0 rfl (nx0 hP inb_S1024x512_S128x512_128_0 rfl (nx0 hP inb_S1024x512_S128x512_0_0 rfl ((prev0 _ _).trans h0))))))))).trans (hP 7 896 inb_S1024x512_S128x512_896_0 rfl)

set_option maxHeartbeats 2000000 in
theorem atA_8 (h : p.val % 8 = 0) (h0 : P 0 = fun _ _ => 0) : (outsAt0 m c p.val p.isLt).1 = fun x => ((P ((x 0).val) (x 1) (x 2) : ℝ) : EReal) := by
  funext x
  rw [outsAt0_A m c p h]
  dsimp only
  frame_open
  rw [View.read_writes_junk_eq_canon]
  canon_tiles x h3
  case piece0 =>
    refine (congrArg (fun S : FVec Ideal S128x512 .f32 => k0_pay4 (F := Ideal) S x) (nx0 hP inb_S1024x512_S128x512_768_0 rfl (nx0 hP inb_S1024x512_S128x512_640_0 rfl (nx0 hP inb_S1024x512_S128x512_512_0 rfl (nx0 hP inb_S1024x512_S128x512_384_0 rfl (nx0 hP inb_S1024x512_S128x512_256_0 rfl (nx0 hP inb_S1024x512_S128x512_128_0 rfl (nx0 hP inb_S1024x512_S128x512_0_0 rfl ((rcv0 (k0_pay2 (F := Ideal)) _).trans (zero2.trans (congrArg VF h0.symm))))))))))).trans ((out_real _ _).trans ?_)
    exact at_piece P (n := 7) _ _ (by omega) x0_lt h31 h32 (fun n => n)
  case piece1 =>
    refine (congrArg (fun S : FVec Ideal S128x512 .f32 => k0_pay4 (F := Ideal) S x) (nx0 hP inb_S1024x512_S128x512_640_0 rfl (nx0 hP inb_S1024x512_S128x512_512_0 rfl (nx0 hP inb_S1024x512_S128x512_384_0 rfl (nx0 hP inb_S1024x512_S128x512_256_0 rfl (nx0 hP inb_S1024x512_S128x512_128_0 rfl (nx0 hP inb_S1024x512_S128x512_0_0 rfl ((rcv0 (k0_pay2 (F := Ideal)) _).trans (zero2.trans (congrArg VF h0.symm)))))))))).trans ((out_real _ _).trans ?_)
    exact at_piece P (n := 6) _ _ (by omega) x0_lt h31 h32 (fun n => n)
  case piece2 =>
    refine (congrArg (fun S : FVec Ideal S128x512 .f32 => k0_pay4 (F := Ideal) S x) (nx0 hP inb_S1024x512_S128x512_512_0 rfl (nx0 hP inb_S1024x512_S128x512_384_0 rfl (nx0 hP inb_S1024x512_S128x512_256_0 rfl (nx0 hP inb_S1024x512_S128x512_128_0 rfl (nx0 hP inb_S1024x512_S128x512_0_0 rfl ((rcv0 (k0_pay2 (F := Ideal)) _).trans (zero2.trans (congrArg VF h0.symm))))))))).trans ((out_real _ _).trans ?_)
    exact at_piece P (n := 5) _ _ (by omega) x0_lt h31 h32 (fun n => n)
  case piece3 =>
    refine (congrArg (fun S : FVec Ideal S128x512 .f32 => k0_pay4 (F := Ideal) S x) (nx0 hP inb_S1024x512_S128x512_384_0 rfl (nx0 hP inb_S1024x512_S128x512_256_0 rfl (nx0 hP inb_S1024x512_S128x512_128_0 rfl (nx0 hP inb_S1024x512_S128x512_0_0 rfl ((rcv0 (k0_pay2 (F := Ideal)) _).trans (zero2.trans (congrArg VF h0.symm)))))))).trans ((out_real _ _).trans ?_)
    exact at_piece P (n := 4) _ _ (by omega) x0_lt h31 h32 (fun n => n)
  case piece4 =>
    refine (congrArg (fun S : FVec Ideal S128x512 .f32 => k0_pay4 (F := Ideal) S x) (nx0 hP inb_S1024x512_S128x512_256_0 rfl (nx0 hP inb_S1024x512_S128x512_128_0 rfl (nx0 hP inb_S1024x512_S128x512_0_0 rfl ((rcv0 (k0_pay2 (F := Ideal)) _).trans (zero2.trans (congrArg VF h0.symm))))))).trans ((out_real _ _).trans ?_)
    exact at_piece P (n := 3) _ _ (by omega) x0_lt h31 h32 (fun n => n)
  case piece5 =>
    refine (congrArg (fun S : FVec Ideal S128x512 .f32 => k0_pay4 (F := Ideal) S x) (nx0 hP inb_S1024x512_S128x512_128_0 rfl (nx0 hP inb_S1024x512_S128x512_0_0 rfl ((rcv0 (k0_pay2 (F := Ideal)) _).trans (zero2.trans (congrArg VF h0.symm)))))).trans ((out_real _ _).trans ?_)
    exact at_piece P (n := 2) _ _ (by omega) x0_lt h31 h32 (fun n => n)
  case piece6 =>
    refine (congrArg (fun S : FVec Ideal S128x512 .f32 => k0_pay4 (F := Ideal) S x) (nx0 hP inb_S1024x512_S128x512_0_0 rfl ((rcv0 (k0_pay2 (F := Ideal)) _).trans (zero2.trans (congrArg VF h0.symm))))).trans ((out_real _ _).trans ?_)
    exact at_piece P (n := 1) _ _ (by omega) x0_lt h31 h32 (fun n => n)
  case piece7 =>
    refine (congrArg (fun S : FVec Ideal S128x512 .f32 => k0_pay4 (F := Ideal) S x) ((rcv0 (k0_pay2 (F := Ideal)) _).trans (zero2.trans (congrArg VF h0.symm)))).trans ((out_real _ _).trans ?_)
    exact at_piece P (n := 0) _ _ (by omega) x0_lt h31 h32 (fun n => n)
set_option maxHeartbeats 2000000 in
theorem atA_s0 (h : p.val % 8 = 0) (h0 : P 0 = fun _ _ => 0) : (outsAt0 m c p.val p.isLt).2.2.1 = VF (P 8) := by
  rw [outsAt0_A m c p h]
  dsimp only
  frame_open
  rw [View.read_writes_junk_eq_canon, View.canon_cons_unit_lit' _ _ _ (by decide)]
  exact (congrArg (st0 m c p 896 inb_S1024x512_S128x512_896_0) (nx0 hP inb_S1024x512_S128x512_768_0 rfl (nx0 hP inb_S1024x512_S128x512_640_0 rfl (nx0 hP inb_S1024x512_S128x512_512_0 rfl (nx0 hP inb_S1024x512_S128x512_384_0 rfl (nx0 hP inb_S1024x512_S128x512_256_0 rfl (nx0 hP inb_S1024x512_S128x512_128_0 rfl (nx0 hP inb_S1024x512_S128x512_0_0 rfl ((rcv0 (k0_pay2 (F := Ideal)) _).trans (zero2.trans (congrArg VF h0.symm))))))))))).trans (hP 7 896 inb_S1024x512_S128x512_896_0 rfl)

end

section

variable {P} (hP : ∀ (j o : ℕ) (inb), o = 128 * (7 - j) → j < 8 → st1 m c p o inb (VF (P j)) = VF (P (j + 1)))

include hP

/-- The state loaded after a chunk. -/
theorem nx1 {j o : ℕ} (inb : ∀ a, (![o, 0] : Fin S1024x512.rank → ℕ) a + S128x512.size a ≤ S1024x512.size a) (ho : o = 128 * (7 - j)) (hj : j < 8) {S : FVec Ideal S128x512 .f32} (hS : S = VF (P j)) {L : List (View.Piece (Elt Ideal) S128x512 .f32)} :
    scM0_1.view.readCov (Val := Elt Ideal) ((⟨Rect.unit ![0, 0] S128x512.size inb_S128x512_S128x512_0_0, st1 m c p o inb S⟩ : View.Piece (Elt Ideal) S128x512 .f32) :: L)
      (Rect.unit ![0, 0] S128x512.size inb_S128x512_S128x512_0_0).toLoadRect = VF (P (j + 1)) := by
  subst hS
  exact (rcv1 _ _).trans (hP j o inb ho hj)

variable (P)

set_option maxHeartbeats 2000000 in
theorem atB_9 (h : ¬p.val % 8 = 0) (h0 : (outsAt0 m c (p.val - 1) (Nat.lt_of_le_of_lt (Nat.sub_le _ _) p.isLt)).2.2.2 = VF (P 0)) : (outsAt0 m c p.val p.isLt).2.1 = fun x => ((P (7 - (x 0).val) (x 1) (x 2) : ℝ) : EReal) := by
  funext x
  rw [outsAt0_B m c p h]
  dsimp only
  frame_open
  rw [View.read_writes_junk_eq_canon]
  canon_tiles x h3
  case piece0 =>
    refine (congrArg (fun S : FVec Ideal S128x512 .f32 => k0_pay4 (F := Ideal) S x) (nx1 hP inb_S1024x512_S128x512_128_0 rfl (by decide) (nx1 hP inb_S1024x512_S128x512_256_0 rfl (by decide) (nx1 hP inb_S1024x512_S128x512_384_0 rfl (by decide) (nx1 hP inb_S1024x512_S128x512_512_0 rfl (by decide) (nx1 hP inb_S1024x512_S128x512_640_0 rfl (by decide) (nx1 hP inb_S1024x512_S128x512_768_0 rfl (by decide) (nx1 hP inb_S1024x512_S128x512_896_0 rfl (by decide) ((prev1 _ _).trans h0))))))))).trans ((out_real _ _).trans ?_)
    exact at_piece P (n := 0) _ _ (by omega) x0_lt h31 h32 (fun n => 7 - n)
  case piece1 =>
    refine (congrArg (fun S : FVec Ideal S128x512 .f32 => k0_pay4 (F := Ideal) S x) (nx1 hP inb_S1024x512_S128x512_256_0 rfl (by decide) (nx1 hP inb_S1024x512_S128x512_384_0 rfl (by decide) (nx1 hP inb_S1024x512_S128x512_512_0 rfl (by decide) (nx1 hP inb_S1024x512_S128x512_640_0 rfl (by decide) (nx1 hP inb_S1024x512_S128x512_768_0 rfl (by decide) (nx1 hP inb_S1024x512_S128x512_896_0 rfl (by decide) ((prev1 _ _).trans h0)))))))).trans ((out_real _ _).trans ?_)
    exact at_piece P (n := 1) _ _ (by omega) x0_lt h31 h32 (fun n => 7 - n)
  case piece2 =>
    refine (congrArg (fun S : FVec Ideal S128x512 .f32 => k0_pay4 (F := Ideal) S x) (nx1 hP inb_S1024x512_S128x512_384_0 rfl (by decide) (nx1 hP inb_S1024x512_S128x512_512_0 rfl (by decide) (nx1 hP inb_S1024x512_S128x512_640_0 rfl (by decide) (nx1 hP inb_S1024x512_S128x512_768_0 rfl (by decide) (nx1 hP inb_S1024x512_S128x512_896_0 rfl (by decide) ((prev1 _ _).trans h0))))))).trans ((out_real _ _).trans ?_)
    exact at_piece P (n := 2) _ _ (by omega) x0_lt h31 h32 (fun n => 7 - n)
  case piece3 =>
    refine (congrArg (fun S : FVec Ideal S128x512 .f32 => k0_pay4 (F := Ideal) S x) (nx1 hP inb_S1024x512_S128x512_512_0 rfl (by decide) (nx1 hP inb_S1024x512_S128x512_640_0 rfl (by decide) (nx1 hP inb_S1024x512_S128x512_768_0 rfl (by decide) (nx1 hP inb_S1024x512_S128x512_896_0 rfl (by decide) ((prev1 _ _).trans h0)))))).trans ((out_real _ _).trans ?_)
    exact at_piece P (n := 3) _ _ (by omega) x0_lt h31 h32 (fun n => 7 - n)
  case piece4 =>
    refine (congrArg (fun S : FVec Ideal S128x512 .f32 => k0_pay4 (F := Ideal) S x) (nx1 hP inb_S1024x512_S128x512_640_0 rfl (by decide) (nx1 hP inb_S1024x512_S128x512_768_0 rfl (by decide) (nx1 hP inb_S1024x512_S128x512_896_0 rfl (by decide) ((prev1 _ _).trans h0))))).trans ((out_real _ _).trans ?_)
    exact at_piece P (n := 4) _ _ (by omega) x0_lt h31 h32 (fun n => 7 - n)
  case piece5 =>
    refine (congrArg (fun S : FVec Ideal S128x512 .f32 => k0_pay4 (F := Ideal) S x) (nx1 hP inb_S1024x512_S128x512_768_0 rfl (by decide) (nx1 hP inb_S1024x512_S128x512_896_0 rfl (by decide) ((prev1 _ _).trans h0)))).trans ((out_real _ _).trans ?_)
    exact at_piece P (n := 5) _ _ (by omega) x0_lt h31 h32 (fun n => 7 - n)
  case piece6 =>
    refine (congrArg (fun S : FVec Ideal S128x512 .f32 => k0_pay4 (F := Ideal) S x) (nx1 hP inb_S1024x512_S128x512_896_0 rfl (by decide) ((prev1 _ _).trans h0))).trans ((out_real _ _).trans ?_)
    exact at_piece P (n := 6) _ _ (by omega) x0_lt h31 h32 (fun n => 7 - n)
  case piece7 =>
    refine (congrArg (fun S : FVec Ideal S128x512 .f32 => k0_pay4 (F := Ideal) S x) ((prev1 _ _).trans h0)).trans ((out_real _ _).trans ?_)
    exact at_piece P (n := 7) _ _ (by omega) x0_lt h31 h32 (fun n => 7 - n)
set_option maxHeartbeats 2000000 in
theorem atB_s1 (h : ¬p.val % 8 = 0) (h0 : (outsAt0 m c (p.val - 1) (Nat.lt_of_le_of_lt (Nat.sub_le _ _) p.isLt)).2.2.2 = VF (P 0)) : (outsAt0 m c p.val p.isLt).2.2.2 = VF (P 8) := by
  rw [outsAt0_B m c p h]
  dsimp only
  frame_open
  rw [View.read_writes_junk_eq_canon, View.canon_cons_unit_lit' _ _ _ (by decide)]
  exact (congrArg (st1 m c p 0 inb_S1024x512_S128x512_0_0) (nx1 hP inb_S1024x512_S128x512_128_0 rfl (by decide) (nx1 hP inb_S1024x512_S128x512_256_0 rfl (by decide) (nx1 hP inb_S1024x512_S128x512_384_0 rfl (by decide) (nx1 hP inb_S1024x512_S128x512_512_0 rfl (by decide) (nx1 hP inb_S1024x512_S128x512_640_0 rfl (by decide) (nx1 hP inb_S1024x512_S128x512_768_0 rfl (by decide) (nx1 hP inb_S1024x512_S128x512_896_0 rfl (by decide) ((prev1 _ _).trans h0))))))))).trans (hP 7 0 inb_S1024x512_S128x512_0_0 rfl (by decide))

set_option maxHeartbeats 2000000 in
theorem atA_9 (h : p.val % 8 = 0) (h0 : P 0 = fun _ _ => 0) : (outsAt0 m c p.val p.isLt).2.1 = fun x => ((P (7 - (x 0).val) (x 1) (x 2) : ℝ) : EReal) := by
  funext x
  rw [outsAt0_A m c p h]
  dsimp only
  frame_open
  rw [View.read_writes_junk_eq_canon]
  canon_tiles x h3
  case piece0 =>
    refine (congrArg (fun S : FVec Ideal S128x512 .f32 => k0_pay4 (F := Ideal) S x) (nx1 hP inb_S1024x512_S128x512_128_0 rfl (by decide) (nx1 hP inb_S1024x512_S128x512_256_0 rfl (by decide) (nx1 hP inb_S1024x512_S128x512_384_0 rfl (by decide) (nx1 hP inb_S1024x512_S128x512_512_0 rfl (by decide) (nx1 hP inb_S1024x512_S128x512_640_0 rfl (by decide) (nx1 hP inb_S1024x512_S128x512_768_0 rfl (by decide) (nx1 hP inb_S1024x512_S128x512_896_0 rfl (by decide) ((rcv1 (k0_pay2 (F := Ideal)) _).trans (zero2.trans (congrArg VF h0.symm))))))))))).trans ((out_real _ _).trans ?_)
    exact at_piece P (n := 0) _ _ (by omega) x0_lt h31 h32 (fun n => 7 - n)
  case piece1 =>
    refine (congrArg (fun S : FVec Ideal S128x512 .f32 => k0_pay4 (F := Ideal) S x) (nx1 hP inb_S1024x512_S128x512_256_0 rfl (by decide) (nx1 hP inb_S1024x512_S128x512_384_0 rfl (by decide) (nx1 hP inb_S1024x512_S128x512_512_0 rfl (by decide) (nx1 hP inb_S1024x512_S128x512_640_0 rfl (by decide) (nx1 hP inb_S1024x512_S128x512_768_0 rfl (by decide) (nx1 hP inb_S1024x512_S128x512_896_0 rfl (by decide) ((rcv1 (k0_pay2 (F := Ideal)) _).trans (zero2.trans (congrArg VF h0.symm)))))))))).trans ((out_real _ _).trans ?_)
    exact at_piece P (n := 1) _ _ (by omega) x0_lt h31 h32 (fun n => 7 - n)
  case piece2 =>
    refine (congrArg (fun S : FVec Ideal S128x512 .f32 => k0_pay4 (F := Ideal) S x) (nx1 hP inb_S1024x512_S128x512_384_0 rfl (by decide) (nx1 hP inb_S1024x512_S128x512_512_0 rfl (by decide) (nx1 hP inb_S1024x512_S128x512_640_0 rfl (by decide) (nx1 hP inb_S1024x512_S128x512_768_0 rfl (by decide) (nx1 hP inb_S1024x512_S128x512_896_0 rfl (by decide) ((rcv1 (k0_pay2 (F := Ideal)) _).trans (zero2.trans (congrArg VF h0.symm))))))))).trans ((out_real _ _).trans ?_)
    exact at_piece P (n := 2) _ _ (by omega) x0_lt h31 h32 (fun n => 7 - n)
  case piece3 =>
    refine (congrArg (fun S : FVec Ideal S128x512 .f32 => k0_pay4 (F := Ideal) S x) (nx1 hP inb_S1024x512_S128x512_512_0 rfl (by decide) (nx1 hP inb_S1024x512_S128x512_640_0 rfl (by decide) (nx1 hP inb_S1024x512_S128x512_768_0 rfl (by decide) (nx1 hP inb_S1024x512_S128x512_896_0 rfl (by decide) ((rcv1 (k0_pay2 (F := Ideal)) _).trans (zero2.trans (congrArg VF h0.symm)))))))).trans ((out_real _ _).trans ?_)
    exact at_piece P (n := 3) _ _ (by omega) x0_lt h31 h32 (fun n => 7 - n)
  case piece4 =>
    refine (congrArg (fun S : FVec Ideal S128x512 .f32 => k0_pay4 (F := Ideal) S x) (nx1 hP inb_S1024x512_S128x512_640_0 rfl (by decide) (nx1 hP inb_S1024x512_S128x512_768_0 rfl (by decide) (nx1 hP inb_S1024x512_S128x512_896_0 rfl (by decide) ((rcv1 (k0_pay2 (F := Ideal)) _).trans (zero2.trans (congrArg VF h0.symm))))))).trans ((out_real _ _).trans ?_)
    exact at_piece P (n := 4) _ _ (by omega) x0_lt h31 h32 (fun n => 7 - n)
  case piece5 =>
    refine (congrArg (fun S : FVec Ideal S128x512 .f32 => k0_pay4 (F := Ideal) S x) (nx1 hP inb_S1024x512_S128x512_768_0 rfl (by decide) (nx1 hP inb_S1024x512_S128x512_896_0 rfl (by decide) ((rcv1 (k0_pay2 (F := Ideal)) _).trans (zero2.trans (congrArg VF h0.symm)))))).trans ((out_real _ _).trans ?_)
    exact at_piece P (n := 5) _ _ (by omega) x0_lt h31 h32 (fun n => 7 - n)
  case piece6 =>
    refine (congrArg (fun S : FVec Ideal S128x512 .f32 => k0_pay4 (F := Ideal) S x) (nx1 hP inb_S1024x512_S128x512_896_0 rfl (by decide) ((rcv1 (k0_pay2 (F := Ideal)) _).trans (zero2.trans (congrArg VF h0.symm))))).trans ((out_real _ _).trans ?_)
    exact at_piece P (n := 6) _ _ (by omega) x0_lt h31 h32 (fun n => 7 - n)
  case piece7 =>
    refine (congrArg (fun S : FVec Ideal S128x512 .f32 => k0_pay4 (F := Ideal) S x) ((rcv1 (k0_pay2 (F := Ideal)) _).trans (zero2.trans (congrArg VF h0.symm)))).trans ((out_real _ _).trans ?_)
    exact at_piece P (n := 7) _ _ (by omega) x0_lt h31 h32 (fun n => 7 - n)
set_option maxHeartbeats 2000000 in
theorem atA_s1 (h : p.val % 8 = 0) (h0 : P 0 = fun _ _ => 0) : (outsAt0 m c p.val p.isLt).2.2.2 = VF (P 8) := by
  rw [outsAt0_A m c p h]
  dsimp only
  frame_open
  rw [View.read_writes_junk_eq_canon, View.canon_cons_unit_lit' _ _ _ (by decide)]
  exact (congrArg (st1 m c p 0 inb_S1024x512_S128x512_0_0) (nx1 hP inb_S1024x512_S128x512_128_0 rfl (by decide) (nx1 hP inb_S1024x512_S128x512_256_0 rfl (by decide) (nx1 hP inb_S1024x512_S128x512_384_0 rfl (by decide) (nx1 hP inb_S1024x512_S128x512_512_0 rfl (by decide) (nx1 hP inb_S1024x512_S128x512_640_0 rfl (by decide) (nx1 hP inb_S1024x512_S128x512_768_0 rfl (by decide) (nx1 hP inb_S1024x512_S128x512_896_0 rfl (by decide) ((rcv1 (k0_pay2 (F := Ideal)) _).trans (zero2.trans (congrArg VF h0.symm))))))))))).trans (hP 7 0 inb_S1024x512_S128x512_0_0 rfl (by decide))

end

end Cert.RetStateIdeal.Val
-- ==== Proof.StateRef.lean ====
module

public import proofs.«01_k».proof.Proof.Gen.RetStateRefIdeal.Read
public import proofs.«01_k».proof.Proof.CarryRef
public import proofs.«01_k».proof.Proof.RetMatch

@[expose] public section

/-! # The forward states of retention: what their reference computes, and the running sums that give them -/

set_option maxRecDepth 16384

noncomputable section

namespace Cert.RetReal

open Cert.Lift Cert.GmReal
open Cert.RetMainIdeal.Val (zbR sum_rev rev_cast cr_rev)

/-- A sum over the positions, by chunk and place in the chunk. -/
theorem sum_cr (f : Fin 8192 → ℝ) : ∑ s, f s = ∑ a, ∑ i, f (cr a i) := by
  let e : Fin 64 × Fin 128 ≃ Fin 8192 :=
    ⟨fun q => cr q.1 q.2, fun s => (cof s, rof s), fun q => Prod.ext (cof_cr q.1 q.2) (rof_cr q.1 q.2), cr_of⟩
  rw [← e.sum_comp f, Fintype.sum_prod_type]
  rfl

theorem dec_in (L : Fin 4 → ℝ) (h : Fin 4) (n a : Fin 64) (i : Fin 128) (q : a.val < n.val) :
    dec L h n (cr a i) = zt L h i * Real.exp (L h * (128 * ((n.val : ℝ) - 1 - a.val))) := by
  have e : ((cr a i).val : ℝ) = 128 * a.val + i.val := by
    show ((a.val * 128 + i.val : ℕ) : ℝ) = _
    push_cast; ring
  have q' : (0 : ℝ) ≤ 128 * n.val - 1 - (128 * a.val + i.val) := by
    have z : (128 * a.val + i.val + 1 : ℕ) ≤ 128 * n.val := by omega
    have z' : (128 * (a.val : ℝ) + i.val + 1) ≤ 128 * n.val := by exact_mod_cast z
    linarith
  rw [dec, e, if_pos q', if_pos q', zt, ← Real.exp_add]
  congr 1; ring
theorem dec_out (L : Fin 4 → ℝ) (h : Fin 4) (n a : Fin 64) (i : Fin 128) (q : ¬a.val < n.val) : dec L h n (cr a i) = 0 := by
  have e : ((cr a i).val : ℝ) = 128 * a.val + i.val := by
    show ((a.val * 128 + i.val : ℕ) : ℝ) = _
    push_cast; ring
  refine if_neg fun q' => ?_
  rw [e] at q'
  have z : (128 * n.val : ℕ) ≤ 128 * a.val + i.val := by omega
  have z' : (128 * (n.val : ℝ)) ≤ 128 * a.val + i.val := by exact_mod_cast z
  linarith

/-- The decayed running sum of the chunks' own states is the state. -/
theorem scan_state (L : Fin 4 → ℝ) (h : Fin 4) (K V : Fin 8192 → Fin 4 → Fin 128 → ℝ) (d e : Fin 128) (u : ℕ → ℝ)
    (hu : ∀ a : Fin 64, u a.val = ∑ i, V (cr a i) h e * (zt L h i * K (cr a i) h d)) (n : Fin 64) :
    scan (Real.exp (128 * L h)) u n.val = state L K V n h d e := by
  rw [scan_eq _ _ _ (by omega), state, sum_cr]
  refine Finset.sum_congr rfl fun a _ => ?_
  by_cases q : a.val < n.val
  · rw [if_pos q, hu a, Finset.sum_mul]
    refine Finset.sum_congr rfl fun i _ => ?_
    rw [dec_in L h n a i q]; ring
  · rw [if_neg q]
    refine (Finset.sum_eq_zero fun i _ => ?_).symm
    rw [dec_out L h n a i q]; ring

/-- A chunk's contribution to a state, with a table of weights. -/
def add (K : Fin 8192 → Fin 4 → Fin 128 → ℝ) (X : Fin 8192 → Fin 512 → ℝ) (x : Fin 4 → Fin 128 → ℝ) (n : Fin 64) (d : Fin 128) (k : Fin 512) : ℝ :=
  ∑ i, K (cr n i) (hh k) d * x (hh k) i * X (cr n i) k

variable (K : Fin 8192 → Fin 4 → Fin 128 → ℝ) (X : Fin 8192 → Fin 512 → ℝ)

/-- The state before a number of chunks, from the first on, and from the last on. -/
def before (n : ℕ) (d : Fin 128) (k : Fin 512) : ℝ :=
  scan (Real.exp (128 * lam (hh k))) (fun a => add K X (zt lam) ⟨a % 64, Nat.mod_lt _ (by decide)⟩ d k) n
def after (n : ℕ) (d : Fin 128) (k : Fin 512) : ℝ :=
  scan (Real.exp (128 * lamR (hh k))) (fun a => add K X zbR (Fin.rev ⟨a % 64, Nat.mod_lt _ (by decide)⟩) d k) n

theorem before_eq (n : Fin 64) (d : Fin 128) (k : Fin 512) : before K X n.val d k = state lam K (rv X) n (hh k) d (hd k) := by
  refine scan_state lam (hh k) K (rv X) d (hd k) _ (fun a => ?_) n
  have ea : (⟨a.val % 64, Nat.mod_lt _ (by decide)⟩ : Fin 64) = a := Fin.ext (Nat.mod_eq_of_lt a.isLt)
  show add K X (zt lam) (⟨a.val % 64, Nat.mod_lt _ (by decide)⟩ : Fin 64) d k = _
  rw [ea, add]
  refine Finset.sum_congr rfl fun i _ => ?_
  rw [rv, hc_of]; ring
theorem after_eq (n : Fin 64) (d : Fin 128) (k : Fin 512) : after K X (63 - n.val) d k = state lamR (bk K) (bk (rv X)) n.rev (hh k) d (hd k) := by
  have e := scan_state lamR (hh k) (bk K) (bk (rv X)) d (hd k) (fun a => add K X zbR (Fin.rev ⟨a % 64, Nat.mod_lt _ (by decide)⟩) d k) (fun a => ?_) n.rev
  · rw [Fin.val_rev, show 64 - (n.val + 1) = 63 - n.val by omega] at e; exact e
  · have ea : (⟨a.val % 64, Nat.mod_lt _ (by decide)⟩ : Fin 64) = a := Fin.ext (Nat.mod_eq_of_lt a.isLt)
    show add K X zbR (Fin.rev (⟨a.val % 64, Nat.mod_lt _ (by decide)⟩ : Fin 64)) d k = _
    rw [ea, add, sum_rev]
    refine Finset.sum_congr rfl fun i _ => ?_
    have ez : zbR (hh k) i.rev = zt lamR (hh k) i := by rw [zbR, zt, rev_cast]
    rw [ez, bk, bk, cr_rev, rv, hc_of]; ring

end Cert.RetReal

namespace Cert.RetStateRefIdeal.Val

open Cert.RetStateRefIdeal Cert.RetStateRefIdeal.Read Cert.Lift Cert.GmReal Cert.RetReal Idealize.ShloMosaic
open Cert.RetMainRefIdeal.Val (XA)

variable (X0 X1 : Fin 8192 → Fin 512 → ℝ)

theorem v87_real : val_main_v87 (F := Ideal) (XA X0) (XA X1) = fun i => ((state lam (rk X0) (rv X1) (i 0) (i 1) (i 2) (i 3) : ℝ) : EReal) :=
  Cert.RetMainRefIdeal.Val.v87_real X0 X1
theorem v121_real : val_main_v121 (F := Ideal) (XA X0) (XA X1) = fun i => ((state lamR (bk (rk X0)) (bk (rv X1)) (i 0) (i 1) (i 2) (i 3) : ℝ) : EReal) :=
  Cert.RetMainRefIdeal.Val.v121_real X0 X1

/-- The two results. -/
theorem v124_real : val_main_v124 (F := Ideal) (XA X0) (XA X1) = fun i => ((state lam (rk X0) (rv X1) (i 0) (hh (i 2)) (i 1) (hd (i 2)) : ℝ) : EReal) := by
  funext i
  pointwise [val_main_v124, val_main_v123, val_main_v122, v87_real]
  rfl
theorem v128_real : val_main_v128 (F := Ideal) (XA X0) (XA X1) = fun i => ((state lamR (bk (rk X0)) (bk (rv X1)) (Fin.rev (i 0)) (hh (i 2)) (i 1) (hd (i 2)) : ℝ) : EReal) := by
  funext i
  pointwise [val_main_v128, val_main_v127, val_main_v126, val_main_v125, v121_real]
  rfl

end Cert.RetStateRefIdeal.Val
-- ==== Proof.StateHost.lean ====
module

public import proofs.«01_k».proof.Proof.StatePoints
public import proofs.«01_k».proof.Proof.StateRef
public import proofs.«01_k».proof.Proof.CarryHost
public import Idealize.ShloMosaic.Lib.StableHlo.RunRead

@[expose] public section

/-! # What each point of the forward states' kernel reads -/

set_option maxRecDepth 16384

noncomputable section

open Idealize.ShloMosaic Idealize.ShloMosaic.TcCoe Idealize.SL.Sem
open Idealize.ShloMosaic.Pipeline (Dat)

namespace Cert.RetStateIdeal.Val

open Cert.RetStateIdeal Cert.RetStateIdeal.Gen Cert.Lift Cert.GmReal Cert.RetReal
open Cert.RetMainRefIdeal.Val (XA)
open Cert.RetMainIdeal.Val (zero_at zbR)
open Cert.RetCarryIdeal.Val (VF VB VG)

variable (m : (ℓ : Loc nD τ sig) → Buf (Elt Ideal) ℓ) (c : Dev nD)

theorem v112_read (i : S128x512.Idx) : V m c main_v112 i = ((zt lam (hh (i 1)) (i 0) : ℝ) : EReal) := by
  unfold V
  after_reads_simp
  have b0 : (i 0).val < 128 := (i 0).isLt
  have b1 : (i 1).val < 512 := (i 1).isLt
  pointwise
  simp (disch := omega) only [List.mem_singleton, if_true, Fin.val_rev, sitofp_coe]
  simp only [Ideal.ofBits_def, Ideal.ofBits_zero_f32, bits_neg5, bits_ln2, bits_one, one_coe, bits_128, bits_127, id_eq, zero_at, zero_coe, sub_coe, add_coe, mul_coe, neg_coe, exp_coe]
  refine (congrArg (fun z => Ideal.exp (z * _)) (log_coe _ (gam_pos (hh (i 1))))).trans ?_
  simp only [mul_coe, exp_coe]
  rfl

theorem v130_read (i : S128x512.Idx) : V m c main_v130 i = ((zbR (hh (i 1)) (i 0) : ℝ) : EReal) := by
  unfold V
  after_reads_simp
  have b0 : (i 0).val < 128 := (i 0).isLt
  have b1 : (i 1).val < 512 := (i 1).isLt
  pointwise
  simp (disch := omega) only [List.mem_singleton, if_true, Fin.val_rev, sitofp_coe]
  simp only [Ideal.ofBits_def, Ideal.ofBits_zero_f32, bits_neg5, bits_ln2, bits_one, one_coe, bits_128, bits_127, id_eq, zero_at, zero_coe, sub_coe, add_coe, mul_coe, neg_coe, exp_coe]
  refine (congrArg (fun z => Ideal.exp (z * _)) (log_coe _ (gam_pos ((hh (i 1)).rev)))).trans ?_
  simp only [mul_coe, exp_coe]
  rfl

theorem v136_read (i : S1x512.Idx) : V m c main_v136 i = ((Real.exp (128 * lam (hh (i 1))) : ℝ) : EReal) := by
  unfold V
  after_reads_simp
  have b0 : (i 0).val < 1 := (i 0).isLt
  have b1 : (i 1).val < 512 := (i 1).isLt
  pointwise
  simp (disch := omega) only [List.mem_singleton, if_true, Fin.val_rev, sitofp_coe]
  simp only [Ideal.ofBits_def, Ideal.ofBits_zero_f32, bits_neg5, bits_ln2, bits_one, one_coe, bits_128, bits_127, id_eq, zero_at, zero_coe, sub_coe, add_coe, mul_coe, neg_coe, exp_coe]
  refine (congrArg (fun z => Ideal.exp (z * _)) (log_coe _ (gam_pos (hh (i 1))))).trans ?_
  simp only [mul_coe, exp_coe, mul_comm]
  rfl

theorem v142_read (i : S1x512.Idx) : V m c main_v142 i = ((Real.exp (128 * lamR (hh (i 1))) : ℝ) : EReal) := by
  unfold V
  after_reads_simp
  have b0 : (i 0).val < 1 := (i 0).isLt
  have b1 : (i 1).val < 512 := (i 1).isLt
  pointwise
  simp (disch := omega) only [List.mem_singleton, if_true, Fin.val_rev, sitofp_coe]
  simp only [Ideal.ofBits_def, Ideal.ofBits_zero_f32, bits_neg5, bits_ln2, bits_one, one_coe, bits_128, bits_127, id_eq, zero_at, zero_coe, sub_coe, add_coe, mul_coe, neg_coe, exp_coe]
  refine (congrArg (fun z => Ideal.exp (z * _)) (log_coe _ (gam_pos ((hh (i 1)).rev)))).trans ?_
  simp only [mul_coe, exp_coe, mul_comm]
  rfl

variable (X0 X1 : Fin 8192 → Fin 512 → ℝ)

/-- The keys and values side by side. -/
abbrev beside (K : FVec Ideal S8192x4x128 .f32) (X : FVec Ideal S8192x512 .f32) : FVec Ideal S8192x1024 .bf16 :=
  truncf .bf16 (concatenate S8192x1024 1 [⟨S8192x512, shapeCast S8192x512 K shapeCasts_S8192x4x128_S8192x512⟩, ⟨S8192x512, X⟩] concatenates_S8192x512_S8192x512_S8192x1024_d1) bitsLt_bf16_f32

def kv (s : Fin 8192) (j : Fin 1024) : ℝ :=
  if h : j.val < 512 then rk X0 s (hh ⟨j.val, h⟩) (hd ⟨j.val, h⟩) else X1 s ⟨j.val - 512, by omega⟩

theorem kv_k (s : Fin 8192) (j : Fin 1024) (k : Fin 512) (h : j.val = k.val) : kv X0 X1 s j = rk X0 s (hh k) (hd k) := by
  have e : (⟨j.val, by omega⟩ : Fin 512) = k := Fin.ext h
  rw [kv, dif_pos (by omega), e]
theorem kv_v (s : Fin 8192) (j : Fin 1024) (k : Fin 512) (h : j.val = 512 + k.val) : kv X0 X1 s j = X1 s k := by
  have e : (⟨j.val - 512, by omega⟩ : Fin 512) = k := Fin.ext (by show j.val - 512 = k.val; omega)
  rw [kv, dif_neg (by omega), e]

theorem v192_read (h0 : m ((c : Thread nD τ).loc main_arg0) = XA X0) (h1 : m ((c : Thread nD τ).loc main_arg1) = XA X1) (i : S8192x1024.Idx) :
    V m c main_v192 i = ((kv X0 X1 (i 0) (i 1) : ℝ) : EReal) := by
  have e : (V m c main_v192 : FVec Ideal S8192x1024 .bf16) = beside (RetMainRefIdeal.Read.val_main_v54 (F := Ideal) (m ((c : Thread nD τ).loc main_arg0))) (m ((c : Thread nD τ).loc main_arg1)) := by
    unfold V
    after_reads_simp
    rfl
  rw [e, h0, h1, RetMainRefIdeal.Val.v54_real]
  pointwise
  by_cases h : (i 1).val < 512
  · rw [dif_pos h]
    exact congrArg Real.toEReal (kv_k X0 X1 (i 0) (i 1) ⟨(i 1).val, h⟩ rfl).symm
  · rw [dif_neg h]
    have b : (i 1).val < 1024 := (i 1).isLt
    exact congrArg Real.toEReal (kv_v X0 X1 (i 0) (i 1) ⟨(i 1).val - 512, by omega⟩ (by show (i 1).val = 512 + ((i 1).val - 512); omega)).symm

theorem idx : ∀ t : Fin cfg0.N, win0_0.index t = ![0, 0] ∧ win0_1.index t = ![0, 0] ∧ win0_2.index t = ![0, 0] ∧ win0_3.index t = ![0, 0]
    ∧ win0_4.index t = ![t.val, 0] ∧ win0_5.index t = ![t.val, 1] ∧ win0_6.index t = ![7 - t.val, 0] ∧ win0_7.index t = ![7 - t.val, 1]
    ∧ win0_8.index t = ![t.val, 0, 0] ∧ win0_9.index t = ![7 - t.val, 0, 0] :=
  (by decide +kernel : ∀ t : Fin grid0.N, _)

/-- The row of the array that a point's block has at `r`, in the forward and in the backward order of the blocks. -/
def row (t : Fin cfg0.N) (r : Fin 1024) : Fin 8192 := ⟨t.val * 1024 + r.val, by have h : t.val < 8 := lt_of_lt_of_eq t.isLt N_0; omega⟩
def rowR (t : Fin cfg0.N) (r : Fin 1024) : Fin 8192 := ⟨(7 - t.val) * 1024 + r.val, by omega⟩

open Cert.RetCarryIdeal.Val (at2 BB)

variable (p : Fin cfg0.N)

theorem blk0 : iblk m c 0 p = VF fun r k => zt lam (hh k) r := by
  funext y
  blk_simp [iblk, idx p]
  rw [v112_read m c]
  refine at2 (fun s k => zt lam (hh k) s) (a' := y 0) (b' := y 1) ?_ ?_ <;> blk_simp [idx p]
theorem blk1 : iblk m c 1 p = VF fun r k => zbR (hh k) r := by
  funext y
  blk_simp [iblk, idx p]
  rw [v130_read m c]
  refine at2 (fun s k => zbR (hh k) s) (a' := y 0) (b' := y 1) ?_ ?_ <;> blk_simp [idx p]
theorem blk2 : iblk m c 2 p = VG fun k => Real.exp (128 * lam (hh k)) := by
  funext y
  blk_simp [iblk, idx p]
  rw [v136_read m c]
  refine at2 (fun _ k => Real.exp (128 * lam (hh k))) (a := y 0) (a' := y 0) (b' := y 1) ?_ ?_ <;> blk_simp [idx p]
theorem blk3 : iblk m c 3 p = VG fun k => Real.exp (128 * lamR (hh k)) := by
  funext y
  blk_simp [iblk, idx p]
  rw [v142_read m c]
  refine at2 (fun _ k => Real.exp (128 * lamR (hh k))) (a := y 0) (a' := y 0) (b' := y 1) ?_ ?_ <;> blk_simp [idx p]
theorem blk4 (h0 : m ((c : Thread nD τ).loc main_arg0) = XA X0) (h1 : m ((c : Thread nD τ).loc main_arg1) = XA X1) : iblk m c 4 p = BB fun r k => rk X0 (row p r) (hh k) (hd k) := by
  funext y
  blk_simp [iblk, idx p]
  rw [v192_read m c X0 X1 h0 h1]
  refine (at2 (kv X0 X1) (a' := row p (y 0)) (b' := ⟨0 + (y 1).val, by have b : (y 1).val < 512 := (y 1).isLt; omega⟩) ?_ ?_).trans
    (congrArg Real.toEReal (kv_k X0 X1 _ _ (y 1) (Nat.zero_add _)))
  all_goals blk_simp [idx p, row]
theorem blk5 (h0 : m ((c : Thread nD τ).loc main_arg0) = XA X0) (h1 : m ((c : Thread nD τ).loc main_arg1) = XA X1) : iblk m c 5 p = BB fun r k => X1 (row p r) k := by
  funext y
  blk_simp [iblk, idx p]
  rw [v192_read m c X0 X1 h0 h1]
  refine (at2 (kv X0 X1) (a' := row p (y 0)) (b' := ⟨512 + (y 1).val, by have b : (y 1).val < 512 := (y 1).isLt; omega⟩) ?_ ?_).trans
    (congrArg Real.toEReal (kv_v X0 X1 _ _ (y 1) rfl))
  all_goals blk_simp [idx p, row]
theorem blk6 (h0 : m ((c : Thread nD τ).loc main_arg0) = XA X0) (h1 : m ((c : Thread nD τ).loc main_arg1) = XA X1) : iblk m c 6 p = BB fun r k => rk X0 (rowR p r) (hh k) (hd k) := by
  funext y
  blk_simp [iblk, idx p]
  rw [v192_read m c X0 X1 h0 h1]
  refine (at2 (kv X0 X1) (a' := rowR p (y 0)) (b' := ⟨0 + (y 1).val, by have b : (y 1).val < 512 := (y 1).isLt; omega⟩) ?_ ?_).trans
    (congrArg Real.toEReal (kv_k X0 X1 _ _ (y 1) (Nat.zero_add _)))
  all_goals blk_simp [idx p, rowR]
theorem blk7 (h0 : m ((c : Thread nD τ).loc main_arg0) = XA X0) (h1 : m ((c : Thread nD τ).loc main_arg1) = XA X1) : iblk m c 7 p = BB fun r k => X1 (rowR p r) k := by
  funext y
  blk_simp [iblk, idx p]
  rw [v192_read m c X0 X1 h0 h1]
  refine (at2 (kv X0 X1) (a' := rowR p (y 0)) (b' := ⟨512 + (y 1).val, by have b : (y 1).val < 512 := (y 1).isLt; omega⟩) ?_ ?_).trans
    (congrArg Real.toEReal (kv_v X0 X1 _ _ (y 1) rfl))
  all_goals blk_simp [idx p, rowR]

/-- A chunk's rows, as loaded from a block. -/
theorem ld_rows (f : Fin 8192 → Fin 512 → ℝ) (e : Fin 1024 → Fin 8192) (n : Fin 64) (o : ℕ) (inb) (h : ∀ (r : Fin 128) (hr : o + r.val < 1024), e ⟨o + r.val, hr⟩ = cr n r) :
    View.ld (Val := Elt Ideal) (e' := .bf16) (S := S1024x512) (BB fun r k => f (e r) k) (Rect.unit ![o, 0] ![128, 512] inb) = VB fun r k => f (cr n r) k :=
  Cert.RetCarryIdeal.Val.ld_rows f e n o inb h

theorem rd4_real (h0 : m ((c : Thread nD τ).loc main_arg0) = XA X0) (h1 : m ((c : Thread nD τ).loc main_arg1) = XA X1) (n : Fin 64) (o : ℕ) (inb) (ho : p.val * 1024 + o = n.val * 128) :
    rd4 m c p o inb = VB fun r k => rk X0 (cr n r) (hh k) (hd k) := by
  show View.ld (View.read (Elt Ideal) (ms0_4 p).view ((hs0_4 p).unread (iblk m c 4 p))) (Rect.unit ![o, 0] ![128, 512] inb) = _
  rw [Memref.IsWhole.read_unread, blk4 m c X0 X1 p h0 h1]
  exact ld_rows (fun s k => rk X0 s (hh k) (hd k)) (row p) n o inb fun r hr => Fin.ext (by show p.val * 1024 + (o + r.val) = n.val * 128 + r.val; omega)
theorem rd5_real (h0 : m ((c : Thread nD τ).loc main_arg0) = XA X0) (h1 : m ((c : Thread nD τ).loc main_arg1) = XA X1) (n : Fin 64) (o : ℕ) (inb) (ho : p.val * 1024 + o = n.val * 128) :
    rd5 m c p o inb = VB fun r k => X1 (cr n r) k := by
  show View.ld (View.read (Elt Ideal) (ms0_5 p).view ((hs0_5 p).unread (iblk m c 5 p))) (Rect.unit ![o, 0] ![128, 512] inb) = _
  rw [Memref.IsWhole.read_unread, blk5 m c X0 X1 p h0 h1]
  exact ld_rows (fun s k => X1 s k) (row p) n o inb fun r hr => Fin.ext (by show p.val * 1024 + (o + r.val) = n.val * 128 + r.val; omega)
theorem rd6_real (h0 : m ((c : Thread nD τ).loc main_arg0) = XA X0) (h1 : m ((c : Thread nD τ).loc main_arg1) = XA X1) (n : Fin 64) (o : ℕ) (inb) (ho : (7 - p.val) * 1024 + o = n.val * 128) :
    rd6 m c p o inb = VB fun r k => rk X0 (cr n r) (hh k) (hd k) := by
  show View.ld (View.read (Elt Ideal) (ms0_6 p).view ((hs0_6 p).unread (iblk m c 6 p))) (Rect.unit ![o, 0] ![128, 512] inb) = _
  rw [Memref.IsWhole.read_unread, blk6 m c X0 X1 p h0 h1]
  exact ld_rows (fun s k => rk X0 s (hh k) (hd k)) (rowR p) n o inb fun r hr => Fin.ext (by show (7 - p.val) * 1024 + (o + r.val) = n.val * 128 + r.val; omega)
theorem rd7_real (h0 : m ((c : Thread nD τ).loc main_arg0) = XA X0) (h1 : m ((c : Thread nD τ).loc main_arg1) = XA X1) (n : Fin 64) (o : ℕ) (inb) (ho : (7 - p.val) * 1024 + o = n.val * 128) :
    rd7 m c p o inb = VB fun r k => X1 (cr n r) k := by
  show View.ld (View.read (Elt Ideal) (ms0_7 p).view ((hs0_7 p).unread (iblk m c 7 p))) (Rect.unit ![o, 0] ![128, 512] inb) = _
  rw [Memref.IsWhole.read_unread, blk7 m c X0 X1 p h0 h1]
  exact ld_rows (fun s k => X1 s k) (rowR p) n o inb fun r hr => Fin.ext (by show (7 - p.val) * 1024 + (o + r.val) = n.val * 128 + r.val; omega)
theorem rd0_real : rd0 m c p = VF fun r k => zt lam (hh k) r := by
  show View.ld (View.read (Elt Ideal) (ms0_0 p).view ((hs0_0 p).unread (iblk m c 0 p))) (Rect.unit ![0, 0] ![128, 512] inb_S128x512_S128x512_0_0) = _
  rw [Memref.IsWhole.read_unread, blk0]
  exact View.ld_unit_lit' (Val := Elt Ideal) (e := .f32) (S := S128x512) inb_S128x512_S128x512_0_0 _ (by decide)
theorem rd1_real : rd1 m c p = VF fun r k => zbR (hh k) r := by
  show View.ld (View.read (Elt Ideal) (ms0_1 p).view ((hs0_1 p).unread (iblk m c 1 p))) (Rect.unit ![0, 0] ![128, 512] inb_S128x512_S128x512_0_0) = _
  rw [Memref.IsWhole.read_unread, blk1]
  exact View.ld_unit_lit' (Val := Elt Ideal) (e := .f32) (S := S128x512) inb_S128x512_S128x512_0_0 _ (by decide)
theorem rd2_real : rd2 m c p = VG fun k => Real.exp (128 * lam (hh k)) := by
  show View.ld (View.read (Elt Ideal) (ms0_2 p).view ((hs0_2 p).unread (iblk m c 2 p))) (Rect.unit ![0, 0] ![1, 512] inb_S1x512_S1x512_0_0) = _
  rw [Memref.IsWhole.read_unread, blk2]
  exact View.ld_unit_lit' (Val := Elt Ideal) (e := .f32) (S := S1x512) inb_S1x512_S1x512_0_0 _ (by decide)
theorem rd3_real : rd3 m c p = VG fun k => Real.exp (128 * lamR (hh k)) := by
  show View.ld (View.read (Elt Ideal) (ms0_3 p).view ((hs0_3 p).unread (iblk m c 3 p))) (Rect.unit ![0, 0] ![1, 512] inb_S1x512_S1x512_0_0) = _
  rw [Memref.IsWhole.read_unread, blk3]
  exact View.ld_unit_lit' (Val := Elt Ideal) (e := .f32) (S := S1x512) inb_S1x512_S1x512_0_0 _ (by decide)

end Cert.RetStateIdeal.Val
-- ==== Proof.StateGrid.lean ====
module

public import proofs.«01_k».proof.Proof.StateHost
public import proofs.«01_k».proof.Proof.CarryGrid

@[expose] public section

/-! # The forward states over the whole grid -/

set_option maxRecDepth 16384

noncomputable section

open Idealize.ShloMosaic Idealize.ShloMosaic.TcCoe Idealize.SL.Sem
open Idealize.ShloMosaic.Pipeline (Dat)

namespace Cert.RetStateIdeal.Val

open Cert.RetStateIdeal Cert.RetStateIdeal.Gen Cert.Lift Cert.GmReal Cert.RetReal
open Cert.RetMainRefIdeal.Val (XA)
open Cert.RetMainIdeal.Val (zbR)
open Cert.RetCarryIdeal.Val (VF)

variable (m : (ℓ : Loc nD τ sig) → Buf (Elt Ideal) ℓ) (c : Dev nD) (X0 X1 : Fin 8192 → Fin 512 → ℝ)

variable {m c X0 X1} (h0 : m ((c : Thread nD τ).loc main_arg0) = XA X0) (h1 : m ((c : Thread nD τ).loc main_arg1) = XA X1) (p : Fin cfg0.N)

include h0 h1

theorem step0 (j o : ℕ) (inb) (ho : o = 128 * j) : st0 m c p o inb (VF (before (rk X0) X1 (8 * p.val + j))) = VF (before (rk X0) X1 (8 * p.val + (j + 1))) := by
  have hp : p.val < 8 := lt_of_lt_of_eq p.isLt N_0
  have b : o + 128 ≤ 1024 := inb 0
  have e : ((⟨(8 * p.val + j) % 64, Nat.mod_lt _ (by decide)⟩ : Fin 64)).val = 8 * p.val + j := Nat.mod_eq_of_lt (by omega)
  rw [st0, rd0_real, rd2_real, rd4_real m c X0 X1 p h0 h1 ⟨(8 * p.val + j) % 64, Nat.mod_lt _ (by decide)⟩ o inb (by rw [e]; omega),
    rd5_real m c X0 X1 p h0 h1 ⟨(8 * p.val + j) % 64, Nat.mod_lt _ (by decide)⟩ o inb (by rw [e]; omega), stp_real]
  refine congrArg VF (funext fun d => funext fun k => ?_)
  show before (rk X0) X1 (8 * p.val + j) d k * Real.exp (128 * lam (hh k)) + _ = before (rk X0) X1 (8 * p.val + j) d k * Real.exp (128 * lam (hh k)) + _
  refine congrArg _ (Finset.sum_congr rfl fun i _ => ?_)
  simp only [hh_hc, hd_hc]
  rfl

theorem step1 (j o : ℕ) (inb) (ho : o = 128 * (7 - j)) (hj : j < 8) : st1 m c p o inb (VF (after (rk X0) X1 (8 * p.val + j))) = VF (after (rk X0) X1 (8 * p.val + (j + 1))) := by
  have hp : p.val < 8 := lt_of_lt_of_eq p.isLt N_0
  have e : (Fin.rev (⟨(8 * p.val + j) % 64, Nat.mod_lt _ (by decide)⟩ : Fin 64)).val = 63 - (8 * p.val + j) := by
    rw [Fin.val_rev]; show 64 - ((8 * p.val + j) % 64 + 1) = _; omega
  rw [st1, rd1_real, rd3_real, rd6_real m c X0 X1 p h0 h1 (Fin.rev ⟨(8 * p.val + j) % 64, Nat.mod_lt _ (by decide)⟩) o inb (by rw [e]; omega),
    rd7_real m c X0 X1 p h0 h1 (Fin.rev ⟨(8 * p.val + j) % 64, Nat.mod_lt _ (by decide)⟩) o inb (by rw [e]; omega), stp_real]
  refine congrArg VF (funext fun d => funext fun k => ?_)
  show after (rk X0) X1 (8 * p.val + j) d k * Real.exp (128 * lamR (hh k)) + _ = after (rk X0) X1 (8 * p.val + j) d k * Real.exp (128 * lamR (hh k)) + _
  refine congrArg _ (Finset.sum_congr rfl fun i _ => ?_)
  simp only [hh_hc, hd_hc]
  rfl

/-- The states each point leaves to the next. -/
theorem left0 : ∀ (n : ℕ) (hn : n < cfg0.N), (outsAt0 m c n hn).2.2.1 = VF (before (rk X0) X1 (8 * n + 8)) := by
  intro n
  induction n with
  | zero => exact fun hn => atA_s0 (p := ⟨0, hn⟩) (fun j => before (rk X0) X1 (8 * 0 + j)) (fun j o inb ho => step0 h0 h1 ⟨0, hn⟩ j o inb ho) (Nat.zero_mod 8) rfl
  | succ n ih =>
    intro hn
    have hN : n + 1 < 8 := lt_of_lt_of_eq hn N_0
    exact atB_s0 (p := ⟨n + 1, hn⟩) (fun j => before (rk X0) X1 (8 * (n + 1) + j)) (fun j o inb ho => step0 h0 h1 ⟨n + 1, hn⟩ j o inb ho)
      (by show ¬(n + 1) % 8 = 0; omega) (ih _)
theorem left1 : ∀ (n : ℕ) (hn : n < cfg0.N), (outsAt0 m c n hn).2.2.2 = VF (after (rk X0) X1 (8 * n + 8)) := by
  intro n
  induction n with
  | zero => exact fun hn => atA_s1 (p := ⟨0, hn⟩) (fun j => after (rk X0) X1 (8 * 0 + j)) (fun j o inb ho hj => step1 h0 h1 ⟨0, hn⟩ j o inb ho hj) (Nat.zero_mod 8) rfl
  | succ n ih =>
    intro hn
    have hN : n + 1 < 8 := lt_of_lt_of_eq hn N_0
    exact atB_s1 (p := ⟨n + 1, hn⟩) (fun j => after (rk X0) X1 (8 * (n + 1) + j)) (fun j o inb ho hj => step1 h0 h1 ⟨n + 1, hn⟩ j o inb ho hj)
      (by show ¬(n + 1) % 8 = 0; omega) (ih _)

/-- What each point writes. -/
theorem out8 : (outsAt0 m c p.val p.isLt).1 = fun x => ((before (rk X0) X1 (8 * p.val + (x 0).val) (x 1) (x 2) : ℝ) : EReal) := by
  have hp : p.val < 8 := lt_of_lt_of_eq p.isLt N_0
  by_cases h : p.val % 8 = 0
  · have z : p.val = 0 := by omega
    exact atA_8 (p := p) (fun j => before (rk X0) X1 (8 * p.val + j)) (fun j o inb ho => step0 h0 h1 p j o inb ho) h (by rw [z]; rfl)
  · refine atB_8 (p := p) (fun j => before (rk X0) X1 (8 * p.val + j)) (fun j o inb ho => step0 h0 h1 p j o inb ho) h ?_
    rw [left0 h0 h1, show 8 * (p.val - 1) + 8 = 8 * p.val + 0 by omega]
theorem out9 : (outsAt0 m c p.val p.isLt).2.1 = fun x => ((after (rk X0) X1 (8 * p.val + (7 - (x 0).val)) (x 1) (x 2) : ℝ) : EReal) := by
  have hp : p.val < 8 := lt_of_lt_of_eq p.isLt N_0
  by_cases h : p.val % 8 = 0
  · have z : p.val = 0 := by omega
    exact atA_9 (p := p) (fun j => after (rk X0) X1 (8 * p.val + j)) (fun j o inb ho hj => step1 h0 h1 p j o inb ho hj) h (by rw [z]; rfl)
  · refine atB_9 (p := p) (fun j => after (rk X0) X1 (8 * p.val + j)) (fun j o inb ho hj => step1 h0 h1 p j o inb ho hj) h ?_
    rw [left1 h0 h1, show 8 * (p.val - 1) + 8 = 8 * p.val + 0 by omega]

/-- The two arrays after the whole grid: every block is some point's. -/
theorem final8 : (dats m 0 c).arrAt 8 cfg0.N = fun i : S64x128x512.Idx => ((before (rk X0) X1 (i 0).val (i 1) (i 2) : ℝ) : EReal) := by
  refine (dats m 0 c).arrAt_eq_of_covers 8 _ (by decide +kernel) fun p hf y => ?_
  have hp : p.val < 8 := lt_of_lt_of_eq p.isLt N_0
  have hy : (y 0).val < 8 := (y 0).isLt
  blk_simp
  refine (congrFun (out8 h0 h1 p) y).trans ?_
  refine Cert.RetCarryIdeal.Val.at3 (before (rk X0) X1) (a := y 1) (b := y 2) ?_ ?_ ?_ <;> blk_simp [idx p] <;> omega
theorem final9 : (dats m 0 c).arrAt 9 cfg0.N = fun i : S64x128x512.Idx => ((after (rk X0) X1 (63 - (i 0).val) (i 1) (i 2) : ℝ) : EReal) := by
  refine (dats m 0 c).arrAt_eq_of_covers 9 _ (by decide +kernel) fun p hf y => ?_
  have hp : p.val < 8 := lt_of_lt_of_eq p.isLt N_0
  have hy : (y 0).val < 8 := (y 0).isLt
  blk_simp
  refine (congrFun (out9 h0 h1 p) y).trans ?_
  refine Cert.RetCarryIdeal.Val.at3 (after (rk X0) X1) (a := y 1) (b := y 2) ?_ ?_ ?_ <;> blk_simp [idx p] <;> omega

end Cert.RetStateIdeal.Val
-- ==== Proof.RetState.lean ====
module

public import proofs.«01_k».proof.Defs
public import proofs.«01_k».proof.Proof.StateGrid
public import proofs.«01_k».proof.Proof.Gen.Pre_finite_retstate
public import Idealize.ShloMosaic.Lib.KernelVsHost
public import proofs.«01_k».proof.Proof.Gen.RetStateIdeal.Value
public import proofs.«01_k».proof.Proof.Gen.RetStateRefIdeal.Run

@[expose] public section

/-! # The retention's forward states: kernel and reference agree -/

set_option maxRecDepth 16384

noncomputable section

open Idealize.ShloMosaic Idealize.ShloMosaic.TcCoe Idealize.SL.Sem

namespace Cert.RetStateIdeal.Val

open Cert.Lift Cert.RetReal
open Cert.RetMainRefIdeal.Val (XA)

/-- Finite arguments are real arguments. -/
theorem pre_real (a0 a1 : FVec Ideal RetStateIdeal.S8192x512 .f32)
    (h : (Cert.Pre_finite_retstate.fn (F := Ideal) a0 a1).1 = (fun _ => 1#1) ∧ (Cert.Pre_finite_retstate.fn (F := Ideal) a0 a1).2 = (fun _ => 1#1)) :
    ∃ X0 X1, a0 = XA X0 ∧ a1 = XA X1 := by
  obtain ⟨h0, h1⟩ := h
  obtain ⟨X0, rfl⟩ := real_of_words a0 fun i => congrFun h0 i
  obtain ⟨X1, rfl⟩ := real_of_words a1 fun i => congrFun h1 i
  have e (f : RetStateIdeal.S8192x512.Idx → ℝ) : (fun i => ((f i : ℝ) : EReal)) = XA fun n k => f (ix2 n k) :=
    funext fun i => congrArg (fun j => ((f j : ℝ) : EReal)) (funext fun a => match a with | ⟨0, _⟩ => rfl | ⟨1, _⟩ => rfl)
  exact ⟨_, _, e X0, e X1⟩

variable (X0 X1 : Fin 8192 → Fin 512 → ℝ)

theorem before_array : (fun i : RetStateIdeal.S64x128x512.Idx => ((before (rk X0) X1 (i 0).val (i 1) (i 2) : ℝ) : EReal))
    = RetStateRefIdeal.Read.val_main_v124 (F := Ideal) (XA X0) (XA X1) := by
  rw [RetStateRefIdeal.Val.v124_real]
  funext i
  exact congrArg Real.toEReal (before_eq (rk X0) X1 (i 0) (i 1) (i 2))
theorem after_array : (fun i : RetStateIdeal.S64x128x512.Idx => ((after (rk X0) X1 (63 - (i 0).val) (i 1) (i 2) : ℝ) : EReal))
    = RetStateRefIdeal.Read.val_main_v128 (F := Ideal) (XA X0) (XA X1) := by
  rw [RetStateRefIdeal.Val.v128_real]
  funext i
  exact congrArg Real.toEReal (after_eq (rk X0) X1 (i 0) (i 1) (i 2))

set_option maxHeartbeats 2000000 in
theorem algebraic : Cert.algebraic_RetStateIdeal_RetStateRefIdeal_pre_finite_retstate := by
  pair_intro
  · exact Cert.RetStateIdeal.Value.run_blocks m g
  · choose X0 X1 h0 h1 using fun c => pre_real _ _ (hpre c)
    run_from Cert.RetStateRefIdeal.Value.run m' g'
    all_goals obtain ⟨a0, a1⟩ := hagree c
    · rw [final8 (h0 c) (h1 c), before_array, ← h0 c, ← h1 c, ← a0, ← a1]
      exact RetStateRefIdeal.Read.val_main_v124_eq m' c
    · rw [final9 (h0 c) (h1 c), after_array, ← h0 c, ← h1 c, ← a0, ← a1]
      exact RetStateRefIdeal.Read.val_main_v128_eq m' c

end Cert.RetStateIdeal.Val

end
-- ==== Proof.FfnOutKernel.lean ====
module

public import proofs.«01_k».proof.Proof.Gen.FfnOutIdeal.Value
public import proofs.«01_k».proof.Proof.Gen.FfnOutRefIdeal.Read
public import proofs.«01_k».proof.Proof.SwigluRef
public import Idealize.ShloMosaic.Lib.StableHlo.Run

@[expose] public section

/-! # The swiglu and the product that follows, as the reference and the kernel compute them -/

set_option maxRecDepth 16384

noncomputable section

open Idealize.ShloMosaic Idealize.ShloMosaic.TcCoe Idealize.SL.Sem
open Idealize.ShloMosaic.Pipeline (Dat)

namespace Cert.SwigluReal

/-- A row of the output: the row that is carried past, and the activation's product with the weights. -/
def ffo (f : Fin 5632 → ℝ) (w : Fin 2816 → Fin 1024 → ℝ) (y : Fin 1024 → ℝ) (d : Fin 1024) : ℝ := y d + ∑ k, act f k * w k d

end Cert.SwigluReal

namespace Cert.FfnOutRefIdeal.Val

open Cert.FfnOutRefIdeal Cert.FfnOutRefIdeal.Read Cert.Lift Cert.SwigluReal
open Cert.SwigluRefIdeal.Val (XF XW XY H)

variable (f : Fin 8192 → Fin 5632 → ℝ) (w : Fin 2816 → Fin 1024 → ℝ) (y : Fin 8192 → Fin 1024 → ℝ)

theorem v0_real : val_main_v0 (F := Ideal) (XF f) = H fun n k => f n (lo k) := SwigluRefIdeal.Val.v0_real f
theorem v1_real : val_main_v1 (F := Ideal) (XF f) = H fun n k => f n (hi k) := SwigluRefIdeal.Val.v1_real f

theorem v3_real : val_main_v3 (F := Ideal) (XF f) = H fun n k => act (f n) k := by
  funext i
  pointwise [val_main_v3, val_main_v2, val_main_call0_v5, val_main_call0_v4, val_main_call0_cst_0, val_main_call0_v3, val_main_call0_v2, val_main_call0_cst, val_main_call0_v1,
    val_main_call0_v0, v0_real, v1_real]
  simp only [one_coe, neg_coe, lgs_coe, mul_coe]
  rfl

theorem v5_real : val_main_v5 (F := Ideal) (XF f) (XW w) (XY y) = XY fun n => ffo (f n) w (y n) := by
  funext i
  pointwise [val_main_v5]
  rw [val_main_v4_apply]
  pointwise [v3_real]
  simp only [mul_coe, sum_coe, add_coe]
  rfl

end Cert.FfnOutRefIdeal.Val

namespace Cert.FfnOutIdeal.Val

open Cert.FfnOutIdeal Cert.FfnOutIdeal.Gen Cert.Lift Cert.SwigluReal
open Cert.SwigluRefIdeal.Val (XF XW XY)

section payloads

variable (f : Fin 512 → Fin 5632 → ℝ) (w : Fin 2816 → Fin 1024 → ℝ) (y : Fin 512 → Fin 1024 → ℝ)

/-- A block of rows of the two widths, and the weights. -/
abbrev BF : FVec Ideal S512x5632 .bf16 := fun i => ((f (i 0) (i 1) : ℝ) : EReal)
abbrev BY : FVec Ideal S512x1024 .f32 := fun i => ((y (i 0) (i 1) : ℝ) : EReal)
abbrev BW : FVec Ideal S2816x1024 .bf16 := fun i => ((w (i 0) (i 1) : ℝ) : EReal)

theorem pay1_real : k0_pay1 (F := Ideal) (BY y) (BF f) (BW w) = BY fun n => ffo (f n) w (y n) := by
  funext i
  pointwise [k0_pay1]
  simp only [zero_sub, one_coe, neg_coe, lgs_coe, mul_coe, sum_coe, add_coe]
  rfl

/-- What a point writes. -/
theorem out_real : out0_3 (F := Ideal) (BF f) (BW w) (BY y) = BY fun n => ffo (f n) w (y n) := by
  have hy : View.ld (Val := Elt Ideal) (e' := .f32) (S := S512x1024) (BY y) r0_0 = BY y := View.ld_unit_lit' _ _ (by decide)
  have hf : View.ld (Val := Elt Ideal) (e' := .bf16) (S := S512x5632) (BF f) r0_1 = BF f := View.ld_unit_lit' _ _ (by decide)
  have hw : View.ld (Val := Elt Ideal) (e' := .bf16) (S := S2816x1024) (BW w) r0_2 = BW w := View.ld_unit_lit' _ _ (by decide)
  rw [out0_3, hy, hf, hw, pay1_real]
  exact View.canon_unit_zero (funext fun d => by fin_cases d <;> rfl) _ _

end payloads

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The row of the array that a point's block has at `r`. -/
def row (t : Fin cfg0.N) (r : Fin 512) : Fin 8192 := ⟨t.val * 512 + r.val, by have h : t.val < 16 := lt_of_lt_of_eq t.isLt N_0; omega⟩

variable {m} {f : Fin 8192 → Fin 5632 → ℝ} {w : Fin 2816 → Fin 1024 → ℝ} {y : Fin 8192 → Fin 1024 → ℝ} {c : Dev nD}

theorem blk0 (hf : m ((c : Thread nD τ).loc main_arg0) = XF f) (p : Fin cfg0.N) : iblk m c 0 p = BF fun r => f (row p r) := by
  funext z
  blk_simp [iblk, idx p]
  entry_read
  rw [hf]
  pointwise
  refine congrArg Real.toEReal (congrArg₂ f (Fin.ext ?_) (Fin.ext ?_)) <;> blk_simp [idx p, row]

theorem blk1 (hw : m ((c : Thread nD τ).loc main_arg1) = XW w) (p : Fin cfg0.N) : iblk m c 1 p = BW w := by
  funext z
  blk_simp [iblk, idx p]
  entry_read
  rw [hw]
  pointwise
  refine congrArg Real.toEReal (congrArg₂ w (Fin.ext ?_) (Fin.ext ?_)) <;> blk_simp [idx p]

theorem blk2 (hy : m ((c : Thread nD τ).loc main_arg2) = XY y) (p : Fin cfg0.N) : iblk m c 2 p = BY fun r => y (row p r) := by
  funext z
  blk_simp [iblk, idx p]
  entry_read
  rw [hy]
  refine congrArg Real.toEReal (congrArg₂ y (Fin.ext ?_) (Fin.ext ?_)) <;> blk_simp [idx p, row]

/-- The output after the run. -/
theorem final3 (hf : m ((c : Thread nD τ).loc main_arg0) = XF f) (hw : m ((c : Thread nD τ).loc main_arg1) = XW w) (hy : m ((c : Thread nD τ).loc main_arg2) = XY y) :
    (dats m 0 c).arrAt 3 (cfgs 0).N = XY fun n => ffo (f n) w (y n) := by
  refine (dats m 0 c).arrAt_eq_of_covers 3 _ (by decide +kernel) fun p _ z => ?_
  blk_simp
  rw [after0_3, blk0 hf p, blk1 hw p, blk2 hy p, out_real]
  have e0 : row p (z 0) = ((cfg0.win 3).blk p).view.emb z 0 := Fin.ext (by blk_simp [idx p, row])
  have e1 : z 1 = ((cfg0.win 3).blk p).view.emb z 1 := Fin.ext (by blk_simp [idx p])
  exact congrArg Real.toEReal (congrArg₂ (fun r k => ffo (f r) w (y r) k) e0 e1)

end Cert.FfnOutIdeal.Val

end
-- ==== Proof.FfnOut.lean ====
module

public import proofs.«01_k».proof.Defs
public import proofs.«01_k».proof.Proof.FfnOutKernel
public import proofs.«01_k».proof.Proof.Swiglu
public import proofs.«01_k».proof.Proof.Gen.Pre_finite_ffnout
public import Idealize.ShloMosaic.Lib.KernelVsHost
public import proofs.«01_k».proof.Proof.Gen.FfnOutRefIdeal.Run

@[expose] public section

/-! # The swiglu and the product that follows: kernel and reference agree -/

set_option maxRecDepth 16384

noncomputable section

open Idealize.ShloMosaic Idealize.ShloMosaic.TcCoe Idealize.SL.Sem

namespace Cert.FfnOutIdeal.Val

open Cert.Lift
open Cert.SwigluRefIdeal.Val (XF XW XY)

theorem pre_real (a0 : FVec Ideal FfnOutIdeal.S8192x5632 .f32) (a1 : FVec Ideal FfnOutIdeal.S2816x1024 .f32) (a2 : FVec Ideal FfnOutIdeal.S8192x1024 .f32)
    (h : (Cert.Pre_finite_ffnout.fn (F := Ideal) a0 a1 a2).1 = (fun _ => 1#1) ∧ (Cert.Pre_finite_ffnout.fn (F := Ideal) a0 a1 a2).2.1 = (fun _ => 1#1)
      ∧ (Cert.Pre_finite_ffnout.fn (F := Ideal) a0 a1 a2).2.2 = (fun _ => 1#1)) :
    ∃ f w y, a0 = XF f ∧ a1 = XW w ∧ a2 = XY y :=
  SwigluIdeal.Val.real_args a0 a1 a2 (fun i => congrFun h.1 i) (fun i => congrFun h.2.1 i) (fun i => congrFun h.2.2 i)

theorem algebraic : Cert.algebraic_FfnOutIdeal_FfnOutRefIdeal_pre_finite_ffnout := by
  pair_intro
  · exact Cert.FfnOutIdeal.Value.run_blocks m g
  · choose f w y h0 h1 h2 using fun c => pre_real _ _ _ (hpre c)
    run_from Cert.FfnOutRefIdeal.Value.run m' g'
    obtain ⟨a0, a1, a2⟩ := hagree c
    rw [final3 (h0 c) (h1 c) (h2 c), ← FfnOutRefIdeal.Val.v5_real, ← h0 c, ← h1 c, ← h2 c, ← a0, ← a1, ← a2]
    exact FfnOutRefIdeal.Read.val_main_v5_eq _ _ _

end Cert.FfnOutIdeal.Val

end
-- ==== Proof.FfnNormKernel.lean ====
module

public import proofs.«01_k».proof.Proof.Gen.FfnNormIdeal.Value
public import proofs.«01_k».proof.Proof.Gen.FfnNormRefIdeal.Read
public import proofs.«01_k».proof.Proof.NormRef
public import Idealize.ShloMosaic.Lib.Pipeline.ValueKit
public import Idealize.ShloMosaic.Lib.StableHlo.Run

@[expose] public section

/-! # The feed-forward layer's rmsnorm and the product that follows, as the reference and the kernel compute them -/

set_option maxRecDepth 16384

noncomputable section

open Idealize.ShloMosaic Idealize.ShloMosaic.TcCoe Idealize.SL.Sem
open Idealize.ShloMosaic.Pipeline (Dat)

namespace Cert.NormReal

open Cert.LossReal

/-- A row normed and scaled, and its product with the weights. -/
def nrm (v g : Fin 1024 → ℝ) (k : Fin 1024) : ℝ := v k * rinv v * g k
def nmm {n : ℕ} (v g : Fin 1024 → ℝ) (w : Fin 1024 → Fin n → ℝ) (j : Fin n) : ℝ := ∑ k, nrm v g k * w k j

end Cert.NormReal

namespace Cert.FfnNormRefIdeal.Val

open Cert.FfnNormRefIdeal Cert.FfnNormRefIdeal.Read Cert.Lift Cert.LossReal Cert.NormReal
open Cert.FfnInRefIdeal.Val (XX XG XW XD C)

variable (x : Fin 8192 → Fin 1024 → ℝ) (g : Fin 1024 → ℝ) (w : Fin 1024 → Fin 5632 → ℝ)

theorem v7_real : val_main_v7 (F := Ideal) (XX x) = C fun n => rinv (x n) := FfnInRefIdeal.Val.v7_real x

theorem v11_real : val_main_v11 (F := Ideal) (XX x) (XG g) = XX fun n => nrm (x n) g := by
  funext i
  pointwise [val_main_v11, val_main_v10, val_main_v9, val_main_v8, v7_real]
  simp only [mul_coe]
  rfl

theorem v13_real : val_main_v13 (F := Ideal) (XX x) (XG g) (XW w) = fun i => ((nmm (x (i 0)) g w (i 1) : ℝ) : EReal) := by
  funext i
  pointwise [val_main_v13]
  rw [val_main_v12_apply]
  pointwise [v11_real]
  simp only [mul_coe, sum_coe]
  rfl

theorem v15_real : val_main_v15 (F := Ideal) (XX x) (XG g) = fun i => ((nrm (x (i 1)) g (i 0) : ℝ) : EReal) := by
  funext i
  pointwise [val_main_v15, val_main_v14, v11_real]
  rfl

end Cert.FfnNormRefIdeal.Val

namespace Cert.FfnNormIdeal.Val

open Cert.FfnNormIdeal Cert.FfnNormIdeal.Gen Cert.Lift Cert.LossReal Cert.NormReal
open Cert.FfnInRefIdeal.Val (XX XG XW)

section payloads

variable (v : Fin 512 → Fin 1024 → ℝ) (g : Fin 1024 → ℝ) (w : Fin 1024 → Fin 5632 → ℝ)

/-- A block of rows, the gain, the weights in four shards, and the columns of one of them. -/
abbrev B (v : Fin 512 → Fin 1024 → ℝ) : FVec Ideal S512x1024 .f32 := fun i => ((v (i 0) (i 1) : ℝ) : EReal)
abbrev BH (v : Fin 512 → Fin 1024 → ℝ) : FVec Ideal S512x1024 .bf16 := fun i => ((v (i 0) (i 1) : ℝ) : EReal)
abbrev R : FVec Ideal S1x1024 .f32 := fun i => ((g (i 1) : ℝ) : EReal)
abbrev BW : FVec Ideal S4x1024x1408 .bf16 := fun i => ((w (i 1) (at_ 5632 ((i 0).val * 1408 + (i 2).val)) : ℝ) : EReal)
abbrev PW (o : ℕ) : FVec Ideal S1x1024x1408 .bf16 := fun i => ((w (i 1) (at_ 5632 (o + (i 2).val)) : ℝ) : EReal)
abbrev PO (o : ℕ) : FVec Ideal S512x1408 .bf16 := fun i => ((nmm (v (i 0)) g w (at_ 5632 (o + (i 1).val)) : ℝ) : EReal)

theorem ldW (s : ℕ) (h) : View.ld (Val := Elt Ideal) (e' := .bf16) (S := S4x1024x1408) (BW w) (Rect.unit ![s, 0, 0] ![1, 1024, 1408] h) = PW w (s * 1408) := by
  funext i
  have h0 : (i 0).val = 0 := Nat.lt_one_iff.mp (i 0).isLt
  refine congrArg Real.toEReal (congrArg₂ w (Fin.ext ?_) (congrArg (at_ 5632) ?_)) <;> pointwise

theorem pay3_real : k0_pay3 (F := Ideal) (B v) (R g) = B fun n => nrm (v n) g := by
  funext i
  pointwise [k0_pay3]
  simp (disch := norm_num) only [bits_1024, bits_eps, mul_coe, sum_coe, div_coe, add_coe]
  refine (congrArg (fun z => B v i * z * R g (ix2 0 (i 1))) (rsqrt_coe _ (ms_pos (v (i 0))))).trans ?_
  simp only [B, R, mul_coe]
  rfl

theorem pay4_real : k0_pay4 (F := Ideal) (B v) (R g) = BH fun n => nrm (v n) g := by
  funext i
  pointwise [k0_pay4, pay3_real]

theorem pay1_real (o : ℕ) : k0_pay1 (F := Ideal) (BH fun n => nrm (v n) g) (PW w o) = PO v g w o := by
  funext i
  pointwise [k0_pay1]
  simp only [mul_coe, sum_coe]
  rfl

theorem pay5_real (o : ℕ) : k0_pay5 (F := Ideal) (B v) (R g) (PW w o) = PO v g w o := by
  refine Eq.trans ?_ (pay1_real v g w o)
  rw [← pay4_real]
  rfl
theorem pay6_real (o : ℕ) : k0_pay6 (F := Ideal) (B v) (R g) (PW w o) = PO v g w o := pay5_real v g w o
theorem pay7_real (o : ℕ) : k0_pay7 (F := Ideal) (B v) (R g) (PW w o) = PO v g w o := pay5_real v g w o

theorem ld_v : View.ld (Val := Elt Ideal) (e' := .f32) (S := S512x1024) (B v) r0_0 = B v := View.ld_unit_lit' _ _ (by decide)
theorem ld_g : View.ld (Val := Elt Ideal) (e' := .f32) (S := S1x1024) (R g) r0_1 = R g := View.ld_unit_lit' _ _ (by decide)

theorem at_o (o : ℕ) {n n' : Fin 512} {k : Fin 1408} {j : Fin 5632} (e : n'.val = n.val) (e' : j.val = o + k.val) :
    ((nmm (v n) g w (at_ 5632 (o + k.val)) : ℝ) : EReal) = ((nmm (v n') g w j : ℝ) : EReal) := by
  obtain rfl := Fin.ext e
  rw [← e', at_val]

/-- What a point writes. -/
theorem out3_real : out0_3 (F := Ideal) (B v) (R g) (BW w) = fun i => ((nmm (v (i 0)) g w (i 1) : ℝ) : EReal) := by
  funext x
  rw [out0_3, ld_v, ld_g, pay4_real]
  unfold r0_2 r0_3 r0_4 r0_5 r0_6 r0_7 r0_8 r0_9
  rw [ldW, ldW, ldW, ldW, pay1_real, pay5_real, pay6_real, pay7_real]
  canon_tiles x
  case piece0 => exact at_o v g w 4224 h0 h1
  case piece1 => exact at_o v g w 2816 h0 h1
  case piece2 => exact at_o v g w 1408 h0 h1
  case piece3 => exact at_o v g w 0 h0 (h1.trans (Nat.zero_add _).symm)

theorem out4_real : out0_4 (F := Ideal) (B v) (R g) (BW w) = fun i => ((nrm (v (i 1)) g (i 0) : ℝ) : EReal) := by
  rw [out0_4, ld_v, ld_g, pay3_real]
  refine (View.canon_unit_zero (funext fun d => by fin_cases d <;> rfl) _ _).trans ?_
  funext i
  pointwise [k0_pay2]
  rfl

end payloads

variable (m : (ℓ : Loc nD τ sig) → Buf (Elt Ideal) ℓ)

theorem idx : ∀ t : Fin cfg0.N, win0_0.index t = ![t.val, 0] ∧ win0_1.index t = ![0, 0] ∧ win0_2.index t = ![0, 0, 0] ∧ win0_3.index t = ![t.val, 0]
    ∧ win0_4.index t = ![0, t.val] :=
  (by decide +kernel : ∀ t : Fin grid0.N, _)

/-- The row of the array that a point's block has at `r`. -/
def row (t : Fin cfg0.N) (r : Fin 512) : Fin 8192 := ⟨t.val * 512 + r.val, by have h : t.val < 16 := lt_of_lt_of_eq t.isLt N_0; omega⟩

variable {m} {x : Fin 8192 → Fin 1024 → ℝ} {g : Fin 1024 → ℝ} {w : Fin 1024 → Fin 5632 → ℝ} {c : Dev nD}

theorem blk0 (hx : m ((c : Thread nD τ).loc main_arg0) = XX x) (p : Fin cfg0.N) : iblk m c 0 p = B fun r => x (row p r) := by
  funext y
  blk_simp [iblk, idx p]
  entry_read
  rw [hx]
  refine congrArg Real.toEReal (congrArg₂ x (Fin.ext ?_) (Fin.ext ?_)) <;> blk_simp [idx p, row]

theorem blk1 (hg : m ((c : Thread nD τ).loc main_arg1) = XG g) (p : Fin cfg0.N) : iblk m c 1 p = R g := by
  funext y
  blk_simp [iblk, idx p]
  entry_read
  rw [hg]
  refine congrArg Real.toEReal (congrArg g (Fin.ext ?_)) <;> blk_simp [idx p]

theorem blk2 (hw : m ((c : Thread nD τ).loc main_arg2) = XW w) (p : Fin cfg0.N) : iblk m c 2 p = BW w := by
  funext y
  blk_simp [iblk, idx p]
  entry_read
  rw [hw]
  pointwise
  refine congrArg Real.toEReal (congrArg₂ w (Fin.ext ?_) (Fin.ext ?_)) <;> blk_simp [idx p, row, at_]
  exact (Nat.mod_eq_of_lt (by have h0 : (y 0).val < 4 := (y 0).isLt; have h2 : (y 2).val < 1408 := (y 2).isLt; omega)).symm

section final

variable (hx : m ((c : Thread nD τ).loc main_arg0) = XX x) (hg : m ((c : Thread nD τ).loc main_arg1) = XG g) (hw : m ((c : Thread nD τ).loc main_arg2) = XW w)

include hx hg hw

/-- The product after the run. -/
theorem final3 : (dats m 0 c).arrAt 3 (cfgs 0).N = fun i : S8192x5632.Idx => ((nmm (x (i 0)) g w (i 1) : ℝ) : EReal) := by
  refine (dats m 0 c).arrAt_eq_of_covers 3 _ (by decide +kernel) fun p _ z => ?_
  blk_simp
  rw [after0_3, blk0 hx p, blk1 hg p, blk2 hw p, out3_real]
  have e0 : row p (z 0) = ((cfg0.win 3).blk p).view.emb z 0 := Fin.ext (by blk_simp [idx p, row])
  have e1 : z 1 = ((cfg0.win 3).blk p).view.emb z 1 := Fin.ext (by blk_simp [idx p])
  exact congrArg Real.toEReal (congrArg₂ (fun r k => nmm (x r) g w k) e0 e1)

/-- The normed rows, turned, after the run. -/
theorem final4 : (dats m 0 c).arrAt 4 (cfgs 0).N = fun i : S1024x8192.Idx => ((nrm (x (i 1)) g (i 0) : ℝ) : EReal) := by
  refine (dats m 0 c).arrAt_eq_of_covers 4 _ (by decide +kernel) fun p _ z => ?_
  blk_simp
  rw [after0_4, blk0 hx p, blk1 hg p, blk2 hw p, out4_real]
  have e0 : row p (z 1) = ((cfg0.win 4).blk p).view.emb z 1 := Fin.ext (by blk_simp [idx p, row])
  have e1 : z 0 = ((cfg0.win 4).blk p).view.emb z 0 := Fin.ext (by blk_simp [idx p])
  exact congrArg Real.toEReal (congrArg₂ (fun r k => nrm (x r) g k) e0 e1)

end final

end Cert.FfnNormIdeal.Val

end
-- ==== Proof.FfnNorm.lean ====
module

public import proofs.«01_k».proof.Defs
public import proofs.«01_k».proof.Proof.FfnNormKernel
public import proofs.«01_k».proof.Proof.FfnIn
public import proofs.«01_k».proof.Proof.Gen.Pre_finite_ffnnorm
public import Idealize.ShloMosaic.Lib.KernelVsHost
public import proofs.«01_k».proof.Proof.Gen.FfnNormRefIdeal.Run

@[expose] public section

/-! # The feed-forward layer's rmsnorm and the product that follows: kernel and reference agree -/

set_option maxRecDepth 16384

noncomputable section

open Idealize.ShloMosaic Idealize.ShloMosaic.TcCoe Idealize.SL.Sem

namespace Cert.FfnNormIdeal.Val

open Cert.Lift
open Cert.FfnInRefIdeal.Val (XX XG XW)

theorem pre_real (a0 : FVec Ideal FfnNormIdeal.S8192x1024 .f32) (a1 : FVec Ideal FfnNormIdeal.S1x1024 .f32) (a2 : FVec Ideal FfnNormIdeal.S1024x5632 .f32)
    (h : (Cert.Pre_finite_ffnnorm.fn (F := Ideal) a0 a1 a2).1 = (fun _ => 1#1) ∧ (Cert.Pre_finite_ffnnorm.fn (F := Ideal) a0 a1 a2).2.1 = (fun _ => 1#1)
      ∧ (Cert.Pre_finite_ffnnorm.fn (F := Ideal) a0 a1 a2).2.2 = (fun _ => 1#1)) :
    ∃ x g w, a0 = XX x ∧ a1 = XG g ∧ a2 = XW w := by
  obtain ⟨x, hx⟩ := FfnInIdeal.Val.real_matrix a0 fun i => congrFun h.1 i
  obtain ⟨g, hg⟩ := FfnInIdeal.Val.real_row a1 fun i => congrFun h.2.1 i
  obtain ⟨w, hw⟩ := FfnInIdeal.Val.real_matrix a2 fun i => congrFun h.2.2 i
  exact ⟨x, g, w, hx, hg, hw⟩

theorem algebraic : Cert.algebraic_FfnNormIdeal_FfnNormRefIdeal_pre_finite_ffnnorm := by
  pair_intro
  · exact Cert.FfnNormIdeal.Value.run_blocks m g
  · choose x γ w h0 h1 h2 using fun c => pre_real _ _ _ (hpre c)
    run_from Cert.FfnNormRefIdeal.Value.run m' g'
    all_goals obtain ⟨a0, a1, a2⟩ := hagree c
    · rw [final3 (h0 c) (h1 c) (h2 c), ← FfnNormRefIdeal.Val.v13_real, ← h0 c, ← h1 c, ← h2 c, ← a0, ← a1, ← a2]
      exact FfnNormRefIdeal.Read.val_main_v13_eq _ _ _
    · rw [final4 (h0 c) (h1 c) (h2 c), ← FfnNormRefIdeal.Val.v15_real, ← h0 c, ← h1 c, ← a0, ← a1]
      exact FfnNormRefIdeal.Read.val_main_v15_eq _ _

end Cert.FfnNormIdeal.Val

end
-- ==== Proof.OutFwdKernel.lean ====
module

public import proofs.«01_k».proof.Proof.Gen.OutFwdIdeal.Value
public import proofs.«01_k».proof.Proof.Gen.OutFwdRefIdeal.Read
public import proofs.«01_k».proof.Proof.OutRef
public import Idealize.ShloMosaic.Lib.StableHlo.Run

@[expose] public section

/-! # The mixers' output projection, as the reference and the kernel compute it -/

set_option maxRecDepth 16384

noncomputable section

open Idealize.ShloMosaic Idealize.ShloMosaic.TcCoe Idealize.SL.Sem
open Idealize.ShloMosaic.Pipeline (Dat)

namespace Cert.OutReal

/-- The retention's columns. -/
def mid (j : Fin 512) : Fin 1024 := ⟨256 + j.val, by omega⟩

/-- A row of the three mixers side by side. -/
def cat (a : Fin 256 → ℝ) (b : Fin 512 → ℝ) (c : Fin 256 → ℝ) (k : Fin 1024) : ℝ :=
  if h : k.val < 256 then a ⟨k.val, h⟩ else if h' : k.val - 256 < 512 then b ⟨k.val - 256, h'⟩ else c ⟨k.val - 256 - 512, by omega⟩

variable (a : Fin 256 → ℝ) (b : Fin 512 → ℝ) (c : Fin 256 → ℝ)

theorem cat_of_lt {k : Fin 1024} (h : k.val < 256) : cat a b c k = a ⟨k.val, h⟩ := dif_pos h
theorem cat_of_mid {k : Fin 1024} (h : ¬k.val < 256) (h' : k.val - 256 < 512) : cat a b c k = b ⟨k.val - 256, h'⟩ := (dif_neg h).trans (dif_pos h')
theorem cat_of_ge {k : Fin 1024} (h : ¬k.val < 256) (h' : ¬k.val - 256 < 512) : cat a b c k = c ⟨k.val - 256 - 512, by omega⟩ := (dif_neg h).trans (dif_neg h')

theorem cat_lft (k : Fin 256) : cat a b c (lft k) = a k := dif_pos k.isLt
theorem cat_mid (k : Fin 512) : cat a b c (mid k) = b k := by
  have e : (mid k).val - 256 = k.val := by simp only [mid]; omega
  refine (dif_neg (by simp only [mid]; omega)).trans ((dif_pos (by omega)).trans (congrArg b (Fin.ext e)))
theorem cat_rgt (k : Fin 256) : cat a b c (rgt k) = c k := by
  have e : (rgt k).val - 256 - 512 = k.val := by simp only [rgt]; omega
  have h := k.isLt
  refine (dif_neg (by simp only [rgt]; omega)).trans ((dif_neg (by simp only [rgt]; omega)).trans (congrArg c (Fin.ext e)))

theorem sum_cols (f : Fin 1024 → ℝ) : ∑ k, f k = ∑ k, f (lft k) + ∑ k, f (mid k) + ∑ k, f (rgt k) :=
  (Fin.sum_univ_add (a := 768) (b := 256) f).trans (congrArg (· + _) (Fin.sum_univ_add (a := 256) (b := 512) _))

/-- A row of the output: the row that is carried past, and the three mixers' products with their rows of the weights. -/
def pmr (w : Fin 1024 → Fin 1024 → ℝ) (y : Fin 1024 → ℝ) (d : Fin 1024) : ℝ :=
  y d + ∑ k, a k * w (lft k) d + ∑ k, b k * w (mid k) d + ∑ k, c k * w (rgt k) d

theorem pmr_eq (w : Fin 1024 → Fin 1024 → ℝ) (y : Fin 1024 → ℝ) (d : Fin 1024) : y d + ∑ k, cat a b c k * w k d = pmr a b c w y d := by
  rw [sum_cols, pmr, ← add_assoc, ← add_assoc]
  simp only [cat_lft, cat_mid, cat_rgt]

end Cert.OutReal

namespace Cert.OutFwdRefIdeal.Val

open Cert.OutFwdRefIdeal Cert.OutFwdRefIdeal.Read Cert.Lift Cert.OutReal

variable (a : Fin 8192 → Fin 256 → ℝ) (b : Fin 8192 → Fin 512 → ℝ) (e : Fin 8192 → Fin 256 → ℝ) (w : Fin 1024 → Fin 1024 → ℝ) (y : Fin 8192 → Fin 1024 → ℝ)

/-- The arguments' types at real entries. -/
abbrev XA : FVec Ideal S8192x256 .f32 := fun i => ((a (i 0) (i 1) : ℝ) : EReal)
abbrev XB : FVec Ideal S8192x512 .f32 := fun i => ((b (i 0) (i 1) : ℝ) : EReal)
abbrev XW : FVec Ideal S1024x1024 .f32 := fun i => ((w (i 0) (i 1) : ℝ) : EReal)
abbrev XY : FVec Ideal S8192x1024 .f32 := fun i => ((y (i 0) (i 1) : ℝ) : EReal)

theorem v0_real : val_main_v0 (F := Ideal) (XA a) (XB b) (XA e) = XY fun n => cat (a n) (b n) (e n) := by
  funext i
  pointwise [val_main_v0]
  by_cases h : (i 1).val < 256
  · rw [dif_pos h]
    exact congrArg Real.toEReal (cat_of_lt (a (i 0)) (b (i 0)) (e (i 0)) h).symm
  by_cases h' : (i 1).val - 256 < 512
  · rw [dif_neg h, dif_pos h']
    exact congrArg Real.toEReal (cat_of_mid (a (i 0)) (b (i 0)) (e (i 0)) h h').symm
  · rw [dif_neg h, dif_neg h']
    exact congrArg Real.toEReal (cat_of_ge (a (i 0)) (b (i 0)) (e (i 0)) h h').symm

theorem v2_real : val_main_v2 (F := Ideal) (XA a) (XB b) (XA e) (XW w) (XY y) = XY fun n => pmr (a n) (b n) (e n) w (y n) := by
  funext i
  pointwise [val_main_v2]
  rw [val_main_v1_apply]
  pointwise [v0_real]
  simp only [mul_coe, sum_coe, add_coe]
  exact congrArg Real.toEReal (pmr_eq _ _ _ _ _ _)

end Cert.OutFwdRefIdeal.Val

namespace Cert.OutFwdIdeal.Val

open Cert.OutFwdIdeal Cert.OutFwdIdeal.Gen Cert.Lift Cert.OutReal
open Cert.OutFwdRefIdeal.Val (XA XB XW XY)

section payloads

variable (a : Fin 512 → Fin 256 → ℝ) (b : Fin 512 → Fin 512 → ℝ) (e : Fin 512 → Fin 256 → ℝ) (w : Fin 1024 → Fin 1024 → ℝ) (y : Fin 512 → Fin 1024 → ℝ)

/-- A block of rows of the three widths and of the whole, and the weights with their rows' three parts. -/
abbrev BA : FVec Ideal S512x256 .bf16 := fun i => ((a (i 0) (i 1) : ℝ) : EReal)
abbrev BB : FVec Ideal S512x512 .bf16 := fun i => ((b (i 0) (i 1) : ℝ) : EReal)
abbrev BY : FVec Ideal S512x1024 .f32 := fun i => ((y (i 0) (i 1) : ℝ) : EReal)
abbrev BW : FVec Ideal S1024x1024 .bf16 := fun i => ((w (i 0) (i 1) : ℝ) : EReal)
abbrev WL : FVec Ideal S256x1024 .bf16 := fun i => ((w (lft (i 0)) (i 1) : ℝ) : EReal)
abbrev WM : FVec Ideal S512x1024 .bf16 := fun i => ((w (mid (i 0)) (i 1) : ℝ) : EReal)
abbrev WR : FVec Ideal S256x1024 .bf16 := fun i => ((w (rgt (i 0)) (i 1) : ℝ) : EReal)

theorem pay1_real : k0_pay1 (F := Ideal) (BY y) (BA a) (WL w) (BB b) (WM w) (BA e) (WR w) = BY fun n => pmr (a n) (b n) (e n) w (y n) := by
  funext i
  pointwise [k0_pay1]
  simp only [mul_coe, sum_coe, add_coe]
  rfl

theorem ldL : View.ld (Val := Elt Ideal) (e' := .bf16) (S := S1024x1024) (BW w) r0_2 = WL w := by
  funext i
  refine congrArg Real.toEReal (congrArg₂ w (Fin.ext ?_) (Fin.ext ?_)) <;> pointwise [lft]
theorem ldM : View.ld (Val := Elt Ideal) (e' := .bf16) (S := S1024x1024) (BW w) r0_4 = WM w := by
  funext i
  refine congrArg Real.toEReal (congrArg₂ w (Fin.ext ?_) (Fin.ext ?_)) <;> pointwise [mid]
theorem ldR : View.ld (Val := Elt Ideal) (e' := .bf16) (S := S1024x1024) (BW w) r0_5 = WR w := by
  funext i
  refine congrArg Real.toEReal (congrArg₂ w (Fin.ext ?_) (Fin.ext ?_)) <;> pointwise [rgt]

/-- What a point writes. -/
theorem out_real : out0_5 (F := Ideal) (BA a) (BB b) (BA e) (BW w) (BY y) = BY fun n => pmr (a n) (b n) (e n) w (y n) := by
  have hy : View.ld (Val := Elt Ideal) (e' := .f32) (S := S512x1024) (BY y) r0_0 = BY y := View.ld_unit_lit' _ _ (by decide)
  have ha (a) : View.ld (Val := Elt Ideal) (e' := .bf16) (S := S512x256) (BA a) r0_1 = BA a := View.ld_unit_lit' _ _ (by decide)
  have hb : View.ld (Val := Elt Ideal) (e' := .bf16) (S := S512x512) (BB b) r0_3 = BB b := View.ld_unit_lit' _ _ (by decide)
  rw [out0_5, hy, ha, ha, hb, ldL, ldM, ldR, pay1_real]
  exact View.canon_unit_zero (funext fun d => by fin_cases d <;> rfl) _ _

end payloads

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] :=
  (by decide +kernel : ∀ t : Fin grid0.N, _)

/-- The row of the array that a point's block has at `r`. -/
def row (t : Fin cfg0.N) (r : Fin 512) : Fin 8192 := ⟨t.val * 512 + r.val, by have h : t.val < 16 := lt_of_lt_of_eq t.isLt N_0; omega⟩

variable {m} {a : Fin 8192 → Fin 256 → ℝ} {b : Fin 8192 → Fin 512 → ℝ} {e : Fin 8192 → Fin 256 → ℝ} {w : Fin 1024 → Fin 1024 → ℝ} {y : Fin 8192 → Fin 1024 → ℝ} {c : Dev nD}

theorem blk0 (h : m ((c : Thread nD τ).loc main_arg0) = XA a) (p : Fin cfg0.N) : iblk m c 0 p = BA fun r => a (row p r) := by
  funext z
  blk_simp [iblk, idx p]
  entry_read
  rw [h]
  pointwise
  refine congrArg Real.toEReal (congrArg₂ a (Fin.ext ?_) (Fin.ext ?_)) <;> blk_simp [idx p, row]

theorem blk1 (h : m ((c : Thread nD τ).loc main_arg1) = XB b) (p : Fin cfg0.N) : iblk m c 1 p = BB fun r => b (row p r) := by
  funext z
  blk_simp [iblk, idx p]
  entry_read
  rw [h]
  pointwise
  refine congrArg Real.toEReal (congrArg₂ b (Fin.ext ?_) (Fin.ext ?_)) <;> blk_simp [idx p, row]

theorem blk2 (h : m ((c : Thread nD τ).loc main_arg2) = XA e) (p : Fin cfg0.N) : iblk m c 2 p = BA fun r => e (row p r) := by
  funext z
  blk_simp [iblk, idx p]
  entry_read
  rw [h]
  pointwise
  refine congrArg Real.toEReal (congrArg₂ e (Fin.ext ?_) (Fin.ext ?_)) <;> blk_simp [idx p, row]

theorem blk3 (h : m ((c : Thread nD τ).loc main_arg3) = XW w) (p : Fin cfg0.N) : iblk m c 3 p = BW w := by
  funext z
  blk_simp [iblk, idx p]
  entry_read
  rw [h]
  pointwise
  refine congrArg Real.toEReal (congrArg₂ w (Fin.ext ?_) (Fin.ext ?_)) <;> blk_simp [idx p]

theorem blk4 (h : m ((c : Thread nD τ).loc main_arg4) = XY y) (p : Fin cfg0.N) : iblk m c 4 p = BY fun r => y (row p r) := by
  funext z
  blk_simp [iblk, idx p]
  entry_read
  rw [h]
  refine congrArg Real.toEReal (congrArg₂ y (Fin.ext ?_) (Fin.ext ?_)) <;> blk_simp [idx p, row]

/-- The output after the run. -/
theorem final5 (h0 : m ((c : Thread nD τ).loc main_arg0) = XA a) (h1 : m ((c : Thread nD τ).loc main_arg1) = XB b) (h2 : m ((c : Thread nD τ).loc main_arg2) = XA e)
    (h3 : m ((c : Thread nD τ).loc main_arg3) = XW w) (h4 : m ((c : Thread nD τ).loc main_arg4) = XY y) :
    (dats m 0 c).arrAt 5 (cfgs 0).N = XY fun n => pmr (a n) (b n) (e n) w (y n) := by
  refine (dats m 0 c).arrAt_eq_of_covers 5 _ (by decide +kernel) fun p _ z => ?_
  blk_simp
  rw [after0_5, blk0 h0 p, blk1 h1 p, blk2 h2 p, blk3 h3 p, blk4 h4 p, out_real]
  have e0 : row p (z 0) = ((cfg0.win 5).blk p).view.emb z 0 := Fin.ext (by blk_simp [idx p, row])
  have e1 : z 1 = ((cfg0.win 5).blk p).view.emb z 1 := Fin.ext (by blk_simp [idx p])
  exact congrArg Real.toEReal (congrArg₂ (fun r k => pmr (a r) (b r) (e r) w (y r) k) e0 e1)

end Cert.OutFwdIdeal.Val

end
-- ==== Proof.OutFwd.lean ====
module

public import proofs.«01_k».proof.Defs
public import proofs.«01_k».proof.Proof.OutFwdKernel
public import proofs.«01_k».proof.Proof.FfnIn
public import proofs.«01_k».proof.Proof.Gen.Pre_finite_outfwd
public import Idealize.ShloMosaic.Lib.KernelVsHost
public import proofs.«01_k».proof.Proof.Gen.OutFwdRefIdeal.Run

@[expose] public section

/-! # The mixers' output projection: kernel and reference agree -/

set_option maxRecDepth 16384

noncomputable section

open Idealize.ShloMosaic Idealize.ShloMosaic.TcCoe Idealize.SL.Sem

namespace Cert.OutFwdIdeal.Val

open Cert.Lift
open Cert.OutFwdRefIdeal.Val (XA XB XW XY)

theorem pre_real (a0 : FVec Ideal OutFwdIdeal.S8192x256 .f32) (a1 : FVec Ideal OutFwdIdeal.S8192x512 .f32) (a2 : FVec Ideal OutFwdIdeal.S8192x256 .f32)
    (a3 : FVec Ideal OutFwdIdeal.S1024x1024 .f32) (a4 : FVec Ideal OutFwdIdeal.S8192x1024 .f32)
    (h : (Cert.Pre_finite_outfwd.fn (F := Ideal) a0 a1 a2 a3 a4).1 = (fun _ => 1#1) ∧ (Cert.Pre_finite_outfwd.fn (F := Ideal) a0 a1 a2 a3 a4).2.1 = (fun _ => 1#1)
      ∧ (Cert.Pre_finite_outfwd.fn (F := Ideal) a0 a1 a2 a3 a4).2.2.1 = (fun _ => 1#1) ∧ (Cert.Pre_finite_outfwd.fn (F := Ideal) a0 a1 a2 a3 a4).2.2.2.1 = (fun _ => 1#1)
      ∧ (Cert.Pre_finite_outfwd.fn (F := Ideal) a0 a1 a2 a3 a4).2.2.2.2 = (fun _ => 1#1)) :
    ∃ a b e w y, a0 = XA a ∧ a1 = XB b ∧ a2 = XA e ∧ a3 = XW w ∧ a4 = XY y := by
  obtain ⟨a, ha⟩ := FfnInIdeal.Val.real_matrix a0 fun i => congrFun h.1 i
  obtain ⟨b, hb⟩ := FfnInIdeal.Val.real_matrix a1 fun i => congrFun h.2.1 i
  obtain ⟨e, he⟩ := FfnInIdeal.Val.real_matrix a2 fun i => congrFun h.2.2.1 i
  obtain ⟨w, hw⟩ := FfnInIdeal.Val.real_matrix a3 fun i => congrFun h.2.2.2.1 i
  obtain ⟨y, hy⟩ := FfnInIdeal.Val.real_matrix a4 fun i => congrFun h.2.2.2.2 i
  exact ⟨a, b, e, w, y, ha, hb, he, hw, hy⟩

theorem algebraic : Cert.algebraic_OutFwdIdeal_OutFwdRefIdeal_pre_finite_outfwd := by
  pair_intro
  · exact Cert.OutFwdIdeal.Value.run_blocks m g
  · choose a b e w y h0 h1 h2 h3 h4 using fun c => pre_real _ _ _ _ _ (hpre c)
    run_from Cert.OutFwdRefIdeal.Value.run m' g'
    obtain ⟨a0, a1, a2, a3, a4⟩ := hagree c
    rw [final5 (h0 c) (h1 c) (h2 c) (h3 c) (h4 c), ← OutFwdRefIdeal.Val.v2_real, ← h0 c, ← h1 c, ← h2 c, ← h3 c, ← h4 c, ← a0, ← a1, ← a2, ← a3, ← a4]
    exact OutFwdRefIdeal.Read.val_main_v2_eq _ _ _ _ _

end Cert.OutFwdIdeal.Val

end
-- ==== Proof.AdamKernel.lean ====
module

public import proofs.«01_k».proof.Proof.Gen.AdamIdeal.Value
public import proofs.«01_k».proof.Proof.Gen.AdamRefIdeal.Read
public import proofs.«01_k».proof.Proof.Lift
public import Idealize.ShloMosaic.Lib.Pipeline.ValueKit
public import Idealize.ShloMosaic.Lib.StableHlo.Run

@[expose] public section

/-! # The optimiser's step, as the kernel computes it -/

set_option maxRecDepth 16384

noncomputable section

open Idealize.ShloMosaic Idealize.ShloMosaic.TcCoe Idealize.SL.Sem
open Idealize.ShloMosaic.Pipeline (Dat)

namespace Cert.AdamIdeal.Val

open Cert.AdamIdeal Cert.AdamIdeal.Gen Cert.Lift Cert.AdamRefIdeal.Read

/-- A block of rows, and the whole array. -/
abbrev B : Type := FVec Ideal S512x768 .f32
abbrev A : Type := FVec Ideal S2048x768 .f32

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The place in the array of a place in a point's block. -/
def pos (t : Fin cfg0.N) (z : S512x768.Idx) : S2048x768.Idx :=
  ix2 ⟨t.val * 512 + (z 0).val, by have h : t.val < 4 := lt_of_lt_of_eq t.isLt N_0; have : (z 0).val < 512 := (z 0).isLt; omega⟩ (z 1)

/-- The block of an array that a point sees. -/
def cut (t : Fin cfg0.N) (a : A) : B := fun z => a (pos t z)

theorem ld_whole (x : B) : View.ld (Val := Elt Ideal) (e' := .f32) (S := S512x768) x r0_0 = x := View.ld_unit_lit' _ _ (by decide)

/-- The results of a block are the block of the results. -/
theorem out4 (t : Fin cfg0.N) (w g n v : A) : out0_4 (F := Ideal) (cut t w) (cut t g) (cut t n) (cut t v) = cut t (val_main_v23 (F := Ideal) w g n v) := by
  rw [out0_4]; simp only [ld_whole]
  refine (View.canon_unit_zero (funext fun d => by fin_cases d <;> rfl) _ _).trans (funext fun z => ?_)
  rfl
theorem out5 (t : Fin cfg0.N) (w g n v : A) : out0_5 (F := Ideal) (cut t w) (cut t g) (cut t n) (cut t v) = cut t (val_main_v4 (F := Ideal) g n) := by
  rw [out0_5]; simp only [ld_whole]
  refine (View.canon_unit_zero (funext fun d => by fin_cases d <;> rfl) _ _).trans (funext fun z => ?_)
  rfl
theorem out6 (t : Fin cfg0.N) (w g n v : A) : out0_6 (F := Ideal) (cut t w) (cut t g) (cut t n) (cut t v) = cut t (val_main_v10 (F := Ideal) g v) := by
  rw [out0_6]; simp only [ld_whole]
  refine (View.canon_unit_zero (funext fun d => by fin_cases d <;> rfl) _ _).trans (funext fun z => ?_)
  rfl
theorem out7 (t : Fin cfg0.N) (w g n v : A) : out0_7 (F := Ideal) (cut t w) (cut t g) (cut t n) (cut t v) = cut t g := by
  rw [out0_7]; simp only [ld_whole]
  exact View.canon_unit_zero (funext fun d => by fin_cases d <;> rfl) _ _

variable {m : (ℓ : Loc nD τ sig) → Buf (Elt Ideal) ℓ} {c : Dev nD} {w g n v : A}

theorem blk0 (h : m ((c : Thread nD τ).loc main_arg0) = w) (p : Fin cfg0.N) : iblk m c 0 p = cut p w := by
  funext z
  blk_simp [iblk, idx p]
  entry_read
  rw [h]
  refine congrArg w (funext fun d => ?_)
  fin_cases d <;> refine Fin.ext ?_ <;> blk_simp [idx p, pos] <;> rfl
theorem blk1 (h : m ((c : Thread nD τ).loc main_arg1) = g) (p : Fin cfg0.N) : iblk m c 1 p = cut p g := by
  funext z
  blk_simp [iblk, idx p]
  entry_read
  rw [h]
  refine congrArg g (funext fun d => ?_)
  fin_cases d <;> refine Fin.ext ?_ <;> blk_simp [idx p, pos] <;> rfl
theorem blk2 (h : m ((c : Thread nD τ).loc main_arg2) = n) (p : Fin cfg0.N) : iblk m c 2 p = cut p n := by
  funext z
  blk_simp [iblk, idx p]
  entry_read
  rw [h]
  refine congrArg n (funext fun d => ?_)
  fin_cases d <;> refine Fin.ext ?_ <;> blk_simp [idx p, pos] <;> rfl
theorem blk3 (h : m ((c : Thread nD τ).loc main_arg3) = v) (p : Fin cfg0.N) : iblk m c 3 p = cut p v := by
  funext z
  blk_simp [iblk, idx p]
  entry_read
  rw [h]
  refine congrArg v (funext fun d => ?_)
  fin_cases d <;> refine Fin.ext ?_ <;> blk_simp [idx p, pos] <;> rfl

section
variable (h0 : m ((c : Thread nD τ).loc main_arg0) = w) (h1 : m ((c : Thread nD τ).loc main_arg1) = g) (h2 : m ((c : Thread nD τ).loc main_arg2) = n)
  (h3 : m ((c : Thread nD τ).loc main_arg3) = v)
include h0 h1 h2 h3

/-- The four results after the run. -/
theorem final4 : (dats m 0 c).arrAt 4 (cfgs 0).N = val_main_v23 (F := Ideal) w g n v := by
  refine (dats m 0 c).arrAt_eq_of_covers 4 _ (by decide +kernel) fun p _ z => ?_
  blk_simp
  rw [after0_4, blk0 h0 p, blk1 h1 p, blk2 h2 p, blk3 h3 p, out4]
  refine congrArg (val_main_v23 (F := Ideal) w g n v) (funext fun d => ?_)
  fin_cases d <;> refine Fin.ext ?_ <;> blk_simp [idx p, pos] <;> rfl
theorem final5 : (dats m 0 c).arrAt 5 (cfgs 0).N = val_main_v4 (F := Ideal) g n := by
  refine (dats m 0 c).arrAt_eq_of_covers 5 _ (by decide +kernel) fun p _ z => ?_
  blk_simp
  rw [after0_5, blk0 h0 p, blk1 h1 p, blk2 h2 p, blk3 h3 p, out5]
  refine congrArg (val_main_v4 (F := Ideal) g n) (funext fun d => ?_)
  fin_cases d <;> refine Fin.ext ?_ <;> blk_simp [idx p, pos] <;> rfl
theorem final6 : (dats m 0 c).arrAt 6 (cfgs 0).N = val_main_v10 (F := Ideal) g v := by
  refine (dats m 0 c).arrAt_eq_of_covers 6 _ (by decide +kernel) fun p _ z => ?_
  blk_simp
  rw [after0_6, blk0 h0 p, blk1 h1 p, blk2 h2 p, blk3 h3 p, out6]
  refine congrArg (val_main_v10 (F := Ideal) g v) (funext fun d => ?_)
  fin_cases d <;> refine Fin.ext ?_ <;> blk_simp [idx p, pos] <;> rfl
theorem final7 : (dats m 0 c).arrAt 7 (cfgs 0).N = g := by
  refine (dats m 0 c).arrAt_eq_of_covers 7 _ (by decide +kernel) fun p _ z => ?_
  blk_simp
  rw [after0_7, blk0 h0 p, blk1 h1 p, blk2 h2 p, blk3 h3 p, out7]
  refine congrArg g (funext fun d => ?_)
  fin_cases d <;> refine Fin.ext ?_ <;> blk_simp [idx p, pos] <;> rfl
end

end Cert.AdamIdeal.Val

end
-- ==== Proof.Adam.lean ====
module

public import proofs.«01_k».proof.Defs
public import proofs.«01_k».proof.Proof.AdamKernel
public import Idealize.ShloMosaic.Lib.KernelVsHost
public import proofs.«01_k».proof.Proof.Gen.AdamRefIdeal.Run

@[expose] public section

/-! # The optimiser's step: kernel and reference agree -/

set_option maxRecDepth 16384

noncomputable section

open Idealize.ShloMosaic Idealize.ShloMosaic.TcCoe Idealize.SL.Sem

namespace Cert.AdamIdeal.Val

theorem algebraic : Cert.algebraic_AdamIdeal_AdamRefIdeal := by
  pair_intro
  · exact Cert.AdamIdeal.Value.run_blocks m g
  · run_from Cert.AdamRefIdeal.Value.run m' g'
    all_goals obtain ⟨a0, a1, a2, a3⟩ := hagree c
    · rw [final4 rfl rfl rfl rfl, ← a0, ← a1, ← a2, ← a3]
      exact AdamRefIdeal.Read.val_main_v23_eq _ _ _ _
    · rw [final5 rfl rfl rfl rfl, ← a1, ← a2]
      exact AdamRefIdeal.Read.val_main_v4_eq _ _
    · rw [final6 rfl rfl rfl rfl, ← a1, ← a3]
      exact AdamRefIdeal.Read.val_main_v10_eq _ _
    · rw [final7 rfl rfl rfl rfl, ← a1]

end Cert.AdamIdeal.Val

end
-- ==== Proof.FfnDwKernel.lean ====
module

public import proofs.«01_k».proof.Proof.Gen.FfnDwIdeal.Value
public import proofs.«01_k».proof.Proof.Gen.FfnDwRefIdeal.Read
public import proofs.«01_k».proof.Proof.FfnNormKernel
public import Idealize.ShloMosaic.Lib.Pipeline.ValueKit
public import Idealize.ShloMosaic.Lib.StableHlo.Run
public import Idealize.ShloMosaic.Lib.StableHlo.RunRead

@[expose] public section

/-! # The gradient in the feed-forward layer's first weights, as the reference and the kernel compute it -/

set_option maxRecDepth 16384

noncomputable section

open Idealize.ShloMosaic Idealize.ShloMosaic.TcCoe Idealize.SL.Sem
open Idealize.ShloMosaic.Pipeline (Dat)

namespace Cert.FfnDwRefIdeal.Val

open Cert.FfnDwRefIdeal Cert.FfnDwRefIdeal.Read Cert.Lift Cert.LossReal Cert.NormReal
open Cert.FfnInRefIdeal.Val (XX XG XW XD C)

variable (x : Fin 8192 → Fin 1024 → ℝ) (g : Fin 1024 → ℝ) (d : Fin 8192 → Fin 5632 → ℝ)

theorem v11_real : val_main_v11 (F := Ideal) (XX x) (XG g) = XX fun n => nrm (x n) g := FfnNormRefIdeal.Val.v11_real x g

/-- The gradient in a weight. -/
def dw (k : Fin 1024) (j : Fin 5632) : ℝ := ∑ n, nrm (x n) g k * d n j

theorem v17_real : val_main_v17 (F := Ideal) (XX x) (XG g) (XD d) = fun i => ((dw x g d (i 1) (at_ 5632 ((i 0).val * 1408 + (i 2).val)) : ℝ) : EReal) := by
  funext i
  pointwise [val_main_v17, val_main_v16, val_main_v15, val_main_v14]
  rw [val_main_v13_apply]
  pointwise [v11_real]
  simp only [mul_coe, sum_coe]
  refine congrArg Real.toEReal (Finset.sum_congr rfl fun n _ => ?_)
  rw [mul_comm]
  have h0 : (i 0).val < 4 := (i 0).isLt
  have h1 : (i 1).val < 1024 := (i 1).isLt
  have h2 : (i 2).val < 1408 := (i 2).isLt
  refine congrArg₂ (fun a b => nrm (x n) g a * d n b) (Fin.ext ?_) (Fin.ext ?_) <;> pointwise [at_] <;> omega

end Cert.FfnDwRefIdeal.Val

namespace Cert.FfnDwIdeal.Val

open Cert.FfnDwIdeal Cert.FfnDwIdeal.Gen Cert.Lift Cert.LossReal Cert.NormReal
open Cert.FfnInRefIdeal.Val (XX XG XW XD C)
open Cert.FfnDwRefIdeal.Val (dw)

section payloads

variable (h : Fin 2048 → Fin 1024 → ℝ) (e : Fin 2048 → Fin 1408 → ℝ)

/-- A block of rows, turned, and a block of the incoming gradient. -/
abbrev BH : FVec Ideal S1024x2048 .bf16 := fun i => ((h (i 1) (i 0) : ℝ) : EReal)
abbrev BE : FVec Ideal S2048x1408 .bf16 := fun i => ((e (i 0) (i 1) : ℝ) : EReal)

theorem pay1_zero (i) : k0_pay1 (F := Ideal) i = 0 := by
  pointwise [k0_pay1]

theorem pay2_real (a : Vec Ideal S1024x1408 .f32) (i) :
    k0_pay2 (F := Ideal) a (BH h) (BE e) i = a i + ((∑ n, h n (i 0) * e n (i 1) : ℝ) : EReal) := by
  pointwise [k0_pay2]
  simp only [mul_coe, sum_coe]
  rfl

theorem pay3_apply (a : Vec Ideal S1024x1408 .f32) (i) : k0_pay3 (F := Ideal) a i = a (ix2 (i 1) (i 2)) := by
  pointwise [k0_pay3]

end payloads

variable (m : (ℓ : Loc nD τ sig) → Buf (Elt Ideal) ℓ)

theorem idx : ∀ t : Fin cfg0.N, win0_0.index t = ![0, t.val % 4] ∧ win0_1.index t = ![t.val % 4, t.val / 4] ∧ win0_2.index t = ![t.val / 4, 0, 0] :=
  (by decide +kernel : ∀ t : Fin grid0.N, _)

/-- The row and the column of the arrays that a point's blocks have at `r` and `k`. -/
def row (t : Fin cfg0.N) (r : Fin 2048) : Fin 8192 := ⟨t.val % 4 * 2048 + r.val, by omega⟩
def col (t : Fin cfg0.N) (k : Fin 1408) : Fin 5632 := ⟨t.val / 4 * 1408 + k.val, by have h : t.val < 16 := lt_of_lt_of_eq t.isLt N_0; omega⟩

variable {m} {x : Fin 8192 → Fin 1024 → ℝ} {g : Fin 1024 → ℝ} {d : Fin 8192 → Fin 5632 → ℝ} {c : Dev nD}

theorem host_rows : (V m c main_v13 : FVec Ideal S1024x8192 .bf16)
    = (truncf .bf16 (transpose S1024x8192 [1, 0] (FfnDwRefIdeal.Read.val_main_v11 (F := Ideal) (m ((c : Thread nD τ).loc main_arg0)) (m ((c : Thread nD τ).loc main_arg1)))
      transposes_S8192x1024_S1024x8192_1_0) bitsLt_bf16_f32 : FVec Ideal S1024x8192 .bf16) := by
  unfold V
  after_reads_simp
  rfl

theorem blk0 (hx : m ((c : Thread nD τ).loc main_arg0) = XX x) (hg : m ((c : Thread nD τ).loc main_arg1) = XG g) (p : Fin cfg0.N) :
    iblk m c 0 p = BH fun r => nrm (x (row p r)) g := by
  funext z
  blk_simp [iblk, idx p]
  rw [host_rows, hx, hg, FfnDwRefIdeal.Val.v11_real]
  pointwise
  refine congrArg Real.toEReal (congrArg₂ (fun n => nrm (x n) g) (Fin.ext ?_) (Fin.ext ?_)) <;> blk_simp [idx p, row]

theorem blk1 (hd : m ((c : Thread nD τ).loc main_arg3) = XD d) (p : Fin cfg0.N) : iblk m c 1 p = BE fun r k => d (row p r) (col p k) := by
  funext z
  blk_simp [iblk, idx p]
  entry_read
  rw [hd]
  pointwise
  refine congrArg Real.toEReal (congrArg₂ d (Fin.ext ?_) (Fin.ext ?_)) <;> blk_simp [idx p, row, col]

/-- What the accumulator holds at the last point of a shard. -/
theorem acc (hx : m ((c : Thread nD τ).loc main_arg0) = XX x) (hg : m ((c : Thread nD τ).loc main_arg1) = XG g) (hd : m ((c : Thread nD τ).loc main_arg3) = XD d)
    (p : Fin cfg0.N) (h3 : p.val % 4 = 3) (j : S1024x1408.Idx) : (outsAt0 m c p.val p.isLt).2 j = ((dw x g d (j 0) (col p (j 1)) : ℝ) : EReal) := by
  have hN : p.val < 16 := lt_of_lt_of_eq p.isLt N_0
  rw [Pipeline.eq_sum_fin_of_reset_step_apply_of_flush (fun n h => (outsAt0 m c n h).2) 4 (fun _ => 0)
    (fun p j => ((∑ r, nrm (x (row p r)) g (j 0) * d (row p r) (col p (j 1)) : ℝ) : EReal))
    (fun p h j => by
      rw [outsAt0_A m c p h (by omega)]; frame_out
      rw [blk0 hx hg p, blk1 hd p, pay2_real, pay1_zero])
    (fun p h j => by
      by_cases h' : p.val % 4 = 3
      · rw [outsAt0_C m c p h h']; frame_out
        rw [blk0 hx hg p, blk1 hd p, pay2_real]
        exact congrArg (· + _) (congrFun (Memref.IsWhole.read_unread _ _) j)
      · rw [outsAt0_B m c p h h']; frame_out
        rw [blk0 hx hg p, blk1 hd p, pay2_real]
        exact congrArg (· + _) (congrFun (Memref.IsWhole.read_unread _ _) j))
    p h3 j, zero_add, sum_coe]
  refine congrArg Real.toEReal (Fin.sum_mul_add_congr (S := 4) (n := 2048) (f := fun n => nrm (x n) g (j 0) * d n (col p (j 1))) fun s r hl => ?_)
  have hs := s.isLt
  have er : row ⟨4 * (p.val / 4) + s.val, Pipeline.run_point_lt_of_flush p h3 s⟩ r = ⟨s.val * 2048 + r.val, hl⟩ := Fin.ext (by
    dsimp only [row]
    rw [Nat.mul_add_mod, Nat.mod_eq_of_lt hs])
  have ec : col ⟨4 * (p.val / 4) + s.val, Pipeline.run_point_lt_of_flush p h3 s⟩ (j 1) = col p (j 1) := Fin.ext (by
    dsimp only [col]
    rw [Nat.mul_add_div (by decide), Nat.div_eq_of_lt hs, Nat.add_zero])
  rw [er, ec]

/-- The gradient after the run, in four shards. -/
theorem final2 (hx : m ((c : Thread nD τ).loc main_arg0) = XX x) (hg : m ((c : Thread nD τ).loc main_arg1) = XG g) (hd : m ((c : Thread nD τ).loc main_arg3) = XD d) :
    (dats m 0 c).arrAt 2 (cfgs 0).N = fun i : S4x1024x1408.Idx => ((dw x g d (i 1) (at_ 5632 ((i 0).val * 1408 + (i 2).val)) : ℝ) : EReal) := by
  refine (dats m 0 c).arrAt_eq_of_covers 2 _ (by decide +kernel) fun p hp z => ?_
  have h3 : p.val % 4 = 3 := (flush0_2 p).mp hp
  blk_simp
  have e : (outsAt0 m c p.val p.isLt).1 z = (outsAt0 m c p.val p.isLt).2 (ix2 (z 1) (z 2)) := by
    rw [outsAt0_C m c p (by omega) h3]
    frame_out
    exact pay3_apply _ _
  rw [after0_2]
  refine (e.trans (acc hx hg hd p h3 _)).trans ?_
  have hN : p.val < 16 := lt_of_lt_of_eq p.isLt N_0
  have h2 : (z 2).val < 1408 := (z 2).isLt
  refine congrArg Real.toEReal (congrArg₂ (dw x g d) (Fin.ext ?_) (Fin.ext ?_)) <;> blk_simp [idx p, col, at_]
  exact (Nat.mod_eq_of_lt (by omega)).symm

end Cert.FfnDwIdeal.Val

end
-- ==== Proof.FfnDw.lean ====
module

public import proofs.«01_k».proof.Defs
public import proofs.«01_k».proof.Proof.FfnDwKernel
public import proofs.«01_k».proof.Proof.FfnIn
public import proofs.«01_k».proof.Proof.Gen.Pre_finite_ffndw
public import Idealize.ShloMosaic.Lib.KernelVsHost
public import proofs.«01_k».proof.Proof.Gen.FfnDwRefIdeal.Run

@[expose] public section

/-! # The gradient in the feed-forward layer's first weights: kernel and reference agree -/

set_option maxRecDepth 16384

noncomputable section

open Idealize.ShloMosaic Idealize.ShloMosaic.TcCoe Idealize.SL.Sem

namespace Cert.FfnDwIdeal.Val

open Cert.Lift
open Cert.FfnInRefIdeal.Val (XX XG XW XD)

theorem pre_real (a0 : FVec Ideal FfnDwIdeal.S8192x1024 .f32) (a1 : FVec Ideal FfnDwIdeal.S1x1024 .f32) (a2 : FVec Ideal FfnDwIdeal.S1024x5632 .f32)
    (a3 : FVec Ideal FfnDwIdeal.S8192x5632 .f32)
    (h : (Cert.Pre_finite_ffndw.fn (F := Ideal) a0 a1 a2 a3).1 = (fun _ => 1#1) ∧ (Cert.Pre_finite_ffndw.fn (F := Ideal) a0 a1 a2 a3).2.1 = (fun _ => 1#1)
      ∧ (Cert.Pre_finite_ffndw.fn (F := Ideal) a0 a1 a2 a3).2.2.1 = (fun _ => 1#1) ∧ (Cert.Pre_finite_ffndw.fn (F := Ideal) a0 a1 a2 a3).2.2.2 = (fun _ => 1#1)) :
    ∃ x g d, a0 = XX x ∧ a1 = XG g ∧ a3 = XD d := by
  obtain ⟨x, hx⟩ := FfnInIdeal.Val.real_matrix a0 fun i => congrFun h.1 i
  obtain ⟨g, hg⟩ := FfnInIdeal.Val.real_row a1 fun i => congrFun h.2.1 i
  obtain ⟨d, hd⟩ := FfnInIdeal.Val.real_matrix a3 fun i => congrFun h.2.2.2 i
  exact ⟨x, g, d, hx, hg, hd⟩

theorem algebraic : Cert.algebraic_FfnDwIdeal_FfnDwRefIdeal_pre_finite_ffndw := by
  pair_intro
  · exact Cert.FfnDwIdeal.Value.run_blocks m g
  · choose x γ d h0 h1 h3 using fun c => pre_real _ _ _ _ (hpre c)
    run_from Cert.FfnDwRefIdeal.Value.run m' g'
    obtain ⟨a0, a1, a2, a3⟩ := hagree c
    rw [final2 (h0 c) (h1 c) (h3 c), ← FfnDwRefIdeal.Val.v17_real, ← h0 c, ← h1 c, ← h3 c, ← a0, ← a1, ← a3]
    exact FfnDwRefIdeal.Read.val_main_v17_eq _ _ _

end Cert.FfnDwIdeal.Val

end
-- ==== Proof.OutDwKernel.lean ====
module

public import proofs.«01_k».proof.Proof.Gen.OutDwIdeal.Value
public import proofs.«01_k».proof.Proof.Gen.OutDwRefIdeal.Read
public import proofs.«01_k».proof.Proof.OutFwdKernel
public import Idealize.ShloMosaic.Lib.StableHlo.Run
public import Idealize.ShloMosaic.Lib.Pipeline.ReadBack

@[expose] public section

/-! # The gradient in the output projection's weights, as the reference and the kernel compute it -/

set_option maxRecDepth 16384

noncomputable section

open Idealize.ShloMosaic Idealize.ShloMosaic.TcCoe Idealize.SL.Sem
open Idealize.ShloMosaic.Pipeline (Dat)

namespace Cert.OutDwRefIdeal.Val

open Cert.OutDwRefIdeal Cert.OutDwRefIdeal.Read Cert.Lift Cert.OutReal
open Cert.OutFwdRefIdeal.Val (XA XB XW XY)

variable (a : Fin 8192 → Fin 256 → ℝ) (b : Fin 8192 → Fin 512 → ℝ) (e : Fin 8192 → Fin 256 → ℝ) (y : Fin 8192 → Fin 1024 → ℝ)

theorem v0_real : val_main_v0 (F := Ideal) (XA a) (XB b) (XA e) = XY fun n => cat (a n) (b n) (e n) := OutFwdRefIdeal.Val.v0_real a b e

theorem v4_real : val_main_v4 (F := Ideal) (XA a) (XB b) (XA e) (XY y) = fun i => ((∑ n, cat (a n) (b n) (e n) (i 0) * y n (i 1) : ℝ) : EReal) := by
  funext i
  pointwise [val_main_v4, val_main_v3]
  rw [val_main_v2_apply]
  pointwise [v0_real]
  simp only [mul_coe, sum_coe]
  refine congrArg Real.toEReal (Finset.sum_congr rfl fun n _ => ?_)
  exact mul_comm _ _

end Cert.OutDwRefIdeal.Val

namespace Cert.OutDwIdeal.Val

open Cert.OutDwIdeal Cert.OutDwIdeal.Gen Cert.Lift Cert.OutReal
open Cert.OutFwdRefIdeal.Val (XA XB XW XY)

section payloads

variable (a : Fin 1024 → Fin 256 → ℝ) (b : Fin 1024 → Fin 512 → ℝ) (y : Fin 1024 → Fin 1024 → ℝ)

/-- A block of rows of the widths. -/
abbrev BA : FVec Ideal S1024x256 .bf16 := fun i => ((a (i 0) (i 1) : ℝ) : EReal)
abbrev BB : FVec Ideal S1024x512 .bf16 := fun i => ((b (i 0) (i 1) : ℝ) : EReal)
abbrev BY : FVec Ideal S1024x1024 .f32 := fun i => ((y (i 0) (i 1) : ℝ) : EReal)

theorem pay2_zero (i) : k0_pay2 (F := Ideal) i = 0 := by
  pointwise [k0_pay2]

theorem pay4_real (s : Vec Ideal S256x1024 .f32) (i) : k0_pay4 (F := Ideal) (BY y) s (BA a) i = s i + ((∑ n, a n (i 0) * y n (i 1) : ℝ) : EReal) := by
  pointwise [k0_pay4, k0_pay3]
  simp only [mul_coe, sum_coe]
  rfl

theorem pay5_real (s : Vec Ideal S512x1024 .f32) (i) : k0_pay5 (F := Ideal) (BY y) s (BB b) i = s i + ((∑ n, b n (i 0) * y n (i 1) : ℝ) : EReal) := by
  pointwise [k0_pay5, k0_pay3]
  simp only [mul_coe, sum_coe]
  rfl

theorem pay6_real (s : Vec Ideal S256x1024 .f32) (i) : k0_pay6 (F := Ideal) (BY y) s (BA a) i = s i + ((∑ n, a n (i 0) * y n (i 1) : ℝ) : EReal) := by
  pointwise [k0_pay6, k0_pay3]
  simp only [mul_coe, sum_coe]
  rfl

theorem pay1_apply (s : Vec Ideal S1024x1024 .f32) (i) : k0_pay1 (F := Ideal) s i = s i := by
  pointwise [k0_pay1]

end payloads

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] :=
  (by decide +kernel : ∀ t : Fin grid0.N, _)

/-- The row of the array that a point's block has at `r`. -/
def row (t : Fin cfg0.N) (r : Fin 1024) : Fin 8192 := ⟨t.val * 1024 + r.val, by have h : t.val < 8 := lt_of_lt_of_eq t.isLt N_0; omega⟩

variable {m} {a : Fin 8192 → Fin 256 → ℝ} {b : Fin 8192 → Fin 512 → ℝ} {e : Fin 8192 → Fin 256 → ℝ} {y : Fin 8192 → Fin 1024 → ℝ} {c : Dev nD}

theorem blk0 (h : m ((c : Thread nD τ).loc main_arg0) = XA a) (p : Fin cfg0.N) : iblk m c 0 p = BA fun r => a (row p r) := by
  funext z
  blk_simp [iblk, idx p]
  entry_read
  rw [h]
  pointwise
  refine congrArg Real.toEReal (congrArg₂ a (Fin.ext ?_) (Fin.ext ?_)) <;> blk_simp [idx p, row]

theorem blk1 (h : m ((c : Thread nD τ).loc main_arg1) = XB b) (p : Fin cfg0.N) : iblk m c 1 p = BB fun r => b (row p r) := by
  funext z
  blk_simp [iblk, idx p]
  entry_read
  rw [h]
  pointwise
  refine congrArg Real.toEReal (congrArg₂ b (Fin.ext ?_) (Fin.ext ?_)) <;> blk_simp [idx p, row]

theorem blk2 (h : m ((c : Thread nD τ).loc main_arg2) = XA e) (p : Fin cfg0.N) : iblk m c 2 p = BA fun r => e (row p r) := by
  funext z
  blk_simp [iblk, idx p]
  entry_read
  rw [h]
  pointwise
  refine congrArg Real.toEReal (congrArg₂ e (Fin.ext ?_) (Fin.ext ?_)) <;> blk_simp [idx p, row]

theorem blk3 (h : m ((c : Thread nD τ).loc main_arg4) = XY y) (p : Fin cfg0.N) : iblk m c 3 p = BY fun r => y (row p r) := by
  funext z
  blk_simp [iblk, idx p]
  entry_read
  rw [h]
  refine congrArg Real.toEReal (congrArg₂ y (Fin.ext ?_) (Fin.ext ?_)) <;> blk_simp [idx p, row]

/-- What a grid point adds to the accumulator. -/
def term (a : Fin 8192 → Fin 256 → ℝ) (b : Fin 8192 → Fin 512 → ℝ) (e : Fin 8192 → Fin 256 → ℝ) (y : Fin 8192 → Fin 1024 → ℝ) (p : Fin cfg0.N)
    (j : S1024x1024.Idx) : EReal :=
  ((∑ r, cat (a (row p r)) (b (row p r)) (e (row p r)) (j 0) * y (row p r) (j 1) : ℝ) : EReal)

theorem mem3 (j : S1024x1024.Idx) :
    j ∈ (Rect.unit (s := S1024x1024) ![768, 0] ![256, 1024] inb_S1024x1024_S256x1024_768_0).set ∨ j ∈ (Rect.unit ![256, 0] ![512, 1024] inb_S1024x1024_S512x1024_256_0).set
      ∨ j ∈ (Rect.unit (s := S1024x1024) ![0, 0] ![256, 1024] inb_S1024x1024_S256x1024_0_0).set := by
  have h0 : (j 0 : ℕ) < 1024 := (j 0).isLt
  have h1 : (j 1 : ℕ) < 1024 := (j 1).isLt
  simp only [Rect.mem_set_unit, Fin.forall_fin_two]
  simp
  omega

theorem step3 (s : S1024x1024.Idx → EReal) (x : S256x1024.Idx → EReal) (z : S512x1024.Idx → EReal) (w : S256x1024.Idx → EReal)
    (L : List (View.Piece (Elt Ideal) S1024x1024 .f32))
    (hx : ∀ i, x i = s ((Rect.unit (s := S1024x1024) ![768, 0] ![256, 1024] inb_S1024x1024_S256x1024_768_0).emb i))
    (hz : ∀ i, z i = s ((Rect.unit (s := S1024x1024) ![256, 0] ![512, 1024] inb_S1024x1024_S512x1024_256_0).emb i))
    (hw : ∀ i, w i = s ((Rect.unit (s := S1024x1024) ![0, 0] ![256, 1024] inb_S1024x1024_S256x1024_0_0).emb i))
    (h0 : m ((c : Thread nD τ).loc main_arg0) = XA a) (h1 : m ((c : Thread nD τ).loc main_arg1) = XB b) (h2 : m ((c : Thread nD τ).loc main_arg2) = XA e)
    (h4 : m ((c : Thread nD τ).loc main_arg4) = XY y) (p : Fin cfg0.N) (j : S1024x1024.Idx) :
    View.canon (⟨Rect.unit ![768, 0] ![256, 1024] inb_S1024x1024_S256x1024_768_0, k0_pay6 (F := Ideal) (iblk m c 3 p) x (iblk m c 2 p)⟩
      :: ⟨Rect.unit ![256, 0] ![512, 1024] inb_S1024x1024_S512x1024_256_0, k0_pay5 (F := Ideal) (iblk m c 3 p) z (iblk m c 1 p)⟩
      :: ⟨Rect.unit ![0, 0] ![256, 1024] inb_S1024x1024_S256x1024_0_0, k0_pay4 (F := Ideal) (iblk m c 3 p) w (iblk m c 0 p)⟩ :: L) j
    = s j + term a b e y p j := by
  refine View.canon_append_of_piecesOf (fun j => s j + term a b e y p j) L [_, _, _] ⟨fun i => ?_, fun i => ?_, fun i => ?_, trivial⟩ j ?_
  · rw [blk2 h2, blk3 h4]
    refine Eq.trans (pay6_real _ _ _ i) ?_
    rw [hx]
    refine congrArg (_ + ·) (congrArg Real.toEReal (Finset.sum_congr rfl fun r _ => congrArg₂ (· * ·) (Eq.trans (cat_rgt _ _ _ _).symm (congrArg _ (Fin.ext ?_))) (congrArg _ (Fin.ext ?_)))) <;>
      simp [Rect.emb_apply, lft, rgt, mid]
  · rw [blk1 h1, blk3 h4]
    refine Eq.trans (pay5_real _ _ _ i) ?_
    rw [hz]
    refine congrArg (_ + ·) (congrArg Real.toEReal (Finset.sum_congr rfl fun r _ => congrArg₂ (· * ·) (Eq.trans (cat_mid _ _ _ _).symm (congrArg _ (Fin.ext ?_))) (congrArg _ (Fin.ext ?_)))) <;>
      simp [Rect.emb_apply, lft, rgt, mid]
  · rw [blk0 h0, blk3 h4]
    refine Eq.trans (pay4_real _ _ _ i) ?_
    rw [hw]
    refine congrArg (_ + ·) (congrArg Real.toEReal (Finset.sum_congr rfl fun r _ => congrArg₂ (· * ·) (Eq.trans (cat_lft _ _ _ _).symm (congrArg _ (Fin.ext ?_))) (congrArg _ (Fin.ext ?_)))) <;>
      simp [Rect.emb_apply, lft, rgt, mid]
  · rcases mem3 j with h | h | h
    · exact ⟨_, List.mem_cons_self, h⟩
    · exact ⟨_, List.mem_cons_of_mem _ List.mem_cons_self, h⟩
    · exact ⟨_, List.mem_cons_of_mem _ (List.mem_cons_of_mem _ List.mem_cons_self), h⟩

variable (h0 : m ((c : Thread nD τ).loc main_arg0) = XA a) (h1 : m ((c : Thread nD τ).loc main_arg1) = XB b)
  (h2 : m ((c : Thread nD τ).loc main_arg2) = XA e) (h4 : m ((c : Thread nD τ).loc main_arg4) = XY y)
include h0 h1 h2 h4

theorem first (p : Fin cfg0.N) (h : p.val % 8 = 0) (j : S1024x1024.Idx) : (outsAt0 m c p.val p.isLt).2 j = 0 + term a b e y p j := by
  rw [outsAt0_A m c p h (by omega)]
  frame_out
  refine step3 (fun _ => 0) _ _ _ [_] (fun i => ?_) (fun i => ?_) (fun i => ?_) h0 h1 h2 h4 p j
  · rw [View.readCov_skip _ _ _ _ _ (by decide), View.readCov_skip _ _ _ _ _ (by decide), View.readCov_fill _ _ _ _ _ (by decide)]
    exact pay2_zero _
  · rw [View.readCov_skip _ _ _ _ _ (by decide), View.readCov_fill _ _ _ _ _ (by decide)]
    exact pay2_zero _
  · rw [View.readCov_fill _ _ _ _ _ (by decide)]
    exact pay2_zero _

theorem next (p : Fin cfg0.N) (h : ¬p.val % 8 = 0) (j : S1024x1024.Idx) :
    (outsAt0 m c p.val p.isLt).2 j = (outsAt0 m c (p.val - 1) (lt_of_le_of_lt (Nat.sub_le _ _) p.isLt)).2 j + term a b e y p j := by
  by_cases h' : p.val % 8 = 7
  · rw [outsAt0_C m c p h h']
    frame_out
    exact step3 _ _ _ _ [] (fun i => congrFun (Memref.IsWhole.read_unread _ _) _) (fun i => congrFun (Memref.IsWhole.read_unread _ _) _)
      (fun i => congrFun (Memref.IsWhole.read_unread _ _) _) h0 h1 h2 h4 p j
  · rw [outsAt0_B m c p h h']
    frame_out
    exact step3 _ _ _ _ [] (fun i => congrFun (Memref.IsWhole.read_unread _ _) _) (fun i => congrFun (Memref.IsWhole.read_unread _ _) _)
      (fun i => congrFun (Memref.IsWhole.read_unread _ _) _) h0 h1 h2 h4 p j

omit h0 h1 h2 h4 in
theorem last (p : Fin cfg0.N) (h : ¬p.val % 8 = 0) (h' : p.val % 8 = 7) (j : S1024x1024.Idx) :
    (outsAt0 m c p.val p.isLt).1 j = (outsAt0 m c p.val p.isLt).2 j := by
  rw [outsAt0_C m c p h h']
  frame_out
  rw [pay1_apply, View.readCov_eq_canon']
  refine congrArg _ (funext fun q => Fin.ext ?_)
  fin_cases q <;> simp

theorem final4 : (dats m 0 c).arrAt 4 (cfgs 0).N = fun i => ((∑ n, cat (a n) (b n) (e n) (i 0) * y n (i 1) : ℝ) : EReal) := by
  refine (dats m 0 c).arrAt_eq_of_after_last 4 t0_7 (by decide +kernel) _ fun j => ?_
  blk_simp
  rw [after0_4, last t0_7 (by decide) rfl, Pipeline.eq_sum_fin_of_reset_step_apply_last (fun n h => (outsAt0 m c n h).2) 8 (fun _ => 0)
    (fun p j => term a b e y p j) (fun p h j => first h0 h1 h2 h4 p h j) (fun p h j => next h0 h1 h2 h4 p h j) (le_of_eq N_0) t0_7 rfl j, zero_add]
  simp only [term]
  rw [sum_coe]
  exact congrArg Real.toEReal (Fin.sum_mul_add_congr (S := 8) (n := 1024) (f := fun n => cat (a n) (b n) (e n) (j 0) * y n (j 1)) fun _ _ _ => rfl)

end Cert.OutDwIdeal.Val

end
-- ==== Proof.OutDw.lean ====
module

public import proofs.«01_k».proof.Defs
public import proofs.«01_k».proof.Proof.OutDwKernel
public import proofs.«01_k».proof.Proof.FfnIn
public import proofs.«01_k».proof.Proof.Gen.Pre_finite_outdw
public import Idealize.ShloMosaic.Lib.KernelVsHost
public import proofs.«01_k».proof.Proof.Gen.OutDwRefIdeal.Run

@[expose] public section

/-! # The gradient in the output projection's weights: kernel and reference agree -/

set_option maxRecDepth 16384

noncomputable section

open Idealize.ShloMosaic Idealize.ShloMosaic.TcCoe Idealize.SL.Sem

namespace Cert.OutDwIdeal.Val

open Cert.Lift
open Cert.OutFwdRefIdeal.Val (XA XB XW XY)

theorem pre_real (a0 : FVec Ideal OutDwIdeal.S8192x256 .f32) (a1 : FVec Ideal OutDwIdeal.S8192x512 .f32) (a2 : FVec Ideal OutDwIdeal.S8192x256 .f32)
    (a3 : FVec Ideal OutDwIdeal.S1024x1024 .f32) (a4 : FVec Ideal OutDwIdeal.S8192x1024 .f32)
    (h : (Cert.Pre_finite_outdw.fn (F := Ideal) a0 a1 a2 a3 a4).1 = (fun _ => 1#1) ∧ (Cert.Pre_finite_outdw.fn (F := Ideal) a0 a1 a2 a3 a4).2.1 = (fun _ => 1#1)
      ∧ (Cert.Pre_finite_outdw.fn (F := Ideal) a0 a1 a2 a3 a4).2.2.1 = (fun _ => 1#1) ∧ (Cert.Pre_finite_outdw.fn (F := Ideal) a0 a1 a2 a3 a4).2.2.2.1 = (fun _ => 1#1)
      ∧ (Cert.Pre_finite_outdw.fn (F := Ideal) a0 a1 a2 a3 a4).2.2.2.2 = (fun _ => 1#1)) :
    ∃ a b e w y, a0 = XA a ∧ a1 = XB b ∧ a2 = XA e ∧ a3 = XW w ∧ a4 = XY y := by
  obtain ⟨a, ha⟩ := FfnInIdeal.Val.real_matrix a0 fun i => congrFun h.1 i
  obtain ⟨b, hb⟩ := FfnInIdeal.Val.real_matrix a1 fun i => congrFun h.2.1 i
  obtain ⟨e, he⟩ := FfnInIdeal.Val.real_matrix a2 fun i => congrFun h.2.2.1 i
  obtain ⟨w, hw⟩ := FfnInIdeal.Val.real_matrix a3 fun i => congrFun h.2.2.2.1 i
  obtain ⟨y, hy⟩ := FfnInIdeal.Val.real_matrix a4 fun i => congrFun h.2.2.2.2 i
  exact ⟨a, b, e, w, y, ha, hb, he, hw, hy⟩

theorem algebraic : Cert.algebraic_OutDwIdeal_OutDwRefIdeal_pre_finite_outdw := by
  pair_intro
  · exact Cert.OutDwIdeal.Value.run_blocks m g
  · choose a b e w y h0 h1 h2 h3 h4 using fun c => pre_real _ _ _ _ _ (hpre c)
    run_from Cert.OutDwRefIdeal.Value.run m' g'
    obtain ⟨a0, a1, a2, a3, a4⟩ := hagree c
    rw [final4 (h0 c) (h1 c) (h2 c) (h4 c)]
    refine (OutDwRefIdeal.Read.val_main_v4_eq _ _ _ _).trans ?_
    rw [h0 c, h1 c, h2 c, h4 c]
    exact OutDwRefIdeal.Val.v4_real _ _ _ _

end Cert.OutDwIdeal.Val

end
-- ==== Proof.DwInKernel.lean ====
module

public import proofs.«01_k».proof.Proof.Gen.DwInIdeal.Value
public import proofs.«01_k».proof.Proof.Gen.DwInRefIdeal.Read
public import proofs.«01_k».proof.Proof.FfnNormKernel
public import proofs.«01_k».proof.Proof.ProjKernel
public import Idealize.ShloMosaic.Lib.Pipeline.ValueKit
public import Idealize.ShloMosaic.Lib.Pipeline.ReadBack
public import Idealize.ShloMosaic.Lib.StableHlo.Run
public import Idealize.ShloMosaic.Lib.StableHlo.RunRead

@[expose] public section

/-! # The gradient in the input projection's weights, as the reference and the kernel compute it -/

set_option maxRecDepth 16384

noncomputable section

open Idealize.ShloMosaic Idealize.ShloMosaic.TcCoe Idealize.SL.Sem
open Idealize.ShloMosaic.Pipeline (Dat)

namespace Cert.DwInRefIdeal.Val

open Cert.DwInRefIdeal Cert.DwInRefIdeal.Read Cert.Lift Cert.LossReal Cert.NormReal
open Cert.FfnInRefIdeal.Val (XX XG)
open Cert.InProjRefIdeal.Val (ZA ZQ)

variable (x : Fin 8192 → Fin 1024 → ℝ) (g : Fin 1024 → ℝ) (p : Fin 8192 → Fin 512 → ℝ) (q : Fin 8192 → Fin 1536 → ℝ) (s t : Fin 8192 → Fin 512 → ℝ)

theorem v11_real : val_main_v11 (F := Ideal) (XX x) (XG g) = XX fun n => nrm (x n) g := FfnNormRefIdeal.Val.v11_real x g

theorem v13_real : val_main_v13 (F := Ideal) (ZA p) (ZQ q) (ZA s) (ZA t) = fun i => ((cat (p (i 0)) (q (i 0)) (s (i 0)) (t (i 0)) (i 1) : ℝ) : EReal) :=
  InProjRefIdeal.Val.v16_real p q s t

/-- The gradient in a weight. -/
def dw (k : Fin 1024) (j : Fin 3072) : ℝ := ∑ n, nrm (x n) g k * cat (p n) (q n) (s n) (t n) j

theorem v18_real : val_main_v18 (F := Ideal) (XX x) (XG g) (ZA p) (ZQ q) (ZA s) (ZA t)
    = fun i => ((dw x g p q s t (i 1) (at_ 3072 ((i 0).val * 768 + (i 2).val)) : ℝ) : EReal) := by
  funext i
  pointwise [val_main_v18, val_main_v17, val_main_v16, val_main_v15]
  rw [val_main_v14_apply]
  pointwise [v11_real, v13_real]
  simp only [mul_coe, sum_coe]
  refine congrArg Real.toEReal (Finset.sum_congr rfl fun n _ => ?_)
  rw [mul_comm]
  have h0 : (i 0).val < 4 := (i 0).isLt
  have h1 : (i 1).val < 1024 := (i 1).isLt
  have h2 : (i 2).val < 768 := (i 2).isLt
  refine congrArg₂ (fun a b => nrm (x n) g a * cat (p n) (q n) (s n) (t n) b) (Fin.ext ?_) (Fin.ext ?_) <;> pointwise [at_] <;> omega

end Cert.DwInRefIdeal.Val

namespace Cert.DwInIdeal.Val

open Cert.DwInIdeal Cert.DwInIdeal.Gen Cert.Lift Cert.LossReal Cert.NormReal
open Cert.FfnInRefIdeal.Val (XX XG)
open Cert.InProjRefIdeal.Val (ZA ZQ)
open Cert.DwInRefIdeal.Val (dw)
open Cert.InProjIdeal.Val (cat_p cat_q cat_s cat_t)

section payloads

variable (h : Fin 1024 → Fin 1024 → ℝ) (d : Fin 1024 → Fin 3072 → ℝ)

/-- A block of rows, turned, and some columns of a block of the incoming gradient. -/
abbrev BH : FVec Ideal S1024x1024 .bf16 := fun i => ((h (i 1) (i 0) : ℝ) : EReal)
abbrev PD (n o : ℕ) : FVec Ideal ⟨2, ![1024, n]⟩ .bf16 := fun i => ((d (i 0) (at_ 3072 (o + (i 1).val)) : ℝ) : EReal)

/-- What a point adds to an element. -/
abbrev add (o : ℕ) (k : Fin 1024) (j : ℕ) : EReal := ((∑ n, h n k * d n (at_ 3072 (o + j)) : ℝ) : EReal)

/-- What a point adds, over the whole accumulator. -/
def term (j : S4x1024x768.Idx) : EReal := ((∑ n, h n (j 1) * d n (at_ 3072 ((j 0).val * 768 + (j 2).val)) : ℝ) : EReal)

theorem place (n o u v : ℕ) (inb) (i : (⟨3, ![1, 1024, n]⟩ : Shape).Idx) (ho : u * 768 + v = o) :
    add h d o (i 1) (i 2) = term h d ((Rect.unit (s := S4x1024x768) ![u, 0, v] ![1, 1024, n] inb).emb i) := by
  have h0 : (i 0).val = 0 := Nat.lt_one_iff.mp (i 0).isLt
  refine congrArg Real.toEReal (Finset.sum_congr rfl fun r _ => congrArg₂ (fun a b => h r a * d r b) (Fin.ext ?_) (congrArg (at_ 3072) ?_)) <;>
    simp [Rect.emb_apply, h0, ← ho, Nat.add_assoc]

theorem pay5_zero (i) : k0_pay5 (F := Ideal) i = 0 := by
  pointwise [k0_pay5]

theorem pay3_apply (a : Vec Ideal S4x1024x768 .f32) (i) : k0_pay3 (F := Ideal) a i = a i := by
  pointwise [k0_pay3]

theorem pay6_real (o : ℕ) (a : Vec Ideal S1x1024x512 .f32) (i) : k0_pay6 (F := Ideal) (BH h) a (PD d 512 o) i = a i + add h d o (i 1) (i 2) := by
  pointwise [k0_pay6, k0_pay4]
  simp only [mul_coe, sum_coe]
  refine congrArg (· + _) (congrArg a (funext fun q => Fin.ext ?_))
  fin_cases q
  · have h0 : (i 0).val < 1 := (i 0).isLt
    simp
  · rfl
  · rfl

theorem pay7_real (o : ℕ) (a : Vec Ideal S1x1024x256 .f32) (i) : k0_pay7 (F := Ideal) (BH h) a (PD d 256 o) i = a i + add h d o (i 1) (i 2) := by
  pointwise [k0_pay7, k0_pay4]
  simp only [mul_coe, sum_coe]
  refine congrArg (· + _) (congrArg a (funext fun q => Fin.ext ?_))
  fin_cases q
  · have h0 : (i 0).val < 1 := (i 0).isLt
    simp
  · rfl
  · rfl

theorem pay10_real (o : ℕ) (a : Vec Ideal S1x1024x768 .f32) (i) : k0_pay10 (F := Ideal) (k0_pay8 a) (k0_pay9 (BH h) (PD d 768 o)) i = a i + add h d o (i 1) (i 2) := by
  pointwise [k0_pay10, k0_pay8, k0_pay9, k0_pay4]
  simp only [mul_coe, sum_coe]
  refine congrArg (· + _) (congrArg a (funext fun q => Fin.ext ?_))
  fin_cases q
  · have h0 : (i 0).val < 1 := (i 0).isLt
    simp
  · rfl
  · rfl

theorem pay11_real (o : ℕ) (a : Vec Ideal S1x1024x512 .f32) (i) : k0_pay11 (F := Ideal) (k0_pay4 (BH h)) a (PD d 512 o) i = a i + add h d o (i 1) (i 2) := by
  pointwise [k0_pay11, k0_pay4]
  simp only [mul_coe, sum_coe]
  refine congrArg (· + _) (congrArg a (funext fun q => Fin.ext ?_))
  fin_cases q
  · have h0 : (i 0).val < 1 := (i 0).isLt
    simp
  · rfl
  · rfl

theorem pay12_real (o : ℕ) (a : Vec Ideal S1x1024x256 .f32) (i) : k0_pay12 (F := Ideal) (k0_pay4 (BH h)) a (PD d 256 o) i = a i + add h d o (i 1) (i 2) := by
  pointwise [k0_pay12, k0_pay4]
  simp only [mul_coe, sum_coe]
  refine congrArg (· + _) (congrArg a (funext fun q => Fin.ext ?_))
  fin_cases q
  · have h0 : (i 0).val < 1 := (i 0).isLt
    simp
  · rfl
  · rfl

theorem pay1_real (o : ℕ) (a : Vec Ideal S1x1024x256 .f32) (i) : k0_pay1 (F := Ideal) (k0_pay13 (k0_pay4 (BH h)) a (PD d 256 o)) i = a i + add h d o (i 1) (i 2) := by
  pointwise [k0_pay1, k0_pay13, k0_pay4]
  simp only [mul_coe, sum_coe]
  refine congrArg (· + _) (congrArg a (funext fun q => Fin.ext ?_))
  fin_cases q
  · have h0 : (i 0).val < 1 := (i 0).isLt
    simp
  · rfl
  · rfl

theorem pay2_real (o : ℕ) (a : Vec Ideal S1x1024x512 .f32) (i) : k0_pay2 (F := Ideal) (k0_pay4 (BH h)) a (PD d 512 o) i = a i + add h d o (i 1) (i 2) := by
  pointwise [k0_pay2, k0_pay4]
  simp only [mul_coe, sum_coe]
  refine congrArg (· + _) (congrArg a (funext fun q => Fin.ext ?_))
  fin_cases q
  · have h0 : (i 0).val < 1 := (i 0).isLt
    simp
  · rfl
  · rfl

end payloads

variable (m : (ℓ : Loc nD τ sig) → Buf (Elt Ideal) ℓ)

theorem idx : ∀ t : Fin cfg0.N, win0_0.index t = ![0, t.val] ∧ win0_1.index t = ![t.val, 0] ∧ win0_2.index t = ![t.val, 0] ∧ win0_3.index t = ![t.val, 0]
    ∧ win0_4.index t = ![t.val, 0] ∧ win0_5.index t = ![0, 0, 0] :=
  (by decide +kernel : ∀ t : Fin grid0.N, _)

/-- The row of the arrays that a point's blocks have at `r`. -/
def row (t : Fin cfg0.N) (r : Fin 1024) : Fin 8192 := ⟨t.val * 1024 + r.val, by have h : t.val < 8 := lt_of_lt_of_eq t.isLt N_0; omega⟩

variable {m} {x : Fin 8192 → Fin 1024 → ℝ} {g : Fin 1024 → ℝ} {p : Fin 8192 → Fin 512 → ℝ} {q : Fin 8192 → Fin 1536 → ℝ} {s t : Fin 8192 → Fin 512 → ℝ} {c : Dev nD}

/-- The incoming gradient's rows of a point's block. -/
abbrev rows (p : Fin 8192 → Fin 512 → ℝ) (q : Fin 8192 → Fin 1536 → ℝ) (s t : Fin 8192 → Fin 512 → ℝ) (z : Fin cfg0.N) (r : Fin 1024) : Fin 3072 → ℝ :=
  cat (p (row z r)) (q (row z r)) (s (row z r)) (t (row z r))

abbrev BA (p : Fin 8192 → Fin 512 → ℝ) (z : Fin cfg0.N) : FVec Ideal S1024x512 .bf16 := fun i => ((p (row z (i 0)) (i 1) : ℝ) : EReal)
abbrev BQ (q : Fin 8192 → Fin 1536 → ℝ) (z : Fin cfg0.N) : FVec Ideal S1024x1536 .bf16 := fun i => ((q (row z (i 0)) (i 1) : ℝ) : EReal)

theorem host_rows : (V m c main_v13 : FVec Ideal S1024x8192 .bf16)
    = (truncf .bf16 (transpose S1024x8192 [1, 0] (DwInRefIdeal.Read.val_main_v11 (F := Ideal) (m ((c : Thread nD τ).loc main_arg0)) (m ((c : Thread nD τ).loc main_arg1)))
      transposes_S8192x1024_S1024x8192_1_0) bitsLt_bf16_f32 : FVec Ideal S1024x8192 .bf16) := by
  unfold V
  after_reads_simp
  rfl

theorem blk0 (hx : m ((c : Thread nD τ).loc main_arg0) = XX x) (hg : m ((c : Thread nD τ).loc main_arg1) = XG g) (z : Fin cfg0.N) :
    iblk m c 0 z = BH fun r => nrm (x (row z r)) g := by
  funext i
  blk_simp [iblk, idx z]
  rw [host_rows, hx, hg, DwInRefIdeal.Val.v11_real]
  pointwise
  refine congrArg Real.toEReal (congrArg₂ (fun n => nrm (x n) g) (Fin.ext ?_) (Fin.ext ?_)) <;> blk_simp [idx z, row]

theorem blk1 (h : m ((c : Thread nD τ).loc main_arg3) = ZA p) (z : Fin cfg0.N) : iblk m c 1 z = BA p z := by
  funext i
  blk_simp [iblk, idx z]
  entry_read
  rw [h]
  pointwise
  refine congrArg Real.toEReal (congrArg₂ p (Fin.ext ?_) (Fin.ext ?_)) <;> blk_simp [idx z, row]

theorem blk2 (h : m ((c : Thread nD τ).loc main_arg4) = ZQ q) (z : Fin cfg0.N) : iblk m c 2 z = BQ q z := by
  funext i
  blk_simp [iblk, idx z]
  entry_read
  rw [h]
  pointwise
  refine congrArg Real.toEReal (congrArg₂ q (Fin.ext ?_) (Fin.ext ?_)) <;> blk_simp [idx z, row]

theorem blk3 (h : m ((c : Thread nD τ).loc main_arg5) = ZA s) (z : Fin cfg0.N) : iblk m c 3 z = BA s z := by
  funext i
  blk_simp [iblk, idx z]
  entry_read
  rw [h]
  pointwise
  refine congrArg Real.toEReal (congrArg₂ s (Fin.ext ?_) (Fin.ext ?_)) <;> blk_simp [idx z, row]

theorem blk4 (h : m ((c : Thread nD τ).loc main_arg6) = ZA t) (z : Fin cfg0.N) : iblk m c 4 z = BA t z := by
  funext i
  blk_simp [iblk, idx z]
  entry_read
  rw [h]
  pointwise
  refine congrArg Real.toEReal (congrArg₂ t (Fin.ext ?_) (Fin.ext ?_)) <;> blk_simp [idx z, row]

theorem whole_p (z : Fin cfg0.N) : BA p z = PD (rows p q s t z) 512 0 := by
  funext i
  exact congrArg Real.toEReal (cat_p _ _ _ _ _ (i 1).isLt).symm

theorem whole_t (z : Fin cfg0.N) : BA t z = PD (rows p q s t z) 512 2560 := by
  funext i
  exact congrArg Real.toEReal (cat_t _ _ _ _ _ (i 1).isLt).symm

theorem ldQ (z : Fin cfg0.N) (n o b : ℕ) (h) (hb : 512 + o = b) :
    View.ld (Val := Elt Ideal) (e' := .bf16) (S := S1024x1536) (BQ q z) (Rect.unit ![0, o] ![1024, n] h) = PD (rows p q s t z) n b := by
  subst hb
  funext i
  have hi : o + (i 1).val < 1536 := lt_of_lt_of_le (Nat.add_lt_add_left (i 1).isLt o) (h 1)
  refine congrArg Real.toEReal (Eq.trans ?_ (congrArg (fun j => rows p q s t z (i 0) (at_ 3072 j)) (Nat.add_assoc 512 o (i 1).val)).symm)
  refine Eq.trans ?_ (cat_q _ _ _ _ _ hi).symm
  refine congrArg₂ (fun r => q (row z r)) (Fin.ext ?_) (Fin.ext ?_) <;> pointwise

theorem ldS (z : Fin cfg0.N) (n o b : ℕ) (h) (hb : 2048 + o = b) :
    View.ld (Val := Elt Ideal) (e' := .bf16) (S := S1024x512) (BA s z) (Rect.unit ![0, o] ![1024, n] h) = PD (rows p q s t z) n b := by
  subst hb
  funext i
  have hi : o + (i 1).val < 512 := lt_of_lt_of_le (Nat.add_lt_add_left (i 1).isLt o) (h 1)
  refine congrArg Real.toEReal (Eq.trans ?_ (congrArg (fun j => rows p q s t z (i 0) (at_ 3072 j)) (Nat.add_assoc 2048 o (i 1).val)).symm)
  refine Eq.trans ?_ (cat_s _ _ _ _ _ hi).symm
  refine congrArg₂ (fun r => s (row z r)) (Fin.ext ?_) (Fin.ext ?_) <;> pointwise

theorem mem7 (j : S4x1024x768.Idx) :
    j ∈ (Rect.unit (s := S4x1024x768) ![3, 0, 256] ![1, 1024, 512] inb_S4x1024x768_S1x1024x512_3_0_256).set
      ∨ j ∈ (Rect.unit (s := S4x1024x768) ![3, 0, 0] ![1, 1024, 256] inb_S4x1024x768_S1x1024x256_3_0_0).set
      ∨ j ∈ (Rect.unit (s := S4x1024x768) ![2, 0, 512] ![1, 1024, 256] inb_S4x1024x768_S1x1024x256_2_0_512).set
      ∨ j ∈ (Rect.unit (s := S4x1024x768) ![2, 0, 0] ![1, 1024, 512] inb_S4x1024x768_S1x1024x512_2_0_0).set
      ∨ j ∈ (Rect.unit (s := S4x1024x768) ![1, 0, 0] ![1, 1024, 768] inb_S4x1024x768_S1x1024x768_1_0_0).set
      ∨ j ∈ (Rect.unit (s := S4x1024x768) ![0, 0, 512] ![1, 1024, 256] inb_S4x1024x768_S1x1024x256_0_0_512).set
      ∨ j ∈ (Rect.unit (s := S4x1024x768) ![0, 0, 0] ![1, 1024, 512] inb_S4x1024x768_S1x1024x512_0_0_0).set := by
  have h0 : (j 0 : ℕ) < 4 := (j 0).isLt
  have h1 : (j 1 : ℕ) < 1024 := (j 1).isLt
  have h2 : (j 2 : ℕ) < 768 := (j 2).isLt
  simp only [Rect.mem_set_unit, Fin.forall_fin_succ]
  simp
  omega

variable (h0 : m ((c : Thread nD τ).loc main_arg0) = XX x) (h1 : m ((c : Thread nD τ).loc main_arg1) = XG g)
  (h3 : m ((c : Thread nD τ).loc main_arg3) = ZA p) (h4 : m ((c : Thread nD τ).loc main_arg4) = ZQ q) (h5 : m ((c : Thread nD τ).loc main_arg5) = ZA s)
  (h6 : m ((c : Thread nD τ).loc main_arg6) = ZA t)
include h0 h1 h3 h4 h5 h6

/-- A grid point's seven stores add its products to what the accumulator held. -/
theorem step7 (a : S4x1024x768.Idx → EReal) (a7 : S1x1024x512.Idx → EReal) (a6 : S1x1024x256.Idx → EReal) (a5 : S1x1024x256.Idx → EReal) (a4 : S1x1024x512.Idx → EReal) (a3 : S1x1024x768.Idx → EReal) (a2 : S1x1024x256.Idx → EReal) (a1 : S1x1024x512.Idx → EReal)
    (L : List (View.Piece (Elt Ideal) S4x1024x768 .f32))
    (e7 : ∀ i, a7 i = a ((Rect.unit (s := S4x1024x768) ![3, 0, 256] ![1, 1024, 512] inb_S4x1024x768_S1x1024x512_3_0_256).emb i))
    (e6 : ∀ i, a6 i = a ((Rect.unit (s := S4x1024x768) ![3, 0, 0] ![1, 1024, 256] inb_S4x1024x768_S1x1024x256_3_0_0).emb i))
    (e5 : ∀ i, a5 i = a ((Rect.unit (s := S4x1024x768) ![2, 0, 512] ![1, 1024, 256] inb_S4x1024x768_S1x1024x256_2_0_512).emb i))
    (e4 : ∀ i, a4 i = a ((Rect.unit (s := S4x1024x768) ![2, 0, 0] ![1, 1024, 512] inb_S4x1024x768_S1x1024x512_2_0_0).emb i))
    (e3 : ∀ i, a3 i = a ((Rect.unit (s := S4x1024x768) ![1, 0, 0] ![1, 1024, 768] inb_S4x1024x768_S1x1024x768_1_0_0).emb i))
    (e2 : ∀ i, a2 i = a ((Rect.unit (s := S4x1024x768) ![0, 0, 512] ![1, 1024, 256] inb_S4x1024x768_S1x1024x256_0_0_512).emb i))
    (e1 : ∀ i, a1 i = a ((Rect.unit (s := S4x1024x768) ![0, 0, 0] ![1, 1024, 512] inb_S4x1024x768_S1x1024x512_0_0_0).emb i)) (z : Fin cfg0.N) (j : S4x1024x768.Idx) :
    View.canon (⟨Rect.unit (s := S4x1024x768) ![3, 0, 256] ![1, 1024, 512] inb_S4x1024x768_S1x1024x512_3_0_256, k0_pay2 (F := Ideal) (k0_pay4 (iblk m c 0 z)) a7 (iblk m c 4 z)⟩
      :: ⟨Rect.unit (s := S4x1024x768) ![3, 0, 0] ![1, 1024, 256] inb_S4x1024x768_S1x1024x256_3_0_0, k0_pay1 (F := Ideal) (k0_pay13 (k0_pay4 (iblk m c 0 z)) a6 (View.ld (iblk m c 3 z) (Rect.unit (s := S1024x512) ![0, 256] ![1024, 256] inb_S1024x512_S1024x256_0_256)))⟩
      :: ⟨Rect.unit (s := S4x1024x768) ![2, 0, 512] ![1, 1024, 256] inb_S4x1024x768_S1x1024x256_2_0_512, k0_pay12 (F := Ideal) (k0_pay4 (iblk m c 0 z)) a5 (View.ld (iblk m c 3 z) (Rect.unit (s := S1024x512) ![0, 0] ![1024, 256] inb_S1024x512_S1024x256_0_0))⟩
      :: ⟨Rect.unit (s := S4x1024x768) ![2, 0, 0] ![1, 1024, 512] inb_S4x1024x768_S1x1024x512_2_0_0, k0_pay11 (F := Ideal) (k0_pay4 (iblk m c 0 z)) a4 (View.ld (iblk m c 2 z) (Rect.unit (s := S1024x1536) ![0, 1024] ![1024, 512] inb_S1024x1536_S1024x512_0_1024))⟩
      :: ⟨Rect.unit (s := S4x1024x768) ![1, 0, 0] ![1, 1024, 768] inb_S4x1024x768_S1x1024x768_1_0_0, k0_pay10 (F := Ideal) (k0_pay8 a3) (k0_pay9 (iblk m c 0 z) (View.ld (iblk m c 2 z) (Rect.unit (s := S1024x1536) ![0, 256] ![1024, 768] inb_S1024x1536_S1024x768_0_256)))⟩
      :: ⟨Rect.unit (s := S4x1024x768) ![0, 0, 512] ![1, 1024, 256] inb_S4x1024x768_S1x1024x256_0_0_512, k0_pay7 (F := Ideal) (iblk m c 0 z) a2 (View.ld (iblk m c 2 z) (Rect.unit (s := S1024x1536) ![0, 0] ![1024, 256] inb_S1024x1536_S1024x256_0_0))⟩
      :: ⟨Rect.unit (s := S4x1024x768) ![0, 0, 0] ![1, 1024, 512] inb_S4x1024x768_S1x1024x512_0_0_0, k0_pay6 (F := Ideal) (iblk m c 0 z) a1 (iblk m c 1 z)⟩ :: L) j
    = a j + term (fun r => nrm (x (row z r)) g) (rows p q s t z) j := by
  rw [blk0 h0 h1, blk1 h3, blk2 h4, blk3 h5, blk4 h6, whole_p (p := p) (q := q) (s := s) (t := t), whole_t (p := p) (q := q) (s := s) (t := t),
    ldS (p := p) (q := q) (s := s) (t := t) z 256 256 2304 _ rfl, ldS (p := p) (q := q) (s := s) (t := t) z 256 0 2048 _ rfl,
    ldQ (p := p) (q := q) (s := s) (t := t) z 512 1024 1536 _ rfl, ldQ (p := p) (q := q) (s := s) (t := t) z 768 256 768 _ rfl,
    ldQ (p := p) (q := q) (s := s) (t := t) z 256 0 512 _ rfl]
  refine View.canon_append_of_piecesOf (fun j => a j + term (fun r => nrm (x (row z r)) g) (rows p q s t z) j) L [_, _, _, _, _, _, _]
    ⟨fun i => ?_, fun i => ?_, fun i => ?_, fun i => ?_, fun i => ?_, fun i => ?_, fun i => ?_, trivial⟩ j ?_
  · exact (pay2_real _ _ 2560 _ i).trans (congrArg₂ (· + ·) (e7 i) (place _ _ 512 2560 3 256 inb_S4x1024x768_S1x1024x512_3_0_256 i rfl))
  · exact (pay1_real _ _ 2304 _ i).trans (congrArg₂ (· + ·) (e6 i) (place _ _ 256 2304 3 0 inb_S4x1024x768_S1x1024x256_3_0_0 i rfl))
  · exact (pay12_real _ _ 2048 _ i).trans (congrArg₂ (· + ·) (e5 i) (place _ _ 256 2048 2 512 inb_S4x1024x768_S1x1024x256_2_0_512 i rfl))
  · exact (pay11_real _ _ 1536 _ i).trans (congrArg₂ (· + ·) (e4 i) (place _ _ 512 1536 2 0 inb_S4x1024x768_S1x1024x512_2_0_0 i rfl))
  · exact (pay10_real _ _ 768 _ i).trans (congrArg₂ (· + ·) (e3 i) (place _ _ 768 768 1 0 inb_S4x1024x768_S1x1024x768_1_0_0 i rfl))
  · exact (pay7_real _ _ 512 _ i).trans (congrArg₂ (· + ·) (e2 i) (place _ _ 256 512 0 512 inb_S4x1024x768_S1x1024x256_0_0_512 i rfl))
  · exact (pay6_real _ _ 0 _ i).trans (congrArg₂ (· + ·) (e1 i) (place _ _ 512 0 0 0 inb_S4x1024x768_S1x1024x512_0_0_0 i rfl))
  · rcases mem7 j with h | h | h | h | h | h | h
    · exact ⟨_, .head _, h⟩
    · exact ⟨_, .tail _ (.head _), h⟩
    · exact ⟨_, .tail _ (.tail _ (.head _)), h⟩
    · exact ⟨_, .tail _ (.tail _ (.tail _ (.head _))), h⟩
    · exact ⟨_, .tail _ (.tail _ (.tail _ (.tail _ (.head _)))), h⟩
    · exact ⟨_, .tail _ (.tail _ (.tail _ (.tail _ (.tail _ (.head _))))), h⟩
    · exact ⟨_, .tail _ (.tail _ (.tail _ (.tail _ (.tail _ (.tail _ (.head _)))))), h⟩

theorem first (z : Fin cfg0.N) (h : z.val % 8 = 0) (j : S4x1024x768.Idx) :
    (outsAt0 m c z.val z.isLt).2 j = 0 + term (fun r => nrm (x (row z r)) g) (rows p q s t z) j := by
  rw [outsAt0_A m c z h (by omega)]
  frame_out
  refine step7 h0 h1 h3 h4 h5 h6 (fun _ => 0) _ _ _ _ _ _ _ [_] (fun i => ?_) (fun i => ?_) (fun i => ?_) (fun i => ?_) (fun i => ?_) (fun i => ?_) (fun i => ?_) z j
  · rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
    exact pay5_zero _
  · rw [View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
    exact pay5_zero _
  · rw [View.readCov_skip _ _ _ _ _ (by decide), View.readCov_skip _ _ _ _ _ (by decide), View.readCov_skip _ _ _ _ _ (by decide), View.readCov_skip _ _ _ _ _ (by decide), View.readCov_fill _ _ _ _ _ (by decide)]
    exact pay5_zero _
  · rw [View.readCov_skip _ _ _ _ _ (by decide), View.readCov_skip _ _ _ _ _ (by decide), View.readCov_skip _ _ _ _ _ (by decide), View.readCov_fill _ _ _ _ _ (by decide)]
    exact pay5_zero _
  · rw [View.readCov_skip _ _ _ _ _ (by decide), View.readCov_skip _ _ _ _ _ (by decide), View.readCov_fill _ _ _ _ _ (by decide)]
    exact pay5_zero _
  · rw [View.readCov_skip _ _ _ _ _ (by decide), View.readCov_fill _ _ _ _ _ (by decide)]
    exact pay5_zero _
  · rw [View.readCov_fill _ _ _ _ _ (by decide)]
    exact pay5_zero _

theorem next (z : Fin cfg0.N) (h : ¬z.val % 8 = 0) (j : S4x1024x768.Idx) :
    (outsAt0 m c z.val z.isLt).2 j = (outsAt0 m c (z.val - 1) (lt_of_le_of_lt (Nat.sub_le _ _) z.isLt)).2 j
      + term (fun r => nrm (x (row z r)) g) (rows p q s t z) j := by
  by_cases h' : z.val % 8 = 7
  · rw [outsAt0_C m c z h h']
    frame_out
    exact step7 h0 h1 h3 h4 h5 h6 _ _ _ _ _ _ _ _ [] (fun i => congrFun (Memref.IsWhole.read_unread _ _) _) (fun i => congrFun (Memref.IsWhole.read_unread _ _) _) (fun i => congrFun (Memref.IsWhole.read_unread _ _) _) (fun i => congrFun (Memref.IsWhole.read_unread _ _) _) (fun i => congrFun (Memref.IsWhole.read_unread _ _) _) (fun i => congrFun (Memref.IsWhole.read_unread _ _) _) (fun i => congrFun (Memref.IsWhole.read_unread _ _) _) z j
  · rw [outsAt0_B m c z h h']
    frame_out
    exact step7 h0 h1 h3 h4 h5 h6 _ _ _ _ _ _ _ _ [] (fun i => congrFun (Memref.IsWhole.read_unread _ _) _) (fun i => congrFun (Memref.IsWhole.read_unread _ _) _) (fun i => congrFun (Memref.IsWhole.read_unread _ _) _) (fun i => congrFun (Memref.IsWhole.read_unread _ _) _) (fun i => congrFun (Memref.IsWhole.read_unread _ _) _) (fun i => congrFun (Memref.IsWhole.read_unread _ _) _) (fun i => congrFun (Memref.IsWhole.read_unread _ _) _) z j

omit h0 h1 h3 h4 h5 h6 in
theorem last (z : Fin cfg0.N) (h : ¬z.val % 8 = 0) (h' : z.val % 8 = 7) (j : S4x1024x768.Idx) :
    (outsAt0 m c z.val z.isLt).1 j = (outsAt0 m c z.val z.isLt).2 j := by
  rw [outsAt0_C m c z h h']
  frame_out
  rw [pay3_apply, View.readCov_eq_canon']
  refine congrArg _ (funext fun q => Fin.ext ?_)
  fin_cases q <;> simp

/-- The gradient after the run, in four shards. -/
theorem final5 : (dats m 0 c).arrAt 5 (cfgs 0).N = fun i => ((dw x g p q s t (i 1) (at_ 3072 ((i 0).val * 768 + (i 2).val)) : ℝ) : EReal) := by
  refine (dats m 0 c).arrAt_eq_of_after_last 5 t0_7 (by decide +kernel) _ fun j => ?_
  blk_simp
  rw [after0_5, last t0_7 (by decide) rfl, Pipeline.eq_sum_fin_of_reset_step_apply_last (fun n h => (outsAt0 m c n h).2) 8 (fun _ => 0)
    (fun z j => term (fun r => nrm (x (row z r)) g) (rows p q s t z) j) (fun z h j => first h0 h1 h3 h4 h5 h6 z h j)
    (fun z h j => next h0 h1 h3 h4 h5 h6 z h j) (le_of_eq N_0) t0_7 rfl j, zero_add]
  simp only [term]
  rw [sum_coe]
  exact congrArg Real.toEReal (Fin.sum_mul_add_congr (S := 8) (n := 1024)
    (f := fun n => nrm (x n) g (j 1) * cat (p n) (q n) (s n) (t n) (at_ 3072 ((j 0).val * 768 + (j 2).val))) fun _ _ _ => rfl)

end Cert.DwInIdeal.Val

end
-- ==== Proof.DwIn.lean ====
module

public import proofs.«01_k».proof.Defs
public import proofs.«01_k».proof.Proof.DwInKernel
public import proofs.«01_k».proof.Proof.FfnIn
public import proofs.«01_k».proof.Proof.Gen.Pre_finite_dwin
public import Idealize.ShloMosaic.Lib.KernelVsHost
public import proofs.«01_k».proof.Proof.Gen.DwInRefIdeal.Run

@[expose] public section

/-! # The gradient in the input projection's weights: kernel and reference agree -/

set_option maxRecDepth 16384

noncomputable section

open Idealize.ShloMosaic Idealize.ShloMosaic.TcCoe Idealize.SL.Sem

namespace Cert.DwInIdeal.Val

open Cert.Lift
open Cert.FfnInRefIdeal.Val (XX XG)
open Cert.InProjRefIdeal.Val (ZA ZQ)

theorem pre_real (a0 : FVec Ideal DwInIdeal.S8192x1024 .f32) (a1 : FVec Ideal DwInIdeal.S1x1024 .f32) (a2 : FVec Ideal DwInIdeal.S1024x3072 .f32)
    (a3 : FVec Ideal DwInIdeal.S8192x512 .f32) (a4 : FVec Ideal DwInIdeal.S8192x1536 .f32) (a5 a6 : FVec Ideal DwInIdeal.S8192x512 .f32)
    (h : (Cert.Pre_finite_dwin.fn (F := Ideal) a0 a1 a2 a3 a4 a5 a6).1 = (fun _ => 1#1)
      ∧ (Cert.Pre_finite_dwin.fn (F := Ideal) a0 a1 a2 a3 a4 a5 a6).2.1 = (fun _ => 1#1)
      ∧ (Cert.Pre_finite_dwin.fn (F := Ideal) a0 a1 a2 a3 a4 a5 a6).2.2.1 = (fun _ => 1#1)
      ∧ (Cert.Pre_finite_dwin.fn (F := Ideal) a0 a1 a2 a3 a4 a5 a6).2.2.2.1 = (fun _ => 1#1)
      ∧ (Cert.Pre_finite_dwin.fn (F := Ideal) a0 a1 a2 a3 a4 a5 a6).2.2.2.2.1 = (fun _ => 1#1)
      ∧ (Cert.Pre_finite_dwin.fn (F := Ideal) a0 a1 a2 a3 a4 a5 a6).2.2.2.2.2.1 = (fun _ => 1#1)
      ∧ (Cert.Pre_finite_dwin.fn (F := Ideal) a0 a1 a2 a3 a4 a5 a6).2.2.2.2.2.2 = (fun _ => 1#1)) :
    ∃ x g p q s t, a0 = XX x ∧ a1 = XG g ∧ a3 = ZA p ∧ a4 = ZQ q ∧ a5 = ZA s ∧ a6 = ZA t := by
  obtain ⟨x, hx⟩ := FfnInIdeal.Val.real_matrix a0 fun i => congrFun h.1 i
  obtain ⟨g, hg⟩ := FfnInIdeal.Val.real_row a1 fun i => congrFun h.2.1 i
  obtain ⟨p, hp⟩ := FfnInIdeal.Val.real_matrix a3 fun i => congrFun h.2.2.2.1 i
  obtain ⟨q, hq⟩ := FfnInIdeal.Val.real_matrix a4 fun i => congrFun h.2.2.2.2.1 i
  obtain ⟨s, hs⟩ := FfnInIdeal.Val.real_matrix a5 fun i => congrFun h.2.2.2.2.2.1 i
  obtain ⟨t, ht⟩ := FfnInIdeal.Val.real_matrix a6 fun i => congrFun h.2.2.2.2.2.2 i
  exact ⟨x, g, p, q, s, t, hx, hg, hp, hq, hs, ht⟩

theorem algebraic : Cert.algebraic_DwInIdeal_DwInRefIdeal_pre_finite_dwin := by
  pair_intro
  · exact Cert.DwInIdeal.Value.run_blocks m g
  · choose x γ p q s t h0 h1 h3 h4 h5 h6 using fun c => pre_real _ _ _ _ _ _ _ (hpre c)
    run_from Cert.DwInRefIdeal.Value.run m' g'
    obtain ⟨a0, a1, a2, a3, a4, a5, a6⟩ := hagree c
    rw [final5 (h0 c) (h1 c) (h3 c) (h4 c) (h5 c) (h6 c)]
    refine (DwInRefIdeal.Read.val_main_v18_eq _ _ _ _ _ _).trans ?_
    rw [a3, a4, a5, a6, h0 c, h1 c, h3 c, h4 c, h5 c, h6 c]
    exact DwInRefIdeal.Val.v18_real _ _ _ _ _ _

end Cert.DwInIdeal.Val

end
-- ==== Proof.lean ====
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Pre_finite_loss
public import proofs.«01_k».proof.Proof.Gen.LossIdeal.Value
public import proofs.«01_k».proof.Proof.Gen.LossRefIdeal.Run
public import proofs.«01_k».proof.Proof.Gen.LossRefIdeal.Read
public import proofs.«01_k».proof.Proof.Loss
public import proofs.«01_k».proof.Proof.Gen.Gm
public import proofs.«01_k».proof.Proof.Gen.Gm.Skeleton
public import proofs.«01_k».proof.Proof.Gen.Gm.Launch
public import proofs.«01_k».proof.Proof.Gen.Gm.Points
public import proofs.«01_k».proof.Proof.Gen.Gm.Frame
public import proofs.«01_k».proof.Proof.Gen.GmIdeal
public import proofs.«01_k».proof.Proof.Gen.GmIdeal.Skeleton
public import proofs.«01_k».proof.Proof.Gen.GmIdeal.Launch
public import proofs.«01_k».proof.Proof.Gen.GmIdeal.Points
public import proofs.«01_k».proof.Proof.Gen.GmIdeal.Frame
public import proofs.«01_k».proof.Proof.Gen.GmRefIdeal
public import proofs.«01_k».proof.Proof.Gen.Pre_finite_gm
public import proofs.«01_k».proof.Proof.Gen.GmIdeal.Value
public import proofs.«01_k».proof.Proof.Gen.GmRefIdeal.Run
public import proofs.«01_k».proof.Proof.Gen.GmRefIdeal.Read
public import proofs.«01_k».proof.Proof.Gm
public import proofs.«01_k».proof.Proof.Gen.RetMain
public import proofs.«01_k».proof.Proof.Gen.RetMain.Skeleton
public import proofs.«01_k».proof.Proof.Gen.RetMain.Launch
public import proofs.«01_k».proof.Proof.Gen.RetMain.Points
public import proofs.«01_k».proof.Proof.Gen.RetMain.Frame
public import proofs.«01_k».proof.Proof.Gen.RetMainIdeal
public import proofs.«01_k».proof.Proof.Gen.RetMainIdeal.Skeleton
public import proofs.«01_k».proof.Proof.Gen.RetMainIdeal.Launch
public import proofs.«01_k».proof.Proof.Gen.RetMainIdeal.Points
public import proofs.«01_k».proof.Proof.Gen.RetMainIdeal.Frame
public import proofs.«01_k».proof.Proof.Gen.RetMainRefIdeal
public import proofs.«01_k».proof.Proof.Gen.Pre_finite_retmain
public import proofs.«01_k».proof.Proof.Gen.RetMainIdeal.Value
public import proofs.«01_k».proof.Proof.Gen.RetMainRefIdeal.Run
public import proofs.«01_k».proof.Proof.Gen.RetMainRefIdeal.Read
public import proofs.«01_k».proof.Proof.RetMain
public import proofs.«01_k».proof.Proof.Gen.RetCarry
public import proofs.«01_k».proof.Proof.Gen.RetCarry.Skeleton
public import proofs.«01_k».proof.Proof.Gen.RetCarry.Launch
public import proofs.«01_k».proof.Proof.Gen.RetCarry.Points
public import proofs.«01_k».proof.Proof.Gen.RetCarry.Frame
public import proofs.«01_k».proof.Proof.Gen.RetCarryIdeal
public import proofs.«01_k».proof.Proof.Gen.RetCarryIdeal.Skeleton
public import proofs.«01_k».proof.Proof.Gen.RetCarryIdeal.Launch
public import proofs.«01_k».proof.Proof.Gen.RetCarryIdeal.Points
public import proofs.«01_k».proof.Proof.Gen.RetCarryIdeal.Frame
public import proofs.«01_k».proof.Proof.Gen.RetCarryRefIdeal
public import proofs.«01_k».proof.Proof.Gen.Pre_finite_retcarry
public import proofs.«01_k».proof.Proof.Gen.RetCarryIdeal.Value
public import proofs.«01_k».proof.Proof.Gen.RetCarryRefIdeal.Run
public import proofs.«01_k».proof.Proof.Gen.RetCarryRefIdeal.Read
public import proofs.«01_k».proof.Proof.RetCarry
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluRefIdeal
public import proofs.«01_k».proof.Proof.Gen.Pre_finite_swiglu
public import proofs.«01_k».proof.Proof.Gen.SwigluIdeal.Value
public import proofs.«01_k».proof.Proof.Gen.SwigluRefIdeal.Run
public import proofs.«01_k».proof.Proof.Gen.SwigluRefIdeal.Read
public import proofs.«01_k».proof.Proof.Swiglu
public import proofs.«01_k».proof.Proof.Gen.SwigluW
public import proofs.«01_k».proof.Proof.Gen.SwigluW.Skeleton
public import proofs.«01_k».proof.Proof.Gen.SwigluW.Launch
public import proofs.«01_k».proof.Proof.Gen.SwigluW.Points
public import proofs.«01_k».proof.Proof.Gen.SwigluW.Frame
public import proofs.«01_k».proof.Proof.Gen.SwigluWIdeal
public import proofs.«01_k».proof.Proof.Gen.SwigluWIdeal.Skeleton
public import proofs.«01_k».proof.Proof.Gen.SwigluWIdeal.Launch
public import proofs.«01_k».proof.Proof.Gen.SwigluWIdeal.Points
public import proofs.«01_k».proof.Proof.Gen.SwigluWIdeal.Frame
public import proofs.«01_k».proof.Proof.Gen.SwigluWRefIdeal
public import proofs.«01_k».proof.Proof.Gen.Pre_finite_swigluw
public import proofs.«01_k».proof.Proof.Gen.SwigluWIdeal.Value
public import proofs.«01_k».proof.Proof.Gen.SwigluWRefIdeal.Run
public import proofs.«01_k».proof.Proof.Gen.SwigluWRefIdeal.Read
public import proofs.«01_k».proof.Proof.SwigluW
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInRefIdeal
public import proofs.«01_k».proof.Proof.Gen.Pre_finite_ffnin
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.FfnIn
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Pre_finite_inproj
public import proofs.«01_k».proof.Proof.Gen.InProjIdeal.Value
public import proofs.«01_k».proof.Proof.Gen.InProjRefIdeal.Run
public import proofs.«01_k».proof.Proof.Gen.InProjRefIdeal.Read
public import proofs.«01_k».proof.Proof.InProj
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Pre_finite_outproj
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutProj
public import proofs.«01_k».proof.Proof.Gen.RetOut
public import proofs.«01_k».proof.Proof.Gen.RetOut.Skeleton
public import proofs.«01_k».proof.Proof.Gen.RetOut.Launch
public import proofs.«01_k».proof.Proof.Gen.RetOut.Points
public import proofs.«01_k».proof.Proof.Gen.RetOut.Frame
public import proofs.«01_k».proof.Proof.Gen.RetOutIdeal
public import proofs.«01_k».proof.Proof.Gen.RetOutIdeal.Skeleton
public import proofs.«01_k».proof.Proof.Gen.RetOutIdeal.Launch
public import proofs.«01_k».proof.Proof.Gen.RetOutIdeal.Points
public import proofs.«01_k».proof.Proof.Gen.RetOutIdeal.Frame
public import proofs.«01_k».proof.Proof.Gen.RetOutRefIdeal
public import proofs.«01_k».proof.Proof.Gen.Pre_finite_retout
public import proofs.«01_k».proof.Proof.Gen.RetOutIdeal.Value
public import proofs.«01_k».proof.Proof.Gen.RetOutRefIdeal.Run
public import proofs.«01_k».proof.Proof.Gen.RetOutRefIdeal.Read
public import proofs.«01_k».proof.Proof.RetOut
public import proofs.«01_k».proof.Proof.Gen.GmFwd
public import proofs.«01_k».proof.Proof.Gen.GmFwd.Skeleton
public import proofs.«01_k».proof.Proof.Gen.GmFwd.Launch
public import proofs.«01_k».proof.Proof.Gen.GmFwd.Points
public import proofs.«01_k».proof.Proof.Gen.GmFwd.Frame
public import proofs.«01_k».proof.Proof.Gen.GmFwdIdeal
public import proofs.«01_k».proof.Proof.Gen.GmFwdIdeal.Skeleton
public import proofs.«01_k».proof.Proof.Gen.GmFwdIdeal.Launch
public import proofs.«01_k».proof.Proof.Gen.GmFwdIdeal.Points
public import proofs.«01_k».proof.Proof.Gen.GmFwdIdeal.Frame
public import proofs.«01_k».proof.Proof.Gen.GmFwdRefIdeal
public import proofs.«01_k».proof.Proof.Gen.Pre_finite_gmfwd
public import proofs.«01_k».proof.Proof.Gen.GmFwdIdeal.Value
public import proofs.«01_k».proof.Proof.Gen.GmFwdRefIdeal.Run
public import proofs.«01_k».proof.Proof.Gen.GmFwdRefIdeal.Read
public import proofs.«01_k».proof.Proof.GmFwd
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.RetState
public import proofs.«01_k».proof.Proof.Gen.RetState.Skeleton
public import proofs.«01_k».proof.Proof.Gen.RetState.Launch
public import proofs.«01_k».proof.Proof.Gen.RetState.Points
public import proofs.«01_k».proof.Proof.Gen.RetState.Frame
public import proofs.«01_k».proof.Proof.Gen.RetStateIdeal
public import proofs.«01_k».proof.Proof.Gen.RetStateIdeal.Skeleton
public import proofs.«01_k».proof.Proof.Gen.RetStateIdeal.Launch
public import proofs.«01_k».proof.Proof.Gen.RetStateIdeal.Points
public import proofs.«01_k».proof.Proof.Gen.RetStateIdeal.Frame
public import proofs.«01_k».proof.Proof.Gen.RetStateRefIdeal
public import proofs.«01_k».proof.Proof.Gen.Pre_finite_retstate
public import proofs.«01_k».proof.Proof.Gen.RetStateIdeal.Value
public import proofs.«01_k».proof.Proof.Gen.RetStateRefIdeal.Run
public import proofs.«01_k».proof.Proof.Gen.RetStateRefIdeal.Read
public import proofs.«01_k».proof.Proof.RetState
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutRefIdeal
public import proofs.«01_k».proof.Proof.Gen.Pre_finite_ffnout
public import proofs.«01_k».proof.Proof.Gen.FfnOutIdeal.Value
public import proofs.«01_k».proof.Proof.Gen.FfnOutRefIdeal.Run
public import proofs.«01_k».proof.Proof.Gen.FfnOutRefIdeal.Read
public import proofs.«01_k».proof.Proof.FfnOut
public import proofs.«01_k».proof.Proof.Gen.FfnNorm
public import proofs.«01_k».proof.Proof.Gen.FfnNorm.Skeleton
public import proofs.«01_k».proof.Proof.Gen.FfnNorm.Launch
public import proofs.«01_k».proof.Proof.Gen.FfnNorm.Points
public import proofs.«01_k».proof.Proof.Gen.FfnNorm.Frame
public import proofs.«01_k».proof.Proof.Gen.FfnNormIdeal
public import proofs.«01_k».proof.Proof.Gen.FfnNormIdeal.Skeleton
public import proofs.«01_k».proof.Proof.Gen.FfnNormIdeal.Launch
public import proofs.«01_k».proof.Proof.Gen.FfnNormIdeal.Points
public import proofs.«01_k».proof.Proof.Gen.FfnNormIdeal.Frame
public import proofs.«01_k».proof.Proof.Gen.FfnNormRefIdeal
public import proofs.«01_k».proof.Proof.Gen.Pre_finite_ffnnorm
public import proofs.«01_k».proof.Proof.Gen.FfnNormIdeal.Value
public import proofs.«01_k».proof.Proof.Gen.FfnNormRefIdeal.Run
public import proofs.«01_k».proof.Proof.Gen.FfnNormRefIdeal.Read
public import proofs.«01_k».proof.Proof.FfnNorm
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdRefIdeal
public import proofs.«01_k».proof.Proof.Gen.Pre_finite_outfwd
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.OutFwd
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamIdeal.Value
public import proofs.«01_k».proof.Proof.Gen.AdamRefIdeal.Run
public import proofs.«01_k».proof.Proof.Gen.AdamRefIdeal.Read
public import proofs.«01_k».proof.Proof.Adam
public import proofs.«01_k».proof.Proof.Gen.FfnDw
public import proofs.«01_k».proof.Proof.Gen.FfnDw.Skeleton
public import proofs.«01_k».proof.Proof.Gen.FfnDw.Launch
public import proofs.«01_k».proof.Proof.Gen.FfnDw.Points
public import proofs.«01_k».proof.Proof.Gen.FfnDw.Frame
public import proofs.«01_k».proof.Proof.Gen.FfnDwIdeal
public import proofs.«01_k».proof.Proof.Gen.FfnDwIdeal.Skeleton
public import proofs.«01_k».proof.Proof.Gen.FfnDwIdeal.Launch
public import proofs.«01_k».proof.Proof.Gen.FfnDwIdeal.Points
public import proofs.«01_k».proof.Proof.Gen.FfnDwIdeal.Frame
public import proofs.«01_k».proof.Proof.Gen.FfnDwRefIdeal
public import proofs.«01_k».proof.Proof.Gen.Pre_finite_ffndw
public import proofs.«01_k».proof.Proof.Gen.FfnDwIdeal.Value
public import proofs.«01_k».proof.Proof.Gen.FfnDwRefIdeal.Run
public import proofs.«01_k».proof.Proof.Gen.FfnDwRefIdeal.Read
public import proofs.«01_k».proof.Proof.FfnDw
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwRefIdeal
public import proofs.«01_k».proof.Proof.Gen.Pre_finite_outdw
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.OutDw
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.Pre_finite_dwin
public import proofs.«01_k».proof.Proof.Gen.DwInIdeal.Value
public import proofs.«01_k».proof.Proof.Gen.DwInRefIdeal.Run
public import proofs.«01_k».proof.Proof.Gen.DwInRefIdeal.Read
public import proofs.«01_k».proof.Proof.DwIn
public import Idealize.ShloMosaic.Adequacy
public import Idealize.ShloMosaic.Init

@[expose] public section

noncomputable section

namespace Cert.Proof

open Idealize.ShloMosaic Idealize.SL.Sem

theorem frame_LossRef : Cert.quiescent_LossRefIdeal := fun m ρ _ =>
  (θ_run Cert.LossRefIdeal.defs _ _).mono (fun r h => ⟨fun c => (h c).2.2.2, sem_eq_zero_of_no_sems (by decide) r.2⟩) (Cert.LossRefIdeal.Value.run m ρ)

theorem frame_GmRef : Cert.quiescent_GmRefIdeal := fun m ρ _ =>
  (θ_run Cert.GmRefIdeal.defs _ _).mono (fun r h => ⟨fun c => (h c).2.2.2.2.2, sem_eq_zero_of_no_sems (by decide) r.2⟩) (Cert.GmRefIdeal.Value.run m ρ)

theorem frame_RetMainRef : Cert.quiescent_RetMainRefIdeal := fun m ρ _ =>
  (θ_run Cert.RetMainRefIdeal.defs _ _).mono (fun r h => ⟨fun c => (h c).2, sem_eq_zero_of_no_sems (by decide) r.2⟩) (Cert.RetMainRefIdeal.Value.run m ρ)

theorem frame_RetCarryRef : Cert.quiescent_RetCarryRefIdeal := fun m ρ _ =>
  (θ_run Cert.RetCarryRefIdeal.defs _ _).mono (fun r h => ⟨fun c => (h c).2.2, sem_eq_zero_of_no_sems (by decide) r.2⟩) (Cert.RetCarryRefIdeal.Value.run m ρ)

theorem frame_SwigluRef : Cert.quiescent_SwigluRefIdeal := fun m ρ _ =>
  (θ_run Cert.SwigluRefIdeal.defs _ _).mono (fun r h => ⟨fun c => (h c).2, sem_eq_zero_of_no_sems (by decide) r.2⟩) (Cert.SwigluRefIdeal.Value.run m ρ)

theorem frame_SwigluWRef : Cert.quiescent_SwigluWRefIdeal := fun m ρ _ =>
  (θ_run Cert.SwigluWRefIdeal.defs _ _).mono (fun r h => ⟨fun c => (h c).2, sem_eq_zero_of_no_sems (by decide) r.2⟩) (Cert.SwigluWRefIdeal.Value.run m ρ)

theorem frame_FfnInRef : Cert.quiescent_FfnInRefIdeal := fun m ρ _ =>
  (θ_run Cert.FfnInRefIdeal.defs _ _).mono (fun r h => ⟨fun c => (h c).2.2, sem_eq_zero_of_no_sems (by decide) r.2⟩) (Cert.FfnInRefIdeal.Value.run m ρ)

theorem frame_InProjRef : Cert.quiescent_InProjRefIdeal := fun m ρ _ =>
  (θ_run Cert.InProjRefIdeal.defs _ _).mono (fun r h => ⟨fun c => (h c).2.2, sem_eq_zero_of_no_sems (by decide) r.2⟩) (Cert.InProjRefIdeal.Value.run m ρ)

theorem frame_OutProjRef : Cert.quiescent_OutProjRefIdeal := fun m ρ _ =>
  (θ_run Cert.OutProjRefIdeal.defs _ _).mono (fun r h => ⟨fun c => (h c).2.2.2.2, sem_eq_zero_of_no_sems (by decide) r.2⟩) (Cert.OutProjRefIdeal.Value.run m ρ)

theorem frame_RetOutRef : Cert.quiescent_RetOutRefIdeal := fun m ρ _ =>
  (θ_run Cert.RetOutRefIdeal.defs _ _).mono (fun r h => ⟨fun c => (h c).2.2, sem_eq_zero_of_no_sems (by decide) r.2⟩) (Cert.RetOutRefIdeal.Value.run m ρ)

theorem frame_GmFwdRef : Cert.quiescent_GmFwdRefIdeal := fun m ρ _ =>
  (θ_run Cert.GmFwdRefIdeal.defs _ _).mono (fun r h => ⟨fun c => (h c).2, sem_eq_zero_of_no_sems (by decide) r.2⟩) (Cert.GmFwdRefIdeal.Value.run m ρ)

theorem frame_ConvRef : Cert.quiescent_ConvRefIdeal := fun m ρ _ =>
  (θ_run Cert.ConvRefIdeal.defs _ _).mono (fun r h => ⟨fun c => (h c).2.2.2.2.2, sem_eq_zero_of_no_sems (by decide) r.2⟩) (Cert.ConvRefIdeal.Value.run m ρ)

theorem frame_RetStateRef : Cert.quiescent_RetStateRefIdeal := fun m ρ _ =>
  (θ_run Cert.RetStateRefIdeal.defs _ _).mono (fun r h => ⟨fun c => (h c).2.2, sem_eq_zero_of_no_sems (by decide) r.2⟩) (Cert.RetStateRefIdeal.Value.run m ρ)

theorem frame_FfnOutRef : Cert.quiescent_FfnOutRefIdeal := fun m ρ _ =>
  (θ_run Cert.FfnOutRefIdeal.defs _ _).mono (fun r h => ⟨fun c => (h c).2, sem_eq_zero_of_no_sems (by decide) r.2⟩) (Cert.FfnOutRefIdeal.Value.run m ρ)

theorem frame_FfnNormRef : Cert.quiescent_FfnNormRefIdeal := fun m ρ _ =>
  (θ_run Cert.FfnNormRefIdeal.defs _ _).mono (fun r h => ⟨fun c => (h c).2.2, sem_eq_zero_of_no_sems (by decide) r.2⟩) (Cert.FfnNormRefIdeal.Value.run m ρ)

theorem frame_OutFwdRef : Cert.quiescent_OutFwdRefIdeal := fun m ρ _ =>
  (θ_run Cert.OutFwdRefIdeal.defs _ _).mono (fun r h => ⟨fun c => (h c).2, sem_eq_zero_of_no_sems (by decide) r.2⟩) (Cert.OutFwdRefIdeal.Value.run m ρ)

theorem frame_AdamRef : Cert.quiescent_AdamRefIdeal := fun m ρ _ =>
  (θ_run Cert.AdamRefIdeal.defs _ _).mono (fun r h => ⟨fun c => (h c).2.2.2.2, sem_eq_zero_of_no_sems (by decide) r.2⟩) (Cert.AdamRefIdeal.Value.run m ρ)

theorem frame_FfnDwRef : Cert.quiescent_FfnDwRefIdeal := fun m ρ _ =>
  (θ_run Cert.FfnDwRefIdeal.defs _ _).mono (fun r h => ⟨fun c => (h c).2, sem_eq_zero_of_no_sems (by decide) r.2⟩) (Cert.FfnDwRefIdeal.Value.run m ρ)

theorem frame_OutDwRef : Cert.quiescent_OutDwRefIdeal := fun m ρ _ =>
  (θ_run Cert.OutDwRefIdeal.defs _ _).mono (fun r h => ⟨fun c => (h c).2, sem_eq_zero_of_no_sems (by decide) r.2⟩) (Cert.OutDwRefIdeal.Value.run m ρ)

theorem frame_DwInRef : Cert.quiescent_DwInRefIdeal := fun m ρ _ =>
  (θ_run Cert.DwInRefIdeal.defs _ _).mono (fun r h => ⟨fun c => (h c).2, sem_eq_zero_of_no_sems (by decide) r.2⟩) (Cert.DwInRefIdeal.Value.run m ρ)

theorem claim : Cert.Claim := ⟨Cert.Loss.Gen.facts, Cert.LossIdeal.Gen.facts, Cert.LossRefIdeal.Gen.facts, Cert.Gm.Gen.facts, Cert.GmIdeal.Gen.facts, Cert.GmRefIdeal.Gen.facts, Cert.RetMain.Gen.facts, Cert.RetMainIdeal.Gen.facts, Cert.RetMainRefIdeal.Gen.facts, Cert.RetCarry.Gen.facts, Cert.RetCarryIdeal.Gen.facts, Cert.RetCarryRefIdeal.Gen.facts, Cert.Swiglu.Gen.facts, Cert.SwigluIdeal.Gen.facts, Cert.SwigluRefIdeal.Gen.facts, Cert.SwigluW.Gen.facts, Cert.SwigluWIdeal.Gen.facts, Cert.SwigluWRefIdeal.Gen.facts, Cert.FfnIn.Gen.facts, Cert.FfnInIdeal.Gen.facts, Cert.FfnInRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.RetOut.Gen.facts, Cert.RetOutIdeal.Gen.facts, Cert.RetOutRefIdeal.Gen.facts, Cert.GmFwd.Gen.facts, Cert.GmFwdIdeal.Gen.facts, Cert.GmFwdRefIdeal.Gen.facts, Cert.Conv.Gen.facts, Cert.ConvIdeal.Gen.facts, Cert.ConvRefIdeal.Gen.facts, Cert.RetState.Gen.facts, Cert.RetStateIdeal.Gen.facts, Cert.RetStateRefIdeal.Gen.facts, Cert.FfnOut.Gen.facts, Cert.FfnOutIdeal.Gen.facts, Cert.FfnOutRefIdeal.Gen.facts, Cert.FfnNorm.Gen.facts, Cert.FfnNormIdeal.Gen.facts, Cert.FfnNormRefIdeal.Gen.facts, Cert.OutFwd.Gen.facts, Cert.OutFwdIdeal.Gen.facts, Cert.OutFwdRefIdeal.Gen.facts, Cert.Adam.Gen.facts, Cert.AdamIdeal.Gen.facts, Cert.AdamRefIdeal.Gen.facts, Cert.FfnDw.Gen.facts, Cert.FfnDwIdeal.Gen.facts, Cert.FfnDwRefIdeal.Gen.facts, Cert.OutDw.Gen.facts, Cert.OutDwIdeal.Gen.facts, Cert.OutDwRefIdeal.Gen.facts, Cert.DwIn.Gen.facts, Cert.DwInIdeal.Gen.facts, Cert.DwInRefIdeal.Gen.facts, Cert.Pre_finite_loss.Gen.facts, Cert.Pre_finite_gm.Gen.facts, Cert.Pre_finite_retmain.Gen.facts, Cert.Pre_finite_retcarry.Gen.facts, Cert.Pre_finite_swiglu.Gen.facts, Cert.Pre_finite_swigluw.Gen.facts, Cert.Pre_finite_ffnin.Gen.facts, Cert.Pre_finite_inproj.Gen.facts, Cert.Pre_finite_outproj.Gen.facts, Cert.Pre_finite_retout.Gen.facts, Cert.Pre_finite_gmfwd.Gen.facts, Cert.Pre_finite_retstate.Gen.facts, Cert.Pre_finite_ffnout.Gen.facts, Cert.Pre_finite_ffnnorm.Gen.facts, Cert.Pre_finite_outfwd.Gen.facts, Cert.Pre_finite_ffndw.Gen.facts, Cert.Pre_finite_outdw.Gen.facts, Cert.Pre_finite_dwin.Gen.facts,
  fun m ρ _ => Cert.Loss.Gen.frame m ρ, fun m ρ _ => Cert.LossIdeal.Gen.frame m ρ, fun m ρ _ => Cert.LossIdeal.Gen.frame m ρ, frame_LossRef, fun m ρ _ => frame_LossRef m ρ trivial,
  fun m ρ _ => Cert.Gm.Gen.frame m ρ, fun m ρ _ => Cert.GmIdeal.Gen.frame m ρ, fun m ρ _ => Cert.GmIdeal.Gen.frame m ρ, frame_GmRef, fun m ρ _ => frame_GmRef m ρ trivial,
  fun m ρ _ => Cert.RetMain.Gen.frame m ρ, fun m ρ _ => Cert.RetMainIdeal.Gen.frame m ρ, fun m ρ _ => Cert.RetMainIdeal.Gen.frame m ρ, frame_RetMainRef, fun m ρ _ => frame_RetMainRef m ρ trivial,
  fun m ρ _ => Cert.RetCarry.Gen.frame m ρ, fun m ρ _ => Cert.RetCarryIdeal.Gen.frame m ρ, fun m ρ _ => Cert.RetCarryIdeal.Gen.frame m ρ, frame_RetCarryRef, fun m ρ _ => frame_RetCarryRef m ρ trivial,
  fun m ρ _ => Cert.Swiglu.Gen.frame m ρ, fun m ρ _ => Cert.SwigluIdeal.Gen.frame m ρ, fun m ρ _ => Cert.SwigluIdeal.Gen.frame m ρ, frame_SwigluRef, fun m ρ _ => frame_SwigluRef m ρ trivial,
  fun m ρ _ => Cert.SwigluW.Gen.frame m ρ, fun m ρ _ => Cert.SwigluWIdeal.Gen.frame m ρ, fun m ρ _ => Cert.SwigluWIdeal.Gen.frame m ρ, frame_SwigluWRef, fun m ρ _ => frame_SwigluWRef m ρ trivial,
  fun m ρ _ => Cert.FfnIn.Gen.frame m ρ, fun m ρ _ => Cert.FfnInIdeal.Gen.frame m ρ, fun m ρ _ => Cert.FfnInIdeal.Gen.frame m ρ, frame_FfnInRef, fun m ρ _ => frame_FfnInRef m ρ trivial,
  fun m ρ _ => Cert.InProj.Gen.frame m ρ, fun m ρ _ => Cert.InProjIdeal.Gen.frame m ρ, fun m ρ _ => Cert.InProjIdeal.Gen.frame m ρ, frame_InProjRef, fun m ρ _ => frame_InProjRef m ρ trivial,
  fun m ρ _ => Cert.OutProj.Gen.frame m ρ, fun m ρ _ => Cert.OutProjIdeal.Gen.frame m ρ, fun m ρ _ => Cert.OutProjIdeal.Gen.frame m ρ, frame_OutProjRef, fun m ρ _ => frame_OutProjRef m ρ trivial,
  fun m ρ _ => Cert.RetOut.Gen.frame m ρ, fun m ρ _ => Cert.RetOutIdeal.Gen.frame m ρ, fun m ρ _ => Cert.RetOutIdeal.Gen.frame m ρ, frame_RetOutRef, fun m ρ _ => frame_RetOutRef m ρ trivial,
  fun m ρ _ => Cert.GmFwd.Gen.frame m ρ, fun m ρ _ => Cert.GmFwdIdeal.Gen.frame m ρ, fun m ρ _ => Cert.GmFwdIdeal.Gen.frame m ρ, frame_GmFwdRef, fun m ρ _ => frame_GmFwdRef m ρ trivial,
  fun m ρ _ => Cert.Conv.Gen.frame m ρ, fun m ρ _ => Cert.ConvIdeal.Gen.frame m ρ, frame_ConvRef,
  fun m ρ _ => Cert.RetState.Gen.frame m ρ, fun m ρ _ => Cert.RetStateIdeal.Gen.frame m ρ, fun m ρ _ => Cert.RetStateIdeal.Gen.frame m ρ, frame_RetStateRef, fun m ρ _ => frame_RetStateRef m ρ trivial,
  fun m ρ _ => Cert.FfnOut.Gen.frame m ρ, fun m ρ _ => Cert.FfnOutIdeal.Gen.frame m ρ, fun m ρ _ => Cert.FfnOutIdeal.Gen.frame m ρ, frame_FfnOutRef, fun m ρ _ => frame_FfnOutRef m ρ trivial,
  fun m ρ _ => Cert.FfnNorm.Gen.frame m ρ, fun m ρ _ => Cert.FfnNormIdeal.Gen.frame m ρ, fun m ρ _ => Cert.FfnNormIdeal.Gen.frame m ρ, frame_FfnNormRef, fun m ρ _ => frame_FfnNormRef m ρ trivial,
  fun m ρ _ => Cert.OutFwd.Gen.frame m ρ, fun m ρ _ => Cert.OutFwdIdeal.Gen.frame m ρ, fun m ρ _ => Cert.OutFwdIdeal.Gen.frame m ρ, frame_OutFwdRef, fun m ρ _ => frame_OutFwdRef m ρ trivial,
  fun m ρ _ => Cert.Adam.Gen.frame m ρ, fun m ρ _ => Cert.AdamIdeal.Gen.frame m ρ, frame_AdamRef,
  fun m ρ _ => Cert.FfnDw.Gen.frame m ρ, fun m ρ _ => Cert.FfnDwIdeal.Gen.frame m ρ, fun m ρ _ => Cert.FfnDwIdeal.Gen.frame m ρ, frame_FfnDwRef, fun m ρ _ => frame_FfnDwRef m ρ trivial,
  fun m ρ _ => Cert.OutDw.Gen.frame m ρ, fun m ρ _ => Cert.OutDwIdeal.Gen.frame m ρ, fun m ρ _ => Cert.OutDwIdeal.Gen.frame m ρ, frame_OutDwRef, fun m ρ _ => frame_OutDwRef m ρ trivial,
  fun m ρ _ => Cert.DwIn.Gen.frame m ρ, fun m ρ _ => Cert.DwInIdeal.Gen.frame m ρ, fun m ρ _ => Cert.DwInIdeal.Gen.frame m ρ, frame_DwInRef, fun m ρ _ => frame_DwInRef m ρ trivial,
  trivial, Cert.LossIdeal.Val.algebraic,
  Cert.GmIdeal.Val.preserves, Cert.GmIdeal.Val.algebraic,
  trivial, Cert.RetMainIdeal.Val.algebraic,
  trivial, Cert.RetCarryIdeal.Val.algebraic,
  trivial, Cert.SwigluIdeal.Val.algebraic,
  trivial, Cert.SwigluWIdeal.Val.algebraic,
  trivial, Cert.FfnInIdeal.Val.algebraic,
  trivial, Cert.InProjIdeal.Val.algebraic,
  trivial, Cert.OutProjIdeal.Val.algebraic,
  trivial, Cert.RetOutIdeal.Val.algebraic,
  Cert.GmFwdIdeal.Val.preserves, Cert.GmFwdIdeal.Val.algebraic,
  trivial,
  trivial, Cert.RetStateIdeal.Val.algebraic,
  trivial, Cert.FfnOutIdeal.Val.algebraic,
  trivial, Cert.FfnNormIdeal.Val.algebraic,
  trivial, Cert.OutFwdIdeal.Val.algebraic,
  trivial, Cert.AdamIdeal.Val.algebraic,
  trivial, Cert.FfnDwIdeal.Val.algebraic,
  trivial, Cert.OutDwIdeal.Val.algebraic,
  trivial, Cert.DwInIdeal.Val.algebraic⟩

end Cert.Proof

end
